-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_swiglu [hPre_finite_swiglu : Cert.Pre_finite_swiglu.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_swiglu.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite_swiglu.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite_swiglu.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.1 = (fun _ => 1#1)
    ∧ (Cert.Pre_finite_swiglu.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_swiglu [hPre_finite_swiglu : Cert.Pre_finite_swiglu.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_swiglu.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite_swiglu.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite_swiglu.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.1 = (fun _ => 1#1)
    ∧ (Cert.Pre_finite_swiglu.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.2 = (fun _ => 1#1)

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite_swiglu [hKernel2Ideal : Cert.Kernel2Ideal.Facts] [hPre_finite_swiglu : Cert.Pre_finite_swiglu.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_swiglu m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite_swiglu [hReference2Ideal : Cert.Reference2Ideal.Facts] [hPre_finite_swiglu : Cert.Pre_finite_swiglu.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_swiglu m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v76_0)) (v1 : (c : Dev Cert.KernelIdeal.nD) → Buf (Elt Ideal) ((c.tc : Thread Cert.KernelIdeal.nD Cert.KernelIdeal.τ).loc Cert.KernelIdeal.main_v76_1)) (v2 : (c : Dev Cert.KernelIdeal.nD) → Buf (Elt Ideal) ((c.tc : Thread Cert.KernelIdeal.nD Cert.KernelIdeal.τ).loc Cert.KernelIdeal.main_v76_2)) (v3 : (c : Dev Cert.KernelIdeal.nD) → Buf (Elt Ideal) ((c.tc : Thread Cert.KernelIdeal.nD Cert.KernelIdeal.τ).loc Cert.KernelIdeal.main_v76_3)) (v4 : (c : Dev Cert.KernelIdeal.nD) → Buf (Elt Ideal) ((c.tc : Thread Cert.KernelIdeal.nD Cert.KernelIdeal.τ).loc Cert.KernelIdeal.main_v76_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76_0) = v0 c
          ∧ r.2.mem ((c.tc : Thread Cert.KernelIdeal.nD Cert.KernelIdeal.τ).loc Cert.KernelIdeal.main_v76_1) = v1 c
          ∧ r.2.mem ((c.tc : Thread Cert.KernelIdeal.nD Cert.KernelIdeal.τ).loc Cert.KernelIdeal.main_v76_2) = v2 c
          ∧ r.2.mem ((c.tc : Thread Cert.KernelIdeal.nD Cert.KernelIdeal.τ).loc Cert.KernelIdeal.main_v76_3) = v3 c
          ∧ r.2.mem ((c.tc : Thread Cert.KernelIdeal.nD Cert.KernelIdeal.τ).loc Cert.KernelIdeal.main_v76_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_v96) = v1 c
          ∧ r.2.mem ((c.tc : Thread Cert.ReferenceIdeal.nD Cert.ReferenceIdeal.τ).loc Cert.ReferenceIdeal.main_v97) = v2 c
          ∧ r.2.mem ((c.tc : Thread Cert.ReferenceIdeal.nD Cert.ReferenceIdeal.τ).loc Cert.ReferenceIdeal.main_v98) = v3 c
          ∧ r.2.mem ((c.tc : Thread Cert.ReferenceIdeal.nD Cert.ReferenceIdeal.τ).loc Cert.ReferenceIdeal.main_v99) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v11) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v8) = v0 c
          ∧ r.2.mem ((c.tc : Thread Cert.Reference9Ideal.nD Cert.Reference9Ideal.τ).loc Cert.Reference9Ideal.main_v9) = v1 c
          ∧ r.2.mem ((c.tc : Thread Cert.Reference9Ideal.nD Cert.Reference9Ideal.τ).loc Cert.Reference9Ideal.main_v12) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v17) = v0 c
          ∧ r.2.mem ((c.tc : Thread Cert.Reference12Ideal.nD Cert.Reference12Ideal.τ).loc Cert.Reference12Ideal.main_v2) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v8) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v7) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v6) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v36) = v0 c
          ∧ r.2.mem ((c.tc : Thread Cert.Reference16Ideal.nD Cert.Reference16Ideal.τ).loc Cert.Reference16Ideal.main_v37) = v1 c
          ∧ r.2.mem ((c.tc : Thread Cert.Reference16Ideal.nD Cert.Reference16Ideal.τ).loc Cert.Reference16Ideal.main_v38) = v2 c
          ∧ r.2.mem ((c.tc : Thread Cert.Reference16Ideal.nD Cert.Reference16Ideal.τ).loc Cert.Reference16Ideal.main_v39) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v18) = v0 c
          ∧ r.2.mem ((c.tc : Thread Cert.Reference17Ideal.nD Cert.Reference17Ideal.τ).loc Cert.Reference17Ideal.main_v3) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v8) = v0 c
          ∧ r.2.mem ((c.tc : Thread Cert.Reference18Ideal.nD Cert.Reference18Ideal.τ).loc Cert.Reference18Ideal.main_v9) = v1 c
          ∧ r.2.mem ((c.tc : Thread Cert.Reference18Ideal.nD Cert.Reference18Ideal.τ).loc Cert.Reference18Ideal.main_v27) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel2_Kernel2Ideal : Prop :=
  True

def algebraic_Kernel2Ideal_Reference2Ideal_pre_finite_swiglu [hKernel2Ideal : Cert.Kernel2Ideal.Facts] [hReference2Ideal : Cert.Reference2Ideal.Facts] [hPre_finite_swiglu : Cert.Pre_finite_swiglu.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_swiglu m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v12) = v0 c
          ∧ r.2.mem ((c.tc : Thread Cert.Reference2Ideal.nD Cert.Reference2Ideal.τ).loc Cert.Reference2Ideal.main_v13) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v23) = v0 c
          ∧ r.2.mem ((c.tc : Thread Cert.Reference19Ideal.nD Cert.Reference19Ideal.τ).loc Cert.Reference19Ideal.main_v4) = v1 c
          ∧ r.2.mem ((c.tc : Thread Cert.Reference19Ideal.nD Cert.Reference19Ideal.τ).loc Cert.Reference19Ideal.main_v10) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v23) = v0 c
          ∧ r.2.mem ((c.tc : Thread Cert.Reference20Ideal.nD Cert.Reference20Ideal.τ).loc Cert.Reference20Ideal.main_v4) = v1 c
          ∧ r.2.mem ((c.tc : Thread Cert.Reference20Ideal.nD Cert.Reference20Ideal.τ).loc Cert.Reference20Ideal.main_v10) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v23) = v0 c
          ∧ r.2.mem ((c.tc : Thread Cert.Reference21Ideal.nD Cert.Reference21Ideal.τ).loc Cert.Reference21Ideal.main_v4) = v1 c
          ∧ r.2.mem ((c.tc : Thread Cert.Reference21Ideal.nD Cert.Reference21Ideal.τ).loc Cert.Reference21Ideal.main_v10) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v23) = v0 c
          ∧ r.2.mem ((c.tc : Thread Cert.Reference22Ideal.nD Cert.Reference22Ideal.τ).loc Cert.Reference22Ideal.main_v4) = v1 c
          ∧ r.2.mem ((c.tc : Thread Cert.Reference22Ideal.nD Cert.Reference22Ideal.τ).loc Cert.Reference22Ideal.main_v10) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v23) = v0 c
          ∧ r.2.mem ((c.tc : Thread Cert.Reference23Ideal.nD Cert.Reference23Ideal.τ).loc Cert.Reference23Ideal.main_v4) = v1 c
          ∧ r.2.mem ((c.tc : Thread Cert.Reference23Ideal.nD Cert.Reference23Ideal.τ).loc Cert.Reference23Ideal.main_v10) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v23) = v0 c
          ∧ r.2.mem ((c.tc : Thread Cert.Reference24Ideal.nD Cert.Reference24Ideal.τ).loc Cert.Reference24Ideal.main_v4) = v1 c
          ∧ r.2.mem ((c.tc : Thread Cert.Reference24Ideal.nD Cert.Reference24Ideal.τ).loc Cert.Reference24Ideal.main_v10) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v23) = v0 c
          ∧ r.2.mem ((c.tc : Thread Cert.Reference25Ideal.nD Cert.Reference25Ideal.τ).loc Cert.Reference25Ideal.main_v4) = v1 c
          ∧ r.2.mem ((c.tc : Thread Cert.Reference25Ideal.nD Cert.Reference25Ideal.τ).loc Cert.Reference25Ideal.main_v10) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def Claim : Prop :=
  ∃ (hKernel : Cert.Kernel.Facts) (hKernelIdeal : Cert.KernelIdeal.Facts) (hReferenceIdeal : Cert.ReferenceIdeal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel2 : Cert.Kernel2.Facts) (hKernel2Ideal : Cert.Kernel2Ideal.Facts) (hReference2Ideal : Cert.Reference2Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hPre_finite_inputs : Cert.Pre_finite_inputs.Facts) (hPre_finite_swiglu : Cert.Pre_finite_swiglu.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel2 (hKernel2 := hKernel2)
    ∧ quiescent_Kernel2Ideal (hKernel2Ideal := hKernel2Ideal)
    ∧ quiescent_Kernel2Ideal_pre_finite_swiglu (hKernel2Ideal := hKernel2Ideal) (hPre_finite_swiglu := hPre_finite_swiglu)
    ∧ quiescent_Reference2Ideal (hReference2Ideal := hReference2Ideal)
    ∧ quiescent_Reference2Ideal_pre_finite_swiglu (hReference2Ideal := hReference2Ideal) (hPre_finite_swiglu := hPre_finite_swiglu)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel2_Kernel2Ideal
    ∧ algebraic_Kernel2Ideal_Reference2Ideal_pre_finite_swiglu (hKernel2Ideal := hKernel2Ideal) (hReference2Ideal := hReference2Ideal) (hPre_finite_swiglu := hPre_finite_swiglu)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
-- ==== Pre_finite_inputs.lean ====
abbrev S4096x2048 : Shape := ⟨2, ![4096, 2048]⟩
abbrev S8x4096 : Shape := ⟨2, ![8, 4096]⟩
abbrev S4096x512 : Shape := ⟨2, ![4096, 512]⟩
abbrev S4096x8 : Shape := ⟨2, ![4096, 8]⟩
abbrev S4096x2568 : Shape := ⟨2, ![4096, 2568]⟩
abbrev S_ : Shape := ⟨0, ![]⟩

class Facts : Prop where
  bitsLt_bf16_f32 : FTy.bits .bf16 < FTy.bits .f32
  transposes_S8x4096_S4096x8_1_0 : S8x4096.Transposes [1, 0] S4096x8
  concatenates_S4096x2048_S4096x512_S4096x8_S4096x2568_d1 : Shape.Concatenates [S4096x2048, S4096x512, S4096x8] S4096x2568 1
  bcast_S_S4096x2568 : S_.BroadcastsInDim S4096x2568 (![] : Fin 0 → Fin S4096x2568.rank)

variable [Facts]

def fn {F : FTy → Type} [FloatOps F] (main_arg0 : FVec F S4096x2048 .bf16) (main_arg1 : FVec F S8x4096 .f32) (main_arg2 : FVec F S4096x512 .bf16) : IVec S4096x2568 1 :=
  let main_v0 : FVec F S4096x2048 .f32 := (extf .f32 · bitsLt_bf16_f32) main_arg0
  let main_v1 : FVec F S4096x512 .f32 := (extf .f32 · bitsLt_bf16_f32) main_arg2
  let main_v2 : FVec F S4096x8 .f32 := (transpose S4096x8 [1, 0] · transposes_S8x4096_S4096x8_1_0) main_arg1
  let main_v3 : FVec F S4096x2568 .f32 := concatenate S4096x2568 1 [⟨S4096x2048, main_v0⟩, ⟨S4096x512, main_v1⟩, ⟨S4096x8, main_v2⟩] concatenates_S4096x2048_S4096x512_S4096x8_S4096x2568_d1
  let main_v4 : FVec F S4096x2568 .f32 := Host.absf main_v3
  let main_cst : FVec F S_ .f32 := constant S_ .f32 0x7F800000#32
  let main_v5 : FVec F S4096x2568 .f32 := broadcastInDim S4096x2568 ![] bcast_S_S4096x2568 main_cst
  let main_v6 : IVec S4096x2568 1 := cmpf .olt main_v4 main_v5
  main_v6
-- ==== Pre_finite_swiglu.lean ====
abbrev S4096x1024 : Shape := ⟨2, ![4096, 1024]⟩
abbrev S4x704x1024 : Shape := ⟨3, ![4, 704, 1024]⟩
abbrev S4x4096x704 : Shape := ⟨3, ![4, 4096, 704]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S4x704x1024 : S_.BroadcastsInDim S4x704x1024 (![] : Fin 0 → Fin S4x704x1024.rank)
  bcast_S_S4x4096x704 : S_.BroadcastsInDim S4x4096x704 (![] : Fin 0 → Fin S4x4096x704.rank)

variable [Facts]

def fn {F : FTy → Type} [FloatOps F] (main_arg0 : FVec F S4096x1024 .bf16) (main_arg1 : FVec F S4x704x1024 .bf16) (main_arg2 : FVec F S4x4096x704 .bf16) (main_arg3 : FVec F S4x4096x704 .bf16) : IVec S4096x1024 1 × IVec S4x704x1024 1 × IVec S4x4096x704 1 × IVec S4x4096x704 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S4x704x1024 .f32 := (extf .f32 · bitsLt_bf16_f32) main_arg1
  let main_v5 : FVec F S4x704x1024 .f32 := Host.absf main_v4
  let main_cst_0 : FVec F S_ .f32 := constant S_ .f32 0x7F800000#32
  let main_v6 : FVec F S4x704x1024 .f32 := broadcastInDim S4x704x1024 ![] bcast_S_S4x704x1024 main_cst_0
  let main_v7 : IVec S4x704x1024 1 := cmpf .olt main_v5 main_v6
  let main_v8 : FVec F S4x4096x704 .f32 := (extf .f32 · bitsLt_bf16_f32) main_arg2
  let main_v9 : FVec F S4x4096x704 .f32 := Host.absf main_v8
  let main_cst_1 : FVec F S_ .f32 := constant S_ .f32 0x7F800000#32
  let main_v10 : FVec F S4x4096x704 .f32 := broadcastInDim S4x4096x704 ![] bcast_S_S4x4096x704 main_cst_1
  let main_v11 : IVec S4x4096x704 1 := cmpf .olt main_v9 main_v10
  let main_v12 : FVec F S4x4096x704 .f32 := (extf .f32 · bitsLt_bf16_f32) main_arg3
  let main_v13 : FVec F S4x4096x704 .f32 := Host.absf main_v12
  let main_cst_2 : FVec F S_ .f32 := constant S_ .f32 0x7F800000#32
  let main_v14 : FVec F S4x4096x704 .f32 := broadcastInDim S4x4096x704 ![] bcast_S_S4x4096x704 main_cst_2
  let main_v15 : IVec S4x4096x704 1 := cmpf .olt main_v13 main_v14
  (main_v3, main_v7, main_v11, main_v15)
-- ==== Kernel.lean ====
abbrev S4096x2048 : Shape := ⟨2, ![4096, 2048]⟩
abbrev S8x4096 : Shape := ⟨2, ![8, 4096]⟩
abbrev S4096x512 : Shape := ⟨2, ![4096, 512]⟩
abbrev S4096x8x64 : Shape := ⟨3, ![4096, 8, 64]⟩
abbrev S8x4096x64 : Shape := ⟨3, ![8, 4096, 64]⟩
abbrev S8x4096x4096 : Shape := ⟨3, ![8, 4096, 4096]⟩
abbrev S_ : Shape := ⟨0, ![]⟩
abbrev S8x4096x1 : Shape := ⟨3, ![8, 4096, 1]⟩
abbrev S8x1x4096 : Shape := ⟨3, ![8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x8x1x512 : Shape := ⟨4, ![8, 8, 1, 512]⟩
abbrev S4096x128 : Shape := ⟨2, ![4096, 128]⟩
abbrev S512x128 : Shape := ⟨2, ![512, 128]⟩
abbrev S2x8x1x512 : Shape := ⟨4, ![2, 8, 1, 512]⟩
abbrev S2x512x1 : Shape := ⟨3, ![2, 512, 1]⟩
abbrev S2x8x8x512 : Shape := ⟨4, ![2, 8, 8, 512]⟩
abbrev S2x8x128x512 : Shape := ⟨4, ![2, 8, 128, 512]⟩
abbrev S2x512x128 : Shape := ⟨3, ![2, 512, 128]⟩
abbrev S1x128 : Shape := ⟨2, ![1, 128]⟩
abbrev S128x1 : Shape := ⟨2, ![128, 1]⟩
abbrev S8x128 : Shape := ⟨2, ![8, 128]⟩
abbrev S8x512 : Shape := ⟨2, ![8, 512]⟩
abbrev S1x1x8x512 : Shape := ⟨4, ![1, 1, 8, 512]⟩
abbrev S128x512 : Shape := ⟨2, ![128, 512]⟩
abbrev S512x512 : Shape := ⟨2, ![512, 512]⟩
abbrev S1x512x1 : Shape := ⟨3, ![1, 512, 1]⟩
abbrev S512x1 : Shape := ⟨2, ![512, 1]⟩
abbrev S1x1x1x512 : Shape := ⟨4, ![1, 1, 1, 512]⟩
abbrev S1x512 : Shape := ⟨2, ![1, 512]⟩
abbrev S1x512x128 : Shape := ⟨3, ![1, 512, 128]⟩
abbrev S1x1x128x512 : Shape := ⟨4, ![1, 1, 128, 512]⟩

abbrev nBuf : Space → Nat
  | .hbm => 99
  | .vmem => 28
  | .smem => 0
  | _ => 0

abbrev bufTy : (tb : Table) → Fin (tcTables nBuf tb) → BufTy
  | .hbm, ⟨0, _⟩ => ⟨S4096x2048, .bf16⟩
  | .hbm, ⟨1, _⟩ => ⟨S8x4096, .f32⟩
  | .hbm, ⟨2, _⟩ => ⟨S4096x512, .bf16⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S4096x512, .f32⟩
  | .hbm, ⟨7, _⟩ => ⟨S4096x8x64, .f32⟩
  | .hbm, ⟨8, _⟩ => ⟨S8x4096x64, .f32⟩
  | .hbm, ⟨9, _⟩ => ⟨S4096x512, .f32⟩
  | .hbm, ⟨10, _⟩ => ⟨S4096x8x64, .f32⟩
  | .hbm, ⟨11, _⟩ => ⟨S8x4096x64, .f32⟩
  | .hbm, ⟨12, _⟩ => ⟨S8x4096x4096, .f32⟩
  | .hbm, ⟨13, _⟩ => ⟨S_, .f32⟩
  | .hbm, ⟨14, _⟩ => ⟨S8x4096x4096, .f32⟩
  | .hbm, ⟨15, _⟩ => ⟨S8x4096x4096, .f32⟩
  | .hbm, ⟨16, _⟩ => ⟨S8x4096x1, .f32⟩
  | .hbm, ⟨17, _⟩ => ⟨S8x4096x4096, .f32⟩
  | .hbm, ⟨18, _⟩ => ⟨S8x4096x4096, .f32⟩
  | .hbm, ⟨19, _⟩ => ⟨S8x1x4096, .f32⟩
  | .hbm, ⟨20, _⟩ => ⟨S8x4096x4096, .f32⟩
  | .hbm, ⟨21, _⟩ => ⟨S8x4096x4096, .f32⟩
  | .hbm, ⟨22, _⟩ => ⟨S4096, .i32⟩
  | .hbm, ⟨23, _⟩ => ⟨S1x4096, .i32⟩
  | .hbm, ⟨24, _⟩ => ⟨S4096x1, .i32⟩
  | .hbm, ⟨25, _⟩ => ⟨S4096x4096, .i32⟩
  | .hbm, ⟨26, _⟩ => ⟨S4096x4096, .i32⟩
  | .hbm, ⟨27, _⟩ => ⟨S4096x4096, .i1⟩
  | .hbm, ⟨28, _⟩ => ⟨S_, .f32⟩
  | .hbm, ⟨29, _⟩ => ⟨S_, .f32⟩
  | .hbm, ⟨30, _⟩ => ⟨S8x4096x4096, .i1⟩
  | .hbm, ⟨31, _⟩ => ⟨S8x4096x4096, .f32⟩
  | .hbm, ⟨32, _⟩ => ⟨S8x4096x4096, .f32⟩
  | .hbm, ⟨33, _⟩ => ⟨S_, .f32⟩
  | .hbm, ⟨34, _⟩ => ⟨S8x4096, .f32⟩
  | .hbm, ⟨35, _⟩ => ⟨S_, .f32⟩
  | .hbm, ⟨36, _⟩ => ⟨S8x4096, .f32⟩
  | .hbm, ⟨37, _⟩ => ⟨S8x4096, .f32⟩
  | .hbm, ⟨38, _⟩ => ⟨S8x4096x1, .f32⟩
  | .hbm, ⟨39, _⟩ => ⟨S8x4096x4096, .f32⟩
  | .hbm, ⟨40, _⟩ => ⟨S8x4096x4096, .f32⟩
  | .hbm, ⟨41, _⟩ => ⟨S8x4096x4096, .f32⟩
  | .hbm, ⟨42, _⟩ => ⟨S_, .f32⟩
  | .hbm, ⟨43, _⟩ => ⟨S8x4096, .f32⟩
  | .hbm, ⟨44, _⟩ => ⟨S8x4096x1, .f32⟩
  | .hbm, ⟨45, _⟩ => ⟨S8x4096x4096, .f32⟩
  | .hbm, ⟨46, _⟩ => ⟨S8x4096x4096, .f32⟩
  | .hbm, ⟨47, _⟩ => ⟨S4096x512, .f32⟩
  | .hbm, ⟨48, _⟩ => ⟨S4096x8x64, .f32⟩
  | .hbm, ⟨49, _⟩ => ⟨S8x4096x64, .f32⟩
  | .hbm, ⟨50, _⟩ => ⟨S8x4096x64, .f32⟩
  | .hbm, ⟨51, _⟩ => ⟨S4096x8x64, .f32⟩
  | .hbm, ⟨52, _⟩ => ⟨S4096x512, .f32⟩
  | .hbm, ⟨53, _⟩ => ⟨S4096x512, .bf16⟩
  | .hbm, ⟨54, _⟩ => ⟨S4096x512, .f32⟩
  | .hbm, ⟨55, _⟩ => ⟨S4096x8x64, .f32⟩
  | .hbm, ⟨56, _⟩ => ⟨S8x4096x64, .f32⟩
  | .hbm, ⟨57, _⟩ => ⟨S4096x512, .f32⟩
  | .hbm, ⟨58, _⟩ => ⟨S4096x8x64, .f32⟩
  | .hbm, ⟨59, _⟩ => ⟨S8x4096x64, .f32⟩
  | .hbm, ⟨60, _⟩ => ⟨S8x4096x4096, .f32⟩
  | .hbm, ⟨61, _⟩ => ⟨S_, .f32⟩
  | .hbm, ⟨62, _⟩ => ⟨S8x4096x4096, .f32⟩
  | .hbm, ⟨63, _⟩ => ⟨S8x4096x4096, .f32⟩
  | .hbm, ⟨64, _⟩ => ⟨S8x4096x1, .f32⟩
  | .hbm, ⟨65, _⟩ => ⟨S8x4096x4096, .f32⟩
  | .hbm, ⟨66, _⟩ => ⟨S8x4096x4096, .f32⟩
  | .hbm, ⟨67, _⟩ => ⟨S8x1x4096, .f32⟩
  | .hbm, ⟨68, _⟩ => ⟨S8x4096x4096, .f32⟩
  | .hbm, ⟨69, _⟩ => ⟨S8x4096x4096, .f32⟩
  | .hbm, ⟨70, _⟩ => ⟨S4096, .i32⟩
  | .hbm, ⟨71, _⟩ => ⟨S1x4096, .i32⟩
  | .hbm, ⟨72, _⟩ => ⟨S4096x1, .i32⟩
  | .hbm, ⟨73, _⟩ => ⟨S4096x4096, .i32⟩
  | .hbm, ⟨74, _⟩ => ⟨S4096x4096, .i32⟩
  | .hbm, ⟨75, _⟩ => ⟨S4096x4096, .i1⟩
  | .hbm, ⟨76, _⟩ => ⟨S_, .f32⟩
  | .hbm, ⟨77, _⟩ => ⟨S_, .f32⟩
  | .hbm, ⟨78, _⟩ => ⟨S8x4096x4096, .i1⟩
  | .hbm, ⟨79, _⟩ => ⟨S8x4096x4096, .f32⟩
  | .hbm, ⟨80, _⟩ => ⟨S8x4096x4096, .f32⟩
  | .hbm, ⟨81, _⟩ => ⟨S_, .f32⟩
  | .hbm, ⟨82, _⟩ => ⟨S8x4096, .f32⟩
  | .hbm, ⟨83, _⟩ => ⟨S8x4096x1, .f32⟩
  | .hbm, ⟨84, _⟩ => ⟨S8x4096x4096, .f32⟩
  | .hbm, ⟨85, _⟩ => ⟨S8x4096x4096, .f32⟩
  | .hbm, ⟨86, _⟩ => ⟨S8x4096x4096, .f32⟩
  | .hbm, ⟨87, _⟩ => ⟨S_, .f32⟩
  | .hbm, ⟨88, _⟩ => ⟨S8x4096, .f32⟩
  | .hbm, ⟨89, _⟩ => ⟨S8x4096, .f32⟩
  | .hbm, ⟨90, _⟩ => ⟨S8x4096, .f32⟩
  | .hbm, ⟨91, _⟩ => ⟨S8x4096, .f32⟩
  | .hbm, ⟨92, _⟩ => ⟨S8x8x1x512, .f32⟩
  | .hbm, ⟨93, _⟩ => ⟨S8x4096x1, .f32⟩
  | .hbm, ⟨94, _⟩ => ⟨S4096x512, .bf16⟩
  | .hbm, ⟨95, _⟩ => ⟨S4096x512, .bf16⟩
  | .hbm, ⟨96, _⟩ => ⟨S4096x512, .bf16⟩
  | .hbm, ⟨97, _⟩ => ⟨S8x8x1x512, .f32⟩
  | .hbm, ⟨98, _⟩ => ⟨S8x4096x1, .f32⟩
  | .local _ .vmem, ⟨0, _⟩ => ⟨S4096x128, .bf16⟩
  | .local _ .vmem, ⟨1, _⟩ => ⟨S4096x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S4096x128, .bf16⟩
  | .local _ .vmem, ⟨7, _⟩ => ⟨S4096x128, .bf16⟩
  | .local _ .vmem, ⟨8, _⟩ => ⟨S4096x128, .bf16⟩
  | .local _ .vmem, ⟨9, _⟩ => ⟨S4096x128, .bf16⟩
  | .local _ .vmem, ⟨10, _⟩ => ⟨S2x8x1x512, .f32⟩
  | .local _ .vmem, ⟨11, _⟩ => ⟨S2x8x1x512, .f32⟩
  | .local _ .vmem, ⟨12, _⟩ => ⟨S2x512x1, .f32⟩
  | .local _ .vmem, ⟨13, _⟩ => ⟨S2x512x1, .f32⟩
  | .local _ .vmem, ⟨14, _⟩ => ⟨S4096x128, .bf16⟩
  | .local _ .vmem, ⟨15, _⟩ => ⟨S4096x128, .bf16⟩
  | .local _ .vmem, ⟨16, _⟩ => ⟨S512x128, .bf16⟩
  | .local _ .vmem, ⟨17, _⟩ => ⟨S512x128, .bf16⟩
  | .local _ .vmem, ⟨18, _⟩ => ⟨S512x128, .bf16⟩
  | .local _ .vmem, ⟨19, _⟩ => ⟨S512x128, .bf16⟩
  | .local _ .vmem, ⟨20, _⟩ => ⟨S2x8x1x512, .f32⟩
  | .local _ .vmem, ⟨21, _⟩ => ⟨S2x8x1x512, .f32⟩
  | .local _ .vmem, ⟨22, _⟩ => ⟨S2x512x1, .f32⟩
  | .local _ .vmem, ⟨23, _⟩ => ⟨S2x512x1, .f32⟩
  | .local _ .vmem, ⟨24, _⟩ => ⟨S2x8x8x512, .f32⟩
  | .local _ .vmem, ⟨25, _⟩ => ⟨S2x8x128x512, .f32⟩
  | .local _ .vmem, ⟨26, _⟩ => ⟨S2x512x128, .f32⟩
  | .local _ .vmem, ⟨27, _⟩ => ⟨S512x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v24 : Ref sig .tc := ⟨.hbm, 32, rfl⟩
abbrev main_cst_1 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_4 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_cst_5 : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_v64 : Ref sig .tc := ⟨.hbm, 80, rfl⟩
abbrev main_cst_6 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_7 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76_0 : Ref sig .tc := ⟨.hbm, 94, rfl⟩
abbrev main_v76_1 : Ref sig .tc := ⟨.hbm, 95, rfl⟩
abbrev main_v76_2 : Ref sig .tc := ⟨.hbm, 96, rfl⟩
abbrev main_v76_3 : Ref sig .tc := ⟨.hbm, 97, rfl⟩
abbrev main_v76_4 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v6 : BitVec 1 := Scalar.cmpi .eq arg1 c0_i32
  let v7 : BitVec 32 := Scalar.extui v6
  let c0_i32_1 : BitVec 32 := 0#32
  let v8 : BitVec 1 := Scalar.cmpi .ne v7 c0_i32_1
  v8

@[reducible] def k0_t1_loop : Scf.Loop 32 :=
  let c0_i32_116 : BitVec 32 := 0#32
  let c8_i32_117 : BitVec 32 := 8#32
  let v209 : BitVec 32 := Scalar.addi c0_i32_116 c8_i32_117
  let c1_i32_118 : BitVec 32 := 1#32
  ⟨c0_i32_116, v209, c1_i32_118⟩
def k0_mult1 (k0_t1 : Fin k0_t1_loop.trips) : BitVec 32 :=
  let c0_i32_116 : BitVec 32 := 0#32
  let c1_i32_118 : BitVec 32 := 1#32
  let arg18 : BitVec 32 := Scf.iv c0_i32_116 c1_i32_118 k0_t1
  let c512_i32_120 : BitVec 32 := 512#32
  let v210 : BitVec 32 := Scalar.muli arg18 c512_i32_120
  v210
def k0_off1 (k0_t1 : Fin k0_t1_loop.trips) : Fin 2 → Nat :=
  let c0_i32_116 : BitVec 32 := 0#32
  let c1_i32_118 : BitVec 32 := 1#32
  let arg18 : BitVec 32 := Scf.iv c0_i32_116 c1_i32_118 k0_t1
  let c512_i32_120 : BitVec 32 := 512#32
  let v210 : BitVec 32 := Scalar.muli arg18 c512_i32_120
  let v211 : BitVec 32 := v210
  let v212 : Index := Scalar.indexCast v211
  let c0_121 : Index := 0#32
  ![v212.toNat, 0]
def k0_off2 (k0_t1 : Fin k0_t1_loop.trips) : Fin 4 → Nat :=
  let c0_124 : Index := 0#32
  let c0_i32_116 : BitVec 32 := 0#32
  let c1_i32_118 : BitVec 32 := 1#32
  let arg18 : BitVec 32 := Scf.iv c0_i32_116 c1_i32_118 k0_t1
  let v221 : Index := Scalar.indexCast arg18
  let c0_125 : Index := 0#32
  let c0_126 : Index := 0#32
  ![0, v221.toNat, 0, 0]
def k0_off3 (k0_t1 : Fin k0_t1_loop.trips) : Fin 4 → Nat :=
  let c1_128 : Index := 1#32
  let c0_i32_116 : BitVec 32 := 0#32
  let c1_i32_118 : BitVec 32 := 1#32
  let arg18 : BitVec 32 := Scf.iv c0_i32_116 c1_i32_118 k0_t1
  let v226 : Index := Scalar.indexCast arg18
  let c0_129 : Index := 0#32
  let c0_130 : Index := 0#32
  ![1, v226.toNat, 0, 0]
def k0_mult2 (i : grid0.Coords) : BitVec 32 :=
  let arg1 : BitVec 32 := BitVec.ofNat 32 (i 1).val
  let c512_i32 : BitVec 32 := 512#32
  let v45 : BitVec 32 := Scalar.muli arg1 c512_i32
  v45
def k0_off4 (i : grid0.Coords) : Fin 2 → Nat :=
  let arg1 : BitVec 32 := BitVec.ofNat 32 (i 1).val
  let c512_i32 : BitVec 32 := 512#32
  let v45 : BitVec 32 := Scalar.muli arg1 c512_i32
  let v46 : BitVec 32 := v45
  let v47 : Index := Scalar.indexCast v46
  let c0_13 : Index := 0#32
  ![v47.toNat, 0]
def k0_off5 (i : grid0.Coords) : Fin 4 → Nat :=
  let c0_22 : Index := 0#32
  let arg1 : BitVec 32 := BitVec.ofNat 32 (i 1).val
  let v74 : Index := Scalar.indexCast arg1
  let c0_23 : Index := 0#32
  let c0_24 : Index := 0#32
  ![0, v74.toNat, 0, 0]
def k0_off6 (i : grid0.Coords) : Fin 4 → Nat :=
  let c0_27 : Index := 0#32
  let arg1 : BitVec 32 := BitVec.ofNat 32 (i 1).val
  let v83 : Index := Scalar.indexCast arg1
  let c0_28 : Index := 0#32
  let c0_29 : Index := 0#32
  ![0, v83.toNat, 0, 0]
def k0_off7 (i : grid0.Coords) : Fin 4 → Nat :=
  let c0_42 : Index := 0#32
  let arg1 : BitVec 32 := BitVec.ofNat 32 (i 1).val
  let v104 : Index := Scalar.indexCast arg1
  let c0_43 : Index := 0#32
  let c0_44 : Index := 0#32
  ![0, v104.toNat, 0, 0]
def k0_off8 (i : grid0.Coords) : Fin 4 → Nat :=
  let c1_52 : Index := 1#32
  let arg1 : BitVec 32 := BitVec.ofNat 32 (i 1).val
  let v118 : Index := Scalar.indexCast arg1
  let c0_53 : Index := 0#32
  let c0_54 : Index := 0#32
  ![1, v118.toNat, 0, 0]
def k0_off9 (i : grid0.Coords) : Fin 4 → Nat :=
  let c1_57 : Index := 1#32
  let arg1 : BitVec 32 := BitVec.ofNat 32 (i 1).val
  let v127 : Index := Scalar.indexCast arg1
  let c0_58 : Index := 0#32
  let c0_59 : Index := 0#32
  ![1, v127.toNat, 0, 0]
def k0_off10 (i : grid0.Coords) : Fin 4 → Nat :=
  let c1_72 : Index := 1#32
  let arg1 : BitVec 32 := BitVec.ofNat 32 (i 1).val
  let v148 : Index := Scalar.indexCast arg1
  let c0_73 : Index := 0#32
  let c0_74 : Index := 0#32
  ![1, v148.toNat, 0, 0]
@[reducible] def k0_t2_loop (i : grid0.Coords) : Scf.Loop 32 :=
  let arg1 : BitVec 32 := BitVec.ofNat 32 (i 1).val
  let c1_i32 : BitVec 32 := 1#32
  let v157 : BitVec 32 := Scalar.addi arg1 c1_i32
  let c8_i32 : BitVec 32 := 8#32
  let v158 : BitVec 32 := Scalar.subi c8_i32 v157
  let c1_i32_80 : BitVec 32 := 1#32
  let v160 : BitVec 32 := Scalar.divsi v158 c1_i32_80
  let v161 : BitVec 32 := Scalar.muli v160 c1_i32_80
  let v162 : BitVec 32 := Scalar.addi v157 v161
  let c1_i32_81 : BitVec 32 := 1#32
  ⟨v157, v162, c1_i32_81⟩
def k0_mult3 (i : grid0.Coords) (k0_t2 : Fin (k0_t2_loop i).trips) : BitVec 32 :=
  let arg1 : BitVec 32 := BitVec.ofNat 32 (i 1).val
  let c1_i32 : BitVec 32 := 1#32
  let v157 : BitVec 32 := Scalar.addi arg1 c1_i32
  let c1_i32_81 : BitVec 32 := 1#32
  let arg18 : BitVec 32 := Scf.iv v157 c1_i32_81 k0_t2
  let c512_i32_110 : BitVec 32 := 512#32
  let v196 : BitVec 32 := Scalar.muli arg18 c512_i32_110
  v196
def k0_off11 (i : grid0.Coords) (k0_t2 : Fin (k0_t2_loop i).trips) : Fin 2 → Nat :=
  let arg1 : BitVec 32 := BitVec.ofNat 32 (i 1).val
  let c1_i32 : BitVec 32 := 1#32
  let v157 : BitVec 32 := Scalar.addi arg1 c1_i32
  let c1_i32_81 : BitVec 32 := 1#32
  let arg18 : BitVec 32 := Scf.iv v157 c1_i32_81 k0_t2
  let c512_i32_110 : BitVec 32 := 512#32
  let v196 : BitVec 32 := Scalar.muli arg18 c512_i32_110
  let v197 : BitVec 32 := v196
  let v198 : Index := Scalar.indexCast v197
  let c0_111 : Index := 0#32
  ![v198.toNat, 0]
def k0_off12 (i : grid0.Coords) (k0_t2 : Fin (k0_t2_loop i).trips) : Fin 4 → Nat :=
  let c0_120 : Index := 0#32
  let arg1 : BitVec 32 := BitVec.ofNat 32 (i 1).val
  let c1_i32 : BitVec 32 := 1#32
  let v157 : BitVec 32 := Scalar.addi arg1 c1_i32
  let c1_i32_81 : BitVec 32 := 1#32
  let arg18 : BitVec 32 := Scf.iv v157 c1_i32_81 k0_t2
  let v225 : Index := Scalar.indexCast arg18
  let c0_121 : Index := 0#32
  let c0_122 : Index := 0#32
  ![0, v225.toNat, 0, 0]
def k0_off13 (i : grid0.Coords) (k0_t2 : Fin (k0_t2_loop i).trips) : Fin 4 → Nat :=
  let c0_124 : Index := 0#32
  let arg1 : BitVec 32 := BitVec.ofNat 32 (i 1).val
  let c1_i32 : BitVec 32 := 1#32
  let v157 : BitVec 32 := Scalar.addi arg1 c1_i32
  let c1_i32_81 : BitVec 32 := 1#32
  let arg18 : BitVec 32 := Scf.iv v157 c1_i32_81 k0_t2
  let v232 : Index := Scalar.indexCast arg18
  let c0_125 : Index := 0#32
  let c0_126 : Index := 0#32
  ![0, v232.toNat, 0, 0]
def k0_off14 (i : grid0.Coords) (k0_t2 : Fin (k0_t2_loop i).trips) : Fin 4 → Nat :=
  let c0_139 : Index := 0#32
  let arg1 : BitVec 32 := BitVec.ofNat 32 (i 1).val
  let c1_i32 : BitVec 32 := 1#32
  let v157 : BitVec 32 := Scalar.addi arg1 c1_i32
  let c1_i32_81 : BitVec 32 := 1#32
  let arg18 : BitVec 32 := Scf.iv v157 c1_i32_81 k0_t2
  let v253 : Index := Scalar.indexCast arg18
  let c0_140 : Index := 0#32
  let c0_141 : Index := 0#32
  ![0, v253.toNat, 0, 0]
def k0_off15 (i : grid0.Coords) (k0_t2 : Fin (k0_t2_loop i).trips) : Fin 4 → Nat :=
  let c1_150 : Index := 1#32
  let arg1 : BitVec 32 := BitVec.ofNat 32 (i 1).val
  let c1_i32 : BitVec 32 := 1#32
  let v157 : BitVec 32 := Scalar.addi arg1 c1_i32
  let c1_i32_81 : BitVec 32 := 1#32
  let arg18 : BitVec 32 := Scf.iv v157 c1_i32_81 k0_t2
  let v267 : Index := Scalar.indexCast arg18
  let c0_151 : Index := 0#32
  let c0_152 : Index := 0#32
  ![1, v267.toNat, 0, 0]
def k0_off16 (i : grid0.Coords) (k0_t2 : Fin (k0_t2_loop i).trips) : Fin 4 → Nat :=
  let c1_154 : Index := 1#32
  let arg1 : BitVec 32 := BitVec.ofNat 32 (i 1).val
  let c1_i32 : BitVec 32 := 1#32
  let v157 : BitVec 32 := Scalar.addi arg1 c1_i32
  let c1_i32_81 : BitVec 32 := 1#32
  let arg18 : BitVec 32 := Scf.iv v157 c1_i32_81 k0_t2
  let v274 : Index := Scalar.indexCast arg18
  let c0_155 : Index := 0#32
  let c0_156 : Index := 0#32
  ![1, v274.toNat, 0, 0]
def k0_off17 (i : grid0.Coords) (k0_t2 : Fin (k0_t2_loop i).trips) : Fin 4 → Nat :=
  let c1_169 : Index := 1#32
  let arg1 : BitVec 32 := BitVec.ofNat 32 (i 1).val
  let c1_i32 : BitVec 32 := 1#32
  let v157 : BitVec 32 := Scalar.addi arg1 c1_i32
  let c1_i32_81 : BitVec 32 := 1#32
  let arg18 : BitVec 32 := Scf.iv v157 c1_i32_81 k0_t2
  let v295 : Index := Scalar.indexCast arg18
  let c0_170 : Index := 0#32
  let c0_171 : Index := 0#32
  ![1, v295.toNat, 0, 0]
@[reducible] def k0_t3_loop (i : grid0.Coords) : Scf.Loop 32 :=
  let arg1 : BitVec 32 := BitVec.ofNat 32 (i 1).val
  let c1_i32 : BitVec 32 := 1#32
  let v157 : BitVec 32 := Scalar.addi arg1 c1_i32
  let c8_i32 : BitVec 32 := 8#32
  let v158 : BitVec 32 := Scalar.subi c8_i32 v157
  let c1_i32_80 : BitVec 32 := 1#32
  let v160 : BitVec 32 := Scalar.divsi v158 c1_i32_80
  let v161 : BitVec 32 := Scalar.muli v160 c1_i32_80
  let v162 : BitVec 32 := Scalar.addi v157 v161
  let v159 : BitVec 32 := Scalar.addi v157 v158
  let c1_i32_82 : BitVec 32 := 1#32
  ⟨v162, v159, c1_i32_82⟩
def k0_mult4 (i : grid0.Coords) (k0_t3 : Fin (k0_t3_loop i).trips) : BitVec 32 :=
  let arg1 : BitVec 32 := BitVec.ofNat 32 (i 1).val
  let c1_i32 : BitVec 32 := 1#32
  let v157 : BitVec 32 := Scalar.addi arg1 c1_i32
  let c8_i32 : BitVec 32 := 8#32
  let v158 : BitVec 32 := Scalar.subi c8_i32 v157
  let c1_i32_80 : BitVec 32 := 1#32
  let v160 : BitVec 32 := Scalar.divsi v158 c1_i32_80
  let v161 : BitVec 32 := Scalar.muli v160 c1_i32_80
  let v162 : BitVec 32 := Scalar.addi v157 v161
  let c1_i32_82 : BitVec 32 := 1#32
  let arg18 : BitVec 32 := Scf.iv v162 c1_i32_82 k0_t3
  let c512_i32_110 : BitVec 32 := 512#32
  let v196 : BitVec 32 := Scalar.muli arg18 c512_i32_110
  v196
def k0_off18 (i : grid0.Coords) (k0_t3 : Fin (k0_t3_loop i).trips) : Fin 2 → Nat :=
  let arg1 : BitVec 32 := BitVec.ofNat 32 (i 1).val
  let c1_i32 : BitVec 32 := 1#32
  let v157 : BitVec 32 := Scalar.addi arg1 c1_i32
  let c8_i32 : BitVec 32 := 8#32
  let v158 : BitVec 32 := Scalar.subi c8_i32 v157
  let c1_i32_80 : BitVec 32 := 1#32
  let v160 : BitVec 32 := Scalar.divsi v158 c1_i32_80
  let v161 : BitVec 32 := Scalar.muli v160 c1_i32_80
  let v162 : BitVec 32 := Scalar.addi v157 v161
  let c1_i32_82 : BitVec 32 := 1#32
  let arg18 : BitVec 32 := Scf.iv v162 c1_i32_82 k0_t3
  let c512_i32_110 : BitVec 32 := 512#32
  let v196 : BitVec 32 := Scalar.muli arg18 c512_i32_110
  let v197 : BitVec 32 := v196
  let v198 : Index := Scalar.indexCast v197
  let c0_111 : Index := 0#32
  ![v198.toNat, 0]
def k0_off19 (i : grid0.Coords) (k0_t3 : Fin (k0_t3_loop i).trips) : Fin 4 → Nat :=
  let c0_120 : Index := 0#32
  let arg1 : BitVec 32 := BitVec.ofNat 32 (i 1).val
  let c1_i32 : BitVec 32 := 1#32
  let v157 : BitVec 32 := Scalar.addi arg1 c1_i32
  let c8_i32 : BitVec 32 := 8#32
  let v158 : BitVec 32 := Scalar.subi c8_i32 v157
  let c1_i32_80 : BitVec 32 := 1#32
  let v160 : BitVec 32 := Scalar.divsi v158 c1_i32_80
  let v161 : BitVec 32 := Scalar.muli v160 c1_i32_80
  let v162 : BitVec 32 := Scalar.addi v157 v161
  let c1_i32_82 : BitVec 32 := 1#32
  let arg18 : BitVec 32 := Scf.iv v162 c1_i32_82 k0_t3
  let v225 : Index := Scalar.indexCast arg18
  let c0_121 : Index := 0#32
  let c0_122 : Index := 0#32
  ![0, v225.toNat, 0, 0]
def k0_off20 (i : grid0.Coords) (k0_t3 : Fin (k0_t3_loop i).trips) : Fin 4 → Nat :=
  let c0_124 : Index := 0#32
  let arg1 : BitVec 32 := BitVec.ofNat 32 (i 1).val
  let c1_i32 : BitVec 32 := 1#32
  let v157 : BitVec 32 := Scalar.addi arg1 c1_i32
  let c8_i32 : BitVec 32 := 8#32
  let v158 : BitVec 32 := Scalar.subi c8_i32 v157
  let c1_i32_80 : BitVec 32 := 1#32
  let v160 : BitVec 32 := Scalar.divsi v158 c1_i32_80
  let v161 : BitVec 32 := Scalar.muli v160 c1_i32_80
  let v162 : BitVec 32 := Scalar.addi v157 v161
  let c1_i32_82 : BitVec 32 := 1#32
  let arg18 : BitVec 32 := Scf.iv v162 c1_i32_82 k0_t3
  let v232 : Index := Scalar.indexCast arg18
  let c0_125 : Index := 0#32
  let c0_126 : Index := 0#32
  ![0, v232.toNat, 0, 0]
def k0_off21 (i : grid0.Coords) (k0_t3 : Fin (k0_t3_loop i).trips) : Fin 4 → Nat :=
  let c0_139 : Index := 0#32
  let arg1 : BitVec 32 := BitVec.ofNat 32 (i 1).val
  let c1_i32 : BitVec 32 := 1#32
  let v157 : BitVec 32 := Scalar.addi arg1 c1_i32
  let c8_i32 : BitVec 32 := 8#32
  let v158 : BitVec 32 := Scalar.subi c8_i32 v157
  let c1_i32_80 : BitVec 32 := 1#32
  let v160 : BitVec 32 := Scalar.divsi v158 c1_i32_80
  let v161 : BitVec 32 := Scalar.muli v160 c1_i32_80
  let v162 : BitVec 32 := Scalar.addi v157 v161
  let c1_i32_82 : BitVec 32 := 1#32
  let arg18 : BitVec 32 := Scf.iv v162 c1_i32_82 k0_t3
  let v253 : Index := Scalar.indexCast arg18
  let c0_140 : Index := 0#32
  let c0_141 : Index := 0#32
  ![0, v253.toNat, 0, 0]
def k0_off22 (i : grid0.Coords) (k0_t3 : Fin (k0_t3_loop i).trips) : Fin 4 → Nat :=
  let c1_150 : Index := 1#32
  let arg1 : BitVec 32 := BitVec.ofNat 32 (i 1).val
  let c1_i32 : BitVec 32 := 1#32
  let v157 : BitVec 32 := Scalar.addi arg1 c1_i32
  let c8_i32 : BitVec 32 := 8#32
  let v158 : BitVec 32 := Scalar.subi c8_i32 v157
  let c1_i32_80 : BitVec 32 := 1#32
  let v160 : BitVec 32 := Scalar.divsi v158 c1_i32_80
  let v161 : BitVec 32 := Scalar.muli v160 c1_i32_80
  let v162 : BitVec 32 := Scalar.addi v157 v161
  let c1_i32_82 : BitVec 32 := 1#32
  let arg18 : BitVec 32 := Scf.iv v162 c1_i32_82 k0_t3
  let v267 : Index := Scalar.indexCast arg18
  let c0_151 : Index := 0#32
  let c0_152 : Index := 0#32
  ![1, v267.toNat, 0, 0]
def k0_off23 (i : grid0.Coords) (k0_t3 : Fin (k0_t3_loop i).trips) : Fin 4 → Nat :=
  let c1_154 : Index := 1#32
  let arg1 : BitVec 32 := BitVec.ofNat 32 (i 1).val
  let c1_i32 : BitVec 32 := 1#32
  let v157 : BitVec 32 := Scalar.addi arg1 c1_i32
  let c8_i32 : BitVec 32 := 8#32
  let v158 : BitVec 32 := Scalar.subi c8_i32 v157
  let c1_i32_80 : BitVec 32 := 1#32
  let v160 : BitVec 32 := Scalar.divsi v158 c1_i32_80
  let v161 : BitVec 32 := Scalar.muli v160 c1_i32_80
  let v162 : BitVec 32 := Scalar.addi v157 v161
  let c1_i32_82 : BitVec 32 := 1#32
  let arg18 : BitVec 32 := Scf.iv v162 c1_i32_82 k0_t3
  let v274 : Index := Scalar.indexCast arg18
  let c0_155 : Index := 0#32
  let c0_156 : Index := 0#32
  ![1, v274.toNat, 0, 0]
def k0_off24 (i : grid0.Coords) (k0_t3 : Fin (k0_t3_loop i).trips) : Fin 4 → Nat :=
  let c1_169 : Index := 1#32
  let arg1 : BitVec 32 := BitVec.ofNat 32 (i 1).val
  let c1_i32 : BitVec 32 := 1#32
  let v157 : BitVec 32 := Scalar.addi arg1 c1_i32
  let c8_i32 : BitVec 32 := 8#32
  let v158 : BitVec 32 := Scalar.subi c8_i32 v157
  let c1_i32_80 : BitVec 32 := 1#32
  let v160 : BitVec 32 := Scalar.divsi v158 c1_i32_80
  let v161 : BitVec 32 := Scalar.muli v160 c1_i32_80
  let v162 : BitVec 32 := Scalar.addi v157 v161
  let c1_i32_82 : BitVec 32 := 1#32
  let arg18 : BitVec 32 := Scf.iv v162 c1_i32_82 k0_t3
  let v295 : Index := Scalar.indexCast arg18
  let c0_170 : Index := 0#32
  let c0_171 : Index := 0#32
  ![1, v295.toNat, 0, 0]
def k0_cond2 (i : grid0.Coords) : BitVec 1 :=
  let arg1 : BitVec 32 := BitVec.ofNat 32 (i 1).val
  let c7_i32 : BitVec 32 := 7#32
  let v193 : BitVec 1 := Scalar.cmpi .eq arg1 c7_i32
  let v194 : BitVec 32 := Scalar.extui v193
  let c0_i32_109 : BitVec 32 := 0#32
  let v195 : BitVec 1 := Scalar.cmpi .ne v194 c0_i32_109
  v195

@[reducible] def k0_t4_loop : Scf.Loop 32 :=
  let c0_i32_110 : BitVec 32 := 0#32
  let c8_i32_111 : BitVec 32 := 8#32
  let v196 : BitVec 32 := Scalar.addi c0_i32_110 c8_i32_111
  let c1_i32_112 : BitVec 32 := 1#32
  ⟨c0_i32_110, v196, c1_i32_112⟩
def k0_mult5 (k0_t4 : Fin k0_t4_loop.trips) : BitVec 32 :=
  let c0_i32_110 : BitVec 32 := 0#32
  let c1_i32_112 : BitVec 32 := 1#32
  let arg18 : BitVec 32 := Scf.iv c0_i32_110 c1_i32_112 k0_t4
  let c512_i32_114 : BitVec 32 := 512#32
  let v197 : BitVec 32 := Scalar.muli arg18 c512_i32_114
  v197
def k0_off25 (k0_t4 : Fin k0_t4_loop.trips) : Fin 4 → Nat :=
  let c0_115 : Index := 0#32
  let c0_i32_110 : BitVec 32 := 0#32
  let c1_i32_112 : BitVec 32 := 1#32
  let arg18 : BitVec 32 := Scf.iv c0_i32_110 c1_i32_112 k0_t4
  let v199 : Index := Scalar.indexCast arg18
  let c0_116 : Index := 0#32
  let c0_117 : Index := 0#32
  ![0, v199.toNat, 0, 0]
def k0_off26 (k0_t4 : Fin k0_t4_loop.trips) : Fin 4 → Nat :=
  let c1_118 : Index := 1#32
  let c0_i32_110 : BitVec 32 := 0#32
  let c1_i32_112 : BitVec 32 := 1#32
  let arg18 : BitVec 32 := Scf.iv c0_i32_110 c1_i32_112 k0_t4
  let v202 : Index := Scalar.indexCast arg18
  let c0_119 : Index := 0#32
  let c0_120 : Index := 0#32
  ![1, v202.toNat, 0, 0]
def k0_off27 (k0_t4 : Fin k0_t4_loop.trips) : Fin 2 → Nat :=
  let c0_i32_110 : BitVec 32 := 0#32
  let c1_i32_112 : BitVec 32 := 1#32
  let arg18 : BitVec 32 := Scf.iv c0_i32_110 c1_i32_112 k0_t4
  let c512_i32_114 : BitVec 32 := 512#32
  let v197 : BitVec 32 := Scalar.muli arg18 c512_i32_114
  let v198 : BitVec 32 := v197
  let v212 : Index := Scalar.indexCast v198
  let c0_122 : Index := 0#32
  ![v212.toNat, 0]
def k0_off28 (k0_t4 : Fin k0_t4_loop.trips) : Fin 4 → Nat :=
  let c0_123 : Index := 0#32
  let c0_i32_110 : BitVec 32 := 0#32
  let c1_i32_112 : BitVec 32 := 1#32
  let arg18 : BitVec 32 := Scf.iv c0_i32_110 c1_i32_112 k0_t4
  let v215 : Index := Scalar.indexCast arg18
  let c0_124 : Index := 0#32
  let c0_125 : Index := 0#32
  ![0, v215.toNat, 0, 0]
def k0_off29 (k0_t4 : Fin k0_t4_loop.trips) : Fin 4 → Nat :=
  let c1_126 : Index := 1#32
  let c0_i32_110 : BitVec 32 := 0#32
  let c1_i32_112 : BitVec 32 := 1#32
  let arg18 : BitVec 32 := Scf.iv c0_i32_110 c1_i32_112 k0_t4
  let v220 : Index := Scalar.indexCast arg18
  let c0_127 : Index := 0#32
  let c0_128 : Index := 0#32
  ![1, v220.toNat, 0, 0]
def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x8x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2x8x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S2x512x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S4096x2048 : Shape := ⟨2, ![4096, 2048]⟩
abbrev S8x4096 : Shape := ⟨2, ![8, 4096]⟩
abbrev S4096x512 : Shape := ⟨2, ![4096, 512]⟩
abbrev S4096x8x64 : Shape := ⟨3, ![4096, 8, 64]⟩
abbrev S8x4096x64 : Shape := ⟨3, ![8, 4096, 64]⟩
abbrev S8x4096x4096 : Shape := ⟨3, ![8, 4096, 4096]⟩
abbrev S_ : Shape := ⟨0, ![]⟩
abbrev S8x4096x1 : Shape := ⟨3, ![8, 4096, 1]⟩
abbrev S8x1x4096 : Shape := ⟨3, ![8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x64x4096 : Shape := ⟨3, ![8, 64, 4096]⟩
abbrev S8x8x1x512 : Shape := ⟨4, ![8, 8, 1, 512]⟩

abbrev nBuf : Space → Nat
  | .hbm => 129
  | .vmem => 0
  | .smem => 0
  | _ => 0

abbrev hbmTy0_0 (i : Nat) : BufTy := match i % 128 with
  | 0 => ⟨S4096x2048, .bf16⟩
  | 1 => ⟨S8x4096, .f32⟩
  | 2 => ⟨S4096x512, .bf16⟩
  | 3 => ⟨S4096x512, .bf16⟩
  | 4 => ⟨S4096x512, .f32⟩
  | 5 => ⟨S4096x512, .bf16⟩
  | 6 => ⟨S4096x512, .f32⟩
  | 7 => ⟨S4096x512, .bf16⟩
  | 8 => ⟨S4096x512, .f32⟩
  | 9 => ⟨S4096x8x64, .f32⟩
  | 10 => ⟨S8x4096x64, .f32⟩
  | 11 => ⟨S4096x8x64, .f32⟩
  | 12 => ⟨S8x4096x64, .f32⟩
  | 13 => ⟨S8x4096x4096, .f32⟩
  | 14 => ⟨S_, .f32⟩
  | 15 => ⟨S8x4096x4096, .f32⟩
  | 16 => ⟨S8x4096x4096, .f32⟩
  | 17 => ⟨S8x4096x1, .f32⟩
  | 18 => ⟨S8x4096x4096, .f32⟩
  | 19 => ⟨S8x4096x4096, .f32⟩
  | 20 => ⟨S8x1x4096, .f32⟩
  | 21 => ⟨S8x4096x4096, .f32⟩
  | 22 => ⟨S8x4096x4096, .f32⟩
  | 23 => ⟨S4096, .i32⟩
  | 24 => ⟨S1x4096, .i32⟩
  | 25 => ⟨S4096x1, .i32⟩
  | 26 => ⟨S4096x4096, .i32⟩
  | 27 => ⟨S4096x4096, .i32⟩
  | 28 => ⟨S4096x4096, .i1⟩
  | 29 => ⟨S_, .f32⟩
  | 30 => ⟨S_, .f32⟩
  | 31 => ⟨S8x4096x4096, .i1⟩
  | 32 => ⟨S8x4096x4096, .f32⟩
  | 33 => ⟨S8x4096x4096, .f32⟩
  | 34 => ⟨S_, .f32⟩
  | 35 => ⟨S8x4096x4096, .f32⟩
  | 36 => ⟨S_, .f32⟩
  | 37 => ⟨S8x4096, .f32⟩
  | 38 => ⟨S8x4096x1, .f32⟩
  | 39 => ⟨S8x4096x4096, .f32⟩
  | 40 => ⟨S8x4096x4096, .i1⟩
  | 41 => ⟨S8x4096x4096, .f32⟩
  | 42 => ⟨S_, .f32⟩
  | 43 => ⟨S8x4096, .f32⟩
  | 44 => ⟨S_, .f32⟩
  | 45 => ⟨S8x4096, .f32⟩
  | 46 => ⟨S8x4096, .f32⟩
  | 47 => ⟨S_, .f32⟩
  | 48 => ⟨S8x4096, .f32⟩
  | 49 => ⟨S8x4096, .i1⟩
  | 50 => ⟨S_, .f32⟩
  | 51 => ⟨S8x4096, .f32⟩
  | 52 => ⟨S8x4096, .i1⟩
  | 53 => ⟨S_, .f32⟩
  | 54 => ⟨S8x4096, .f32⟩
  | 55 => ⟨S_, .f32⟩
  | 56 => ⟨S8x4096, .f32⟩
  | 57 => ⟨S_, .f32⟩
  | 58 => ⟨S8x4096, .f32⟩
  | 59 => ⟨S8x4096, .f32⟩
  | 60 => ⟨S8x4096, .f32⟩
  | 61 => ⟨S8x4096x1, .f32⟩
  | 62 => ⟨S8x4096x4096, .f32⟩
  | 63 => ⟨S8x4096x4096, .f32⟩
  | 64 => ⟨S8x4096x4096, .f32⟩
  | 65 => ⟨S_, .f32⟩
  | 66 => ⟨S8x4096, .f32⟩
  | 67 => ⟨S8x4096x1, .f32⟩
  | 68 => ⟨S8x4096x4096, .f32⟩
  | 69 => ⟨S8x4096x4096, .f32⟩
  | 70 => ⟨S8x4096x1, .f32⟩
  | 71 => ⟨S_, .f32⟩
  | 72 => ⟨S8x4096x1, .f32⟩
  | 73 => ⟨S8x4096x1, .f32⟩
  | 74 => ⟨S4096x8x64, .f32⟩
  | 75 => ⟨S8x4096x64, .f32⟩
  | 76 => ⟨S8x4096x64, .f32⟩
  | 77 => ⟨S4096x8x64, .f32⟩
  | 78 => ⟨S4096x512, .f32⟩
  | 79 => ⟨S4096x512, .f32⟩
  | 80 => ⟨S4096x8x64, .f32⟩
  | 81 => ⟨S8x4096x64, .f32⟩
  | 82 => ⟨S8x64x4096, .f32⟩
  | 83 => ⟨S8x4096x64, .f32⟩
  | 84 => ⟨S8x4096x4096, .f32⟩
  | 85 => ⟨S4096x8x64, .f32⟩
  | 86 => ⟨S4096x512, .f32⟩
  | 87 => ⟨S8x4096x4096, .f32⟩
  | 88 => ⟨S8x4096x4096, .f32⟩
  | 89 => ⟨S8x4096x4096, .f32⟩
  | 90 => ⟨S_, .f32⟩
  | 91 => ⟨S8x4096, .f32⟩
  | 92 => ⟨S8x4096x1, .f32⟩
  | 93 => ⟨S8x4096x1, .f32⟩
  | 94 => ⟨S8x4096x4096, .f32⟩
  | 95 => ⟨S8x4096x4096, .f32⟩
  | 96 => ⟨S_, .f32⟩
  | 97 => ⟨S8x4096, .f32⟩
  | 98 => ⟨S8x4096x4096, .f32⟩
  | 99 => ⟨S8x4096x4096, .f32⟩
  | 100 => ⟨S8x4096x4096, .f32⟩
  | 101 => ⟨S_, .f32⟩
  | 102 => ⟨S8x4096x4096, .f32⟩
  | 103 => ⟨S8x4096x4096, .f32⟩
  | 104 => ⟨S8x4096x4096, .f32⟩
  | 105 => ⟨S_, .f32⟩
  | 106 => ⟨S8x4096, .f32⟩
  | 107 => ⟨S8x1x4096, .f32⟩
  | 108 => ⟨S_, .f32⟩
  | 109 => ⟨S8x4096, .f32⟩
  | 110 => ⟨S_, .f32⟩
  | 111 => ⟨S8x4096, .f32⟩
  | 112 => ⟨S8x4096x1, .f32⟩
  | 113 => ⟨S_, .f32⟩
  | 114 => ⟨S8x4096, .f32⟩
  | 115 => ⟨S_, .f32⟩
  | 116 => ⟨S8x4096x4096, .f32⟩
  | 117 => ⟨S8x4096x4096, .f32⟩
  | 118 => ⟨S8x4096x64, .f32⟩
  | 119 => ⟨S8x4096x64, .f32⟩
  | 120 => ⟨S4096x8x64, .f32⟩
  | 121 => ⟨S4096x512, .f32⟩
  | 122 => ⟨S4096x8x64, .f32⟩
  | 123 => ⟨S4096x512, .f32⟩
  | 124 => ⟨S4096x512, .bf16⟩
  | 125 => ⟨S4096x512, .bf16⟩
  | 126 => ⟨S4096x512, .bf16⟩
  | 127 => ⟨S8x8x1x512, .f32⟩
  | _ => ⟨S4096x2048, .bf16⟩

abbrev hbmTy0_1 (i : Nat) : BufTy := match i % 128 with
  | 0 => ⟨S8x4096x1, .f32⟩
  | _ => ⟨S4096x2048, .bf16⟩

abbrev hbmTy (i : Nat) : BufTy := match i / 128 with
  | 0 => hbmTy0_0 i
  | 1 => hbmTy0_1 i
  | _ => ⟨S4096x2048, .bf16⟩

abbrev bufTy : (tb : Table) → Fin (tcTables nBuf tb) → BufTy
  | .hbm, ⟨i, _⟩ => hbmTy i
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst_0 : Ref sig .tc := ⟨.hbm, 29, rfl⟩
abbrev main_call0_v0 : Ref sig .tc := ⟨.hbm, 30, rfl⟩
abbrev main_v25_1 : Ref sig .tc := ⟨.hbm, 31, rfl⟩
abbrev main_call0_v2 : Ref sig .tc := ⟨.hbm, 32, rfl⟩
abbrev main_v25_0 : Ref sig .tc := ⟨.hbm, 33, rfl⟩
abbrev main_call0_cst : Ref sig .tc := ⟨.hbm, 34, rfl⟩
abbrev main_v25_2 : Ref sig .tc := ⟨.hbm, 35, rfl⟩
abbrev main_cst_1 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_2 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_9 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_10 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_11 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_12 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_call1_cst : Ref sig .tc := ⟨.hbm, 101, rfl⟩
abbrev main_call1_v0 : Ref sig .tc := ⟨.hbm, 102, rfl⟩
abbrev main_v79 : Ref sig .tc := ⟨.hbm, 103, rfl⟩
abbrev main_v80 : Ref sig .tc := ⟨.hbm, 104, rfl⟩
abbrev main_cst_13 : Ref sig .tc := ⟨.hbm, 105, rfl⟩
abbrev main_v81 : Ref sig .tc := ⟨.hbm, 106, rfl⟩
abbrev main_v82 : Ref sig .tc := ⟨.hbm, 107, rfl⟩
abbrev main_cst_14 : Ref sig .tc := ⟨.hbm, 108, rfl⟩
abbrev main_v83 : Ref sig .tc := ⟨.hbm, 109, rfl⟩
abbrev main_cst_15 : Ref sig .tc := ⟨.hbm, 110, rfl⟩
abbrev main_v84 : Ref sig .tc := ⟨.hbm, 111, rfl⟩
abbrev main_v85 : Ref sig .tc := ⟨.hbm, 112, rfl⟩
abbrev main_cst_16 : Ref sig .tc := ⟨.hbm, 113, rfl⟩
abbrev main_v86 : Ref sig .tc := ⟨.hbm, 114, rfl⟩
abbrev main_cst_17 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩

abbrev nD : Nat := 1
abbrev τ : Topo := Topo.v7x

variable {F : FTy → Type} [FloatOps F]
-- ==== Kernel3.lean ====
abbrev S4x4096x704 : Shape := ⟨3, ![4, 4096, 704]⟩
abbrev S4096x1024 : Shape := ⟨2, ![4096, 1024]⟩
abbrev S4x704x1024 : Shape := ⟨3, ![4, 704, 1024]⟩
abbrev S1x1024x704 : Shape := ⟨3, ![1, 1024, 704]⟩
abbrev S1024x1024 : Shape := ⟨2, ![1024, 1024]⟩
abbrev S1x704x1024 : Shape := ⟨3, ![1, 704, 1024]⟩
abbrev S704x1024 : Shape := ⟨2, ![704, 1024]⟩
abbrev S1024x704 : Shape := ⟨2, ![1024, 704]⟩

abbrev nBuf : Space → Nat
  | .hbm => 3
  | .vmem => 7
  | .smem => 0
  | _ => 0

abbrev bufTy : (tb : Table) → Fin (tcTables nBuf tb) → BufTy
  | .hbm, ⟨0, _⟩ => ⟨S4x4096x704, .bf16⟩
  | .hbm, ⟨1, _⟩ => ⟨S4096x1024, .bf16⟩
  | .hbm, ⟨2, _⟩ => ⟨S4x704x1024, .bf16⟩
  | .local _ .vmem, ⟨0, _⟩ => ⟨S1x1024x704, .bf16⟩
  | .local _ .vmem, ⟨1, _⟩ => ⟨S1x1024x704, .bf16⟩
  | .local _ .vmem, ⟨2, _⟩ => ⟨S1024x1024, .bf16⟩
  | .local _ .vmem, ⟨3, _⟩ => ⟨S1024x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference3Ideal.lean ====
abbrev S4x4096x704 : Shape := ⟨3, ![4, 4096, 704]⟩
abbrev S4096x1024 : Shape := ⟨2, ![4096, 1024]⟩
abbrev S_ : Shape := ⟨0, ![]⟩
abbrev S4x704x1024 : Shape := ⟨3, ![4, 704, 1024]⟩
abbrev S1024x4x704 : Shape := ⟨3, ![1024, 4, 704]⟩

abbrev nBuf : Space → Nat
  | .hbm => 10
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4096x1024, .bf16⟩
  | .hbm, ⟨2, _⟩ => ⟨S_, .f32⟩
  | .hbm, ⟨3, _⟩ => ⟨S4x704x1024, .f32⟩
  | .hbm, ⟨4, _⟩ => ⟨S4x4096x704, .f32⟩
  | .hbm, ⟨5, _⟩ => ⟨S4096x1024, .f32⟩
  | .hbm, ⟨6, _⟩ => ⟨S4096x1024, .f32⟩
  | .hbm, ⟨7, _⟩ => ⟨S1024x4x704, .f32⟩
  | .hbm, ⟨8, _⟩ => ⟨S4x704x1024, .f32⟩
  | .hbm, ⟨9, _⟩ => ⟨S4x704x1024, .bf16⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S4096x1024 : Shape := ⟨2, ![4096, 1024]⟩
abbrev S4x4096x704 : Shape := ⟨3, ![4, 4096, 704]⟩
abbrev S4x1024x704 : Shape := ⟨3, ![4, 1024, 704]⟩
abbrev S1024x1024 : Shape := ⟨2, ![1024, 1024]⟩
abbrev S1x1024x704 : Shape := ⟨3, ![1, 1024, 704]⟩
abbrev S1024x704 : Shape := ⟨2, ![1024, 704]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4x4096x704, .bf16⟩
  | .hbm, ⟨2, _⟩ => ⟨S4x1024x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1024x704, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x1024 : Shape := ⟨2, ![4096, 1024]⟩
abbrev S4x4096x704 : Shape := ⟨3, ![4, 4096, 704]⟩
abbrev S_ : Shape := ⟨0, ![]⟩
abbrev S4x1024x704 : Shape := ⟨3, ![4, 1024, 704]⟩
abbrev S4x704x4096 : Shape := ⟨3, ![4, 704, 4096]⟩
abbrev S4x704x1024 : Shape := ⟨3, ![4, 704, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x4096x704, .bf16⟩
  | .hbm, ⟨2, _⟩ => ⟨S_, .f32⟩
  | .hbm, ⟨3, _⟩ => ⟨S4x1024x704, .f32⟩
  | .hbm, ⟨4, _⟩ => ⟨S4096x1024, .f32⟩
  | .hbm, ⟨5, _⟩ => ⟨S4x704x4096, .f32⟩
  | .hbm, ⟨6, _⟩ => ⟨S4x4096x704, .f32⟩
  | .hbm, ⟨7, _⟩ => ⟨S4x4096x704, .f32⟩
  | .hbm, ⟨8, _⟩ => ⟨S4x704x4096, .f32⟩
  | .hbm, ⟨9, _⟩ => ⟨S4x704x1024, .f32⟩
  | .hbm, ⟨10, _⟩ => ⟨S4x1024x704, .f32⟩
  | .hbm, ⟨11, _⟩ => ⟨S4x1024x704, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S4x4096x704 : Shape := ⟨3, ![4, 4096, 704]⟩
abbrev S4x1024x704 : Shape := ⟨3, ![4, 1024, 704]⟩
abbrev S4096x1024 : Shape := ⟨2, ![4096, 1024]⟩
abbrev S1x1024x704 : Shape := ⟨3, ![1, 1024, 704]⟩
abbrev S1024x1024 : Shape := ⟨2, ![1024, 1024]⟩
abbrev S1024x704 : Shape := ⟨2, ![1024, 704]⟩

abbrev nBuf : Space → Nat
  | .hbm => 5
  | .vmem => 11
  | .smem => 0
  | _ => 0

abbrev bufTy : (tb : Table) → Fin (tcTables nBuf tb) → BufTy
  | .hbm, ⟨0, _⟩ => ⟨S4x4096x704, .bf16⟩
  | .hbm, ⟨1, _⟩ => ⟨S4x1024x704, .bf16⟩
  | .hbm, ⟨2, _⟩ => ⟨S4x4096x704, .bf16⟩
  | .hbm, ⟨3, _⟩ => ⟨S4x1024x704, .bf16⟩
  | .hbm, ⟨4, _⟩ => ⟨S4096x1024, .f32⟩
  | .local _ .vmem, ⟨0, _⟩ => ⟨S1x1024x704, .bf16⟩
  | .local _ .vmem, ⟨1, _⟩ => ⟨S1x1024x704, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 1, 8], ![false, false, false]⟩

def k0_cond4 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_5 : BitVec 32 := 0#32
  let v15 : BitVec 1 := Scalar.cmpi .ne v14 c0_i32_5
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  ![v2.toNat, arg0.toNat, c0_i32_1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  ![v2.toNat, arg1.toNat, c0_i32_1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![v2.toNat, arg0.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![v2.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference5Ideal.lean ====
abbrev S4x4096x704 : Shape := ⟨3, ![4, 4096, 704]⟩
abbrev S4x1024x704 : Shape := ⟨3, ![4, 1024, 704]⟩
abbrev S_ : Shape := ⟨0, ![]⟩
abbrev S4096x1024 : Shape := ⟨2, ![4096, 1024]⟩
abbrev S4x704x4096 : Shape := ⟨3, ![4, 704, 4096]⟩

abbrev nBuf : Space → Nat
  | .hbm => 19
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4x1024x704, .bf16⟩
  | .hbm, ⟨2, _⟩ => ⟨S4x4096x704, .bf16⟩
  | .hbm, ⟨3, _⟩ => ⟨S4x1024x704, .bf16⟩
  | .hbm, ⟨4, _⟩ => ⟨S_, .f32⟩
  | .hbm, ⟨5, _⟩ => ⟨S4096x1024, .f32⟩
  | .hbm, ⟨6, _⟩ => ⟨S4x1024x704, .f32⟩
  | .hbm, ⟨7, _⟩ => ⟨S4x704x4096, .f32⟩
  | .hbm, ⟨8, _⟩ => ⟨S4x4096x704, .f32⟩
  | .hbm, ⟨9, _⟩ => ⟨S4x1024x704, .f32⟩
  | .hbm, ⟨10, _⟩ => ⟨S4x704x4096, .f32⟩
  | .hbm, ⟨11, _⟩ => ⟨S4x4096x704, .f32⟩
  | .hbm, ⟨12, _⟩ => ⟨S4x4096x704, .f32⟩
  | .hbm, ⟨13, _⟩ => ⟨S4x4096x704, .f32⟩
  | .hbm, ⟨14, _⟩ => ⟨S4x704x4096, .f32⟩
  | .hbm, ⟨15, _⟩ => ⟨S4096x1024, .f32⟩
  | .hbm, ⟨16, _⟩ => ⟨S4x704x4096, .f32⟩
  | .hbm, ⟨17, _⟩ => ⟨S4096x1024, .f32⟩
  | .hbm, ⟨18, _⟩ => ⟨S4096x1024, .f32⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel6.lean ====
abbrev S4096x1024 : Shape := ⟨2, ![4096, 1024]⟩
abbrev S4096x512 : Shape := ⟨2, ![4096, 512]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S1024x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Kernel6Ideal.lean ====
abbrev S4096x1024 : Shape := ⟨2, ![4096, 1024]⟩
abbrev S4096x512 : Shape := ⟨2, ![4096, 512]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S1024x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference6Ideal.lean ====
abbrev S4096x1024 : Shape := ⟨2, ![4096, 1024]⟩
abbrev S4096x512 : Shape := ⟨2, ![4096, 512]⟩
abbrev S_ : Shape := ⟨0, ![]⟩
abbrev S1024x512 : Shape := ⟨2, ![1024, 512]⟩
abbrev S512x1024 : Shape := ⟨2, ![512, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S_, .f32⟩
  | .hbm, ⟨3, _⟩ => ⟨S1024x512, .f32⟩
  | .hbm, ⟨4, _⟩ => ⟨S4096x1024, .f32⟩
  | .hbm, ⟨5, _⟩ => ⟨S4096x512, .f32⟩
  | .hbm, ⟨6, _⟩ => ⟨S4096x512, .f32⟩
  | .hbm, ⟨7, _⟩ => ⟨S512x1024, .f32⟩
  | .hbm, ⟨8, _⟩ => ⟨S1024x512, .f32⟩
  | .hbm, ⟨9, _⟩ => ⟨S1024x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference7Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S4096x512 : Shape := ⟨2, ![4096, 512]⟩
abbrev S4096x1024 : Shape := ⟨2, ![4096, 1024]⟩
abbrev S4096x256 : Shape := ⟨2, ![4096, 256]⟩
abbrev S1024x2048 : Shape := ⟨2, ![1024, 2048]⟩
abbrev S1024x2304 : Shape := ⟨2, ![1024, 2304]⟩
abbrev S1024x512 : Shape := ⟨2, ![1024, 512]⟩
abbrev S1024x256 : Shape := ⟨2, ![1024, 256]⟩
abbrev S1024x1024 : Shape := ⟨2, ![1024, 1024]⟩

abbrev nBuf : Space → Nat
  | .hbm => 10
  | .vmem => 26
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x1024, .bf16⟩
  | .hbm, ⟨5, _⟩ => ⟨S4096x1024, .bf16⟩
  | .hbm, ⟨6, _⟩ => ⟨S4096x256, .bf16⟩
  | .hbm, ⟨7, _⟩ => ⟨S1024x2048, .bf16⟩
  | .hbm, ⟨8, _⟩ => ⟨S1024x2304, .bf16⟩
  | .hbm, ⟨9, _⟩ => ⟨S4096x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1024x256, .bf16⟩
  | .local _ .vmem, ⟨21, _⟩ => ⟨S1024x256, .bf16⟩
  | .local _ .vmem, ⟨22, _⟩ => ⟨S1024x256, .bf16⟩
  | .local _ .vmem, ⟨23, _⟩ => ⟨S1024x1024, .f32⟩
  | .local _ .vmem, ⟨24, _⟩ => ⟨S1024x1024, .f32⟩
  | .local _ .vmem, ⟨25, _⟩ => ⟨S1024x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg14_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨3, ![4, 1, 9], ![false, false, false]⟩

def k0_cond9 (i : grid0.Coords) : BitVec 1 :=
  let arg2 : BitVec 32 := BitVec.ofNat 32 (i 2).val
  let c8_i32_15 : BitVec 32 := 8#32
  let v38 : BitVec 1 := Scalar.cmpi .eq arg2 c8_i32_15
  let v39 : BitVec 32 := Scalar.extui v38
  let c0_i32_16 : BitVec 32 := 0#32
  let v40 : BitVec 1 := Scalar.cmpi .ne v39 c0_i32_16
  v40

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  ![arg0.toNat, c0_i32_2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  ![arg1.toNat, c0_i32_2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![arg0.toNat, c0_i32_1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let c0_i32_0 : BitVec 32 := 0#32
  let v1 : BitVec 32 := Scalar.maxsi c0_i32 v0
  let v2 : BitVec 32 := Scalar.minsi c0_i32_0 v1
  let c1_i32_1 : BitVec 32 := 1#32
  let c0_i32_2 : BitVec 32 := 0#32
  ![arg1.toNat, c1_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![arg0.toNat, c0_i32_1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let c0_i32_0 : BitVec 32 := 0#32
  let v1 : BitVec 32 := Scalar.maxsi c0_i32 v0
  let v2 : BitVec 32 := Scalar.minsi c0_i32_0 v1
  let c2_i32_1 : BitVec 32 := 2#32
  let c0_i32_2 : BitVec 32 := 0#32
  ![arg1.toNat, c2_i32_1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.subi arg2 c3_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![arg0.toNat, c0_i32_1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.subi arg2 c3_i32
  let c0_i32 : BitVec 32 := 0#32
  let c0_i32_0 : BitVec 32 := 0#32
  let v1 : BitVec 32 := Scalar.maxsi c0_i32 v0
  let v2 : BitVec 32 := Scalar.minsi c0_i32_0 v1
  let c3_i32_1 : BitVec 32 := 3#32
  let c0_i32_2 : BitVec 32 := 0#32
  ![arg1.toNat, c3_i32_1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let v3 : BitVec 32 := Scalar.addi c0_i32_0 v2
  let c0_i32_1 : BitVec 32 := 0#32
  ![arg1.toNat, v3.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.subi arg2 c6_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.subi arg2 c6_i32
  let c0_i32 : BitVec 32 := 0#32
  let c1_i32 : BitVec 32 := 1#32
  let v1 : BitVec 32 := Scalar.maxsi c0_i32 v0
  let v2 : BitVec 32 := Scalar.minsi c1_i32 v1
  let c2_i32 : BitVec 32 := 2#32
  let v3 : BitVec 32 := Scalar.addi c2_i32 v2
  let c0_i32_0 : BitVec 32 := 0#32
  ![arg1.toNat, v3.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi arg2 c8_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![arg0.toNat, c0_i32_1.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi arg2 c8_i32
  let c0_i32 : BitVec 32 := 0#32
  let c0_i32_0 : BitVec 32 := 0#32
  let v1 : BitVec 32 := Scalar.maxsi c0_i32 v0
  let v2 : BitVec 32 := Scalar.minsi c0_i32_0 v1
  let c8_i32_1 : BitVec 32 := 8#32
  let c0_i32_2 : BitVec 32 := 0#32
  ![arg1.toNat, c8_i32_1.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true, true]

abbrev stage0_12 : Fin 2 → Memref sig .tc .vmem S1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false, false]

abbrev stage0_13 : Fin 1 → Memref sig .tc .vmem S1024x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, true, false]

abbrev stage0_14 : Fin 2 → Memref sig .tc .vmem S1024x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, false]
-- ==== Reference8Ideal.lean ====
abbrev S4096x512 : Shape := ⟨2, ![4096, 512]⟩
abbrev S4096x1024 : Shape := ⟨2, ![4096, 1024]⟩
abbrev S4096x256 : Shape := ⟨2, ![4096, 256]⟩
abbrev S1024x2048 : Shape := ⟨2, ![1024, 2048]⟩
abbrev S1024x2304 : Shape := ⟨2, ![1024, 2304]⟩
abbrev S4096x2048 : Shape := ⟨2, ![4096, 2048]⟩
abbrev S4096x2304 : Shape := ⟨2, ![4096, 2304]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x1024, .bf16⟩
  | .hbm, ⟨5, _⟩ => ⟨S4096x1024, .bf16⟩
  | .hbm, ⟨6, _⟩ => ⟨S4096x256, .bf16⟩
  | .hbm, ⟨7, _⟩ => ⟨S1024x2048, .bf16⟩
  | .hbm, ⟨8, _⟩ => ⟨S1024x2304, .bf16⟩
  | .hbm, ⟨9, _⟩ => ⟨S4096x2048, .bf16⟩
  | .hbm, ⟨10, _⟩ => ⟨S4096x2048, .f32⟩
  | .hbm, ⟨11, _⟩ => ⟨S4096x2304, .bf16⟩
  | .hbm, ⟨12, _⟩ => ⟨S4096x2304, .f32⟩
  | .hbm, ⟨13, _⟩ => ⟨S_, .f32⟩
  | .hbm, ⟨14, _⟩ => ⟨S4096x1024, .f32⟩
  | .hbm, ⟨15, _⟩ => ⟨S1024x2048, .f32⟩
  | .hbm, ⟨16, _⟩ => ⟨S4096x2048, .f32⟩
  | .hbm, ⟨17, _⟩ => ⟨S1024x2304, .f32⟩
  | .hbm, ⟨18, _⟩ => ⟨S4096x2304, .f32⟩
  | .hbm, ⟨19, _⟩ => ⟨S4096x1024, .f32⟩
  | .hbm, ⟨20, _⟩ => ⟨S4096x1024, .f32⟩
  | .hbm, ⟨21, _⟩ => ⟨S4096x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Kernel9.lean ====
abbrev S4096x1024 : Shape := ⟨2, ![4096, 1024]⟩
abbrev S4x1024x704 : Shape := ⟨3, ![4, 1024, 704]⟩
abbrev S4x4096x704 : Shape := ⟨3, ![4, 4096, 704]⟩
abbrev S1024x1024 : Shape := ⟨2, ![1024, 1024]⟩
abbrev S1x1024x704 : Shape := ⟨3, ![1, 1024, 704]⟩
abbrev S1024x704 : Shape := ⟨2, ![1024, 704]⟩

abbrev nBuf : Space → Nat
  | .hbm => 6
  | .vmem => 14
  | .smem => 0
  | _ => 0

abbrev bufTy : (tb : Table) → Fin (tcTables nBuf tb) → BufTy
  | .hbm, ⟨0, _⟩ => ⟨S4096x1024, .bf16⟩
  | .hbm, ⟨1, _⟩ => ⟨S4x1024x704, .bf16⟩
  | .hbm, ⟨2, _⟩ => ⟨S4x1024x704, .bf16⟩
  | .hbm, ⟨3, _⟩ => ⟨S4x4096x704, .bf16⟩
  | .hbm, ⟨4, _⟩ => ⟨S4x4096x704, .bf16⟩
  | .hbm, ⟨5, _⟩ => ⟨S4x4096x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | .local _ .vmem, ⟨12, _⟩ => ⟨S1024x704, .f32⟩
  | .local _ .vmem, ⟨13, _⟩ => ⟨S1024x704, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_17 : BitVec 32 := 0#32
  let v20 : BitVec 1 := Scalar.cmpi .eq arg2 c0_i32_17
  let v21 : BitVec 32 := Scalar.extui v20
  let c0_i32_18 : BitVec 32 := 0#32
  let v22 : BitVec 1 := Scalar.cmpi .ne v21 c0_i32_18
  v22

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference9Ideal.lean ====
abbrev S4096x1024 : Shape := ⟨2, ![4096, 1024]⟩
abbrev S4x1024x704 : Shape := ⟨3, ![4, 1024, 704]⟩
abbrev S4x704x4096 : Shape := ⟨3, ![4, 704, 4096]⟩
abbrev S4x4096x704 : Shape := ⟨3, ![4, 4096, 704]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x704, .bf16⟩
  | .hbm, ⟨2, _⟩ => ⟨S4x1024x704, .bf16⟩
  | .hbm, ⟨3, _⟩ => ⟨S4096x1024, .f32⟩
  | .hbm, ⟨4, _⟩ => ⟨S4x1024x704, .f32⟩
  | .hbm, ⟨5, _⟩ => ⟨S4x704x4096, .f32⟩
  | .hbm, ⟨6, _⟩ => ⟨S4x4096x704, .f32⟩
  | .hbm, ⟨7, _⟩ => ⟨S4096x1024, .f32⟩
  | .hbm, ⟨8, _⟩ => ⟨S4x1024x704, .f32⟩
  | .hbm, ⟨9, _⟩ => ⟨S4x704x4096, .f32⟩
  | .hbm, ⟨10, _⟩ => ⟨S4x4096x704, .f32⟩
  | .hbm, ⟨11, _⟩ => ⟨S4x4096x704, .bf16⟩
  | .hbm, ⟨12, _⟩ => ⟨S4x4096x704, .bf16⟩
  | .hbm, ⟨13, _⟩ => ⟨S4x4096x704, .f32⟩
  | .hbm, ⟨14, _⟩ => ⟨S4x4096x704, .f32⟩
  | .hbm, ⟨15, _⟩ => ⟨S_, .f32⟩
  | .hbm, ⟨16, _⟩ => ⟨S4x4096x704, .f32⟩
  | .hbm, ⟨17, _⟩ => ⟨S4x4096x704, .f32⟩
  | .hbm, ⟨18, _⟩ => ⟨S_, .f32⟩
  | .hbm, ⟨19, _⟩ => ⟨S4x4096x704, .f32⟩
  | .hbm, ⟨20, _⟩ => ⟨S4x4096x704, .f32⟩
  | .hbm, ⟨21, _⟩ => ⟨S4x4096x704, .f32⟩
  | .hbm, ⟨22, _⟩ => ⟨S4x4096x704, .f32⟩
  | .hbm, ⟨23, _⟩ => ⟨S4x4096x704, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩

abbrev nD : Nat := 1
abbrev τ : Topo := Topo.v7x

variable {F : FTy → Type} [FloatOps F]
-- ==== Kernel10.lean ====
abbrev S4096x1024 : Shape := ⟨2, ![4096, 1024]⟩
abbrev S1024x2048 : Shape := ⟨2, ![1024, 2048]⟩
abbrev S4096x2048 : Shape := ⟨2, ![4096, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x1024, .f32⟩
  | .hbm, ⟨3, _⟩ => ⟨S1024x2048, .f32⟩
  | .hbm, ⟨4, _⟩ => ⟨S4096x2048, .f32⟩
  | .hbm, ⟨5, _⟩ => ⟨S4096x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel11.lean ====
abbrev S4096x1024 : Shape := ⟨2, ![4096, 1024]⟩
abbrev S1024x2304 : Shape := ⟨2, ![1024, 2304]⟩
abbrev S4096x2304 : Shape := ⟨2, ![4096, 2304]⟩
abbrev S1024x1024 : Shape := ⟨2, ![1024, 1024]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x2304, .bf16⟩
  | .hbm, ⟨2, _⟩ => ⟨S4096x2304, .f32⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .f32⟩
  | .local _ .vmem, ⟨5, _⟩ => ⟨S1024x768, .f32⟩
  | .local _ .vmem, ⟨6, _⟩ => ⟨S1024x768, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x1024 : Shape := ⟨2, ![4096, 1024]⟩
abbrev S1024x2304 : Shape := ⟨2, ![1024, 2304]⟩
abbrev S4096x2304 : Shape := ⟨2, ![4096, 2304]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2304, .bf16⟩
  | .hbm, ⟨2, _⟩ => ⟨S4096x1024, .f32⟩
  | .hbm, ⟨3, _⟩ => ⟨S1024x2304, .f32⟩
  | .hbm, ⟨4, _⟩ => ⟨S4096x2304, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel12.lean ====
abbrev S4x4096x704 : Shape := ⟨3, ![4, 4096, 704]⟩
abbrev S4x704x1024 : Shape := ⟨3, ![4, 704, 1024]⟩
abbrev S4096x1024 : Shape := ⟨2, ![4096, 1024]⟩
abbrev S1x1024 : Shape := ⟨2, ![1, 1024]⟩
abbrev S1x1024x704 : Shape := ⟨3, ![1, 1024, 704]⟩
abbrev S1x704x1024 : Shape := ⟨3, ![1, 704, 1024]⟩
abbrev S1024x1024 : Shape := ⟨2, ![1024, 1024]⟩
abbrev S1024x704 : Shape := ⟨2, ![1024, 704]⟩
abbrev S704x1024 : Shape := ⟨2, ![704, 1024]⟩
abbrev S1024 : Shape := ⟨1, ![1024]⟩
abbrev S1024x1 : Shape := ⟨2, ![1024, 1]⟩

abbrev nBuf : Space → Nat
  | .hbm => 7
  | .vmem => 13
  | .smem => 0
  | _ => 0

abbrev bufTy : (tb : Table) → Fin (tcTables nBuf tb) → BufTy
  | .hbm, ⟨0, _⟩ => ⟨S4x4096x704, .bf16⟩
  | .hbm, ⟨1, _⟩ => ⟨S4x704x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1024, .f32⟩
  | .local _ .vmem, ⟨0, _⟩ => ⟨S1x1024x704, .bf16⟩
  | .local _ .vmem, ⟨1, _⟩ => ⟨S1x1024x704, .bf16⟩
  | .local _ .vmem, ⟨2, _⟩ => ⟨S1x704x1024, .bf16⟩
  | .local _ .vmem, ⟨3, _⟩ => ⟨S1x704x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]
-- ==== Reference12Ideal.lean ====
abbrev S4x4096x704 : Shape := ⟨3, ![4, 4096, 704]⟩
abbrev S4x704x1024 : Shape := ⟨3, ![4, 704, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 26
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4x704x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4x4096x704, .f32⟩
  | .hbm, ⟨6, _⟩ => ⟨S4x704x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Kernel13.lean ====
abbrev S4096x1024 : Shape := ⟨2, ![4096, 1024]⟩
abbrev S4x256x1024 : Shape := ⟨3, ![4, 256, 1024]⟩
abbrev S1024x256 : Shape := ⟨2, ![1024, 256]⟩
abbrev S1024x1024 : Shape := ⟨2, ![1024, 1024]⟩
abbrev S1x256x1024 : Shape := ⟨3, ![1, 256, 1024]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4x256x1024, .bf16⟩
  | .local _ .vmem, ⟨0, _⟩ => ⟨S1024x256, .bf16⟩
  | .local _ .vmem, ⟨1, _⟩ => ⟨S1024x256, .bf16⟩
  | .local _ .vmem, ⟨2, _⟩ => ⟨S1024x1024, .bf16⟩
  | .local _ .vmem, ⟨3, _⟩ => ⟨S1024x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S256x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference13Ideal.lean ====
abbrev S4096x1024 : Shape := ⟨2, ![4096, 1024]⟩
abbrev S_ : Shape := ⟨0, ![]⟩
abbrev S4x256x1024 : Shape := ⟨3, ![4, 256, 1024]⟩
abbrev S1024x1024 : Shape := ⟨2, ![1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S4x256x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S1024x1024, .f32⟩
  | .hbm, ⟨9, _⟩ => ⟨S1024x1024, .f32⟩
  | .hbm, ⟨10, _⟩ => ⟨S4x256x1024, .f32⟩
  | .hbm, ⟨11, _⟩ => ⟨S4x256x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel14.lean ====
abbrev S4096x512 : Shape := ⟨2, ![4096, 512]⟩
abbrev S4096x1024 : Shape := ⟨2, ![4096, 1024]⟩
abbrev S4x512x256 : Shape := ⟨3, ![4, 512, 256]⟩
abbrev S1024x512 : Shape := ⟨2, ![1024, 512]⟩
abbrev S1024x256 : Shape := ⟨2, ![1024, 256]⟩
abbrev S1x512x256 : Shape := ⟨3, ![1, 512, 256]⟩
abbrev S512x256 : Shape := ⟨2, ![512, 256]⟩

abbrev nBuf : Space → Nat
  | .hbm => 3
  | .vmem => 7
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S4x512x256, .bf16⟩
  | .local _ .vmem, ⟨0, _⟩ => ⟨S1024x512, .bf16⟩
  | .local _ .vmem, ⟨1, _⟩ => ⟨S1024x512, .bf16⟩
  | .local _ .vmem, ⟨2, _⟩ => ⟨S1024x256, .bf16⟩
  | .local _ .vmem, ⟨3, _⟩ => ⟨S1024x256, .bf16⟩
  | .local _ .vmem, ⟨4, _⟩ => ⟨S1x512x256, .bf16⟩
  | .local _ .vmem, ⟨5, _⟩ => ⟨S1x512x256, .bf16⟩
  | .local _ .vmem, ⟨6, _⟩ => ⟨S512x256, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference14Ideal.lean ====
abbrev S4096x512 : Shape := ⟨2, ![4096, 512]⟩
abbrev S4096x1024 : Shape := ⟨2, ![4096, 1024]⟩
abbrev S_ : Shape := ⟨0, ![]⟩
abbrev S4x512x256 : Shape := ⟨3, ![4, 512, 256]⟩
abbrev S4096x4x256 : Shape := ⟨3, ![4096, 4, 256]⟩
abbrev S4x256x512 : Shape := ⟨3, ![4, 256, 512]⟩

abbrev nBuf : Space → Nat
  | .hbm => 11
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S_, .f32⟩
  | .hbm, ⟨3, _⟩ => ⟨S4x512x256, .f32⟩
  | .hbm, ⟨4, _⟩ => ⟨S4096x512, .f32⟩
  | .hbm, ⟨5, _⟩ => ⟨S4096x4x256, .f32⟩
  | .hbm, ⟨6, _⟩ => ⟨S4096x1024, .f32⟩
  | .hbm, ⟨7, _⟩ => ⟨S4096x4x256, .f32⟩
  | .hbm, ⟨8, _⟩ => ⟨S4x256x512, .f32⟩
  | .hbm, ⟨9, _⟩ => ⟨S4x512x256, .f32⟩
  | .hbm, ⟨10, _⟩ => ⟨S4x512x256, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel15.lean ====
abbrev S4096x1024 : Shape := ⟨2, ![4096, 1024]⟩
abbrev S4x512x256 : Shape := ⟨3, ![4, 512, 256]⟩
abbrev S4096x512 : Shape := ⟨2, ![4096, 512]⟩
abbrev S1024x256 : Shape := ⟨2, ![1024, 256]⟩
abbrev S1x512x256 : Shape := ⟨3, ![1, 512, 256]⟩
abbrev S1024x512 : Shape := ⟨2, ![1024, 512]⟩
abbrev S512x256 : Shape := ⟨2, ![512, 256]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4x512x256, .bf16⟩
  | .hbm, ⟨2, _⟩ => ⟨S4096x512, .bf16⟩
  | .local _ .vmem, ⟨0, _⟩ => ⟨S1024x256, .bf16⟩
  | .local _ .vmem, ⟨1, _⟩ => ⟨S1024x256, .bf16⟩
  | .local _ .vmem, ⟨2, _⟩ => ⟨S1x512x256, .bf16⟩
  | .local _ .vmem, ⟨3, _⟩ => ⟨S1x512x256, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference15Ideal.lean ====
abbrev S4096x1024 : Shape := ⟨2, ![4096, 1024]⟩
abbrev S4x512x256 : Shape := ⟨3, ![4, 512, 256]⟩
abbrev S_ : Shape := ⟨0, ![]⟩
abbrev S4096x512 : Shape := ⟨2, ![4096, 512]⟩
abbrev S4096x4x256 : Shape := ⟨3, ![4096, 4, 256]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x512x256, .bf16⟩
  | .hbm, ⟨2, _⟩ => ⟨S_, .f32⟩
  | .hbm, ⟨3, _⟩ => ⟨S4096x512, .f32⟩
  | .hbm, ⟨4, _⟩ => ⟨S4x512x256, .f32⟩
  | .hbm, ⟨5, _⟩ => ⟨S4096x4x256, .f32⟩
  | .hbm, ⟨6, _⟩ => ⟨S4096x1024, .f32⟩
  | .hbm, ⟨7, _⟩ => ⟨S4096x4x256, .f32⟩
  | .hbm, ⟨8, _⟩ => ⟨S4096x512, .f32⟩
  | .hbm, ⟨9, _⟩ => ⟨S4096x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel16.lean ====
abbrev S4096x1024 : Shape := ⟨2, ![4096, 1024]⟩
abbrev S4x256x1024 : Shape := ⟨3, ![4, 256, 1024]⟩
abbrev S4096x2304 : Shape := ⟨2, ![4096, 2304]⟩
abbrev S1024x1024 : Shape := ⟨2, ![1024, 1024]⟩
abbrev S1x256x1024 : Shape := ⟨3, ![1, 256, 1024]⟩
abbrev S1024x256 : Shape := ⟨2, ![1024, 256]⟩
abbrev S256x1024 : Shape := ⟨2, ![256, 1024]⟩

abbrev nBuf : Space → Nat
  | .hbm => 9
  | .vmem => 21
  | .smem => 0
  | _ => 0

abbrev bufTy : (tb : Table) → Fin (tcTables nBuf tb) → BufTy
  | .hbm, ⟨0, _⟩ => ⟨S4096x1024, .bf16⟩
  | .hbm, ⟨1, _⟩ => ⟨S4x256x1024, .bf16⟩
  | .hbm, ⟨2, _⟩ => ⟨S4096x1024, .bf16⟩
  | .hbm, ⟨3, _⟩ => ⟨S4096x1024, .bf16⟩
  | .hbm, ⟨4, _⟩ => ⟨S4096x2304, .f32⟩
  | .hbm, ⟨5, _⟩ => ⟨S4096x1024, .bf16⟩
  | .hbm, ⟨6, _⟩ => ⟨S4096x1024, .bf16⟩
  | .hbm, ⟨7, _⟩ => ⟨S4096x1024, .bf16⟩
  | .hbm, ⟨8, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .bf16⟩
  | .local _ .vmem, ⟨13, _⟩ => ⟨S1024x256, .bf16⟩
  | .local _ .vmem, ⟨14, _⟩ => ⟨S1024x256, .bf16⟩
  | .local _ .vmem, ⟨15, _⟩ => ⟨S1024x256, .bf16⟩
  | .local _ .vmem, ⟨16, _⟩ => ⟨S1024x256, .bf16⟩
  | .local _ .vmem, ⟨17, _⟩ => ⟨S1024x256, .bf16⟩
  | .local _ .vmem, ⟨18, _⟩ => ⟨S1024x256, .bf16⟩
  | .local _ .vmem, ⟨19, _⟩ => ⟨S1024x256, .bf16⟩
  | .local _ .vmem, ⟨20, _⟩ => ⟨S1024x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg1 c4_i32
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== Reference16Ideal.lean ====
abbrev S4096x1024 : Shape := ⟨2, ![4096, 1024]⟩
abbrev S4x256x1024 : Shape := ⟨3, ![4, 256, 1024]⟩
abbrev S4096x2304 : Shape := ⟨2, ![4096, 2304]⟩
abbrev S_ : Shape := ⟨0, ![]⟩
abbrev S1024x1024 : Shape := ⟨2, ![1024, 1024]⟩

abbrev nBuf : Space → Nat
  | .hbm => 51
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x256x1024, .bf16⟩
  | .hbm, ⟨2, _⟩ => ⟨S4096x1024, .bf16⟩
  | .hbm, ⟨3, _⟩ => ⟨S4096x1024, .bf16⟩
  | .hbm, ⟨4, _⟩ => ⟨S4096x2304, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4x256x1024, .f32⟩
  | .hbm, ⟨37, _⟩ => ⟨S1024x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .bf16⟩
  | .hbm, ⟨48, _⟩ => ⟨S4096x1024, .bf16⟩
  | .hbm, ⟨49, _⟩ => ⟨S4096x1024, .bf16⟩
  | .hbm, ⟨50, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]
-- ==== Kernel17.lean ====
abbrev S4096x1024 : Shape := ⟨2, ![4096, 1024]⟩
abbrev S4x256x1024 : Shape := ⟨3, ![4, 256, 1024]⟩
abbrev S1x1024 : Shape := ⟨2, ![1, 1024]⟩
abbrev S1024x256 : Shape := ⟨2, ![1024, 256]⟩
abbrev S1x256x1024 : Shape := ⟨3, ![1, 256, 1024]⟩
abbrev S1024x1024 : Shape := ⟨2, ![1024, 1024]⟩
abbrev S256x1024 : Shape := ⟨2, ![256, 1024]⟩
abbrev S1024 : Shape := ⟨1, ![1024]⟩
abbrev S1024x1 : Shape := ⟨2, ![1024, 1]⟩

abbrev nBuf : Space → Nat
  | .hbm => 7
  | .vmem => 13
  | .smem => 0
  | _ => 0

abbrev bufTy : (tb : Table) → Fin (tcTables nBuf tb) → BufTy
  | .hbm, ⟨0, _⟩ => ⟨S4096x1024, .bf16⟩
  | .hbm, ⟨1, _⟩ => ⟨S4x256x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1024, .f32⟩
  | .local _ .vmem, ⟨0, _⟩ => ⟨S1024x256, .bf16⟩
  | .local _ .vmem, ⟨1, _⟩ => ⟨S1024x256, .bf16⟩
  | .local _ .vmem, ⟨2, _⟩ => ⟨S1x256x1024, .bf16⟩
  | .local _ .vmem, ⟨3, _⟩ => ⟨S1x256x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]
-- ==== Reference17Ideal.lean ====
abbrev S4096x1024 : Shape := ⟨2, ![4096, 1024]⟩
abbrev S4x256x1024 : Shape := ⟨3, ![4, 256, 1024]⟩
abbrev S1x1024 : Shape := ⟨2, ![1, 1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x256x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4x256x1024, .f32⟩
  | .hbm, ⟨7, _⟩ => ⟨S1024x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel18.lean ====
abbrev S4096x512 : Shape := ⟨2, ![4096, 512]⟩
abbrev S4x512x256 : Shape := ⟨3, ![4, 512, 256]⟩
abbrev S4096x2304 : Shape := ⟨2, ![4096, 2304]⟩
abbrev S4096x1024 : Shape := ⟨2, ![4096, 1024]⟩
abbrev S1024x512 : Shape := ⟨2, ![1024, 512]⟩
abbrev S1x512x256 : Shape := ⟨3, ![1, 512, 256]⟩
abbrev S1024x256 : Shape := ⟨2, ![1024, 256]⟩
abbrev S512x256 : Shape := ⟨2, ![512, 256]⟩

abbrev nBuf : Space → Nat
  | .hbm => 8
  | .vmem => 19
  | .smem => 0
  | _ => 0

abbrev bufTy : (tb : Table) → Fin (tcTables nBuf tb) → BufTy
  | .hbm, ⟨0, _⟩ => ⟨S4096x512, .bf16⟩
  | .hbm, ⟨1, _⟩ => ⟨S4x512x256, .bf16⟩
  | .hbm, ⟨2, _⟩ => ⟨S4096x512, .bf16⟩
  | .hbm, ⟨3, _⟩ => ⟨S4x512x256, .bf16⟩
  | .hbm, ⟨4, _⟩ => ⟨S4096x2304, .f32⟩
  | .hbm, ⟨5, _⟩ => ⟨S4096x1024, .bf16⟩
  | .hbm, ⟨6, _⟩ => ⟨S4096x1024, .bf16⟩
  | .hbm, ⟨7, _⟩ => ⟨S4096x1024, .bf16⟩
  | .local _ .vmem, ⟨0, _⟩ => ⟨S1024x512, .bf16⟩
  | .local _ .vmem, ⟨1, _⟩ => ⟨S1024x512, .bf16⟩
  | .local _ .vmem, ⟨2, _⟩ => ⟨S1x512x256, .bf16⟩
  | .local _ .vmem, ⟨3, _⟩ => ⟨S1x512x256, .bf16⟩
  | .local _ .vmem, ⟨4, _⟩ => ⟨S1024x512, .bf16⟩
  | .local _ .vmem, ⟨5, _⟩ => ⟨S1024x512, .bf16⟩
  | .local _ .vmem, ⟨6, _⟩ => ⟨S1x512x256, .bf16⟩
  | .local _ .vmem, ⟨7, _⟩ => ⟨S1x512x256, .bf16⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .bf16⟩
  | .local _ .vmem, ⟨13, _⟩ => ⟨S1024x256, .bf16⟩
  | .local _ .vmem, ⟨14, _⟩ => ⟨S1024x256, .bf16⟩
  | .local _ .vmem, ⟨15, _⟩ => ⟨S1024x256, .bf16⟩
  | .local _ .vmem, ⟨16, _⟩ => ⟨S1024x256, .bf16⟩
  | .local _ .vmem, ⟨17, _⟩ => ⟨S1024x256, .bf16⟩
  | .local _ .vmem, ⟨18, _⟩ => ⟨S1024x256, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg1 c4_i32
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== Reference18Ideal.lean ====
abbrev S4096x512 : Shape := ⟨2, ![4096, 512]⟩
abbrev S4x512x256 : Shape := ⟨3, ![4, 512, 256]⟩
abbrev S4096x2304 : Shape := ⟨2, ![4096, 2304]⟩
abbrev S4096x4x256 : Shape := ⟨3, ![4096, 4, 256]⟩
abbrev S4096x1024 : Shape := ⟨2, ![4096, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4x512x256, .bf16⟩
  | .hbm, ⟨2, _⟩ => ⟨S4096x512, .bf16⟩
  | .hbm, ⟨3, _⟩ => ⟨S4x512x256, .bf16⟩
  | .hbm, ⟨4, _⟩ => ⟨S4096x2304, .f32⟩
  | .hbm, ⟨5, _⟩ => ⟨S4096x512, .f32⟩
  | .hbm, ⟨6, _⟩ => ⟨S4x512x256, .f32⟩
  | .hbm, ⟨7, _⟩ => ⟨S4096x4x256, .f32⟩
  | .hbm, ⟨8, _⟩ => ⟨S4096x1024, .f32⟩
  | .hbm, ⟨9, _⟩ => ⟨S4096x512, .f32⟩
  | .hbm, ⟨10, _⟩ => ⟨S4x512x256, .f32⟩
  | .hbm, ⟨11, _⟩ => ⟨S4096x4x256, .f32⟩
  | .hbm, ⟨12, _⟩ => ⟨S4096x1024, .f32⟩
  | .hbm, ⟨13, _⟩ => ⟨S4096x1024, .bf16⟩
  | .hbm, ⟨14, _⟩ => ⟨S4096x1024, .bf16⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== Kernel2.lean ====
abbrev S4096x1024 : Shape := ⟨2, ![4096, 1024]⟩
abbrev S4x704x1024 : Shape := ⟨3, ![4, 704, 1024]⟩
abbrev S4x4096x704 : Shape := ⟨3, ![4, 4096, 704]⟩
abbrev S1024x1024 : Shape := ⟨2, ![1024, 1024]⟩
abbrev S1x704x1024 : Shape := ⟨3, ![1, 704, 1024]⟩
abbrev S1x1024x704 : Shape := ⟨3, ![1, 1024, 704]⟩
abbrev S1024x704 : Shape := ⟨2, ![1024, 704]⟩
abbrev S704x1024 : Shape := ⟨2, ![704, 1024]⟩

abbrev nBuf : Space → Nat
  | .hbm => 6
  | .vmem => 13
  | .smem => 0
  | _ => 0

abbrev bufTy : (tb : Table) → Fin (tcTables nBuf tb) → BufTy
  | .hbm, ⟨0, _⟩ => ⟨S4096x1024, .bf16⟩
  | .hbm, ⟨1, _⟩ => ⟨S4x704x1024, .bf16⟩
  | .hbm, ⟨2, _⟩ => ⟨S4x4096x704, .bf16⟩
  | .hbm, ⟨3, _⟩ => ⟨S4x4096x704, .bf16⟩
  | .hbm, ⟨4, _⟩ => ⟨S4x4096x704, .bf16⟩
  | .hbm, ⟨5, _⟩ => ⟨S4x4096x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x704x1024, .bf16⟩
  | .local _ .vmem, ⟨3, _⟩ => ⟨S1x704x1024, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | .local _ .vmem, ⟨12, _⟩ => ⟨S1024x704, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference2Ideal.lean ====
abbrev S4096x1024 : Shape := ⟨2, ![4096, 1024]⟩
abbrev S4x704x1024 : Shape := ⟨3, ![4, 704, 1024]⟩
abbrev S4x4096x704 : Shape := ⟨3, ![4, 4096, 704]⟩
abbrev S_ : Shape := ⟨0, ![]⟩
abbrev S4096x4x704 : Shape := ⟨3, ![4096, 4, 704]⟩

abbrev nBuf : Space → Nat
  | .hbm => 33
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x704x1024, .bf16⟩
  | .hbm, ⟨2, _⟩ => ⟨S4x4096x704, .bf16⟩
  | .hbm, ⟨3, _⟩ => ⟨S4x4096x704, .bf16⟩
  | .hbm, ⟨4, _⟩ => ⟨S4x4096x704, .f32⟩
  | .hbm, ⟨5, _⟩ => ⟨S4x4096x704, .f32⟩
  | .hbm, ⟨6, _⟩ => ⟨S4x4096x704, .f32⟩
  | .hbm, ⟨7, _⟩ => ⟨S4x4096x704, .f32⟩
  | .hbm, ⟨8, _⟩ => ⟨S_, .f32⟩
  | .hbm, ⟨9, _⟩ => ⟨S4x4096x704, .f32⟩
  | .hbm, ⟨10, _⟩ => ⟨S4x4096x704, .f32⟩
  | .hbm, ⟨11, _⟩ => ⟨S_, .f32⟩
  | .hbm, ⟨12, _⟩ => ⟨S4x4096x704, .f32⟩
  | .hbm, ⟨13, _⟩ => ⟨S4x4096x704, .f32⟩
  | .hbm, ⟨14, _⟩ => ⟨S_, .f32⟩
  | .hbm, ⟨15, _⟩ => ⟨S4x4096x704, .f32⟩
  | .hbm, ⟨16, _⟩ => ⟨S4x4096x704, .f32⟩
  | .hbm, ⟨17, _⟩ => ⟨S4x4096x704, .f32⟩
  | .hbm, ⟨18, _⟩ => ⟨S4x4096x704, .f32⟩
  | .hbm, ⟨19, _⟩ => ⟨S4x4096x704, .f32⟩
  | .hbm, ⟨20, _⟩ => ⟨S4x704x1024, .f32⟩
  | .hbm, ⟨21, _⟩ => ⟨S4096x1024, .f32⟩
  | .hbm, ⟨22, _⟩ => ⟨S4096x1024, .f32⟩
  | .hbm, ⟨23, _⟩ => ⟨S4096x4x704, .f32⟩
  | .hbm, ⟨24, _⟩ => ⟨S4x4096x704, .f32⟩
  | .hbm, ⟨25, _⟩ => ⟨S4x4096x704, .f32⟩
  | .hbm, ⟨26, _⟩ => ⟨S4x4096x704, .f32⟩
  | .hbm, ⟨27, _⟩ => ⟨S4x4096x704, .f32⟩
  | .hbm, ⟨28, _⟩ => ⟨S4x4096x704, .f32⟩
  | .hbm, ⟨29, _⟩ => ⟨S4x4096x704, .f32⟩
  | .hbm, ⟨30, _⟩ => ⟨S4x4096x704, .f32⟩
  | .hbm, ⟨31, _⟩ => ⟨S4x4096x704, .bf16⟩
  | .hbm, ⟨32, _⟩ => ⟨S4x4096x704, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩

abbrev nD : Nat := 1
abbrev τ : Topo := Topo.v7x

variable {F : FTy → Type} [FloatOps F]
-- ==== Kernel19.lean ====
abbrev S2x704x1024 : Shape := ⟨3, ![2, 704, 1024]⟩
abbrev S1x176x1024 : Shape := ⟨3, ![1, 176, 1024]⟩
abbrev S176x1024 : Shape := ⟨2, ![176, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S2x704x1024, .f32⟩
  | .hbm, ⟨5, _⟩ => ⟨S2x704x1024, .f32⟩
  | .hbm, ⟨6, _⟩ => ⟨S2x704x1024, .f32⟩
  | .local _ .vmem, ⟨0, _⟩ => ⟨S1x176x1024, .f32⟩
  | .local _ .vmem, ⟨1, _⟩ => ⟨S1x176x1024, .f32⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel19Ideal.lean ====
abbrev S2x704x1024 : Shape := ⟨3, ![2, 704, 1024]⟩
abbrev S1x176x1024 : Shape := ⟨3, ![1, 176, 1024]⟩
abbrev S176x1024 : Shape := ⟨2, ![176, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S2x704x1024, .f32⟩
  | .hbm, ⟨5, _⟩ => ⟨S2x704x1024, .f32⟩
  | .hbm, ⟨6, _⟩ => ⟨S2x704x1024, .f32⟩
  | .local _ .vmem, ⟨0, _⟩ => ⟨S1x176x1024, .f32⟩
  | .local _ .vmem, ⟨1, _⟩ => ⟨S1x176x1024, .f32⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference19Ideal.lean ====
abbrev S2x704x1024 : Shape := ⟨3, ![2, 704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S_, .f32⟩
  | .hbm, ⟨5, _⟩ => ⟨S2x704x1024, .f32⟩
  | .hbm, ⟨6, _⟩ => ⟨S2x704x1024, .f32⟩
  | .hbm, ⟨7, _⟩ => ⟨S_, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .hbm, ⟨11, _⟩ => ⟨S_, .f32⟩
  | .hbm, ⟨12, _⟩ => ⟨S2x704x1024, .f32⟩
  | .hbm, ⟨13, _⟩ => ⟨S2x704x1024, .f32⟩
  | .hbm, ⟨14, _⟩ => ⟨S2x704x1024, .f32⟩
  | .hbm, ⟨15, _⟩ => ⟨S_, .f32⟩
  | .hbm, ⟨16, _⟩ => ⟨S2x704x1024, .f32⟩
  | .hbm, ⟨17, _⟩ => ⟨S2x704x1024, .f32⟩
  | .hbm, ⟨18, _⟩ => ⟨S2x704x1024, .f32⟩
  | .hbm, ⟨19, _⟩ => ⟨S_, .f32⟩
  | .hbm, ⟨20, _⟩ => ⟨S2x704x1024, .f32⟩
  | .hbm, ⟨21, _⟩ => ⟨S2x704x1024, .f32⟩
  | .hbm, ⟨22, _⟩ => ⟨S_, .f32⟩
  | .hbm, ⟨23, _⟩ => ⟨S2x704x1024, .f32⟩
  | .hbm, ⟨24, _⟩ => ⟨S2x704x1024, .f32⟩
  | .hbm, ⟨25, _⟩ => ⟨S2x704x1024, .f32⟩
  | .hbm, ⟨26, _⟩ => ⟨S_, .f32⟩
  | .hbm, ⟨27, _⟩ => ⟨S2x704x1024, .f32⟩
  | .hbm, ⟨28, _⟩ => ⟨S2x704x1024, .f32⟩
  | .hbm, ⟨29, _⟩ => ⟨S2x704x1024, .f32⟩
  | .hbm, ⟨30, _⟩ => ⟨S_, .f32⟩
  | .hbm, ⟨31, _⟩ => ⟨S2x704x1024, .f32⟩
  | .hbm, ⟨32, _⟩ => ⟨S2x704x1024, .f32⟩
  | .hbm, ⟨33, _⟩ => ⟨S2x704x1024, .f32⟩
  | .hbm, ⟨34, _⟩ => ⟨S_, .f32⟩
  | .hbm, ⟨35, _⟩ => ⟨S2x704x1024, .f32⟩
  | .hbm, ⟨36, _⟩ => ⟨S2x704x1024, .f32⟩
  | _, _ => ⟨S2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel20.lean ====
abbrev S2x512x256 : Shape := ⟨3, ![2, 512, 256]⟩
abbrev S1x512x256 : Shape := ⟨3, ![1, 512, 256]⟩
abbrev S512x256 : Shape := ⟨2, ![512, 256]⟩

abbrev nBuf : Space → Nat
  | .hbm => 7
  | .vmem => 14
  | .smem => 0
  | _ => 0

abbrev bufTy : (tb : Table) → Fin (tcTables nBuf tb) → BufTy
  | .hbm, ⟨0, _⟩ => ⟨S2x512x256, .f32⟩
  | .hbm, ⟨1, _⟩ => ⟨S2x512x256, .f32⟩
  | .hbm, ⟨2, _⟩ => ⟨S2x512x256, .f32⟩
  | .hbm, ⟨3, _⟩ => ⟨S2x512x256, .f32⟩
  | .hbm, ⟨4, _⟩ => ⟨S2x512x256, .f32⟩
  | .hbm, ⟨5, _⟩ => ⟨S2x512x256, .f32⟩
  | .hbm, ⟨6, _⟩ => ⟨S2x512x256, .f32⟩
  | .local _ .vmem, ⟨0, _⟩ => ⟨S1x512x256, .f32⟩
  | .local _ .vmem, ⟨1, _⟩ => ⟨S1x512x256, .f32⟩
  | .local _ .vmem, ⟨2, _⟩ => ⟨S1x512x256, .f32⟩
  | .local _ .vmem, ⟨3, _⟩ => ⟨S1x512x256, .f32⟩
  | .local _ .vmem, ⟨4, _⟩ => ⟨S1x512x256, .f32⟩
  | .local _ .vmem, ⟨5, _⟩ => ⟨S1x512x256, .f32⟩
  | .local _ .vmem, ⟨6, _⟩ => ⟨S1x512x256, .f32⟩
  | .local _ .vmem, ⟨7, _⟩ => ⟨S1x512x256, .f32⟩
  | .local _ .vmem, ⟨8, _⟩ => ⟨S1x512x256, .f32⟩
  | .local _ .vmem, ⟨9, _⟩ => ⟨S1x512x256, .f32⟩
  | .local _ .vmem, ⟨10, _⟩ => ⟨S1x512x256, .f32⟩
  | .local _ .vmem, ⟨11, _⟩ => ⟨S1x512x256, .f32⟩
  | .local _ .vmem, ⟨12, _⟩ => ⟨S1x512x256, .f32⟩
  | .local _ .vmem, ⟨13, _⟩ => ⟨S1x512x256, .f32⟩
  | _, _ => ⟨S2x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel20Ideal.lean ====
abbrev S2x512x256 : Shape := ⟨3, ![2, 512, 256]⟩
abbrev S1x512x256 : Shape := ⟨3, ![1, 512, 256]⟩
abbrev S512x256 : Shape := ⟨2, ![512, 256]⟩

abbrev nBuf : Space → Nat
  | .hbm => 7
  | .vmem => 14
  | .smem => 0
  | _ => 0

abbrev bufTy : (tb : Table) → Fin (tcTables nBuf tb) → BufTy
  | .hbm, ⟨0, _⟩ => ⟨S2x512x256, .f32⟩
  | .hbm, ⟨1, _⟩ => ⟨S2x512x256, .f32⟩
  | .hbm, ⟨2, _⟩ => ⟨S2x512x256, .f32⟩
  | .hbm, ⟨3, _⟩ => ⟨S2x512x256, .f32⟩
  | .hbm, ⟨4, _⟩ => ⟨S2x512x256, .f32⟩
  | .hbm, ⟨5, _⟩ => ⟨S2x512x256, .f32⟩
  | .hbm, ⟨6, _⟩ => ⟨S2x512x256, .f32⟩
  | .local _ .vmem, ⟨0, _⟩ => ⟨S1x512x256, .f32⟩
  | .local _ .vmem, ⟨1, _⟩ => ⟨S1x512x256, .f32⟩
  | .local _ .vmem, ⟨2, _⟩ => ⟨S1x512x256, .f32⟩
  | .local _ .vmem, ⟨3, _⟩ => ⟨S1x512x256, .f32⟩
  | .local _ .vmem, ⟨4, _⟩ => ⟨S1x512x256, .f32⟩
  | .local _ .vmem, ⟨5, _⟩ => ⟨S1x512x256, .f32⟩
  | .local _ .vmem, ⟨6, _⟩ => ⟨S1x512x256, .f32⟩
  | .local _ .vmem, ⟨7, _⟩ => ⟨S1x512x256, .f32⟩
  | .local _ .vmem, ⟨8, _⟩ => ⟨S1x512x256, .f32⟩
  | .local _ .vmem, ⟨9, _⟩ => ⟨S1x512x256, .f32⟩
  | .local _ .vmem, ⟨10, _⟩ => ⟨S1x512x256, .f32⟩
  | .local _ .vmem, ⟨11, _⟩ => ⟨S1x512x256, .f32⟩
  | .local _ .vmem, ⟨12, _⟩ => ⟨S1x512x256, .f32⟩
  | .local _ .vmem, ⟨13, _⟩ => ⟨S1x512x256, .f32⟩
  | _, _ => ⟨S2x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference20Ideal.lean ====
abbrev S2x512x256 : Shape := ⟨3, ![2, 512, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x512x256, .f32⟩
  | .hbm, ⟨1, _⟩ => ⟨S2x512x256, .f32⟩
  | .hbm, ⟨2, _⟩ => ⟨S2x512x256, .f32⟩
  | .hbm, ⟨3, _⟩ => ⟨S2x512x256, .f32⟩
  | .hbm, ⟨4, _⟩ => ⟨S_, .f32⟩
  | .hbm, ⟨5, _⟩ => ⟨S2x512x256, .f32⟩
  | .hbm, ⟨6, _⟩ => ⟨S2x512x256, .f32⟩
  | .hbm, ⟨7, _⟩ => ⟨S_, .f32⟩
  | .hbm, ⟨8, _⟩ => ⟨S2x512x256, .f32⟩
  | .hbm, ⟨9, _⟩ => ⟨S2x512x256, .f32⟩
  | .hbm, ⟨10, _⟩ => ⟨S2x512x256, .f32⟩
  | .hbm, ⟨11, _⟩ => ⟨S_, .f32⟩
  | .hbm, ⟨12, _⟩ => ⟨S2x512x256, .f32⟩
  | .hbm, ⟨13, _⟩ => ⟨S2x512x256, .f32⟩
  | .hbm, ⟨14, _⟩ => ⟨S2x512x256, .f32⟩
  | .hbm, ⟨15, _⟩ => ⟨S_, .f32⟩
  | .hbm, ⟨16, _⟩ => ⟨S2x512x256, .f32⟩
  | .hbm, ⟨17, _⟩ => ⟨S2x512x256, .f32⟩
  | .hbm, ⟨18, _⟩ => ⟨S2x512x256, .f32⟩
  | .hbm, ⟨19, _⟩ => ⟨S_, .f32⟩
  | .hbm, ⟨20, _⟩ => ⟨S2x512x256, .f32⟩
  | .hbm, ⟨21, _⟩ => ⟨S2x512x256, .f32⟩
  | .hbm, ⟨22, _⟩ => ⟨S_, .f32⟩
  | .hbm, ⟨23, _⟩ => ⟨S2x512x256, .f32⟩
  | .hbm, ⟨24, _⟩ => ⟨S2x512x256, .f32⟩
  | .hbm, ⟨25, _⟩ => ⟨S2x512x256, .f32⟩
  | .hbm, ⟨26, _⟩ => ⟨S_, .f32⟩
  | .hbm, ⟨27, _⟩ => ⟨S2x512x256, .f32⟩
  | .hbm, ⟨28, _⟩ => ⟨S2x512x256, .f32⟩
  | .hbm, ⟨29, _⟩ => ⟨S2x512x256, .f32⟩
  | .hbm, ⟨30, _⟩ => ⟨S_, .f32⟩
  | .hbm, ⟨31, _⟩ => ⟨S2x512x256, .f32⟩
  | .hbm, ⟨32, _⟩ => ⟨S2x512x256, .f32⟩
  | .hbm, ⟨33, _⟩ => ⟨S2x512x256, .f32⟩
  | .hbm, ⟨34, _⟩ => ⟨S_, .f32⟩
  | .hbm, ⟨35, _⟩ => ⟨S2x512x256, .f32⟩
  | .hbm, ⟨36, _⟩ => ⟨S2x512x256, .f32⟩
  | _, _ => ⟨S2x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S2x256x1024 : Shape := ⟨3, ![2, 256, 1024]⟩
abbrev S1x256x1024 : Shape := ⟨3, ![1, 256, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel21Ideal.lean ====
abbrev S2x256x1024 : Shape := ⟨3, ![2, 256, 1024]⟩
abbrev S1x256x1024 : Shape := ⟨3, ![1, 256, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference21Ideal.lean ====
abbrev S2x256x1024 : Shape := ⟨3, ![2, 256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S_, .f32⟩
  | .hbm, ⟨5, _⟩ => ⟨S2x256x1024, .f32⟩
  | .hbm, ⟨6, _⟩ => ⟨S2x256x1024, .f32⟩
  | .hbm, ⟨7, _⟩ => ⟨S_, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S2x128x512 : Shape := ⟨3, ![2, 128, 512]⟩
abbrev S1x128x512 : Shape := ⟨3, ![1, 128, 512]⟩
abbrev S128x512 : Shape := ⟨2, ![128, 512]⟩

abbrev nBuf : Space → Nat
  | .hbm => 7
  | .vmem => 14
  | .smem => 0
  | _ => 0

abbrev bufTy : (tb : Table) → Fin (tcTables nBuf tb) → BufTy
  | .hbm, ⟨0, _⟩ => ⟨S2x128x512, .f32⟩
  | .hbm, ⟨1, _⟩ => ⟨S2x128x512, .f32⟩
  | .hbm, ⟨2, _⟩ => ⟨S2x128x512, .f32⟩
  | .hbm, ⟨3, _⟩ => ⟨S2x128x512, .f32⟩
  | .hbm, ⟨4, _⟩ => ⟨S2x128x512, .f32⟩
  | .hbm, ⟨5, _⟩ => ⟨S2x128x512, .f32⟩
  | .hbm, ⟨6, _⟩ => ⟨S2x128x512, .f32⟩
  | .local _ .vmem, ⟨0, _⟩ => ⟨S1x128x512, .f32⟩
  | .local _ .vmem, ⟨1, _⟩ => ⟨S1x128x512, .f32⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | .local _ .vmem, ⟨6, _⟩ => ⟨S1x128x512, .f32⟩
  | .local _ .vmem, ⟨7, _⟩ => ⟨S1x128x512, .f32⟩
  | .local _ .vmem, ⟨8, _⟩ => ⟨S1x128x512, .f32⟩
  | .local _ .vmem, ⟨9, _⟩ => ⟨S1x128x512, .f32⟩
  | .local _ .vmem, ⟨10, _⟩ => ⟨S1x128x512, .f32⟩
  | .local _ .vmem, ⟨11, _⟩ => ⟨S1x128x512, .f32⟩
  | .local _ .vmem, ⟨12, _⟩ => ⟨S1x128x512, .f32⟩
  | .local _ .vmem, ⟨13, _⟩ => ⟨S1x128x512, .f32⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel22Ideal.lean ====
abbrev S2x128x512 : Shape := ⟨3, ![2, 128, 512]⟩
abbrev S1x128x512 : Shape := ⟨3, ![1, 128, 512]⟩
abbrev S128x512 : Shape := ⟨2, ![128, 512]⟩

abbrev nBuf : Space → Nat
  | .hbm => 7
  | .vmem => 14
  | .smem => 0
  | _ => 0

abbrev bufTy : (tb : Table) → Fin (tcTables nBuf tb) → BufTy
  | .hbm, ⟨0, _⟩ => ⟨S2x128x512, .f32⟩
  | .hbm, ⟨1, _⟩ => ⟨S2x128x512, .f32⟩
  | .hbm, ⟨2, _⟩ => ⟨S2x128x512, .f32⟩
  | .hbm, ⟨3, _⟩ => ⟨S2x128x512, .f32⟩
  | .hbm, ⟨4, _⟩ => ⟨S2x128x512, .f32⟩
  | .hbm, ⟨5, _⟩ => ⟨S2x128x512, .f32⟩
  | .hbm, ⟨6, _⟩ => ⟨S2x128x512, .f32⟩
  | .local _ .vmem, ⟨0, _⟩ => ⟨S1x128x512, .f32⟩
  | .local _ .vmem, ⟨1, _⟩ => ⟨S1x128x512, .f32⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | .local _ .vmem, ⟨6, _⟩ => ⟨S1x128x512, .f32⟩
  | .local _ .vmem, ⟨7, _⟩ => ⟨S1x128x512, .f32⟩
  | .local _ .vmem, ⟨8, _⟩ => ⟨S1x128x512, .f32⟩
  | .local _ .vmem, ⟨9, _⟩ => ⟨S1x128x512, .f32⟩
  | .local _ .vmem, ⟨10, _⟩ => ⟨S1x128x512, .f32⟩
  | .local _ .vmem, ⟨11, _⟩ => ⟨S1x128x512, .f32⟩
  | .local _ .vmem, ⟨12, _⟩ => ⟨S1x128x512, .f32⟩
  | .local _ .vmem, ⟨13, _⟩ => ⟨S1x128x512, .f32⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference22Ideal.lean ====
abbrev S2x128x512 : Shape := ⟨3, ![2, 128, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x128x512, .f32⟩
  | .hbm, ⟨1, _⟩ => ⟨S2x128x512, .f32⟩
  | .hbm, ⟨2, _⟩ => ⟨S2x128x512, .f32⟩
  | .hbm, ⟨3, _⟩ => ⟨S2x128x512, .f32⟩
  | .hbm, ⟨4, _⟩ => ⟨S_, .f32⟩
  | .hbm, ⟨5, _⟩ => ⟨S2x128x512, .f32⟩
  | .hbm, ⟨6, _⟩ => ⟨S2x128x512, .f32⟩
  | .hbm, ⟨7, _⟩ => ⟨S_, .f32⟩
  | .hbm, ⟨8, _⟩ => ⟨S2x128x512, .f32⟩
  | .hbm, ⟨9, _⟩ => ⟨S2x128x512, .f32⟩
  | .hbm, ⟨10, _⟩ => ⟨S2x128x512, .f32⟩
  | .hbm, ⟨11, _⟩ => ⟨S_, .f32⟩
  | .hbm, ⟨12, _⟩ => ⟨S2x128x512, .f32⟩
  | .hbm, ⟨13, _⟩ => ⟨S2x128x512, .f32⟩
  | .hbm, ⟨14, _⟩ => ⟨S2x128x512, .f32⟩
  | .hbm, ⟨15, _⟩ => ⟨S_, .f32⟩
  | .hbm, ⟨16, _⟩ => ⟨S2x128x512, .f32⟩
  | .hbm, ⟨17, _⟩ => ⟨S2x128x512, .f32⟩
  | .hbm, ⟨18, _⟩ => ⟨S2x128x512, .f32⟩
  | .hbm, ⟨19, _⟩ => ⟨S_, .f32⟩
  | .hbm, ⟨20, _⟩ => ⟨S2x128x512, .f32⟩
  | .hbm, ⟨21, _⟩ => ⟨S2x128x512, .f32⟩
  | .hbm, ⟨22, _⟩ => ⟨S_, .f32⟩
  | .hbm, ⟨23, _⟩ => ⟨S2x128x512, .f32⟩
  | .hbm, ⟨24, _⟩ => ⟨S2x128x512, .f32⟩
  | .hbm, ⟨25, _⟩ => ⟨S2x128x512, .f32⟩
  | .hbm, ⟨26, _⟩ => ⟨S_, .f32⟩
  | .hbm, ⟨27, _⟩ => ⟨S2x128x512, .f32⟩
  | .hbm, ⟨28, _⟩ => ⟨S2x128x512, .f32⟩
  | .hbm, ⟨29, _⟩ => ⟨S2x128x512, .f32⟩
  | .hbm, ⟨30, _⟩ => ⟨S_, .f32⟩
  | .hbm, ⟨31, _⟩ => ⟨S2x128x512, .f32⟩
  | .hbm, ⟨32, _⟩ => ⟨S2x128x512, .f32⟩
  | .hbm, ⟨33, _⟩ => ⟨S2x128x512, .f32⟩
  | .hbm, ⟨34, _⟩ => ⟨S_, .f32⟩
  | .hbm, ⟨35, _⟩ => ⟨S2x128x512, .f32⟩
  | .hbm, ⟨36, _⟩ => ⟨S2x128x512, .f32⟩
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel23.lean ====
abbrev S2x1024x1536 : Shape := ⟨3, ![2, 1024, 1536]⟩
abbrev S1x128x1536 : Shape := ⟨3, ![1, 128, 1536]⟩
abbrev S128x1536 : Shape := ⟨2, ![128, 1536]⟩

abbrev nBuf : Space → Nat
  | .hbm => 7
  | .vmem => 14
  | .smem => 0
  | _ => 0

abbrev bufTy : (tb : Table) → Fin (tcTables nBuf tb) → BufTy
  | .hbm, ⟨0, _⟩ => ⟨S2x1024x1536, .f32⟩
  | .hbm, ⟨1, _⟩ => ⟨S2x1024x1536, .f32⟩
  | .hbm, ⟨2, _⟩ => ⟨S2x1024x1536, .f32⟩
  | .hbm, ⟨3, _⟩ => ⟨S2x1024x1536, .f32⟩
  | .hbm, ⟨4, _⟩ => ⟨S2x1024x1536, .f32⟩
  | .hbm, ⟨5, _⟩ => ⟨S2x1024x1536, .f32⟩
  | .hbm, ⟨6, _⟩ => ⟨S2x1024x1536, .f32⟩
  | .local _ .vmem, ⟨0, _⟩ => ⟨S1x128x1536, .f32⟩
  | .local _ .vmem, ⟨1, _⟩ => ⟨S1x128x1536, .f32⟩
  | .local _ .vmem, ⟨2, _⟩ => ⟨S1x128x1536, .f32⟩
  | .local _ .vmem, ⟨3, _⟩ => ⟨S1x128x1536, .f32⟩
  | .local _ .vmem, ⟨4, _⟩ => ⟨S1x128x1536, .f32⟩
  | .local _ .vmem, ⟨5, _⟩ => ⟨S1x128x1536, .f32⟩
  | .local _ .vmem, ⟨6, _⟩ => ⟨S1x128x1536, .f32⟩
  | .local _ .vmem, ⟨7, _⟩ => ⟨S1x128x1536, .f32⟩
  | .local _ .vmem, ⟨8, _⟩ => ⟨S1x128x1536, .f32⟩
  | .local _ .vmem, ⟨9, _⟩ => ⟨S1x128x1536, .f32⟩
  | .local _ .vmem, ⟨10, _⟩ => ⟨S1x128x1536, .f32⟩
  | .local _ .vmem, ⟨11, _⟩ => ⟨S1x128x1536, .f32⟩
  | .local _ .vmem, ⟨12, _⟩ => ⟨S1x128x1536, .f32⟩
  | .local _ .vmem, ⟨13, _⟩ => ⟨S1x128x1536, .f32⟩
  | _, _ => ⟨S2x1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel23Ideal.lean ====
abbrev S2x1024x1536 : Shape := ⟨3, ![2, 1024, 1536]⟩
abbrev S1x128x1536 : Shape := ⟨3, ![1, 128, 1536]⟩
abbrev S128x1536 : Shape := ⟨2, ![128, 1536]⟩

abbrev nBuf : Space → Nat
  | .hbm => 7
  | .vmem => 14
  | .smem => 0
  | _ => 0

abbrev bufTy : (tb : Table) → Fin (tcTables nBuf tb) → BufTy
  | .hbm, ⟨0, _⟩ => ⟨S2x1024x1536, .f32⟩
  | .hbm, ⟨1, _⟩ => ⟨S2x1024x1536, .f32⟩
  | .hbm, ⟨2, _⟩ => ⟨S2x1024x1536, .f32⟩
  | .hbm, ⟨3, _⟩ => ⟨S2x1024x1536, .f32⟩
  | .hbm, ⟨4, _⟩ => ⟨S2x1024x1536, .f32⟩
  | .hbm, ⟨5, _⟩ => ⟨S2x1024x1536, .f32⟩
  | .hbm, ⟨6, _⟩ => ⟨S2x1024x1536, .f32⟩
  | .local _ .vmem, ⟨0, _⟩ => ⟨S1x128x1536, .f32⟩
  | .local _ .vmem, ⟨1, _⟩ => ⟨S1x128x1536, .f32⟩
  | .local _ .vmem, ⟨2, _⟩ => ⟨S1x128x1536, .f32⟩
  | .local _ .vmem, ⟨3, _⟩ => ⟨S1x128x1536, .f32⟩
  | .local _ .vmem, ⟨4, _⟩ => ⟨S1x128x1536, .f32⟩
  | .local _ .vmem, ⟨5, _⟩ => ⟨S1x128x1536, .f32⟩
  | .local _ .vmem, ⟨6, _⟩ => ⟨S1x128x1536, .f32⟩
  | .local _ .vmem, ⟨7, _⟩ => ⟨S1x128x1536, .f32⟩
  | .local _ .vmem, ⟨8, _⟩ => ⟨S1x128x1536, .f32⟩
  | .local _ .vmem, ⟨9, _⟩ => ⟨S1x128x1536, .f32⟩
  | .local _ .vmem, ⟨10, _⟩ => ⟨S1x128x1536, .f32⟩
  | .local _ .vmem, ⟨11, _⟩ => ⟨S1x128x1536, .f32⟩
  | .local _ .vmem, ⟨12, _⟩ => ⟨S1x128x1536, .f32⟩
  | .local _ .vmem, ⟨13, _⟩ => ⟨S1x128x1536, .f32⟩
  | _, _ => ⟨S2x1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference23Ideal.lean ====
abbrev S2x1024x1536 : Shape := ⟨3, ![2, 1024, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x1536, .f32⟩
  | .hbm, ⟨1, _⟩ => ⟨S2x1024x1536, .f32⟩
  | .hbm, ⟨2, _⟩ => ⟨S2x1024x1536, .f32⟩
  | .hbm, ⟨3, _⟩ => ⟨S2x1024x1536, .f32⟩
  | .hbm, ⟨4, _⟩ => ⟨S_, .f32⟩
  | .hbm, ⟨5, _⟩ => ⟨S2x1024x1536, .f32⟩
  | .hbm, ⟨6, _⟩ => ⟨S2x1024x1536, .f32⟩
  | .hbm, ⟨7, _⟩ => ⟨S_, .f32⟩
  | .hbm, ⟨8, _⟩ => ⟨S2x1024x1536, .f32⟩
  | .hbm, ⟨9, _⟩ => ⟨S2x1024x1536, .f32⟩
  | .hbm, ⟨10, _⟩ => ⟨S2x1024x1536, .f32⟩
  | .hbm, ⟨11, _⟩ => ⟨S_, .f32⟩
  | .hbm, ⟨12, _⟩ => ⟨S2x1024x1536, .f32⟩
  | .hbm, ⟨13, _⟩ => ⟨S2x1024x1536, .f32⟩
  | .hbm, ⟨14, _⟩ => ⟨S2x1024x1536, .f32⟩
  | .hbm, ⟨15, _⟩ => ⟨S_, .f32⟩
  | .hbm, ⟨16, _⟩ => ⟨S2x1024x1536, .f32⟩
  | .hbm, ⟨17, _⟩ => ⟨S2x1024x1536, .f32⟩
  | .hbm, ⟨18, _⟩ => ⟨S2x1024x1536, .f32⟩
  | .hbm, ⟨19, _⟩ => ⟨S_, .f32⟩
  | .hbm, ⟨20, _⟩ => ⟨S2x1024x1536, .f32⟩
  | .hbm, ⟨21, _⟩ => ⟨S2x1024x1536, .f32⟩
  | .hbm, ⟨22, _⟩ => ⟨S_, .f32⟩
  | .hbm, ⟨23, _⟩ => ⟨S2x1024x1536, .f32⟩
  | .hbm, ⟨24, _⟩ => ⟨S2x1024x1536, .f32⟩
  | .hbm, ⟨25, _⟩ => ⟨S2x1024x1536, .f32⟩
  | .hbm, ⟨26, _⟩ => ⟨S_, .f32⟩
  | .hbm, ⟨27, _⟩ => ⟨S2x1024x1536, .f32⟩
  | .hbm, ⟨28, _⟩ => ⟨S2x1024x1536, .f32⟩
  | .hbm, ⟨29, _⟩ => ⟨S2x1024x1536, .f32⟩
  | .hbm, ⟨30, _⟩ => ⟨S_, .f32⟩
  | .hbm, ⟨31, _⟩ => ⟨S2x1024x1536, .f32⟩
  | .hbm, ⟨32, _⟩ => ⟨S2x1024x1536, .f32⟩
  | .hbm, ⟨33, _⟩ => ⟨S2x1024x1536, .f32⟩
  | .hbm, ⟨34, _⟩ => ⟨S_, .f32⟩
  | .hbm, ⟨35, _⟩ => ⟨S2x1024x1536, .f32⟩
  | .hbm, ⟨36, _⟩ => ⟨S2x1024x1536, .f32⟩
  | _, _ => ⟨S2x1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel24.lean ====
abbrev S1026x2x1024 : Shape := ⟨3, ![1026, 2, 1024]⟩
abbrev S114x2x1024 : Shape := ⟨3, ![114, 2, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1026x2x1024, .f32⟩
  | .hbm, ⟨1, _⟩ => ⟨S1026x2x1024, .f32⟩
  | .hbm, ⟨2, _⟩ => ⟨S1026x2x1024, .f32⟩
  | .hbm, ⟨3, _⟩ => ⟨S1026x2x1024, .f32⟩
  | .hbm, ⟨4, _⟩ => ⟨S1026x2x1024, .f32⟩
  | .hbm, ⟨5, _⟩ => ⟨S1026x2x1024, .f32⟩
  | .hbm, ⟨6, _⟩ => ⟨S1026x2x1024, .f32⟩
  | .local _ .vmem, ⟨0, _⟩ => ⟨S114x2x1024, .f32⟩
  | .local _ .vmem, ⟨1, _⟩ => ⟨S114x2x1024, .f32⟩
  | .local _ .vmem, ⟨2, _⟩ => ⟨S114x2x1024, .f32⟩
  | .local _ .vmem, ⟨3, _⟩ => ⟨S114x2x1024, .f32⟩
  | .local _ .vmem, ⟨4, _⟩ => ⟨S114x2x1024, .f32⟩
  | .local _ .vmem, ⟨5, _⟩ => ⟨S114x2x1024, .f32⟩
  | .local _ .vmem, ⟨6, _⟩ => ⟨S114x2x1024, .f32⟩
  | .local _ .vmem, ⟨7, _⟩ => ⟨S114x2x1024, .f32⟩
  | .local _ .vmem, ⟨8, _⟩ => ⟨S114x2x1024, .f32⟩
  | .local _ .vmem, ⟨9, _⟩ => ⟨S114x2x1024, .f32⟩
  | .local _ .vmem, ⟨10, _⟩ => ⟨S114x2x1024, .f32⟩
  | .local _ .vmem, ⟨11, _⟩ => ⟨S114x2x1024, .f32⟩
  | .local _ .vmem, ⟨12, _⟩ => ⟨S114x2x1024, .f32⟩
  | .local _ .vmem, ⟨13, _⟩ => ⟨S114x2x1024, .f32⟩
  | _, _ => ⟨S1026x2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![9, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S114x2x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S114x2x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S114x2x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S114x2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S114x2x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S114x2x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S114x2x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel24Ideal.lean ====
abbrev S1026x2x1024 : Shape := ⟨3, ![1026, 2, 1024]⟩
abbrev S114x2x1024 : Shape := ⟨3, ![114, 2, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1026x2x1024, .f32⟩
  | .hbm, ⟨1, _⟩ => ⟨S1026x2x1024, .f32⟩
  | .hbm, ⟨2, _⟩ => ⟨S1026x2x1024, .f32⟩
  | .hbm, ⟨3, _⟩ => ⟨S1026x2x1024, .f32⟩
  | .hbm, ⟨4, _⟩ => ⟨S1026x2x1024, .f32⟩
  | .hbm, ⟨5, _⟩ => ⟨S1026x2x1024, .f32⟩
  | .hbm, ⟨6, _⟩ => ⟨S1026x2x1024, .f32⟩
  | .local _ .vmem, ⟨0, _⟩ => ⟨S114x2x1024, .f32⟩
  | .local _ .vmem, ⟨1, _⟩ => ⟨S114x2x1024, .f32⟩
  | .local _ .vmem, ⟨2, _⟩ => ⟨S114x2x1024, .f32⟩
  | .local _ .vmem, ⟨3, _⟩ => ⟨S114x2x1024, .f32⟩
  | .local _ .vmem, ⟨4, _⟩ => ⟨S114x2x1024, .f32⟩
  | .local _ .vmem, ⟨5, _⟩ => ⟨S114x2x1024, .f32⟩
  | .local _ .vmem, ⟨6, _⟩ => ⟨S114x2x1024, .f32⟩
  | .local _ .vmem, ⟨7, _⟩ => ⟨S114x2x1024, .f32⟩
  | .local _ .vmem, ⟨8, _⟩ => ⟨S114x2x1024, .f32⟩
  | .local _ .vmem, ⟨9, _⟩ => ⟨S114x2x1024, .f32⟩
  | .local _ .vmem, ⟨10, _⟩ => ⟨S114x2x1024, .f32⟩
  | .local _ .vmem, ⟨11, _⟩ => ⟨S114x2x1024, .f32⟩
  | .local _ .vmem, ⟨12, _⟩ => ⟨S114x2x1024, .f32⟩
  | .local _ .vmem, ⟨13, _⟩ => ⟨S114x2x1024, .f32⟩
  | _, _ => ⟨S1026x2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![9, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S114x2x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S114x2x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S114x2x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S114x2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S114x2x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S114x2x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S114x2x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference24Ideal.lean ====
abbrev S1026x2x1024 : Shape := ⟨3, ![1026, 2, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1026x2x1024, .f32⟩
  | .hbm, ⟨1, _⟩ => ⟨S1026x2x1024, .f32⟩
  | .hbm, ⟨2, _⟩ => ⟨S1026x2x1024, .f32⟩
  | .hbm, ⟨3, _⟩ => ⟨S1026x2x1024, .f32⟩
  | .hbm, ⟨4, _⟩ => ⟨S_, .f32⟩
  | .hbm, ⟨5, _⟩ => ⟨S1026x2x1024, .f32⟩
  | .hbm, ⟨6, _⟩ => ⟨S1026x2x1024, .f32⟩
  | .hbm, ⟨7, _⟩ => ⟨S_, .f32⟩
  | .hbm, ⟨8, _⟩ => ⟨S1026x2x1024, .f32⟩
  | .hbm, ⟨9, _⟩ => ⟨S1026x2x1024, .f32⟩
  | .hbm, ⟨10, _⟩ => ⟨S1026x2x1024, .f32⟩
  | .hbm, ⟨11, _⟩ => ⟨S_, .f32⟩
  | .hbm, ⟨12, _⟩ => ⟨S1026x2x1024, .f32⟩
  | .hbm, ⟨13, _⟩ => ⟨S1026x2x1024, .f32⟩
  | .hbm, ⟨14, _⟩ => ⟨S1026x2x1024, .f32⟩
  | .hbm, ⟨15, _⟩ => ⟨S_, .f32⟩
  | .hbm, ⟨16, _⟩ => ⟨S1026x2x1024, .f32⟩
  | .hbm, ⟨17, _⟩ => ⟨S1026x2x1024, .f32⟩
  | .hbm, ⟨18, _⟩ => ⟨S1026x2x1024, .f32⟩
  | .hbm, ⟨19, _⟩ => ⟨S_, .f32⟩
  | .hbm, ⟨20, _⟩ => ⟨S1026x2x1024, .f32⟩
  | .hbm, ⟨21, _⟩ => ⟨S1026x2x1024, .f32⟩
  | .hbm, ⟨22, _⟩ => ⟨S_, .f32⟩
  | .hbm, ⟨23, _⟩ => ⟨S1026x2x1024, .f32⟩
  | .hbm, ⟨24, _⟩ => ⟨S1026x2x1024, .f32⟩
  | .hbm, ⟨25, _⟩ => ⟨S1026x2x1024, .f32⟩
  | .hbm, ⟨26, _⟩ => ⟨S_, .f32⟩
  | .hbm, ⟨27, _⟩ => ⟨S1026x2x1024, .f32⟩
  | .hbm, ⟨28, _⟩ => ⟨S1026x2x1024, .f32⟩
  | .hbm, ⟨29, _⟩ => ⟨S1026x2x1024, .f32⟩
  | .hbm, ⟨30, _⟩ => ⟨S_, .f32⟩
  | .hbm, ⟨31, _⟩ => ⟨S1026x2x1024, .f32⟩
  | .hbm, ⟨32, _⟩ => ⟨S1026x2x1024, .f32⟩
  | .hbm, ⟨33, _⟩ => ⟨S1026x2x1024, .f32⟩
  | .hbm, ⟨34, _⟩ => ⟨S_, .f32⟩
  | .hbm, ⟨35, _⟩ => ⟨S1026x2x1024, .f32⟩
  | .hbm, ⟨36, _⟩ => ⟨S1026x2x1024, .f32⟩
  | _, _ => ⟨S1026x2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel25.lean ====
abbrev S1x2296x128 : Shape := ⟨3, ![1, 2296, 128]⟩
abbrev S1x328x128 : Shape := ⟨3, ![1, 328, 128]⟩
abbrev S328x128 : Shape := ⟨2, ![328, 128]⟩

abbrev nBuf : Space → Nat
  | .hbm => 7
  | .vmem => 14
  | .smem => 0
  | _ => 0

abbrev bufTy : (tb : Table) → Fin (tcTables nBuf tb) → BufTy
  | .hbm, ⟨0, _⟩ => ⟨S1x2296x128, .f32⟩
  | .hbm, ⟨1, _⟩ => ⟨S1x2296x128, .f32⟩
  | .hbm, ⟨2, _⟩ => ⟨S1x2296x128, .f32⟩
  | .hbm, ⟨3, _⟩ => ⟨S1x2296x128, .f32⟩
  | .hbm, ⟨4, _⟩ => ⟨S1x2296x128, .f32⟩
  | .hbm, ⟨5, _⟩ => ⟨S1x2296x128, .f32⟩
  | .hbm, ⟨6, _⟩ => ⟨S1x2296x128, .f32⟩
  | .local _ .vmem, ⟨0, _⟩ => ⟨S1x328x128, .f32⟩
  | .local _ .vmem, ⟨1, _⟩ => ⟨S1x328x128, .f32⟩
  | .local _ .vmem, ⟨2, _⟩ => ⟨S1x328x128, .f32⟩
  | .local _ .vmem, ⟨3, _⟩ => ⟨S1x328x128, .f32⟩
  | .local _ .vmem, ⟨4, _⟩ => ⟨S1x328x128, .f32⟩
  | .local _ .vmem, ⟨5, _⟩ => ⟨S1x328x128, .f32⟩
  | .local _ .vmem, ⟨6, _⟩ => ⟨S1x328x128, .f32⟩
  | .local _ .vmem, ⟨7, _⟩ => ⟨S1x328x128, .f32⟩
  | .local _ .vmem, ⟨8, _⟩ => ⟨S1x328x128, .f32⟩
  | .local _ .vmem, ⟨9, _⟩ => ⟨S1x328x128, .f32⟩
  | .local _ .vmem, ⟨10, _⟩ => ⟨S1x328x128, .f32⟩
  | .local _ .vmem, ⟨11, _⟩ => ⟨S1x328x128, .f32⟩
  | .local _ .vmem, ⟨12, _⟩ => ⟨S1x328x128, .f32⟩
  | .local _ .vmem, ⟨13, _⟩ => ⟨S1x328x128, .f32⟩
  | _, _ => ⟨S1x2296x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 7], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x328x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x328x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x328x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x328x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x328x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x328x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x328x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference25Ideal.lean ====
abbrev S1x2296x128 : Shape := ⟨3, ![1, 2296, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2296x128, .f32⟩
  | .hbm, ⟨1, _⟩ => ⟨S1x2296x128, .f32⟩
  | .hbm, ⟨2, _⟩ => ⟨S1x2296x128, .f32⟩
  | .hbm, ⟨3, _⟩ => ⟨S1x2296x128, .f32⟩
  | .hbm, ⟨4, _⟩ => ⟨S_, .f32⟩
  | .hbm, ⟨5, _⟩ => ⟨S1x2296x128, .f32⟩
  | .hbm, ⟨6, _⟩ => ⟨S1x2296x128, .f32⟩
  | .hbm, ⟨7, _⟩ => ⟨S_, .f32⟩
  | .hbm, ⟨8, _⟩ => ⟨S1x2296x128, .f32⟩
  | .hbm, ⟨9, _⟩ => ⟨S1x2296x128, .f32⟩
  | .hbm, ⟨10, _⟩ => ⟨S1x2296x128, .f32⟩
  | .hbm, ⟨11, _⟩ => ⟨S_, .f32⟩
  | .hbm, ⟨12, _⟩ => ⟨S1x2296x128, .f32⟩
  | .hbm, ⟨13, _⟩ => ⟨S1x2296x128, .f32⟩
  | .hbm, ⟨14, _⟩ => ⟨S1x2296x128, .f32⟩
  | .hbm, ⟨15, _⟩ => ⟨S_, .f32⟩
  | .hbm, ⟨16, _⟩ => ⟨S1x2296x128, .f32⟩
  | .hbm, ⟨17, _⟩ => ⟨S1x2296x128, .f32⟩
  | .hbm, ⟨18, _⟩ => ⟨S1x2296x128, .f32⟩
  | .hbm, ⟨19, _⟩ => ⟨S_, .f32⟩
  | .hbm, ⟨20, _⟩ => ⟨S1x2296x128, .f32⟩
  | .hbm, ⟨21, _⟩ => ⟨S1x2296x128, .f32⟩
  | .hbm, ⟨22, _⟩ => ⟨S_, .f32⟩
  | .hbm, ⟨23, _⟩ => ⟨S1x2296x128, .f32⟩
  | .hbm, ⟨24, _⟩ => ⟨S1x2296x128, .f32⟩
  | .hbm, ⟨25, _⟩ => ⟨S1x2296x128, .f32⟩
  | .hbm, ⟨26, _⟩ => ⟨S_, .f32⟩
  | .hbm, ⟨27, _⟩ => ⟨S1x2296x128, .f32⟩
  | .hbm, ⟨28, _⟩ => ⟨S1x2296x128, .f32⟩
  | .hbm, ⟨29, _⟩ => ⟨S1x2296x128, .f32⟩
  | .hbm, ⟨30, _⟩ => ⟨S_, .f32⟩
  | .hbm, ⟨31, _⟩ => ⟨S1x2296x128, .f32⟩
  | .hbm, ⟨32, _⟩ => ⟨S1x2296x128, .f32⟩
  | .hbm, ⟨33, _⟩ => ⟨S1x2296x128, .f32⟩
  | .hbm, ⟨34, _⟩ => ⟨S_, .f32⟩
  | .hbm, ⟨35, _⟩ => ⟨S1x2296x128, .f32⟩
  | .hbm, ⟨36, _⟩ => ⟨S1x2296x128, .f32⟩
  | _, _ => ⟨S1x2296x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Model.lean ====
/- What the gradient kernel of the forgetting attention computes, as functions of vectors: one grid point `(hp, j)` works on
   the head pair `hp` and the key block `j`. Each definition is at any float semantics `F`; the payloads `Gen.k0_payN` are the
   kernel's own vector expressions. -/
module

public import proofs.«01_k».proof.Proof.Gen.KernelIdeal.Frame
public import proofs.«01_k».proof.Proof.Gen.KernelIdeal.Loops
public import Idealize.ShloMosaic.Lib.VecWindow

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.VecWindow
open Cert.KernelIdeal.Gen

variable {F : FTy → Type} [FloatOps F]

/-- The three accumulators of a head pair: the transposed gradient of the queries (every query block of both heads), the
    gradient of the keys (both heads) and the gradient of the values (both heads share the lanes). -/
structure Acc (F : FTy → Type) where
  dqt : Vec F S2x8x128x512 .f32
  dk : Vec F S2x512x128 .f32
  dv : Vec F S512x128 .f32

/-- Trip `k` of the loop over the query blocks after the diagonal one. -/
def restTrip (i : grid0.Coords) (x2 x6 : Vec F S4096x128 .bf16) (x7 : Vec F S2x8x1x512 .f32) (x8 : Vec F S2x512x1 .f32)
    (dl : Vec F S2x8x8x512 .f32) (v2 : IVec S1x128 1) (v14 : Vec F S512x128 .bf16) (v17 : FVec F S512x128 .bf16)
    (v20 : Vec F S512x128 .bf16) (v23 : FVec F S512x128 .bf16) (v30 v33 : FVec F S128x512 .bf16)
    (k : Fin (k0_t2_loop i).trips) (a : Acc F) : Acc F :=
  let q : Vec F S512x128 .bf16 := window x2 (k0_off11 i k) S512x128.size (k0_off11_inb i k)
  let d : Vec F S512x128 .bf16 := window x6 (k0_off11 i k) S512x128.size (k0_off11_inb i k)
  let c0 : Vec F S1x512x1 .f32 := window x8 ![0, 0, 0] S1x512x1.size inb_S2x512x1_S1x512x1_0_0_0
  let l0 : Vec F S1x1x1x512 .f32 := window x7 (k0_off12 i k) S1x1x1x512.size (k0_off12_inb i k)
  let e0 : Vec F S1x1x1x512 .f32 := window dl (k0_off13 i k) S1x1x1x512.size (k0_off13_inb i k)
  let c1 : Vec F S1x512x1 .f32 := window x8 ![1, 0, 0] S1x512x1.size inb_S2x512x1_S1x512x1_1_0_0
  let l1 : Vec F S1x1x1x512 .f32 := window x7 (k0_off15 i k) S1x1x1x512.size (k0_off15_inb i k)
  let e1 : Vec F S1x1x1x512 .f32 := window dl (k0_off16 i k) S1x1x1x512.size (k0_off16_inb i k)
  let s1 : FVec F S512x512 .f32 := k0_pay21 v17 (k0_pay8 q) c1
  let ds0 : FVec F S512x512 .f32 := k0_pay16 v14 v20 q d c0 l0 e0
  { dqt := put (put a.dqt (k0_off14 i k) S1x1x128x512.size
        (k0_pay20 v30 ds0 (window a.dqt (k0_off14 i k) S1x1x128x512.size (k0_off14_inb i k))))
      (k0_off17 i k) S1x1x128x512.size
        (k0_pay26 v23 v33 d s1 l1 e1 (window a.dqt (k0_off17 i k) S1x1x128x512.size (k0_off17_inb i k)))
    dk := put (put a.dk ![0, 0, 0] S1x512x128.size
        (k0_pay19 (k0_pay11 v2 q) ds0 (window a.dk ![0, 0, 0] S1x512x128.size inb_S2x512x128_S1x512x128_0_0_0)))
      ![1, 0, 0] S1x512x128.size
        (k0_pay25 v23 d (k0_pay12 v2 q) s1 l1 e1 (window a.dk ![1, 0, 0] S1x512x128.size inb_S2x512x128_S1x512x128_1_0_0))
    dv := k0_pay24 (k0_pay14 v2 d) s1 l1 (k0_pay18 (k0_pay13 v2 d) (k0_pay15 v14 q c0 l0) a.dv) }

/-- The accumulators after the first `n` trips of that loop. -/
def restN (i : grid0.Coords) (x2 x6 : Vec F S4096x128 .bf16) (x7 : Vec F S2x8x1x512 .f32) (x8 : Vec F S2x512x1 .f32)
    (dl : Vec F S2x8x8x512 .f32) (v2 : IVec S1x128 1) (v14 : Vec F S512x128 .bf16) (v17 : FVec F S512x128 .bf16)
    (v20 : Vec F S512x128 .bf16) (v23 : FVec F S512x128 .bf16) (v30 v33 : FVec F S128x512 .bf16) (a : Acc F) : ℕ → Acc F
  | 0 => a
  | n + 1 => if h : n < (k0_t2_loop i).trips then
      restTrip i x2 x6 x7 x8 dl v2 v14 v17 v20 v23 v30 v33 ⟨n, h⟩ (restN i x2 x6 x7 x8 dl v2 v14 v17 v20 v23 v30 v33 a n)
    else restN i x2 x6 x7 x8 dl v2 v14 v17 v20 v23 v30 v33 a n

/-- The diagonal query block, over the accumulators `dqt` (carried), zero keys' and zero values' gradients. -/
def diagStep (i : grid0.Coords) (x2 : Vec F S4096x128 .bf16) (x3 x4 : Vec F S512x128 .bf16) (x6 : Vec F S4096x128 .bf16)
    (x7 : Vec F S2x8x1x512 .f32) (x8 : Vec F S2x512x1 .f32) (dl : Vec F S2x8x8x512 .f32) (dqt : Vec F S2x8x128x512 .f32) : Acc F :=
  let q : Vec F S512x128 .bf16 := window x2 (k0_off4 i) S512x128.size (k0_off4_inb i)
  let d : Vec F S512x128 .bf16 := window x6 (k0_off4 i) S512x128.size (k0_off4_inb i)
  let c0 : Vec F S1x512x1 .f32 := window x8 ![0, 0, 0] S1x512x1.size inb_S2x512x1_S1x512x1_0_0_0
  let l0 : Vec F S1x1x1x512 .f32 := window x7 (k0_off5 i) S1x1x1x512.size (k0_off5_inb i)
  let e0 : Vec F S1x1x1x512 .f32 := window dl (k0_off6 i) S1x1x1x512.size (k0_off6_inb i)
  let c1 : Vec F S1x512x1 .f32 := window x8 ![1, 0, 0] S1x512x1.size inb_S2x512x1_S1x512x1_1_0_0
  let l1 : Vec F S1x1x1x512 .f32 := window x7 (k0_off8 i) S1x1x1x512.size (k0_off8_inb i)
  let e1 : Vec F S1x1x1x512 .f32 := window dl (k0_off9 i) S1x1x1x512.size (k0_off9_inb i)
  let v14 := k0_pay53 x3
  let p0 : FVec F S512x512 .f32 := k0_pay72 v14 q c0 l0
  let w0 : FVec F S512x512 .f32 := k0_pay73 (k0_pay55 x4) d
  let s1 : FVec F S512x512 .f32 := k0_pay78 (k0_pay54 x3) (k0_pay65 q)
  let v23 := k0_pay56 x4
  let dk0 : Vec F S2x512x128 .f32 := k0_pay61 (F := F)
  { dqt := put (put dqt (k0_off7 i) S1x1x128x512.size
        (k0_pay77 (k0_pay59 x3) p0 w0 e0 (window dqt (k0_off7 i) S1x1x128x512.size (k0_off7_inb i))))
      (k0_off10 i) S1x1x128x512.size
        (k0_pay83 (k0_pay60 x3) (k0_pay80 v23 k0_pay64 d s1 c1 l1 e1) (window dqt (k0_off10 i) S1x1x128x512.size (k0_off10_inb i)))
    dk := put (put dk0 ![0, 0, 0] S1x512x128.size
        (k0_pay76 (k0_pay68 k0_pay46 q) p0 w0 e0 (window dk0 ![0, 0, 0] S1x512x128.size inb_S2x512x128_S1x512x128_0_0_0)))
      ![1, 0, 0] S1x512x128.size
        (k0_pay82 v23 k0_pay64 d (k0_pay69 k0_pay46 q) s1 c1 l1 e1 (window dk0 ![1, 0, 0] S1x512x128.size inb_S2x512x128_S1x512x128_1_0_0))
    dv := k0_pay81 k0_pay64 (k0_pay71 k0_pay46 d) s1 c1 l1
      (k0_pay75 (k0_pay70 k0_pay46 d) p0 (k0_pay63 (k0_pay62 (F := F)))) }

/-- The accumulators at the end of a grid point: the diagonal block, then the query blocks after it. -/
def accum (i : grid0.Coords) (x2 : Vec F S4096x128 .bf16) (x3 x4 : Vec F S512x128 .bf16) (x6 : Vec F S4096x128 .bf16)
    (x7 : Vec F S2x8x1x512 .f32) (x8 : Vec F S2x512x1 .f32) (dl : Vec F S2x8x8x512 .f32) (dqt : Vec F S2x8x128x512 .f32) : Acc F :=
  restN i x2 x6 x7 x8 dl k0_pay46 (k0_pay53 x3) (k0_pay54 x3) (k0_pay55 x4) (k0_pay56 x4) (k0_pay59 x3) (k0_pay60 x3)
    (diagStep i x2 x3 x4 x6 x7 x8 dl dqt) (k0_t2_loop i).trips

/-- The key block's gradient a grid point stores. -/
def outDk (a : Acc F) : Vec F S512x128 .bf16 :=
  k0_pay84 k0_pay46 (window a.dk ![0, 0, 0] S1x512x128.size inb_S2x512x128_S1x512x128_0_0_0)
    (window a.dk ![1, 0, 0] S1x512x128.size inb_S2x512x128_S1x512x128_1_0_0)
/-- The value block's gradient a grid point stores. -/
def outDv (a : Acc F) : Vec F S512x128 .bf16 := k0_pay85 a.dv

/-- The cumulated gates' gradient (as keys) a grid point stores, over what it found (which it covers). -/
def outDck (a : Acc F) (x13 : Vec F S2x512x1 .f32) : Vec F S2x512x1 .f32 :=
  put (put x13 ![0, 0, 0] S1x512x1.size
      (k0_pay1 (k0_pay86 (window a.dk ![0, 0, 0] S1x512x128.size inb_S2x512x128_S1x512x128_0_0_0)) (Scalar.ofBits .f32 0x00000000#32)))
    ![1, 0, 0] S1x512x1.size (k0_pay2 (window a.dk ![1, 0, 0] S1x512x128.size inb_S2x512x128_S1x512x128_1_0_0))

/-- One trip of the loop that fills `delta`: row sums of `do * o`, per head. -/
def fillTrip (i : grid0.Coords) (h : k0_cond1 i = 1#1) (x5 x6 : Vec F S4096x128 .bf16) (k : Fin k0_t1_loop.trips)
    (dl : Vec F S2x8x8x512 .f32) : Vec F S2x8x8x512 .f32 :=
  let d : Vec F S512x128 .bf16 := window x6 (k0_off1 k) S512x128.size (k0_off1_inb i k h)
  let o : Vec F S512x128 .bf16 := window x5 (k0_off1 k) S512x128.size (k0_off1_inb i k h)
  put (put dl (k0_off2 k) S1x1x8x512.size (k0_pay50 d o)) (k0_off3 k) S1x1x8x512.size (k0_pay51 d o)

def fillN (i : grid0.Coords) (h : k0_cond1 i = 1#1) (x5 x6 : Vec F S4096x128 .bf16) (dl : Vec F S2x8x8x512 .f32) :
    ℕ → Vec F S2x8x8x512 .f32
  | 0 => dl
  | n + 1 => if hn : n < k0_t1_loop.trips then fillTrip i h x5 x6 ⟨n, hn⟩ (fillN i h x5 x6 dl n) else fillN i h x5 x6 dl n

/-- One trip of the loop that emits a query block's gradient and that of its gates. -/
def emitTrip (i : grid0.Coords) (h : k0_cond2 i = 1#1) (dqt : Vec F S2x8x128x512 .f32) (k : Fin k0_t4_loop.trips)
    (y : Vec F S4096x128 .bf16 × Vec F S2x8x1x512 .f32) : Vec F S4096x128 .bf16 × Vec F S2x8x1x512 .f32 :=
  let t0 : Vec F S1x1x128x512 .f32 := window dqt (k0_off25 k) S1x1x128x512.size (k0_off25_inb i k h)
  let t1 : Vec F S1x1x128x512 .f32 := window dqt (k0_off26 k) S1x1x128x512.size (k0_off26_inb i k h)
  (put y.1 (k0_off27 k) S512x128.size (k0_pay5 k0_pay47 t0 t1),
    put (put y.2 (k0_off28 k) S1x1x1x512.size (k0_pay6 t0)) (k0_off29 k) S1x1x1x512.size (k0_pay7 t1))

def emitN (i : grid0.Coords) (h : k0_cond2 i = 1#1) (dqt : Vec F S2x8x128x512 .f32) (y : Vec F S4096x128 .bf16 × Vec F S2x8x1x512 .f32) :
    ℕ → Vec F S4096x128 .bf16 × Vec F S2x8x1x512 .f32
  | 0 => y
  | n + 1 => if hn : n < k0_t4_loop.trips then emitTrip i h dqt ⟨n, hn⟩ (emitN i h dqt y n) else emitN i h dqt y n

end Cert.KernelIdeal.Attn

end
-- ==== Proof.Loop.lean ====
/- What the loops of the gradient kernel store, read back: the stores of a trip, in the order the run makes them, leave the
   vectors that the functions of `Model` give. -/
module

public import proofs.«01_k».proof.Proof.Model

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.VecWindow
open Cert.KernelIdeal.Gen

variable {F : FTy → Type} [FloatOps F]

theorem window_of_read {Val : EltTy → Type} {κ : Kind} {sp : Space} {s : Shape} {e : EltTy} {v : View sig κ sp s e} {f : v.ty.Contents Val} {x : s.Idx → Val e}
    {off size : Fin s.rank → ℕ} {inb : ∀ a, off a + size a ≤ s.size a} (h : v.read Val f = x) :
    v.readAt Val (Rect.unit off size inb).toLoadRect f = window x off size inb := by subst h; rfl

theorem full_of_read {Val : EltTy → Type} {κ : Kind} {sp : Space} {s : Shape} {e : EltTy} {v : View sig κ sp s e} {f : v.ty.Contents Val} {x : s.Idx → Val e}
    {off : Fin s.rank → ℕ} {inb : ∀ a, off a + s.size a ≤ s.size a} (h : v.read Val f = x) :
    v.readAt Val (Rect.unit off s.size inb).toLoadRect f = x := by rw [View.readAt_full, h]

/-- A load past a store that lies apart from it. -/
theorem window_of_cons {Val : EltTy → Type} {κ : Kind} {sp : Space} {s : Shape} {e : EltTy} {v : View sig κ sp s e} {f : v.ty.Contents Val} {x : s.Idx → Val e}
    {off size off' size' : Fin s.rank → ℕ} {inb : ∀ a, off a + size a ≤ s.size a} {inb' : ∀ a, off' a + size' a ≤ s.size a}
    {w : (Rect.unit off' size' inb').shape.Idx → Val e} {L : List (View.Piece Val s e)} (h : v.read Val (v.writes Val f L) = x) (a : Fin s.rank)
    (ha : off a + size a ≤ off' a ∨ off' a + size' a ≤ off a) :
    v.readAt Val (Rect.unit off size inb).toLoadRect (v.writes Val f (⟨Rect.unit off' size' inb', w⟩ :: L)) = window x off size inb := by
  rw [window_of_read (View.read_writes_cons_put (h := rfl) ..), h]
  exact window_put_of_disjoint (ha := ha) ..

/-- The loop's remainder has no trips: the step between query blocks is one. -/
theorem t3_trips (i : grid0.Coords) : (k0_t3_loop i).trips = 0 := by
  have h : (i 1).val < 8 := (i 1).isLt
  unfold k0_t3_loop
  generalize (i 1).val = n at h
  revert n; decide +kernel

/-- The loop after the diagonal block has one trip per later query block. -/
theorem t2_trips (i : grid0.Coords) : (k0_t2_loop i).trips = 7 - (i 1).val := by
  have h : (i 1).val < 8 := (i 1).isLt
  unfold k0_t2_loop
  generalize (i 1).val = n at h
  revert n; decide +kernel

section
variable (𝒱 : Variants) (c : Dev nD) (bd : Option 𝒱.V) (i : grid0.Coords)
  (arg2 : Memref sig .tc .vmem S4096x128 .bf16) (harg2 : arg2.IsWhole)
  (arg3 : Memref sig .tc .vmem S512x128 .bf16) (harg3 : arg3.IsWhole)
  (arg4 : Memref sig .tc .vmem S512x128 .bf16) (harg4 : arg4.IsWhole)
  (arg5 : Memref sig .tc .vmem S4096x128 .bf16) (harg5 : arg5.IsWhole)
  (arg6 : Memref sig .tc .vmem S4096x128 .bf16) (harg6 : arg6.IsWhole)
  (arg7 : Memref sig .tc .vmem S2x8x1x512 .f32) (harg7 : arg7.IsWhole)
  (arg8 : Memref sig .tc .vmem S2x512x1 .f32) (harg8 : arg8.IsWhole)
  (arg9 : Memref sig .tc .vmem S4096x128 .bf16) (harg9 : arg9.IsWhole)
  (arg10 : Memref sig .tc .vmem S512x128 .bf16) (harg10 : arg10.IsWhole)
  (arg11 : Memref sig .tc .vmem S512x128 .bf16) (harg11 : arg11.IsWhole)
  (arg12 : Memref sig .tc .vmem S2x8x1x512 .f32) (harg12 : arg12.IsWhole)
  (arg13 : Memref sig .tc .vmem S2x512x1 .f32) (harg13 : arg13.IsWhole)
  (arg14 : Memref sig .tc .vmem S2x8x8x512 .f32) (harg14 : arg14.IsWhole)
  (arg15 : Memref sig .tc .vmem S2x8x128x512 .f32) (harg15 : arg15.IsWhole)
  (arg16 : Memref sig .tc .vmem S2x512x128 .f32) (harg16 : arg16.IsWhole)
  (arg17 : Memref sig .tc .vmem S512x128 .f32) (harg17 : arg17.IsWhole)

section
variable (arg1 : BitVec 32) (v2 : IVec S1x128 1) (v14 : Vec F S512x128 .bf16) (v17 : FVec F S512x128 .bf16) (v20 : Vec F S512x128 .bf16)
    (v23 : FVec F S512x128 .bf16) (v30 v33 : FVec F S128x512 .bf16) (v133 : FVec F S512x512 .bf16) (v157 : BitVec 32)
    (X2 : BufTy.Contents (Elt F) arg2.view.ty)
    (X6 : BufTy.Contents (Elt F) arg6.view.ty)
    (X7 : BufTy.Contents (Elt F) arg7.view.ty)
    (X8 : BufTy.Contents (Elt F) arg8.view.ty)
    (X14 : BufTy.Contents (Elt F) arg14.view.ty)

section
variable (k : Fin (k0_t2_loop i).trips) (a : BitVec 32)
    (f15 : BufTy.Contents (Elt F) arg15.view.ty)
    (f16 : BufTy.Contents (Elt F) arg16.view.ty)
    (f17 : BufTy.Contents (Elt F) arg17.view.ty)

theorem trip_dqt :
    arg15.view.read (Elt F) (arg15.view.writes (Elt F) f15 (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v2 v14 v17 v20 v23 v30 v33 v133 v157 X2 X6 X7 X8 X14 k a f15 f16 f17).1)
      = (restTrip i (arg2.view.read (Elt F) X2) (arg6.view.read (Elt F) X6) (arg7.view.read (Elt F) X7) (arg8.view.read (Elt F) X8) (arg14.view.read (Elt F) X14) v2 v14 v17 v20 v23 v30 v33 k ⟨(arg15.view.read (Elt F) f15), (arg16.view.read (Elt F) f16), (arg17.view.read (Elt F) f17)⟩).dqt := by
  unfold tripL_k0_t2 trip_k0_t2 restTrip
  dsimp only
  rw [View.read_writes_cons_put (h := rfl), View.read_writes_cons_put (h := rfl)]
  rfl

theorem trip_dk :
    arg16.view.read (Elt F) (arg16.view.writes (Elt F) f16 (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v2 v14 v17 v20 v23 v30 v33 v133 v157 X2 X6 X7 X8 X14 k a f15 f16 f17).2.1)
      = (restTrip i (arg2.view.read (Elt F) X2) (arg6.view.read (Elt F) X6) (arg7.view.read (Elt F) X7) (arg8.view.read (Elt F) X8) (arg14.view.read (Elt F) X14) v2 v14 v17 v20 v23 v30 v33 k ⟨(arg15.view.read (Elt F) f15), (arg16.view.read (Elt F) f16), (arg17.view.read (Elt F) f17)⟩).dk := by
  unfold tripL_k0_t2 trip_k0_t2 restTrip
  dsimp only
  rw [View.read_writes_cons_put (h := rfl), View.read_writes_cons_put (h := rfl)]
  rfl

theorem trip_dv :
    arg17.view.read (Elt F) (arg17.view.writes (Elt F) f17 (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v2 v14 v17 v20 v23 v30 v33 v133 v157 X2 X6 X7 X8 X14 k a f15 f16 f17).2.2)
      = (restTrip i (arg2.view.read (Elt F) X2) (arg6.view.read (Elt F) X6) (arg7.view.read (Elt F) X7) (arg8.view.read (Elt F) X8) (arg14.view.read (Elt F) X14) v2 v14 v17 v20 v23 v30 v33 k ⟨(arg15.view.read (Elt F) f15), (arg16.view.read (Elt F) f16), (arg17.view.read (Elt F) f17)⟩).dv := by
  unfold tripL_k0_t2 trip_k0_t2 restTrip
  dsimp only
  rw [View.read_writes_full]
  unfold trip_k0_t2.sl.v281 trip_k0_t2.sl.HW_arg17_1
  rw [View.readCov_full]
  rw [View.readAt_full]
  rfl
end

section
variable (init : BitVec 32)
    (G15 : BufTy.Contents (Elt F) arg15.view.ty)
    (G16 : BufTy.Contents (Elt F) arg16.view.ty)
    (G17 : BufTy.Contents (Elt F) arg17.view.ty)

theorem st_read (n : ℕ) (hn : n ≤ (k0_t2_loop i).trips) :
    (⟨arg15.view.read (Elt F) (arg15.view.writes (Elt F) G15 (st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v2 v14 v17 v20 v23 v30 v33 v133 v157 X2 X6 X7 X8 X14 G15 G16 G17 init n).2.1),
      arg16.view.read (Elt F) (arg16.view.writes (Elt F) G16 (st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v2 v14 v17 v20 v23 v30 v33 v133 v157 X2 X6 X7 X8 X14 G15 G16 G17 init n).2.2.1),
      arg17.view.read (Elt F) (arg17.view.writes (Elt F) G17 (st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v2 v14 v17 v20 v23 v30 v33 v133 v157 X2 X6 X7 X8 X14 G15 G16 G17 init n).2.2.2)⟩ : Acc F)
      = restN i (arg2.view.read (Elt F) X2) (arg6.view.read (Elt F) X6) (arg7.view.read (Elt F) X7) (arg8.view.read (Elt F) X8) (arg14.view.read (Elt F) X14) v2 v14 v17 v20 v23 v30 v33
        ⟨(arg15.view.read (Elt F) G15), (arg16.view.read (Elt F) G16), (arg17.view.read (Elt F) G17)⟩ n := by
  induction n with
  | zero => rfl
  | succ n ih =>
    have hk : n < (k0_t2_loop i).trips := hn
    have e := st_k0_t2_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v2 v14 v17 v20 v23 v30 v33 v133 v157 X2 X6 X7 X8 X14 G15 G16 G17 init ⟨n, hk⟩
    dsimp only at e
    rw [restN, dif_pos hk, ← ih hk.le, e]
    dsimp only
    rw [View.writes_append, View.writes_append, View.writes_append]
    exact congrArg₂ (fun (x : Vec F S2x8x128x512 .f32) (yz : Vec F S2x512x128 .f32 × Vec F S512x128 .f32) => (⟨x, yz.1, yz.2⟩ : Acc F))
      (trip_dqt ..) (congrArg₂ Prod.mk (trip_dk ..) (trip_dv ..))
end
end

theorem t3_nil (arg1 : BitVec 32) (v2 : IVec S1x128 1) (v14 : Vec F S512x128 .bf16) (v17 : FVec F S512x128 .bf16) (v20 : Vec F S512x128 .bf16)
    (v23 : FVec F S512x128 .bf16) (v30 v33 : FVec F S128x512 .bf16) (v133 : FVec F S512x512 .bf16) (v162 : BitVec 32)
    (X2 : BufTy.Contents (Elt F) arg2.view.ty)
    (X6 : BufTy.Contents (Elt F) arg6.view.ty)
    (X7 : BufTy.Contents (Elt F) arg7.view.ty)
    (X8 : BufTy.Contents (Elt F) arg8.view.ty)
    (X14 : BufTy.Contents (Elt F) arg14.view.ty)
    (init : BitVec 32)
    (G15 : BufTy.Contents (Elt F) arg15.view.ty)
    (G16 : BufTy.Contents (Elt F) arg16.view.ty)
    (G17 : BufTy.Contents (Elt F) arg17.view.ty) :
    (st_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v2 v14 v17 v20 v23 v30 v33 v133 v162 X2 X6 X7 X8 X14 G15 G16 G17 init (Scf.trips (k0_t3_loop i).lb (k0_t3_loop i).ub (k0_t3_loop i).st)) = (init, [], [], []) := by
  have h : Scf.trips (k0_t3_loop i).lb (k0_t3_loop i).ub (k0_t3_loop i).st = 0 := t3_trips i
  rw [h]; rfl

section
variable {x2 x6 : Vec F S4096x128 .bf16} {x3 x4 : Vec F S512x128 .bf16} {x7 : Vec F S2x8x1x512 .f32} {x8 : Vec F S2x512x1 .f32}
    {dl : Vec F S2x8x8x512 .f32} {dqt : Vec F S2x8x128x512 .f32}
    {U15 : BufTy.Contents (Elt F) arg15.view.ty}
    {U16 : BufTy.Contents (Elt F) arg16.view.ty}
    {U17 : BufTy.Contents (Elt F) arg17.view.ty}
    {X2 : BufTy.Contents (Elt F) arg2.view.ty}
    {X6 : BufTy.Contents (Elt F) arg6.view.ty}
    {X7 : BufTy.Contents (Elt F) arg7.view.ty}
    {X8 : BufTy.Contents (Elt F) arg8.view.ty}
    {X14 : BufTy.Contents (Elt F) arg14.view.ty}
    {arg1 v157 v162 : BitVec 32} {init init' : BitVec 32}
    {G15 : BufTy.Contents (Elt F) arg15.view.ty}
    {G16 : BufTy.Contents (Elt F) arg16.view.ty}
    {G17 : BufTy.Contents (Elt F) arg17.view.ty}
    {kj vj q d : Vec F S512x128 .bf16} {c0 c1 : Vec F S1x512x1 .f32} {l0 l1 e0 e1 : Vec F S1x1x1x512 .f32}
    {w7 w10 : Vec F S1x1x128x512 .f32} {a97 a141 : Vec F S1x512x128 .f32} {a90 a134 : Vec F S512x128 .f32}
    {T15 : List (View.Piece (Elt F) S2x8x128x512 .f32)} {T16 : List (View.Piece (Elt F) S2x512x128 .f32)}
    {T17 : List (View.Piece (Elt F) S512x128 .f32)}

set_option maxHeartbeats 2000000 in
/-- The accumulators at the end of a grid point, as the stores of the whole point leave them. -/
theorem final_read (g14 : arg14.view.read (Elt F) X14 = dl)
    (g2 : arg2.view.read (Elt F) X2 = x2 := by exact Memref.IsWhole.read_unread _ _)
    (g6 : arg6.view.read (Elt F) X6 = x6 := by exact Memref.IsWhole.read_unread _ _) (g7 : arg7.view.read (Elt F) X7 = x7 := by exact Memref.IsWhole.read_unread _ _)
    (g8 : arg8.view.read (Elt F) X8 = x8 := by exact Memref.IsWhole.read_unread _ _)
    (hk : kj = x3 := by exact full_of_read (Memref.IsWhole.read_unread _ _)) (hv : vj = x4 := by exact full_of_read (Memref.IsWhole.read_unread _ _))
    (hq : q = window x2 (k0_off4 i) S512x128.size (k0_off4_inb i) := by exact window_of_read (Memref.IsWhole.read_unread _ _)) (hd : d = window x6 (k0_off4 i) S512x128.size (k0_off4_inb i) := by exact window_of_read (Memref.IsWhole.read_unread _ _))
    (hc0 : c0 = window x8 ![0, 0, 0] S1x512x1.size inb_S2x512x1_S1x512x1_0_0_0 := by exact window_of_read (Memref.IsWhole.read_unread _ _))
    (hl0 : l0 = window x7 (k0_off5 i) S1x1x1x512.size (k0_off5_inb i) := by exact window_of_read (Memref.IsWhole.read_unread _ _)) (he0 : e0 = window dl (k0_off6 i) S1x1x1x512.size (k0_off6_inb i))
    (hc1 : c1 = window x8 ![1, 0, 0] S1x512x1.size inb_S2x512x1_S1x512x1_1_0_0 := by exact window_of_read (Memref.IsWhole.read_unread _ _))
    (hl1 : l1 = window x7 (k0_off8 i) S1x1x1x512.size (k0_off8_inb i) := by exact window_of_read (Memref.IsWhole.read_unread _ _)) (he1 : e1 = window dl (k0_off9 i) S1x1x1x512.size (k0_off9_inb i))
    (hw7 : w7 = window dqt (k0_off7 i) S1x1x128x512.size (k0_off7_inb i) := by exact window_of_read (Memref.IsWhole.read_unread _ _))
    (hw10 : w10 = window dqt (k0_off10 i) S1x1x128x512.size (k0_off10_inb i) := by exact window_of_read (Memref.IsWhole.read_unread _ _))
    (h97 : a97 = window (k0_pay61 (F := F)) ![0, 0, 0] S1x512x128.size inb_S2x512x128_S1x512x128_0_0_0 := by exact window_of_read (View.read_writes_full ..))
    (h141 : a141 = window (k0_pay61 (F := F)) ![1, 0, 0] S1x512x128.size inb_S2x512x128_S1x512x128_1_0_0 := by exact window_of_cons (View.read_writes_full ..) (0 : Fin 3) (.inr (by show 0 + 1 ≤ 1; decide)))
    (h134 : a134 = k0_pay75 (k0_pay70 k0_pay46 d) (k0_pay72 (k0_pay53 kj) q c0 l0) a90 := by exact View.readCov_full ..)
    (h90 : a90 = k0_pay63 (k0_pay62 (F := F)) := by exact View.readCov_full ..)
    (t15 : arg15.view.read (Elt F) (arg15.view.writes (Elt F) U15 T15) = dqt := by exact Memref.IsWhole.read_unread _ _)
    (t16 : arg16.view.read (Elt F) (arg16.view.writes (Elt F) U16 T16) = k0_pay61 (F := F) := by exact View.read_writes_full ..) :
    arg15.view.read (Elt F) (arg15.view.writes (Elt F) U15 ((st_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 k0_pay46 (k0_pay53 kj) (k0_pay54 kj) (k0_pay55 vj) (k0_pay56 vj) (k0_pay59 kj) (k0_pay60 kj) (k0_pay80 (k0_pay56 vj) k0_pay64 d (k0_pay78 (k0_pay54 kj) (k0_pay65 q)) c1 l1 e1) v162 X2 X6 X7 X8 X14 G15 G16 G17 init' (Scf.trips (k0_t3_loop i).lb (k0_t3_loop i).ub (k0_t3_loop i).st)).2.1 ++ ((st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 k0_pay46 (k0_pay53 kj) (k0_pay54 kj) (k0_pay55 vj) (k0_pay56 vj) (k0_pay59 kj) (k0_pay60 kj) (k0_pay80 (k0_pay56 vj) k0_pay64 d (k0_pay78 (k0_pay54 kj) (k0_pay65 q)) c1 l1 e1) v157 X2 X6 X7 X8 X14 (arg15.view.writes (Elt F) U15 (⟨Rect.unit (k0_off10 i) S1x1x128x512.size (k0_off10_inb i), k0_pay83 (k0_pay60 kj) (k0_pay80 (k0_pay56 vj) k0_pay64 d (k0_pay78 (k0_pay54 kj) (k0_pay65 q)) c1 l1 e1) w10⟩ :: ⟨Rect.unit (k0_off7 i) S1x1x128x512.size (k0_off7_inb i), k0_pay77 (k0_pay59 kj) (k0_pay72 (k0_pay53 kj) q c0 l0) (k0_pay73 (k0_pay55 vj) d) e0 w7⟩ :: T15)) (arg16.view.writes (Elt F) U16 (⟨Rect.unit ![1, 0, 0] S1x512x128.size inb_S2x512x128_S1x512x128_1_0_0, k0_pay82 (k0_pay56 vj) k0_pay64 d (k0_pay69 k0_pay46 q) (k0_pay78 (k0_pay54 kj) (k0_pay65 q)) c1 l1 e1 a141⟩ :: ⟨Rect.unit ![0, 0, 0] S1x512x128.size inb_S2x512x128_S1x512x128_0_0_0, k0_pay76 (k0_pay68 k0_pay46 q) (k0_pay72 (k0_pay53 kj) q c0 l0) (k0_pay73 (k0_pay55 vj) d) e0 a97⟩ :: T16)) (arg17.view.writes (Elt F) U17 (⟨Rect.unit ![0, 0] S512x128.size inb_S512x128_S512x128_0_0, k0_pay81 k0_pay64 (k0_pay71 k0_pay46 d) (k0_pay78 (k0_pay54 kj) (k0_pay65 q)) c1 l1 a134⟩ :: T17)) init (Scf.trips (k0_t2_loop i).lb (k0_t2_loop i).ub (k0_t2_loop i).st)).2.1 ++ (⟨Rect.unit (k0_off10 i) S1x1x128x512.size (k0_off10_inb i), k0_pay83 (k0_pay60 kj) (k0_pay80 (k0_pay56 vj) k0_pay64 d (k0_pay78 (k0_pay54 kj) (k0_pay65 q)) c1 l1 e1) w10⟩ :: ⟨Rect.unit (k0_off7 i) S1x1x128x512.size (k0_off7_inb i), k0_pay77 (k0_pay59 kj) (k0_pay72 (k0_pay53 kj) q c0 l0) (k0_pay73 (k0_pay55 vj) d) e0 w7⟩ :: T15)))) = (accum i x2 x3 x4 x6 x7 x8 dl dqt).dqt
    ∧ arg16.view.read (Elt F) (arg16.view.writes (Elt F) U16 ((st_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 k0_pay46 (k0_pay53 kj) (k0_pay54 kj) (k0_pay55 vj) (k0_pay56 vj) (k0_pay59 kj) (k0_pay60 kj) (k0_pay80 (k0_pay56 vj) k0_pay64 d (k0_pay78 (k0_pay54 kj) (k0_pay65 q)) c1 l1 e1) v162 X2 X6 X7 X8 X14 G15 G16 G17 init' (Scf.trips (k0_t3_loop i).lb (k0_t3_loop i).ub (k0_t3_loop i).st)).2.2.1 ++ ((st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 k0_pay46 (k0_pay53 kj) (k0_pay54 kj) (k0_pay55 vj) (k0_pay56 vj) (k0_pay59 kj) (k0_pay60 kj) (k0_pay80 (k0_pay56 vj) k0_pay64 d (k0_pay78 (k0_pay54 kj) (k0_pay65 q)) c1 l1 e1) v157 X2 X6 X7 X8 X14 (arg15.view.writes (Elt F) U15 (⟨Rect.unit (k0_off10 i) S1x1x128x512.size (k0_off10_inb i), k0_pay83 (k0_pay60 kj) (k0_pay80 (k0_pay56 vj) k0_pay64 d (k0_pay78 (k0_pay54 kj) (k0_pay65 q)) c1 l1 e1) w10⟩ :: ⟨Rect.unit (k0_off7 i) S1x1x128x512.size (k0_off7_inb i), k0_pay77 (k0_pay59 kj) (k0_pay72 (k0_pay53 kj) q c0 l0) (k0_pay73 (k0_pay55 vj) d) e0 w7⟩ :: T15)) (arg16.view.writes (Elt F) U16 (⟨Rect.unit ![1, 0, 0] S1x512x128.size inb_S2x512x128_S1x512x128_1_0_0, k0_pay82 (k0_pay56 vj) k0_pay64 d (k0_pay69 k0_pay46 q) (k0_pay78 (k0_pay54 kj) (k0_pay65 q)) c1 l1 e1 a141⟩ :: ⟨Rect.unit ![0, 0, 0] S1x512x128.size inb_S2x512x128_S1x512x128_0_0_0, k0_pay76 (k0_pay68 k0_pay46 q) (k0_pay72 (k0_pay53 kj) q c0 l0) (k0_pay73 (k0_pay55 vj) d) e0 a97⟩ :: T16)) (arg17.view.writes (Elt F) U17 (⟨Rect.unit ![0, 0] S512x128.size inb_S512x128_S512x128_0_0, k0_pay81 k0_pay64 (k0_pay71 k0_pay46 d) (k0_pay78 (k0_pay54 kj) (k0_pay65 q)) c1 l1 a134⟩ :: T17)) init (Scf.trips (k0_t2_loop i).lb (k0_t2_loop i).ub (k0_t2_loop i).st)).2.2.1 ++ (⟨Rect.unit ![1, 0, 0] S1x512x128.size inb_S2x512x128_S1x512x128_1_0_0, k0_pay82 (k0_pay56 vj) k0_pay64 d (k0_pay69 k0_pay46 q) (k0_pay78 (k0_pay54 kj) (k0_pay65 q)) c1 l1 e1 a141⟩ :: ⟨Rect.unit ![0, 0, 0] S1x512x128.size inb_S2x512x128_S1x512x128_0_0_0, k0_pay76 (k0_pay68 k0_pay46 q) (k0_pay72 (k0_pay53 kj) q c0 l0) (k0_pay73 (k0_pay55 vj) d) e0 a97⟩ :: T16)))) = (accum i x2 x3 x4 x6 x7 x8 dl dqt).dk
    ∧ arg17.view.read (Elt F) (arg17.view.writes (Elt F) U17 ((st_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 k0_pay46 (k0_pay53 kj) (k0_pay54 kj) (k0_pay55 vj) (k0_pay56 vj) (k0_pay59 kj) (k0_pay60 kj) (k0_pay80 (k0_pay56 vj) k0_pay64 d (k0_pay78 (k0_pay54 kj) (k0_pay65 q)) c1 l1 e1) v162 X2 X6 X7 X8 X14 G15 G16 G17 init' (Scf.trips (k0_t3_loop i).lb (k0_t3_loop i).ub (k0_t3_loop i).st)).2.2.2 ++ ((st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 k0_pay46 (k0_pay53 kj) (k0_pay54 kj) (k0_pay55 vj) (k0_pay56 vj) (k0_pay59 kj) (k0_pay60 kj) (k0_pay80 (k0_pay56 vj) k0_pay64 d (k0_pay78 (k0_pay54 kj) (k0_pay65 q)) c1 l1 e1) v157 X2 X6 X7 X8 X14 (arg15.view.writes (Elt F) U15 (⟨Rect.unit (k0_off10 i) S1x1x128x512.size (k0_off10_inb i), k0_pay83 (k0_pay60 kj) (k0_pay80 (k0_pay56 vj) k0_pay64 d (k0_pay78 (k0_pay54 kj) (k0_pay65 q)) c1 l1 e1) w10⟩ :: ⟨Rect.unit (k0_off7 i) S1x1x128x512.size (k0_off7_inb i), k0_pay77 (k0_pay59 kj) (k0_pay72 (k0_pay53 kj) q c0 l0) (k0_pay73 (k0_pay55 vj) d) e0 w7⟩ :: T15)) (arg16.view.writes (Elt F) U16 (⟨Rect.unit ![1, 0, 0] S1x512x128.size inb_S2x512x128_S1x512x128_1_0_0, k0_pay82 (k0_pay56 vj) k0_pay64 d (k0_pay69 k0_pay46 q) (k0_pay78 (k0_pay54 kj) (k0_pay65 q)) c1 l1 e1 a141⟩ :: ⟨Rect.unit ![0, 0, 0] S1x512x128.size inb_S2x512x128_S1x512x128_0_0_0, k0_pay76 (k0_pay68 k0_pay46 q) (k0_pay72 (k0_pay53 kj) q c0 l0) (k0_pay73 (k0_pay55 vj) d) e0 a97⟩ :: T16)) (arg17.view.writes (Elt F) U17 (⟨Rect.unit ![0, 0] S512x128.size inb_S512x128_S512x128_0_0, k0_pay81 k0_pay64 (k0_pay71 k0_pay46 d) (k0_pay78 (k0_pay54 kj) (k0_pay65 q)) c1 l1 a134⟩ :: T17)) init (Scf.trips (k0_t2_loop i).lb (k0_t2_loop i).ub (k0_t2_loop i).st)).2.2.2 ++ (⟨Rect.unit ![0, 0] S512x128.size inb_S512x128_S512x128_0_0, k0_pay81 k0_pay64 (k0_pay71 k0_pay46 d) (k0_pay78 (k0_pay54 kj) (k0_pay65 q)) c1 l1 a134⟩ :: T17)))) = (accum i x2 x3 x4 x6 x7 x8 dl dqt).dv := by
  rw [t3_nil]
  dsimp only
  rw [List.nil_append, List.nil_append, List.nil_append, View.writes_append, View.writes_append, View.writes_append]
  have e := st_read 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (arg1 := arg1) (v2 := k0_pay46) (v14 := k0_pay53 kj) (v17 := k0_pay54 kj) (v20 := k0_pay55 vj)
    (v23 := k0_pay56 vj) (v30 := k0_pay59 kj) (v33 := k0_pay60 kj) (v133 := (k0_pay80 (k0_pay56 vj) k0_pay64 d (k0_pay78 (k0_pay54 kj) (k0_pay65 q)) c1 l1 e1)) (v157 := v157)
    (X2 := X2) (X6 := X6) (X7 := X7) (X8 := X8) (X14 := X14) init
    (arg15.view.writes (Elt F) U15 (⟨Rect.unit (k0_off10 i) S1x1x128x512.size (k0_off10_inb i), k0_pay83 (k0_pay60 kj) (k0_pay80 (k0_pay56 vj) k0_pay64 d (k0_pay78 (k0_pay54 kj) (k0_pay65 q)) c1 l1 e1) w10⟩ :: ⟨Rect.unit (k0_off7 i) S1x1x128x512.size (k0_off7_inb i), k0_pay77 (k0_pay59 kj) (k0_pay72 (k0_pay53 kj) q c0 l0) (k0_pay73 (k0_pay55 vj) d) e0 w7⟩ :: T15)) (arg16.view.writes (Elt F) U16 (⟨Rect.unit ![1, 0, 0] S1x512x128.size inb_S2x512x128_S1x512x128_1_0_0, k0_pay82 (k0_pay56 vj) k0_pay64 d (k0_pay69 k0_pay46 q) (k0_pay78 (k0_pay54 kj) (k0_pay65 q)) c1 l1 e1 a141⟩ :: ⟨Rect.unit ![0, 0, 0] S1x512x128.size inb_S2x512x128_S1x512x128_0_0_0, k0_pay76 (k0_pay68 k0_pay46 q) (k0_pay72 (k0_pay53 kj) q c0 l0) (k0_pay73 (k0_pay55 vj) d) e0 a97⟩ :: T16)) (arg17.view.writes (Elt F) U17 (⟨Rect.unit ![0, 0] S512x128.size inb_S512x128_S512x128_0_0, k0_pay81 k0_pay64 (k0_pay71 k0_pay46 d) (k0_pay78 (k0_pay54 kj) (k0_pay65 q)) c1 l1 a134⟩ :: T17))
    (k0_t2_loop i).trips le_rfl
  rw [g2, g6, g7, g8, g14] at e
  have s15 : arg15.view.read (Elt F) (arg15.view.writes (Elt F) U15 (⟨Rect.unit (k0_off10 i) S1x1x128x512.size (k0_off10_inb i), k0_pay83 (k0_pay60 kj) (k0_pay80 (k0_pay56 vj) k0_pay64 d (k0_pay78 (k0_pay54 kj) (k0_pay65 q)) c1 l1 e1) w10⟩ :: ⟨Rect.unit (k0_off7 i) S1x1x128x512.size (k0_off7_inb i), k0_pay77 (k0_pay59 kj) (k0_pay72 (k0_pay53 kj) q c0 l0) (k0_pay73 (k0_pay55 vj) d) e0 w7⟩ :: T15)) = (diagStep i x2 x3 x4 x6 x7 x8 dl dqt).dqt := by
    rw [View.read_writes_cons_put (h := rfl), View.read_writes_cons_put (h := rfl), t15]
    subst hk hv hq hd hc0 hl0 he0 hc1 hl1 he1 hw7 hw10; rfl
  have s16 : arg16.view.read (Elt F) (arg16.view.writes (Elt F) U16 (⟨Rect.unit ![1, 0, 0] S1x512x128.size inb_S2x512x128_S1x512x128_1_0_0, k0_pay82 (k0_pay56 vj) k0_pay64 d (k0_pay69 k0_pay46 q) (k0_pay78 (k0_pay54 kj) (k0_pay65 q)) c1 l1 e1 a141⟩ :: ⟨Rect.unit ![0, 0, 0] S1x512x128.size inb_S2x512x128_S1x512x128_0_0_0, k0_pay76 (k0_pay68 k0_pay46 q) (k0_pay72 (k0_pay53 kj) q c0 l0) (k0_pay73 (k0_pay55 vj) d) e0 a97⟩ :: T16)) = (diagStep i x2 x3 x4 x6 x7 x8 dl dqt).dk := by
    rw [View.read_writes_cons_put (h := rfl), View.read_writes_cons_put (h := rfl), t16]
    subst hk hv hq hd hc0 hl0 he0 hc1 hl1 he1 h97 h141; rfl
  have s17 : arg17.view.read (Elt F) (arg17.view.writes (Elt F) U17 (⟨Rect.unit ![0, 0] S512x128.size inb_S512x128_S512x128_0_0, k0_pay81 k0_pay64 (k0_pay71 k0_pay46 d) (k0_pay78 (k0_pay54 kj) (k0_pay65 q)) c1 l1 a134⟩ :: T17)) = (diagStep i x2 x3 x4 x6 x7 x8 dl dqt).dv := by
    rw [View.read_writes_full]
    subst hk hv hq hd hc0 hl0 he0 hc1 hl1 he1 h90 h134; rfl
  rw [s15, s16, s17] at e
  subst hk hv
  exact ⟨congrArg Acc.dqt e, congrArg Acc.dk e, congrArg Acc.dv e⟩
end

end

end Cert.KernelIdeal.Attn

end
-- ==== Proof.Fill.lean ====
/- The loops that fill `delta` and that emit the queries' gradient: what each of their windows holds at the end. They write
   every element, so what the buffers held before does not matter. -/
module

public import proofs.«01_k».proof.Proof.Loop

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.VecWindow
open Cert.KernelIdeal.Gen

variable {F : FTy → Type} [FloatOps F]

/-- Two vectors with the same window agree at a place inside it. -/
theorem eq_of_window {α : Type} {s : Shape} {x x' : s.Idx → α} (y : s.Idx) {off size : Fin s.rank → ℕ} {inb : ∀ a, off a + size a ≤ s.size a}
    (e : window x off size inb = window x' off size inb) (h : ∀ a, off a ≤ (y a).val ∧ (y a).val < off a + size a) : x y = x' y := by
  have hy : (Rect.unit off size inb).emb (Rect.unitLocal (s := s) (off := off) (size := size) y h) = y := funext fun a => Fin.ext (by
    show off a + 1 * ((y a).val - off a) = (y a).val
    have := h a; omega)
  have := congrFun e (Rect.unitLocal (s := s) (off := off) (size := size) y h)
  simpa only [window, hy] using this

theorem t1_trips : k0_t1_loop.trips = 8 := by decide +kernel
theorem t4_trips : k0_t4_loop.trips = 8 := by decide +kernel
theorem off1_eq : ∀ k : Fin k0_t1_loop.trips, k0_off1 k = ![512 * k.val, 0] := by decide +kernel
theorem off2_eq : ∀ k : Fin k0_t1_loop.trips, k0_off2 k = ![0, k.val, 0, 0] := by decide +kernel
theorem off3_eq : ∀ k : Fin k0_t1_loop.trips, k0_off3 k = ![1, k.val, 0, 0] := by decide +kernel
theorem off25_eq : ∀ k : Fin k0_t4_loop.trips, k0_off25 k = ![0, k.val, 0, 0] := by decide +kernel
theorem off26_eq : ∀ k : Fin k0_t4_loop.trips, k0_off26 k = ![1, k.val, 0, 0] := by decide +kernel
theorem off27_eq : ∀ k : Fin k0_t4_loop.trips, k0_off27 k = ![512 * k.val, 0] := by decide +kernel
theorem off28_eq : ∀ k : Fin k0_t4_loop.trips, k0_off28 k = ![0, k.val, 0, 0] := by decide +kernel
theorem off29_eq : ∀ k : Fin k0_t4_loop.trips, k0_off29 k = ![1, k.val, 0, 0] := by decide +kernel

/-- After `n` trips the rows of the trips before hold the row sums of `do * o`. -/
theorem fillN_window (i : grid0.Coords) (h : k0_cond1 i = 1#1) (x5 x6 : Vec F S4096x128 .bf16) (dl : Vec F S2x8x8x512 .f32) (n : ℕ)
    (hn : n ≤ k0_t1_loop.trips) (k : Fin k0_t1_loop.trips) (hk : k.val < n) :
    window (fillN i h x5 x6 dl n) (k0_off2 k) S1x1x8x512.size (k0_off2_inb i k h)
        = k0_pay50 (window x6 (k0_off1 k) S512x128.size (k0_off1_inb i k h)) (window x5 (k0_off1 k) S512x128.size (k0_off1_inb i k h))
    ∧ window (fillN i h x5 x6 dl n) (k0_off3 k) S1x1x8x512.size (k0_off3_inb i k h)
        = k0_pay51 (window x6 (k0_off1 k) S512x128.size (k0_off1_inb i k h)) (window x5 (k0_off1 k) S512x128.size (k0_off1_inb i k h)) := by
  induction n with
  | zero => exact absurd hk (Nat.not_lt_zero _)
  | succ n ih =>
    have hlt : n < k0_t1_loop.trips := hn
    rw [fillN, dif_pos hlt]
    unfold fillTrip
    by_cases e : k.val = n
    · obtain rfl : k = ⟨n, hlt⟩ := Fin.ext e
      refine ⟨?_, window_put_same ..⟩
      rw [window_put_of_disjoint (a := (0 : Fin 4)) (ha := by rw [off2_eq, off3_eq]; exact .inl (by show 0 + 1 ≤ 1; decide))]
      exact window_put_same ..
    · obtain ⟨i1, i2⟩ := ih hlt.le (by omega)
      refine ⟨?_, ?_⟩
      · rw [window_put_of_disjoint (a := (1 : Fin 4)) (ha := by rw [off2_eq, off3_eq]; show k.val + 1 ≤ n ∨ _; omega),
          window_put_of_disjoint (a := (1 : Fin 4)) (ha := by rw [off2_eq, off2_eq]; show k.val + 1 ≤ n ∨ _; omega)]
        exact i1
      · rw [window_put_of_disjoint (a := (1 : Fin 4)) (ha := by rw [off3_eq, off3_eq]; show k.val + 1 ≤ n ∨ _; omega),
          window_put_of_disjoint (a := (1 : Fin 4)) (ha := by rw [off3_eq, off2_eq]; show k.val + 1 ≤ n ∨ _; omega)]
        exact i2

theorem off7_10 (i : grid0.Coords) : k0_off7 i 0 + S1x1x128x512.size 0 ≤ k0_off10 i 0 := by
  show 0 + 1 ≤ 1; decide

/-- Zeros of any shape. -/
def zeros (s : Shape) (e : FTy) : FVec F s e := fun _ => Scalar.ofBits e 0

/-- The row sums of `do * o` of a head pair, over every query block. -/
def delta (i : grid0.Coords) (h : k0_cond1 i = 1#1) (x5 x6 : Vec F S4096x128 .bf16) : Vec F S2x8x8x512 .f32 :=
  fillN i h x5 x6 (zeros S2x8x8x512 .f32) k0_t1_loop.trips

theorem fillN_eq (i : grid0.Coords) (h : k0_cond1 i = 1#1) (x5 x6 : Vec F S4096x128 .bf16) (dl : Vec F S2x8x8x512 .f32) :
    fillN i h x5 x6 dl k0_t1_loop.trips = delta i h x5 x6 := by
  funext y
  have h1 : (y 1).val < 8 := (y 1).isLt
  have h0 : (y 0).val < 2 := (y 0).isLt
  have h2 : (y 2).val < 8 := (y 2).isLt
  have h3 : (y 3).val < 512 := (y 3).isLt
  have hk : (y 1).val < k0_t1_loop.trips := h1
  obtain ⟨a2, a3⟩ := fillN_window i h x5 x6 dl _ le_rfl ⟨(y 1).val, hk⟩ hk
  obtain ⟨b2, b3⟩ := fillN_window i h x5 x6 (zeros S2x8x8x512 .f32) _ le_rfl ⟨(y 1).val, hk⟩ hk
  by_cases e0 : (y 0).val = 0
  · refine eq_of_window y (a2.trans b2.symm) ?_
    rw [off2_eq]
    intro a
    match a with
    | ⟨0, _⟩ => show 0 ≤ (y 0).val ∧ (y 0).val < 0 + 1; omega
    | ⟨1, _⟩ => show (y 1).val ≤ (y 1).val ∧ (y 1).val < (y 1).val + 1; omega
    | ⟨2, _⟩ => show 0 ≤ (y 2).val ∧ (y 2).val < 0 + 8; omega
    | ⟨3, _⟩ => show 0 ≤ (y 3).val ∧ (y 3).val < 0 + 512; omega
  · refine eq_of_window y (a3.trans b3.symm) ?_
    rw [off3_eq]
    intro a
    match a with
    | ⟨0, _⟩ => show 1 ≤ (y 0).val ∧ (y 0).val < 1 + 1; omega
    | ⟨1, _⟩ => show (y 1).val ≤ (y 1).val ∧ (y 1).val < (y 1).val + 1; omega
    | ⟨2, _⟩ => show 0 ≤ (y 2).val ∧ (y 2).val < 0 + 8; omega
    | ⟨3, _⟩ => show 0 ≤ (y 3).val ∧ (y 3).val < 0 + 512; omega

/-- After `n` trips of the emitting loop the rows of the trips before hold their results. -/
theorem emitN_window (i : grid0.Coords) (h : k0_cond2 i = 1#1) (dqt : Vec F S2x8x128x512 .f32) (y : Vec F S4096x128 .bf16 × Vec F S2x8x1x512 .f32)
    (n : ℕ) (hn : n ≤ k0_t4_loop.trips) (k : Fin k0_t4_loop.trips) (hk : k.val < n) :
    window (emitN i h dqt y n).1 (k0_off27 k) S512x128.size (k0_off27_inb i k h)
        = k0_pay5 k0_pay47 (window dqt (k0_off25 k) S1x1x128x512.size (k0_off25_inb i k h))
            (window dqt (k0_off26 k) S1x1x128x512.size (k0_off26_inb i k h))
    ∧ window (emitN i h dqt y n).2 (k0_off28 k) S1x1x1x512.size (k0_off28_inb i k h)
        = k0_pay6 (window dqt (k0_off25 k) S1x1x128x512.size (k0_off25_inb i k h))
    ∧ window (emitN i h dqt y n).2 (k0_off29 k) S1x1x1x512.size (k0_off29_inb i k h)
        = k0_pay7 (window dqt (k0_off26 k) S1x1x128x512.size (k0_off26_inb i k h)) := by
  induction n with
  | zero => exact absurd hk (Nat.not_lt_zero _)
  | succ n ih =>
    have hlt : n < k0_t4_loop.trips := hn
    rw [emitN, dif_pos hlt]
    unfold emitTrip
    by_cases e : k.val = n
    · obtain rfl : k = ⟨n, hlt⟩ := Fin.ext e
      refine ⟨window_put_same .., ?_, window_put_same ..⟩
      rw [window_put_of_disjoint (a := (0 : Fin 4)) (ha := by rw [off28_eq, off29_eq]; exact .inl (by show 0 + 1 ≤ 1; decide))]
      exact window_put_same ..
    · obtain ⟨i1, i2, i3⟩ := ih hlt.le (by omega)
      refine ⟨?_, ?_, ?_⟩
      · rw [window_put_of_disjoint (a := (0 : Fin 2)) (ha := by rw [off27_eq, off27_eq]; show 512 * k.val + 512 ≤ 512 * n ∨ 512 * n + 512 ≤ 512 * k.val; omega)]
        exact i1
      · rw [window_put_of_disjoint (a := (1 : Fin 4)) (ha := by rw [off28_eq, off29_eq]; show k.val + 1 ≤ n ∨ _; omega),
          window_put_of_disjoint (a := (1 : Fin 4)) (ha := by rw [off28_eq, off28_eq]; show k.val + 1 ≤ n ∨ _; omega)]
        exact i2
      · rw [window_put_of_disjoint (a := (1 : Fin 4)) (ha := by rw [off29_eq, off29_eq]; show k.val + 1 ≤ n ∨ _; omega),
          window_put_of_disjoint (a := (1 : Fin 4)) (ha := by rw [off29_eq, off28_eq]; show k.val + 1 ≤ n ∨ _; omega)]
        exact i3

/-- The queries' gradient of a head pair. -/
def outDq (i : grid0.Coords) (h : k0_cond2 i = 1#1) (dqt : Vec F S2x8x128x512 .f32) : Vec F S4096x128 .bf16 :=
  (emitN i h dqt (zeros S4096x128 .bf16, zeros S2x8x1x512 .f32) k0_t4_loop.trips).1
/-- The cumulated gates' gradient (as queries) of a head pair. -/
def outDcq (i : grid0.Coords) (h : k0_cond2 i = 1#1) (dqt : Vec F S2x8x128x512 .f32) : Vec F S2x8x1x512 .f32 :=
  (emitN i h dqt (zeros S4096x128 .bf16, zeros S2x8x1x512 .f32) k0_t4_loop.trips).2

theorem emitN_eq (i : grid0.Coords) (h : k0_cond2 i = 1#1) (dqt : Vec F S2x8x128x512 .f32) (x : Vec F S4096x128 .bf16 × Vec F S2x8x1x512 .f32) :
    (emitN i h dqt x k0_t4_loop.trips).1 = outDq i h dqt ∧ (emitN i h dqt x k0_t4_loop.trips).2 = outDcq i h dqt := by
  refine ⟨funext fun y => ?_, funext fun y => ?_⟩
  · have h0 : (y 0).val < 4096 := (y 0).isLt
    have h1 : (y 1).val < 128 := (y 1).isLt
    have hk : (y 0).val / 512 < k0_t4_loop.trips := by rw [t4_trips]; omega
    obtain ⟨a1, -, -⟩ := emitN_window i h dqt x _ le_rfl ⟨(y 0).val / 512, hk⟩ hk
    obtain ⟨b1, -, -⟩ := emitN_window i h dqt (zeros S4096x128 .bf16, zeros S2x8x1x512 .f32) _ le_rfl ⟨(y 0).val / 512, hk⟩ hk
    refine eq_of_window y (a1.trans b1.symm) ?_
    rw [off27_eq]
    intro a
    match a with
    | ⟨0, _⟩ => show 512 * ((y 0).val / 512) ≤ (y 0).val ∧ (y 0).val < 512 * ((y 0).val / 512) + 512; omega
    | ⟨1, _⟩ => show 0 ≤ (y 1).val ∧ (y 1).val < 0 + 128; omega
  · have h1 : (y 1).val < 8 := (y 1).isLt
    have h0 : (y 0).val < 2 := (y 0).isLt
    have h2 : (y 2).val < 1 := (y 2).isLt
    have h3 : (y 3).val < 512 := (y 3).isLt
    have hk : (y 1).val < k0_t4_loop.trips := h1
    obtain ⟨-, a2, a3⟩ := emitN_window i h dqt x _ le_rfl ⟨(y 1).val, hk⟩ hk
    obtain ⟨-, b2, b3⟩ := emitN_window i h dqt (zeros S4096x128 .bf16, zeros S2x8x1x512 .f32) _ le_rfl ⟨(y 1).val, hk⟩ hk
    by_cases e0 : (y 0).val = 0
    · refine eq_of_window y (a2.trans b2.symm) ?_
      rw [off28_eq]
      intro a
      match a with
      | ⟨0, _⟩ => show 0 ≤ (y 0).val ∧ (y 0).val < 0 + 1; omega
      | ⟨1, _⟩ => show (y 1).val ≤ (y 1).val ∧ (y 1).val < (y 1).val + 1; omega
      | ⟨2, _⟩ => show 0 ≤ (y 2).val ∧ (y 2).val < 0 + 1; omega
      | ⟨3, _⟩ => show 0 ≤ (y 3).val ∧ (y 3).val < 0 + 512; omega
    · refine eq_of_window y (a3.trans b3.symm) ?_
      rw [off29_eq]
      intro a
      match a with
      | ⟨0, _⟩ => show 1 ≤ (y 0).val ∧ (y 0).val < 1 + 1; omega
      | ⟨1, _⟩ => show (y 1).val ≤ (y 1).val ∧ (y 1).val < (y 1).val + 1; omega
      | ⟨2, _⟩ => show 0 ≤ (y 2).val ∧ (y 2).val < 0 + 1; omega
      | ⟨3, _⟩ => show 0 ≤ (y 3).val ∧ (y 3).val < 0 + 512; omega

/-- The two stores of the gates' gradient cover its block. -/
theorem outDck_eq (a : Acc F) (x x' : Vec F S2x512x1 .f32) : outDck a x = outDck a x' := by
  funext y
  have h0 : (y 0).val < 2 := (y 0).isLt
  have h1 : (y 1).val < 512 := (y 1).isLt
  have h2 : (y 2).val < 1 := (y 2).isLt
  by_cases e0 : (y 0).val = 0
  · refine eq_of_window y (off := ![0, 0, 0]) (size := S1x512x1.size) (inb := inb_S2x512x1_S1x512x1_0_0_0) ?_ ?_
    · unfold outDck
      have d : ∀ (z : Vec F S2x512x1 .f32) (w : Vec F S1x512x1 .f32), window (put z ![1, 0, 0] S1x512x1.size w) ![0, 0, 0] S1x512x1.size inb_S2x512x1_S1x512x1_0_0_0
          = window z ![0, 0, 0] S1x512x1.size inb_S2x512x1_S1x512x1_0_0_0 := fun z w =>
        window_put_of_disjoint (s := S2x512x1) (a := (0 : Fin 3)) (ha := .inl (by show 0 + 1 ≤ 1; decide)) ..
      rw [d, d, window_put_same, window_put_same]
    · intro a
      match a with
      | ⟨0, _⟩ => show 0 ≤ (y 0).val ∧ (y 0).val < 0 + 1; omega
      | ⟨1, _⟩ => show 0 ≤ (y 1).val ∧ (y 1).val < 0 + 512; omega
      | ⟨2, _⟩ => show 0 ≤ (y 2).val ∧ (y 2).val < 0 + 1; omega
  · refine eq_of_window y (off := ![1, 0, 0]) (size := S1x512x1.size) (inb := inb_S2x512x1_S1x512x1_1_0_0) ?_ ?_
    · unfold outDck
      rw [window_put_same, window_put_same]
    · intro a
      match a with
      | ⟨0, _⟩ => show 1 ≤ (y 0).val ∧ (y 0).val < 1 + 1; omega
      | ⟨1, _⟩ => show 0 ≤ (y 1).val ∧ (y 1).val < 0 + 512; omega
      | ⟨2, _⟩ => show 0 ≤ (y 2).val ∧ (y 2).val < 0 + 1; omega

section
variable (𝒱 : Variants) (c : Dev nD) (bd : Option 𝒱.V) (i : grid0.Coords)
  (arg2 : Memref sig .tc .vmem S4096x128 .bf16) (harg2 : arg2.IsWhole)
  (arg3 : Memref sig .tc .vmem S512x128 .bf16) (harg3 : arg3.IsWhole)
  (arg4 : Memref sig .tc .vmem S512x128 .bf16) (harg4 : arg4.IsWhole)
  (arg5 : Memref sig .tc .vmem S4096x128 .bf16) (harg5 : arg5.IsWhole)
  (arg6 : Memref sig .tc .vmem S4096x128 .bf16) (harg6 : arg6.IsWhole)
  (arg7 : Memref sig .tc .vmem S2x8x1x512 .f32) (harg7 : arg7.IsWhole)
  (arg8 : Memref sig .tc .vmem S2x512x1 .f32) (harg8 : arg8.IsWhole)
  (arg9 : Memref sig .tc .vmem S4096x128 .bf16) (harg9 : arg9.IsWhole)
  (arg10 : Memref sig .tc .vmem S512x128 .bf16) (harg10 : arg10.IsWhole)
  (arg11 : Memref sig .tc .vmem S512x128 .bf16) (harg11 : arg11.IsWhole)
  (arg12 : Memref sig .tc .vmem S2x8x1x512 .f32) (harg12 : arg12.IsWhole)
  (arg13 : Memref sig .tc .vmem S2x512x1 .f32) (harg13 : arg13.IsWhole)
  (arg14 : Memref sig .tc .vmem S2x8x8x512 .f32) (harg14 : arg14.IsWhole)
  (arg15 : Memref sig .tc .vmem S2x8x128x512 .f32) (harg15 : arg15.IsWhole)
  (arg16 : Memref sig .tc .vmem S2x512x128 .f32) (harg16 : arg16.IsWhole)
  (arg17 : Memref sig .tc .vmem S512x128 .f32) (harg17 : arg17.IsWhole)

/-- The stores of the filling loop, read back. -/
theorem pb1_read (h : k0_cond1 i = 1#1) (X5 : BufTy.Contents (Elt F) arg5.view.ty)
    (X6 : BufTy.Contents (Elt F) arg6.view.ty) (G14 : BufTy.Contents (Elt F) arg14.view.ty) (n : ℕ) (hn : n ≤ k0_t1_loop.trips) :
    arg14.view.read (Elt F) (arg14.view.writes (Elt F) G14 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h X5 X6 n))
      = fillN i h (arg5.view.read (Elt F) X5) (arg6.view.read (Elt F) X6) (arg14.view.read (Elt F) G14) n := by
  induction n with
  | zero => rfl
  | succ n ih =>
    have hk : n < k0_t1_loop.trips := hn
    have e := pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h X5 X6 ⟨n, hk⟩
    dsimp only at e
    rw [fillN, dif_pos hk, ← ih hk.le, e, View.writes_append]
    generalize arg14.view.writes (Elt F) G14 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h X5 X6 n) = f
    unfold tripL_k0_t1 trip_k0_t1 fillTrip
    dsimp only
    rw [View.read_writes_cons_put (h := rfl), View.read_writes_cons_put (h := rfl)]
    rfl

/-- The stores of the emitting loop, read back. -/
theorem pb4_read (h : k0_cond2 i = 1#1) (v5 : IVec S128x1 1) (hv5 : v5 = k0_pay47) (X15 : BufTy.Contents (Elt F) arg15.view.ty) (G9 : BufTy.Contents (Elt F) arg9.view.ty)
    (G12 : BufTy.Contents (Elt F) arg12.view.ty) (n : ℕ) (hn : n ≤ k0_t4_loop.trips) :
    (arg9.view.read (Elt F) (arg9.view.writes (Elt F) G9 (pb_k0_t4 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v5 h X15 n).1),
      arg12.view.read (Elt F) (arg12.view.writes (Elt F) G12 (pb_k0_t4 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v5 h X15 n).2))
      = emitN i h (arg15.view.read (Elt F) X15) ((arg9.view.read (Elt F) G9), (arg12.view.read (Elt F) G12)) n := by
  subst hv5
  induction n with
  | zero => rfl
  | succ n ih =>
    have hk : n < k0_t4_loop.trips := hn
    have e := pb_k0_t4_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_pay47 h X15 ⟨n, hk⟩
    dsimp only at e
    rw [emitN, dif_pos hk, ← ih hk.le, e]
    dsimp only
    rw [View.writes_append, View.writes_append]
    generalize arg9.view.writes (Elt F) G9 (pb_k0_t4 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_pay47 h X15 n).1 = f
    generalize arg12.view.writes (Elt F) G12 (pb_k0_t4 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_pay47 h X15 n).2 = g
    unfold trip_k0_t4 emitTrip
    dsimp only
    rw [View.read_writes_cons_put (h := rfl), View.read_writes_cons_put (h := rfl), View.read_writes_cons_put (h := rfl)]
    rfl

/-- The filling loop leaves the row sums, whatever the buffer held. -/
theorem fill_read (h : k0_cond1 i = 1#1) {x5 x6 : Vec F S4096x128 .bf16} {X5 : BufTy.Contents (Elt F) arg5.view.ty}
    {X6 : BufTy.Contents (Elt F) arg6.view.ty} {G14 : BufTy.Contents (Elt F) arg14.view.ty} (e5 : (arg5.view.read (Elt F) X5) = x5) (e6 : (arg6.view.read (Elt F) X6) = x6) :
    arg14.view.read (Elt F) (arg14.view.writes (Elt F) G14 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h X5 X6 k0_t1_loop.trips)) = delta i h x5 x6 := by
  rw [pb1_read 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h X5 X6 G14 _ le_rfl, e5, e6, fillN_eq]

/-- The emitting loop leaves the two gradients of the queries' side, whatever their blocks held. -/
theorem emit_read (h : k0_cond2 i = 1#1) {dqt : Vec F S2x8x128x512 .f32} {X15 : BufTy.Contents (Elt F) arg15.view.ty}
    {G9 : BufTy.Contents (Elt F) arg9.view.ty} {G12 : BufTy.Contents (Elt F) arg12.view.ty} (e : (arg15.view.read (Elt F) X15) = dqt) :
    arg9.view.read (Elt F) (arg9.view.writes (Elt F) G9 (pb_k0_t4 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_pay47 h X15 k0_t4_loop.trips).1) = outDq i h dqt
    ∧ arg12.view.read (Elt F) (arg12.view.writes (Elt F) G12 (pb_k0_t4 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_pay47 h X15 k0_t4_loop.trips).2) = outDcq i h dqt := by
  have r := pb4_read 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h _ rfl X15 G9 G12 _ le_rfl
  rw [e] at r
  exact ⟨(congrArg Prod.fst r).trans (emitN_eq ..).1, (congrArg Prod.snd r).trans (emitN_eq ..).2⟩

theorem dq_read (h : k0_cond2 i = 1#1) {dqt : Vec F S2x8x128x512 .f32} {X15 : BufTy.Contents (Elt F) arg15.view.ty}
    {G9 : BufTy.Contents (Elt F) arg9.view.ty} (e : (arg15.view.read (Elt F) X15) = dqt) :
    arg9.view.read (Elt F) (arg9.view.writes (Elt F) G9 (pb_k0_t4 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_pay47 h X15 k0_t4_loop.trips).1) = outDq i h dqt :=
  (emit_read (G12 := harg12.unread (zeros S2x8x1x512 .f32)) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h e).1

theorem dcq_read (h : k0_cond2 i = 1#1) {dqt : Vec F S2x8x128x512 .f32} {X15 : BufTy.Contents (Elt F) arg15.view.ty}
    {G12 : BufTy.Contents (Elt F) arg12.view.ty} (e : (arg15.view.read (Elt F) X15) = dqt) :
    arg12.view.read (Elt F) (arg12.view.writes (Elt F) G12 (pb_k0_t4 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_pay47 h X15 k0_t4_loop.trips).2) = outDcq i h dqt :=
  (emit_read (G9 := harg9.unread (zeros S4096x128 .bf16)) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h e).2

/-- The stores of the three blocks a point writes in any case. -/
theorem dk_read {A : Acc F} {a0 a1 : Vec F S1x512x128 .f32} {G10 : BufTy.Contents (Elt F) arg10.view.ty} {L : List (View.Piece (Elt F) S512x128 .bf16)}
    (h0 : a0 = window A.dk ![0, 0, 0] S1x512x128.size inb_S2x512x128_S1x512x128_0_0_0)
    (h1 : a1 = window A.dk ![1, 0, 0] S1x512x128.size inb_S2x512x128_S1x512x128_1_0_0) :
    arg10.view.read (Elt F) (arg10.view.writes (Elt F) G10
      (⟨Rect.unit ![0, 0] S512x128.size inb_S512x128_S512x128_0_0, k0_pay84 k0_pay46 a0 a1⟩ :: L)) = outDk A := by
  rw [View.read_writes_full, h0, h1]; rfl

theorem dv_read {A : Acc F} {a : Vec F S512x128 .f32} {G11 : BufTy.Contents (Elt F) arg11.view.ty} {L : List (View.Piece (Elt F) S512x128 .bf16)}
    (h : a = A.dv) :
    arg11.view.read (Elt F) (arg11.view.writes (Elt F) G11
      (⟨Rect.unit ![0, 0] S512x128.size inb_S512x128_S512x128_0_0, k0_pay85 a⟩ :: L)) = outDv A := by
  rw [View.read_writes_full, h]; rfl

theorem dck_read {A : Acc F} {a0 a1 : Vec F S1x512x128 .f32} {G13 : BufTy.Contents (Elt F) arg13.view.ty} {L : List (View.Piece (Elt F) S2x512x1 .f32)}
    (h0 : a0 = window A.dk ![0, 0, 0] S1x512x128.size inb_S2x512x128_S1x512x128_0_0_0)
    (h1 : a1 = window A.dk ![1, 0, 0] S1x512x128.size inb_S2x512x128_S1x512x128_1_0_0) :
    arg13.view.read (Elt F) (arg13.view.writes (Elt F) G13
      (⟨Rect.unit ![1, 0, 0] S1x512x1.size inb_S2x512x1_S1x512x1_1_0_0, k0_pay2 a1⟩
        :: ⟨Rect.unit ![0, 0, 0] S1x512x1.size inb_S2x512x1_S1x512x1_0_0_0, k0_pay1 (k0_pay86 a0) (Scalar.ofBits .f32 0x00000000#32)⟩ :: L))
      = outDck A (zeros S2x512x1 .f32) := by
  rw [View.read_writes_cons_put (h := rfl), View.read_writes_cons_put (h := rfl), h0, h1]
  exact outDck_eq ..
end

end Cert.KernelIdeal.Attn

end
-- ==== Proof.RunA.lean ====
/- The gradient kernel's body at the first key block of a head pair: it clears `dqt` and fills `delta`. -/
module

public import proofs.«01_k».proof.Proof.Fill

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.VecWindow
open Cert.KernelIdeal.Gen

variable {F : FTy → Type} [FloatOps F]

local notation "𝕄" => MT nD τ sig Unit (Elt F) ℕ (UR sig nD τ) ℕ

set_option maxHeartbeats 8000000 in
theorem body_A (c : Dev nD) (i : grid0.Coords) (arg2 : Memref sig .tc .vmem S4096x128 .bf16) (harg2 : arg2.IsWhole)
  (arg3 : Memref sig .tc .vmem S512x128 .bf16) (harg3 : arg3.IsWhole)
  (arg4 : Memref sig .tc .vmem S512x128 .bf16) (harg4 : arg4.IsWhole)
  (arg5 : Memref sig .tc .vmem S4096x128 .bf16) (harg5 : arg5.IsWhole)
  (arg6 : Memref sig .tc .vmem S4096x128 .bf16) (harg6 : arg6.IsWhole)
  (arg7 : Memref sig .tc .vmem S2x8x1x512 .f32) (harg7 : arg7.IsWhole)
  (arg8 : Memref sig .tc .vmem S2x512x1 .f32) (harg8 : arg8.IsWhole)
  (arg9 : Memref sig .tc .vmem S4096x128 .bf16) (harg9 : arg9.IsWhole)
  (arg10 : Memref sig .tc .vmem S512x128 .bf16) (harg10 : arg10.IsWhole)
  (arg11 : Memref sig .tc .vmem S512x128 .bf16) (harg11 : arg11.IsWhole)
  (arg12 : Memref sig .tc .vmem S2x8x1x512 .f32) (harg12 : arg12.IsWhole)
  (arg13 : Memref sig .tc .vmem S2x512x1 .f32) (harg13 : arg13.IsWhole)
  (arg14 : Memref sig .tc .vmem S2x8x8x512 .f32) (harg14 : arg14.IsWhole)
  (arg15 : Memref sig .tc .vmem S2x8x128x512 .f32) (harg15 : arg15.IsWhole)
  (arg16 : Memref sig .tc .vmem S2x512x128 .f32) (harg16 : arg16.IsWhole)
  (arg17 : Memref sig .tc .vmem S512x128 .f32) (harg17 : arg17.IsWhole)
  (x2 : Vec F S4096x128 .bf16) (x3 : Vec F S512x128 .bf16) (x4 : Vec F S512x128 .bf16) (x5 : Vec F S4096x128 .bf16) (x6 : Vec F S4096x128 .bf16) (x7 : Vec F S2x8x1x512 .f32) (x8 : Vec F S2x512x1 .f32) (x9 : Vec F S4096x128 .bf16) (x10 : Vec F S512x128 .bf16) (x11 : Vec F S512x128 .bf16) (x12 : Vec F S2x8x1x512 .f32) (x13 : Vec F S2x512x1 .f32) (x14 : Vec F S2x8x8x512 .f32) (x15 : Vec F S2x8x128x512 .f32) (x16 : Vec F S2x512x128 .f32) (x17 : Vec F S512x128 .f32)
    (h1 : k0_cond1 i = 1#1) (h2 : ¬ k0_cond2 i = 1#1) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ ((owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (outDk (accum i x2 x3 x4 x6 x7 x8 (delta i h1 x5 x6) (k0_pay48 (F := F)))) ∗ owns (c : Thread nD τ) arg11 fullShare (outDv (accum i x2 x3 x4 x6 x7 x8 (delta i h1 x5 x6) (k0_pay48 (F := F)))) ∗ owns (c : Thread nD τ) arg12 fullShare x12 ∗ owns (c : Thread nD τ) arg13 fullShare (outDck (accum i x2 x3 x4 x6 x7 x8 (delta i h1 x5 x6) (k0_pay48 (F := F))) (zeros S2x512x1 .f32)) ∗ owns (c : Thread nD τ) arg14 fullShare (delta i h1 x5 x6) ∗ owns (c : Thread nD τ) arg15 fullShare (accum i x2 x3 x4 x6 x7 x8 (delta i h1 x5 x6) (k0_pay48 (F := F))).dqt ∗ owns (c : Thread nD τ) arg16 fullShare (accum i x2 x3 x4 x6 x7 x8 (delta i h1 x5 x6) (k0_pay48 (F := F))).dk ∗ owns (c : Thread nD τ) arg17 fullShare (accum i x2 x3 x4 x6 x7 x8 (delta i h1 x5 x6) (k0_pay48 (F := F))).dv) -∗ K ⟨⟩))
    ⊢ wp frame (wpE (defs₀ (F := F)) Variants.none c none) E (cc0_attn_bwd_1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    simp only [cc0_attn_bwd_1_eq_skeleton]; unfold cc0_attn_bwd_1_skel
    simp only [k0_part7_eq_skeleton, k0_part8_eq_skeleton, k0_part9_eq_skeleton, k0_part10_eq_skeleton, k0_part11_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17
    sl_exec (disch := first | sl_exact h1 | sl_exact h2)
    sl_step
    iapply Hk
    isplitl [H2]
    · iexists _; isplitr; rotate_left; iexact H2; ipureintro
      exact harg2.read_unread _
    isplitl [H3]
    · iexists _; isplitr; rotate_left; iexact H3; ipureintro
      exact harg3.read_unread _
    isplitl [H4]
    · iexists _; isplitr; rotate_left; iexact H4; ipureintro
      exact harg4.read_unread _
    isplitl [H5]
    · iexists _; isplitr; rotate_left; iexact H5; ipureintro
      exact harg5.read_unread _
    isplitl [H6]
    · iexists _; isplitr; rotate_left; iexact H6; ipureintro
      exact harg6.read_unread _
    isplitl [H7]
    · iexists _; isplitr; rotate_left; iexact H7; ipureintro
      exact harg7.read_unread _
    isplitl [H8]
    · iexists _; isplitr; rotate_left; iexact H8; ipureintro
      exact harg8.read_unread _
    isplitl [H9]
    · iexists _; isplitr; rotate_left; iexact H9; ipureintro
      exact harg9.read_unread _
    isplitl [H10]
    · iexists _; isplitr; rotate_left; iexact H10; ipureintro
      exact dk_read (arg10 := arg10) (window_of_read (final_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (fill_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 (harg5.read_unread _) (harg6.read_unread _)) (he0 := window_of_read (fill_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 (harg5.read_unread _) (harg6.read_unread _))) (he1 := window_of_read (fill_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 (harg5.read_unread _) (harg6.read_unread _))) (t15 := View.read_writes_full ..) (hw7 := window_of_read (View.read_writes_full ..)) (hw10 := window_of_cons (View.read_writes_full ..) (0 : Fin 4) (.inr (off7_10 i)))).2.1) (window_of_read (final_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (fill_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 (harg5.read_unread _) (harg6.read_unread _)) (he0 := window_of_read (fill_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 (harg5.read_unread _) (harg6.read_unread _))) (he1 := window_of_read (fill_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 (harg5.read_unread _) (harg6.read_unread _))) (t15 := View.read_writes_full ..) (hw7 := window_of_read (View.read_writes_full ..)) (hw10 := window_of_cons (View.read_writes_full ..) (0 : Fin 4) (.inr (off7_10 i)))).2.1)
    isplitl [H11]
    · iexists _; isplitr; rotate_left; iexact H11; ipureintro
      exact dv_read (arg11 := arg11) (full_of_read (final_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (fill_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 (harg5.read_unread _) (harg6.read_unread _)) (he0 := window_of_read (fill_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 (harg5.read_unread _) (harg6.read_unread _))) (he1 := window_of_read (fill_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 (harg5.read_unread _) (harg6.read_unread _))) (t15 := View.read_writes_full ..) (hw7 := window_of_read (View.read_writes_full ..)) (hw10 := window_of_cons (View.read_writes_full ..) (0 : Fin 4) (.inr (off7_10 i)))).2.2)
    isplitl [H12]
    · iexists _; isplitr; rotate_left; iexact H12; ipureintro
      exact harg12.read_unread _
    isplitl [H13]
    · iexists _; isplitr; rotate_left; iexact H13; ipureintro
      exact dck_read (arg13 := arg13) (window_of_read (final_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (fill_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 (harg5.read_unread _) (harg6.read_unread _)) (he0 := window_of_read (fill_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 (harg5.read_unread _) (harg6.read_unread _))) (he1 := window_of_read (fill_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 (harg5.read_unread _) (harg6.read_unread _))) (t15 := View.read_writes_full ..) (hw7 := window_of_read (View.read_writes_full ..)) (hw10 := window_of_cons (View.read_writes_full ..) (0 : Fin 4) (.inr (off7_10 i)))).2.1) (window_of_read (final_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (fill_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 (harg5.read_unread _) (harg6.read_unread _)) (he0 := window_of_read (fill_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 (harg5.read_unread _) (harg6.read_unread _))) (he1 := window_of_read (fill_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 (harg5.read_unread _) (harg6.read_unread _))) (t15 := View.read_writes_full ..) (hw7 := window_of_read (View.read_writes_full ..)) (hw10 := window_of_cons (View.read_writes_full ..) (0 : Fin 4) (.inr (off7_10 i)))).2.1)
    isplitl [H14]
    · iexists _; isplitr; rotate_left; iexact H14; ipureintro
      exact (fill_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 (harg5.read_unread _) (harg6.read_unread _))
    isplitl [H15]
    · iexists _; isplitr; rotate_left; iexact H15; ipureintro
      exact (final_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (fill_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 (harg5.read_unread _) (harg6.read_unread _)) (he0 := window_of_read (fill_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 (harg5.read_unread _) (harg6.read_unread _))) (he1 := window_of_read (fill_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 (harg5.read_unread _) (harg6.read_unread _))) (t15 := View.read_writes_full ..) (hw7 := window_of_read (View.read_writes_full ..)) (hw10 := window_of_cons (View.read_writes_full ..) (0 : Fin 4) (.inr (off7_10 i)))).1
    isplitl [H16]
    · iexists _; isplitr; rotate_left; iexact H16; ipureintro
      exact (final_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (fill_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 (harg5.read_unread _) (harg6.read_unread _)) (he0 := window_of_read (fill_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 (harg5.read_unread _) (harg6.read_unread _))) (he1 := window_of_read (fill_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 (harg5.read_unread _) (harg6.read_unread _))) (t15 := View.read_writes_full ..) (hw7 := window_of_read (View.read_writes_full ..)) (hw10 := window_of_cons (View.read_writes_full ..) (0 : Fin 4) (.inr (off7_10 i)))).2.1
    · iexists _; isplitr; rotate_left; iexact H17; ipureintro
      exact (final_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (fill_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 (harg5.read_unread _) (harg6.read_unread _)) (he0 := window_of_read (fill_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 (harg5.read_unread _) (harg6.read_unread _))) (he1 := window_of_read (fill_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 (harg5.read_unread _) (harg6.read_unread _))) (t15 := View.read_writes_full ..) (hw7 := window_of_read (View.read_writes_full ..)) (hw10 := window_of_cons (View.read_writes_full ..) (0 : Fin 4) (.inr (off7_10 i)))).2.2

end Cert.KernelIdeal.Attn

end
-- ==== Proof.RunB.lean ====
/- The gradient kernel's body at a key block that is neither the first nor the last of its head pair. -/
module

public import proofs.«01_k».proof.Proof.RunA

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.VecWindow
open Cert.KernelIdeal.Gen

variable {F : FTy → Type} [FloatOps F]

local notation "𝕄" => MT nD τ sig Unit (Elt F) ℕ (UR sig nD τ) ℕ

set_option maxHeartbeats 8000000 in
theorem body_B (c : Dev nD) (i : grid0.Coords) (arg2 : Memref sig .tc .vmem S4096x128 .bf16) (harg2 : arg2.IsWhole)
  (arg3 : Memref sig .tc .vmem S512x128 .bf16) (harg3 : arg3.IsWhole)
  (arg4 : Memref sig .tc .vmem S512x128 .bf16) (harg4 : arg4.IsWhole)
  (arg5 : Memref sig .tc .vmem S4096x128 .bf16) (harg5 : arg5.IsWhole)
  (arg6 : Memref sig .tc .vmem S4096x128 .bf16) (harg6 : arg6.IsWhole)
  (arg7 : Memref sig .tc .vmem S2x8x1x512 .f32) (harg7 : arg7.IsWhole)
  (arg8 : Memref sig .tc .vmem S2x512x1 .f32) (harg8 : arg8.IsWhole)
  (arg9 : Memref sig .tc .vmem S4096x128 .bf16) (harg9 : arg9.IsWhole)
  (arg10 : Memref sig .tc .vmem S512x128 .bf16) (harg10 : arg10.IsWhole)
  (arg11 : Memref sig .tc .vmem S512x128 .bf16) (harg11 : arg11.IsWhole)
  (arg12 : Memref sig .tc .vmem S2x8x1x512 .f32) (harg12 : arg12.IsWhole)
  (arg13 : Memref sig .tc .vmem S2x512x1 .f32) (harg13 : arg13.IsWhole)
  (arg14 : Memref sig .tc .vmem S2x8x8x512 .f32) (harg14 : arg14.IsWhole)
  (arg15 : Memref sig .tc .vmem S2x8x128x512 .f32) (harg15 : arg15.IsWhole)
  (arg16 : Memref sig .tc .vmem S2x512x128 .f32) (harg16 : arg16.IsWhole)
  (arg17 : Memref sig .tc .vmem S512x128 .f32) (harg17 : arg17.IsWhole)
  (x2 : Vec F S4096x128 .bf16) (x3 : Vec F S512x128 .bf16) (x4 : Vec F S512x128 .bf16) (x5 : Vec F S4096x128 .bf16) (x6 : Vec F S4096x128 .bf16) (x7 : Vec F S2x8x1x512 .f32) (x8 : Vec F S2x512x1 .f32) (x9 : Vec F S4096x128 .bf16) (x10 : Vec F S512x128 .bf16) (x11 : Vec F S512x128 .bf16) (x12 : Vec F S2x8x1x512 .f32) (x13 : Vec F S2x512x1 .f32) (x14 : Vec F S2x8x8x512 .f32) (x15 : Vec F S2x8x128x512 .f32) (x16 : Vec F S2x512x128 .f32) (x17 : Vec F S512x128 .f32)
    (h1 : ¬ k0_cond1 i = 1#1) (h2 : ¬ k0_cond2 i = 1#1) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ ((owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (outDk (accum i x2 x3 x4 x6 x7 x8 x14 x15)) ∗ owns (c : Thread nD τ) arg11 fullShare (outDv (accum i x2 x3 x4 x6 x7 x8 x14 x15)) ∗ owns (c : Thread nD τ) arg12 fullShare x12 ∗ owns (c : Thread nD τ) arg13 fullShare (outDck (accum i x2 x3 x4 x6 x7 x8 x14 x15) (zeros S2x512x1 .f32)) ∗ owns (c : Thread nD τ) arg14 fullShare x14 ∗ owns (c : Thread nD τ) arg15 fullShare (accum i x2 x3 x4 x6 x7 x8 x14 x15).dqt ∗ owns (c : Thread nD τ) arg16 fullShare (accum i x2 x3 x4 x6 x7 x8 x14 x15).dk ∗ owns (c : Thread nD τ) arg17 fullShare (accum i x2 x3 x4 x6 x7 x8 x14 x15).dv) -∗ K ⟨⟩))
    ⊢ wp frame (wpE (defs₀ (F := F)) Variants.none c none) E (cc0_attn_bwd_1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    simp only [cc0_attn_bwd_1_eq_skeleton]; unfold cc0_attn_bwd_1_skel
    simp only [k0_part7_eq_skeleton, k0_part8_eq_skeleton, k0_part9_eq_skeleton, k0_part10_eq_skeleton, k0_part11_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17
    sl_exec (disch := first | sl_exact h1 | sl_exact h2)
    sl_step
    iapply Hk
    isplitl [H2]
    · iexists _; isplitr; rotate_left; iexact H2; ipureintro
      exact harg2.read_unread _
    isplitl [H3]
    · iexists _; isplitr; rotate_left; iexact H3; ipureintro
      exact harg3.read_unread _
    isplitl [H4]
    · iexists _; isplitr; rotate_left; iexact H4; ipureintro
      exact harg4.read_unread _
    isplitl [H5]
    · iexists _; isplitr; rotate_left; iexact H5; ipureintro
      exact harg5.read_unread _
    isplitl [H6]
    · iexists _; isplitr; rotate_left; iexact H6; ipureintro
      exact harg6.read_unread _
    isplitl [H7]
    · iexists _; isplitr; rotate_left; iexact H7; ipureintro
      exact harg7.read_unread _
    isplitl [H8]
    · iexists _; isplitr; rotate_left; iexact H8; ipureintro
      exact harg8.read_unread _
    isplitl [H9]
    · iexists _; isplitr; rotate_left; iexact H9; ipureintro
      exact harg9.read_unread _
    isplitl [H10]
    · iexists _; isplitr; rotate_left; iexact H10; ipureintro
      exact dk_read (arg10 := arg10) (window_of_read (final_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg14.read_unread _) (he0 := window_of_read (harg14.read_unread _)) (he1 := window_of_read (harg14.read_unread _))).2.1) (window_of_read (final_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg14.read_unread _) (he0 := window_of_read (harg14.read_unread _)) (he1 := window_of_read (harg14.read_unread _))).2.1)
    isplitl [H11]
    · iexists _; isplitr; rotate_left; iexact H11; ipureintro
      exact dv_read (arg11 := arg11) (full_of_read (final_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg14.read_unread _) (he0 := window_of_read (harg14.read_unread _)) (he1 := window_of_read (harg14.read_unread _))).2.2)
    isplitl [H12]
    · iexists _; isplitr; rotate_left; iexact H12; ipureintro
      exact harg12.read_unread _
    isplitl [H13]
    · iexists _; isplitr; rotate_left; iexact H13; ipureintro
      exact dck_read (arg13 := arg13) (window_of_read (final_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg14.read_unread _) (he0 := window_of_read (harg14.read_unread _)) (he1 := window_of_read (harg14.read_unread _))).2.1) (window_of_read (final_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg14.read_unread _) (he0 := window_of_read (harg14.read_unread _)) (he1 := window_of_read (harg14.read_unread _))).2.1)
    isplitl [H14]
    · iexists _; isplitr; rotate_left; iexact H14; ipureintro
      exact harg14.read_unread _
    isplitl [H15]
    · iexists _; isplitr; rotate_left; iexact H15; ipureintro
      exact (final_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg14.read_unread _) (he0 := window_of_read (harg14.read_unread _)) (he1 := window_of_read (harg14.read_unread _))).1
    isplitl [H16]
    · iexists _; isplitr; rotate_left; iexact H16; ipureintro
      exact (final_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg14.read_unread _) (he0 := window_of_read (harg14.read_unread _)) (he1 := window_of_read (harg14.read_unread _))).2.1
    · iexists _; isplitr; rotate_left; iexact H17; ipureintro
      exact (final_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg14.read_unread _) (he0 := window_of_read (harg14.read_unread _)) (he1 := window_of_read (harg14.read_unread _))).2.2

end Cert.KernelIdeal.Attn

end
-- ==== Proof.RunC.lean ====
/- The gradient kernel's body at the last key block of a head pair: it emits the queries' gradient. -/
module

public import proofs.«01_k».proof.Proof.RunB

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.VecWindow
open Cert.KernelIdeal.Gen

variable {F : FTy → Type} [FloatOps F]

local notation "𝕄" => MT nD τ sig Unit (Elt F) ℕ (UR sig nD τ) ℕ

set_option maxHeartbeats 8000000 in
theorem body_C (c : Dev nD) (i : grid0.Coords) (arg2 : Memref sig .tc .vmem S4096x128 .bf16) (harg2 : arg2.IsWhole)
  (arg3 : Memref sig .tc .vmem S512x128 .bf16) (harg3 : arg3.IsWhole)
  (arg4 : Memref sig .tc .vmem S512x128 .bf16) (harg4 : arg4.IsWhole)
  (arg5 : Memref sig .tc .vmem S4096x128 .bf16) (harg5 : arg5.IsWhole)
  (arg6 : Memref sig .tc .vmem S4096x128 .bf16) (harg6 : arg6.IsWhole)
  (arg7 : Memref sig .tc .vmem S2x8x1x512 .f32) (harg7 : arg7.IsWhole)
  (arg8 : Memref sig .tc .vmem S2x512x1 .f32) (harg8 : arg8.IsWhole)
  (arg9 : Memref sig .tc .vmem S4096x128 .bf16) (harg9 : arg9.IsWhole)
  (arg10 : Memref sig .tc .vmem S512x128 .bf16) (harg10 : arg10.IsWhole)
  (arg11 : Memref sig .tc .vmem S512x128 .bf16) (harg11 : arg11.IsWhole)
  (arg12 : Memref sig .tc .vmem S2x8x1x512 .f32) (harg12 : arg12.IsWhole)
  (arg13 : Memref sig .tc .vmem S2x512x1 .f32) (harg13 : arg13.IsWhole)
  (arg14 : Memref sig .tc .vmem S2x8x8x512 .f32) (harg14 : arg14.IsWhole)
  (arg15 : Memref sig .tc .vmem S2x8x128x512 .f32) (harg15 : arg15.IsWhole)
  (arg16 : Memref sig .tc .vmem S2x512x128 .f32) (harg16 : arg16.IsWhole)
  (arg17 : Memref sig .tc .vmem S512x128 .f32) (harg17 : arg17.IsWhole)
  (x2 : Vec F S4096x128 .bf16) (x3 : Vec F S512x128 .bf16) (x4 : Vec F S512x128 .bf16) (x5 : Vec F S4096x128 .bf16) (x6 : Vec F S4096x128 .bf16) (x7 : Vec F S2x8x1x512 .f32) (x8 : Vec F S2x512x1 .f32) (x9 : Vec F S4096x128 .bf16) (x10 : Vec F S512x128 .bf16) (x11 : Vec F S512x128 .bf16) (x12 : Vec F S2x8x1x512 .f32) (x13 : Vec F S2x512x1 .f32) (x14 : Vec F S2x8x8x512 .f32) (x15 : Vec F S2x8x128x512 .f32) (x16 : Vec F S2x512x128 .f32) (x17 : Vec F S512x128 .f32)
    (h1 : ¬ k0_cond1 i = 1#1) (h2 : k0_cond2 i = 1#1) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ ((owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (outDq i h2 (accum i x2 x3 x4 x6 x7 x8 x14 x15).dqt) ∗ owns (c : Thread nD τ) arg10 fullShare (outDk (accum i x2 x3 x4 x6 x7 x8 x14 x15)) ∗ owns (c : Thread nD τ) arg11 fullShare (outDv (accum i x2 x3 x4 x6 x7 x8 x14 x15)) ∗ owns (c : Thread nD τ) arg12 fullShare (outDcq i h2 (accum i x2 x3 x4 x6 x7 x8 x14 x15).dqt) ∗ owns (c : Thread nD τ) arg13 fullShare (outDck (accum i x2 x3 x4 x6 x7 x8 x14 x15) (zeros S2x512x1 .f32)) ∗ owns (c : Thread nD τ) arg14 fullShare x14 ∗ owns (c : Thread nD τ) arg15 fullShare (accum i x2 x3 x4 x6 x7 x8 x14 x15).dqt ∗ owns (c : Thread nD τ) arg16 fullShare (accum i x2 x3 x4 x6 x7 x8 x14 x15).dk ∗ owns (c : Thread nD τ) arg17 fullShare (accum i x2 x3 x4 x6 x7 x8 x14 x15).dv) -∗ K ⟨⟩))
    ⊢ wp frame (wpE (defs₀ (F := F)) Variants.none c none) E (cc0_attn_bwd_1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    simp only [cc0_attn_bwd_1_eq_skeleton]; unfold cc0_attn_bwd_1_skel
    simp only [k0_part7_eq_skeleton, k0_part8_eq_skeleton, k0_part9_eq_skeleton, k0_part10_eq_skeleton, k0_part11_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17
    sl_exec (disch := first | sl_exact h1 | sl_exact h2)
    sl_step
    iapply Hk
    isplitl [H2]
    · iexists _; isplitr; rotate_left; iexact H2; ipureintro
      exact harg2.read_unread _
    isplitl [H3]
    · iexists _; isplitr; rotate_left; iexact H3; ipureintro
      exact harg3.read_unread _
    isplitl [H4]
    · iexists _; isplitr; rotate_left; iexact H4; ipureintro
      exact harg4.read_unread _
    isplitl [H5]
    · iexists _; isplitr; rotate_left; iexact H5; ipureintro
      exact harg5.read_unread _
    isplitl [H6]
    · iexists _; isplitr; rotate_left; iexact H6; ipureintro
      exact harg6.read_unread _
    isplitl [H7]
    · iexists _; isplitr; rotate_left; iexact H7; ipureintro
      exact harg7.read_unread _
    isplitl [H8]
    · iexists _; isplitr; rotate_left; iexact H8; ipureintro
      exact harg8.read_unread _
    isplitl [H9]
    · iexists _; isplitr; rotate_left; iexact H9; ipureintro
      exact (dq_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 (final_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg14.read_unread _) (he0 := window_of_read (harg14.read_unread _)) (he1 := window_of_read (harg14.read_unread _))).1)
    isplitl [H10]
    · iexists _; isplitr; rotate_left; iexact H10; ipureintro
      exact dk_read (arg10 := arg10) (window_of_read (final_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg14.read_unread _) (he0 := window_of_read (harg14.read_unread _)) (he1 := window_of_read (harg14.read_unread _))).2.1) (window_of_read (final_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg14.read_unread _) (he0 := window_of_read (harg14.read_unread _)) (he1 := window_of_read (harg14.read_unread _))).2.1)
    isplitl [H11]
    · iexists _; isplitr; rotate_left; iexact H11; ipureintro
      exact dv_read (arg11 := arg11) (full_of_read (final_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg14.read_unread _) (he0 := window_of_read (harg14.read_unread _)) (he1 := window_of_read (harg14.read_unread _))).2.2)
    isplitl [H12]
    · iexists _; isplitr; rotate_left; iexact H12; ipureintro
      exact (dcq_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 (final_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg14.read_unread _) (he0 := window_of_read (harg14.read_unread _)) (he1 := window_of_read (harg14.read_unread _))).1)
    isplitl [H13]
    · iexists _; isplitr; rotate_left; iexact H13; ipureintro
      exact dck_read (arg13 := arg13) (window_of_read (final_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg14.read_unread _) (he0 := window_of_read (harg14.read_unread _)) (he1 := window_of_read (harg14.read_unread _))).2.1) (window_of_read (final_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg14.read_unread _) (he0 := window_of_read (harg14.read_unread _)) (he1 := window_of_read (harg14.read_unread _))).2.1)
    isplitl [H14]
    · iexists _; isplitr; rotate_left; iexact H14; ipureintro
      exact harg14.read_unread _
    isplitl [H15]
    · iexists _; isplitr; rotate_left; iexact H15; ipureintro
      exact (final_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg14.read_unread _) (he0 := window_of_read (harg14.read_unread _)) (he1 := window_of_read (harg14.read_unread _))).1
    isplitl [H16]
    · iexists _; isplitr; rotate_left; iexact H16; ipureintro
      exact (final_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg14.read_unread _) (he0 := window_of_read (harg14.read_unread _)) (he1 := window_of_read (harg14.read_unread _))).2.1
    · iexists _; isplitr; rotate_left; iexact H17; ipureintro
      exact (final_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg14.read_unread _) (he0 := window_of_read (harg14.read_unread _)) (he1 := window_of_read (harg14.read_unread _))).2.2

end Cert.KernelIdeal.Attn

end
-- ==== Proof.Launched.lean ====
/- The gradient kernel's whole launch: the accumulators a grid point leaves (`carry`), the pipeline's proof data, the body at
   every point, and the run of the program, at any float semantics. -/
module

public import proofs.«01_k».proof.Proof.RunC
public import Idealize.ShloMosaic.Lib.Claim

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.VecWindow
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions and the idle windows over the points -/

/-- The body's first branch is taken at the first key block of a head pair. -/
theorem first_iff : ∀ t : Fin cfg0.N, k0_cond1 (grid0.coords t) = 1#1 ↔ t.val % 8 = 0 := by decide +kernel

/-- Its second branch is taken at the last one. -/
theorem last_iff : ∀ t : Fin cfg0.N, k0_cond2 (grid0.coords t) = 1#1 ↔ t.val % 8 = 7 := by decide +kernel

theorem idle7_true (t : Fin cfg0.N) (h : ¬t.val % 8 = 7) : cfg0.idle 7 (cfg0.grid.coords t) = true := by
  have e : (k0_cond2 (grid0.coords t) == 1#1) = false := beq_eq_false_iff_ne.mpr fun e => h ((last_iff t).mp e)
  show (!(k0_cond2 (grid0.coords t) == 1#1)) = true
  rw [e]; rfl
theorem idle7_false (t : Fin cfg0.N) (h : t.val % 8 = 7) : cfg0.idle 7 (cfg0.grid.coords t) = false := by
  show (!(k0_cond2 (grid0.coords t) == 1#1)) = false
  rw [(last_iff t).mpr h]; rfl
theorem idle10_true (t : Fin cfg0.N) (h : ¬t.val % 8 = 7) : cfg0.idle 10 (cfg0.grid.coords t) = true := idle7_true t h
theorem idle10_false (t : Fin cfg0.N) (h : t.val % 8 = 7) : cfg0.idle 10 (cfg0.grid.coords t) = false := idle7_false t h
theorem noflush7 (t : Fin cfg0.N) (h : ¬t.val % 8 = 7) : (cfg0.win 7).flush t = false :=
  Bool.eq_false_iff.mpr fun e => h ((flush0_7 t).mp e)
theorem noflush10 (t : Fin cfg0.N) (h : ¬t.val % 8 = 7) : (cfg0.win 10).flush t = false :=
  Bool.eq_false_iff.mpr fun e => h ((flush0_10 t).mp e)

/-! ## The buffers the body is called with -/

abbrev ms0_0 (t : Fin cfg0.N) := win0_0.stage (cfg0.slots t 0)
abbrev hs0_0 (t : Fin cfg0.N) := hstage0_0 ((cfg0.slots t 0).cast nbuf0_0)
abbrev ms0_1 (t : Fin cfg0.N) := win0_1.stage (cfg0.slots t 1)
abbrev hs0_1 (t : Fin cfg0.N) := hstage0_1 ((cfg0.slots t 1).cast nbuf0_1)
abbrev ms0_2 (t : Fin cfg0.N) := win0_2.stage (cfg0.slots t 2)
abbrev hs0_2 (t : Fin cfg0.N) := hstage0_2 ((cfg0.slots t 2).cast nbuf0_2)
abbrev ms0_3 (t : Fin cfg0.N) := win0_3.stage (cfg0.slots t 3)
abbrev hs0_3 (t : Fin cfg0.N) := hstage0_3 ((cfg0.slots t 3).cast nbuf0_3)
abbrev ms0_4 (t : Fin cfg0.N) := win0_4.stage (cfg0.slots t 4)
abbrev hs0_4 (t : Fin cfg0.N) := hstage0_4 ((cfg0.slots t 4).cast nbuf0_4)
abbrev ms0_5 (t : Fin cfg0.N) := win0_5.stage (cfg0.slots t 5)
abbrev hs0_5 (t : Fin cfg0.N) := hstage0_5 ((cfg0.slots t 5).cast nbuf0_5)
abbrev ms0_6 (t : Fin cfg0.N) := win0_6.stage (cfg0.slots t 6)
abbrev hs0_6 (t : Fin cfg0.N) := hstage0_6 ((cfg0.slots t 6).cast nbuf0_6)
abbrev ms0_7 (t : Fin cfg0.N) := win0_7.stage (cfg0.slots t 7)
abbrev hs0_7 (t : Fin cfg0.N) := hstage0_7 ((cfg0.slots t 7).cast nbuf0_7)
abbrev ms0_8 (t : Fin cfg0.N) := win0_8.stage (cfg0.slots t 8)
abbrev hs0_8 (t : Fin cfg0.N) := hstage0_8 ((cfg0.slots t 8).cast nbuf0_8)
abbrev ms0_9 (t : Fin cfg0.N) := win0_9.stage (cfg0.slots t 9)
abbrev hs0_9 (t : Fin cfg0.N) := hstage0_9 ((cfg0.slots t 9).cast nbuf0_9)
abbrev ms0_10 (t : Fin cfg0.N) := win0_10.stage (cfg0.slots t 10)
abbrev hs0_10 (t : Fin cfg0.N) := hstage0_10 ((cfg0.slots t 10).cast nbuf0_10)
abbrev ms0_11 (t : Fin cfg0.N) := win0_11.stage (cfg0.slots t 11)
abbrev hs0_11 (t : Fin cfg0.N) := hstage0_11 ((cfg0.slots t 11).cast nbuf0_11)
abbrev scM0_0 : Memref sig .tc .vmem S2x8x8x512 .f32 := Memref.whole cc0_scratch0
abbrev scM0_1 : Memref sig .tc .vmem S2x8x128x512 .f32 := Memref.whole cc0_scratch1
abbrev scM0_2 : Memref sig .tc .vmem S2x512x128 .f32 := Memref.whole cc0_scratch2
abbrev scM0_3 : Memref sig .tc .vmem S512x128 .f32 := Memref.whole cc0_scratch3

/-- What the launch hands the region: the four scratch buffers at some contents and the generator register. -/
theorem launch_eq (c : Dev nD) :
    (Pipeline.ΦA spec0 c : sProp 𝕄) = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-! ## What a point leaves -/

/-- What point `t` leaves in the scratch buffers when it is a head pair's first: the row sums of the output times its
    gradient, and the accumulators over them from zero. -/
def startAt (c : Dev nD) (t : Fin cfg0.N) (h : t.val % 8 = 0) : Vec F S2x8x8x512 .f32 × Acc F :=
  (delta (grid0.coords t) ((first_iff t).mpr h) (iblk m c 3 t) (iblk m c 4 t),
    accum (grid0.coords t) (iblk m c 0 t) (iblk m c 1 t) (iblk m c 2 t) (iblk m c 4 t) (iblk m c 5 t) (iblk m c 6 t) (delta (grid0.coords t) ((first_iff t).mpr h) (iblk m c 3 t) (iblk m c 4 t)) k0_pay48)

/-- And when it is a later one, after a point that left `s`: the row sums stay, the queries' accumulator goes on. -/
def stepAt (c : Dev nD) (t : Fin cfg0.N) (s : Vec F S2x8x8x512 .f32 × Acc F) : Vec F S2x8x8x512 .f32 × Acc F :=
  (s.1, accum (grid0.coords t) (iblk m c 0 t) (iblk m c 1 t) (iblk m c 2 t) (iblk m c 4 t) (iblk m c 5 t) (iblk m c 6 t) s.1 s.2.dqt)

/-- What point `n` leaves in the scratch buffers. -/
def carry (c : Dev nD) : (n : ℕ) → n < cfg0.N → Vec F S2x8x8x512 .f32 × Acc F
  | 0, hn => startAt m c ⟨0, hn⟩ (Nat.zero_mod _)
  | n + 1, hn => if h : (n + 1) % 8 = 0 then startAt m c ⟨n + 1, hn⟩ h else stepAt m c ⟨n + 1, hn⟩ (carry c n (Nat.lt_of_succ_lt hn))

theorem carry_first (c : Dev nD) (t : Fin cfg0.N) (h : t.val % 8 = 0) : carry m c t.val t.isLt = startAt m c t h := by
  obtain ⟨n, hn⟩ := t
  cases n with
  | zero => rfl
  | succ n => exact dif_pos h

theorem carry_next (c : Dev nD) (t : Fin cfg0.N) (h : ¬t.val % 8 = 0) :
    carry m c t.val t.isLt = stepAt m c t (carry m c (t.val - 1) (Nat.lt_of_le_of_lt (Nat.sub_le _ _) t.isLt)) := by
  obtain ⟨n, hn⟩ := t
  cases n with
  | zero => exact absurd (Nat.zero_mod _) h
  | succ n => exact dif_neg h

/-- The block of the queries' gradient that point `t` writes, if it is a head pair's last. -/
def dqAt (c : Dev nD) (t : Fin cfg0.N) : Vec F S4096x128 .bf16 :=
  if h : t.val % 8 = 7 then outDq (grid0.coords t) ((last_iff t).mpr h) (carry m c t.val t.isLt).2.dqt else zeros S4096x128 .bf16

/-- The block of the row sums' gradient that point `t` writes, if it is a head pair's last. -/
def dcqAt (c : Dev nD) (t : Fin cfg0.N) : Vec F S2x8x1x512 .f32 :=
  if h : t.val % 8 = 7 then outDcq (grid0.coords t) ((last_iff t).mpr h) (carry m c t.val t.isLt).2.dqt else zeros S2x8x1x512 .f32

theorem dqAt_last (c : Dev nD) (t : Fin cfg0.N) (h : t.val % 8 = 7) :
    dqAt m c t = outDq (grid0.coords t) ((last_iff t).mpr h) (carry m c t.val t.isLt).2.dqt := dif_pos h
theorem dcqAt_last (c : Dev nD) (t : Fin cfg0.N) (h : t.val % 8 = 7) :
    dcqAt m c t = outDcq (grid0.coords t) ((last_iff t).mpr h) (carry m c t.val t.isLt).2.dqt := dif_pos h

/-! ## The invariant and the proof data -/

/-- The scratch buffers at what a point left, and the generator register. -/
def Held (c : Dev nD) (s : Vec F S2x8x8x512 .f32 × Acc F) : sProp 𝕄 :=
  iprop(iprop(owns (c : Thread nD τ) scM0_0 fullShare s.1 ∗ owns (c : Thread nD τ) scM0_1 fullShare s.2.dqt
    ∗ owns (c : Thread nD τ) scM0_2 fullShare s.2.dk ∗ owns (c : Thread nD τ) scM0_3 fullShare s.2.dv) ∗ (∃ r, prngReg c r))

/-- The invariant before position `n`: at the first the launch's, afterwards what the point before left. -/
def PhiS (c : Dev nD) : (n : ℕ) → n ≤ cfg0.N → sProp 𝕄
  | 0, _ => Pipeline.ΦA spec0 c
  | n + 1, hn => Held c (carry m c n hn)

theorem PhiS_pos (c : Dev nD) (n : ℕ) (h : n ≤ cfg0.N) (hz : n ≠ 0) :
    PhiS m c n h = Held c (carry m c (n - 1) (by omega)) := by
  cases n with
  | zero => exact absurd rfl hz
  | succ n => rfl

/-- What the scratch buffers hold can be forgotten. -/
theorem Held_out (c : Dev nD) (s : Vec F S2x8x8x512 .f32 × Acc F) : Held c s ⊢ (Pipeline.ΦA spec0 c : sProp 𝕄) := by
  rw [launch_eq]; unfold Held
  iintro ⟨⟨H0, H1, H2, H3⟩, Hg⟩
  isplitl [H0 H1 H2 H3]
  · isplitl [H0]; · iexists _; iexact H0
    isplitl [H1]; · iexists _; iexact H1
    isplitl [H2]; · iexists _; iexact H2
    iexists _; iexact H3
  iexact Hg

theorem PhiS_launch (c : Dev nD) (n : ℕ) (h : n ≤ cfg0.N) : PhiS m c n h ⊢ Pipeline.ΦA spec0 c := by
  cases n with
  | zero => exact Idealize.SL.BI.Entails.refl _
  | succ n => exact Held_out c _

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => dqAt m c t
    | ⟨8, _⟩ => outDk (carry m c t.val t.isLt).2
    | ⟨9, _⟩ => outDv (carry m c t.val t.isLt).2
    | ⟨10, _⟩ => dcqAt m c t
    | ⟨11, _⟩ => outDck (carry m c t.val t.isLt).2 (zeros S2x512x1 .f32)
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = dqAt m c t := by dsimp only [dats]
theorem after0_8 (c : Dev nD) (t : Fin cfg0.N) : (dats m 0 c).after 8 t = outDk (carry m c t.val t.isLt).2 := by dsimp only [dats]
theorem after0_9 (c : Dev nD) (t : Fin cfg0.N) : (dats m 0 c).after 9 t = outDv (carry m c t.val t.isLt).2 := by dsimp only [dats]
theorem after0_10 (c : Dev nD) (t : Fin cfg0.N) : (dats m 0 c).after 10 t = dcqAt m c t := by dsimp only [dats]
theorem after0_11 (c : Dev nD) (t : Fin cfg0.N) : (dats m 0 c).after 11 t = outDck (carry m c t.val t.isLt).2 (zeros S2x512x1 .f32) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- what it returns at a point that is not a head pair's last: the queries' gradient and the row sums' are as found, -/
def bodyPostMid (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ d, owns (c : Thread nD τ) (ms0_7 t) fullShare ((dats m 0 c).before 7 t d))
    ∗ owns (c : Thread nD τ) (ms0_8 t) fullShare ((dats m 0 c).after 8 t)
    ∗ owns (c : Thread nD τ) (ms0_9 t) fullShare ((dats m 0 c).after 9 t)
    ∗ (∃ d, owns (c : Thread nD τ) (ms0_10 t) fullShare ((dats m 0 c).before 10 t d))
    ∗ owns (c : Thread nD τ) (ms0_11 t) fullShare ((dats m 0 c).after 11 t))

/-- and what it returns at a last one. -/
def bodyPostLast (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 8000000 in
theorem sound_first (c : Dev nD) (t : Fin cfg0.N) (h0 : t.val % 8 = 0) (h7 : ¬t.val % 8 = 7) :
    bodyPre m c t ⊢ wp frame (wpE (defs₀ (F := F)) Variants.none c none) Set.univ (bodyAt0 t) (fun _ => bodyPostMid m c t) := by
  unfold bodyPre bodyPostMid bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6, after0_8, after0_9, after0_11]
  rw [show (dats m 0 c).Φ t.succ = Held c (carry m c t.val t.isLt) from rfl, PhiS_castSucc m c t]
  rw [carry_first m c t h0]; unfold Held startAt; dsimp only
  refine (sep_mono_l (PhiS_launch m c t.val _)).trans ?_
  rw [launch_eq]
  show iprop(_ ∗ _) ⊢ wp frame (wpE (defs₀ (F := F)) Variants.none c none) Set.univ _ _
  iintro ⟨⟨⟨⟨%s0, S0⟩, ⟨%s1, S1⟩, ⟨%s2, S2⟩, ⟨%s3, S3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (body_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) _ _ _ _ _ _ _ _ _ _ _ _ _ _ _ _ ((first_iff t).mpr h0) (fun e => h7 ((last_iff t).mp e)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [S0]; · iexact S0
  isplitl [S1]; · iexact S1
  isplitl [S2]; · iexact S2
  isplitl [S3]; · iexact S3
  iintro ⟨H0, H1, H2, H3, H4, H5, H6, H7, H8, H9, H10, H11, S0, S1, S2, S3⟩
  isplitl [S0 S1 S2 S3 Hg]
  · isplitl [S0 S1 S2 S3]
    · isplitl [S0]; · iexact S0
      isplitl [S1]; · iexact S1
      isplitl [S2]; · iexact S2
      iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexact H9
  isplitl [H10]; · iexists _; iexact H10
  iexact H11

set_option maxHeartbeats 8000000 in
theorem sound_mid (c : Dev nD) (t : Fin cfg0.N) (h0 : ¬t.val % 8 = 0) (h7 : ¬t.val % 8 = 7) :
    bodyPre m c t ⊢ wp frame (wpE (defs₀ (F := F)) Variants.none c none) Set.univ (bodyAt0 t) (fun _ => bodyPostMid m c t) := by
  unfold bodyPre bodyPostMid bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6, after0_8, after0_9, after0_11]
  rw [show (dats m 0 c).Φ t.succ = Held c (carry m c t.val t.isLt) from rfl, PhiS_castSucc m c t]
  rw [PhiS_pos m c t.val _ (fun e => h0 (by rw [e])), carry_next m c t h0]; unfold Held stepAt; dsimp only
  iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (body_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) _ _ _ _ _ _ _ _ _ _ _ _ _ _ _ _ (fun e => h0 ((first_iff t).mp e)) (fun e => h7 ((last_iff t).mp e)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [S0]; · iexact S0
  isplitl [S1]; · iexact S1
  isplitl [S2]; · iexact S2
  isplitl [S3]; · iexact S3
  iintro ⟨H0, H1, H2, H3, H4, H5, H6, H7, H8, H9, H10, H11, S0, S1, S2, S3⟩
  isplitl [S0 S1 S2 S3 Hg]
  · isplitl [S0 S1 S2 S3]
    · isplitl [S0]; · iexact S0
      isplitl [S1]; · iexact S1
      isplitl [S2]; · iexact S2
      iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexact H9
  isplitl [H10]; · iexists _; iexact H10
  iexact H11

set_option maxHeartbeats 8000000 in
theorem sound_last (c : Dev nD) (t : Fin cfg0.N) (h0 : ¬t.val % 8 = 0) (h7 : t.val % 8 = 7) :
    bodyPre m c t ⊢ wp frame (wpE (defs₀ (F := F)) Variants.none c none) Set.univ (bodyAt0 t) (fun _ => bodyPostLast m c t) := by
  unfold bodyPre bodyPostLast bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6, after0_7, after0_8, after0_9, after0_10, after0_11]
  rw [show (dats m 0 c).Φ t.succ = Held c (carry m c t.val t.isLt) from rfl, PhiS_castSucc m c t]
  rw [dqAt_last m c t h7, dcqAt_last m c t h7]
  rw [PhiS_pos m c t.val _ (fun e => h0 (by rw [e])), carry_next m c t h0]; unfold Held stepAt; dsimp only
  iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (body_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) _ _ _ _ _ _ _ _ _ _ _ _ _ _ _ _ (fun e => h0 ((first_iff t).mp e)) ((last_iff t).mpr h7) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [S0]; · iexact S0
  isplitl [S1]; · iexact S1
  isplitl [S2]; · iexact S2
  isplitl [S3]; · iexact S3
  iintro ⟨H0, H1, H2, H3, H4, H5, H6, H7, H8, H9, H10, H11, S0, S1, S2, S3⟩
  isplitl [S0 S1 S2 S3 Hg]
  · isplitl [S0 S1 S2 S3]
    · isplitl [S0]; · iexact S0
      isplitl [S1]; · iexact S1
      isplitl [S2]; · iexact S2
      iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at point `t` is the body on the point's buffers. -/
theorem defs₀_row (t : Fin cfg0.N) : defs₀ (F := F) .tc cfg0.body (cfg0.bodyArgs t (cfg0.slots t)) = bodyAt0 t := by
  unfold defs₀; rw [Defs.onTc_tc]

set_option maxHeartbeats 3200000 in
/-- The pipeline's obligation of the body, at every point. -/
theorem body_obligation (c : Dev nD) : BodyObligation (dats (F := F) m 0 c) (defs₀ (F := F)) Variants.none () Set.univ := fun t => by
  rw [bigSep_W0, bigSep_W0, defs₀_row]
  by_cases h7 : t.val % 8 = 7
  · rw [idle7_false t h7]; try rw [idle10_false t h7]
    exact triple_restated (sound_last m c t (by omega) h7) rfl .rfl fun _ => .rfl
  · rw [idle7_true t h7]; try rw [idle10_true t h7]
    rw [noflush7 t h7]; try rw [noflush10 t h7]
    by_cases h0 : t.val % 8 = 0
    · exact triple_restated (sound_first m c t h0 h7) rfl .rfl fun _ => .rfl
    · exact triple_restated (sound_mid m c t h0 h7) rfl .rfl fun _ => .rfl

theorem hin (c : Dev nD) : Pipeline.ΦA spec0 c ⊢ (dats m 0 c).Φ 0 := by
  rw [show (dats m 0 c).Φ 0 = (Pipeline.ΦA spec0 c : sProp 𝕄) from rfl]

theorem hout (c : Dev nD) : (dats m 0 c).Φ (Fin.last cfg0.N) ⊢ Pipeline.ΦA spec0 c := by
  rw [show (dats m 0 c).Φ (Fin.last cfg0.N) = PhiS m c cfg0.N (Nat.le_refl _) from rfl]
  exact PhiS_launch m c _ _

/-! ## The run -/

set_option backward.isDefEq.respectTransparency.types false in
set_option maxHeartbeats 800000 in
/-- The launch: every fair execution ends, with the arrays at what the proof data give and every counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl) (howed := fun _ _ => rfl)
    (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end as they were and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.KernelIdeal.Attn

end
-- ==== Proof.Payload.lean ====
/- The kernel's vector expressions over extended reals, read at an index. Rows of the square blocks are keys, columns queries. -/
module

public import proofs.«01_k».proof.Proof.Gen.KernelIdeal.Skeleton
public import Idealize.ShloMosaic.Lib.Pointwise

@[expose] public section

set_option maxRecDepth 16384

noncomputable section

namespace Cert.KernelIdeal.Attn

open Idealize.ShloMosaic Idealize.ShloMosaic.TcCoe Idealize.SL.Sem Cert.KernelIdeal.Gen

theorem p8  (v199 : Vec Ideal S512x128 .bf16) (i0 : Fin 512) (i1 : Fin 128) :
    k0_pay8 (F := Ideal) v199 (ix2 i0 i1)
      = v199 (ix2 i0 i1) * Ideal.ofBits FTy.f32 1040187392#32 := by
  pointwise [k0_pay8]
theorem p11  (v2 : IVec S1x128 1) (v199 : Vec Ideal S512x128 .bf16) (i0 : Fin 512) (i1 : Fin 128) :
    k0_pay11 (F := Ideal) v2 v199 (ix2 i0 i1)
      = Scalar.select (v2 (ix2 0 i1)) (v199 (ix2 i0 i1) * Ideal.ofBits FTy.f32 1040187392#32) 1 := by
  pointwise [k0_pay11, k0_pay8, k0_pay9]
theorem p12  (v2 : IVec S1x128 1) (v199 : Vec Ideal S512x128 .bf16) (i0 : Fin 512) (i1 : Fin 128) :
    k0_pay12 (F := Ideal) v2 v199 (ix2 i0 i1)
      = Scalar.select (v2 (ix2 0 i1)) 1 (v199 (ix2 i0 i1) * Ideal.ofBits FTy.f32 1040187392#32) := by
  pointwise [k0_pay12, k0_pay8, k0_pay9]
theorem p13  (v2 : IVec S1x128 1) (v205 : Vec Ideal S512x128 .bf16) (i0 : Fin 512) (i1 : Fin 128) :
    k0_pay13 (F := Ideal) v2 v205 (ix2 i0 i1)
      = Scalar.select (v2 (ix2 0 i1)) (v205 (ix2 i0 i1)) 0 := by
  pointwise [k0_pay13, k0_pay10]
theorem p14  (v2 : IVec S1x128 1) (v205 : Vec Ideal S512x128 .bf16) (i0 : Fin 512) (i1 : Fin 128) :
    k0_pay14 (F := Ideal) v2 v205 (ix2 i0 i1)
      = Scalar.select (v2 (ix2 0 i1)) 0 (v205 (ix2 i0 i1)) := by
  pointwise [k0_pay14, k0_pay10]
theorem p15  (v14 : Vec Ideal S512x128 .bf16) (v199 : Vec Ideal S512x128 .bf16) (v221 : Vec Ideal S1x512x1 .f32) (v226 : Vec Ideal S1x1x1x512 .f32) (i0 : Fin 512) (i1 : Fin 512) :
    k0_pay15 (F := Ideal) v14 v199 v221 v226 (ix2 i0 i1)
      = Ideal.exp (∑ x, v14 (ix2 i0 x) * (v199 (ix2 i1 x) * Ideal.ofBits FTy.f32 1040187392#32) - v221 (ix3 0 i0 0) - v226 (ix4 0 0 0 i1)) := by
  pointwise [k0_pay15, k0_pay8]
theorem p16  (v14 : Vec Ideal S512x128 .bf16) (v20 : Vec Ideal S512x128 .bf16) (v199 : Vec Ideal S512x128 .bf16) (v205 : Vec Ideal S512x128 .bf16) (v221 : Vec Ideal S1x512x1 .f32) (v226 : Vec Ideal S1x1x1x512 .f32) (v233 : Vec Ideal S1x1x1x512 .f32) (i0 : Fin 512) (i1 : Fin 512) :
    k0_pay16 (F := Ideal) v14 v20 v199 v205 v221 v226 v233 (ix2 i0 i1)
      = Ideal.exp (∑ x, v14 (ix2 i0 x) * (v199 (ix2 i1 x) * Ideal.ofBits FTy.f32 1040187392#32) - v221 (ix3 0 i0 0) - v226 (ix4 0 0 0 i1)) * (∑ x, v20 (ix2 i0 x) * v205 (ix2 i1 x) - v233 (ix4 0 0 0 i1)) := by
  pointwise [k0_pay16, k0_pay15, k0_pay8]
theorem p18  (v216 : Vec Ideal S512x128 .bf16) (v230 : FVec Ideal S512x512 .f32) (v239 : Vec Ideal S512x128 .f32) (i0 : Fin 512) (i1 : Fin 128) :
    k0_pay18 (F := Ideal) v216 v230 v239 (ix2 i0 i1)
      = v239 (ix2 i0 i1) + ∑ x, v230 (ix2 i0 x) * v216 (ix2 x i1) := by
  pointwise [k0_pay18]
theorem p19  (v210 : FVec Ideal S512x128 .bf16) (v237 : FVec Ideal S512x512 .f32) (v246 : Vec Ideal S1x512x128 .f32) (i0 : Fin 1) (i1 : Fin 512) (i2 : Fin 128) :
    k0_pay19 (F := Ideal) v210 v237 v246 (ix3 i0 i1 i2)
      = v246 (ix3 0 i1 i2) + ∑ x, v237 (ix2 i1 x) * v210 (ix2 x i2) := by
  pointwise [k0_pay19, k0_pay17]
theorem p20  (v30 : FVec Ideal S128x512 .bf16) (v237 : FVec Ideal S512x512 .f32) (v254 : Vec Ideal S1x1x128x512 .f32) (i0 : Fin 1) (i1 : Fin 1) (i2 : Fin 128) (i3 : Fin 512) :
    k0_pay20 (F := Ideal) v30 v237 v254 (ix4 i0 i1 i2 i3)
      = v254 (ix4 0 0 i2 i3) + ∑ x, v30 (ix2 i2 x) * v237 (ix2 x i3) := by
  pointwise [k0_pay20, k0_pay17]
theorem p21  (v17 : FVec Ideal S512x128 .bf16) (v203 : FVec Ideal S512x128 .bf16) (v263 : Vec Ideal S1x512x1 .f32) (i0 : Fin 512) (i1 : Fin 512) :
    k0_pay21 (F := Ideal) v17 v203 v263 (ix2 i0 i1)
      = ∑ x, v17 (ix2 i0 x) * v203 (ix2 i1 x) - v263 (ix3 0 i0 0) := by
  pointwise [k0_pay21]
theorem p24  (v219 : FVec Ideal S512x128 .bf16) (v266 : FVec Ideal S512x512 .f32) (v268 : Vec Ideal S1x1x1x512 .f32) (v281 : Vec Ideal S512x128 .f32) (i0 : Fin 512) (i1 : Fin 128) :
    k0_pay24 (F := Ideal) v219 v266 v268 v281 (ix2 i0 i1)
      = v281 (ix2 i0 i1) + ∑ x, Ideal.exp (v266 (ix2 i0 x) - v268 (ix4 0 0 0 x)) * v219 (ix2 x i1) := by
  pointwise [k0_pay24, k0_pay22]
theorem p25  (v23 : FVec Ideal S512x128 .bf16) (v205 : Vec Ideal S512x128 .bf16) (v213 : FVec Ideal S512x128 .bf16) (v266 : FVec Ideal S512x512 .f32) (v268 : Vec Ideal S1x1x1x512 .f32) (v275 : Vec Ideal S1x1x1x512 .f32) (v288 : Vec Ideal S1x512x128 .f32) (i0 : Fin 1) (i1 : Fin 512) (i2 : Fin 128) :
    k0_pay25 (F := Ideal) v23 v205 v213 v266 v268 v275 v288 (ix3 i0 i1 i2)
      = v288 (ix3 0 i1 i2) + ∑ x, Ideal.exp (v266 (ix2 i1 x) - v268 (ix4 0 0 0 x)) * (∑ x_1, v23 (ix2 i1 x_1) * v205 (ix2 x x_1) - v275 (ix4 0 0 0 x)) * v213 (ix2 x i2) := by
  pointwise [k0_pay25, k0_pay22, k0_pay23]
theorem p26  (v23 : FVec Ideal S512x128 .bf16) (v33 : FVec Ideal S128x512 .bf16) (v205 : Vec Ideal S512x128 .bf16) (v266 : FVec Ideal S512x512 .f32) (v268 : Vec Ideal S1x1x1x512 .f32) (v275 : Vec Ideal S1x1x1x512 .f32) (v296 : Vec Ideal S1x1x128x512 .f32) (i0 : Fin 1) (i1 : Fin 1) (i2 : Fin 128) (i3 : Fin 512) :
    k0_pay26 (F := Ideal) v23 v33 v205 v266 v268 v275 v296 (ix4 i0 i1 i2 i3)
      = v296 (ix4 0 0 i2 i3) + ∑ x, v33 (ix2 i2 x) * (Ideal.exp (v266 (ix2 x i3) - v268 (ix4 0 0 0 i3)) * (∑ x_1, v23 (ix2 x x_1) * v205 (ix2 i3 x_1) - v275 (ix4 0 0 0 i3))) := by
  pointwise [k0_pay26, k0_pay22, k0_pay23]
theorem p46  (i0 : Fin 1) (i1 : Fin 128) :
    k0_pay46  (ix2 i0 i1)
      = IntOp.cmpi CmpIPredicate.slt (BitVec.ofNat 32 ↑i1) 64#32 := by
  pointwise [k0_pay46]
theorem p47  (i0 : Fin 128) (i1 : Fin 1) :
    k0_pay47  (ix2 i0 i1)
      = IntOp.cmpi CmpIPredicate.slt (BitVec.ofNat 32 ↑i0) 64#32 := by
  pointwise [k0_pay47]
theorem p48  (i0 : Fin 2) (i1 : Fin 8) (i2 : Fin 128) (i3 : Fin 512) :
    k0_pay48 (F := Ideal)  (ix4 i0 i1 i2 i3)
      = 0 := by
  pointwise [k0_pay48]
theorem p50  (v213 : Vec Ideal S512x128 .bf16) (v216 : Vec Ideal S512x128 .bf16) (i0 : Fin 1) (i1 : Fin 1) (i2 : Fin 8) (i3 : Fin 512) :
    k0_pay50 (F := Ideal) v213 v216 (ix4 i0 i1 i2 i3)
      = ∑ x : Fin 128, FloatOps.sitofp (F := Ideal) FTy.f32 (BitVec.setWidth 32 (IntOp.cmpi CmpIPredicate.slt (BitVec.ofNat 32 ↑x) 64#32)) * (v213 (ix2 i3 x) * v216 (ix2 i3 x)) := by
  pointwise [k0_pay50, k0_pay46, k0_pay49]
theorem p51  (v213 : Vec Ideal S512x128 .bf16) (v216 : Vec Ideal S512x128 .bf16) (i0 : Fin 1) (i1 : Fin 1) (i2 : Fin 8) (i3 : Fin 512) :
    k0_pay51 (F := Ideal) v213 v216 (ix4 i0 i1 i2 i3)
      = ∑ x : Fin 128, FloatOps.sitofp (F := Ideal) FTy.f32 (BitVec.setWidth 32 (IntOp.xori (IntOp.cmpi CmpIPredicate.slt (BitVec.ofNat 32 ↑x) 64#32) 1#1)) * (v213 (ix2 i3 x) * v216 (ix2 i3 x)) := by
  pointwise [k0_pay51, k0_pay46, k0_pay49]
theorem p53  (v9 : Vec Ideal S512x128 .bf16) (i0 : Fin 512) (i1 : Fin 128) :
    k0_pay53 (F := Ideal) v9 (ix2 i0 i1)
      = Scalar.select (IntOp.cmpi CmpIPredicate.slt (BitVec.ofNat 32 ↑i1) 64#32) (v9 (ix2 i0 i1)) 0 := by
  pointwise [k0_pay53, k0_pay46, k0_pay52]
theorem p54  (v9 : Vec Ideal S512x128 .bf16) (i0 : Fin 512) (i1 : Fin 128) :
    k0_pay54 (F := Ideal) v9 (ix2 i0 i1)
      = Scalar.select (IntOp.cmpi CmpIPredicate.slt (BitVec.ofNat 32 ↑i1) 64#32) 0 (v9 (ix2 i0 i1)) := by
  pointwise [k0_pay54, k0_pay46, k0_pay52]
theorem p55  (v10 : Vec Ideal S512x128 .bf16) (i0 : Fin 512) (i1 : Fin 128) :
    k0_pay55 (F := Ideal) v10 (ix2 i0 i1)
      = Scalar.select (IntOp.cmpi CmpIPredicate.slt (BitVec.ofNat 32 ↑i1) 64#32) (v10 (ix2 i0 i1)) 0 := by
  pointwise [k0_pay55, k0_pay46, k0_pay52]
theorem p56  (v10 : Vec Ideal S512x128 .bf16) (i0 : Fin 512) (i1 : Fin 128) :
    k0_pay56 (F := Ideal) v10 (ix2 i0 i1)
      = Scalar.select (IntOp.cmpi CmpIPredicate.slt (BitVec.ofNat 32 ↑i1) 64#32) 0 (v10 (ix2 i0 i1)) := by
  pointwise [k0_pay56, k0_pay46, k0_pay52]
theorem p59  (v9 : Vec Ideal S512x128 .bf16) (i0 : Fin 128) (i1 : Fin 512) :
    k0_pay59 (F := Ideal) v9 (ix2 i0 i1)
      = Scalar.select (IntOp.cmpi CmpIPredicate.slt (BitVec.ofNat 32 ↑i0) 64#32) (v9 (ix2 i1 i0)) 1 := by
  pointwise [k0_pay59, k0_pay47, k0_pay57, k0_pay58]
theorem p60  (v9 : Vec Ideal S512x128 .bf16) (i0 : Fin 128) (i1 : Fin 512) :
    k0_pay60 (F := Ideal) v9 (ix2 i0 i1)
      = Scalar.select (IntOp.cmpi CmpIPredicate.slt (BitVec.ofNat 32 ↑i0) 64#32) 1 (v9 (ix2 i1 i0)) := by
  pointwise [k0_pay60, k0_pay47, k0_pay57, k0_pay58]
theorem p61  (i0 : Fin 2) (i1 : Fin 512) (i2 : Fin 128) :
    k0_pay61 (F := Ideal)  (ix3 i0 i1 i2)
      = 0 := by
  pointwise [k0_pay61]
theorem p62  (i0 : Fin 512) (i1 : Fin 128) :
    k0_pay62 (F := Ideal)  (ix2 i0 i1)
      = 0 := by
  pointwise [k0_pay62]
theorem p63  (v38 : FVec Ideal S512x128 .f32) (i0 : Fin 512) (i1 : Fin 128) :
    k0_pay63 (F := Ideal) v38 (ix2 i0 i1)
      = v38 (ix2 i0 i1) := by
  pointwise [k0_pay63]
theorem p64  (i0 : Fin 512) (i1 : Fin 512) :
    k0_pay64  (ix2 i0 i1)
      = IntOp.cmpi CmpIPredicate.sle (BitVec.ofNat 32 ↑i0) (BitVec.ofNat 32 ↑i1) := by
  pointwise [k0_pay64]
theorem p65  (v48 : Vec Ideal S512x128 .bf16) (i0 : Fin 512) (i1 : Fin 128) :
    k0_pay65 (F := Ideal) v48 (ix2 i0 i1)
      = v48 (ix2 i0 i1) * Ideal.ofBits FTy.f32 1040187392#32 := by
  pointwise [k0_pay65]
theorem p68  (v2 : IVec S1x128 1) (v48 : Vec Ideal S512x128 .bf16) (i0 : Fin 512) (i1 : Fin 128) :
    k0_pay68 (F := Ideal) v2 v48 (ix2 i0 i1)
      = Scalar.select (v2 (ix2 0 i1)) (v48 (ix2 i0 i1) * Ideal.ofBits FTy.f32 1040187392#32) 1 := by
  pointwise [k0_pay68, k0_pay65, k0_pay66]
theorem p69  (v2 : IVec S1x128 1) (v48 : Vec Ideal S512x128 .bf16) (i0 : Fin 512) (i1 : Fin 128) :
    k0_pay69 (F := Ideal) v2 v48 (ix2 i0 i1)
      = Scalar.select (v2 (ix2 0 i1)) 1 (v48 (ix2 i0 i1) * Ideal.ofBits FTy.f32 1040187392#32) := by
  pointwise [k0_pay69, k0_pay65, k0_pay66]
theorem p70  (v2 : IVec S1x128 1) (v54 : Vec Ideal S512x128 .bf16) (i0 : Fin 512) (i1 : Fin 128) :
    k0_pay70 (F := Ideal) v2 v54 (ix2 i0 i1)
      = Scalar.select (v2 (ix2 0 i1)) (v54 (ix2 i0 i1)) 0 := by
  pointwise [k0_pay70, k0_pay67]
theorem p71  (v2 : IVec S1x128 1) (v54 : Vec Ideal S512x128 .bf16) (i0 : Fin 512) (i1 : Fin 128) :
    k0_pay71 (F := Ideal) v2 v54 (ix2 i0 i1)
      = Scalar.select (v2 (ix2 0 i1)) 0 (v54 (ix2 i0 i1)) := by
  pointwise [k0_pay71, k0_pay67]
theorem p72  (v14 : Vec Ideal S512x128 .bf16) (v48 : Vec Ideal S512x128 .bf16) (v70 : Vec Ideal S1x512x1 .f32) (v75 : Vec Ideal S1x1x1x512 .f32) (i0 : Fin 512) (i1 : Fin 512) :
    k0_pay72 (F := Ideal) v14 v48 v70 v75 (ix2 i0 i1)
      = Scalar.select (IntOp.cmpi CmpIPredicate.sle (BitVec.ofNat 32 ↑i0) (BitVec.ofNat 32 ↑i1)) (Ideal.exp (∑ x, v14 (ix2 i0 x) * (v48 (ix2 i1 x) * Ideal.ofBits FTy.f32 1040187392#32) - v70 (ix3 0 i0 0) - v75 (ix4 0 0 0 i1))) 0 := by
  pointwise [k0_pay72, k0_pay64, k0_pay65]
theorem p73  (v20 : Vec Ideal S512x128 .bf16) (v54 : Vec Ideal S512x128 .bf16) (i0 : Fin 512) (i1 : Fin 512) :
    k0_pay73 (F := Ideal) v20 v54 (ix2 i0 i1)
      = ∑ x, v20 (ix2 i0 x) * v54 (ix2 i1 x) := by
  pointwise [k0_pay73]
theorem p75  (v65 : Vec Ideal S512x128 .bf16) (v81 : FVec Ideal S512x512 .f32) (v90 : Vec Ideal S512x128 .f32) (i0 : Fin 512) (i1 : Fin 128) :
    k0_pay75 (F := Ideal) v65 v81 v90 (ix2 i0 i1)
      = v90 (ix2 i0 i1) + ∑ x, v81 (ix2 i0 x) * v65 (ix2 x i1) := by
  pointwise [k0_pay75]
theorem p76  (v59 : FVec Ideal S512x128 .bf16) (v81 : FVec Ideal S512x512 .f32) (v82 : FVec Ideal S512x512 .f32) (v84 : Vec Ideal S1x1x1x512 .f32) (v97 : Vec Ideal S1x512x128 .f32) (i0 : Fin 1) (i1 : Fin 512) (i2 : Fin 128) :
    k0_pay76 (F := Ideal) v59 v81 v82 v84 v97 (ix3 i0 i1 i2)
      = v97 (ix3 0 i1 i2) + ∑ x, v81 (ix2 i1 x) * (v82 (ix2 i1 x) - v84 (ix4 0 0 0 x)) * v59 (ix2 x i2) := by
  pointwise [k0_pay76, k0_pay74]
theorem p77  (v30 : FVec Ideal S128x512 .bf16) (v81 : FVec Ideal S512x512 .f32) (v82 : FVec Ideal S512x512 .f32) (v84 : Vec Ideal S1x1x1x512 .f32) (v105 : Vec Ideal S1x1x128x512 .f32) (i0 : Fin 1) (i1 : Fin 1) (i2 : Fin 128) (i3 : Fin 512) :
    k0_pay77 (F := Ideal) v30 v81 v82 v84 v105 (ix4 i0 i1 i2 i3)
      = v105 (ix4 0 0 i2 i3) + ∑ x, v30 (ix2 i2 x) * (v81 (ix2 x i3) * (v82 (ix2 x i3) - v84 (ix4 0 0 0 i3))) := by
  pointwise [k0_pay77, k0_pay74]
theorem p78  (v17 : FVec Ideal S512x128 .bf16) (v52 : FVec Ideal S512x128 .bf16) (i0 : Fin 512) (i1 : Fin 512) :
    k0_pay78 (F := Ideal) v17 v52 (ix2 i0 i1)
      = ∑ x, v17 (ix2 i0 x) * v52 (ix2 i1 x) := by
  pointwise [k0_pay78]
theorem p80  (v23 : FVec Ideal S512x128 .bf16) (v44 : IVec S512x512 1) (v54 : Vec Ideal S512x128 .bf16) (v113 : FVec Ideal S512x512 .f32) (v114 : Vec Ideal S1x512x1 .f32) (v119 : Vec Ideal S1x1x1x512 .f32) (v128 : Vec Ideal S1x1x1x512 .f32) (i0 : Fin 512) (i1 : Fin 512) :
    k0_pay80 (F := Ideal) v23 v44 v54 v113 v114 v119 v128 (ix2 i0 i1)
      = Scalar.select (v44 (ix2 i0 i1)) (Ideal.exp (v113 (ix2 i0 i1) - v114 (ix3 0 i0 0) - v119 (ix4 0 0 0 i1)) * (∑ x, v23 (ix2 i0 x) * v54 (ix2 i1 x) - v128 (ix4 0 0 0 i1))) 0 := by
  pointwise [k0_pay80, k0_pay79]
theorem p81  (v44 : IVec S512x512 1) (v68 : FVec Ideal S512x128 .bf16) (v113 : FVec Ideal S512x512 .f32) (v114 : Vec Ideal S1x512x1 .f32) (v119 : Vec Ideal S1x1x1x512 .f32) (v134 : Vec Ideal S512x128 .f32) (i0 : Fin 512) (i1 : Fin 128) :
    k0_pay81 (F := Ideal) v44 v68 v113 v114 v119 v134 (ix2 i0 i1)
      = v134 (ix2 i0 i1) + ∑ x, Scalar.select (v44 (ix2 i0 x)) (Ideal.exp (v113 (ix2 i0 x) - v114 (ix3 0 i0 0) - v119 (ix4 0 0 0 x)) * v68 (ix2 x i1)) 0 := by
  pointwise [k0_pay81, k0_pay79]
theorem p82  (v23 : FVec Ideal S512x128 .bf16) (v44 : IVec S512x512 1) (v54 : Vec Ideal S512x128 .bf16) (v62 : FVec Ideal S512x128 .bf16) (v113 : FVec Ideal S512x512 .f32) (v114 : Vec Ideal S1x512x1 .f32) (v119 : Vec Ideal S1x1x1x512 .f32) (v128 : Vec Ideal S1x1x1x512 .f32) (v141 : Vec Ideal S1x512x128 .f32) (i0 : Fin 1) (i1 : Fin 512) (i2 : Fin 128) :
    k0_pay82 (F := Ideal) v23 v44 v54 v62 v113 v114 v119 v128 v141 (ix3 i0 i1 i2)
      = v141 (ix3 0 i1 i2) + ∑ x, Scalar.select (v44 (ix2 i1 x)) (Ideal.exp (v113 (ix2 i1 x) - v114 (ix3 0 i1 0) - v119 (ix4 0 0 0 x)) * (∑ x_1, v23 (ix2 i1 x_1) * v54 (ix2 x x_1) - v128 (ix4 0 0 0 x)) * v62 (ix2 x i2)) 0 := by
  pointwise [k0_pay82, k0_pay79, k0_pay80]
theorem p83  (v33 : FVec Ideal S128x512 .bf16) (v133 : FVec Ideal S512x512 .bf16) (v149 : Vec Ideal S1x1x128x512 .f32) (i0 : Fin 1) (i1 : Fin 1) (i2 : Fin 128) (i3 : Fin 512) :
    k0_pay83 (F := Ideal) v33 v133 v149 (ix4 i0 i1 i2 i3)
      = v149 (ix4 0 0 i2 i3) + ∑ x, v33 (ix2 i2 x) * v133 (ix2 x i3) := by
  pointwise [k0_pay83]
theorem p84  (v2 : IVec S1x128 1) (v165 : Vec Ideal S1x512x128 .f32) (v167 : Vec Ideal S1x512x128 .f32) (i0 : Fin 512) (i1 : Fin 128) :
    k0_pay84 (F := Ideal) v2 v165 v167 (ix2 i0 i1)
      = Scalar.select (v2 (ix2 0 i1)) (v165 (ix3 0 i0 i1)) (v167 (ix3 0 i0 i1)) := by
  pointwise [k0_pay84]
theorem p85  (v174 : Vec Ideal S512x128 .f32) (i0 : Fin 512) (i1 : Fin 128) :
    k0_pay85 (F := Ideal) v174 (ix2 i0 i1)
      = v174 (ix2 i0 i1) := by
  pointwise [k0_pay85]
theorem p86  (v177 : Vec Ideal S1x512x128 .f32) (i0 : Fin 512) (i1 : Fin 1) :
    k0_pay86 (F := Ideal) v177 (ix2 i0 i1)
      = v177 (ix3 0 i0 64) := by
  pointwise [k0_pay86]
theorem p1  (v179 : FVec Ideal S512x1 .f32) (cst_98 : Ideal .f32) (i0 : Fin 1) (i1 : Fin 512) (i2 : Fin 1) :
    k0_pay1 (F := Ideal) v179 cst_98 (ix3 i0 i1 i2)
      = cst_98 - v179 (ix2 i1 0) := by
  pointwise [k0_pay1]
theorem p2  (v185 : Vec Ideal S1x512x128 .f32) (i0 : Fin 1) (i1 : Fin 512) (i2 : Fin 1) :
    k0_pay2 (F := Ideal) v185 (ix3 i0 i1 i2)
      = 0 - v185 (ix3 0 i1 0) := by
  pointwise [k0_pay2]
theorem p5  (v5 : IVec S128x1 1) (v200 : Vec Ideal S1x1x128x512 .f32) (v203 : Vec Ideal S1x1x128x512 .f32) (i0 : Fin 512) (i1 : Fin 128) :
    k0_pay5 (F := Ideal) v5 v200 v203 (ix2 i0 i1)
      = Scalar.select (v5 (ix2 i1 0)) (v200 (ix4 0 0 i1 i0)) (v203 (ix4 0 0 i1 i0)) * Ideal.ofBits FTy.f32 1040187392#32 := by
  pointwise [k0_pay5, k0_pay3, k0_pay4]
theorem p6  (v200 : Vec Ideal S1x1x128x512 .f32) (i0 : Fin 1) (i1 : Fin 1) (i2 : Fin 1) (i3 : Fin 512) :
    k0_pay6 (F := Ideal) v200 (ix4 i0 i1 i2 i3)
      = v200 (ix4 0 0 64 i3) := by
  pointwise [k0_pay6, k0_pay3]
theorem p7  (v203 : Vec Ideal S1x1x128x512 .f32) (i0 : Fin 1) (i1 : Fin 1) (i2 : Fin 1) (i3 : Fin 512) :
    k0_pay7 (F := Ideal) v203 (ix4 i0 i1 i2 i3)
      = v203 (ix4 0 0 0 i3) := by
  pointwise [k0_pay7, k0_pay4]

end Cert.KernelIdeal.Attn

end
-- ==== Proof.Spec.lean ====
/- The forgetting attention and its gradient over the real numbers, at the shapes of the kernel: eight heads of sixty-four
   lanes over four thousand and ninety-six tokens; and the few facts that carry a computation over extended reals to the reals. -/
module

public import Idealize.ShloMosaic.Lib.Pointwise
public import Idealize.ShloMosaic.Lib.IdealHost

@[expose] public section

noncomputable section

namespace Cert.Forget

open Idealize.ShloMosaic

/-! ## From extended reals to reals -/

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A sum whose terms are real is real. -/
theorem sum_coe {ι : Type} (s : Finset ι) {g : ι → EReal} {f : ι → ℝ} (h : ∀ i ∈ s, g i = ((f i : ℝ) : EReal)) :
    ∑ i ∈ s, g i = ((∑ i ∈ s, f i : ℝ) : EReal) := by rw [Finset.sum_congr rfl h, coe_sum]

theorem ofBits_eighth : Ideal.ofBits .f32 0x3E000000#32 = (((1 : ℝ) / 8 : ℝ) : EReal) := by
  simp [Ideal.ofBits, Ideal.ieee, -EReal.coe_mul]; norm_num

theorem ofBits_bot : Ideal.ofBits .f32 0xFF800000#32 = ⊥ := by
  simp [Ideal.ofBits, Ideal.ieee]

theorem div_real {y : ℝ} (h : y ≠ 0) (x : ℝ) : Ideal.div (x : EReal) (y : EReal) = ((x / y : ℝ) : EReal) := by
  rw [Ideal.div_coe h, ← EReal.coe_mul, mul_one_div]

theorem log_real {y : ℝ} (h : 0 < y) : Ideal.log (y : EReal) = ((Real.log y : ℝ) : EReal) := by
  rw [Ideal.log_coe, if_neg (not_le.mpr h)]

/-- Comparing positions below 2³¹ as signed words is comparing them. -/
theorem sle_eq {a b : ℕ} (ha : a < 4096) (hb : b < 4096) :
    IntOp.cmpi .sle (BitVec.ofNat 32 a) (BitVec.ofNat 32 b) = if a ≤ b then 1#1 else 0#1 := by
  have h : (BitVec.ofNat 32 a).sle (BitVec.ofNat 32 b) = decide (a ≤ b) := by
    rw [BitVec.sle_eq_decide, BitVec.toInt_ofNat', BitVec.toInt_ofNat']
    simp only [Int.bmod]
    congr 1
    simp only [eq_iff_iff]
    omega
  simp only [IntOp.cmpi, h]
  by_cases hab : a ≤ b <;> simp [hab]

theorem slt_eq {a : ℕ} (ha : a < 4096) :
    IntOp.cmpi .slt (BitVec.ofNat 32 a) 64#32 = if a < 64 then 1#1 else 0#1 := by
  have h : (BitVec.ofNat 32 a).slt 64#32 = decide (a < 64) := by
    rw [BitVec.slt_eq_decide, BitVec.toInt_ofNat']
    simp only [Int.bmod]
    congr 1
    simp only [eq_iff_iff]
    have : (64#32).toInt = 64 := by decide
    omega
  simp only [IntOp.cmpi, h]
  by_cases hab : a < 64 <;> simp [hab]

theorem select_if {α : Type} (p : Prop) [Decidable p] (a b : α) :
    Scalar.select (if p then 1#1 else 0#1) a b = if p then a else b := by
  split <;> rfl

/-! ## The attention and its gradient -/

/-- The three arguments as real arrays: the projections, the cumulated log forget gates, the gradient of the output. -/
structure Args where
  x : Fin 4096 → Fin 2048 → ℝ
  c : Fin 8 → Fin 4096 → ℝ
  g : Fin 4096 → Fin 512 → ℝ

/-- The three argument arrays are these real arrays. -/
structure Reals (A : Args) (X : FVec Ideal ⟨2, ![4096, 2048]⟩ .bf16) (C : FVec Ideal ⟨2, ![8, 4096]⟩ .f32)
    (D : FVec Ideal ⟨2, ![4096, 512]⟩ .bf16) : Prop where
  x : ∀ (t : Fin 4096) (j : Fin 2048), X (ix2 t j) = ((A.x t j : ℝ) : EReal)
  c : ∀ (h : Fin 8) (t : Fin 4096), C (ix2 h t) = ((A.c h t : ℝ) : EReal)
  g : ∀ (t : Fin 4096) (j : Fin 512), D (ix2 t j) = ((A.g t j : ℝ) : EReal)

variable (A : Args)

/-- Lane `d` of head `h` among the 512 lanes of a projection. -/
def lane (h : Fin 8) (d : Fin 64) : Fin 512 := ⟨h.val * 64 + d.val, by omega⟩

def qv (h : Fin 8) (t : Fin 4096) (d : Fin 64) : ℝ := A.x t ⟨512 + (lane h d).val, by omega⟩
def kv (h : Fin 8) (t : Fin 4096) (d : Fin 64) : ℝ := A.x t ⟨1024 + (lane h d).val, by omega⟩
def vv (h : Fin 8) (t : Fin 4096) (d : Fin 64) : ℝ := A.x t ⟨1536 + (lane h d).val, by omega⟩
def gv (h : Fin 8) (t : Fin 4096) (d : Fin 64) : ℝ := A.g t (lane h d)

/-- The logit of key `s` for query `t`. -/
def lg (h : Fin 8) (t s : Fin 4096) : ℝ := (∑ d, qv A h t d * kv A h s d) * (1 / 8) + A.c h t - A.c h s

/-- The largest logit among the keys up to the query. -/
def mx (h : Fin 8) (t : Fin 4096) : ℝ :=
  (Finset.univ.filter fun s : Fin 4096 => s ≤ t).sup' ⟨t, by simp⟩ (lg A h t)

def ev (h : Fin 8) (t s : Fin 4096) : ℝ := if s ≤ t then Real.exp (lg A h t s - mx A h t) else 0

def zs (h : Fin 8) (t : Fin 4096) : ℝ := ∑ s, ev A h t s

/-- The attention weights. -/
def pr (h : Fin 8) (t s : Fin 4096) : ℝ := ev A h t s / zs A h t

def ov (h : Fin 8) (t : Fin 4096) (d : Fin 64) : ℝ := ∑ s, pr A h t s * vv A h s d

/-- The logarithm of the sum of exponentials, less the query's own gate. -/
def ls (h : Fin 8) (t : Fin 4096) : ℝ := mx A h t + Real.log (zs A h t) - A.c h t

def dp (h : Fin 8) (t s : Fin 4096) : ℝ := ∑ d, gv A h t d * vv A h s d

def dl (h : Fin 8) (t : Fin 4096) : ℝ := ∑ d, gv A h t d * ov A h t d

/-- The gradient of the logits. -/
def ds (h : Fin 8) (t s : Fin 4096) : ℝ := pr A h t s * (dp A h t s - dl A h t)

def dq (h : Fin 8) (t : Fin 4096) (d : Fin 64) : ℝ := (∑ s, ds A h t s * kv A h s d) * (1 / 8)
def dk (h : Fin 8) (s : Fin 4096) (d : Fin 64) : ℝ := ∑ t, ds A h t s * (qv A h t d * (1 / 8))
def dv (h : Fin 8) (s : Fin 4096) (d : Fin 64) : ℝ := ∑ t, pr A h t s * gv A h t d
def dcq (h : Fin 8) (t : Fin 4096) : ℝ := ∑ s, ds A h t s
def dck (h : Fin 8) (s : Fin 4096) : ℝ := -∑ t, ds A h t s

theorem zs_pos (h : Fin 8) (t : Fin 4096) : 0 < zs A h t := by
  refine Finset.sum_pos' (fun s _ => ?_) ⟨t, Finset.mem_univ _, ?_⟩
  · unfold ev; split
    · exact (Real.exp_pos _).le
    · exact le_rfl
  · unfold ev; rw [if_pos le_rfl]; exact Real.exp_pos _

/-- The row's inner product of weights and their gradient is that of the output and its gradient. -/
theorem sum_pr_dp (h : Fin 8) (t : Fin 4096) : ∑ s, pr A h t s * dp A h t s = dl A h t := by
  unfold dl ov dp
  simp only [Finset.mul_sum]
  rw [Finset.sum_comm]
  exact Finset.sum_congr rfl fun d _ => Finset.sum_congr rfl fun s _ => by ring

theorem pr_of_gt (h : Fin 8) {t s : Fin 4096} (hs : ¬ s ≤ t) : pr A h t s = 0 := by
  unfold pr ev; rw [if_neg hs, zero_div]

theorem ds_of_gt (h : Fin 8) {t s : Fin 4096} (hs : ¬ s ≤ t) : ds A h t s = 0 := by
  unfold ds; rw [pr_of_gt A h hs, zero_mul]

/-- The weights from the saved logarithm. -/
theorem pr_of_le (h : Fin 8) {t s : Fin 4096} (hs : s ≤ t) :
    Real.exp ((∑ d, qv A h t d * kv A h s d) * (1 / 8) - A.c h s - ls A h t) = pr A h t s := by
  unfold pr ev ls
  rw [if_pos hs, ← Real.exp_log (zs_pos A h t), ← Real.exp_sub, Real.exp_log (zs_pos A h t)]
  unfold lg
  congr 1; ring

/-- The maximum of a masked row. -/
theorem fold_max (t : Fin 4096) (f : Fin 4096 → ℝ) :
    Finset.fold max (⊥ : EReal) (fun s => if s ≤ t then ((f s : ℝ) : EReal) else ⊥) Finset.univ
      = (((Finset.univ.filter fun s : Fin 4096 => s ≤ t).sup' ⟨t, by simp⟩ f : ℝ) : EReal) := by
  apply le_antisymm
  · rw [Finset.fold_max_le]
    refine ⟨bot_le, fun s _ => ?_⟩
    split
    · rename_i hs
      exact EReal.coe_le_coe_iff.mpr (Finset.le_sup' f (by simpa using hs))
    · exact bot_le
  · rw [Finset.le_fold_max]
    right
    obtain ⟨s, hs, he⟩ := Finset.exists_mem_eq_sup' (s := Finset.univ.filter fun s : Fin 4096 => s ≤ t) ⟨t, by simp⟩ f
    refine ⟨s, Finset.mem_univ _, ?_⟩
    rw [he, if_pos (by simpa using hs)]

end Cert.Forget

end
-- ==== Proof.Pair.lean ====
/- One head pair of the attention's gradient over the real numbers: the lanes of its two heads side by side, the blocks of 512
   tokens, and what one query block and one key block add to each accumulator. -/
module

public import proofs.«01_k».proof.Proof.Spec

@[expose] public section

noncomputable section

namespace Cert.Forget

open Idealize.ShloMosaic

variable (A : Args) (hp : Fin 4)

/-- Head `e` of the pair. -/
def hd (e : Fin 2) : Fin 8 := ⟨2 * hp.val + e.val, by omega⟩
/-- Token `i` of block `b`. -/
def row (b : Fin 8) (i : Fin 512) : Fin 4096 := ⟨b.val * 512 + i.val, by omega⟩

/-- The pair's lanes of the queries, keys, values, the output's gradient and the output. -/
def ql (t : Fin 4096) (l : Fin 128) : ℝ := A.x t ⟨512 + (hp.val * 128 + l.val), by omega⟩
def kl (t : Fin 4096) (l : Fin 128) : ℝ := A.x t ⟨1024 + (hp.val * 128 + l.val), by omega⟩
def vl (t : Fin 4096) (l : Fin 128) : ℝ := A.x t ⟨1536 + (hp.val * 128 + l.val), by omega⟩
def gl (t : Fin 4096) (l : Fin 128) : ℝ := A.g t ⟨hp.val * 128 + l.val, by omega⟩
def ol (t : Fin 4096) (l : Fin 128) : ℝ := ov A (hd hp ⟨l.val / 64, by omega⟩) t ⟨l.val % 64, by omega⟩

/-- A value on the first head's lanes and another on the second's. -/
def lo (l : Fin 128) (a b : ℝ) : ℝ := if l.val < 64 then a else b

def low (d : Fin 64) : Fin 128 := ⟨d.val, by omega⟩
def high (d : Fin 64) : Fin 128 := ⟨64 + d.val, by omega⟩

theorem lo_low (d : Fin 64) (a b : ℝ) : lo (low d) a b = a := if_pos d.isLt
theorem lo_high (d : Fin 64) (a b : ℝ) : lo (high d) a b = b := if_neg (by show ¬ 64 + d.val < 64; omega)

theorem ql_low (t : Fin 4096) (d : Fin 64) : ql A hp t (low d) = qv A (hd hp 0) t d := by
  unfold ql qv; congr 1; apply Fin.ext; show 512 + (hp.val * 128 + d.val) = 512 + ((2 * hp.val + 0) * 64 + d.val); omega
theorem ql_high (t : Fin 4096) (d : Fin 64) : ql A hp t (high d) = qv A (hd hp 1) t d := by
  unfold ql qv; congr 1; apply Fin.ext; show 512 + (hp.val * 128 + (64 + d.val)) = 512 + ((2 * hp.val + 1) * 64 + d.val); omega
theorem kl_low (t : Fin 4096) (d : Fin 64) : kl A hp t (low d) = kv A (hd hp 0) t d := by
  unfold kl kv; congr 1; apply Fin.ext; show 1024 + (hp.val * 128 + d.val) = 1024 + ((2 * hp.val + 0) * 64 + d.val); omega
theorem kl_high (t : Fin 4096) (d : Fin 64) : kl A hp t (high d) = kv A (hd hp 1) t d := by
  unfold kl kv; congr 1; apply Fin.ext; show 1024 + (hp.val * 128 + (64 + d.val)) = 1024 + ((2 * hp.val + 1) * 64 + d.val); omega
theorem vl_low (t : Fin 4096) (d : Fin 64) : vl A hp t (low d) = vv A (hd hp 0) t d := by
  unfold vl vv; congr 1; apply Fin.ext; show 1536 + (hp.val * 128 + d.val) = 1536 + ((2 * hp.val + 0) * 64 + d.val); omega
theorem vl_high (t : Fin 4096) (d : Fin 64) : vl A hp t (high d) = vv A (hd hp 1) t d := by
  unfold vl vv; congr 1; apply Fin.ext; show 1536 + (hp.val * 128 + (64 + d.val)) = 1536 + ((2 * hp.val + 1) * 64 + d.val); omega
theorem gl_low (t : Fin 4096) (d : Fin 64) : gl A hp t (low d) = gv A (hd hp 0) t d := by
  unfold gl gv; congr 1; apply Fin.ext; show hp.val * 128 + d.val = (2 * hp.val + 0) * 64 + d.val; omega
theorem gl_high (t : Fin 4096) (d : Fin 64) : gl A hp t (high d) = gv A (hd hp 1) t d := by
  unfold gl gv; congr 1; apply Fin.ext; show hp.val * 128 + (64 + d.val) = (2 * hp.val + 1) * 64 + d.val; omega
theorem ol_low (t : Fin 4096) (d : Fin 64) : ol A hp t (low d) = ov A (hd hp 0) t d := by
  unfold ol; congr 2
  · apply Fin.ext; show d.val / 64 = 0; omega
  · show d.val % 64 = d.val; omega
theorem ol_high (t : Fin 4096) (d : Fin 64) : ol A hp t (high d) = ov A (hd hp 1) t d := by
  unfold ol; congr 2
  · apply Fin.ext; show (64 + d.val) / 64 = 1; omega
  · show (64 + d.val) % 64 = d.val; omega

theorem sum128 (f : Fin 128 → ℝ) : ∑ l, f l = ∑ d, f (low d) + ∑ d, f (high d) :=
  (Fin.sum_univ_add (a := 64) (b := 64) f)

/-- The logit without the query's own gate, as the kernel has it. -/
def lgs (h : Fin 8) (t s : Fin 4096) : ℝ := (∑ d, qv A h t d * kv A h s d) * (1 / 8) - A.c h s

theorem exp_lgs (h : Fin 8) {t s : Fin 4096} (hs : s ≤ t) : Real.exp (lgs A h t s - ls A h t) = pr A h t s := pr_of_le A h hs

theorem score_lo (t s : Fin 4096) :
    ∑ l, lo l (kl A hp s l) 0 * (ql A hp t l * (1 / 8)) - A.c (hd hp 0) s = lgs A (hd hp 0) t s := by
  unfold lgs
  simp only [sum128, lo_low, lo_high, ql_low, kl_low, zero_mul, Finset.sum_const_zero, add_zero, Finset.sum_mul]
  congr 1; exact Finset.sum_congr rfl fun d _ => by ring
theorem score_hi (t s : Fin 4096) :
    ∑ l, lo l 0 (kl A hp s l) * (ql A hp t l * (1 / 8)) - A.c (hd hp 1) s = lgs A (hd hp 1) t s := by
  unfold lgs
  simp only [sum128, lo_low, lo_high, ql_high, kl_high, zero_mul, Finset.sum_const_zero, zero_add, Finset.sum_mul]
  congr 1; exact Finset.sum_congr rfl fun d _ => by ring
theorem dp_lo (t s : Fin 4096) : ∑ l, lo l (vl A hp s l) 0 * gl A hp t l = dp A (hd hp 0) t s := by
  unfold dp
  simp only [sum128, lo_low, lo_high, vl_low, gl_low, zero_mul, Finset.sum_const_zero, add_zero]
  exact Finset.sum_congr rfl fun d _ => by ring
theorem dp_hi (t s : Fin 4096) : ∑ l, lo l 0 (vl A hp s l) * gl A hp t l = dp A (hd hp 1) t s := by
  unfold dp
  simp only [sum128, lo_low, lo_high, vl_high, gl_high, zero_mul, Finset.sum_const_zero, zero_add]
  exact Finset.sum_congr rfl fun d _ => by ring
theorem dl_lo (t : Fin 4096) : ∑ l, lo l 1 0 * (gl A hp t l * ol A hp t l) = dl A (hd hp 0) t := by
  unfold dl
  simp only [sum128, lo_low, lo_high, ol_low, gl_low, zero_mul, one_mul, Finset.sum_const_zero, add_zero]
theorem dl_hi (t : Fin 4096) : ∑ l, lo l 0 1 * (gl A hp t l * ol A hp t l) = dl A (hd hp 1) t := by
  unfold dl
  simp only [sum128, lo_low, lo_high, ol_high, gl_high, zero_mul, one_mul, Finset.sum_const_zero, zero_add]

/-- The queries, the output's gradient and the keys on the lanes of head `e`; the other lanes are one, nothing and one. -/
def qx (e : Fin 2) (t : Fin 4096) (l : Fin 128) : ℝ := if e = 0 then lo l (ql A hp t l * (1 / 8)) 1 else lo l 1 (ql A hp t l * (1 / 8))
def gx (e : Fin 2) (t : Fin 4096) (l : Fin 128) : ℝ := if e = 0 then lo l (gl A hp t l) 0 else lo l 0 (gl A hp t l)
def kx (e : Fin 2) (s : Fin 4096) (l : Fin 128) : ℝ := if e = 0 then lo l (kl A hp s l) 1 else lo l 1 (kl A hp s l)

/-- What query block `b` adds to the keys' gradient of key block `j`, to the values' gradient, and what key block `j` adds to
    the queries' gradient of query block `b`. -/
def cdk (j b : Fin 8) (e : Fin 2) (i : Fin 512) (l : Fin 128) : ℝ :=
  ∑ x : Fin 512, ds A (hd hp e) (row b x) (row j i) * qx A hp e (row b x) l
def cdv (j b : Fin 8) (i : Fin 512) (l : Fin 128) : ℝ :=
  ∑ x : Fin 512, pr A (hd hp 0) (row b x) (row j i) * gx A hp 0 (row b x) l
    + ∑ x : Fin 512, pr A (hd hp 1) (row b x) (row j i) * gx A hp 1 (row b x) l
def cdq (j b : Fin 8) (e : Fin 2) (l : Fin 128) (i : Fin 512) : ℝ :=
  ∑ x : Fin 512, kx A hp e (row j x) l * ds A (hd hp e) (row b i) (row j x)

theorem row_le {b j : Fin 8} (h : j < b) (x i : Fin 512) : row j i ≤ row b x := by
  show j.val * 512 + i.val ≤ b.val * 512 + x.val
  have : j.val < b.val := h
  omega
theorem row_not_le {b j : Fin 8} (h : b < j) (x i : Fin 512) : ¬ row j i ≤ row b x := by
  show ¬ j.val * 512 + i.val ≤ b.val * 512 + x.val
  have : b.val < j.val := h
  omega
theorem row_same (j : Fin 8) (x i : Fin 512) : row j i ≤ row j x ↔ i.val ≤ x.val := by
  show j.val * 512 + i.val ≤ j.val * 512 + x.val ↔ _
  omega

/-- Query blocks before the key block add nothing. -/
theorem cdk_zero {j b : Fin 8} (h : b < j) (e : Fin 2) (i : Fin 512) (l : Fin 128) : cdk A hp j b e i l = 0 :=
  Finset.sum_eq_zero fun x _ => by rw [ds_of_gt A _ (row_not_le h x i), zero_mul]
theorem cdv_zero {j b : Fin 8} (h : b < j) (i : Fin 512) (l : Fin 128) : cdv A hp j b i l = 0 := by
  unfold cdv
  rw [Finset.sum_eq_zero fun x _ => by rw [pr_of_gt A _ (row_not_le h x i), zero_mul],
    Finset.sum_eq_zero fun x _ => by rw [pr_of_gt A _ (row_not_le h x i), zero_mul], add_zero]
theorem cdq_zero {j b : Fin 8} (h : b < j) (e : Fin 2) (l : Fin 128) (i : Fin 512) : cdq A hp j b e l i = 0 :=
  Finset.sum_eq_zero fun x _ => by rw [ds_of_gt A _ (row_not_le h i x), mul_zero]

/-- The blocks from `j` to `n`. -/
def upto (j : Fin 8) (n : ℕ) (f : Fin 8 → ℝ) : ℝ := ∑ b : Fin 8, if j.val ≤ b.val ∧ b.val ≤ n then f b else 0

theorem upto_self (j : Fin 8) (f : Fin 8 → ℝ) : upto j j.val f = f j := by
  unfold upto
  rw [Finset.sum_eq_single j]
  · exact if_pos ⟨le_rfl, le_rfl⟩
  · intro b _ hb; exact if_neg fun h => hb (Fin.ext (by omega))
  · intro h; exact absurd (Finset.mem_univ _) h

theorem upto_succ (j b : Fin 8) (n : ℕ) (f : Fin 8 → ℝ) (hn : j.val ≤ n) (hb : b.val = n + 1) : upto j (n + 1) f = upto j n f + f b := by
  unfold upto
  have e : f b = ∑ x : Fin 8, if x = b then f x else 0 := by simp
  rw [e, ← Finset.sum_add_distrib]
  refine Finset.sum_congr rfl fun x _ => ?_
  by_cases h : x = b
  · subst h
    rw [if_pos ⟨by omega, by omega⟩, if_neg (by omega), if_pos rfl, zero_add]
  · have hx : x.val ≠ b.val := fun e => h (Fin.ext e)
    rw [if_neg h, add_zero]
    by_cases h2 : j.val ≤ x.val ∧ x.val ≤ n
    · rw [if_pos h2, if_pos ⟨h2.1, by omega⟩]
    · rw [if_neg h2, if_neg (by omega)]

theorem upto_all (j : Fin 8) (f : Fin 8 → ℝ) (h : ∀ b, b < j → f b = 0) : upto j 7 f = ∑ b, f b := by
  unfold upto
  refine Finset.sum_congr rfl fun b _ => ?_
  by_cases hb : j.val ≤ b.val
  · exact if_pos ⟨hb, by omega⟩
  · rw [if_neg (by omega), h b (by show b.val < j.val; omega)]

/-- A sum over the tokens, block by block. -/
theorem sum_rows (f : Fin 4096 → ℝ) : ∑ t, f t = ∑ b : Fin 8, ∑ x : Fin 512, f (row b x) :=
  Fin.sum_univ_tiles 8 512 rfl f

theorem qx_low (t : Fin 4096) (d : Fin 64) : qx A hp 0 t (low d) = qv A (hd hp 0) t d * (1 / 8) := by
  unfold qx; rw [if_pos rfl, lo_low, ql_low]
theorem qx_high (t : Fin 4096) (d : Fin 64) : qx A hp 1 t (high d) = qv A (hd hp 1) t d * (1 / 8) := by
  unfold qx; rw [if_neg (by decide), lo_high, ql_high]
theorem qx_one0 (t : Fin 4096) (d : Fin 64) : qx A hp 0 t (high d) = 1 := by
  unfold qx; rw [if_pos rfl, lo_high]
theorem qx_one1 (t : Fin 4096) (d : Fin 64) : qx A hp 1 t (low d) = 1 := by
  unfold qx; rw [if_neg (by decide), lo_low]
theorem kx_low (t : Fin 4096) (d : Fin 64) : kx A hp 0 t (low d) = kv A (hd hp 0) t d := by
  unfold kx; rw [if_pos rfl, lo_low, kl_low]
theorem kx_high (t : Fin 4096) (d : Fin 64) : kx A hp 1 t (high d) = kv A (hd hp 1) t d := by
  unfold kx; rw [if_neg (by decide), lo_high, kl_high]
theorem kx_one0 (t : Fin 4096) (d : Fin 64) : kx A hp 0 t (high d) = 1 := by
  unfold kx; rw [if_pos rfl, lo_high]
theorem kx_one1 (t : Fin 4096) (d : Fin 64) : kx A hp 1 t (low d) = 1 := by
  unfold kx; rw [if_neg (by decide), lo_low]

/-- The whole gradients from the blocks' parts. -/
theorem dk_low (j : Fin 8) (i : Fin 512) (d : Fin 64) : ∑ b, cdk A hp j b 0 i (low d) = dk A (hd hp 0) (row j i) d := by
  unfold dk cdk; rw [sum_rows]; simp only [qx_low]
theorem dk_high (j : Fin 8) (i : Fin 512) (d : Fin 64) : ∑ b, cdk A hp j b 1 i (high d) = dk A (hd hp 1) (row j i) d := by
  unfold dk cdk; rw [sum_rows]; simp only [qx_high]
theorem dck_0 (j : Fin 8) (i : Fin 512) (d : Fin 64) : -∑ b, cdk A hp j b 0 i (high d) = dck A (hd hp 0) (row j i) := by
  unfold dck cdk; rw [sum_rows]; simp only [qx_one0, mul_one]
theorem dck_1 (j : Fin 8) (i : Fin 512) (d : Fin 64) : -∑ b, cdk A hp j b 1 i (low d) = dck A (hd hp 1) (row j i) := by
  unfold dck cdk; rw [sum_rows]; simp only [qx_one1, mul_one]
theorem dv_low (j : Fin 8) (i : Fin 512) (d : Fin 64) : ∑ b, cdv A hp j b i (low d) = dv A (hd hp 0) (row j i) d := by
  unfold dv cdv gx; rw [sum_rows]
  simp only [if_pos, if_neg (show ¬ (1 : Fin 2) = 0 by decide), lo_low, gl_low, mul_zero, Finset.sum_const_zero, add_zero]
theorem dv_high (j : Fin 8) (i : Fin 512) (d : Fin 64) : ∑ b, cdv A hp j b i (high d) = dv A (hd hp 1) (row j i) d := by
  unfold dv cdv gx; rw [sum_rows]
  simp only [if_pos, if_neg (show ¬ (1 : Fin 2) = 0 by decide), lo_high, gl_high, mul_zero, Finset.sum_const_zero, zero_add]
theorem dq_low (b : Fin 8) (i : Fin 512) (d : Fin 64) : (∑ j, cdq A hp j b 0 (low d) i) * (1 / 8) = dq A (hd hp 0) (row b i) d := by
  unfold dq cdq; rw [sum_rows]; simp only [kx_low]
  congr 1; exact Finset.sum_congr rfl fun j _ => Finset.sum_congr rfl fun x _ => mul_comm _ _
theorem dq_high (b : Fin 8) (i : Fin 512) (d : Fin 64) : (∑ j, cdq A hp j b 1 (high d) i) * (1 / 8) = dq A (hd hp 1) (row b i) d := by
  unfold dq cdq; rw [sum_rows]; simp only [kx_high]
  congr 1; exact Finset.sum_congr rfl fun j _ => Finset.sum_congr rfl fun x _ => mul_comm _ _
theorem dcq_0 (b : Fin 8) (i : Fin 512) (d : Fin 64) : ∑ j, cdq A hp j b 0 (high d) i = dcq A (hd hp 0) (row b i) := by
  unfold dcq cdq; rw [sum_rows]; simp only [kx_one0, one_mul]
theorem dcq_1 (b : Fin 8) (i : Fin 512) (d : Fin 64) : ∑ j, cdq A hp j b 1 (low d) i = dcq A (hd hp 1) (row b i) := by
  unfold dcq cdq; rw [sum_rows]; simp only [kx_one1, one_mul]

end Cert.Forget

end
-- ==== Proof.Trip.lean ====
/- What a query block adds to the accumulators of a head pair, over extended reals that are real. -/
module

public import proofs.«01_k».proof.Proof.Payload
public import proofs.«01_k».proof.Proof.Pair
public import proofs.«01_k».proof.Proof.Fill

@[expose] public section

set_option maxRecDepth 16384

noncomputable section

namespace Cert.KernelIdeal.Attn

open Idealize.ShloMosaic Idealize.ShloMosaic.VecWindow Cert.KernelIdeal.Gen Cert.Forget

/-! ## Reading windows -/

theorem window_apply {α : Type} {s : Shape} (x : s.Idx → α) {off size : Fin s.rank → ℕ} {inb : ∀ a, off a + size a ≤ s.size a}
    (y : (Rect.unit off size inb).shape.Idx) (z : s.Idx) (h : ∀ a, (z a).val = off a + (y a).val) : window x off size inb y = x z :=
  congrArg x (funext fun a => Fin.ext (by
    have e : ((Rect.unit off size inb).emb y a).val = off a + 1 * (y a).val := rfl
    rw [e, h a]; omega))

theorem put_in {α : Type} {s : Shape} (x : s.Idx → α) (off size : Fin s.rank → ℕ) (w : ((a : Fin s.rank) → Fin (size a)) → α)
    (y : s.Idx) (z : (a : Fin s.rank) → Fin (size a)) (h : ∀ a, (y a).val = off a + (z a).val) : put x off size w y = w z := by
  have hc : ∀ a, off a ≤ (y a).val ∧ (y a).val < off a + size a := fun a => by have := (z a).isLt; have := h a; omega
  show (if h : _ then w (Rect.unitLocal (s := s) (off := off) (size := size) y h) else _) = w z
  rw [dif_pos hc]
  exact congrArg w (funext fun a => Fin.ext (by show (y a).val - off a = (z a).val; have := h a; omega))

theorem put_out {α : Type} {s : Shape} (x : s.Idx → α) (off size : Fin s.rank → ℕ) (w : ((a : Fin s.rank) → Fin (size a)) → α)
    (y : s.Idx) (a : Fin s.rank) (h : (y a).val < off a ∨ off a + size a ≤ (y a).val) : put x off size w y = x y :=
  dif_neg fun hc => by have := hc a; omega

theorem window_rows {α : Type} (x : S4096x128.Idx → α) {off : Fin 2 → ℕ} (b : Fin 8) (ho : off = ![512 * b.val, 0])
    {inb : ∀ a, off a + S512x128.size a ≤ S4096x128.size a} (i : Fin 512) (l : Fin 128) :
    window x off S512x128.size inb (ix2 i l) = x (ix2 (row b i) l) := by
  subst ho
  exact window_apply x _ _ fun a => by
    match a with
    | ⟨0, _⟩ => show b.val * 512 + i.val = 512 * b.val + i.val; omega
    | ⟨1, _⟩ => show l.val = 0 + l.val; omega

theorem window_stat {α : Type} (x : S2x8x1x512.Idx → α) {off : Fin 4 → ℕ} (e : Fin 2) (b : Fin 8) (ho : off = ![e.val, b.val, 0, 0])
    {inb : ∀ a, off a + S1x1x1x512.size a ≤ S2x8x1x512.size a} (i : Fin 512) :
    window x off S1x1x1x512.size inb (ix4 0 0 0 i) = x (ix4 e b 0 i) := by
  subst ho
  exact window_apply x _ _ fun a => by
    match a with
    | ⟨0, _⟩ => show e.val = e.val + 0; omega
    | ⟨1, _⟩ => show b.val = b.val + 0; omega
    | ⟨2, _⟩ => rfl
    | ⟨3, _⟩ => show i.val = 0 + i.val; omega

theorem window_delta {α : Type} (x : S2x8x8x512.Idx → α) {off : Fin 4 → ℕ} (e : Fin 2) (b : Fin 8) (ho : off = ![e.val, b.val, 0, 0])
    {inb : ∀ a, off a + S1x1x1x512.size a ≤ S2x8x8x512.size a} (i : Fin 512) :
    window x off S1x1x1x512.size inb (ix4 0 0 0 i) = x (ix4 e b 0 i) := by
  subst ho
  exact window_apply x _ _ fun a => by
    match a with
    | ⟨0, _⟩ => show e.val = e.val + 0; omega
    | ⟨1, _⟩ => show b.val = b.val + 0; omega
    | ⟨2, _⟩ => rfl
    | ⟨3, _⟩ => show i.val = 0 + i.val; omega

theorem window_gate {α : Type} (x : S2x512x1.Idx → α) {off : Fin 3 → ℕ} (e : Fin 2) (ho : off = ![e.val, 0, 0])
    {inb : ∀ a, off a + S1x512x1.size a ≤ S2x512x1.size a} (i : Fin 512) :
    window x off S1x512x1.size inb (ix3 0 i 0) = x (ix3 e i 0) := by
  subst ho
  exact window_apply x _ _ fun a => by
    match a with
    | ⟨0, _⟩ => show e.val = e.val + 0; omega
    | ⟨1, _⟩ => show i.val = 0 + i.val; omega
    | ⟨2, _⟩ => rfl

theorem window_dqt {α : Type} (x : S2x8x128x512.Idx → α) {off : Fin 4 → ℕ} (e : Fin 2) (b : Fin 8) (ho : off = ![e.val, b.val, 0, 0])
    {inb : ∀ a, off a + S1x1x128x512.size a ≤ S2x8x128x512.size a} (l : Fin 128) (i : Fin 512) :
    window x off S1x1x128x512.size inb (ix4 0 0 l i) = x (ix4 e b l i) := by
  subst ho
  exact window_apply x _ _ fun a => by
    match a with
    | ⟨0, _⟩ => show e.val = e.val + 0; omega
    | ⟨1, _⟩ => show b.val = b.val + 0; omega
    | ⟨2, _⟩ => show l.val = 0 + l.val; omega
    | ⟨3, _⟩ => show i.val = 0 + i.val; omega

theorem put_dqt {α : Type} (x : S2x8x128x512.Idx → α) {off : Fin 4 → ℕ} (e e' : Fin 2) (b b' : Fin 8) (ho : off = ![e.val, b.val, 0, 0])
    (w : S1x1x128x512.Idx → α) (l : Fin 128) (i : Fin 512) :
    put x off S1x1x128x512.size w (ix4 e' b' l i) = if e' = e ∧ b' = b then w (ix4 0 0 l i) else x (ix4 e' b' l i) := by
  subst ho
  split
  · rename_i h
    obtain ⟨rfl, rfl⟩ := h
    refine (put_in x _ _ w _ (show S1x1x128x512.Idx from ix4 0 0 l i) fun a => ?_)
    · match a with
      | ⟨0, _⟩ => show e'.val = e'.val + 0; omega
      | ⟨1, _⟩ => show b'.val = b'.val + 0; omega
      | ⟨2, _⟩ => show l.val = 0 + l.val; omega
      | ⟨3, _⟩ => show i.val = 0 + i.val; omega
  · rename_i h
    by_cases he : e' = e
    · have hb : b'.val ≠ b.val := fun hb => h ⟨he, Fin.ext hb⟩
      exact put_out x _ _ w _ (1 : Fin 4) (by show b'.val < b.val ∨ b.val + 1 ≤ b'.val; omega)
    · have hb : e'.val ≠ e.val := fun hb => he (Fin.ext hb)
      exact put_out x _ _ w _ (0 : Fin 4) (by show e'.val < e.val ∨ e.val + 1 ≤ e'.val; omega)

theorem window_dk {α : Type} (x : S2x512x128.Idx → α) {off : Fin 3 → ℕ} (e : Fin 2) (ho : off = ![e.val, 0, 0])
    {inb : ∀ a, off a + S1x512x128.size a ≤ S2x512x128.size a} (i : Fin 512) (l : Fin 128) :
    window x off S1x512x128.size inb (ix3 0 i l) = x (ix3 e i l) := by
  subst ho
  exact window_apply x _ _ fun a => by
    match a with
    | ⟨0, _⟩ => show e.val = e.val + 0; omega
    | ⟨1, _⟩ => show i.val = 0 + i.val; omega
    | ⟨2, _⟩ => show l.val = 0 + l.val; omega

theorem put_dk {α : Type} (x : S2x512x128.Idx → α) {off : Fin 3 → ℕ} (e e' : Fin 2) (ho : off = ![e.val, 0, 0])
    (w : S1x512x128.Idx → α) (i : Fin 512) (l : Fin 128) :
    put x off S1x512x128.size w (ix3 e' i l) = if e' = e then w (ix3 0 i l) else x (ix3 e' i l) := by
  subst ho
  split
  · rename_i h
    subst h
    refine (put_in x _ _ w _ (show S1x512x128.Idx from ix3 0 i l) fun a => ?_)
    · match a with
      | ⟨0, _⟩ => show e'.val = e'.val + 0; omega
      | ⟨1, _⟩ => show i.val = 0 + i.val; omega
      | ⟨2, _⟩ => show l.val = 0 + l.val; omega
  · rename_i he
    have hb : e'.val ≠ e.val := fun hb => he (Fin.ext hb)
    exact put_out x _ _ w _ (0 : Fin 3) (by show e'.val < e.val ∨ e.val + 1 ≤ e'.val; omega)

theorem put_dck {α : Type} (x : S2x512x1.Idx → α) {off : Fin 3 → ℕ} (e e' : Fin 2) (ho : off = ![e.val, 0, 0])
    (w : S1x512x1.Idx → α) (i : Fin 512) :
    put x off S1x512x1.size w (ix3 e' i 0) = if e' = e then w (ix3 0 i 0) else x (ix3 e' i 0) := by
  subst ho
  split
  · rename_i h
    subst h
    refine (put_in x _ _ w _ (show S1x512x1.Idx from ix3 0 i 0) fun a => ?_)
    · match a with
      | ⟨0, _⟩ => show e'.val = e'.val + 0; omega
      | ⟨1, _⟩ => show i.val = 0 + i.val; omega
      | ⟨2, _⟩ => rfl
  · rename_i he
    have hb : e'.val ≠ e.val := fun hb => he (Fin.ext hb)
    exact put_out x _ _ w _ (0 : Fin 3) (by show e'.val < e.val ∨ e.val + 1 ≤ e'.val; omega)

/-! ## Real payloads -/

theorem sel_lo (l : Fin 128) (a b : ℝ) :
    Scalar.select (IntOp.cmpi CmpIPredicate.slt (BitVec.ofNat 32 l.val) 64#32) ((a : ℝ) : EReal) ((b : ℝ) : EReal) = ((lo l a b : ℝ) : EReal) := by
  rw [slt_eq (by omega), select_if]; unfold lo; split <;> rfl

theorem one_coe : (1 : EReal) = ((1 : ℝ) : EReal) := rfl
theorem zero_coe : (0 : EReal) = ((0 : ℝ) : EReal) := rfl

variable {A : Args} {hp : Fin 4} {j b : Fin 8}

/-- The blocks a grid point works on are the real ones of head pair `hp` and key block `j`. -/
structure Blk (A : Args) (hp : Fin 4) (j : Fin 8) (x2 : Vec Ideal S4096x128 .bf16) (x3 x4 : Vec Ideal S512x128 .bf16) (x6 : Vec Ideal S4096x128 .bf16)
    (x7 : Vec Ideal S2x8x1x512 .f32) (x8 : Vec Ideal S2x512x1 .f32) (dl : Vec Ideal S2x8x8x512 .f32) : Prop where
  q : ∀ t l, x2 (ix2 t l) = ((ql A hp t l : ℝ) : EReal)
  k : ∀ i l, x3 (ix2 i l) = ((kl A hp (row j i) l : ℝ) : EReal)
  v : ∀ i l, x4 (ix2 i l) = ((vl A hp (row j i) l : ℝ) : EReal)
  g : ∀ t l, x6 (ix2 t l) = ((gl A hp t l : ℝ) : EReal)
  s : ∀ (e : Fin 2) (b : Fin 8) (i : Fin 512), x7 (ix4 e b 0 i) = ((ls A (hd hp e) (row b i) : ℝ) : EReal)
  c : ∀ (e : Fin 2) (i : Fin 512), x8 (ix3 e i 0) = ((A.c (hd hp e) (row j i) : ℝ) : EReal)
  d : ∀ (e : Fin 2) (b u : Fin 8) (i : Fin 512), dl (ix4 e b u i) = ((Forget.dl A (hd hp e) (row b i) : ℝ) : EReal)

/-- The accumulators hold real numbers. -/
structure Hold (a : Acc Ideal) (DQ : Fin 2 → Fin 8 → Fin 128 → Fin 512 → ℝ) (DK : Fin 2 → Fin 512 → Fin 128 → ℝ) (DV : Fin 512 → Fin 128 → ℝ) : Prop where
  dqt : ∀ e b l i, a.dqt (ix4 e b l i) = ((DQ e b l i : ℝ) : EReal)
  dk : ∀ e i l, a.dk (ix3 e i l) = ((DK e i l : ℝ) : EReal)
  dv : ∀ i l, a.dv (ix2 i l) = ((DV i l : ℝ) : EReal)

theorem t53 {x3 : Vec Ideal S512x128 .bf16} (hk : ∀ i l, x3 (ix2 i l) = ((kl A hp (row j i) l : ℝ) : EReal)) (i : Fin 512) (l : Fin 128) :
    k0_pay53 (F := Ideal) x3 (ix2 i l) = ((lo l (kl A hp (row j i) l) 0 : ℝ) : EReal) := by
  rw [p53, hk, zero_coe, sel_lo]
theorem t54 {x3 : Vec Ideal S512x128 .bf16} (hk : ∀ i l, x3 (ix2 i l) = ((kl A hp (row j i) l : ℝ) : EReal)) (i : Fin 512) (l : Fin 128) :
    k0_pay54 (F := Ideal) x3 (ix2 i l) = ((lo l 0 (kl A hp (row j i) l) : ℝ) : EReal) := by
  rw [p54, hk, zero_coe, sel_lo]
theorem t55 {x4 : Vec Ideal S512x128 .bf16} (hk : ∀ i l, x4 (ix2 i l) = ((vl A hp (row j i) l : ℝ) : EReal)) (i : Fin 512) (l : Fin 128) :
    k0_pay55 (F := Ideal) x4 (ix2 i l) = ((lo l (vl A hp (row j i) l) 0 : ℝ) : EReal) := by
  rw [p55, hk, zero_coe, sel_lo]
theorem t56 {x4 : Vec Ideal S512x128 .bf16} (hk : ∀ i l, x4 (ix2 i l) = ((vl A hp (row j i) l : ℝ) : EReal)) (i : Fin 512) (l : Fin 128) :
    k0_pay56 (F := Ideal) x4 (ix2 i l) = ((lo l 0 (vl A hp (row j i) l) : ℝ) : EReal) := by
  rw [p56, hk, zero_coe, sel_lo]
theorem t59 {x3 : Vec Ideal S512x128 .bf16} (hk : ∀ i l, x3 (ix2 i l) = ((kl A hp (row j i) l : ℝ) : EReal)) (l : Fin 128) (i : Fin 512) :
    k0_pay59 (F := Ideal) x3 (ix2 l i) = ((kx A hp 0 (row j i) l : ℝ) : EReal) := by
  rw [p59, hk, one_coe, sel_lo]; rfl
theorem t60 {x3 : Vec Ideal S512x128 .bf16} (hk : ∀ i l, x3 (ix2 i l) = ((kl A hp (row j i) l : ℝ) : EReal)) (l : Fin 128) (i : Fin 512) :
    k0_pay60 (F := Ideal) x3 (ix2 l i) = ((kx A hp 1 (row j i) l : ℝ) : EReal) := by
  rw [p60, hk, one_coe, sel_lo]; rfl

section
variable {q d : Vec Ideal S512x128 .bf16} (hq : ∀ i l, q (ix2 i l) = ((ql A hp (row b i) l : ℝ) : EReal))
  (hd' : ∀ i l, d (ix2 i l) = ((gl A hp (row b i) l : ℝ) : EReal))

include hq in
theorem t8 (i : Fin 512) (l : Fin 128) : k0_pay8 (F := Ideal) q (ix2 i l) = ((ql A hp (row b i) l * (1 / 8) : ℝ) : EReal) := by
  rw [p8, hq, ofBits_eighth, ← EReal.coe_mul]
include hq in
theorem t65 (i : Fin 512) (l : Fin 128) : k0_pay65 (F := Ideal) q (ix2 i l) = ((ql A hp (row b i) l * (1 / 8) : ℝ) : EReal) := by
  rw [p65, hq, ofBits_eighth, ← EReal.coe_mul]
include hq in
theorem t11 (i : Fin 512) (l : Fin 128) : k0_pay11 (F := Ideal) k0_pay46 q (ix2 i l) = ((qx A hp 0 (row b i) l : ℝ) : EReal) := by
  rw [p11, p46, hq, ofBits_eighth, ← EReal.coe_mul, one_coe, sel_lo]; rfl
include hq in
theorem t12 (i : Fin 512) (l : Fin 128) : k0_pay12 (F := Ideal) k0_pay46 q (ix2 i l) = ((qx A hp 1 (row b i) l : ℝ) : EReal) := by
  rw [p12, p46, hq, ofBits_eighth, ← EReal.coe_mul, one_coe, sel_lo]; rfl
include hq in
theorem t68 (i : Fin 512) (l : Fin 128) : k0_pay68 (F := Ideal) k0_pay46 q (ix2 i l) = ((qx A hp 0 (row b i) l : ℝ) : EReal) := by
  rw [p68, p46, hq, ofBits_eighth, ← EReal.coe_mul, one_coe, sel_lo]; rfl
include hq in
theorem t69 (i : Fin 512) (l : Fin 128) : k0_pay69 (F := Ideal) k0_pay46 q (ix2 i l) = ((qx A hp 1 (row b i) l : ℝ) : EReal) := by
  rw [p69, p46, hq, ofBits_eighth, ← EReal.coe_mul, one_coe, sel_lo]; rfl
include hd' in
theorem t13 (i : Fin 512) (l : Fin 128) : k0_pay13 (F := Ideal) k0_pay46 d (ix2 i l) = ((gx A hp 0 (row b i) l : ℝ) : EReal) := by
  rw [p13, p46, hd', zero_coe, sel_lo]; rfl
include hd' in
theorem t14 (i : Fin 512) (l : Fin 128) : k0_pay14 (F := Ideal) k0_pay46 d (ix2 i l) = ((gx A hp 1 (row b i) l : ℝ) : EReal) := by
  rw [p14, p46, hd', zero_coe, sel_lo]; rfl
include hd' in
theorem t70 (i : Fin 512) (l : Fin 128) : k0_pay70 (F := Ideal) k0_pay46 d (ix2 i l) = ((gx A hp 0 (row b i) l : ℝ) : EReal) := by
  rw [p70, p46, hd', zero_coe, sel_lo]; rfl
include hd' in
theorem t71 (i : Fin 512) (l : Fin 128) : k0_pay71 (F := Ideal) k0_pay46 d (ix2 i l) = ((gx A hp 1 (row b i) l : ℝ) : EReal) := by
  rw [p71, p46, hd', zero_coe, sel_lo]; rfl

/-- A row of products of a key row and a query row, scaled. -/
theorem dot_scaled {w : Vec Ideal S512x128 .bf16} {f : Fin 512 → Fin 128 → ℝ} (hw : ∀ i l, w (ix2 i l) = ((f i l : ℝ) : EReal))
    {w' : Vec Ideal S512x128 .bf16} {f' : Fin 512 → Fin 128 → ℝ} (hw' : ∀ i l, w' (ix2 i l) = ((f' i l : ℝ) : EReal)) (i0 i1 : Fin 512) :
    ∑ x : Fin 128, w (ix2 i0 x) * (w' (ix2 i1 x) * Ideal.ofBits FTy.f32 1040187392#32)
      = ((∑ x, f i0 x * (f' i1 x * (1 / 8)) : ℝ) : EReal) :=
  sum_coe _ fun x _ => by rw [hw, hw', ofBits_eighth, ← EReal.coe_mul, ← EReal.coe_mul]
theorem dot_plain {w : Vec Ideal S512x128 .bf16} {f : Fin 512 → Fin 128 → ℝ} (hw : ∀ i l, w (ix2 i l) = ((f i l : ℝ) : EReal))
    {w' : Vec Ideal S512x128 .bf16} {f' : Fin 512 → Fin 128 → ℝ} (hw' : ∀ i l, w' (ix2 i l) = ((f' i l : ℝ) : EReal)) (i0 i1 : Fin 512) :
    ∑ x : Fin 128, w (ix2 i0 x) * w' (ix2 i1 x) = ((∑ x, f i0 x * f' i1 x : ℝ) : EReal) :=
  sum_coe _ fun x _ => by rw [hw, hw', ← EReal.coe_mul]

variable {v14 v17 v20 v23 : Vec Ideal S512x128 .bf16}
  (h14 : ∀ i l, v14 (ix2 i l) = ((lo l (kl A hp (row j i) l) 0 : ℝ) : EReal))
  (h17 : ∀ i l, v17 (ix2 i l) = ((lo l 0 (kl A hp (row j i) l) : ℝ) : EReal))
  (h20 : ∀ i l, v20 (ix2 i l) = ((lo l (vl A hp (row j i) l) 0 : ℝ) : EReal))
  (h23 : ∀ i l, v23 (ix2 i l) = ((lo l 0 (vl A hp (row j i) l) : ℝ) : EReal))
  {c0 c1 : Vec Ideal S1x512x1 .f32} {l0 l1 e0 e1 : Vec Ideal S1x1x1x512 .f32}
  (hc0 : ∀ i : Fin 512, c0 (ix3 0 i 0) = ((A.c (hd hp 0) (row j i) : ℝ) : EReal))
  (hc1 : ∀ i : Fin 512, c1 (ix3 0 i 0) = ((A.c (hd hp 1) (row j i) : ℝ) : EReal))
  (hl0 : ∀ i : Fin 512, l0 (ix4 0 0 0 i) = ((ls A (hd hp 0) (row b i) : ℝ) : EReal))
  (hl1 : ∀ i : Fin 512, l1 (ix4 0 0 0 i) = ((ls A (hd hp 1) (row b i) : ℝ) : EReal))
  (he0 : ∀ i : Fin 512, e0 (ix4 0 0 0 i) = ((Forget.dl A (hd hp 0) (row b i) : ℝ) : EReal))
  (he1 : ∀ i : Fin 512, e1 (ix4 0 0 0 i) = ((Forget.dl A (hd hp 1) (row b i) : ℝ) : EReal))

include h14 hq hc0 hl0 in
theorem score0 (i0 i1 : Fin 512) :
    Ideal.exp (∑ x : Fin 128, v14 (ix2 i0 x) * (q (ix2 i1 x) * Ideal.ofBits FTy.f32 1040187392#32) - c0 (ix3 0 i0 0) - l0 (ix4 0 0 0 i1))
      = ((Real.exp (lgs A (hd hp 0) (row b i1) (row j i0) - ls A (hd hp 0) (row b i1)) : ℝ) : EReal) := by
  rw [dot_scaled h14 hq, hc0, hl0, ← EReal.coe_sub, score_lo, ← EReal.coe_sub, Ideal.exp_coe]

include h17 hq hc1 in
theorem t21 (i0 i1 : Fin 512) : k0_pay21 (F := Ideal) v17 (k0_pay8 q) c1 (ix2 i0 i1) = ((lgs A (hd hp 1) (row b i1) (row j i0) : ℝ) : EReal) := by
  rw [p21, dot_plain h17 (t8 hq), hc1, ← EReal.coe_sub, score_hi]

include h14 hq hc0 hl0 in
theorem t15 (hb : j < b) (i0 i1 : Fin 512) : k0_pay15 (F := Ideal) v14 q c0 l0 (ix2 i0 i1) = ((pr A (hd hp 0) (row b i1) (row j i0) : ℝ) : EReal) := by
  rw [p15, score0 hq h14 hc0 hl0, exp_lgs A _ (row_le hb _ _)]

include h14 h20 hq hd' hc0 hl0 he0 in
theorem t16 (hb : j < b) (i0 i1 : Fin 512) : k0_pay16 (F := Ideal) v14 v20 q d c0 l0 e0 (ix2 i0 i1) = ((ds A (hd hp 0) (row b i1) (row j i0) : ℝ) : EReal) := by
  rw [p16, score0 hq h14 hc0 hl0, exp_lgs A _ (row_le hb _ _), dot_plain h20 hd', he0, dp_lo, ← EReal.coe_sub, ← EReal.coe_mul]; rfl

variable {s1 : FVec Ideal S512x512 .f32} (hs1 : ∀ i0 i1, s1 (ix2 i0 i1) = ((lgs A (hd hp 1) (row b i1) (row j i0) : ℝ) : EReal))

include hs1 hl1 in
theorem pr1 (hb : j < b) (i0 i1 : Fin 512) :
    Ideal.exp (s1 (ix2 i0 i1) - l1 (ix4 0 0 0 i1)) = ((pr A (hd hp 1) (row b i1) (row j i0) : ℝ) : EReal) := by
  rw [hs1, hl1, ← EReal.coe_sub, Ideal.exp_coe, exp_lgs A _ (row_le hb _ _)]

include hs1 hl1 h23 hd' he1 in
theorem ds1 (hb : j < b) (i0 i1 : Fin 512) :
    Ideal.exp (s1 (ix2 i0 i1) - l1 (ix4 0 0 0 i1)) * (∑ y : Fin 128, v23 (ix2 i0 y) * d (ix2 i1 y) - e1 (ix4 0 0 0 i1))
      = ((ds A (hd hp 1) (row b i1) (row j i0) : ℝ) : EReal) := by
  rw [pr1 hl1 hs1 hb, dot_plain h23 hd', he1, dp_hi, ← EReal.coe_sub, ← EReal.coe_mul]; rfl

end

/-! ## What the payloads add -/

section
variable {ds0 p0 : FVec Ideal S512x512 .f32} {v210 v216 : FVec Ideal S512x128 .bf16} {v30 : FVec Ideal S128x512 .bf16}

/-- A product of a square block and a block of lanes. -/
theorem sum_cols {w : FVec Ideal S512x512 .f32} {f : Fin 512 → Fin 512 → ℝ} (hw : ∀ i0 i1, w (ix2 i0 i1) = ((f i0 i1 : ℝ) : EReal))
    {w' : FVec Ideal S512x128 .bf16} {f' : Fin 512 → Fin 128 → ℝ} (hw' : ∀ i l, w' (ix2 i l) = ((f' i l : ℝ) : EReal)) (i : Fin 512) (l : Fin 128) :
    ∑ x : Fin 512, w (ix2 i x) * w' (ix2 x l) = ((∑ x, f i x * f' x l : ℝ) : EReal) :=
  sum_coe _ fun x _ => by rw [hw, hw', ← EReal.coe_mul]
theorem sum_rows' {w : FVec Ideal S512x512 .f32} {f : Fin 512 → Fin 512 → ℝ} (hw : ∀ i0 i1, w (ix2 i0 i1) = ((f i0 i1 : ℝ) : EReal))
    {w' : FVec Ideal S128x512 .bf16} {f' : Fin 128 → Fin 512 → ℝ} (hw' : ∀ l i, w' (ix2 l i) = ((f' l i : ℝ) : EReal)) (l : Fin 128) (i : Fin 512) :
    ∑ x : Fin 512, w' (ix2 l x) * w (ix2 x i) = ((∑ x, f' l x * f x i : ℝ) : EReal) :=
  sum_coe _ fun x _ => by rw [hw, hw', ← EReal.coe_mul]

end

/-- Adding to the entries of head `e` and query block `b`. -/
def addQ (A : Args) (hp : Fin 4) (j b : Fin 8) (DQ : Fin 2 → Fin 8 → Fin 128 → Fin 512 → ℝ) (e : Fin 2) (b' : Fin 8) (l : Fin 128) (i : Fin 512) : ℝ :=
  DQ e b' l i + if b' = b then cdq A hp j b e l i else 0

theorem two_cases (e : Fin 2) : e = 0 ∨ e = 1 := by omega

/-- Two writes at query block `b`, one per head. -/
theorem puts_dqt {x : Vec Ideal S2x8x128x512 .f32} {DQ : Fin 2 → Fin 8 → Fin 128 → Fin 512 → ℝ}
    (hx : ∀ e b l i, x (ix4 e b l i) = ((DQ e b l i : ℝ) : EReal)) {o0 o1 : Fin 4 → ℕ} (h0 : o0 = ![0, b.val, 0, 0]) (h1 : o1 = ![1, b.val, 0, 0])
    {w0 w1 : Vec Ideal S1x1x128x512 .f32}
    (hw0 : ∀ l i, w0 (ix4 0 0 l i) = ((DQ 0 b l i + cdq A hp j b 0 l i : ℝ) : EReal))
    (hw1 : ∀ l i, w1 (ix4 0 0 l i) = ((DQ 1 b l i + cdq A hp j b 1 l i : ℝ) : EReal)) (e : Fin 2) (b' : Fin 8) (l : Fin 128) (i : Fin 512) :
    put (put x o0 S1x1x128x512.size w0) o1 S1x1x128x512.size w1 (ix4 e b' l i) = ((addQ A hp j b DQ e b' l i : ℝ) : EReal) := by
  rw [put_dqt _ 1 e b b' h1, put_dqt _ 0 e b b' h0, hx]
  unfold addQ
  by_cases hb : b' = b
  · subst hb
    rcases two_cases e with rfl | rfl
    · rw [if_neg (by simp), if_pos ⟨rfl, rfl⟩, if_pos rfl, hw0]
    · rw [if_pos ⟨rfl, rfl⟩, if_pos rfl, hw1]
  · rw [if_neg (fun h => hb h.2), if_neg (fun h => hb h.2), if_neg hb, add_zero]

theorem puts_dk {x : Vec Ideal S2x512x128 .f32} {DK : Fin 2 → Fin 512 → Fin 128 → ℝ}
    {w0 w1 : Vec Ideal S1x512x128 .f32}
    (hw0 : ∀ i l, w0 (ix3 0 i l) = ((DK 0 i l + cdk A hp j b 0 i l : ℝ) : EReal))
    (hw1 : ∀ i l, w1 (ix3 0 i l) = ((DK 1 i l + cdk A hp j b 1 i l : ℝ) : EReal)) (e : Fin 2) (i : Fin 512) (l : Fin 128) :
    put (put x ![0, 0, 0] S1x512x128.size w0) ![1, 0, 0] S1x512x128.size w1 (ix3 e i l) = ((DK e i l + cdk A hp j b e i l : ℝ) : EReal) := by
  rw [put_dk (off := ![1, 0, 0]) _ 1 e rfl, put_dk (off := ![0, 0, 0]) _ 0 e rfl]
  rcases two_cases e with rfl | rfl
  · rw [if_neg (by decide), if_pos rfl, hw0]
  · rw [if_pos rfl, hw1]

/-! ## One later query block -/

theorem restTrip_hold {x2 : Vec Ideal S4096x128 .bf16} {x3 x4 : Vec Ideal S512x128 .bf16} {x6 : Vec Ideal S4096x128 .bf16}
    {x7 : Vec Ideal S2x8x1x512 .f32} {x8 : Vec Ideal S2x512x1 .f32} {dl : Vec Ideal S2x8x8x512 .f32} (B : Blk A hp j x2 x3 x4 x6 x7 x8 dl)
    (i : grid0.Coords) (k : Fin (k0_t2_loop i).trips) (hb : j < b) (o11 : k0_off11 i k = ![512 * b.val, 0])
    (o12 : k0_off12 i k = ![0, b.val, 0, 0]) (o13 : k0_off13 i k = ![0, b.val, 0, 0]) (o14 : k0_off14 i k = ![0, b.val, 0, 0])
    (o15 : k0_off15 i k = ![1, b.val, 0, 0]) (o16 : k0_off16 i k = ![1, b.val, 0, 0]) (o17 : k0_off17 i k = ![1, b.val, 0, 0])
    {a : Acc Ideal} {DQ : Fin 2 → Fin 8 → Fin 128 → Fin 512 → ℝ} {DK : Fin 2 → Fin 512 → Fin 128 → ℝ} {DV : Fin 512 → Fin 128 → ℝ} (H : Hold a DQ DK DV) :
    Hold (restTrip i x2 x6 x7 x8 dl k0_pay46 (k0_pay53 x3) (k0_pay54 x3) (k0_pay55 x4) (k0_pay56 x4) (k0_pay59 x3) (k0_pay60 x3) k a)
      (addQ A hp j b DQ) (fun e i l => DK e i l + cdk A hp j b e i l) (fun i l => DV i l + cdv A hp j b i l) := by
  have hq : ∀ r l, window x2 (k0_off11 i k) S512x128.size (k0_off11_inb i k) (ix2 r l) = ((ql A hp (row b r) l : ℝ) : EReal) :=
    fun r l => (window_rows x2 b o11 r l).trans (B.q _ _)
  have hg : ∀ r l, window x6 (k0_off11 i k) S512x128.size (k0_off11_inb i k) (ix2 r l) = ((gl A hp (row b r) l : ℝ) : EReal) :=
    fun r l => (window_rows x6 b o11 r l).trans (B.g _ _)
  have hc0 : ∀ r : Fin 512, window x8 ![0, 0, 0] S1x512x1.size inb_S2x512x1_S1x512x1_0_0_0 (ix3 0 r 0) = ((A.c (hd hp 0) (row j r) : ℝ) : EReal) :=
    fun r => (window_gate x8 0 rfl r).trans (B.c _ _)
  have hc1 : ∀ r : Fin 512, window x8 ![1, 0, 0] S1x512x1.size inb_S2x512x1_S1x512x1_1_0_0 (ix3 0 r 0) = ((A.c (hd hp 1) (row j r) : ℝ) : EReal) :=
    fun r => (window_gate x8 1 rfl r).trans (B.c _ _)
  have hl0 : ∀ r : Fin 512, window x7 (k0_off12 i k) S1x1x1x512.size (k0_off12_inb i k) (ix4 0 0 0 r) = ((ls A (hd hp 0) (row b r) : ℝ) : EReal) :=
    fun r => (window_stat x7 0 b o12 r).trans (B.s _ _ _)
  have hl1 : ∀ r : Fin 512, window x7 (k0_off15 i k) S1x1x1x512.size (k0_off15_inb i k) (ix4 0 0 0 r) = ((ls A (hd hp 1) (row b r) : ℝ) : EReal) :=
    fun r => (window_stat x7 1 b o15 r).trans (B.s _ _ _)
  have he0 : ∀ r : Fin 512, window dl (k0_off13 i k) S1x1x1x512.size (k0_off13_inb i k) (ix4 0 0 0 r) = ((Forget.dl A (hd hp 0) (row b r) : ℝ) : EReal) :=
    fun r => (window_delta dl 0 b o13 r).trans (B.d _ _ _ _)
  have he1 : ∀ r : Fin 512, window dl (k0_off16 i k) S1x1x1x512.size (k0_off16_inb i k) (ix4 0 0 0 r) = ((Forget.dl A (hd hp 1) (row b r) : ℝ) : EReal) :=
    fun r => (window_delta dl 1 b o16 r).trans (B.d _ _ _ _)
  have hs1 := t21 (A := A) (hp := hp) (j := j) (b := b) hq (t54 B.k) hc1
  have hd0 := t16 (A := A) (hp := hp) (j := j) (b := b) hq hg (t53 B.k) (t55 B.v) hc0 hl0 he0 hb
  have hd1 := ds1 (A := A) (hp := hp) (j := j) (b := b) hg (t56 B.v) hl1 he1 hs1 hb
  have hp0 := t15 (A := A) (hp := hp) (j := j) (b := b) hq (t53 B.k) hc0 hl0 hb
  have hp1 := pr1 (A := A) (hp := hp) (j := j) (b := b) hl1 hs1 hb
  refine ⟨?_, ?_, ?_⟩
  · refine puts_dqt H.dqt o14 o17 (fun l r => ?_) fun l r => ?_
    · rw [p20, sum_rows' hd0 (t59 B.k), window_dqt a.dqt 0 b o14, H.dqt, ← EReal.coe_add]; rfl
    · rw [p26, window_dqt a.dqt 1 b o17, H.dqt, sum_coe _ (fun x _ => by rw [t60 B.k, hd1, ← EReal.coe_mul]), ← EReal.coe_add]; rfl
  · refine puts_dk (fun r l => ?_) fun r l => ?_
    · rw [p19, sum_cols hd0 (t11 hq), window_dk (off := ![0, 0, 0]) a.dk 0 rfl, H.dk, ← EReal.coe_add]; rfl
    · rw [p25, window_dk (off := ![1, 0, 0]) a.dk 1 rfl, H.dk, sum_coe _ (fun x _ => by rw [t12 hq, hd1, ← EReal.coe_mul]), ← EReal.coe_add]; rfl
  · intro r l
    show k0_pay24 (F := Ideal) _ _ _ _ (ix2 r l) = _
    rw [p24, p18, sum_cols hp0 (t13 hg), H.dv, sum_coe _ (fun x _ => by rw [t14 hg, hp1, ← EReal.coe_mul]), ← EReal.coe_add, ← EReal.coe_add, add_assoc]; rfl

/-! ## The diagonal query block -/

section
variable {q d : Vec Ideal S512x128 .bf16} (hq : ∀ i l, q (ix2 i l) = ((ql A hp (row j i) l : ℝ) : EReal))
  (hd' : ∀ i l, d (ix2 i l) = ((gl A hp (row j i) l : ℝ) : EReal))
  {v14 v17 v20 v23 : Vec Ideal S512x128 .bf16}
  (h14 : ∀ i l, v14 (ix2 i l) = ((lo l (kl A hp (row j i) l) 0 : ℝ) : EReal))
  (h17 : ∀ i l, v17 (ix2 i l) = ((lo l 0 (kl A hp (row j i) l) : ℝ) : EReal))
  (h20 : ∀ i l, v20 (ix2 i l) = ((lo l (vl A hp (row j i) l) 0 : ℝ) : EReal))
  (h23 : ∀ i l, v23 (ix2 i l) = ((lo l 0 (vl A hp (row j i) l) : ℝ) : EReal))
  {c0 c1 : Vec Ideal S1x512x1 .f32} {l0 l1 e0 e1 : Vec Ideal S1x1x1x512 .f32}
  (hc0 : ∀ i : Fin 512, c0 (ix3 0 i 0) = ((A.c (hd hp 0) (row j i) : ℝ) : EReal))
  (hc1 : ∀ i : Fin 512, c1 (ix3 0 i 0) = ((A.c (hd hp 1) (row j i) : ℝ) : EReal))
  (hl0 : ∀ i : Fin 512, l0 (ix4 0 0 0 i) = ((ls A (hd hp 0) (row j i) : ℝ) : EReal))
  (hl1 : ∀ i : Fin 512, l1 (ix4 0 0 0 i) = ((ls A (hd hp 1) (row j i) : ℝ) : EReal))
  (he0 : ∀ i : Fin 512, e0 (ix4 0 0 0 i) = ((Forget.dl A (hd hp 0) (row j i) : ℝ) : EReal))
  (he1 : ∀ i : Fin 512, e1 (ix4 0 0 0 i) = ((Forget.dl A (hd hp 1) (row j i) : ℝ) : EReal))

/-- Masking what is multiplied by an exponential of the score, in the diagonal block. -/
theorem sel_pr (e : Fin 2) (i0 i1 : Fin 512) (y : ℝ) :
    Scalar.select (IntOp.cmpi CmpIPredicate.sle (BitVec.ofNat 32 i0.val) (BitVec.ofNat 32 i1.val))
        ((Real.exp (lgs A (hd hp e) (row j i1) (row j i0) - ls A (hd hp e) (row j i1)) * y : ℝ) : EReal) 0
      = ((pr A (hd hp e) (row j i1) (row j i0) * y : ℝ) : EReal) := by
  rw [sle_eq (by omega) (by omega), select_if]
  by_cases h : i0.val ≤ i1.val
  · rw [if_pos h, exp_lgs A _ ((row_same j i1 i0).mpr h)]
  · rw [if_neg h, pr_of_gt A _ (fun e => h ((row_same j i1 i0).mp e)), zero_mul]; rfl

include h14 hq hc0 hl0 in
theorem t72 (i0 i1 : Fin 512) : k0_pay72 (F := Ideal) v14 q c0 l0 (ix2 i0 i1) = ((pr A (hd hp 0) (row j i1) (row j i0) : ℝ) : EReal) := by
  have e := sel_pr (A := A) (hp := hp) (j := j) 0 i0 i1 1
  rw [mul_one, mul_one] at e
  rw [p72, score0 hq h14 hc0 hl0]; exact e

include h20 hd' in
theorem t73 (i0 i1 : Fin 512) : k0_pay73 (F := Ideal) v20 d (ix2 i0 i1) = ((dp A (hd hp 0) (row j i1) (row j i0) : ℝ) : EReal) := by
  rw [p73, dot_plain h20 hd', dp_lo]

variable {s1 : FVec Ideal S512x512 .f32}
  (hs1 : ∀ i0 i1, s1 (ix2 i0 i1) = ((∑ l, lo l 0 (kl A hp (row j i0) l) * (ql A hp (row j i1) l * (1 / 8)) : ℝ) : EReal))

include h17 hq in
theorem t78 (i0 i1 : Fin 512) : k0_pay78 (F := Ideal) v17 (k0_pay65 q) (ix2 i0 i1)
    = ((∑ l, lo l 0 (kl A hp (row j i0) l) * (ql A hp (row j i1) l * (1 / 8)) : ℝ) : EReal) := by
  rw [p78, dot_plain h17 (t65 hq)]

include hs1 hc1 hl1 in
theorem score1 (i0 i1 : Fin 512) : Ideal.exp (s1 (ix2 i0 i1) - c1 (ix3 0 i0 0) - l1 (ix4 0 0 0 i1))
    = ((Real.exp (lgs A (hd hp 1) (row j i1) (row j i0) - ls A (hd hp 1) (row j i1)) : ℝ) : EReal) := by
  rw [hs1, hc1, hl1, ← EReal.coe_sub, score_hi, ← EReal.coe_sub, Ideal.exp_coe]

include h23 hd' he1 in
theorem dpl1 (i0 i1 : Fin 512) : ∑ y : Fin 128, v23 (ix2 i0 y) * d (ix2 i1 y) - e1 (ix4 0 0 0 i1)
    = ((dp A (hd hp 1) (row j i1) (row j i0) - Forget.dl A (hd hp 1) (row j i1) : ℝ) : EReal) := by
  rw [dot_plain h23 hd', he1, dp_hi, ← EReal.coe_sub]

include hs1 hc1 hl1 h23 hd' he1 in
theorem t80 (i0 i1 : Fin 512) : k0_pay80 (F := Ideal) v23 k0_pay64 d s1 c1 l1 e1 (ix2 i0 i1) = ((ds A (hd hp 1) (row j i1) (row j i0) : ℝ) : EReal) := by
  rw [p80, p64, score1 hc1 hl1 hs1, dpl1 hd' h23 he1, ← EReal.coe_mul, sel_pr]; rfl

end

theorem diagStep_hold {x2 : Vec Ideal S4096x128 .bf16} {x3 x4 : Vec Ideal S512x128 .bf16} {x6 : Vec Ideal S4096x128 .bf16}
    {x7 : Vec Ideal S2x8x1x512 .f32} {x8 : Vec Ideal S2x512x1 .f32} {dl : Vec Ideal S2x8x8x512 .f32} (B : Blk A hp j x2 x3 x4 x6 x7 x8 dl)
    (i : grid0.Coords) (o4 : k0_off4 i = ![512 * j.val, 0])
    (o5 : k0_off5 i = ![0, j.val, 0, 0]) (o6 : k0_off6 i = ![0, j.val, 0, 0]) (o7 : k0_off7 i = ![0, j.val, 0, 0])
    (o8 : k0_off8 i = ![1, j.val, 0, 0]) (o9 : k0_off9 i = ![1, j.val, 0, 0]) (o10 : k0_off10 i = ![1, j.val, 0, 0])
    {dqt : Vec Ideal S2x8x128x512 .f32} {DQ : Fin 2 → Fin 8 → Fin 128 → Fin 512 → ℝ} (H : ∀ e b l i, dqt (ix4 e b l i) = ((DQ e b l i : ℝ) : EReal)) :
    Hold (diagStep i x2 x3 x4 x6 x7 x8 dl dqt) (addQ A hp j j DQ) (fun e i l => cdk A hp j j e i l) (fun i l => cdv A hp j j i l) := by
  have hq : ∀ r l, window x2 (k0_off4 i) S512x128.size (k0_off4_inb i) (ix2 r l) = ((ql A hp (row j r) l : ℝ) : EReal) :=
    fun r l => (window_rows x2 j o4 r l).trans (B.q _ _)
  have hg : ∀ r l, window x6 (k0_off4 i) S512x128.size (k0_off4_inb i) (ix2 r l) = ((gl A hp (row j r) l : ℝ) : EReal) :=
    fun r l => (window_rows x6 j o4 r l).trans (B.g _ _)
  have hc0 : ∀ r : Fin 512, window x8 ![0, 0, 0] S1x512x1.size inb_S2x512x1_S1x512x1_0_0_0 (ix3 0 r 0) = ((A.c (hd hp 0) (row j r) : ℝ) : EReal) :=
    fun r => (window_gate x8 0 rfl r).trans (B.c _ _)
  have hc1 : ∀ r : Fin 512, window x8 ![1, 0, 0] S1x512x1.size inb_S2x512x1_S1x512x1_1_0_0 (ix3 0 r 0) = ((A.c (hd hp 1) (row j r) : ℝ) : EReal) :=
    fun r => (window_gate x8 1 rfl r).trans (B.c _ _)
  have hl0 : ∀ r : Fin 512, window x7 (k0_off5 i) S1x1x1x512.size (k0_off5_inb i) (ix4 0 0 0 r) = ((ls A (hd hp 0) (row j r) : ℝ) : EReal) :=
    fun r => (window_stat x7 0 j o5 r).trans (B.s _ _ _)
  have hl1 : ∀ r : Fin 512, window x7 (k0_off8 i) S1x1x1x512.size (k0_off8_inb i) (ix4 0 0 0 r) = ((ls A (hd hp 1) (row j r) : ℝ) : EReal) :=
    fun r => (window_stat x7 1 j o8 r).trans (B.s _ _ _)
  have he0 : ∀ r : Fin 512, window dl (k0_off6 i) S1x1x1x512.size (k0_off6_inb i) (ix4 0 0 0 r) = ((Forget.dl A (hd hp 0) (row j r) : ℝ) : EReal) :=
    fun r => (window_delta dl 0 j o6 r).trans (B.d _ _ _ _)
  have he1 : ∀ r : Fin 512, window dl (k0_off9 i) S1x1x1x512.size (k0_off9_inb i) (ix4 0 0 0 r) = ((Forget.dl A (hd hp 1) (row j r) : ℝ) : EReal) :=
    fun r => (window_delta dl 1 j o9 r).trans (B.d _ _ _ _)
  have hs1 := t78 (A := A) (hp := hp) (j := j) hq (t54 B.k)
  have hp0 := t72 (A := A) (hp := hp) (j := j) hq (t53 B.k) hc0 hl0
  have hw0 := t73 (A := A) (hp := hp) (j := j) hg (t55 B.v)
  have hd1 := t80 (A := A) (hp := hp) (j := j) hg (t56 B.v) hc1 hl1 he1 hs1
  have hx1 := score1 (A := A) (hp := hp) (j := j) hc1 hl1 hs1
  have hy1 := dpl1 (A := A) (hp := hp) (j := j) hg (t56 B.v) he1
  refine ⟨?_, ?_, ?_⟩
  · refine puts_dqt H o7 o10 (fun l r => ?_) fun l r => ?_
    · rw [p77, sum_coe _ (fun x _ => by rw [t59 B.k, hp0, hw0, he0, ← EReal.coe_sub, ← EReal.coe_mul, ← EReal.coe_mul]), window_dqt dqt 0 j o7, H, ← EReal.coe_add]; rfl
    · rw [p83, sum_rows' hd1 (t60 B.k), window_dqt dqt 1 j o10, H, ← EReal.coe_add]; rfl
  · intro e r l
    have z : ∀ (e : Fin 2) (r : Fin 512) (l : Fin 128), k0_pay61 (F := Ideal) (ix3 e r l) = ((0 : ℝ) : EReal) := fun e r l => p61 e r l
    refine (puts_dk (A := A) (hp := hp) (j := j) (b := j) (DK := fun _ _ _ => 0) (fun r l => ?_) (fun r l => ?_) e r l).trans (by rw [zero_add])
    · rw [p76, sum_coe _ (fun x _ => by rw [hp0, hw0, he0, t68 hq, ← EReal.coe_sub, ← EReal.coe_mul, ← EReal.coe_mul]), window_dk (off := ![0, 0, 0]) _ 0 rfl, z, ← EReal.coe_add]; rfl
    · rw [p82, window_dk (off := ![1, 0, 0]) _ 1 rfl, z,
        sum_coe _ (fun x _ => by rw [p64, hx1, hy1, t69 hq, ← EReal.coe_mul, ← EReal.coe_mul, mul_assoc, sel_pr]), ← EReal.coe_add]
      unfold cdk ds
      simp only [mul_assoc]
  · intro r l
    show k0_pay81 (F := Ideal) _ _ _ _ _ _ (ix2 r l) = _
    rw [p81, p75, p63, p62, sum_cols hp0 (t70 hg), sum_coe _ (fun x _ => by rw [p64, hx1, t71 hg, ← EReal.coe_mul, sel_pr]), zero_add, ← EReal.coe_add]; rfl

end Cert.KernelIdeal.Attn

end
-- ==== Proof.Accum.lean ====
/- The accumulators of a head pair at the end of a grid point, the row sums the first point fills in, and what the points
   store, all as real numbers. -/
module

public import proofs.«01_k».proof.Proof.Trip

@[expose] public section

set_option maxRecDepth 16384

noncomputable section

namespace Cert.KernelIdeal.Attn

open Idealize.ShloMosaic Idealize.ShloMosaic.VecWindow Cert.KernelIdeal.Gen Cert.Forget

/-! ## The windows' offsets -/

theorem off_diag : ∀ t : Fin grid0.N, k0_off4 (grid0.coords t) = ![512 * (t.val % 8), 0] ∧ k0_off5 (grid0.coords t) = ![0, t.val % 8, 0, 0]
    ∧ k0_off6 (grid0.coords t) = ![0, t.val % 8, 0, 0] ∧ k0_off7 (grid0.coords t) = ![0, t.val % 8, 0, 0]
    ∧ k0_off8 (grid0.coords t) = ![1, t.val % 8, 0, 0] ∧ k0_off9 (grid0.coords t) = ![1, t.val % 8, 0, 0]
    ∧ k0_off10 (grid0.coords t) = ![1, t.val % 8, 0, 0] := by decide +kernel
theorem rest_trips : ∀ t : Fin grid0.N, (k0_t2_loop (grid0.coords t)).trips = 7 - t.val % 8 := by decide +kernel
theorem off_rest : ∀ t : Fin grid0.N, ∀ k : Fin (k0_t2_loop (grid0.coords t)).trips,
    k0_off11 (grid0.coords t) k = ![512 * (t.val % 8 + k.val + 1), 0] ∧ k0_off12 (grid0.coords t) k = ![0, t.val % 8 + k.val + 1, 0, 0]
    ∧ k0_off13 (grid0.coords t) k = ![0, t.val % 8 + k.val + 1, 0, 0] ∧ k0_off14 (grid0.coords t) k = ![0, t.val % 8 + k.val + 1, 0, 0]
    ∧ k0_off15 (grid0.coords t) k = ![1, t.val % 8 + k.val + 1, 0, 0] ∧ k0_off16 (grid0.coords t) k = ![1, t.val % 8 + k.val + 1, 0, 0]
    ∧ k0_off17 (grid0.coords t) k = ![1, t.val % 8 + k.val + 1, 0, 0] := by decide +kernel
theorem off1_rows : ∀ k : Fin k0_t1_loop.trips, k0_off1 k = ![512 * k.val, 0] := by decide +kernel

/-! ## All the query blocks of a key block -/

theorem Hold.congr {a : Acc Ideal} {DQ DQ' : Fin 2 → Fin 8 → Fin 128 → Fin 512 → ℝ} {DK DK' : Fin 2 → Fin 512 → Fin 128 → ℝ} {DV DV' : Fin 512 → Fin 128 → ℝ}
    (H : Hold a DQ DK DV) (hq : ∀ e b l i, DQ e b l i = DQ' e b l i) (hk : ∀ e i l, DK e i l = DK' e i l) (hv : ∀ i l, DV i l = DV' i l) :
    Hold a DQ' DK' DV' :=
  ⟨fun e b l i => by rw [H.dqt, hq], fun e i l => by rw [H.dk, hk], fun i l => by rw [H.dv, hv]⟩

variable {A : Args} {hp : Fin 4} {j : Fin 8}

theorem restN_hold {x2 : Vec Ideal S4096x128 .bf16} {x3 x4 : Vec Ideal S512x128 .bf16} {x6 : Vec Ideal S4096x128 .bf16}
    {x7 : Vec Ideal S2x8x1x512 .f32} {x8 : Vec Ideal S2x512x1 .f32} {dl : Vec Ideal S2x8x8x512 .f32} (B : Blk A hp j x2 x3 x4 x6 x7 x8 dl)
    (t : Fin grid0.N) (ht : t.val % 8 = j.val)
    {dqt : Vec Ideal S2x8x128x512 .f32} {DQ : Fin 2 → Fin 8 → Fin 128 → Fin 512 → ℝ} (H : ∀ e b l i, dqt (ix4 e b l i) = ((DQ e b l i : ℝ) : EReal))
    (n : ℕ) (hn : n ≤ 7 - j.val) :
    Hold (restN (grid0.coords t) x2 x6 x7 x8 dl k0_pay46 (k0_pay53 x3) (k0_pay54 x3) (k0_pay55 x4) (k0_pay56 x4) (k0_pay59 x3) (k0_pay60 x3)
        (diagStep (grid0.coords t) x2 x3 x4 x6 x7 x8 dl dqt) n)
      (fun e b l i => DQ e b l i + if j.val ≤ b.val ∧ b.val ≤ j.val + n then cdq A hp j b e l i else 0)
      (fun e i l => upto j (j.val + n) fun b => cdk A hp j b e i l) (fun i l => upto j (j.val + n) fun b => cdv A hp j b i l) := by
  induction n with
  | zero =>
    have o := off_diag t
    rw [ht] at o
    obtain ⟨o4, o5, o6, o7, o8, o9, o10⟩ := o
    refine (diagStep_hold B (grid0.coords t) o4 o5 o6 o7 o8 o9 o10 H).congr (fun e b l i => ?_) (fun e i l => (upto_self j fun b => cdk A hp j b e i l).symm)
      fun i l => (upto_self j fun b => cdv A hp j b i l).symm
    unfold addQ
    by_cases h : b = j
    · subst h; rw [if_pos rfl, if_pos ⟨le_rfl, le_rfl⟩]
    · have : b.val ≠ j.val := fun e => h (Fin.ext e)
      rw [if_neg h, if_neg (by omega)]
  | succ n ih =>
    have hk : n < (k0_t2_loop (grid0.coords t)).trips := by rw [rest_trips, ht]; omega
    have hb : j.val + n + 1 < 8 := by have := j.isLt; omega
    have o := off_rest t ⟨n, hk⟩
    rw [ht] at o
    obtain ⟨o11, o12, o13, o14, o15, o16, o17⟩ := o
    rw [restN, dif_pos hk]
    refine (restTrip_hold (b := ⟨j.val + n + 1, hb⟩) B (grid0.coords t) ⟨n, hk⟩ (by show j.val < j.val + n + 1; omega) o11 o12 o13 o14 o15 o16 o17 (ih (by omega))).congr
      (fun e b l i => ?_) (fun e i l => (upto_succ j ⟨j.val + n + 1, hb⟩ (j.val + n) (fun b => cdk A hp j b e i l) (by omega) rfl).symm)
      fun i l => (upto_succ j ⟨j.val + n + 1, hb⟩ (j.val + n) (fun b => cdv A hp j b i l) (by omega) rfl).symm
    unfold addQ
    dsimp only
    by_cases h : b = ⟨j.val + n + 1, hb⟩
    · have hv : b.val = j.val + n + 1 := congrArg Fin.val h
      rw [if_pos h, if_neg (by omega), if_pos ⟨by omega, by omega⟩, add_zero, ← h]
    · have hv : b.val ≠ j.val + n + 1 := fun e => h (Fin.ext e)
      rw [if_neg h, add_zero]
      by_cases h2 : j.val ≤ b.val ∧ b.val ≤ j.val + n
      · rw [if_pos h2, if_pos ⟨h2.1, by omega⟩]
      · rw [if_neg h2, if_neg (by omega)]

/-- A grid point adds its key block's part to the queries' accumulator and leaves the whole sums of its own key block. -/
theorem accum_hold {x2 : Vec Ideal S4096x128 .bf16} {x3 x4 : Vec Ideal S512x128 .bf16} {x6 : Vec Ideal S4096x128 .bf16}
    {x7 : Vec Ideal S2x8x1x512 .f32} {x8 : Vec Ideal S2x512x1 .f32} {dl : Vec Ideal S2x8x8x512 .f32} (B : Blk A hp j x2 x3 x4 x6 x7 x8 dl)
    (t : Fin grid0.N) (ht : t.val % 8 = j.val)
    {dqt : Vec Ideal S2x8x128x512 .f32} {DQ : Fin 2 → Fin 8 → Fin 128 → Fin 512 → ℝ} (H : ∀ e b l i, dqt (ix4 e b l i) = ((DQ e b l i : ℝ) : EReal)) :
    Hold (accum (grid0.coords t) x2 x3 x4 x6 x7 x8 dl dqt) (fun e b l i => DQ e b l i + cdq A hp j b e l i)
      (fun e i l => ∑ b, cdk A hp j b e i l) (fun i l => ∑ b, cdv A hp j b i l) := by
  have hj : j.val + (7 - j.val) = 7 := by have := j.isLt; omega
  have h := restN_hold B t ht H (7 - j.val) le_rfl
  rw [hj] at h
  unfold accum
  rw [rest_trips, ht]
  refine h.congr (fun e b l i => ?_) (fun e i l => upto_all j _ fun b hb => cdk_zero A hp hb e i l) fun i l => upto_all j _ fun b hb => cdv_zero A hp hb i l
  by_cases hb : j.val ≤ b.val
  · rw [if_pos ⟨hb, by omega⟩]
  · rw [if_neg (by omega), cdq_zero A hp (show b.val < j.val by omega)]

/-! ## The row sums -/

theorem bit_lo (l : Fin 128) : FloatOps.sitofp (F := Ideal) FTy.f32 (BitVec.setWidth 32 (IntOp.cmpi CmpIPredicate.slt (BitVec.ofNat 32 l.val) 64#32))
    = ((lo l 1 0 : ℝ) : EReal) := by
  rw [slt_eq (by omega)]; unfold lo
  split
  · show ((((BitVec.setWidth 32 1#1).toInt : ℤ) : ℝ) : EReal) = _
    rw [show (BitVec.setWidth 32 1#1).toInt = 1 by decide]; simp
  · show ((((BitVec.setWidth 32 0#1).toInt : ℤ) : ℝ) : EReal) = _
    rw [show (BitVec.setWidth 32 0#1).toInt = 0 by decide]; simp
theorem bit_hi (l : Fin 128) : FloatOps.sitofp (F := Ideal) FTy.f32 (BitVec.setWidth 32 (IntOp.xori (IntOp.cmpi CmpIPredicate.slt (BitVec.ofNat 32 l.val) 64#32) 1#1))
    = ((lo l 0 1 : ℝ) : EReal) := by
  rw [slt_eq (by omega)]; unfold lo
  split
  · show ((((BitVec.setWidth 32 (IntOp.xori 1#1 1#1)).toInt : ℤ) : ℝ) : EReal) = _
    rw [show (BitVec.setWidth 32 (IntOp.xori 1#1 1#1)).toInt = 0 by decide]; simp
  · show ((((BitVec.setWidth 32 (IntOp.xori 0#1 1#1)).toInt : ℤ) : ℝ) : EReal) = _
    rw [show (BitVec.setWidth 32 (IntOp.xori 0#1 1#1)).toInt = 1 by decide]; simp

theorem window_fill {α : Type} (x : S2x8x8x512.Idx → α) {off : Fin 4 → ℕ} (e : Fin 2) (b : Fin 8) (ho : off = ![e.val, b.val, 0, 0])
    {inb : ∀ a, off a + S1x1x8x512.size a ≤ S2x8x8x512.size a} (u : Fin 8) (i : Fin 512) :
    window x off S1x1x8x512.size inb (ix4 0 0 u i) = x (ix4 e b u i) := by
  subst ho
  exact window_apply x _ _ fun a => by
    match a with
    | ⟨0, _⟩ => show e.val = e.val + 0; omega
    | ⟨1, _⟩ => show b.val = b.val + 0; omega
    | ⟨2, _⟩ => show u.val = 0 + u.val; omega
    | ⟨3, _⟩ => show i.val = 0 + i.val; omega

theorem delta_real (i : grid0.Coords) (h : k0_cond1 i = 1#1) {x5 x6 : Vec Ideal S4096x128 .bf16}
    (h5 : ∀ t l, x5 (ix2 t l) = ((ol A hp t l : ℝ) : EReal)) (h6 : ∀ t l, x6 (ix2 t l) = ((gl A hp t l : ℝ) : EReal))
    (e : Fin 2) (b u : Fin 8) (r : Fin 512) : delta i h x5 x6 (ix4 e b u r) = ((Forget.dl A (hd hp e) (row b r) : ℝ) : EReal) := by
  have hk : b.val < k0_t1_loop.trips := by rw [t1_trips]; exact b.isLt
  obtain ⟨a2, a3⟩ := fillN_window i h x5 x6 (zeros (F := Ideal) S2x8x8x512 .f32) _ le_rfl ⟨b.val, hk⟩ hk
  have o1 := off1_rows ⟨b.val, hk⟩
  rcases two_cases e with rfl | rfl
  · refine (window_fill (delta i h x5 x6) 0 b (off2_eq ⟨b.val, hk⟩) (inb := k0_off2_inb i ⟨b.val, hk⟩ h) u r).symm.trans ?_
    refine (congrFun a2 (ix4 0 0 u r)).trans ?_
    rw [p50, sum_coe _ (fun x _ => by rw [bit_lo, window_rows x6 b o1, window_rows x5 b o1, h5, h6, ← EReal.coe_mul, ← EReal.coe_mul]), dl_lo]
  · refine (window_fill (delta i h x5 x6) 1 b (off3_eq ⟨b.val, hk⟩) (inb := k0_off3_inb i ⟨b.val, hk⟩ h) u r).symm.trans ?_
    refine (congrFun a3 (ix4 0 0 u r)).trans ?_
    rw [p51, sum_coe _ (fun x _ => by rw [bit_hi, window_rows x6 b o1, window_rows x5 b o1, h5, h6, ← EReal.coe_mul, ← EReal.coe_mul]), dl_hi]

/-! ## What is stored -/

/-- A family over heads and lanes, on the lanes of a pair. -/
def pl (hp : Fin 4) (f : Fin 8 → Fin 64 → ℝ) (l : Fin 128) : ℝ := f (hd hp ⟨l.val / 64, by omega⟩) ⟨l.val % 64, by omega⟩

theorem pl_low (f : Fin 8 → Fin 64 → ℝ) (d : Fin 64) : pl hp f (low d) = f (hd hp 0) d := by
  unfold pl; congr 2
  · apply Fin.ext; show d.val / 64 = 0; omega
  · show d.val % 64 = d.val; omega
theorem pl_high (f : Fin 8 → Fin 64 → ℝ) (d : Fin 64) : pl hp f (high d) = f (hd hp 1) d := by
  unfold pl; congr 2
  · apply Fin.ext; show (64 + d.val) / 64 = 1; omega
  · show (64 + d.val) % 64 = d.val; omega

theorem lane_cases (l : Fin 128) : (∃ d, l = low d) ∨ ∃ d, l = high d := by
  by_cases h : l.val < 64
  · exact .inl ⟨⟨l.val, h⟩, rfl⟩
  · exact .inr ⟨⟨l.val - 64, by omega⟩, Fin.ext (by show l.val = 64 + (l.val - 64); omega)⟩

section
variable {a : Acc Ideal} {DQ : Fin 2 → Fin 8 → Fin 128 → Fin 512 → ℝ}
  (H : Hold a DQ (fun e i l => ∑ b, cdk A hp j b e i l) (fun i l => ∑ b, cdv A hp j b i l))

include H in
theorem outDk_real (i : Fin 512) (l : Fin 128) : outDk a (ix2 i l) = ((pl hp (fun h d => dk A h (row j i) d) l : ℝ) : EReal) := by
  unfold outDk
  rw [p84, p46, window_dk (off := ![0, 0, 0]) _ 0 rfl, window_dk (off := ![1, 0, 0]) _ 1 rfl, H.dk, H.dk, sel_lo]
  rcases lane_cases l with ⟨d, rfl⟩ | ⟨d, rfl⟩
  · rw [lo_low, pl_low, dk_low]
  · rw [lo_high, pl_high, dk_high]

include H in
theorem outDv_real (i : Fin 512) (l : Fin 128) : outDv a (ix2 i l) = ((pl hp (fun h d => dv A h (row j i) d) l : ℝ) : EReal) := by
  unfold outDv
  rw [p85, H.dv]
  rcases lane_cases l with ⟨d, rfl⟩ | ⟨d, rfl⟩
  · rw [pl_low, dv_low]
  · rw [pl_high, dv_high]

include H in
theorem outDck_real (x : Vec Ideal S2x512x1 .f32) (e : Fin 2) (i : Fin 512) : outDck a x (ix3 e i 0) = ((dck A (hd hp e) (row j i) : ℝ) : EReal) := by
  unfold outDck
  rw [put_dck (off := ![1, 0, 0]) _ 1 e rfl, put_dck (off := ![0, 0, 0]) _ 0 e rfl]
  have z : (Scalar.ofBits (F := Ideal) FTy.f32 0x00000000#32 : Ideal .f32) = ((0 : ℝ) : EReal) := by
    show Ideal.ofBits .f32 0x00000000#32 = _
    simp [Ideal.ofBits, Ideal.ieee]
  rcases two_cases e with rfl | rfl
  · rw [if_neg (by decide), if_pos rfl, p1, p86, window_dk (off := ![0, 0, 0]) _ 0 rfl, H.dk, z, ← EReal.coe_sub, zero_sub]
    exact congrArg _ (dck_0 A hp j i 0)
  · rw [if_pos rfl, p2, window_dk (off := ![1, 0, 0]) _ 1 rfl, H.dk, zero_coe, ← EReal.coe_sub, zero_sub]
    exact congrArg _ (dck_1 A hp j i 0)
end

section
variable (i : grid0.Coords) (h : k0_cond2 i = 1#1) {dqt : Vec Ideal S2x8x128x512 .f32}
  (H : ∀ e b l r, dqt (ix4 e b l r) = ((∑ j, cdq A hp j b e l r : ℝ) : EReal))

include H in
theorem outDq_real (b : Fin 8) (r : Fin 512) (l : Fin 128) : outDq i h dqt (ix2 (row b r) l) = ((pl hp (fun h d => dq A h (row b r) d) l : ℝ) : EReal) := by
  have hk : b.val < k0_t4_loop.trips := by rw [t4_trips]; exact b.isLt
  obtain ⟨a1, -, -⟩ := emitN_window i h dqt (zeros (F := Ideal) S4096x128 .bf16, zeros (F := Ideal) S2x8x1x512 .f32) _ le_rfl ⟨b.val, hk⟩ hk
  refine (window_rows (outDq i h dqt) b (off27_eq ⟨b.val, hk⟩) (inb := k0_off27_inb i ⟨b.val, hk⟩ h) r l).symm.trans ?_
  refine (congrFun a1 (ix2 r l)).trans ?_
  rw [p5, p47, window_dqt dqt 0 b (off25_eq ⟨b.val, hk⟩), window_dqt dqt 1 b (off26_eq ⟨b.val, hk⟩), H, H, sel_lo, ofBits_eighth, ← EReal.coe_mul]
  rcases lane_cases l with ⟨d, rfl⟩ | ⟨d, rfl⟩
  · rw [lo_low, pl_low, dq_low]
  · rw [lo_high, pl_high, dq_high]

include H in
theorem outDcq_real (e : Fin 2) (b : Fin 8) (r : Fin 512) : outDcq i h dqt (ix4 e b 0 r) = ((dcq A (hd hp e) (row b r) : ℝ) : EReal) := by
  have hk : b.val < k0_t4_loop.trips := by rw [t4_trips]; exact b.isLt
  obtain ⟨-, a2, a3⟩ := emitN_window i h dqt (zeros (F := Ideal) S4096x128 .bf16, zeros (F := Ideal) S2x8x1x512 .f32) _ le_rfl ⟨b.val, hk⟩ hk
  rcases two_cases e with rfl | rfl
  · refine (window_stat (outDcq i h dqt) 0 b (off28_eq ⟨b.val, hk⟩) (inb := k0_off28_inb i ⟨b.val, hk⟩ h) r).symm.trans ?_
    refine (congrFun a2 (ix4 0 0 0 r)).trans ?_
    rw [p6, window_dqt dqt 0 b (off25_eq ⟨b.val, hk⟩), H]
    exact congrArg _ (dcq_0 A hp b r 0)
  · refine (window_stat (outDcq i h dqt) 1 b (off29_eq ⟨b.val, hk⟩) (inb := k0_off29_inb i ⟨b.val, hk⟩ h) r).symm.trans ?_
    refine (congrFun a3 (ix4 0 0 0 r)).trans ?_
    rw [p7, window_dqt dqt 1 b (off26_eq ⟨b.val, hk⟩), H]
    exact congrArg _ (dcq_1 A hp b r 0)
end

end Cert.KernelIdeal.Attn

end
-- ==== Proof.Host.lean ====
/- The host lines before the kernel, one by one: each intermediate array as a function of the three arguments, and its entries over the reals. -/
module

public import proofs.«01_k».proof.Proof.Gen.KernelIdeal.Frame
public import Idealize.ShloMosaic.Lib.Claim
public import proofs.«01_k».proof.Proof.Spec
public import Idealize.ShloMosaic.Lib.Pointwise

@[expose] public section

set_option maxRecDepth 16384

noncomputable section

namespace Cert.KernelIdeal.Attn.Host

open Idealize.ShloMosaic Idealize.SL.Sem Cert.KernelIdeal Cert.KernelIdeal.Gen Cert.Forget

/-! ## The lines -/

def r0 (X : FVec Ideal S4096x2048 .bf16) (C : FVec Ideal S8x4096 .f32) (D : FVec Ideal S4096x512 .bf16) : FVec Ideal S4096x512 .bf16 :=
  ((extractStridedSlice S4096x512 ![0, 512] · slices_S4096x2048_S4096x512_0_512)) X
def r1 (X : FVec Ideal S4096x2048 .bf16) (C : FVec Ideal S8x4096 .f32) (D : FVec Ideal S4096x512 .bf16) : FVec Ideal S4096x512 .bf16 :=
  ((extractStridedSlice S4096x512 ![0, 1024] · slices_S4096x2048_S4096x512_0_1024)) X
def r2 (X : FVec Ideal S4096x2048 .bf16) (C : FVec Ideal S8x4096 .f32) (D : FVec Ideal S4096x512 .bf16) : FVec Ideal S4096x512 .bf16 :=
  ((extractStridedSlice S4096x512 ![0, 1536] · slices_S4096x2048_S4096x512_0_1536)) X
def r3 (X : FVec Ideal S4096x2048 .bf16) (C : FVec Ideal S8x4096 .f32) (D : FVec Ideal S4096x512 .bf16) : FVec Ideal S4096x512 .f32 :=
  ((extf .f32 · bitsLt_bf16_f32)) (r0 X C D)
def r4 (X : FVec Ideal S4096x2048 .bf16) (C : FVec Ideal S8x4096 .f32) (D : FVec Ideal S4096x512 .bf16) : FVec Ideal S4096x8x64 .f32 :=
  shapeCast _ (r3 X C D) shapeCasts_S4096x512_S4096x8x64
def r5 (X : FVec Ideal S4096x2048 .bf16) (C : FVec Ideal S8x4096 .f32) (D : FVec Ideal S4096x512 .bf16) : FVec Ideal S8x4096x64 .f32 :=
  ((transpose S8x4096x64 [1, 0, 2] · transposes_S4096x8x64_S8x4096x64_1_0_2)) (r4 X C D)
def r6 (X : FVec Ideal S4096x2048 .bf16) (C : FVec Ideal S8x4096 .f32) (D : FVec Ideal S4096x512 .bf16) : FVec Ideal S4096x512 .f32 :=
  ((extf .f32 · bitsLt_bf16_f32)) (r1 X C D)
def r7 (X : FVec Ideal S4096x2048 .bf16) (C : FVec Ideal S8x4096 .f32) (D : FVec Ideal S4096x512 .bf16) : FVec Ideal S4096x8x64 .f32 :=
  shapeCast _ (r6 X C D) shapeCasts_S4096x512_S4096x8x64
def r8 (X : FVec Ideal S4096x2048 .bf16) (C : FVec Ideal S8x4096 .f32) (D : FVec Ideal S4096x512 .bf16) : FVec Ideal S8x4096x64 .f32 :=
  ((transpose S8x4096x64 [1, 0, 2] · transposes_S4096x8x64_S8x4096x64_1_0_2)) (r7 X C D)
def r9 (X : FVec Ideal S4096x2048 .bf16) (C : FVec Ideal S8x4096 .f32) (D : FVec Ideal S4096x512 .bf16) : FVec Ideal S8x4096x4096 .f32 :=
  ((fun l r => Host.dotGeneral dot_S8x4096x64_S8x4096x64_S8x4096x4096_2_2_1_1_0_0 none l r)) (r5 X C D) (r8 X C D)
def r_cst (X : FVec Ideal S4096x2048 .bf16) (C : FVec Ideal S8x4096 .f32) (D : FVec Ideal S4096x512 .bf16) : FVec Ideal S_ .f32 :=
  constant S_ .f32 0x3E000000#32
def r10 (X : FVec Ideal S4096x2048 .bf16) (C : FVec Ideal S8x4096 .f32) (D : FVec Ideal S4096x512 .bf16) : FVec Ideal S8x4096x4096 .f32 :=
  (broadcastInDim S8x4096x4096 ![] bcast_S_S8x4096x4096) (r_cst X C D)
def r11 (X : FVec Ideal S4096x2048 .bf16) (C : FVec Ideal S8x4096 .f32) (D : FVec Ideal S4096x512 .bf16) : FVec Ideal S8x4096x4096 .f32 :=
  (mulf) (r9 X C D) (r10 X C D)
def r12 (X : FVec Ideal S4096x2048 .bf16) (C : FVec Ideal S8x4096 .f32) (D : FVec Ideal S4096x512 .bf16) : FVec Ideal S8x4096x1 .f32 :=
  (broadcastInDim S8x4096x1 ![0, 1] bcast_S8x4096_S8x4096x1_0_1) C
def r13 (X : FVec Ideal S4096x2048 .bf16) (C : FVec Ideal S8x4096 .f32) (D : FVec Ideal S4096x512 .bf16) : FVec Ideal S8x4096x4096 .f32 :=
  (broadcastInDim S8x4096x4096 ![0, 1, 2] bcast_S8x4096x1_S8x4096x4096_0_1_2) (r12 X C D)
def r14 (X : FVec Ideal S4096x2048 .bf16) (C : FVec Ideal S8x4096 .f32) (D : FVec Ideal S4096x512 .bf16) : FVec Ideal S8x4096x4096 .f32 :=
  (addf) (r11 X C D) (r13 X C D)
def r15 (X : FVec Ideal S4096x2048 .bf16) (C : FVec Ideal S8x4096 .f32) (D : FVec Ideal S4096x512 .bf16) : FVec Ideal S8x1x4096 .f32 :=
  (broadcastInDim S8x1x4096 ![0, 2] bcast_S8x4096_S8x1x4096_0_2) C
def r16 (X : FVec Ideal S4096x2048 .bf16) (C : FVec Ideal S8x4096 .f32) (D : FVec Ideal S4096x512 .bf16) : FVec Ideal S8x4096x4096 .f32 :=
  (broadcastInDim S8x4096x4096 ![0, 1, 2] bcast_S8x1x4096_S8x4096x4096_0_1_2) (r15 X C D)
def r17 (X : FVec Ideal S4096x2048 .bf16) (C : FVec Ideal S8x4096 .f32) (D : FVec Ideal S4096x512 .bf16) : FVec Ideal S8x4096x4096 .f32 :=
  (subf) (r14 X C D) (r16 X C D)
def r18 (X : FVec Ideal S4096x2048 .bf16) (C : FVec Ideal S8x4096 .f32) (D : FVec Ideal S4096x512 .bf16) : IVec S4096 32 :=
  iotaInDim S4096 32 0
def r19 (X : FVec Ideal S4096x2048 .bf16) (C : FVec Ideal S8x4096 .f32) (D : FVec Ideal S4096x512 .bf16) : IVec S1x4096 32 :=
  (broadcastInDim S1x4096 ![1] bcast_S4096_S1x4096_1) (r18 X C D)
def r20 (X : FVec Ideal S4096x2048 .bf16) (C : FVec Ideal S8x4096 .f32) (D : FVec Ideal S4096x512 .bf16) : IVec S4096x1 32 :=
  (broadcastInDim S4096x1 ![0] bcast_S4096_S4096x1_0) (r18 X C D)
def r21 (X : FVec Ideal S4096x2048 .bf16) (C : FVec Ideal S8x4096 .f32) (D : FVec Ideal S4096x512 .bf16) : IVec S4096x4096 32 :=
  (broadcastInDim S4096x4096 ![0, 1] bcast_S1x4096_S4096x4096_0_1) (r19 X C D)
def r22 (X : FVec Ideal S4096x2048 .bf16) (C : FVec Ideal S8x4096 .f32) (D : FVec Ideal S4096x512 .bf16) : IVec S4096x4096 32 :=
  (broadcastInDim S4096x4096 ![0, 1] bcast_S4096x1_S4096x4096_0_1) (r20 X C D)
def r23 (X : FVec Ideal S4096x2048 .bf16) (C : FVec Ideal S8x4096 .f32) (D : FVec Ideal S4096x512 .bf16) : IVec S4096x4096 1 :=
  (cmpi .sle) (r21 X C D) (r22 X C D)
def r_cst_0 (X : FVec Ideal S4096x2048 .bf16) (C : FVec Ideal S8x4096 .f32) (D : FVec Ideal S4096x512 .bf16) : FVec Ideal S_ .f32 :=
  constant S_ .f32 0xFF800000#32
def r24_m (X : FVec Ideal S4096x2048 .bf16) (C : FVec Ideal S8x4096 .f32) (D : FVec Ideal S4096x512 .bf16) : IVec S8x4096x4096 1 :=
  broadcastInDim S8x4096x4096 ![1, 2] bcast_S4096x4096_S8x4096x4096_1_2 (r23 X C D)
def r24 (X : FVec Ideal S4096x2048 .bf16) (C : FVec Ideal S8x4096 .f32) (D : FVec Ideal S4096x512 .bf16) : FVec Ideal S8x4096x4096 .f32 :=
  select (r24_m X C D) (r17 X C D) (broadcastInDim S8x4096x4096 ![] bcast_S_S8x4096x4096 (r_cst_0 X C D))
def r_cst_1 (X : FVec Ideal S4096x2048 .bf16) (C : FVec Ideal S8x4096 .f32) (D : FVec Ideal S4096x512 .bf16) : FVec Ideal S_ .f32 :=
  constant S_ .f32 0xFF800000#32
def r25 (X : FVec Ideal S4096x2048 .bf16) (C : FVec Ideal S8x4096 .f32) (D : FVec Ideal S4096x512 .bf16) : FVec Ideal S8x4096 .f32 :=
  ((fun x v => Host.reduce FloatOps.maximumf x v reducesTo_S8x4096x4096_S8x4096_d2 h_S_)) (r24 X C D) (r_cst_1 X C D)
def r_cst_2 (X : FVec Ideal S4096x2048 .bf16) (C : FVec Ideal S8x4096 .f32) (D : FVec Ideal S4096x512 .bf16) : FVec Ideal S_ .f32 :=
  constant S_ .f32 0xFF800000#32
def r26 (X : FVec Ideal S4096x2048 .bf16) (C : FVec Ideal S8x4096 .f32) (D : FVec Ideal S4096x512 .bf16) : FVec Ideal S8x4096 .f32 :=
  (broadcastInDim S8x4096 ![] bcast_S_S8x4096) (r_cst_2 X C D)
def r27 (X : FVec Ideal S4096x2048 .bf16) (C : FVec Ideal S8x4096 .f32) (D : FVec Ideal S4096x512 .bf16) : FVec Ideal S8x4096 .f32 :=
  (maximumf) (r26 X C D) (r25 X C D)
def r28 (X : FVec Ideal S4096x2048 .bf16) (C : FVec Ideal S8x4096 .f32) (D : FVec Ideal S4096x512 .bf16) : FVec Ideal S8x4096x1 .f32 :=
  (broadcastInDim S8x4096x1 ![0, 1] bcast_S8x4096_S8x4096x1_0_1) (r27 X C D)
def r29 (X : FVec Ideal S4096x2048 .bf16) (C : FVec Ideal S8x4096 .f32) (D : FVec Ideal S4096x512 .bf16) : FVec Ideal S8x4096x4096 .f32 :=
  (broadcastInDim S8x4096x4096 ![0, 1, 2] bcast_S8x4096x1_S8x4096x4096_0_1_2) (r28 X C D)
def r30 (X : FVec Ideal S4096x2048 .bf16) (C : FVec Ideal S8x4096 .f32) (D : FVec Ideal S4096x512 .bf16) : FVec Ideal S8x4096x4096 .f32 :=
  (subf) (r24 X C D) (r29 X C D)
def r31 (X : FVec Ideal S4096x2048 .bf16) (C : FVec Ideal S8x4096 .f32) (D : FVec Ideal S4096x512 .bf16) : FVec Ideal S8x4096x4096 .f32 :=
  (Host.exp) (r30 X C D)
def r_cst_3 (X : FVec Ideal S4096x2048 .bf16) (C : FVec Ideal S8x4096 .f32) (D : FVec Ideal S4096x512 .bf16) : FVec Ideal S_ .f32 :=
  constant S_ .f32 0x00000000#32
def r32 (X : FVec Ideal S4096x2048 .bf16) (C : FVec Ideal S8x4096 .f32) (D : FVec Ideal S4096x512 .bf16) : FVec Ideal S8x4096 .f32 :=
  ((fun x v => Host.reduceAdd x v reducesTo_S8x4096x4096_S8x4096_d2 h_S_)) (r31 X C D) (r_cst_3 X C D)
def r33 (X : FVec Ideal S4096x2048 .bf16) (C : FVec Ideal S8x4096 .f32) (D : FVec Ideal S4096x512 .bf16) : FVec Ideal S8x4096x1 .f32 :=
  (broadcastInDim S8x4096x1 ![0, 1] bcast_S8x4096_S8x4096x1_0_1) (r32 X C D)
def r34 (X : FVec Ideal S4096x2048 .bf16) (C : FVec Ideal S8x4096 .f32) (D : FVec Ideal S4096x512 .bf16) : FVec Ideal S8x4096x4096 .f32 :=
  (broadcastInDim S8x4096x4096 ![0, 1, 2] bcast_S8x4096x1_S8x4096x4096_0_1_2) (r33 X C D)
def r35 (X : FVec Ideal S4096x2048 .bf16) (C : FVec Ideal S8x4096 .f32) (D : FVec Ideal S4096x512 .bf16) : FVec Ideal S8x4096x4096 .f32 :=
  (Host.divf) (r31 X C D) (r34 X C D)
def r36 (X : FVec Ideal S4096x2048 .bf16) (C : FVec Ideal S8x4096 .f32) (D : FVec Ideal S4096x512 .bf16) : FVec Ideal S4096x512 .f32 :=
  ((extf .f32 · bitsLt_bf16_f32)) (r2 X C D)
def r37 (X : FVec Ideal S4096x2048 .bf16) (C : FVec Ideal S8x4096 .f32) (D : FVec Ideal S4096x512 .bf16) : FVec Ideal S4096x8x64 .f32 :=
  shapeCast _ (r36 X C D) shapeCasts_S4096x512_S4096x8x64
def r38 (X : FVec Ideal S4096x2048 .bf16) (C : FVec Ideal S8x4096 .f32) (D : FVec Ideal S4096x512 .bf16) : FVec Ideal S8x4096x64 .f32 :=
  ((transpose S8x4096x64 [1, 0, 2] · transposes_S4096x8x64_S8x4096x64_1_0_2)) (r37 X C D)
def r39 (X : FVec Ideal S4096x2048 .bf16) (C : FVec Ideal S8x4096 .f32) (D : FVec Ideal S4096x512 .bf16) : FVec Ideal S8x4096x64 .f32 :=
  ((fun l r => Host.dotGeneral dot_S8x4096x4096_S8x4096x64_S8x4096x64_2_1_1_2_0_0 none l r)) (r35 X C D) (r38 X C D)
def r40 (X : FVec Ideal S4096x2048 .bf16) (C : FVec Ideal S8x4096 .f32) (D : FVec Ideal S4096x512 .bf16) : FVec Ideal S4096x8x64 .f32 :=
  ((transpose S4096x8x64 [1, 0, 2] · transposes_S8x4096x64_S4096x8x64_1_0_2)) (r39 X C D)
def r41 (X : FVec Ideal S4096x2048 .bf16) (C : FVec Ideal S8x4096 .f32) (D : FVec Ideal S4096x512 .bf16) : FVec Ideal S4096x512 .f32 :=
  shapeCast _ (r40 X C D) shapeCasts_S4096x8x64_S4096x512
def r42 (X : FVec Ideal S4096x2048 .bf16) (C : FVec Ideal S8x4096 .f32) (D : FVec Ideal S4096x512 .bf16) : FVec Ideal S4096x512 .bf16 :=
  ((truncf .bf16 · bitsLt_bf16_f32)) (r41 X C D)
def r43 (X : FVec Ideal S4096x2048 .bf16) (C : FVec Ideal S8x4096 .f32) (D : FVec Ideal S4096x512 .bf16) : FVec Ideal S4096x512 .f32 :=
  ((extf .f32 · bitsLt_bf16_f32)) (r0 X C D)
def r44 (X : FVec Ideal S4096x2048 .bf16) (C : FVec Ideal S8x4096 .f32) (D : FVec Ideal S4096x512 .bf16) : FVec Ideal S4096x8x64 .f32 :=
  shapeCast _ (r43 X C D) shapeCasts_S4096x512_S4096x8x64
def r45 (X : FVec Ideal S4096x2048 .bf16) (C : FVec Ideal S8x4096 .f32) (D : FVec Ideal S4096x512 .bf16) : FVec Ideal S8x4096x64 .f32 :=
  ((transpose S8x4096x64 [1, 0, 2] · transposes_S4096x8x64_S8x4096x64_1_0_2)) (r44 X C D)
def r46 (X : FVec Ideal S4096x2048 .bf16) (C : FVec Ideal S8x4096 .f32) (D : FVec Ideal S4096x512 .bf16) : FVec Ideal S4096x512 .f32 :=
  ((extf .f32 · bitsLt_bf16_f32)) (r1 X C D)
def r47 (X : FVec Ideal S4096x2048 .bf16) (C : FVec Ideal S8x4096 .f32) (D : FVec Ideal S4096x512 .bf16) : FVec Ideal S4096x8x64 .f32 :=
  shapeCast _ (r46 X C D) shapeCasts_S4096x512_S4096x8x64
def r48 (X : FVec Ideal S4096x2048 .bf16) (C : FVec Ideal S8x4096 .f32) (D : FVec Ideal S4096x512 .bf16) : FVec Ideal S8x4096x64 .f32 :=
  ((transpose S8x4096x64 [1, 0, 2] · transposes_S4096x8x64_S8x4096x64_1_0_2)) (r47 X C D)
def r49 (X : FVec Ideal S4096x2048 .bf16) (C : FVec Ideal S8x4096 .f32) (D : FVec Ideal S4096x512 .bf16) : FVec Ideal S8x4096x4096 .f32 :=
  ((fun l r => Host.dotGeneral dot_S8x4096x64_S8x4096x64_S8x4096x4096_2_2_1_1_0_0 none l r)) (r45 X C D) (r48 X C D)
def r_cst_4 (X : FVec Ideal S4096x2048 .bf16) (C : FVec Ideal S8x4096 .f32) (D : FVec Ideal S4096x512 .bf16) : FVec Ideal S_ .f32 :=
  constant S_ .f32 0x3E000000#32
def r50 (X : FVec Ideal S4096x2048 .bf16) (C : FVec Ideal S8x4096 .f32) (D : FVec Ideal S4096x512 .bf16) : FVec Ideal S8x4096x4096 .f32 :=
  (broadcastInDim S8x4096x4096 ![] bcast_S_S8x4096x4096) (r_cst_4 X C D)
def r51 (X : FVec Ideal S4096x2048 .bf16) (C : FVec Ideal S8x4096 .f32) (D : FVec Ideal S4096x512 .bf16) : FVec Ideal S8x4096x4096 .f32 :=
  (mulf) (r49 X C D) (r50 X C D)
def r52 (X : FVec Ideal S4096x2048 .bf16) (C : FVec Ideal S8x4096 .f32) (D : FVec Ideal S4096x512 .bf16) : FVec Ideal S8x4096x1 .f32 :=
  (broadcastInDim S8x4096x1 ![0, 1] bcast_S8x4096_S8x4096x1_0_1) C
def r53 (X : FVec Ideal S4096x2048 .bf16) (C : FVec Ideal S8x4096 .f32) (D : FVec Ideal S4096x512 .bf16) : FVec Ideal S8x4096x4096 .f32 :=
  (broadcastInDim S8x4096x4096 ![0, 1, 2] bcast_S8x4096x1_S8x4096x4096_0_1_2) (r52 X C D)
def r54 (X : FVec Ideal S4096x2048 .bf16) (C : FVec Ideal S8x4096 .f32) (D : FVec Ideal S4096x512 .bf16) : FVec Ideal S8x4096x4096 .f32 :=
  (addf) (r51 X C D) (r53 X C D)
def r55 (X : FVec Ideal S4096x2048 .bf16) (C : FVec Ideal S8x4096 .f32) (D : FVec Ideal S4096x512 .bf16) : FVec Ideal S8x1x4096 .f32 :=
  (broadcastInDim S8x1x4096 ![0, 2] bcast_S8x4096_S8x1x4096_0_2) C
def r56 (X : FVec Ideal S4096x2048 .bf16) (C : FVec Ideal S8x4096 .f32) (D : FVec Ideal S4096x512 .bf16) : FVec Ideal S8x4096x4096 .f32 :=
  (broadcastInDim S8x4096x4096 ![0, 1, 2] bcast_S8x1x4096_S8x4096x4096_0_1_2) (r55 X C D)
def r57 (X : FVec Ideal S4096x2048 .bf16) (C : FVec Ideal S8x4096 .f32) (D : FVec Ideal S4096x512 .bf16) : FVec Ideal S8x4096x4096 .f32 :=
  (subf) (r54 X C D) (r56 X C D)
def r58 (X : FVec Ideal S4096x2048 .bf16) (C : FVec Ideal S8x4096 .f32) (D : FVec Ideal S4096x512 .bf16) : IVec S4096 32 :=
  iotaInDim S4096 32 0
def r59 (X : FVec Ideal S4096x2048 .bf16) (C : FVec Ideal S8x4096 .f32) (D : FVec Ideal S4096x512 .bf16) : IVec S1x4096 32 :=
  (broadcastInDim S1x4096 ![1] bcast_S4096_S1x4096_1) (r58 X C D)
def r60 (X : FVec Ideal S4096x2048 .bf16) (C : FVec Ideal S8x4096 .f32) (D : FVec Ideal S4096x512 .bf16) : IVec S4096x1 32 :=
  (broadcastInDim S4096x1 ![0] bcast_S4096_S4096x1_0) (r58 X C D)
def r61 (X : FVec Ideal S4096x2048 .bf16) (C : FVec Ideal S8x4096 .f32) (D : FVec Ideal S4096x512 .bf16) : IVec S4096x4096 32 :=
  (broadcastInDim S4096x4096 ![0, 1] bcast_S1x4096_S4096x4096_0_1) (r59 X C D)
def r62 (X : FVec Ideal S4096x2048 .bf16) (C : FVec Ideal S8x4096 .f32) (D : FVec Ideal S4096x512 .bf16) : IVec S4096x4096 32 :=
  (broadcastInDim S4096x4096 ![0, 1] bcast_S4096x1_S4096x4096_0_1) (r60 X C D)
def r63 (X : FVec Ideal S4096x2048 .bf16) (C : FVec Ideal S8x4096 .f32) (D : FVec Ideal S4096x512 .bf16) : IVec S4096x4096 1 :=
  (cmpi .sle) (r61 X C D) (r62 X C D)
def r_cst_5 (X : FVec Ideal S4096x2048 .bf16) (C : FVec Ideal S8x4096 .f32) (D : FVec Ideal S4096x512 .bf16) : FVec Ideal S_ .f32 :=
  constant S_ .f32 0xFF800000#32
def r64_m (X : FVec Ideal S4096x2048 .bf16) (C : FVec Ideal S8x4096 .f32) (D : FVec Ideal S4096x512 .bf16) : IVec S8x4096x4096 1 :=
  broadcastInDim S8x4096x4096 ![1, 2] bcast_S4096x4096_S8x4096x4096_1_2 (r63 X C D)
def r64 (X : FVec Ideal S4096x2048 .bf16) (C : FVec Ideal S8x4096 .f32) (D : FVec Ideal S4096x512 .bf16) : FVec Ideal S8x4096x4096 .f32 :=
  select (r64_m X C D) (r57 X C D) (broadcastInDim S8x4096x4096 ![] bcast_S_S8x4096x4096 (r_cst_5 X C D))
def r_cst_6 (X : FVec Ideal S4096x2048 .bf16) (C : FVec Ideal S8x4096 .f32) (D : FVec Ideal S4096x512 .bf16) : FVec Ideal S_ .f32 :=
  constant S_ .f32 0xFF800000#32
def r65 (X : FVec Ideal S4096x2048 .bf16) (C : FVec Ideal S8x4096 .f32) (D : FVec Ideal S4096x512 .bf16) : FVec Ideal S8x4096 .f32 :=
  ((fun x v => Host.reduce FloatOps.maximumf x v reducesTo_S8x4096x4096_S8x4096_d2 h_S_)) (r64 X C D) (r_cst_6 X C D)
def r66 (X : FVec Ideal S4096x2048 .bf16) (C : FVec Ideal S8x4096 .f32) (D : FVec Ideal S4096x512 .bf16) : FVec Ideal S8x4096x1 .f32 :=
  (broadcastInDim S8x4096x1 ![0, 1] bcast_S8x4096_S8x4096x1_0_1) (r65 X C D)
def r67 (X : FVec Ideal S4096x2048 .bf16) (C : FVec Ideal S8x4096 .f32) (D : FVec Ideal S4096x512 .bf16) : FVec Ideal S8x4096x4096 .f32 :=
  (broadcastInDim S8x4096x4096 ![0, 1, 2] bcast_S8x4096x1_S8x4096x4096_0_1_2) (r66 X C D)
def r68 (X : FVec Ideal S4096x2048 .bf16) (C : FVec Ideal S8x4096 .f32) (D : FVec Ideal S4096x512 .bf16) : FVec Ideal S8x4096x4096 .f32 :=
  (subf) (r64 X C D) (r67 X C D)
def r69 (X : FVec Ideal S4096x2048 .bf16) (C : FVec Ideal S8x4096 .f32) (D : FVec Ideal S4096x512 .bf16) : FVec Ideal S8x4096x4096 .f32 :=
  (Host.exp) (r68 X C D)
def r_cst_7 (X : FVec Ideal S4096x2048 .bf16) (C : FVec Ideal S8x4096 .f32) (D : FVec Ideal S4096x512 .bf16) : FVec Ideal S_ .f32 :=
  constant S_ .f32 0x00000000#32
def r70 (X : FVec Ideal S4096x2048 .bf16) (C : FVec Ideal S8x4096 .f32) (D : FVec Ideal S4096x512 .bf16) : FVec Ideal S8x4096 .f32 :=
  ((fun x v => Host.reduceAdd x v reducesTo_S8x4096x4096_S8x4096_d2 h_S_)) (r69 X C D) (r_cst_7 X C D)
def r71 (X : FVec Ideal S4096x2048 .bf16) (C : FVec Ideal S8x4096 .f32) (D : FVec Ideal S4096x512 .bf16) : FVec Ideal S8x4096 .f32 :=
  (Host.log) (r70 X C D)
def r72 (X : FVec Ideal S4096x2048 .bf16) (C : FVec Ideal S8x4096 .f32) (D : FVec Ideal S4096x512 .bf16) : FVec Ideal S8x4096 .f32 :=
  (addf) (r65 X C D) (r71 X C D)
def r73 (X : FVec Ideal S4096x2048 .bf16) (C : FVec Ideal S8x4096 .f32) (D : FVec Ideal S4096x512 .bf16) : FVec Ideal S8x4096 .f32 :=
  (subf) (r72 X C D) C
def r74 (X : FVec Ideal S4096x2048 .bf16) (C : FVec Ideal S8x4096 .f32) (D : FVec Ideal S4096x512 .bf16) : FVec Ideal S8x8x1x512 .f32 :=
  shapeCast _ (r73 X C D) shapeCasts_S8x4096_S8x8x1x512
def r75 (X : FVec Ideal S4096x2048 .bf16) (C : FVec Ideal S8x4096 .f32) (D : FVec Ideal S4096x512 .bf16) : FVec Ideal S8x4096x1 .f32 :=
  shapeCast _ C shapeCasts_S8x4096_S8x4096x1

/-! ## Their entries -/

variable (A : Args) {X : FVec Ideal S4096x2048 .bf16} {C : FVec Ideal S8x4096 .f32} {D : FVec Ideal S4096x512 .bf16}

/-- The larger of two arrays, at an index. -/
theorem maximumf_at (u v : FVec Ideal S8x4096 .f32) (j : S8x4096.Idx) : maximumf u v j = max (u j) (v j) := rfl

theorem addf_at (u v : FVec Ideal S8x4096 .f32) (j : S8x4096.Idx) : addf u v j = u j + v j := rfl

theorem subf_at (u v : FVec Ideal S8x4096 .f32) (j : S8x4096.Idx) : subf u v j = u j - v j := rfl

variable (H : Reals A X C D)
include H

theorem e5 (h : Fin 8) (t : Fin 4096) (d : Fin 64) : r5 X C D (ix3 h t d) = (((qv A h t d) : ℝ) : EReal) := by
  have e : r5 X C D (ix3 h t d) = X (ix2 t ⟨512 + (lane h d).val, by omega⟩) := by pointwise [r5, r4, r3, r0]; rfl
  rw [e, H.x]; rfl

theorem e8 (h : Fin 8) (t : Fin 4096) (d : Fin 64) : r8 X C D (ix3 h t d) = (((kv A h t d) : ℝ) : EReal) := by
  have e : r8 X C D (ix3 h t d) = X (ix2 t ⟨1024 + (lane h d).val, by omega⟩) := by pointwise [r8, r7, r6, r1]; rfl
  rw [e, H.x]; rfl

theorem e38 (h : Fin 8) (t : Fin 4096) (d : Fin 64) : r38 X C D (ix3 h t d) = (((vv A h t d) : ℝ) : EReal) := by
  have e : r38 X C D (ix3 h t d) = X (ix2 t ⟨1536 + (lane h d).val, by omega⟩) := by pointwise [r38, r37, r36, r2]; rfl
  rw [e, H.x]; rfl

theorem e45 (h : Fin 8) (t : Fin 4096) (d : Fin 64) : r45 X C D (ix3 h t d) = (((qv A h t d) : ℝ) : EReal) := by
  have e : r45 X C D (ix3 h t d) = X (ix2 t ⟨512 + (lane h d).val, by omega⟩) := by pointwise [r45, r44, r43, r0]; rfl
  rw [e, H.x]; rfl

theorem e48 (h : Fin 8) (t : Fin 4096) (d : Fin 64) : r48 X C D (ix3 h t d) = (((kv A h t d) : ℝ) : EReal) := by
  have e : r48 X C D (ix3 h t d) = X (ix2 t ⟨1024 + (lane h d).val, by omega⟩) := by pointwise [r48, r47, r46, r1]; rfl
  rw [e, H.x]; rfl

theorem e17 (h : Fin 8) (t s : Fin 4096) : r17 X C D (ix3 h t s) = (((lg A h t s) : ℝ) : EReal) := by
  have e : r17 X C D (ix3 h t s) = (∑ d, r5 X C D (ix3 h t d) * r8 X C D (ix3 h s d)) * Ideal.ofBits .f32 0x3E000000#32
      + C (ix2 h t) - C (ix2 h s) := by pointwise [r17, r16, r15, r14, r13, r12, r11, r10, r_cst, r9]
  rw [e, ofBits_eighth, H.c, H.c, sum_coe _ (fun d _ => by rw [e5 A H, e8 A H, ← EReal.coe_mul]), ← EReal.coe_mul, ← EReal.coe_add,
    ← EReal.coe_sub]
  rfl

theorem e57 (h : Fin 8) (t s : Fin 4096) : r57 X C D (ix3 h t s) = (((lg A h t s) : ℝ) : EReal) := by
  have e : r57 X C D (ix3 h t s) = (∑ d, r45 X C D (ix3 h t d) * r48 X C D (ix3 h s d)) * Ideal.ofBits .f32 0x3E000000#32
      + C (ix2 h t) - C (ix2 h s) := by pointwise [r57, r56, r55, r54, r53, r52, r51, r50, r_cst_4, r49]
  rw [e, ofBits_eighth, H.c, H.c, sum_coe _ (fun d _ => by rw [e45 A H, e48 A H, ← EReal.coe_mul]), ← EReal.coe_mul, ← EReal.coe_add,
    ← EReal.coe_sub]
  rfl

theorem e24_m (h : Fin 8) (t s : Fin 4096) : r24_m X C D (ix3 h t s) = if s ≤ t then 1#1 else 0#1 := by
  have e : r24_m X C D (ix3 h t s) = IntOp.cmpi .sle (BitVec.ofNat 32 s.val) (BitVec.ofNat 32 t.val) := by
    pointwise [r24_m, r23, r22, r21, r20, r19, r18]
  rw [e, sle_eq s.isLt t.isLt]; rfl

theorem e24 (h : Fin 8) (t s : Fin 4096) : r24 X C D (ix3 h t s) = if s ≤ t then (((lg A h t s) : ℝ) : EReal) else ⊥ := by
  have e : r24 X C D (ix3 h t s) = Scalar.select (r24_m X C D (ix3 h t s)) (r17 X C D (ix3 h t s)) (Ideal.ofBits .f32 0xFF800000#32) := by
    pointwise [r24, r_cst_0]
  rw [e, e24_m A H, e17 A H, ofBits_bot, select_if]

theorem e64_m (h : Fin 8) (t s : Fin 4096) : r64_m X C D (ix3 h t s) = if s ≤ t then 1#1 else 0#1 := by
  have e : r64_m X C D (ix3 h t s) = IntOp.cmpi .sle (BitVec.ofNat 32 s.val) (BitVec.ofNat 32 t.val) := by
    pointwise [r64_m, r63, r62, r61, r60, r59, r58]
  rw [e, sle_eq s.isLt t.isLt]; rfl

theorem e64 (h : Fin 8) (t s : Fin 4096) : r64 X C D (ix3 h t s) = if s ≤ t then (((lg A h t s) : ℝ) : EReal) else ⊥ := by
  have e : r64 X C D (ix3 h t s) = Scalar.select (r64_m X C D (ix3 h t s)) (r57 X C D (ix3 h t s)) (Ideal.ofBits .f32 0xFF800000#32) := by
    pointwise [r64, r_cst_5]
  rw [e, e64_m A H, e57 A H, ofBits_bot, select_if]

theorem e25 (h : Fin 8) (t : Fin 4096) : r25 X C D (ix2 h t) = (((mx A h t) : ℝ) : EReal) := by
  have e : r25 X C D (ix2 h t) = Finset.fold max (Ideal.ofBits .f32 0xFF800000#32) (fun s => r24 X C D (ix3 h t s)) Finset.univ := by
    pointwise [r25, r_cst_1]
  have hf : (fun s => r24 X C D (ix3 h t s)) = fun s => if s ≤ t then ((lg A h t s : ℝ) : EReal) else ⊥ := funext fun s => e24 A H h t s
  rw [hf, ofBits_bot, fold_max] at e
  rw [e, mx]

theorem e65 (h : Fin 8) (t : Fin 4096) : r65 X C D (ix2 h t) = (((mx A h t) : ℝ) : EReal) := by
  have e : r65 X C D (ix2 h t) = Finset.fold max (Ideal.ofBits .f32 0xFF800000#32) (fun s => r64 X C D (ix3 h t s)) Finset.univ := by
    pointwise [r65, r_cst_6]
  have hf : (fun s => r64 X C D (ix3 h t s)) = fun s => if s ≤ t then ((lg A h t s : ℝ) : EReal) else ⊥ := funext fun s => e64 A H h t s
  rw [hf, ofBits_bot, fold_max] at e
  rw [e, mx]

theorem e27 (h : Fin 8) (t : Fin 4096) : r27 X C D (ix2 h t) = (((mx A h t) : ℝ) : EReal) := by
  have e26 : r26 X C D (ix2 h t) = Ideal.ofBits .f32 0xFF800000#32 := by pointwise [r26, r_cst_2]
  rw [r27, maximumf_at, e26, e25 A H, ofBits_bot, max_eq_right bot_le]

theorem e31 (h : Fin 8) (t s : Fin 4096) : r31 X C D (ix3 h t s) = (((ev A h t s) : ℝ) : EReal) := by
  have e : r31 X C D (ix3 h t s) = Ideal.exp (r24 X C D (ix3 h t s) - r27 X C D (ix2 h t)) := by
    pointwise [r31, r30, r29, r28]
  rw [e, e24 A H, e27 A H]
  unfold ev
  split
  · rw [← EReal.coe_sub, Ideal.exp_coe]
  · rw [EReal.bot_sub, Ideal.exp_bot, EReal.coe_zero]

theorem e69 (h : Fin 8) (t s : Fin 4096) : r69 X C D (ix3 h t s) = (((ev A h t s) : ℝ) : EReal) := by
  have e : r69 X C D (ix3 h t s) = Ideal.exp (r64 X C D (ix3 h t s) - r65 X C D (ix2 h t)) := by
    pointwise [r69, r68, r67, r66]
  rw [e, e64 A H, e65 A H]
  unfold ev
  split
  · rw [← EReal.coe_sub, Ideal.exp_coe]
  · rw [EReal.bot_sub, Ideal.exp_bot, EReal.coe_zero]

theorem e32 (h : Fin 8) (t : Fin 4096) : r32 X C D (ix2 h t) = (((zs A h t) : ℝ) : EReal) := by
  have e : r32 X C D (ix2 h t) = 0 + ∑ s, r31 X C D (ix3 h t s) := by pointwise [r32, r_cst_3]
  rw [e, zero_add, sum_coe _ (fun s _ => e31 A H h t s)]; rfl

theorem e70 (h : Fin 8) (t : Fin 4096) : r70 X C D (ix2 h t) = (((zs A h t) : ℝ) : EReal) := by
  have e : r70 X C D (ix2 h t) = 0 + ∑ s, r69 X C D (ix3 h t s) := by pointwise [r70, r_cst_7]
  rw [e, zero_add, sum_coe _ (fun s _ => e69 A H h t s)]; rfl

theorem e35 (h : Fin 8) (t s : Fin 4096) : r35 X C D (ix3 h t s) = (((pr A h t s) : ℝ) : EReal) := by
  have e : r35 X C D (ix3 h t s) = Ideal.div (r31 X C D (ix3 h t s)) (r32 X C D (ix2 h t)) := by pointwise [r35, r34, r33]
  rw [e, e31 A H, e32 A H, div_real (zs_pos A h t).ne']; rfl

theorem e39 (h : Fin 8) (t : Fin 4096) (d : Fin 64) : r39 X C D (ix3 h t d) = (((ov A h t d) : ℝ) : EReal) := by
  have e : r39 X C D (ix3 h t d) = ∑ s, r35 X C D (ix3 h t s) * r38 X C D (ix3 h s d) := by pointwise [r39]
  rw [e, sum_coe _ (fun s _ => by rw [e35 A H, e38 A H, ← EReal.coe_mul])]; rfl

/-- The forward pass' output. -/
theorem e42 (h : Fin 8) (t : Fin 4096) (d : Fin 64) : r42 X C D (ix2 t (lane h d)) = (((ov A h t d) : ℝ) : EReal) := by
  have e : r42 X C D (ix2 t (lane h d)) = r39 X C D (ix3 (⟨(lane h d).val / 64, by omega⟩ : Fin 8) t (⟨(lane h d).val % 64, by omega⟩ : Fin 64)) := by
    pointwise [r42, r41, r40]
  have h1 : (⟨(lane h d).val / 64, by omega⟩ : Fin 8) = h := Fin.ext (by unfold lane; simp only []; omega)
  have h2 : (⟨(lane h d).val % 64, by omega⟩ : Fin 64) = d := Fin.ext (by unfold lane; simp only []; omega)
  rw [e, h1, h2, e39 A H]

theorem e73 (h : Fin 8) (t : Fin 4096) : r73 X C D (ix2 h t) = (((ls A h t) : ℝ) : EReal) := by
  have e71 : r71 X C D (ix2 h t) = Ideal.log (r70 X C D (ix2 h t)) := by pointwise [r71]
  have e72 : r72 X C D (ix2 h t) = r65 X C D (ix2 h t) + r71 X C D (ix2 h t) := by rw [r72, addf_at]
  rw [r73, subf_at, e72, e71, e65 A H, e70 A H, log_real (zs_pos A h t), H.c, ← EReal.coe_add, ← EReal.coe_sub]; rfl

/-- The forward pass' logarithms of the sums of exponentials. -/
theorem e74 (h j : Fin 8) (i : Fin 512) : r74 X C D (ix4 h j 0 i) = (((ls A h ⟨j.val * 512 + i.val, by omega⟩) : ℝ) : EReal) := by
  have e : r74 X C D (ix4 h j 0 i) = r73 X C D (ix2 h ⟨j.val * 512 + i.val, by omega⟩) := by pointwise [r74]
  rw [e, e73 A H]

/-- The cumulated gates, one column per head. -/
theorem e75 (h : Fin 8) (s : Fin 4096) : r75 X C D (ix3 h s 0) = (((A.c h s) : ℝ) : EReal) := by
  have e : r75 X C D (ix3 h s 0) = C (ix2 h s) := by pointwise [r75]
  rw [e, H.c]

omit H

/-! ## What the kernel finds -/

set_option maxRecDepth 16384 in
set_option maxHeartbeats 1600000 in
theorem V_main_v42 (m : (ℓ : Loc nD τ sig) → Buf (Elt Ideal) ℓ) (c : Dev nD) :
    V m c main_v42 = r42 (m ((c.tc : Thread nD τ).loc main_arg0)) (m ((c.tc : Thread nD τ).loc main_arg1))
      (m ((c.tc : Thread nD τ).loc main_arg2)) := by
  simp only [V, hostOps0, hostOps0_1, hostOps0_2, hostOps0_3, hostOps0_4, List.flatten_cons, List.flatten_nil, List.append_nil, List.cons_append,
    List.nil_append, StableHlo.TRef.nullary, StableHlo.TRef.ternary, StableHlo.TRef.unary, StableHlo.TRef.toBuf, StableHlo.TRef.ofBuf, cast_eq]
  after_results_simp
  rfl

set_option maxRecDepth 16384 in
set_option maxHeartbeats 1600000 in
theorem V_main_v74 (m : (ℓ : Loc nD τ sig) → Buf (Elt Ideal) ℓ) (c : Dev nD) :
    V m c main_v74 = r74 (m ((c.tc : Thread nD τ).loc main_arg0)) (m ((c.tc : Thread nD τ).loc main_arg1))
      (m ((c.tc : Thread nD τ).loc main_arg2)) := by
  simp only [V, hostOps0, hostOps0_1, hostOps0_2, hostOps0_3, hostOps0_4, List.flatten_cons, List.flatten_nil, List.append_nil, List.cons_append,
    List.nil_append, StableHlo.TRef.nullary, StableHlo.TRef.ternary, StableHlo.TRef.unary, StableHlo.TRef.toBuf, StableHlo.TRef.ofBuf, cast_eq]
  after_results_simp
  rfl

set_option maxRecDepth 16384 in
set_option maxHeartbeats 1600000 in
theorem V_main_v75 (m : (ℓ : Loc nD τ sig) → Buf (Elt Ideal) ℓ) (c : Dev nD) :
    V m c main_v75 = r75 (m ((c.tc : Thread nD τ).loc main_arg0)) (m ((c.tc : Thread nD τ).loc main_arg1))
      (m ((c.tc : Thread nD τ).loc main_arg2)) := by
  simp only [V, hostOps0, hostOps0_1, hostOps0_2, hostOps0_3, hostOps0_4, List.flatten_cons, List.flatten_nil, List.append_nil, List.cons_append,
    List.nil_append, StableHlo.TRef.nullary, StableHlo.TRef.ternary, StableHlo.TRef.unary, StableHlo.TRef.toBuf, StableHlo.TRef.ofBuf, cast_eq]
  after_results_simp
  rfl

end Cert.KernelIdeal.Attn.Host

end
-- ==== Proof.Values.lean ====
/- What the gradient kernel leaves in its five result arrays, as real numbers. -/
module

public import proofs.«01_k».proof.Proof.Launched
public import proofs.«01_k».proof.Proof.Accum
public import proofs.«01_k».proof.Proof.Host
public import Idealize.ShloMosaic.Lib.Pipeline.ValueKit

@[expose] public section

set_option maxRecDepth 16384

noncomputable section

namespace Cert.KernelIdeal.Attn

open Idealize.ShloMosaic Idealize.ShloMosaic.TcCoe Idealize.ShloMosaic.Tactic
open Idealize.SL Idealize.SL.RA Idealize.SL.Sem
open Idealize.ShloMosaic.Pipeline (Dat Cfg Window)
open Idealize.ShloMosaic.VecWindow Cert.KernelIdeal.Gen Cert.Forget

/-- The head pair and the key block of a grid point. -/
def hpOf (t : Fin cfg0.N) : Fin 4 := ⟨t.val / 8, by have : t.val < 32 := t.isLt; omega⟩
def jOf (t : Fin cfg0.N) : Fin 8 := ⟨t.val % 8, by omega⟩

/-- Which block of its array each window is at. -/
theorem idx : ∀ t : Fin cfg0.N, win0_0.index t = ![0, 4 + t.val / 8] ∧ win0_1.index t = ![t.val % 8, 8 + t.val / 8]
    ∧ win0_2.index t = ![t.val % 8, 12 + t.val / 8] ∧ win0_3.index t = ![0, t.val / 8] ∧ win0_4.index t = ![0, t.val / 8]
    ∧ win0_5.index t = ![t.val / 8, 0, 0, 0] ∧ win0_6.index t = ![t.val / 8, t.val % 8, 0] ∧ win0_7.index t = ![0, t.val / 8]
    ∧ win0_8.index t = ![t.val % 8, t.val / 8] ∧ win0_9.index t = ![t.val % 8, t.val / 8]
    ∧ win0_10.index t = ![t.val / 8, 0, 0, 0] ∧ win0_11.index t = ![t.val / 8, t.val % 8, 0] :=
  (by decide +kernel : ∀ t : Fin grid0.N, _)

variable (m : (ℓ : Loc nD τ sig) → Buf (Elt Ideal) ℓ) (c : Dev nD)

/-- The argument arrays are real ones. -/
abbrev Real3 (A : Args) : Prop := Reals A (m ((c.tc : Thread nD τ).loc main_arg0)) (m ((c.tc : Thread nD τ).loc main_arg1)) (m ((c.tc : Thread nD τ).loc main_arg2))

variable {m c} {A : Args} (R : Real3 m c A)

include R in
theorem b0 (t : Fin cfg0.N) (r : Fin 4096) (l : Fin 128) : iblk m c 0 t (ix2 r l) = ((ql A (hpOf t) r l : ℝ) : EReal) := by
  have ht : t.val < 32 := t.isLt
  refine Eq.trans (b := m ((c.tc : Thread nD τ).loc main_arg0) (ix2 r ⟨512 + (t.val / 8 * 128 + l.val), by omega⟩)) ?_ (R.x _ _)
  blk_point [iblk, V_main_arg0, idx t]
include R in
theorem b1 (t : Fin cfg0.N) (i : Fin 512) (l : Fin 128) : iblk m c 1 t (ix2 i l) = ((kl A (hpOf t) (row (jOf t) i) l : ℝ) : EReal) := by
  have ht : t.val < 32 := t.isLt
  refine Eq.trans (b := m ((c.tc : Thread nD τ).loc main_arg0) (ix2 ⟨t.val % 8 * 512 + i.val, by omega⟩ ⟨1024 + (t.val / 8 * 128 + l.val), by omega⟩)) ?_ (R.x _ _)
  blk_point [iblk, V_main_arg0, idx t]
include R in
theorem b2 (t : Fin cfg0.N) (i : Fin 512) (l : Fin 128) : iblk m c 2 t (ix2 i l) = ((vl A (hpOf t) (row (jOf t) i) l : ℝ) : EReal) := by
  have ht : t.val < 32 := t.isLt
  refine Eq.trans (b := m ((c.tc : Thread nD τ).loc main_arg0) (ix2 ⟨t.val % 8 * 512 + i.val, by omega⟩ ⟨1536 + (t.val / 8 * 128 + l.val), by omega⟩)) ?_ (R.x _ _)
  blk_point [iblk, V_main_arg0, idx t]

/-- Lane `l` of the pair among all lanes. -/
theorem lane_pair (hp : Fin 4) (l : Fin 128) (h : hp.val * 128 + l.val < 512) :
    lane (hd hp ⟨l.val / 64, by omega⟩) ⟨l.val % 64, by omega⟩ = ⟨hp.val * 128 + l.val, h⟩ :=
  Fin.ext (by show (2 * hp.val + l.val / 64) * 64 + l.val % 64 = hp.val * 128 + l.val; omega)

/-- A window's block at an index, of any contents of its array. -/
theorem read3 (W : Buf (Elt Ideal) ((c.tc : Thread nD τ).loc main_v42)) (t : Fin cfg0.N) (r : Fin 4096) (l : Fin 128) (h : t.val / 8 * 128 + l.val < 512) :
    ((cfg0.win 3).blk t).view.read (Elt Ideal) W (ix2 r l) = W (ix2 r ⟨t.val / 8 * 128 + l.val, h⟩) := by
  blk_point [idx t]
theorem read5 (W : Buf (Elt Ideal) ((c.tc : Thread nD τ).loc main_v74)) (t : Fin cfg0.N) (e : Fin 2) (b : Fin 8) (i : Fin 512) (h : 2 * (t.val / 8) + e.val < 8) :
    ((cfg0.win 5).blk t).view.read (Elt Ideal) W (ix4 e b 0 i) = W (ix4 ⟨2 * (t.val / 8) + e.val, h⟩ b 0 i) := by
  blk_point [idx t]
theorem read6 (W : Buf (Elt Ideal) ((c.tc : Thread nD τ).loc main_v75)) (t : Fin cfg0.N) (e : Fin 2) (i : Fin 512) (h : 2 * (t.val / 8) + e.val < 8)
    (h' : t.val % 8 * 512 + i.val < 4096) :
    ((cfg0.win 6).blk t).view.read (Elt Ideal) W (ix3 e i 0) = W (ix3 ⟨2 * (t.val / 8) + e.val, h⟩ ⟨t.val % 8 * 512 + i.val, h'⟩ 0) := by
  blk_point [idx t]
theorem iblk3 (t : Fin cfg0.N) : iblk m c 3 t = ((cfg0.win 3).blk t).view.read (Elt Ideal) (V m c main_v42) := rfl
theorem iblk5 (t : Fin cfg0.N) : iblk m c 5 t = ((cfg0.win 5).blk t).view.read (Elt Ideal) (V m c main_v74) := rfl
theorem iblk6 (t : Fin cfg0.N) : iblk m c 6 t = ((cfg0.win 6).blk t).view.read (Elt Ideal) (V m c main_v75) := rfl

include R in
theorem b3 (t : Fin cfg0.N) (r : Fin 4096) (l : Fin 128) : iblk m c 3 t (ix2 r l) = ((ol A (hpOf t) r l : ℝ) : EReal) := by
  have ht : t.val < 32 := t.isLt
  have e := Host.e42 A R (hd (hpOf t) ⟨l.val / 64, by omega⟩) r ⟨l.val % 64, by omega⟩
  rw [lane_pair (hpOf t) l (by show t.val / 8 * 128 + l.val < 512; omega)] at e
  rw [iblk3, Host.V_main_v42]
  exact (read3 (c := c) _ t r l (by omega)).trans e
include R in
theorem b4 (t : Fin cfg0.N) (r : Fin 4096) (l : Fin 128) : iblk m c 4 t (ix2 r l) = ((gl A (hpOf t) r l : ℝ) : EReal) := by
  have ht : t.val < 32 := t.isLt
  refine Eq.trans (b := m ((c.tc : Thread nD τ).loc main_arg2) (ix2 r ⟨t.val / 8 * 128 + l.val, by omega⟩)) ?_ (R.g _ _)
  blk_point [iblk, V_main_arg2, idx t]
include R in
theorem b5 (t : Fin cfg0.N) (e : Fin 2) (b : Fin 8) (i : Fin 512) : iblk m c 5 t (ix4 e b 0 i) = ((ls A (hd (hpOf t) e) (row b i) : ℝ) : EReal) := by
  have ht : t.val < 32 := t.isLt
  have e' := Host.e74 A R (hd (hpOf t) e) b i
  rw [iblk5, Host.V_main_v74]
  exact (read5 (c := c) _ t e b i (by omega)).trans e'
include R in
theorem b6 (t : Fin cfg0.N) (e : Fin 2) (i : Fin 512) : iblk m c 6 t (ix3 e i 0) = ((A.c (hd (hpOf t) e) (row (jOf t) i) : ℝ) : EReal) := by
  have ht : t.val < 32 := t.isLt
  have e' := Host.e75 A R (hd (hpOf t) e) (row (jOf t) i)
  rw [iblk6, Host.V_main_v75]
  exact (read6 (c := c) _ t e i (by omega) (by omega)).trans e'

/-! ## The accumulators over the grid -/

/-- What point `t` leaves: the row sums of its pair, the queries' sums up to its key block, the sums of its key block. -/
structure Left (A : Args) (t : Fin cfg0.N) (s : Vec Ideal S2x8x8x512 .f32 × Acc Ideal) : Prop where
  d : ∀ (e : Fin 2) (b u : Fin 8) (i : Fin 512), s.1 (ix4 e b u i) = ((Forget.dl A (hd (hpOf t) e) (row b i) : ℝ) : EReal)
  h : Hold s.2 (fun e b l i => upto 0 (t.val % 8) fun j => cdq A (hpOf t) j b e l i) (fun e i l => ∑ b, cdk A (hpOf t) (jOf t) b e i l)
    (fun i l => ∑ b, cdv A (hpOf t) (jOf t) b i l)

include R in
theorem blk_at (t : Fin cfg0.N) {dl : Vec Ideal S2x8x8x512 .f32}
    (hd' : ∀ (e : Fin 2) (b u : Fin 8) (i : Fin 512), dl (ix4 e b u i) = ((Forget.dl A (hd (hpOf t) e) (row b i) : ℝ) : EReal)) :
    Blk A (hpOf t) (jOf t) (iblk m c 0 t) (iblk m c 1 t) (iblk m c 2 t) (iblk m c 4 t) (iblk m c 5 t) (iblk m c 6 t) dl :=
  ⟨b0 R t, b1 R t, b2 R t, b4 R t, b5 R t, b6 R t, hd'⟩

include R in
theorem left_first (t : Fin cfg0.N) (h : t.val % 8 = 0) : Left A t (startAt m c t h) := by
  have hd' := delta_real (A := A) (hp := hpOf t) (grid0.coords t) ((first_iff t).mpr h) (b3 R t) (b4 R t)
  refine ⟨hd', ?_⟩
  have z : ∀ e b l i, k0_pay48 (F := Ideal) (ix4 e b l i) = (((fun _ _ _ _ => 0 : Fin 2 → Fin 8 → Fin 128 → Fin 512 → ℝ) e b l i : ℝ) : EReal) :=
    fun e b l i => p48 e b l i
  refine (accum_hold (blk_at R t hd') t rfl z).congr (fun e b l i => ?_) (fun _ _ _ => rfl) fun _ _ => rfl
  rw [zero_add, h]
  have hj : jOf t = 0 := Fin.ext h
  rw [hj]
  exact (upto_self 0 fun j => cdq A (hpOf t) j b e l i).symm

include R in
theorem left_next (t : Fin cfg0.N) (h : ¬t.val % 8 = 0) (u : Fin cfg0.N) (hu : u.val + 1 = t.val)
    {s : Vec Ideal S2x8x8x512 .f32 × Acc Ideal} (L : Left A u s) : Left A t (stepAt m c t s) := by
  have hp : hpOf u = hpOf t := Fin.ext (by show u.val / 8 = t.val / 8; omega)
  obtain ⟨Ld, Lh⟩ := L
  rw [hp] at Ld Lh
  refine ⟨Ld, ?_⟩
  refine (accum_hold (blk_at R t Ld) t rfl Lh.dqt).congr (fun e b l i => ?_) (fun _ _ _ => rfl) fun _ _ => rfl
  have e8 : t.val % 8 = u.val % 8 + 1 := by omega
  rw [e8]
  exact (upto_succ 0 (jOf t) (u.val % 8) (fun j => cdq A (hpOf t) j b e l i) (Nat.zero_le _) e8).symm

include R in
theorem left_carry : ∀ (n : ℕ) (hn : n < cfg0.N), Left A ⟨n, hn⟩ (carry m c n hn)
  | 0, hn => left_first R ⟨0, hn⟩ (Nat.zero_mod _)
  | n + 1, hn => by
    by_cases h : (n + 1) % 8 = 0
    · rw [show carry m c (n + 1) hn = startAt m c ⟨n + 1, hn⟩ h from carry_first m c ⟨n + 1, hn⟩ h]
      exact left_first R ⟨n + 1, hn⟩ h
    · rw [show carry m c (n + 1) hn = stepAt m c ⟨n + 1, hn⟩ (carry m c n (Nat.lt_of_succ_lt hn)) from carry_next m c ⟨n + 1, hn⟩ h]
      exact left_next R ⟨n + 1, hn⟩ h ⟨n, Nat.lt_of_succ_lt hn⟩ rfl (left_carry n _)

include R in
theorem left_at (t : Fin cfg0.N) : Left A t (carry m c t.val t.isLt) := left_carry R t.val t.isLt

include R in
theorem left_last (t : Fin cfg0.N) (h : t.val % 8 = 7) (e : Fin 2) (b : Fin 8) (l : Fin 128) (r : Fin 512) :
    (carry m c t.val t.isLt).2.dqt (ix4 e b l r) = ((∑ j, cdq A (hpOf t) j b e l r : ℝ) : EReal) := by
  rw [(left_at R t).h.dqt, h, upto_all 0 _ fun b hb => absurd hb (Nat.not_lt_zero _)]

end Cert.KernelIdeal.Attn

end
-- ==== Proof.Finals.lean ====
/- The five result arrays of the gradient kernel: the gradients over the real numbers. -/
module

public import proofs.«01_k».proof.Proof.Values

@[expose] public section

set_option maxRecDepth 16384

noncomputable section

namespace Cert.KernelIdeal.Attn

open Idealize.ShloMosaic Idealize.ShloMosaic.TcCoe Idealize.ShloMosaic.Tactic
open Idealize.SL Idealize.SL.RA Idealize.SL.Sem
open Idealize.ShloMosaic.Pipeline (Dat Cfg Window)
open Idealize.ShloMosaic.VecWindow Cert.KernelIdeal.Gen Cert.Forget

variable {m : (ℓ : Loc nD τ sig) → Buf (Elt Ideal) ℓ} {c : Dev nD} {A : Args} (R : Real3 m c A)

/-! ## The result arrays -/

/-- The five gradients as arrays. -/
def gDq (A : Args) : S4096x512.Idx → EReal := fun y => ((dq A ⟨(y 1).val / 64, by have : (y 1).val < 512 := (y 1).isLt; omega⟩ (y 0) ⟨(y 1).val % 64, by omega⟩ : ℝ) : EReal)
def gDk (A : Args) : S4096x512.Idx → EReal := fun y => ((dk A ⟨(y 1).val / 64, by have : (y 1).val < 512 := (y 1).isLt; omega⟩ (y 0) ⟨(y 1).val % 64, by omega⟩ : ℝ) : EReal)
def gDv (A : Args) : S4096x512.Idx → EReal := fun y => ((dv A ⟨(y 1).val / 64, by have : (y 1).val < 512 := (y 1).isLt; omega⟩ (y 0) ⟨(y 1).val % 64, by omega⟩ : ℝ) : EReal)
def gDcq (A : Args) : S8x8x1x512.Idx → EReal := fun y => ((dcq A (y 0) (row (y 1) (y 3)) : ℝ) : EReal)
def gDck (A : Args) : S8x4096x1.Idx → EReal := fun y => ((dck A (y 0) (y 1) : ℝ) : EReal)

theorem ix2_eta {a b : ℕ} (y : Shape.Idx ⟨2, ![a, b]⟩) : y = ix2 (y 0) (y 1) := by
  funext k; match k with
  | ⟨0, _⟩ => rfl
  | ⟨1, _⟩ => rfl

/-- A family over heads, tokens and lanes at a pair's lane. -/
theorem pl_at (f : Fin 8 → Fin 4096 → Fin 64 → ℝ) (hp : Fin 4) (l : Fin 128) (s s' : Fin 4096) (y : Fin 512) (hs : s'.val = s.val) (hy : y.val = hp.val * 128 + l.val)
    (h1 : y.val / 64 < 8) (h2 : y.val % 64 < 64) :
    pl hp (fun h d => f h s d) l = f ⟨y.val / 64, h1⟩ s' ⟨y.val % 64, h2⟩ := by
  have e : s' = s := Fin.ext hs
  subst e
  unfold pl
  congr 1
  · exact (show hd hp ⟨l.val / 64, by omega⟩ = ⟨y.val / 64, h1⟩ from Fin.ext (by show 2 * hp.val + l.val / 64 = y.val / 64; omega))
  · exact Fin.ext (by show l.val % 64 = y.val % 64; omega)

theorem ix3_eta {a b d : ℕ} (y : Shape.Idx ⟨3, ![a, b, d]⟩) : y = ix3 (y 0) (y 1) (y 2) := by
  funext k; match k with
  | ⟨0, _⟩ => rfl
  | ⟨1, _⟩ => rfl
  | ⟨2, _⟩ => rfl
theorem ix4_eta {a b d e : ℕ} (y : Shape.Idx ⟨4, ![a, b, d, e]⟩) : y = ix4 (y 0) (y 1) (y 2) (y 3) := by
  funext k; match k with
  | ⟨0, _⟩ => rfl
  | ⟨1, _⟩ => rfl
  | ⟨2, _⟩ => rfl
  | ⟨3, _⟩ => rfl

include R in
theorem dk_block (t : Fin cfg0.N) (i : Fin 512) (l : Fin 128) (z : S4096x512.Idx) (h0 : (z 0).val = t.val % 8 * 512 + i.val)
    (h1 : (z 1).val = t.val / 8 * 128 + l.val) : outDk (carry m c t.val t.isLt).2 (ix2 i l) = gDk A z :=
  (outDk_real (left_at R t).h i l).trans (congrArg _ (pl_at (dk A) (hpOf t) l (row (jOf t) i) (z 0) (z 1) h0 h1 _ _))

include R in
theorem dv_block (t : Fin cfg0.N) (i : Fin 512) (l : Fin 128) (z : S4096x512.Idx) (h0 : (z 0).val = t.val % 8 * 512 + i.val)
    (h1 : (z 1).val = t.val / 8 * 128 + l.val) : outDv (carry m c t.val t.isLt).2 (ix2 i l) = gDv A z :=
  (outDv_real (left_at R t).h i l).trans (congrArg _ (pl_at (dv A) (hpOf t) l (row (jOf t) i) (z 0) (z 1) h0 h1 _ _))

include R in
theorem dck_block (t : Fin cfg0.N) (e : Fin 2) (i : Fin 512) (z : S8x4096x1.Idx) (h0 : (z 0).val = t.val / 8 * 2 + e.val)
    (h1 : (z 1).val = t.val % 8 * 512 + i.val) : outDck (carry m c t.val t.isLt).2 (zeros (F := Ideal) S2x512x1 .f32) (ix3 e i 0) = gDck A z := by
  have e0 : z 0 = hd (hpOf t) e := Fin.ext (by rw [h0]; show _ = 2 * (t.val / 8) + e.val; omega)
  have e1 : z 1 = row (jOf t) i := Fin.ext (by rw [h1]; rfl)
  rw [outDck_real (left_at R t).h _ e i]
  show _ = ((dck A (z 0) (z 1) : ℝ) : EReal)
  rw [e0, e1]

include R in
theorem dq_block (t : Fin cfg0.N) (h : t.val % 8 = 7) (r : Fin 4096) (l : Fin 128) (z : S4096x512.Idx) (h0 : (z 0).val = r.val)
    (h1 : (z 1).val = t.val / 8 * 128 + l.val) : dqAt m c t (ix2 r l) = gDq A z := by
  have e : r = row ⟨r.val / 512, by omega⟩ ⟨r.val % 512, by omega⟩ := Fin.ext (by show r.val = r.val / 512 * 512 + r.val % 512; omega)
  have o := outDq_real (A := A) (hp := hpOf t) (grid0.coords t) ((last_iff t).mpr h) (left_last R t h) ⟨r.val / 512, by omega⟩ ⟨r.val % 512, by omega⟩ l
  rw [← e] at o
  rw [dqAt_last m c t h, o]
  exact congrArg _ (pl_at (dq A) (hpOf t) l r (z 0) (z 1) h0 h1 _ _)

include R in
theorem dcq_block (t : Fin cfg0.N) (h : t.val % 8 = 7) (e : Fin 2) (b : Fin 8) (r : Fin 512) (z : S8x8x1x512.Idx) (h0 : (z 0).val = t.val / 8 * 2 + e.val)
    (h1 : (z 1).val = b.val) (h3 : (z 3).val = r.val) : dcqAt m c t (ix4 e b 0 r) = gDcq A z := by
  have e0 : z 0 = hd (hpOf t) e := Fin.ext (by rw [h0]; show _ = 2 * (t.val / 8) + e.val; omega)
  have e1 : z 1 = b := Fin.ext h1
  have e3 : z 3 = r := Fin.ext h3
  rw [dcqAt_last m c t h, outDcq_real (A := A) (hp := hpOf t) (grid0.coords t) ((last_iff t).mpr h) (left_last R t h)]
  show _ = ((dcq A (z 0) (row (z 1) (z 3)) : ℝ) : EReal)
  rw [e0, e1, e3]

theorem ix3_last {a b : ℕ} (y : Shape.Idx ⟨3, ![a, b, 1]⟩) : y = ix3 (y 0) (y 1) 0 :=
  (ix3_eta y).trans (congrArg (ix3 (y 0) (y 1)) (Subsingleton.elim (α := Fin 1) _ _))
theorem ix4_third {a b d : ℕ} (y : Shape.Idx ⟨4, ![a, b, 1, d]⟩) : y = ix4 (y 0) (y 1) 0 (y 3) :=
  (ix4_eta y).trans (congrArg (fun u => ix4 (y 0) (y 1) u (y 3)) (Subsingleton.elim (α := Fin 1) _ _))

include R in
theorem final7 : (dats m 0 c).arrAt 7 cfg0.N = gDq A := by
  refine (dats m 0 c).arrAt_eq_of_covers 7 _ (by decide +kernel) fun t hf y => ?_
  blk_simp
  rw [after0_7]
  exact (congrArg (dqAt m c t) (ix2_eta (a := 4096) (b := 128) y)).trans (dq_block R t ((flush0_7 t).mp hf) (y 0) (y 1) _ (by blk_simp [idx t] <;> omega) (by blk_simp [idx t] <;> omega))

include R in
theorem final8 : (dats m 0 c).arrAt 8 cfg0.N = gDk A := by
  refine (dats m 0 c).arrAt_eq_of_covers 8 _ (by decide +kernel) fun t hf y => ?_
  blk_simp
  rw [after0_8]
  exact (congrArg (outDk (carry m c t.val t.isLt).2) (ix2_eta (a := 512) (b := 128) y)).trans (dk_block R t (y 0) (y 1) _ (by blk_simp [idx t] <;> omega) (by blk_simp [idx t] <;> omega))

include R in
theorem final9 : (dats m 0 c).arrAt 9 cfg0.N = gDv A := by
  refine (dats m 0 c).arrAt_eq_of_covers 9 _ (by decide +kernel) fun t hf y => ?_
  blk_simp
  rw [after0_9]
  exact (congrArg (outDv (carry m c t.val t.isLt).2) (ix2_eta (a := 512) (b := 128) y)).trans (dv_block R t (y 0) (y 1) _ (by blk_simp [idx t] <;> omega) (by blk_simp [idx t] <;> omega))

include R in
theorem final10 : (dats m 0 c).arrAt 10 cfg0.N = gDcq A := by
  refine (dats m 0 c).arrAt_eq_of_covers 10 _ (by decide +kernel) fun t hf y => ?_
  blk_simp
  rw [after0_10]
  exact (congrArg (dcqAt m c t) (ix4_third (a := 2) (b := 8) (d := 512) y)).trans (dcq_block R t ((flush0_10 t).mp hf) (y 0) (y 1) (y 3) _ (by blk_simp [idx t] <;> omega) (by blk_simp [idx t] <;> omega) (by blk_simp [idx t] <;> omega))

include R in
theorem final11 : (dats m 0 c).arrAt 11 cfg0.N = gDck A := by
  refine (dats m 0 c).arrAt_eq_of_covers 11 _ (by decide +kernel) fun t hf y => ?_
  blk_simp
  rw [after0_11]
  exact (congrArg (outDck (carry m c t.val t.isLt).2 (zeros (F := Ideal) S2x512x1 .f32)) (ix3_last (a := 2) (b := 512) y)).trans (dck_block R t (y 0) (y 1) _ (by blk_simp [idx t] <;> omega) (by blk_simp [idx t] <;> omega))

end Cert.KernelIdeal.Attn

end
-- ==== Proof.Reference.lean ====
/- The reference, line by line: each intermediate array as a function of the three arguments, and its entries over the reals. -/
module

public import proofs.«01_k».proof.Proof.Gen.ReferenceIdeal.Run
public import proofs.«01_k».proof.Proof.Spec
public import Idealize.ShloMosaic.Lib.Pointwise

@[expose] public section

set_option maxRecDepth 16384

noncomputable section

namespace Cert.ReferenceIdeal.Attn

open Idealize.ShloMosaic Idealize.SL.Sem Cert.ReferenceIdeal Cert.ReferenceIdeal.Gen Cert.Forget

/-! ## The lines -/

def r0 (X : FVec Ideal S4096x2048 .bf16) (C : FVec Ideal S8x4096 .f32) (D : FVec Ideal S4096x512 .bf16) : FVec Ideal S4096x512 .bf16 :=
  ((extractStridedSlice S4096x512 ![0, 512] · slices_S4096x2048_S4096x512_0_512)) X
def r1 (X : FVec Ideal S4096x2048 .bf16) (C : FVec Ideal S8x4096 .f32) (D : FVec Ideal S4096x512 .bf16) : FVec Ideal S4096x512 .f32 :=
  ((extf .f32 · bitsLt_bf16_f32)) (r0 X C D)
def r2 (X : FVec Ideal S4096x2048 .bf16) (C : FVec Ideal S8x4096 .f32) (D : FVec Ideal S4096x512 .bf16) : FVec Ideal S4096x512 .bf16 :=
  ((extractStridedSlice S4096x512 ![0, 1024] · slices_S4096x2048_S4096x512_0_1024)) X
def r3 (X : FVec Ideal S4096x2048 .bf16) (C : FVec Ideal S8x4096 .f32) (D : FVec Ideal S4096x512 .bf16) : FVec Ideal S4096x512 .f32 :=
  ((extf .f32 · bitsLt_bf16_f32)) (r2 X C D)
def r4 (X : FVec Ideal S4096x2048 .bf16) (C : FVec Ideal S8x4096 .f32) (D : FVec Ideal S4096x512 .bf16) : FVec Ideal S4096x512 .bf16 :=
  ((extractStridedSlice S4096x512 ![0, 1536] · slices_S4096x2048_S4096x512_0_1536)) X
def r5 (X : FVec Ideal S4096x2048 .bf16) (C : FVec Ideal S8x4096 .f32) (D : FVec Ideal S4096x512 .bf16) : FVec Ideal S4096x512 .f32 :=
  ((extf .f32 · bitsLt_bf16_f32)) (r4 X C D)
def r6 (X : FVec Ideal S4096x2048 .bf16) (C : FVec Ideal S8x4096 .f32) (D : FVec Ideal S4096x512 .bf16) : FVec Ideal S4096x8x64 .f32 :=
  shapeCast _ (r1 X C D) shapeCasts_S4096x512_S4096x8x64
def r7 (X : FVec Ideal S4096x2048 .bf16) (C : FVec Ideal S8x4096 .f32) (D : FVec Ideal S4096x512 .bf16) : FVec Ideal S8x4096x64 .f32 :=
  ((transpose S8x4096x64 [1, 0, 2] · transposes_S4096x8x64_S8x4096x64_1_0_2)) (r6 X C D)
def r8 (X : FVec Ideal S4096x2048 .bf16) (C : FVec Ideal S8x4096 .f32) (D : FVec Ideal S4096x512 .bf16) : FVec Ideal S4096x8x64 .f32 :=
  shapeCast _ (r3 X C D) shapeCasts_S4096x512_S4096x8x64
def r9 (X : FVec Ideal S4096x2048 .bf16) (C : FVec Ideal S8x4096 .f32) (D : FVec Ideal S4096x512 .bf16) : FVec Ideal S8x4096x64 .f32 :=
  ((transpose S8x4096x64 [1, 0, 2] · transposes_S4096x8x64_S8x4096x64_1_0_2)) (r8 X C D)
def r10 (X : FVec Ideal S4096x2048 .bf16) (C : FVec Ideal S8x4096 .f32) (D : FVec Ideal S4096x512 .bf16) : FVec Ideal S8x4096x4096 .f32 :=
  ((fun l r => Host.dotGeneral dot_S8x4096x64_S8x4096x64_S8x4096x4096_2_2_1_1_0_0 none l r)) (r7 X C D) (r9 X C D)
def r_cst (X : FVec Ideal S4096x2048 .bf16) (C : FVec Ideal S8x4096 .f32) (D : FVec Ideal S4096x512 .bf16) : FVec Ideal S_ .f32 :=
  constant S_ .f32 0x3E000000#32
def r11 (X : FVec Ideal S4096x2048 .bf16) (C : FVec Ideal S8x4096 .f32) (D : FVec Ideal S4096x512 .bf16) : FVec Ideal S8x4096x4096 .f32 :=
  (broadcastInDim S8x4096x4096 ![] bcast_S_S8x4096x4096) (r_cst X C D)
def r12 (X : FVec Ideal S4096x2048 .bf16) (C : FVec Ideal S8x4096 .f32) (D : FVec Ideal S4096x512 .bf16) : FVec Ideal S8x4096x4096 .f32 :=
  (mulf) (r10 X C D) (r11 X C D)
def r13 (X : FVec Ideal S4096x2048 .bf16) (C : FVec Ideal S8x4096 .f32) (D : FVec Ideal S4096x512 .bf16) : FVec Ideal S8x4096x1 .f32 :=
  (broadcastInDim S8x4096x1 ![0, 1] bcast_S8x4096_S8x4096x1_0_1) C
def r14 (X : FVec Ideal S4096x2048 .bf16) (C : FVec Ideal S8x4096 .f32) (D : FVec Ideal S4096x512 .bf16) : FVec Ideal S8x4096x4096 .f32 :=
  (broadcastInDim S8x4096x4096 ![0, 1, 2] bcast_S8x4096x1_S8x4096x4096_0_1_2) (r13 X C D)
def r15 (X : FVec Ideal S4096x2048 .bf16) (C : FVec Ideal S8x4096 .f32) (D : FVec Ideal S4096x512 .bf16) : FVec Ideal S8x4096x4096 .f32 :=
  (addf) (r12 X C D) (r14 X C D)
def r16 (X : FVec Ideal S4096x2048 .bf16) (C : FVec Ideal S8x4096 .f32) (D : FVec Ideal S4096x512 .bf16) : FVec Ideal S8x1x4096 .f32 :=
  (broadcastInDim S8x1x4096 ![0, 2] bcast_S8x4096_S8x1x4096_0_2) C
def r17 (X : FVec Ideal S4096x2048 .bf16) (C : FVec Ideal S8x4096 .f32) (D : FVec Ideal S4096x512 .bf16) : FVec Ideal S8x4096x4096 .f32 :=
  (broadcastInDim S8x4096x4096 ![0, 1, 2] bcast_S8x1x4096_S8x4096x4096_0_1_2) (r16 X C D)
def r18 (X : FVec Ideal S4096x2048 .bf16) (C : FVec Ideal S8x4096 .f32) (D : FVec Ideal S4096x512 .bf16) : FVec Ideal S8x4096x4096 .f32 :=
  (subf) (r15 X C D) (r17 X C D)
def r19 (X : FVec Ideal S4096x2048 .bf16) (C : FVec Ideal S8x4096 .f32) (D : FVec Ideal S4096x512 .bf16) : IVec S4096 32 :=
  iotaInDim S4096 32 0
def r20 (X : FVec Ideal S4096x2048 .bf16) (C : FVec Ideal S8x4096 .f32) (D : FVec Ideal S4096x512 .bf16) : IVec S1x4096 32 :=
  (broadcastInDim S1x4096 ![1] bcast_S4096_S1x4096_1) (r19 X C D)
def r21 (X : FVec Ideal S4096x2048 .bf16) (C : FVec Ideal S8x4096 .f32) (D : FVec Ideal S4096x512 .bf16) : IVec S4096x1 32 :=
  (broadcastInDim S4096x1 ![0] bcast_S4096_S4096x1_0) (r19 X C D)
def r22 (X : FVec Ideal S4096x2048 .bf16) (C : FVec Ideal S8x4096 .f32) (D : FVec Ideal S4096x512 .bf16) : IVec S4096x4096 32 :=
  (broadcastInDim S4096x4096 ![0, 1] bcast_S1x4096_S4096x4096_0_1) (r20 X C D)
def r23 (X : FVec Ideal S4096x2048 .bf16) (C : FVec Ideal S8x4096 .f32) (D : FVec Ideal S4096x512 .bf16) : IVec S4096x4096 32 :=
  (broadcastInDim S4096x4096 ![0, 1] bcast_S4096x1_S4096x4096_0_1) (r21 X C D)
def r24 (X : FVec Ideal S4096x2048 .bf16) (C : FVec Ideal S8x4096 .f32) (D : FVec Ideal S4096x512 .bf16) : IVec S4096x4096 1 :=
  (cmpi .sle) (r22 X C D) (r23 X C D)
def r_cst_0 (X : FVec Ideal S4096x2048 .bf16) (C : FVec Ideal S8x4096 .f32) (D : FVec Ideal S4096x512 .bf16) : FVec Ideal S_ .f32 :=
  constant S_ .f32 0xFF800000#32
def r25_1 (X : FVec Ideal S4096x2048 .bf16) (C : FVec Ideal S8x4096 .f32) (D : FVec Ideal S4096x512 .bf16) : IVec S8x4096x4096 1 :=
  broadcastInDim S8x4096x4096 ![1, 2] bcast_S4096x4096_S8x4096x4096_1_2 (r24 X C D)
def r25_0 (X : FVec Ideal S4096x2048 .bf16) (C : FVec Ideal S8x4096 .f32) (D : FVec Ideal S4096x512 .bf16) : FVec Ideal S8x4096x4096 .f32 :=
  select (r25_1 X C D) (r18 X C D) (broadcastInDim S8x4096x4096 ![] bcast_S_S8x4096x4096 (r_cst_0 X C D))
def r25_2 (X : FVec Ideal S4096x2048 .bf16) (C : FVec Ideal S8x4096 .f32) (D : FVec Ideal S4096x512 .bf16) : FVec Ideal S8x4096x4096 .f32 :=
  broadcastInDim S8x4096x4096 ![] bcast_S_S8x4096x4096 (constant S_ .f32 0x00000000#32 : FVec Ideal S_ .f32)
def r_cst_1 (X : FVec Ideal S4096x2048 .bf16) (C : FVec Ideal S8x4096 .f32) (D : FVec Ideal S4096x512 .bf16) : FVec Ideal S_ .f32 :=
  constant S_ .f32 0xFF800000#32
def r26 (X : FVec Ideal S4096x2048 .bf16) (C : FVec Ideal S8x4096 .f32) (D : FVec Ideal S4096x512 .bf16) : FVec Ideal S8x4096 .f32 :=
  ((fun x v => Host.reduce FloatOps.maximumf x v reducesTo_S8x4096x4096_S8x4096_d2 h_S_)) (r25_0 X C D) (r_cst_1 X C D)
def r_cst_3 (X : FVec Ideal S4096x2048 .bf16) (C : FVec Ideal S8x4096 .f32) (D : FVec Ideal S4096x512 .bf16) : FVec Ideal S_ .f32 :=
  constant S_ .f32 0xFF800000#32
def r32 (X : FVec Ideal S4096x2048 .bf16) (C : FVec Ideal S8x4096 .f32) (D : FVec Ideal S4096x512 .bf16) : FVec Ideal S8x4096 .f32 :=
  (broadcastInDim S8x4096 ![] bcast_S_S8x4096) (r_cst_3 X C D)
def r33 (X : FVec Ideal S4096x2048 .bf16) (C : FVec Ideal S8x4096 .f32) (D : FVec Ideal S4096x512 .bf16) : FVec Ideal S8x4096 .f32 :=
  (maximumf) (r32 X C D) (r26 X C D)
def r43 (X : FVec Ideal S4096x2048 .bf16) (C : FVec Ideal S8x4096 .f32) (D : FVec Ideal S4096x512 .bf16) : FVec Ideal S8x4096x1 .f32 :=
  (broadcastInDim S8x4096x1 ![0, 1] bcast_S8x4096_S8x4096x1_0_1) (r33 X C D)
def r44 (X : FVec Ideal S4096x2048 .bf16) (C : FVec Ideal S8x4096 .f32) (D : FVec Ideal S4096x512 .bf16) : FVec Ideal S8x4096x4096 .f32 :=
  (broadcastInDim S8x4096x4096 ![0, 1, 2] bcast_S8x4096x1_S8x4096x4096_0_1_2) (r43 X C D)
def r45 (X : FVec Ideal S4096x2048 .bf16) (C : FVec Ideal S8x4096 .f32) (D : FVec Ideal S4096x512 .bf16) : FVec Ideal S8x4096x4096 .f32 :=
  (subf) (r25_0 X C D) (r44 X C D)
def r46 (X : FVec Ideal S4096x2048 .bf16) (C : FVec Ideal S8x4096 .f32) (D : FVec Ideal S4096x512 .bf16) : FVec Ideal S8x4096x4096 .f32 :=
  (Host.exp) (r45 X C D)
def r_cst_9 (X : FVec Ideal S4096x2048 .bf16) (C : FVec Ideal S8x4096 .f32) (D : FVec Ideal S4096x512 .bf16) : FVec Ideal S_ .f32 :=
  constant S_ .f32 0x00000000#32
def r47 (X : FVec Ideal S4096x2048 .bf16) (C : FVec Ideal S8x4096 .f32) (D : FVec Ideal S4096x512 .bf16) : FVec Ideal S8x4096 .f32 :=
  ((fun x v => Host.reduceAdd x v reducesTo_S8x4096x4096_S8x4096_d2 h_S_)) (r46 X C D) (r_cst_9 X C D)
def r48 (X : FVec Ideal S4096x2048 .bf16) (C : FVec Ideal S8x4096 .f32) (D : FVec Ideal S4096x512 .bf16) : FVec Ideal S8x4096x1 .f32 :=
  (broadcastInDim S8x4096x1 ![0, 1] bcast_S8x4096_S8x4096x1_0_1) (r47 X C D)
def r49 (X : FVec Ideal S4096x2048 .bf16) (C : FVec Ideal S8x4096 .f32) (D : FVec Ideal S4096x512 .bf16) : FVec Ideal S8x4096x4096 .f32 :=
  (broadcastInDim S8x4096x4096 ![0, 1, 2] bcast_S8x4096x1_S8x4096x4096_0_1_2) (r48 X C D)
def r50 (X : FVec Ideal S4096x2048 .bf16) (C : FVec Ideal S8x4096 .f32) (D : FVec Ideal S4096x512 .bf16) : FVec Ideal S8x4096x4096 .f32 :=
  (Host.divf) (r46 X C D) (r49 X C D)
def r51 (X : FVec Ideal S4096x2048 .bf16) (C : FVec Ideal S8x4096 .f32) (D : FVec Ideal S4096x512 .bf16) : FVec Ideal S8x4096x1 .f32 :=
  (mulf) (r48 X C D) (r48 X C D)
def r_cst_10 (X : FVec Ideal S4096x2048 .bf16) (C : FVec Ideal S8x4096 .f32) (D : FVec Ideal S4096x512 .bf16) : FVec Ideal S_ .f32 :=
  constant S_ .f32 0x3F800000#32
def r52 (X : FVec Ideal S4096x2048 .bf16) (C : FVec Ideal S8x4096 .f32) (D : FVec Ideal S4096x512 .bf16) : FVec Ideal S8x4096x1 .f32 :=
  (broadcastInDim S8x4096x1 ![] bcast_S_S8x4096x1) (r_cst_10 X C D)
def r53 (X : FVec Ideal S4096x2048 .bf16) (C : FVec Ideal S8x4096 .f32) (D : FVec Ideal S4096x512 .bf16) : FVec Ideal S8x4096x1 .f32 :=
  (Host.divf) (r52 X C D) (r51 X C D)
def r54 (X : FVec Ideal S4096x2048 .bf16) (C : FVec Ideal S8x4096 .f32) (D : FVec Ideal S4096x512 .bf16) : FVec Ideal S4096x8x64 .f32 :=
  shapeCast _ (r5 X C D) shapeCasts_S4096x512_S4096x8x64
def r55 (X : FVec Ideal S4096x2048 .bf16) (C : FVec Ideal S8x4096 .f32) (D : FVec Ideal S4096x512 .bf16) : FVec Ideal S8x4096x64 .f32 :=
  ((transpose S8x4096x64 [1, 0, 2] · transposes_S4096x8x64_S8x4096x64_1_0_2)) (r54 X C D)
def r59 (X : FVec Ideal S4096x2048 .bf16) (C : FVec Ideal S8x4096 .f32) (D : FVec Ideal S4096x512 .bf16) : FVec Ideal S4096x512 .f32 :=
  ((extf .f32 · bitsLt_bf16_f32)) D
def r60 (X : FVec Ideal S4096x2048 .bf16) (C : FVec Ideal S8x4096 .f32) (D : FVec Ideal S4096x512 .bf16) : FVec Ideal S4096x8x64 .f32 :=
  shapeCast _ (r59 X C D) shapeCasts_S4096x512_S4096x8x64
def r61 (X : FVec Ideal S4096x2048 .bf16) (C : FVec Ideal S8x4096 .f32) (D : FVec Ideal S4096x512 .bf16) : FVec Ideal S8x4096x64 .f32 :=
  ((transpose S8x4096x64 [1, 0, 2] · transposes_S4096x8x64_S8x4096x64_1_0_2)) (r60 X C D)
def r62 (X : FVec Ideal S4096x2048 .bf16) (C : FVec Ideal S8x4096 .f32) (D : FVec Ideal S4096x512 .bf16) : FVec Ideal S8x64x4096 .f32 :=
  ((fun l r => Host.dotGeneral dot_S8x4096x64_S8x4096x4096_S8x64x4096_1_1_2_2_0_0 none l r)) (r61 X C D) (r50 X C D)
def r63 (X : FVec Ideal S4096x2048 .bf16) (C : FVec Ideal S8x4096 .f32) (D : FVec Ideal S4096x512 .bf16) : FVec Ideal S8x4096x64 .f32 :=
  ((transpose S8x4096x64 [0, 2, 1] · transposes_S8x64x4096_S8x4096x64_0_2_1)) (r62 X C D)
def r64 (X : FVec Ideal S4096x2048 .bf16) (C : FVec Ideal S8x4096 .f32) (D : FVec Ideal S4096x512 .bf16) : FVec Ideal S8x4096x4096 .f32 :=
  ((fun l r => Host.dotGeneral dot_S8x4096x64_S8x4096x64_S8x4096x4096_2_2_1_1_0_0 none l r)) (r61 X C D) (r55 X C D)
def r65 (X : FVec Ideal S4096x2048 .bf16) (C : FVec Ideal S8x4096 .f32) (D : FVec Ideal S4096x512 .bf16) : FVec Ideal S4096x8x64 .f32 :=
  ((transpose S4096x8x64 [1, 0, 2] · transposes_S8x4096x64_S4096x8x64_1_0_2)) (r63 X C D)
def r66 (X : FVec Ideal S4096x2048 .bf16) (C : FVec Ideal S8x4096 .f32) (D : FVec Ideal S4096x512 .bf16) : FVec Ideal S4096x512 .f32 :=
  shapeCast _ (r65 X C D) shapeCasts_S4096x8x64_S4096x512
def r67 (X : FVec Ideal S4096x2048 .bf16) (C : FVec Ideal S8x4096 .f32) (D : FVec Ideal S4096x512 .bf16) : FVec Ideal S8x4096x4096 .f32 :=
  (broadcastInDim S8x4096x4096 ![0, 1, 2] bcast_S8x4096x1_S8x4096x4096_0_1_2) (r53 X C D)
def r68 (X : FVec Ideal S4096x2048 .bf16) (C : FVec Ideal S8x4096 .f32) (D : FVec Ideal S4096x512 .bf16) : FVec Ideal S8x4096x4096 .f32 :=
  (mulf) (r64 X C D) (r67 X C D)
def r69 (X : FVec Ideal S4096x2048 .bf16) (C : FVec Ideal S8x4096 .f32) (D : FVec Ideal S4096x512 .bf16) : FVec Ideal S8x4096x4096 .f32 :=
  (mulf) (r68 X C D) (r46 X C D)
def r_cst_11 (X : FVec Ideal S4096x2048 .bf16) (C : FVec Ideal S8x4096 .f32) (D : FVec Ideal S4096x512 .bf16) : FVec Ideal S_ .f32 :=
  constant S_ .f32 0x00000000#32
def r70 (X : FVec Ideal S4096x2048 .bf16) (C : FVec Ideal S8x4096 .f32) (D : FVec Ideal S4096x512 .bf16) : FVec Ideal S8x4096 .f32 :=
  ((fun x v => Host.reduceAdd x v reducesTo_S8x4096x4096_S8x4096_d2 h_S_)) (r69 X C D) (r_cst_11 X C D)
def r71 (X : FVec Ideal S4096x2048 .bf16) (C : FVec Ideal S8x4096 .f32) (D : FVec Ideal S4096x512 .bf16) : FVec Ideal S8x4096x1 .f32 :=
  shapeCast _ (r70 X C D) shapeCasts_S8x4096_S8x4096x1
def r72 (X : FVec Ideal S4096x2048 .bf16) (C : FVec Ideal S8x4096 .f32) (D : FVec Ideal S4096x512 .bf16) : FVec Ideal S8x4096x1 .f32 :=
  (Host.negf) (r71 X C D)
def r73 (X : FVec Ideal S4096x2048 .bf16) (C : FVec Ideal S8x4096 .f32) (D : FVec Ideal S4096x512 .bf16) : FVec Ideal S8x4096x4096 .f32 :=
  (broadcastInDim S8x4096x4096 ![0, 1, 2] bcast_S8x4096x1_S8x4096x4096_0_1_2) (r48 X C D)
def r74 (X : FVec Ideal S4096x2048 .bf16) (C : FVec Ideal S8x4096 .f32) (D : FVec Ideal S4096x512 .bf16) : FVec Ideal S8x4096x4096 .f32 :=
  (Host.divf) (r64 X C D) (r73 X C D)
def r_cst_12 (X : FVec Ideal S4096x2048 .bf16) (C : FVec Ideal S8x4096 .f32) (D : FVec Ideal S4096x512 .bf16) : FVec Ideal S_ .f32 :=
  constant S_ .f32 0x00000000#32
def r75 (X : FVec Ideal S4096x2048 .bf16) (C : FVec Ideal S8x4096 .f32) (D : FVec Ideal S4096x512 .bf16) : FVec Ideal S8x4096 .f32 :=
  ((fun x v => Host.reduceAdd x v reducesTo_S8x4096x1_S8x4096_d2 h_S_)) (r72 X C D) (r_cst_12 X C D)
def r76 (X : FVec Ideal S4096x2048 .bf16) (C : FVec Ideal S8x4096 .f32) (D : FVec Ideal S4096x512 .bf16) : FVec Ideal S8x4096x4096 .f32 :=
  (broadcastInDim S8x4096x4096 ![0, 1] bcast_S8x4096_S8x4096x4096_0_1) (r75 X C D)
def r77 (X : FVec Ideal S4096x2048 .bf16) (C : FVec Ideal S8x4096 .f32) (D : FVec Ideal S4096x512 .bf16) : FVec Ideal S8x4096x4096 .f32 :=
  (addf) (r74 X C D) (r76 X C D)
def r78 (X : FVec Ideal S4096x2048 .bf16) (C : FVec Ideal S8x4096 .f32) (D : FVec Ideal S4096x512 .bf16) : FVec Ideal S8x4096x4096 .f32 :=
  (mulf) (r77 X C D) (r46 X C D)
def r79 (X : FVec Ideal S4096x2048 .bf16) (C : FVec Ideal S8x4096 .f32) (D : FVec Ideal S4096x512 .bf16) : FVec Ideal S8x4096x4096 .f32 :=
  select (r25_1 X C D) (r78 X C D) (broadcastInDim S8x4096x4096 ![] bcast_S_S8x4096x4096 (constant S_ .f32 0x00000000#32 : FVec Ideal S_ .f32))
def r80 (X : FVec Ideal S4096x2048 .bf16) (C : FVec Ideal S8x4096 .f32) (D : FVec Ideal S4096x512 .bf16) : FVec Ideal S8x4096x4096 .f32 :=
  (Host.negf) (r79 X C D)
def r_cst_13 (X : FVec Ideal S4096x2048 .bf16) (C : FVec Ideal S8x4096 .f32) (D : FVec Ideal S4096x512 .bf16) : FVec Ideal S_ .f32 :=
  constant S_ .f32 0x00000000#32
def r81 (X : FVec Ideal S4096x2048 .bf16) (C : FVec Ideal S8x4096 .f32) (D : FVec Ideal S4096x512 .bf16) : FVec Ideal S8x4096 .f32 :=
  ((fun x v => Host.reduceAdd x v reducesTo_S8x4096x4096_S8x4096_d1 h_S_)) (r80 X C D) (r_cst_13 X C D)
def r82 (X : FVec Ideal S4096x2048 .bf16) (C : FVec Ideal S8x4096 .f32) (D : FVec Ideal S4096x512 .bf16) : FVec Ideal S8x1x4096 .f32 :=
  shapeCast _ (r81 X C D) shapeCasts_S8x4096_S8x1x4096
def r_cst_14 (X : FVec Ideal S4096x2048 .bf16) (C : FVec Ideal S8x4096 .f32) (D : FVec Ideal S4096x512 .bf16) : FVec Ideal S_ .f32 :=
  constant S_ .f32 0x00000000#32
def r83 (X : FVec Ideal S4096x2048 .bf16) (C : FVec Ideal S8x4096 .f32) (D : FVec Ideal S4096x512 .bf16) : FVec Ideal S8x4096 .f32 :=
  ((fun x v => Host.reduceAdd x v reducesTo_S8x1x4096_S8x4096_d1 h_S_)) (r82 X C D) (r_cst_14 X C D)
def r_cst_15 (X : FVec Ideal S4096x2048 .bf16) (C : FVec Ideal S8x4096 .f32) (D : FVec Ideal S4096x512 .bf16) : FVec Ideal S_ .f32 :=
  constant S_ .f32 0x00000000#32
def r84 (X : FVec Ideal S4096x2048 .bf16) (C : FVec Ideal S8x4096 .f32) (D : FVec Ideal S4096x512 .bf16) : FVec Ideal S8x4096 .f32 :=
  ((fun x v => Host.reduceAdd x v reducesTo_S8x4096x4096_S8x4096_d2 h_S_)) (r79 X C D) (r_cst_15 X C D)
def r85 (X : FVec Ideal S4096x2048 .bf16) (C : FVec Ideal S8x4096 .f32) (D : FVec Ideal S4096x512 .bf16) : FVec Ideal S8x4096x1 .f32 :=
  shapeCast _ (r84 X C D) shapeCasts_S8x4096_S8x4096x1
def r_cst_16 (X : FVec Ideal S4096x2048 .bf16) (C : FVec Ideal S8x4096 .f32) (D : FVec Ideal S4096x512 .bf16) : FVec Ideal S_ .f32 :=
  constant S_ .f32 0x00000000#32
def r86 (X : FVec Ideal S4096x2048 .bf16) (C : FVec Ideal S8x4096 .f32) (D : FVec Ideal S4096x512 .bf16) : FVec Ideal S8x4096 .f32 :=
  ((fun x v => Host.reduceAdd x v reducesTo_S8x4096x1_S8x4096_d2 h_S_)) (r85 X C D) (r_cst_16 X C D)
def r_cst_17 (X : FVec Ideal S4096x2048 .bf16) (C : FVec Ideal S8x4096 .f32) (D : FVec Ideal S4096x512 .bf16) : FVec Ideal S_ .f32 :=
  constant S_ .f32 0x3E000000#32
def r87 (X : FVec Ideal S4096x2048 .bf16) (C : FVec Ideal S8x4096 .f32) (D : FVec Ideal S4096x512 .bf16) : FVec Ideal S8x4096x4096 .f32 :=
  (broadcastInDim S8x4096x4096 ![] bcast_S_S8x4096x4096) (r_cst_17 X C D)
def r88 (X : FVec Ideal S4096x2048 .bf16) (C : FVec Ideal S8x4096 .f32) (D : FVec Ideal S4096x512 .bf16) : FVec Ideal S8x4096x4096 .f32 :=
  (mulf) (r79 X C D) (r87 X C D)
def r89 (X : FVec Ideal S4096x2048 .bf16) (C : FVec Ideal S8x4096 .f32) (D : FVec Ideal S4096x512 .bf16) : FVec Ideal S8x4096x64 .f32 :=
  ((fun l r => Host.dotGeneral dot_S8x4096x4096_S8x4096x64_S8x4096x64_1_1_2_2_0_0 none l r)) (r88 X C D) (r7 X C D)
def r90 (X : FVec Ideal S4096x2048 .bf16) (C : FVec Ideal S8x4096 .f32) (D : FVec Ideal S4096x512 .bf16) : FVec Ideal S8x4096x64 .f32 :=
  ((fun l r => Host.dotGeneral dot_S8x4096x4096_S8x4096x64_S8x4096x64_2_1_1_2_0_0 none l r)) (r88 X C D) (r9 X C D)
def r91 (X : FVec Ideal S4096x2048 .bf16) (C : FVec Ideal S8x4096 .f32) (D : FVec Ideal S4096x512 .bf16) : FVec Ideal S4096x8x64 .f32 :=
  ((transpose S4096x8x64 [1, 0, 2] · transposes_S8x4096x64_S4096x8x64_1_0_2)) (r89 X C D)
def r92 (X : FVec Ideal S4096x2048 .bf16) (C : FVec Ideal S8x4096 .f32) (D : FVec Ideal S4096x512 .bf16) : FVec Ideal S4096x512 .f32 :=
  shapeCast _ (r91 X C D) shapeCasts_S4096x8x64_S4096x512
def r93 (X : FVec Ideal S4096x2048 .bf16) (C : FVec Ideal S8x4096 .f32) (D : FVec Ideal S4096x512 .bf16) : FVec Ideal S4096x8x64 .f32 :=
  ((transpose S4096x8x64 [1, 0, 2] · transposes_S8x4096x64_S4096x8x64_1_0_2)) (r90 X C D)
def r94 (X : FVec Ideal S4096x2048 .bf16) (C : FVec Ideal S8x4096 .f32) (D : FVec Ideal S4096x512 .bf16) : FVec Ideal S4096x512 .f32 :=
  shapeCast _ (r93 X C D) shapeCasts_S4096x8x64_S4096x512
def r95 (X : FVec Ideal S4096x2048 .bf16) (C : FVec Ideal S8x4096 .f32) (D : FVec Ideal S4096x512 .bf16) : FVec Ideal S4096x512 .bf16 :=
  ((truncf .bf16 · bitsLt_bf16_f32)) (r94 X C D)
def r96 (X : FVec Ideal S4096x2048 .bf16) (C : FVec Ideal S8x4096 .f32) (D : FVec Ideal S4096x512 .bf16) : FVec Ideal S4096x512 .bf16 :=
  ((truncf .bf16 · bitsLt_bf16_f32)) (r92 X C D)
def r97 (X : FVec Ideal S4096x2048 .bf16) (C : FVec Ideal S8x4096 .f32) (D : FVec Ideal S4096x512 .bf16) : FVec Ideal S4096x512 .bf16 :=
  ((truncf .bf16 · bitsLt_bf16_f32)) (r66 X C D)
def r98 (X : FVec Ideal S4096x2048 .bf16) (C : FVec Ideal S8x4096 .f32) (D : FVec Ideal S4096x512 .bf16) : FVec Ideal S8x8x1x512 .f32 :=
  shapeCast _ (r86 X C D) shapeCasts_S8x4096_S8x8x1x512
def r99 (X : FVec Ideal S4096x2048 .bf16) (C : FVec Ideal S8x4096 .f32) (D : FVec Ideal S4096x512 .bf16) : FVec Ideal S8x4096x1 .f32 :=
  shapeCast _ (r83 X C D) shapeCasts_S8x4096_S8x4096x1

/-! ## Their entries -/

variable (A : Args) {X : FVec Ideal S4096x2048 .bf16} {C : FVec Ideal S8x4096 .f32} {D : FVec Ideal S4096x512 .bf16}

/-- The larger of two arrays, at an index. -/
theorem maximumf_at (u v : FVec Ideal S8x4096 .f32) (j : S8x4096.Idx) : maximumf u v j = max (u j) (v j) := rfl

variable (H : Reals A X C D)
include H

theorem e7 (h : Fin 8) (t : Fin 4096) (d : Fin 64) : r7 X C D (ix3 h t d) = (((qv A h t d) : ℝ) : EReal) := by
  have e : r7 X C D (ix3 h t d) = X (ix2 t ⟨512 + (lane h d).val, by omega⟩) := by pointwise [r7, r6, r1, r0]; rfl
  rw [e, H.x]; rfl

theorem e9 (h : Fin 8) (t : Fin 4096) (d : Fin 64) : r9 X C D (ix3 h t d) = (((kv A h t d) : ℝ) : EReal) := by
  have e : r9 X C D (ix3 h t d) = X (ix2 t ⟨1024 + (lane h d).val, by omega⟩) := by pointwise [r9, r8, r3, r2]; rfl
  rw [e, H.x]; rfl

theorem e55 (h : Fin 8) (t : Fin 4096) (d : Fin 64) : r55 X C D (ix3 h t d) = (((vv A h t d) : ℝ) : EReal) := by
  have e : r55 X C D (ix3 h t d) = X (ix2 t ⟨1536 + (lane h d).val, by omega⟩) := by pointwise [r55, r54, r5, r4]; rfl
  rw [e, H.x]; rfl

theorem e61 (h : Fin 8) (t : Fin 4096) (d : Fin 64) : r61 X C D (ix3 h t d) = (((gv A h t d) : ℝ) : EReal) := by
  have e : r61 X C D (ix3 h t d) = D (ix2 t (lane h d)) := by pointwise [r61, r60, r59]; rfl
  rw [e, H.g]; rfl

theorem e18 (h : Fin 8) (t s : Fin 4096) : r18 X C D (ix3 h t s) = (((lg A h t s) : ℝ) : EReal) := by
  have e : r18 X C D (ix3 h t s) = (∑ d, r7 X C D (ix3 h t d) * r9 X C D (ix3 h s d)) * Ideal.ofBits .f32 0x3E000000#32
      + C (ix2 h t) - C (ix2 h s) := by pointwise [r18, r17, r16, r15, r14, r13, r12, r11, r_cst, r10]
  rw [e, ofBits_eighth, H.c, H.c, sum_coe _ (fun d _ => by rw [e7 A H, e9 A H, ← EReal.coe_mul]), ← EReal.coe_mul, ← EReal.coe_add,
    ← EReal.coe_sub]
  rfl

theorem e25_1 (h : Fin 8) (t s : Fin 4096) : r25_1 X C D (ix3 h t s) = if s ≤ t then 1#1 else 0#1 := by
  have e : r25_1 X C D (ix3 h t s) = IntOp.cmpi .sle (BitVec.ofNat 32 s.val) (BitVec.ofNat 32 t.val) := by
    pointwise [r25_1, r24, r23, r22, r21, r20, r19]
  rw [e, sle_eq s.isLt t.isLt]; rfl

theorem e25_0 (h : Fin 8) (t s : Fin 4096) : r25_0 X C D (ix3 h t s) = if s ≤ t then (((lg A h t s) : ℝ) : EReal) else ⊥ := by
  have e : r25_0 X C D (ix3 h t s) = Scalar.select (r25_1 X C D (ix3 h t s)) (r18 X C D (ix3 h t s)) (Ideal.ofBits .f32 0xFF800000#32) := by
    pointwise [r25_0, r_cst_0]
  rw [e, e25_1 A H, e18 A H, ofBits_bot, select_if]

theorem e33 (h : Fin 8) (t : Fin 4096) : r33 X C D (ix2 h t) = (((mx A h t) : ℝ) : EReal) := by
  have e32 : r32 X C D (ix2 h t) = Ideal.ofBits .f32 0xFF800000#32 := by pointwise [r32, r_cst_3]
  have e26 : r26 X C D (ix2 h t) = Finset.fold max (Ideal.ofBits .f32 0xFF800000#32) (fun s => r25_0 X C D (ix3 h t s)) Finset.univ := by
    pointwise [r26, r_cst_1]
  have hf : (fun s => r25_0 X C D (ix3 h t s)) = fun s => if s ≤ t then ((lg A h t s : ℝ) : EReal) else ⊥ := funext fun s => e25_0 A H h t s
  rw [hf, ofBits_bot, fold_max] at e26
  rw [r33, maximumf_at, e32, e26, ofBits_bot, max_eq_right bot_le, mx]

theorem e46 (h : Fin 8) (t s : Fin 4096) : r46 X C D (ix3 h t s) = (((ev A h t s) : ℝ) : EReal) := by
  have e : r46 X C D (ix3 h t s) = Ideal.exp (r25_0 X C D (ix3 h t s) - r33 X C D (ix2 h t)) := by
    pointwise [r46, r45, r44, r43]
  rw [e, e25_0 A H, e33 A H]
  unfold ev
  split
  · rw [← EReal.coe_sub, Ideal.exp_coe]
  · rw [EReal.bot_sub, Ideal.exp_bot, EReal.coe_zero]

theorem e48 (h : Fin 8) (t : Fin 4096) : r48 X C D (ix3 h t 0) = (((zs A h t) : ℝ) : EReal) := by
  have e : r48 X C D (ix3 h t 0) = 0 + ∑ s, r46 X C D (ix3 h t s) := by pointwise [r48, r47, r_cst_9]
  rw [e, zero_add, sum_coe _ (fun s _ => e46 A H h t s)]; rfl

theorem e50 (h : Fin 8) (t s : Fin 4096) : r50 X C D (ix3 h t s) = (((pr A h t s) : ℝ) : EReal) := by
  have e : r50 X C D (ix3 h t s) = Ideal.div (r46 X C D (ix3 h t s)) (r48 X C D (ix3 h t 0)) := by pointwise [r50, r49]
  rw [e, e46 A H, e48 A H, div_real (zs_pos A h t).ne']; rfl

theorem e64 (h : Fin 8) (t s : Fin 4096) : r64 X C D (ix3 h t s) = (((dp A h t s) : ℝ) : EReal) := by
  have e : r64 X C D (ix3 h t s) = ∑ d, r61 X C D (ix3 h t d) * r55 X C D (ix3 h s d) := by pointwise [r64]
  rw [e, sum_coe _ (fun d _ => by rw [e61 A H, e55 A H, ← EReal.coe_mul])]; rfl

theorem e75 (h : Fin 8) (t : Fin 4096) : r75 X C D (ix2 h t) = (((-(dl A h t / zs A h t)) : ℝ) : EReal) := by
  have e : r75 X C D (ix2 h t) = 0 + ∑ x : Fin 1, -(0 + ∑ s, r64 X C D (ix3 h t s)
      * Ideal.div 1 (r48 X C D (ix3 h t 0) * r48 X C D (ix3 h t 0)) * r46 X C D (ix3 h t s)) := by
    pointwise [r75, r_cst_12, r72, r71, r70, r_cst_11, r69, r68, r67, r53, r52, r_cst_10, r51]
  have hz := (zs_pos A h t).ne'
  have hd : Ideal.div 1 (r48 X C D (ix3 h t 0) * r48 X C D (ix3 h t 0)) = ((1 / (zs A h t * zs A h t) : ℝ) : EReal) := by
    rw [e48 A H, ← EReal.coe_mul, ← EReal.coe_one, div_real (mul_ne_zero hz hz)]
  rw [e, hd, Fin.sum_univ_one, zero_add, zero_add,
    sum_coe _ (fun s _ => by rw [e64 A H, e46 A H, ← EReal.coe_mul, ← EReal.coe_mul]), ← EReal.coe_neg]
  congr 2
  rw [← sum_pr_dp, Finset.sum_div]
  refine Finset.sum_congr rfl fun s _ => ?_
  unfold pr
  field_simp

theorem e79 (h : Fin 8) (t s : Fin 4096) : r79 X C D (ix3 h t s) = (((ds A h t s) : ℝ) : EReal) := by
  have e : r79 X C D (ix3 h t s) = Scalar.select (r25_1 X C D (ix3 h t s))
      ((Ideal.div (r64 X C D (ix3 h t s)) (r48 X C D (ix3 h t 0)) + r75 X C D (ix2 h t)) * r46 X C D (ix3 h t s)) 0 := by
    pointwise [r79, r78, r77, r76, r74, r73]
  have hz := (zs_pos A h t).ne'
  rw [e, e25_1 A H, e64 A H, e48 A H, e75 A H, e46 A H, select_if, div_real hz, ← EReal.coe_add, ← EReal.coe_mul]
  split
  · congr 1
    unfold ds pr
    field_simp
    ring
  · rename_i hs
    rw [ds_of_gt A h hs, EReal.coe_zero]

theorem e86 (h : Fin 8) (t : Fin 4096) : r86 X C D (ix2 h t) = (((dcq A h t) : ℝ) : EReal) := by
  have e : r86 X C D (ix2 h t) = 0 + ∑ x : Fin 1, (0 + ∑ s, r79 X C D (ix3 h t s)) := by
    pointwise [r86, r_cst_16, r85, r84, r_cst_15]
  rw [e, Fin.sum_univ_one, zero_add, zero_add, sum_coe _ (fun s _ => e79 A H h t s)]; rfl

theorem e83 (h : Fin 8) (s : Fin 4096) : r83 X C D (ix2 h s) = (((dck A h s) : ℝ) : EReal) := by
  have e : r83 X C D (ix2 h s) = 0 + ∑ x : Fin 1, (0 + ∑ t, -r79 X C D (ix3 h t s)) := by
    pointwise [r83, r_cst_14, r82, r81, r_cst_13, r80]
  rw [e, Fin.sum_univ_one, zero_add, zero_add, sum_coe _ (fun t _ => by rw [e79 A H h t s, ← EReal.coe_neg])]
  unfold dck
  rw [Finset.sum_neg_distrib]

theorem e88 (h : Fin 8) (t s : Fin 4096) : r88 X C D (ix3 h t s) = (((ds A h t s * (1 / 8)) : ℝ) : EReal) := by
  have e : r88 X C D (ix3 h t s) = r79 X C D (ix3 h t s) * Ideal.ofBits .f32 0x3E000000#32 := by pointwise [r88, r87, r_cst_17]
  rw [e, e79 A H, ofBits_eighth, ← EReal.coe_mul]

theorem e90 (h : Fin 8) (t : Fin 4096) (d : Fin 64) : r90 X C D (ix3 h t d) = (((dq A h t d) : ℝ) : EReal) := by
  have e : r90 X C D (ix3 h t d) = ∑ x, r88 X C D (ix3 h t x) * r9 X C D (ix3 h x d) := by pointwise [r90]
  rw [e, sum_coe _ (fun x _ => by rw [e88 A H, e9 A H, ← EReal.coe_mul])]
  congr 1
  unfold dq
  rw [Finset.sum_mul]
  exact Finset.sum_congr rfl fun x _ => by ring

theorem e95 (h : Fin 8) (t : Fin 4096) (d : Fin 64) : r95 X C D (ix2 t (lane h d)) = (((dq A h t d) : ℝ) : EReal) := by
  have e : r95 X C D (ix2 t (lane h d)) = r90 X C D (ix3 (⟨(lane h d).val / 64, by omega⟩ : Fin 8) t (⟨(lane h d).val % 64, by omega⟩ : Fin 64)) := by
    pointwise [r95, r94, r93]
  have h1 : (⟨(lane h d).val / 64, by omega⟩ : Fin 8) = h := Fin.ext (by unfold lane; simp only []; omega)
  have h2 : (⟨(lane h d).val % 64, by omega⟩ : Fin 64) = d := Fin.ext (by unfold lane; simp only []; omega)
  rw [e, h1, h2, e90 A H]

theorem e89 (h : Fin 8) (t : Fin 4096) (d : Fin 64) : r89 X C D (ix3 h t d) = (((dk A h t d) : ℝ) : EReal) := by
  have e : r89 X C D (ix3 h t d) = ∑ x, r88 X C D (ix3 h x t) * r7 X C D (ix3 h x d) := by pointwise [r89]
  rw [e, sum_coe _ (fun x _ => by rw [e88 A H, e7 A H, ← EReal.coe_mul])]
  congr 1
  unfold dk
  exact Finset.sum_congr rfl fun x _ => by ring

theorem e96 (h : Fin 8) (t : Fin 4096) (d : Fin 64) : r96 X C D (ix2 t (lane h d)) = (((dk A h t d) : ℝ) : EReal) := by
  have e : r96 X C D (ix2 t (lane h d)) = r89 X C D (ix3 (⟨(lane h d).val / 64, by omega⟩ : Fin 8) t (⟨(lane h d).val % 64, by omega⟩ : Fin 64)) := by
    pointwise [r96, r92, r91]
  have h1 : (⟨(lane h d).val / 64, by omega⟩ : Fin 8) = h := Fin.ext (by unfold lane; simp only []; omega)
  have h2 : (⟨(lane h d).val % 64, by omega⟩ : Fin 64) = d := Fin.ext (by unfold lane; simp only []; omega)
  rw [e, h1, h2, e89 A H]

theorem e62 (h : Fin 8) (t : Fin 4096) (d : Fin 64) : r62 X C D (ix3 h d t) = (((dv A h t d) : ℝ) : EReal) := by
  have e : r62 X C D (ix3 h d t) = ∑ x, r61 X C D (ix3 h x d) * r50 X C D (ix3 h x t) := by pointwise [r62]
  rw [e, sum_coe _ (fun x _ => by rw [e61 A H, e50 A H, ← EReal.coe_mul])]
  congr 1
  unfold dv
  exact Finset.sum_congr rfl fun x _ => by ring

theorem e97 (h : Fin 8) (t : Fin 4096) (d : Fin 64) : r97 X C D (ix2 t (lane h d)) = (((dv A h t d) : ℝ) : EReal) := by
  have e : r97 X C D (ix2 t (lane h d)) = r62 X C D (ix3 (⟨(lane h d).val / 64, by omega⟩ : Fin 8) (⟨(lane h d).val % 64, by omega⟩ : Fin 64) t) := by
    pointwise [r97, r66, r65, r63]
  have h1 : (⟨(lane h d).val / 64, by omega⟩ : Fin 8) = h := Fin.ext (by unfold lane; simp only []; omega)
  have h2 : (⟨(lane h d).val % 64, by omega⟩ : Fin 64) = d := Fin.ext (by unfold lane; simp only []; omega)
  rw [e, h1, h2, e62 A H]

theorem e98 (h j : Fin 8) (i : Fin 512) : r98 X C D (ix4 h j 0 i) = (((dcq A h ⟨j.val * 512 + i.val, by omega⟩) : ℝ) : EReal) := by
  have e : r98 X C D (ix4 h j 0 i) = r86 X C D (ix2 h ⟨j.val * 512 + i.val, by omega⟩) := by pointwise [r98]
  rw [e, e86 A H]

theorem e99 (h : Fin 8) (s : Fin 4096) : r99 X C D (ix3 h s 0) = (((dck A h s) : ℝ) : EReal) := by
  have e : r99 X C D (ix3 h s 0) = r83 X C D (ix2 h s) := by pointwise [r99]
  rw [e, e83 A H]

omit H

/-! ## The results of the run -/

theorem res_main_v95_eq (m : (ℓ : Loc nD τ sig) → Buf (Elt Ideal) ℓ) (c : Dev nD) :
    Value.res_main_v95 m c = r95 (m ((c.tc : Thread nD τ).loc main_arg0)) (m ((c.tc : Thread nD τ).loc main_arg1))
      (m ((c.tc : Thread nD τ).loc main_arg2)) := rfl

theorem res_main_v96_eq (m : (ℓ : Loc nD τ sig) → Buf (Elt Ideal) ℓ) (c : Dev nD) :
    Value.res_main_v96 m c = r96 (m ((c.tc : Thread nD τ).loc main_arg0)) (m ((c.tc : Thread nD τ).loc main_arg1))
      (m ((c.tc : Thread nD τ).loc main_arg2)) := rfl

theorem res_main_v97_eq (m : (ℓ : Loc nD τ sig) → Buf (Elt Ideal) ℓ) (c : Dev nD) :
    Value.res_main_v97 m c = r97 (m ((c.tc : Thread nD τ).loc main_arg0)) (m ((c.tc : Thread nD τ).loc main_arg1))
      (m ((c.tc : Thread nD τ).loc main_arg2)) := rfl

theorem res_main_v98_eq (m : (ℓ : Loc nD τ sig) → Buf (Elt Ideal) ℓ) (c : Dev nD) :
    Value.res_main_v98 m c = r98 (m ((c.tc : Thread nD τ).loc main_arg0)) (m ((c.tc : Thread nD τ).loc main_arg1))
      (m ((c.tc : Thread nD τ).loc main_arg2)) := rfl

theorem res_main_v99_eq (m : (ℓ : Loc nD τ sig) → Buf (Elt Ideal) ℓ) (c : Dev nD) :
    Value.res_main_v99 m c = r99 (m ((c.tc : Thread nD τ).loc main_arg0)) (m ((c.tc : Thread nD τ).loc main_arg1))
      (m ((c.tc : Thread nD τ).loc main_arg2)) := rfl

end Cert.ReferenceIdeal.Attn

end
-- ==== Proof.Finite.lean ====
/- The precondition, read: every entry of the three argument arrays is a real number. -/
module

public import proofs.«01_k».proof.Pre_finite_inputs
public import proofs.«01_k».proof.Proof.Spec
public import Idealize.ShloMosaic.Lib.Pointwise

@[expose] public section

set_option maxRecDepth 16384

noncomputable section

namespace Cert.Forget

open Idealize.ShloMosaic

/-- The side conditions of the precondition's operations. -/
theorem preFacts : Cert.Pre_finite_inputs.Facts :=
  { bitsLt_bf16_f32 := by decide
    transposes_S8x4096_S4096x8_1_0 := by decide
    concatenates_S4096x2048_S4096x512_S4096x8_S4096x2568_d1 := by decide
    bcast_S_S4096x2568 := by decide }

/-- An extended real whose absolute value is below infinity is its own real part. -/
theorem real_of_abs_lt {x : EReal} (h : max x (-x) < ⊤) : x = ((x.toReal : ℝ) : EReal) := by
  refine (EReal.coe_toReal (fun e => ?_) (fun e => ?_)).symm
  · rw [e] at h; exact absurd h (by simp)
  · rw [e] at h; exact absurd h (by simp)

/-- The comparison's word is one only at a real number. -/
theorem real_of_word {φ : FTy} {v : Ideal φ}
    (h : BitVec.ofBool (decide ((FloatOps.absf v : EReal) < Ideal.ofBits FTy.f32 0x7F800000#32)) = 1#1) : v = ((EReal.toReal v : ℝ) : EReal) := by
  have htop : Ideal.ofBits .f32 0x7F800000#32 = ⊤ := by simp [Ideal.ofBits, Ideal.ieee]
  refine real_of_abs_lt ?_
  by_contra n
  rw [htop, show decide ((FloatOps.absf v : EReal) < ⊤) = false from decide_eq_false n] at h
  exact absurd h (by decide)

section
variable {X : FVec Ideal ⟨2, ![4096, 2048]⟩ .bf16} {C : FVec Ideal ⟨2, ![8, 4096]⟩ .f32} {D : FVec Ideal ⟨2, ![4096, 512]⟩ .bf16}

/-- The real parts of the arguments. -/
def argsOf (X : FVec Ideal ⟨2, ![4096, 2048]⟩ .bf16) (C : FVec Ideal ⟨2, ![8, 4096]⟩ .f32) (D : FVec Ideal ⟨2, ![4096, 512]⟩ .bf16) : Args where
  x t j := EReal.toReal (X (ix2 t j))
  c h t := EReal.toReal (C (ix2 h t))
  g t j := EReal.toReal (D (ix2 t j))

variable (H : (letI := preFacts; Cert.Pre_finite_inputs.fn (F := Ideal) X C D) = fun _ => 1#1)

include H in
theorem x_real (t : Fin 4096) (j : Fin 2048) : X (ix2 t j) = ((EReal.toReal (X (ix2 t j)) : ℝ) : EReal) := by
  have := congrFun H (ix2 t ⟨j.val, by omega⟩)
  pointwise [Cert.Pre_finite_inputs.fn] at this
  exact real_of_word this

include H in
theorem g_real (t : Fin 4096) (j : Fin 512) : D (ix2 t j) = ((EReal.toReal (D (ix2 t j)) : ℝ) : EReal) := by
  have := congrFun H (ix2 t ⟨2048 + j.val, by omega⟩)
  pointwise [Cert.Pre_finite_inputs.fn] at this
  exact real_of_word this

include H in
theorem c_real (h : Fin 8) (t : Fin 4096) : C (ix2 h t) = ((EReal.toReal (C (ix2 h t)) : ℝ) : EReal) := by
  have := congrFun H (ix2 t ⟨2560 + h.val, by omega⟩)
  pointwise [Cert.Pre_finite_inputs.fn] at this
  rw [dif_neg (by omega), dif_neg (by omega)] at this
  have e : (⟨2560 + h.val - 2048 - 512, by omega⟩ : Fin 8) = h := Fin.ext (by show 2560 + h.val - 2048 - 512 = h.val; omega)
  exact real_of_word (e ▸ this)

include H in
/-- Under the precondition the arguments are their real parts. -/
theorem reals_of_pre : Reals (argsOf X C D) X C D := ⟨x_real H, c_real H, g_real H⟩

end

end Cert.Forget

end
-- ==== Proof.Algebraic.lean ====
/- The gradient kernel and its reference compute the same five arrays over the extended reals. -/
module

public import proofs.«01_k».proof.Defs
public import proofs.«01_k».proof.Proof.Finals
public import proofs.«01_k».proof.Proof.Reference
public import proofs.«01_k».proof.Proof.Finite
public import proofs.«01_k».proof.Proof.Gen.ReferenceIdeal.Run
public import Idealize.ShloMosaic.Adequacy

@[expose] public section

set_option maxRecDepth 16384

noncomputable section

/-! ## The reference's five arrays -/

namespace Cert.ReferenceIdeal.Attn

open Idealize.ShloMosaic Idealize.SL.Sem Cert.ReferenceIdeal Cert.ReferenceIdeal.Gen Cert.Forget
open Cert.KernelIdeal.Attn (gDq gDk gDv gDcq gDck ix2_eta ix3_last ix4_third)

variable {A : Args} {X : FVec Ideal S4096x2048 .bf16} {C : FVec Ideal S8x4096 .f32} {D : FVec Ideal S4096x512 .bf16} (H : Reals A X C D)

/-- A column of the heads' array is a lane of its head. -/
theorem at_lane (y : S4096x512.Idx) : y = ix2 (y 0) (lane ⟨(y 1).val / 64, by have : (y 1).val < 512 := (y 1).isLt; omega⟩ ⟨(y 1).val % 64, by omega⟩) :=
  (ix2_eta (a := 4096) (b := 512) y).trans (congrArg (fun u : Fin 512 => (ix2 (y 0) u : S4096x512.Idx)) (Fin.ext (by show (y 1).val = (y 1).val / 64 * 64 + (y 1).val % 64; omega)))

include H in
theorem r95_eq : r95 X C D = gDq A := funext fun y => (congrArg (r95 X C D) (at_lane y)).trans (e95 A H _ _ _)
include H in
theorem r96_eq : r96 X C D = gDk A := funext fun y => (congrArg (r96 X C D) (at_lane y)).trans (e96 A H _ _ _)
include H in
theorem r97_eq : r97 X C D = gDv A := funext fun y => (congrArg (r97 X C D) (at_lane y)).trans (e97 A H _ _ _)
include H in
theorem r98_eq : r98 X C D = gDcq A := funext fun y =>
  (congrArg (r98 X C D) (ix4_third (a := 8) (b := 8) (d := 512) y)).trans (e98 A H (y 0) (y 1) (y 3))
include H in
theorem r99_eq : r99 X C D = gDck A := funext fun y =>
  (congrArg (r99 X C D) (ix3_last (a := 8) (b := 4096) y)).trans (e99 A H (y 0) (y 1))

end Cert.ReferenceIdeal.Attn

/-! ## The kernel's run -/

namespace Cert.KernelIdeal.Attn

open Idealize.ShloMosaic Idealize.ShloMosaic.TcCoe
open Idealize.SL Idealize.SL.RA Idealize.SL.Sem
open Cert.KernelIdeal.Gen Cert.Forget

variable (m : (ℓ : Loc nD τ sig) → Buf (Elt Ideal) ℓ) (ρ : Dev nD → PrngReg) (A : Dev nD → Args)

/-- What a run leaves in the five result arrays: each window's array after the last grid point. -/
theorem results_of (dats : (p : Fin 1) → (c : Dev nD) → Idealize.ShloMosaic.Pipeline.Dat τ (Elt Ideal) Unit ℕ (UR sig nD τ) ℕ (cfgs p) c)
    (h : θ_run defs (onTc (τ := τ) (main (F := Ideal))) (s₀ m ρ) (Pipeline.FramePost cfgs dats 0 (V m))) :
    θ_run defs (onTc (τ := τ) (main (F := Ideal))) ⟨m, fun _ => 0, ρ⟩ (fun r => ∀ c : Dev nD,
      r.2.mem ((c.tc : Thread nD τ).loc main_v76_0) = (dats 0 c).arrAt 7 cfg0.N
      ∧ r.2.mem ((c.tc : Thread nD τ).loc main_v76_1) = (dats 0 c).arrAt 8 cfg0.N
      ∧ r.2.mem ((c.tc : Thread nD τ).loc main_v76_2) = (dats 0 c).arrAt 9 cfg0.N
      ∧ r.2.mem ((c.tc : Thread nD τ).loc main_v76_3) = (dats 0 c).arrAt 10 cfg0.N
      ∧ r.2.mem ((c.tc : Thread nD τ).loc main_v76_4) = (dats 0 c).arrAt 11 cfg0.N) :=
  (θ_run defs _ _).mono (fun _ h c => ⟨(h c).1 7, (h c).1 8, (h c).1 9, (h c).1 10, (h c).1 11⟩) h

/-- From arguments that are real arrays the kernel ends with the five gradients and its arguments unchanged. -/
theorem value_run (R : ∀ c : Dev nD, Real3 m c (A c)) :
    θ_run defs (onTc (τ := τ) (main (F := Ideal))) ⟨m, fun _ => 0, ρ⟩ (fun r => ∀ c : Dev nD,
      r.2.mem ((c.tc : Thread nD τ).loc main_v76_0) = gDq (A c)
      ∧ r.2.mem ((c.tc : Thread nD τ).loc main_v76_1) = gDk (A c)
      ∧ r.2.mem ((c.tc : Thread nD τ).loc main_v76_2) = gDv (A c)
      ∧ r.2.mem ((c.tc : Thread nD τ).loc main_v76_3) = gDcq (A c)
      ∧ r.2.mem ((c.tc : Thread nD τ).loc main_v76_4) = gDck (A c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono
    (fun r h c => by
      obtain ⟨h7, h8, h9, h10, h11⟩ := h.1 c
      rw [final7 (R c)] at h7; rw [final8 (R c)] at h8; rw [final9 (R c)] at h9
      rw [final10 (R c)] at h10; rw [final11 (R c)] at h11
      exact ⟨h7, h8, h9, h10, h11, h.2 c⟩)
    (θ_run_and (results_of m ρ (dats m) (run_main m ρ)) (frame_of m ρ (dats m) (A_eq m) (run_main m ρ)))

end Cert.KernelIdeal.Attn

/-! ## The claim -/

namespace Cert.Proof

open Idealize.ShloMosaic Idealize.SL.Sem Cert.Forget

/-- From finite arguments the two programs end with equal results. -/
theorem algebraic : letI := preFacts; Cert.algebraic_KernelIdeal_ReferenceIdeal_pre_finite_inputs := by
  letI := preFacts
  intro m ρ m' ρ' hpre hag
  have R : ∀ c, Cert.KernelIdeal.Attn.Real3 m c (argsOf (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))) := fun c => reals_of_pre (hpre c)
  have R' : ∀ c : Dev Cert.KernelIdeal.nD, Reals (argsOf (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)))
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) := fun c => by
    rw [(hag c).1, (hag c).2.1, (hag c).2.2]
    exact R c
  refine ⟨_, _, _, _, _, Cert.KernelIdeal.Attn.value_run m ρ _ R, ?_⟩
  refine (θ_run Cert.ReferenceIdeal.defs _ _).mono (fun r h c => ?_) (Cert.ReferenceIdeal.Value.run (F := Ideal) m' ρ')
  obtain ⟨h0, h1, h2, h3, h4, ha⟩ := h c
  exact ⟨h0.trans ((Cert.ReferenceIdeal.Attn.res_main_v95_eq m' c).trans (Cert.ReferenceIdeal.Attn.r95_eq (R' c))),
    h1.trans ((Cert.ReferenceIdeal.Attn.res_main_v96_eq m' c).trans (Cert.ReferenceIdeal.Attn.r96_eq (R' c))),
    h2.trans ((Cert.ReferenceIdeal.Attn.res_main_v97_eq m' c).trans (Cert.ReferenceIdeal.Attn.r97_eq (R' c))),
    h3.trans ((Cert.ReferenceIdeal.Attn.res_main_v98_eq m' c).trans (Cert.ReferenceIdeal.Attn.r98_eq (R' c))),
    h4.trans ((Cert.ReferenceIdeal.Attn.res_main_v99_eq m' c).trans (Cert.ReferenceIdeal.Attn.r99_eq (R' c))), ha⟩

end Cert.Proof

end
-- ==== Proof.Blocks.lean ====
/- Sums accumulated block by block, and the reads and writes of whole blocks. -/
module

public import Mathlib.Algebra.BigOperators.Fin
public import Mathlib.Data.EReal.Operations
public import Idealize.ShloMosaic.Lib.Pipeline.ValueKit
public import Idealize.ShloMosaic.Lib.VecWindow
public import Idealize.ShloMosaic.Lib.WholeRead

@[expose] public section

noncomputable section

namespace Cert.Blocks

/-- An accumulator that is cleared at the first point of each run of `P` points, and to which each point adds a term,
    holds the sum of the terms of its run up to the point. -/
theorem acc_eq_sum {N P : ℕ} (hP : 0 < P) (S : (n : ℕ) → n < N → EReal) (q : ℕ) (g : ℕ → EReal)
    (h0 : ∀ n h, n / P = q → n % P = 0 → S n h = 0 + g 0)
    (hs : ∀ n h, n / P = q → ¬n % P = 0 → S n h = S (n - 1) (Nat.lt_of_le_of_lt (Nat.sub_le _ _) h) + g (n % P)) :
    ∀ (k n : ℕ) (h : n < N), n / P = q → n % P = k → S n h = ∑ i ∈ Finset.range (k + 1), g i := by
  intro k
  induction k with
  | zero => intro n h hq hk; rw [h0 n h hq hk, Finset.sum_range_one, zero_add]
  | succ k ih =>
    intro n h hq hk
    have hd := Nat.div_add_mod n P
    have hk' : k + 1 < P := hk ▸ Nat.mod_lt n hP
    have e : n - 1 = P * q + k := by rw [hq, hk] at hd; omega
    rw [hs n h hq (by omega), hk, ih (n - 1) _ (by rw [e, Nat.mul_add_div (by omega), Nat.div_eq_of_lt (by omega), Nat.add_zero])
      (by rw [e, Nat.mul_add_mod, Nat.mod_eq_of_lt (by omega)]), Finset.sum_range_succ g (k + 1)]

/-- A sum over all rows, block by block. -/
theorem sum_blocks {m n N : ℕ} (hN : m * n = N) (h : 0 < N) (f : Fin N → EReal) :
    ∑ k ∈ Finset.range m, ∑ j : Fin n, f ⟨(k * n + j.val) % N, Nat.mod_lt _ h⟩ = ∑ i, f i := by
  subst hN
  rw [Finset.sum_range, ← Fintype.sum_prod_type', ← Equiv.sum_comp finProdFinEquiv]
  refine Finset.sum_congr rfl fun x _ => congrArg f (Fin.ext ?_)
  obtain ⟨k, j⟩ := x
  show (k.val * n + j.val) % (m * n) = j.val + n * k.val
  have : k.val * n + j.val < m * n := by nlinarith [k.isLt, j.isLt, Nat.mul_le_mul_right n (Nat.succ_le_of_lt k.isLt)]
  rw [Nat.mod_eq_of_lt this, Nat.mul_comm, Nat.add_comm]

/-- Row `j` of block `k`, of blocks of `n` rows. -/
abbrev rowOf {N n : ℕ} (h : 0 < N) (k : ℕ) (j : Fin n) : Fin N := ⟨(k * n + j.val) % N, Nat.mod_lt _ h⟩

theorem rowOf_eq {N n : ℕ} (h : 0 < N) (k : ℕ) (j : Fin n) (hk : k * n + j.val < N) : rowOf h k j = ⟨k * n + j.val, hk⟩ :=
  Fin.ext (Nat.mod_eq_of_lt hk)

/-- An accumulator that is cleared at the first point of a run and to which each point of the run adds the terms of one block of
    rows holds, at the run's last point, the sum over all rows. -/
theorem run_sum {T P n N : ℕ} (hN : P * n = N) (h : 0 < N) (S : (t : ℕ) → t < T → EReal) (q : ℕ) (term : Fin N → EReal)
    (h0 : ∀ t ht, t / P = q → t % P = 0 → S t ht = 0 + ∑ j : Fin n, term (rowOf h (t % P) j))
    (hs : ∀ t ht, t / P = q → ¬t % P = 0 →
      S t ht = S (t - 1) (Nat.lt_of_le_of_lt (Nat.sub_le _ _) ht) + ∑ j : Fin n, term (rowOf h (t % P) j))
    (t : ℕ) (ht : t < T) (hq : t / P = q) (hl : t % P = P - 1) : S t ht = ∑ i, term i := by
  have hP : 0 < P := Nat.pos_of_ne_zero fun e => by subst e; omega
  rw [acc_eq_sum hP S q (fun k => ∑ j : Fin n, term (rowOf h k j)) (fun t ht hq e => by rw [h0 t ht hq e, e]) hs (P - 1) t ht hq hl,
    Nat.sub_add_cancel hP]
  exact sum_blocks hN h term

/-- The same with the terms of each point already summed: the sum over the run's points. -/
theorem run_total {T P : ℕ} (hP : 0 < P) (S : (t : ℕ) → t < T → EReal) (q : ℕ) (g : ℕ → EReal)
    (h0 : ∀ t ht, t / P = q → t % P = 0 → S t ht = 0 + g (t % P))
    (hs : ∀ t ht, t / P = q → ¬t % P = 0 → S t ht = S (t - 1) (Nat.lt_of_le_of_lt (Nat.sub_le _ _) ht) + g (t % P))
    (t : ℕ) (ht : t < T) (hq : t / P = q) (hl : t % P = P - 1) : S t ht = ∑ a : Fin P, g a.val := by
  rw [acc_eq_sum hP S q g (fun t ht hq e => by rw [h0 t ht hq e, e]) hs (P - 1) t ht hq hl, Nat.sub_add_cancel hP]
  exact Finset.sum_range g

/-- A sum over rows, block by block. -/
theorem sum_split {P n N : ℕ} (hN : P * n = N) (h : 0 < N) (term : Fin N → EReal) :
    ∑ i, term i = ∑ a : Fin P, ∑ j : Fin n, term (rowOf h a.val j) :=
  (sum_blocks hN h term).symm.trans (Finset.sum_range fun k => ∑ j : Fin n, term (rowOf h k j))

open Idealize.ShloMosaic

theorem rowOf_val {a n N : ℕ} (hp : 0 < N) (hN : a * n = N) (i : Fin a) (j : Fin n) : (rowOf hp i.val j).val = i.val * n + j.val :=
  Nat.mod_eq_of_lt (lt_of_lt_of_le (Nat.add_lt_add_left j.isLt _) (hN ▸ (Nat.succ_mul i.val n).symm.le.trans (Nat.mul_le_mul_right n i.isLt)))

/-- The logistic function. -/
def sig (x : EReal) : EReal := Ideal.div 1 (1 + Ideal.exp (-x))

/-- An input plus a gate times a row's entry divided by the row's root mean square and scaled. -/
def normed (a : Fin 1024 → EReal) (x t n : EReal) (e : Fin 1024) : EReal :=
  x + t * (a e * Ideal.rsqrt (Ideal.div (∑ k : Fin 1024, a k * a k) (Ideal.ofBits .f32 0x44800000#32) + Ideal.ofBits .f32 0x358637BD#32) * n)

/-- Rows cut into `a` blocks of `n`, read at a row of a block. -/
theorem split_rows {a n N w : ℕ} {α : Type} (x : Shape.Idx ⟨2, ![N, w]⟩ → α) (h : Shape.ShapeCasts ⟨2, ![N, w]⟩ ⟨3, ![a, n, w]⟩)
    (hp : 0 < N) (hN : a * n = N) (i : Fin a) (j : Fin n) (e : Fin w) :
    shapeCast ⟨3, ![a, n, w]⟩ x h (ix3 i j e) = x (ix2 (rowOf hp i.val j) e) :=
  shapeCast_apply x h _ _ (by
    rw [Shape.rowMajor_val_two, Shape.rowMajor_val_three]
    exact congrArg (· * w + e.val) (rowOf_val hp hN i j))
/-- Columns cut into `a` blocks of `n`, read at a column of a block. -/
theorem split_cols {a n N w : ℕ} {α : Type} (x : Shape.Idx ⟨2, ![w, N]⟩ → α) (h : Shape.ShapeCasts ⟨2, ![w, N]⟩ ⟨3, ![w, a, n]⟩)
    (hp : 0 < N) (hN : a * n = N) (e : Fin w) (i : Fin a) (j : Fin n) :
    shapeCast ⟨3, ![w, a, n]⟩ x h (ix3 e i j) = x (ix2 e (rowOf hp i.val j)) :=
  shapeCast_apply x h _ _ (by
    rw [Shape.rowMajor_val_two, Shape.rowMajor_val_three]
    show e.val * N + (rowOf hp i.val j).val = (e.val * a + i.val) * n + j.val
    rw [rowOf_val hp hN, ← hN]; ring)
/-- `a` blocks of `n` rows put under one another, read at a row of a block. -/
theorem join_rows {a n N w : ℕ} {α : Type} (x : Shape.Idx ⟨3, ![a, n, w]⟩ → α) (h : Shape.ShapeCasts ⟨3, ![a, n, w]⟩ ⟨2, ![N, w]⟩)
    (hp : 0 < N) (hN : a * n = N) (i : Fin a) (j : Fin n) (e : Fin w) :
    shapeCast ⟨2, ![N, w]⟩ x h (ix2 (rowOf hp i.val j) e) = x (ix3 i j e) :=
  shapeCast_apply x h _ _ (by
    rw [Shape.rowMajor_val_two, Shape.rowMajor_val_three]
    exact congrArg (· * w + e.val) (rowOf_val hp hN i j).symm)

/-- Which of the four slabs of 256 a place among 1024 is in, and where in it. -/
abbrev slabOf (e : Fin 1024) : Fin 4 := ⟨e.val / 256, by omega⟩
abbrev inSlab (e : Fin 1024) : Fin 256 := ⟨e.val % 256, Nat.mod_lt _ (by decide)⟩
theorem slabOf_eq (e : Fin 1024) (a : ℕ) (ha : a < 4) (f : Fin 256) (h : e.val = a * 256 + f.val) : slabOf e = ⟨a, ha⟩ :=
  Fin.ext (by show e.val / 256 = a; omega)
theorem inSlab_eq (e : Fin 1024) (a : ℕ) (f : Fin 256) (h : e.val = a * 256 + f.val) : inSlab e = f :=
  Fin.ext (by show e.val % 256 = f.val; omega)

/-- The slabs' rows under one another, read at a row. -/
theorem join_rows_at {w : ℕ} {α : Type} (x : Shape.Idx ⟨3, ![4, 256, w]⟩ → α) (h : Shape.ShapeCasts ⟨3, ![4, 256, w]⟩ ⟨2, ![1024, w]⟩)
    (e : Fin 1024) (d : Fin w) : shapeCast ⟨2, ![1024, w]⟩ x h (ix2 e d) = x (ix3 (slabOf e) (inSlab e) d) :=
  shapeCast_apply x h _ _ (by
    rw [Shape.rowMajor_val_two, Shape.rowMajor_val_three]
    show (e.val / 256 * 256 + e.val % 256) * w + d.val = e.val * w + d.val
    rw [Nat.div_add_mod'])
/-- The slabs' columns next to one another, read at a column. -/
theorem join_cols_at {w : ℕ} {α : Type} (x : Shape.Idx ⟨3, ![w, 4, 256]⟩ → α) (h : Shape.ShapeCasts ⟨3, ![w, 4, 256]⟩ ⟨2, ![w, 1024]⟩)
    (d : Fin w) (e : Fin 1024) : shapeCast ⟨2, ![w, 1024]⟩ x h (ix2 d e) = x (ix3 d (slabOf e) (inSlab e)) :=
  shapeCast_apply x h _ _ (by
    rw [Shape.rowMajor_val_two, Shape.rowMajor_val_three]
    show (d.val * 4 + e.val / 256) * 256 + e.val % 256 = d.val * 1024 + e.val
    omega)

/-- A sum over two stretches one after the other. -/
theorem sum_two {a b N : ℕ} (h : a + b = N) (f : Fin N → EReal) :
    ∑ i, f i = ∑ i : Fin a, f ⟨i.val, by omega⟩ + ∑ j : Fin b, f ⟨a + j.val, by omega⟩ := by
  subst h
  exact Fin.sum_univ_add f
/-- The part of a product of two matrices' rows that a stretch of their columns gives: the first's from column `a` on, the second's from column `b` on. -/
def part {M P K Q : ℕ} (x : Shape.Idx ⟨2, ![M, P]⟩ → EReal) (w : Shape.Idx ⟨2, ![K, Q]⟩ → EReal) (n a b : ℕ) (ha : a + n ≤ P) (hb : b + n ≤ Q)
    (s : Fin M) (e : Fin K) : EReal := ∑ d : Fin n, x (ix2 s ⟨a + d.val, by omega⟩) * w (ix2 e ⟨b + d.val, by omega⟩)
/-- A product of blocks is the part of the whole arrays' product that they hold. -/
theorem part_eq {R M P K Q n : ℕ} (u : Shape.Idx ⟨2, ![R, n]⟩ → EReal) (v : Shape.Idx ⟨2, ![K, n]⟩ → EReal) (x : Shape.Idx ⟨2, ![M, P]⟩ → EReal)
    (w : Shape.Idx ⟨2, ![K, Q]⟩ → EReal) (a b : ℕ) (ha : a + n ≤ P) (hb : b + n ≤ Q) (j : Fin R) (s : Fin M) (e : Fin K)
    (hu : ∀ d : Fin n, u (ix2 j d) = x (ix2 s ⟨a + d.val, by omega⟩)) (hv : ∀ d : Fin n, v (ix2 e d) = w (ix2 e ⟨b + d.val, by omega⟩)) :
    ∑ d : Fin n, u (ix2 j d) * v (ix2 e d) = part x w n a b ha hb s e :=
  Finset.sum_congr rfl fun d _ => congrArg₂ (· * ·) (hu d) (hv d)

/-- A load of a whole block reads what the block holds. -/
theorem load {sig : RefSig} {κ : Kind} {sp : Space} {s : Shape} {e : EltTy} {Val : EltTy → Type} [∀ e, Nonempty (Val e)]
    {b : Memref sig κ sp s e} (h : b.IsWhole) {off : Fin s.rank → ℕ} (inb : ∀ a, off a + s.size a ≤ s.size a) (x : s.Idx → Val e) :
    b.view.readAt Val (Rect.unit off s.size inb).toLoadRect (h.unread x) = x :=
  (View.readAt_full _ _ _).trans (h.read_unread x)

theorem ix3_first {a b : ℕ} (y : Shape.Idx ⟨3, ![1, a, b]⟩) : y = ix3 0 (y 1) (y 2) :=
  (eq_ix3 y).trans (congrArg (fun u : Fin 1 => (ix3 u (y 1) (y 2) : Shape.Idx ⟨3, ![1, a, b]⟩)) (Subsingleton.elim (α := Fin 1) _ _))

end Cert.Blocks
-- ==== Proof.DownBack.lean ====
/- The gradients of the feed-forward block's two hidden projections: what the kernel writes is one product, twice weighted. -/
module

public import proofs.«01_k».proof.Defs
public import proofs.«01_k».proof.Proof.Blocks
public import proofs.«01_k».proof.Proof.Finite
public import proofs.«01_k».proof.Proof.Gen.Kernel2Ideal.Value
public import proofs.«01_k».proof.Proof.Gen.Reference2Ideal.Run

@[expose] public section

set_option maxRecDepth 16384

noncomputable section

namespace Cert.Kernel2Ideal.Values

open Idealize.ShloMosaic Idealize.ShloMosaic.TcCoe Idealize.ShloMosaic.Tactic
open Idealize.SL Idealize.SL.RA Idealize.SL.Sem
open Idealize.ShloMosaic.Pipeline (Dat Cfg Window)
open Idealize.ShloMosaic.VecWindow Cert.Kernel2Ideal.Gen

variable (m : (ℓ : Loc nD τ sig) → Buf (Elt Ideal) ℓ) (c : Dev nD)

/-- Every point is the first and the last of its run: the accumulator holds the product of its two blocks, and the two outputs are weightings of it. -/
theorem oA (t : Fin cfg0.N) : (outsAt0 m c t).1 = k0_pay5 (F := Ideal)
    (k0_pay2 (F := Ideal) (iblk m c 0 t) (k0_pay1 (F := Ideal)) (iblk m c 1 t)) (iblk m c 2 t) (iblk m c 3 t) := by
  unfold outsAt0
  dsimp only
  unfold out0_A_4
  refine (View.read_writes_full _ _ _ _ _).trans ?_
  exact congr (congr (congrArg (k0_pay5 (F := Ideal)) ((View.readCov_full _ _ _ _ _).trans (congr (congr (congrArg (k0_pay2 (F := Ideal))
    (Blocks.load _ _ _)) (View.readCov_full _ _ _ _ _)) (Blocks.load _ _ _)))) (Blocks.load _ _ _)) (Blocks.load _ _ _)
theorem oB (t : Fin cfg0.N) : (outsAt0 m c t).2 = k0_pay6 (F := Ideal)
    (k0_pay2 (F := Ideal) (iblk m c 0 t) (k0_pay1 (F := Ideal)) (iblk m c 1 t)) (iblk m c 2 t) := by
  unfold outsAt0
  dsimp only
  unfold out0_A_5
  refine (View.read_writes_full _ _ _ _ _).trans ?_
  exact congr (congrArg (k0_pay6 (F := Ideal)) ((View.readCov_full _ _ _ _ _).trans (congr (congr (congrArg (k0_pay2 (F := Ideal))
    (Blocks.load _ _ _)) (View.readCov_full _ _ _ _ _)) (Blocks.load _ _ _)))) (Blocks.load _ _ _)

/-- Which block of its array each window is at. -/
theorem idx : ∀ t : Fin cfg0.N, win0_0.index t = ![t.val / 4, 0] ∧ win0_1.index t = ![t.val % 4, 0, 0] ∧ win0_2.index t = ![t.val % 4, t.val / 4, 0]
    ∧ win0_3.index t = ![t.val % 4, t.val / 4, 0] ∧ win0_4.index t = ![t.val % 4, t.val / 4, 0] ∧ win0_5.index t = ![t.val % 4, t.val / 4, 0] :=
  (by decide +kernel : ∀ t : Fin grid0.N, _)

/-- The gradient of the block's output, the weights, and the two hidden projections, as they are given. -/
abbrev DY : Vec Ideal S4096x1024 .bf16 := m ((c.tc : Thread nD τ).loc main_arg0)
abbrev W : Vec Ideal S4x704x1024 .bf16 := m ((c.tc : Thread nD τ).loc main_arg1)
abbrev PA : Vec Ideal S4x4096x704 .bf16 := m ((c.tc : Thread nD τ).loc main_arg2)
abbrev PB : Vec Ideal S4x4096x704 .bf16 := m ((c.tc : Thread nD τ).loc main_arg3)

theorem row_lt (t : Fin cfg0.N) (j : Fin 1024) : t.val / 4 * 1024 + j.val < 4096 := by
  have hN : t.val < 16 := t.isLt
  omega
abbrev row (t : Fin cfg0.N) (j : Fin 1024) : Fin 4096 := ⟨t.val / 4 * 1024 + j.val, row_lt t j⟩
abbrev slab (t : Fin cfg0.N) : Fin 4 := ⟨t.val % 4, Nat.mod_lt _ (by decide)⟩

theorem b0 (t : Fin cfg0.N) (j : Fin 1024) (d : Fin 1024) : iblk m c 0 t (ix2 j d) = DY m c (ix2 (row t j) d) := by
  blk_point [iblk, V_main_arg0, idx t]
theorem b1 (t : Fin cfg0.N) (f : Fin 704) (d : Fin 1024) : iblk m c 1 t (ix3 0 f d) = W m c (ix3 (slab t) f d) := by
  blk_point [iblk, V_main_arg1, idx t]
theorem b2 (t : Fin cfg0.N) (j : Fin 1024) (f : Fin 704) : iblk m c 2 t (ix3 0 j f) = PA m c (ix3 (slab t) (row t j) f) := by
  blk_point [iblk, V_main_arg2, idx t]
theorem b3 (t : Fin cfg0.N) (j : Fin 1024) (f : Fin 704) : iblk m c 3 t (ix3 0 j f) = PB m c (ix3 (slab t) (row t j) f) := by
  blk_point [iblk, V_main_arg3, idx t]

theorem pay2_at (u : Vec Ideal S1024x1024 .bf16) (v : Vec Ideal S1x704x1024 .bf16) (j : Fin 1024) (f : Fin 704) :
    k0_pay2 (F := Ideal) u (k0_pay1 (F := Ideal)) v (ix2 j f) = ∑ d : Fin 1024, u (ix2 j d) * v (ix3 0 f d) := by
  pointwise [k0_pay2, k0_pay1]
theorem pay5_at (q : Vec Ideal S1024x704 .f32) (a b : Vec Ideal S1x1024x704 .bf16) (j : Fin 1024) (f : Fin 704) :
    k0_pay5 (F := Ideal) q a b (ix3 0 j f)
      = q (ix2 j f) * b (ix3 0 j f) * (Blocks.sig (a (ix3 0 j f)) * (1 + a (ix3 0 j f) * (1 - Blocks.sig (a (ix3 0 j f))))) := by
  pointwise [k0_pay5, k0_pay4, k0_pay3]
  rw [Blocks.sig, zero_sub]
theorem pay6_at (q : Vec Ideal S1024x704 .f32) (a : Vec Ideal S1x1024x704 .bf16) (j : Fin 1024) (f : Fin 704) :
    k0_pay6 (F := Ideal) q a (ix3 0 j f) = q (ix2 j f) * (a (ix3 0 j f) * Blocks.sig (a (ix3 0 j f))) := by
  pointwise [k0_pay6, k0_pay4, k0_pay3]
  rw [Blocks.sig, zero_sub]

/-- The gradient of the gated product at a row and a column of a slab. -/
def P (a : Fin 4) (s : Fin 4096) (f : Fin 704) : EReal := ∑ d : Fin 1024, DY m c (ix2 s d) * W m c (ix3 a f d)
/-- The two results the call stands for: the gradient of the first projection through the derivative of its SiLU, and that of the second. -/
def GA : Vec Ideal S4x4096x704 .bf16 := fun z => P m c (z 0) (z 1) (z 2) * PB m c (ix3 (z 0) (z 1) (z 2))
  * (Blocks.sig (PA m c (ix3 (z 0) (z 1) (z 2))) * (1 + PA m c (ix3 (z 0) (z 1) (z 2)) * (1 - Blocks.sig (PA m c (ix3 (z 0) (z 1) (z 2))))))
def GB : Vec Ideal S4x4096x704 .bf16 := fun z => P m c (z 0) (z 1) (z 2)
  * (PA m c (ix3 (z 0) (z 1) (z 2)) * Blocks.sig (PA m c (ix3 (z 0) (z 1) (z 2))))

theorem acc (t : Fin cfg0.N) (j : Fin 1024) (f : Fin 704) :
    k0_pay2 (F := Ideal) (iblk m c 0 t) (k0_pay1 (F := Ideal)) (iblk m c 1 t) (ix2 j f) = P m c (slab t) (row t j) f := by
  rw [pay2_at]
  unfold P
  simp only [b0, b1]

/-- An entry of a block is the entry of the array it is written to. -/
theorem entry (t : Fin cfg0.N) (j : Fin 1024) (f : Fin 704) (z : S4x4096x704.Idx) (h0 : (z 0).val = t.val % 4)
    (h1 : (z 1).val = t.val / 4 * 1024 + j.val) (h2 : (z 2).val = f.val) : z 0 = slab t ∧ z 1 = row t j ∧ z 2 = f :=
  ⟨Fin.ext h0, Fin.ext h1, Fin.ext h2⟩
theorem a_block (t : Fin cfg0.N) (j : Fin 1024) (f : Fin 704) (z : S4x4096x704.Idx) (h0 : (z 0).val = t.val % 4)
    (h1 : (z 1).val = t.val / 4 * 1024 + j.val) (h2 : (z 2).val = f.val) : (outsAt0 m c t).1 (ix3 0 j f) = GA m c z := by
  obtain ⟨e0, e1, e2⟩ := entry t j f z h0 h1 h2
  unfold GA
  rw [oA, pay5_at, acc, b2, b3, e0, e1, e2]
theorem b_block (t : Fin cfg0.N) (j : Fin 1024) (f : Fin 704) (z : S4x4096x704.Idx) (h0 : (z 0).val = t.val % 4)
    (h1 : (z 1).val = t.val / 4 * 1024 + j.val) (h2 : (z 2).val = f.val) : (outsAt0 m c t).2 (ix3 0 j f) = GB m c z := by
  obtain ⟨e0, e1, e2⟩ := entry t j f z h0 h1 h2
  unfold GB
  rw [oB, pay6_at, acc, b2, e0, e1, e2]

theorem final4 : (dats m 0 c).arrAt 4 cfg0.N = GA m c := by
  refine (dats m 0 c).arrAt_eq_of_covers 4 _ (by decide +kernel) fun t hf y => ?_
  blk_simp
  rw [after0_4]
  exact (congrArg (outsAt0 m c t).1 (Blocks.ix3_first (a := 1024) (b := 704) y)).trans
    (a_block m c t (y 1) (y 2) _ (by blk_simp [idx t]) (by blk_simp [idx t]) (by blk_simp [idx t]))
theorem final5 : (dats m 0 c).arrAt 5 cfg0.N = GB m c := by
  refine (dats m 0 c).arrAt_eq_of_covers 5 _ (by decide +kernel) fun t hf y => ?_
  blk_simp
  rw [after0_5]
  exact (congrArg (outsAt0 m c t).2 (Blocks.ix3_first (a := 1024) (b := 704) y)).trans
    (b_block m c t (y 1) (y 2) _ (by blk_simp [idx t]) (by blk_simp [idx t]) (by blk_simp [idx t]))

end Cert.Kernel2Ideal.Values

namespace Cert.Reference2Ideal.Values

open Idealize.ShloMosaic Idealize.ShloMosaic.TcCoe Idealize.ShloMosaic.Tactic Cert.Reference2Ideal.Gen

/-- The reference's product is the same one. -/
theorem product (x : Vec Ideal S4096x1024 .bf16) (y : Vec Ideal S4x704x1024 .bf16) (a : Fin 4) (s : Fin 4096) (f : Fin 704) :
    transpose S4x4096x704 [1, 0, 2] (Host.dotGeneral (F := Ideal) dot_S4096x1024_S4x704x1024_S4096x4x704_1_2_0_01_n_n none
      (extf .f32 x bitsLt_bf16_f32) (extf .f32 y bitsLt_bf16_f32)) transposes_S4096x4x704_S4x4096x704_1_0_2 (ix3 a s f)
      = ∑ d : Fin 1024, x (ix2 s d) * y (ix3 a f d) := by
  pointwise
/-- The reference's logistic function. -/
theorem sig_at (p : Vec Ideal S4x4096x704 .bf16) (a : Fin 4) (s : Fin 4096) (f : Fin 704) :
    Host.divf (F := Ideal) (broadcastInDim S4x4096x704 ![] bcast_S_S4x4096x704 (constant S_ .f32 0x3F800000#32))
      (addf (broadcastInDim S4x4096x704 ![] bcast_S_S4x4096x704 (constant S_ .f32 0x3F800000#32)) (Host.exp (Host.negf (extf .f32 p bitsLt_bf16_f32)))) (ix3 a s f)
      = Blocks.sig (p (ix3 a s f)) := by
  pointwise
  rw [Blocks.sig]
/-- The reference's gradient of the first projection, of the product `T` and the logistic function `Z`: the derivative of the SiLU in two terms. -/
theorem first (T Z : Vec Ideal S4x4096x704 .f32) (p q : Vec Ideal S4x4096x704 .bf16) (a : Fin 4) (s : Fin 4096) (f : Fin 704) :
    truncf (F := Ideal) .bf16 (addf (mulf (mulf T (extf .f32 q bitsLt_bf16_f32)) Z) (mulf (mulf (extf .f32 p bitsLt_bf16_f32)
      (mulf T (extf .f32 q bitsLt_bf16_f32))) (mulf Z (subf (broadcastInDim S4x4096x704 ![] bcast_S_S4x4096x704 (constant S_ .f32 0x3F800000#32)) Z))))
      bitsLt_bf16_f32 (ix3 a s f)
      = T (ix3 a s f) * q (ix3 a s f) * Z (ix3 a s f)
        + p (ix3 a s f) * (T (ix3 a s f) * q (ix3 a s f)) * (Z (ix3 a s f) * (1 - Z (ix3 a s f))) := by
  pointwise
theorem second (T Z : Vec Ideal S4x4096x704 .f32) (p : Vec Ideal S4x4096x704 .bf16) (a : Fin 4) (s : Fin 4096) (f : Fin 704) :
    truncf (F := Ideal) .bf16 (mulf (mulf (extf .f32 p bitsLt_bf16_f32) Z) T) bitsLt_bf16_f32 (ix3 a s f)
      = p (ix3 a s f) * Z (ix3 a s f) * T (ix3 a s f) := by
  pointwise

end Cert.Reference2Ideal.Values

namespace Cert.Swiglu

open Idealize.ShloMosaic Cert.Forget

/-- The side conditions of the precondition's operations. -/
theorem preFacts : Cert.Pre_finite_swiglu.Facts :=
  { bitsLt_bf16_f32 := by decide
    bcast_S_S4096x1024 := by decide
    bcast_S_S4x704x1024 := by decide
    bcast_S_S4x4096x704 := by decide }

/-- Where the precondition holds, every entry is a real number. -/
theorem dy_real {D : FVec Ideal ⟨2, ![4096, 1024]⟩ .bf16} {W : FVec Ideal ⟨3, ![4, 704, 1024]⟩ .bf16} {A B : FVec Ideal ⟨3, ![4, 4096, 704]⟩ .bf16}
    (h : (letI := preFacts; (Cert.Pre_finite_swiglu.fn (F := Ideal) D W A B).1) = fun _ => 1#1) (s : Fin 4096) (d : Fin 1024) :
    D (ix2 s d) = ((EReal.toReal (D (ix2 s d)) : ℝ) : EReal) := by
  have := congrFun h (ix2 s d)
  pointwise [Cert.Pre_finite_swiglu.fn] at this
  exact real_of_word this
theorem w_real {D : FVec Ideal ⟨2, ![4096, 1024]⟩ .bf16} {W : FVec Ideal ⟨3, ![4, 704, 1024]⟩ .bf16} {A B : FVec Ideal ⟨3, ![4, 4096, 704]⟩ .bf16}
    (h : (letI := preFacts; (Cert.Pre_finite_swiglu.fn (F := Ideal) D W A B).2.1) = fun _ => 1#1) (a : Fin 4) (f : Fin 704) (d : Fin 1024) :
    W (ix3 a f d) = ((EReal.toReal (W (ix3 a f d)) : ℝ) : EReal) := by
  have := congrFun h (ix3 a f d)
  pointwise [Cert.Pre_finite_swiglu.fn] at this
  exact real_of_word this
theorem a_real {D : FVec Ideal ⟨2, ![4096, 1024]⟩ .bf16} {W : FVec Ideal ⟨3, ![4, 704, 1024]⟩ .bf16} {A B : FVec Ideal ⟨3, ![4, 4096, 704]⟩ .bf16}
    (h : (letI := preFacts; (Cert.Pre_finite_swiglu.fn (F := Ideal) D W A B).2.2.1) = fun _ => 1#1) (a : Fin 4) (s : Fin 4096) (f : Fin 704) :
    A (ix3 a s f) = ((EReal.toReal (A (ix3 a s f)) : ℝ) : EReal) := by
  have := congrFun h (ix3 a s f)
  pointwise [Cert.Pre_finite_swiglu.fn] at this
  exact real_of_word this
theorem b_real {D : FVec Ideal ⟨2, ![4096, 1024]⟩ .bf16} {W : FVec Ideal ⟨3, ![4, 704, 1024]⟩ .bf16} {A B : FVec Ideal ⟨3, ![4, 4096, 704]⟩ .bf16}
    (h : (letI := preFacts; (Cert.Pre_finite_swiglu.fn (F := Ideal) D W A B).2.2.2) = fun _ => 1#1) (a : Fin 4) (s : Fin 4096) (f : Fin 704) :
    B (ix3 a s f) = ((EReal.toReal (B (ix3 a s f)) : ℝ) : EReal) := by
  have := congrFun h (ix3 a s f)
  pointwise [Cert.Pre_finite_swiglu.fn] at this
  exact real_of_word this

/-- The logistic function of a real number is one. -/
theorem sig_real (x : ℝ) : Blocks.sig (x : EReal) = ((1 / (1 + Real.exp (-x)) : ℝ) : EReal) := by
  have h : (1 + Real.exp (-x)) ≠ 0 := by positivity
  rw [Blocks.sig, ← EReal.coe_neg, Ideal.exp_coe, ← EReal.coe_one, ← EReal.coe_add, div_real h]
/-- A sum of products of real numbers is one. -/
theorem dot_real {n : ℕ} {u v : Fin n → EReal} (hu : ∀ k, u k = ((u k).toReal : EReal)) (hv : ∀ k, v k = ((v k).toReal : EReal)) :
    ∃ r : ℝ, ∑ k, u k * v k = (r : EReal) := by
  refine ⟨∑ k, (u k).toReal * (v k).toReal, sum_coe _ fun k _ => ?_⟩
  rw [EReal.coe_mul, ← hu, ← hv]
/-- The derivative of the SiLU in two terms is the one factor, where all are real. -/
theorem silu {T a b : EReal} (hT : ∃ r : ℝ, T = (r : EReal)) (ha : a = ((a.toReal : ℝ) : EReal)) (hb : b = ((b.toReal : ℝ) : EReal)) :
    T * b * Blocks.sig a + a * (T * b) * (Blocks.sig a * (1 - Blocks.sig a)) = T * b * (Blocks.sig a * (1 + a * (1 - Blocks.sig a))) := by
  obtain ⟨r, rfl⟩ := hT
  rw [ha, hb, sig_real]
  generalize 1 / (1 + Real.exp (-a.toReal)) = g
  simp only [← EReal.coe_one, ← EReal.coe_mul, ← EReal.coe_sub, ← EReal.coe_add]
  exact congrArg _ (by ring)

end Cert.Swiglu

namespace Cert.Proof

open Idealize.ShloMosaic Idealize.SL.Sem Cert.Reference2Ideal.Values Cert.Swiglu

/-- From finite arguments the two programs end with equal results. -/
theorem algebraic2 : Cert.algebraic_Kernel2Ideal_Reference2Ideal_pre_finite_swiglu (hKernel2Ideal := Cert.Kernel2Ideal.Gen.facts)
    (hReference2Ideal := Cert.Reference2Ideal.Gen.facts) (hPre_finite_swiglu := preFacts) := by
  intro m ρ m' ρ' hpre hag
  refine ⟨fun c => Cert.Kernel2Ideal.Values.GA m c, fun c => Cert.Kernel2Ideal.Values.GB m c,
    (θ_run Cert.Kernel2Ideal.defs _ _).mono (fun r h c => ?_) (Cert.Kernel2Ideal.Value.run_blocks m ρ),
    (θ_run Cert.Reference2Ideal.defs _ _).mono (fun r h c => ?_) (Cert.Reference2Ideal.Value.run (F := Ideal) m' ρ')⟩
  · exact ⟨(h c).1.trans (Cert.Kernel2Ideal.Values.final4 m c), (h c).2.1.trans (Cert.Kernel2Ideal.Values.final5 m c), (h c).2.2⟩
  · refine ⟨(h c).1.trans (funext fun z => ?_), (h c).2.1.trans (funext fun z => ?_), (h c).2.2⟩
    · rw [(hag c).1, (hag c).2.1, (hag c).2.2.1, (hag c).2.2.2]
      refine (congrArg _ (eq_ix3 z)).trans ((first _ _ _ _ (z 0) (z 1) (z 2)).trans ?_)
      rw [product _ _ (z 0) (z 1) (z 2), sig_at _ (z 0) (z 1) (z 2)]
      exact silu (dot_real (fun d => dy_real (hpre c).1 (z 1) d) fun d => w_real (hpre c).2.1 (z 0) (z 2) d)
        (a_real (hpre c).2.2.1 (z 0) (z 1) (z 2)) (b_real (hpre c).2.2.2 (z 0) (z 1) (z 2))
    · rw [(hag c).1, (hag c).2.1, (hag c).2.2.1]
      refine (congrArg _ (eq_ix3 z)).trans ((second _ _ _ (z 0) (z 1) (z 2)).trans ?_)
      rw [product _ _ (z 0) (z 1) (z 2), sig_at _ (z 0) (z 1) (z 2)]
      exact mul_comm _ _

end Cert.Proof
-- ==== Proof.Down.lean ====
/- The weight gradient of the feed-forward block's down projection: what the kernel writes is one product. -/
module

public import proofs.«01_k».proof.Defs
public import proofs.«01_k».proof.Proof.Blocks
public import proofs.«01_k».proof.Proof.Gen.Kernel3Ideal.Value
public import proofs.«01_k».proof.Proof.Gen.Reference3Ideal.Run
public import Idealize.ShloMosaic.Lib.Pipeline.ValueKit
public import Idealize.ShloMosaic.Lib.VecWindow

@[expose] public section

set_option maxRecDepth 16384

noncomputable section

namespace Cert.Kernel3Ideal.Values

open Idealize.ShloMosaic Idealize.ShloMosaic.TcCoe Idealize.ShloMosaic.Tactic
open Idealize.SL Idealize.SL.RA Idealize.SL.Sem
open Idealize.ShloMosaic.Pipeline (Dat Cfg Window)
open Idealize.ShloMosaic.VecWindow Cert.Kernel3Ideal.Gen

variable (m : (ℓ : Loc nD τ sig) → Buf (Elt Ideal) ℓ) (c : Dev nD)

/-- A run's first point leaves its own product in the accumulator. -/
theorem sA (t : Fin cfg0.N) (h0 : t.val % 4 = 0) (h1 : ¬t.val % 4 = 3) :
    (outsAt0 m c t.val t.isLt).2 = k0_pay2 (F := Ideal) (iblk m c 0 t) (k0_pay1 (F := Ideal)) (iblk m c 1 t) := by
  rw [outsAt0_A m c t h0 h1]
  dsimp only
  unfold sout0_A_0
  refine (View.read_writes_full _ _ _ _ _).trans ?_
  exact congr (congr (congrArg (k0_pay2 (F := Ideal)) (Blocks.load _ _ _)) (View.readCov_full _ _ _ _ _)) (Blocks.load _ _ _)
/-- A later point adds its product to what the point before left. -/
theorem sB (t : Fin cfg0.N) (h0 : ¬t.val % 4 = 0) :
    (outsAt0 m c t.val t.isLt).2
      = k0_pay2 (F := Ideal) (iblk m c 0 t) (outsAt0 m c (t.val - 1) (Nat.lt_of_le_of_lt (Nat.sub_le _ _) t.isLt)).2 (iblk m c 1 t) := by
  by_cases h1 : t.val % 4 = 3
  · rw [outsAt0_C m c t h0 h1]
    dsimp only
    unfold sout0_C_0
    exact (View.read_writes_full _ _ _ _ _).trans (congr (congr (congrArg (k0_pay2 (F := Ideal)) (Blocks.load _ _ _)) (Blocks.load _ _ _)) (Blocks.load _ _ _))
  · rw [outsAt0_B m c t h0 h1]
    dsimp only
    unfold sout0_B_0
    exact (View.read_writes_full _ _ _ _ _).trans (congr (congr (congrArg (k0_pay2 (F := Ideal)) (Blocks.load _ _ _)) (Blocks.load _ _ _)) (Blocks.load _ _ _))
/-- The last point of a run writes the accumulator out. -/
theorem oC (t : Fin cfg0.N) (h1 : t.val % 4 = 3) :
    (outsAt0 m c t.val t.isLt).1 = k0_pay3 (F := Ideal) (outsAt0 m c t.val t.isLt).2 := by
  rw [sB m c t (by omega), outsAt0_C m c t (by omega) h1]
  dsimp only
  unfold out0_C_2
  refine (View.read_writes_full _ _ _ _ _).trans ?_
  refine congrArg (k0_pay3 (F := Ideal)) ((View.readCov_full _ _ _ _ _).trans ?_)
  exact congr (congr (congrArg (k0_pay2 (F := Ideal)) (Blocks.load _ _ _)) (Blocks.load _ _ _)) (Blocks.load _ _ _)

/-- Which block of its array each window is at. -/
theorem idx : ∀ t : Fin cfg0.N, win0_0.index t = ![t.val / 4, t.val % 4, 0] ∧ win0_1.index t = ![t.val % 4, 0]
    ∧ win0_2.index t = ![t.val / 4, 0, 0] :=
  (by decide +kernel : ∀ t : Fin grid0.N, _)

/-- The activations and the gradient of the block's output, as they are given. -/
abbrev X : Vec Ideal S4x4096x704 .bf16 := m ((c.tc : Thread nD τ).loc main_arg0)
abbrev Y : Vec Ideal S4096x1024 .bf16 := m ((c.tc : Thread nD τ).loc main_arg1)

theorem b0 (t : Fin cfg0.N) (j : Fin 1024) (f : Fin 704) (h : t.val / 4 < 4) :
    iblk m c 0 t (ix3 0 j f) = X m c (ix3 ⟨t.val / 4, h⟩ (Blocks.rowOf (by decide) (t.val % 4) j) f) := by
  rw [Blocks.rowOf_eq _ _ _ (by omega)]
  blk_point [iblk, V_main_arg0, idx t]
theorem b1 (t : Fin cfg0.N) (j : Fin 1024) (e : Fin 1024) : iblk m c 1 t (ix2 j e) = Y m c (ix2 (Blocks.rowOf (by decide) (t.val % 4) j) e) := by
  rw [Blocks.rowOf_eq _ _ _ (by omega)]
  blk_point [iblk, V_main_arg1, idx t]

theorem pay2_at (u : Vec Ideal S1x1024x704 .bf16) (a : Vec Ideal S704x1024 .f32) (v : Vec Ideal S1024x1024 .bf16) (f : Fin 704) (e : Fin 1024) :
    k0_pay2 (F := Ideal) u a v (ix2 f e) = a (ix2 f e) + ∑ j : Fin 1024, u (ix3 0 j f) * v (ix2 j e) := by
  pointwise [k0_pay2]
theorem pay1_at (f : Fin 704) (e : Fin 1024) : k0_pay1 (F := Ideal) (ix2 f e) = (0 : EReal) := by
  pointwise [k0_pay1]
theorem pay3_at (a : Vec Ideal S704x1024 .f32) (f : Fin 704) (e : Fin 1024) : k0_pay3 (F := Ideal) a (ix3 0 f e) = a (ix2 f e) := by
  pointwise [k0_pay3]

/-- The product the call stands for. -/
def G : Vec Ideal S4x704x1024 .bf16 := fun z => ∑ i : Fin 4096, X m c (ix3 (z 0) i (z 1)) * Y m c (ix2 i (z 2))

theorem acc_at (t : Fin cfg0.N) (h1 : t.val % 4 = 3) (h : t.val / 4 < 4) (f : Fin 704) (e : Fin 1024) :
    (outsAt0 m c t.val t.isLt).2 (ix2 f e) = ∑ i : Fin 4096, X m c (ix3 ⟨t.val / 4, h⟩ i f) * Y m c (ix2 i e) := by
  refine Blocks.run_sum (P := 4) (n := 1024) rfl (by decide) (fun n hn => (outsAt0 m c n hn).2 (ix2 f e)) (t.val / 4)
    (fun i => X m c (ix3 ⟨t.val / 4, h⟩ i f) * Y m c (ix2 i e)) (fun n hn hq h0 => ?_) (fun n hn hq h0 => ?_) t.val t.isLt rfl h1
  · rw [sA m c ⟨n, hn⟩ h0 (by dsimp only; omega), pay2_at, pay1_at]
    simp only [b0 m c ⟨n, hn⟩ _ _ (show n / 4 < 4 by omega), b1, hq]
  · rw [sB m c ⟨n, hn⟩ h0, pay2_at]
    simp only [b0 m c ⟨n, hn⟩ _ _ (show n / 4 < 4 by omega), b1, hq]

theorem out_block (t : Fin cfg0.N) (h1 : t.val % 4 = 3) (f : Fin 704) (e : Fin 1024) (z : S4x704x1024.Idx)
    (h : (z 0).val = t.val / 4) (hf : (z 1).val = f.val) (he : (z 2).val = e.val) :
    k0_pay3 (F := Ideal) (outsAt0 m c t.val t.isLt).2 (ix3 0 f e) = G m c z := by
  have hz : t.val / 4 < 4 := h ▸ (z 0).isLt
  rw [pay3_at, acc_at m c t h1 hz]
  exact Finset.sum_congr rfl fun i _ => by
    rw [show (⟨t.val / 4, hz⟩ : Fin 4) = z 0 from Fin.ext h.symm, show f = z 1 from Fin.ext hf.symm, show e = z 2 from Fin.ext he.symm]

theorem final : (dats m 0 c).arrAt 2 cfg0.N = G m c := by
  refine (dats m 0 c).arrAt_eq_of_covers 2 _ (by decide +kernel) fun t hf y => ?_
  have h1 := (flush0_2 t).mp hf
  blk_simp
  rw [after0_2, oC m c t h1]
  exact (congrArg (k0_pay3 (F := Ideal) (outsAt0 m c t.val t.isLt).2) (Blocks.ix3_first (a := 704) (b := 1024) y)).trans
    (out_block m c t h1 (y 1) (y 2) _ (by blk_simp [idx t]) (by blk_simp [idx t]) (by blk_simp [idx t]))

end Cert.Kernel3Ideal.Values

namespace Cert.Reference3Ideal.Values

open Idealize.ShloMosaic Idealize.ShloMosaic.TcCoe Idealize.ShloMosaic.Tactic Cert.Reference3Ideal.Gen

/-- The reference's product is the same one. -/
theorem product (x : Vec Ideal S4x4096x704 .bf16) (y : Vec Ideal S4096x1024 .bf16) (a : Fin 4) (f : Fin 704) (e : Fin 1024) :
    truncf (F := Ideal) .bf16 (transpose S4x704x1024 [1, 2, 0] (Host.dotGeneral dot_S4096x1024_S4x4096x704_S1024x4x704_0_1_1_02_n_n none
      (extf .f32 y bitsLt_bf16_f32) (extf .f32 x bitsLt_bf16_f32)) transposes_S1024x4x704_S4x704x1024_1_2_0) bitsLt_bf16_f32 (ix3 a f e)
      = ∑ i : Fin 4096, x (ix3 a i f) * y (ix2 i e) := by
  pointwise
  exact Finset.sum_congr rfl fun i _ => mul_comm _ _

end Cert.Reference3Ideal.Values

namespace Cert.Proof

open Idealize.ShloMosaic Idealize.SL.Sem

/-- The two programs end with equal results. -/
theorem algebraic3 : Cert.algebraic_Kernel3Ideal_Reference3Ideal (hKernel3Ideal := Cert.Kernel3Ideal.Gen.facts) (hReference3Ideal := Cert.Reference3Ideal.Gen.facts) := by
  intro m ρ m' ρ' _ hag
  refine ⟨fun c => Cert.Kernel3Ideal.Values.G m c, (θ_run Cert.Kernel3Ideal.defs _ _).mono (fun r h c => ?_) (Cert.Kernel3Ideal.Value.run_blocks m ρ),
    (θ_run Cert.Reference3Ideal.defs _ _).mono (fun r h c => ?_) (Cert.Reference3Ideal.Value.run (F := Ideal) m' ρ')⟩
  · exact ⟨(h c).1.trans (Cert.Kernel3Ideal.Values.final m c), (h c).2⟩
  · refine ⟨(h c).1.trans (funext fun z => ?_), (h c).2⟩
    rw [(hag c).1, (hag c).2]
    exact (congrArg _ (eq_ix3 z)).trans (Cert.Reference3Ideal.Values.product _ _ (z 0) (z 1) (z 2))

end Cert.Proof
-- ==== Proof.Up.lean ====
/- The weight gradients of the feed-forward block's gate and up projections: what the kernel writes is one product. -/
module

public import proofs.«01_k».proof.Defs
public import proofs.«01_k».proof.Proof.Blocks
public import proofs.«01_k».proof.Proof.Gen.Kernel4Ideal.Value
public import proofs.«01_k».proof.Proof.Gen.Reference4Ideal.Run
public import Idealize.ShloMosaic.Lib.Pipeline.ValueKit
public import Idealize.ShloMosaic.Lib.VecWindow

@[expose] public section

set_option maxRecDepth 16384

noncomputable section

namespace Cert.Kernel4Ideal.Values

open Idealize.ShloMosaic Idealize.ShloMosaic.TcCoe Idealize.ShloMosaic.Tactic
open Idealize.SL Idealize.SL.RA Idealize.SL.Sem
open Idealize.ShloMosaic.Pipeline (Dat Cfg Window)
open Idealize.ShloMosaic.VecWindow Cert.Kernel4Ideal.Gen

variable (m : (ℓ : Loc nD τ sig) → Buf (Elt Ideal) ℓ) (c : Dev nD)

/-- A run's first point leaves its own product in the accumulator. -/
theorem sA (t : Fin cfg0.N) (h0 : t.val % 4 = 0) (h1 : ¬t.val % 4 = 3) :
    (outsAt0 m c t.val t.isLt).2 = k0_pay2 (F := Ideal) (iblk m c 0 t) (k0_pay1 (F := Ideal)) (iblk m c 1 t) := by
  rw [outsAt0_A m c t h0 h1]
  dsimp only
  unfold sout0_A_0
  refine (View.read_writes_full _ _ _ _ _).trans ?_
  exact congr (congr (congrArg (k0_pay2 (F := Ideal)) (Blocks.load _ _ _)) (View.readCov_full _ _ _ _ _)) (Blocks.load _ _ _)
/-- A later point adds its product to what the point before left. -/
theorem sB (t : Fin cfg0.N) (h0 : ¬t.val % 4 = 0) :
    (outsAt0 m c t.val t.isLt).2
      = k0_pay2 (F := Ideal) (iblk m c 0 t) (outsAt0 m c (t.val - 1) (Nat.lt_of_le_of_lt (Nat.sub_le _ _) t.isLt)).2 (iblk m c 1 t) := by
  by_cases h1 : t.val % 4 = 3
  · rw [outsAt0_C m c t h0 h1]
    dsimp only
    unfold sout0_C_0
    exact (View.read_writes_full _ _ _ _ _).trans (congr (congr (congrArg (k0_pay2 (F := Ideal)) (Blocks.load _ _ _)) (Blocks.load _ _ _)) (Blocks.load _ _ _))
  · rw [outsAt0_B m c t h0 h1]
    dsimp only
    unfold sout0_B_0
    exact (View.read_writes_full _ _ _ _ _).trans (congr (congr (congrArg (k0_pay2 (F := Ideal)) (Blocks.load _ _ _)) (Blocks.load _ _ _)) (Blocks.load _ _ _))
/-- The last point of a run writes the accumulator out. -/
theorem oC (t : Fin cfg0.N) (h1 : t.val % 4 = 3) :
    (outsAt0 m c t.val t.isLt).1 = k0_pay3 (F := Ideal) (outsAt0 m c t.val t.isLt).2 := by
  rw [sB m c t (by omega), outsAt0_C m c t (by omega) h1]
  dsimp only
  unfold out0_C_2
  refine (View.read_writes_full _ _ _ _ _).trans ?_
  refine congrArg (k0_pay3 (F := Ideal)) ((View.readCov_full _ _ _ _ _).trans ?_)
  exact congr (congr (congrArg (k0_pay2 (F := Ideal)) (Blocks.load _ _ _)) (Blocks.load _ _ _)) (Blocks.load _ _ _)

/-- Which block of its array each window is at. -/
theorem idx : ∀ t : Fin cfg0.N, win0_0.index t = ![t.val % 4, 0] ∧ win0_1.index t = ![t.val / 4, t.val % 4, 0]
    ∧ win0_2.index t = ![t.val / 4, 0, 0] :=
  (by decide +kernel : ∀ t : Fin grid0.N, _)

/-- The block's input and the gradients of its hidden activations, as they are given. -/
abbrev X : Vec Ideal S4096x1024 .bf16 := m ((c.tc : Thread nD τ).loc main_arg0)
abbrev Y : Vec Ideal S4x4096x704 .bf16 := m ((c.tc : Thread nD τ).loc main_arg1)

theorem b0 (t : Fin cfg0.N) (j : Fin 1024) (e : Fin 1024) : iblk m c 0 t (ix2 j e) = X m c (ix2 (Blocks.rowOf (by decide) (t.val % 4) j) e) := by
  rw [Blocks.rowOf_eq _ _ _ (by omega)]
  blk_point [iblk, V_main_arg0, idx t]
theorem b1 (t : Fin cfg0.N) (j : Fin 1024) (f : Fin 704) (h : t.val / 4 < 4) :
    iblk m c 1 t (ix3 0 j f) = Y m c (ix3 ⟨t.val / 4, h⟩ (Blocks.rowOf (by decide) (t.val % 4) j) f) := by
  rw [Blocks.rowOf_eq _ _ _ (by omega)]
  blk_point [iblk, V_main_arg1, idx t]

theorem pay2_at (u : Vec Ideal S1024x1024 .bf16) (a : Vec Ideal S1024x704 .f32) (v : Vec Ideal S1x1024x704 .bf16) (e : Fin 1024) (f : Fin 704) :
    k0_pay2 (F := Ideal) u a v (ix2 e f) = a (ix2 e f) + ∑ j : Fin 1024, u (ix2 j e) * v (ix3 0 j f) := by
  pointwise [k0_pay2]
theorem pay1_at (e : Fin 1024) (f : Fin 704) : k0_pay1 (F := Ideal) (ix2 e f) = (0 : EReal) := by
  pointwise [k0_pay1]
theorem pay3_at (a : Vec Ideal S1024x704 .f32) (e : Fin 1024) (f : Fin 704) : k0_pay3 (F := Ideal) a (ix3 0 e f) = a (ix2 e f) := by
  pointwise [k0_pay3]

/-- The product the call stands for. -/
def G : Vec Ideal S4x1024x704 .bf16 := fun z => ∑ i : Fin 4096, X m c (ix2 i (z 1)) * Y m c (ix3 (z 0) i (z 2))

theorem acc_at (t : Fin cfg0.N) (h1 : t.val % 4 = 3) (h : t.val / 4 < 4) (e : Fin 1024) (f : Fin 704) :
    (outsAt0 m c t.val t.isLt).2 (ix2 e f) = ∑ i : Fin 4096, X m c (ix2 i e) * Y m c (ix3 ⟨t.val / 4, h⟩ i f) := by
  refine Blocks.run_sum (P := 4) (n := 1024) rfl (by decide) (fun n hn => (outsAt0 m c n hn).2 (ix2 e f)) (t.val / 4)
    (fun i => X m c (ix2 i e) * Y m c (ix3 ⟨t.val / 4, h⟩ i f)) (fun n hn hq h0 => ?_) (fun n hn hq h0 => ?_) t.val t.isLt rfl h1
  · rw [sA m c ⟨n, hn⟩ h0 (by dsimp only; omega), pay2_at, pay1_at]
    simp only [b1 m c ⟨n, hn⟩ _ _ (show n / 4 < 4 by omega), b0, hq]
  · rw [sB m c ⟨n, hn⟩ h0, pay2_at]
    simp only [b1 m c ⟨n, hn⟩ _ _ (show n / 4 < 4 by omega), b0, hq]

theorem out_block (t : Fin cfg0.N) (h1 : t.val % 4 = 3) (e : Fin 1024) (f : Fin 704) (z : S4x1024x704.Idx)
    (h : (z 0).val = t.val / 4) (he : (z 1).val = e.val) (hf : (z 2).val = f.val) :
    k0_pay3 (F := Ideal) (outsAt0 m c t.val t.isLt).2 (ix3 0 e f) = G m c z := by
  have hz : t.val / 4 < 4 := h ▸ (z 0).isLt
  rw [pay3_at, acc_at m c t h1 hz]
  exact Finset.sum_congr rfl fun i _ => by
    rw [show (⟨t.val / 4, hz⟩ : Fin 4) = z 0 from Fin.ext h.symm, show e = z 1 from Fin.ext he.symm, show f = z 2 from Fin.ext hf.symm]

theorem final : (dats m 0 c).arrAt 2 cfg0.N = G m c := by
  refine (dats m 0 c).arrAt_eq_of_covers 2 _ (by decide +kernel) fun t hf y => ?_
  have h1 := (flush0_2 t).mp hf
  blk_simp
  rw [after0_2, oC m c t h1]
  exact (congrArg (k0_pay3 (F := Ideal) (outsAt0 m c t.val t.isLt).2) (Blocks.ix3_first (a := 1024) (b := 704) y)).trans
    (out_block m c t h1 (y 1) (y 2) _ (by blk_simp [idx t]) (by blk_simp [idx t]) (by blk_simp [idx t]))

end Cert.Kernel4Ideal.Values

namespace Cert.Reference4Ideal.Values

open Idealize.ShloMosaic Idealize.ShloMosaic.TcCoe Idealize.ShloMosaic.Tactic Cert.Reference4Ideal.Gen

/-- The reference's product is the same one. -/
theorem product (x : Vec Ideal S4096x1024 .bf16) (y : Vec Ideal S4x4096x704 .bf16) (a : Fin 4) (e : Fin 1024) (f : Fin 704) :
    truncf (F := Ideal) .bf16 (transpose S4x1024x704 [0, 2, 1] (Host.dotGeneral dot_S4x704x4096_S4096x1024_S4x704x1024_2_0_01_1_n_n none
      (transpose S4x704x4096 [0, 2, 1] (extf .f32 y bitsLt_bf16_f32) transposes_S4x4096x704_S4x704x4096_0_2_1) (extf .f32 x bitsLt_bf16_f32))
      transposes_S4x704x1024_S4x1024x704_0_2_1) bitsLt_bf16_f32 (ix3 a e f)
      = ∑ i : Fin 4096, x (ix2 i e) * y (ix3 a i f) := by
  pointwise
  exact Finset.sum_congr rfl fun i _ => mul_comm _ _

end Cert.Reference4Ideal.Values

namespace Cert.Proof

open Idealize.ShloMosaic Idealize.SL.Sem

/-- The two programs end with equal results. -/
theorem algebraic4 : Cert.algebraic_Kernel4Ideal_Reference4Ideal (hKernel4Ideal := Cert.Kernel4Ideal.Gen.facts) (hReference4Ideal := Cert.Reference4Ideal.Gen.facts) := by
  intro m ρ m' ρ' _ hag
  refine ⟨fun c => Cert.Kernel4Ideal.Values.G m c, (θ_run Cert.Kernel4Ideal.defs _ _).mono (fun r h c => ?_) (Cert.Kernel4Ideal.Value.run_blocks m ρ),
    (θ_run Cert.Reference4Ideal.defs _ _).mono (fun r h c => ?_) (Cert.Reference4Ideal.Value.run (F := Ideal) m' ρ')⟩
  · exact ⟨(h c).1.trans (Cert.Kernel4Ideal.Values.final m c), (h c).2⟩
  · refine ⟨(h c).1.trans (funext fun z => ?_), (h c).2⟩
    rw [(hag c).1, (hag c).2]
    exact (congrArg _ (eq_ix3 z)).trans (Cert.Reference4Ideal.Values.product _ _ (z 0) (z 1) (z 2))

end Cert.Proof
-- ==== Proof.Hidden.lean ====
/- The gradient of the feed-forward block's input: what the kernel writes is the sum of two products over the four chips' slabs. -/
module

public import proofs.«01_k».proof.Defs
public import proofs.«01_k».proof.Proof.Blocks
public import proofs.«01_k».proof.Proof.Gen.Kernel5Ideal.Frame
public import proofs.«01_k».proof.Proof.Gen.Reference5Ideal.Run

@[expose] public section

set_option maxRecDepth 16384

noncomputable section

namespace Cert.Kernel5Ideal.Values

open Idealize.ShloMosaic Idealize.ShloMosaic.TcCoe Idealize.ShloMosaic.Tactic
open Idealize.SL Idealize.SL.RA Idealize.SL.Sem
open Idealize.ShloMosaic.Pipeline (Dat Cfg Window)
open Idealize.ShloMosaic.VecWindow Cert.Kernel5Ideal.Gen

variable (m : (ℓ : Loc nD τ sig) → Buf (Elt Ideal) ℓ) (c : Dev nD)

/-- A run's first point leaves its own product in the accumulator. -/
theorem sA (t : Fin cfg0.N) (h0 : t.val % 8 = 0) :
    (outsAt0 m c t.val t.isLt).2 = k0_pay2 (F := Ideal) (k0_pay1 (F := Ideal)) (iblk m c 0 t) (iblk m c 1 t) := by
  rw [outsAt0_A m c t h0 (by omega) (by omega) (by omega)]
  dsimp only
  unfold sout0_A_0
  refine (View.read_writes_full _ _ _ _ _).trans ?_
  exact congr (congr (congrArg (k0_pay2 (F := Ideal)) (View.readCov_full _ _ _ _ _)) (Blocks.load _ _ _)) (Blocks.load _ _ _)
/-- The next three points add the product of the first pair of slabs. -/
theorem sB (t : Fin cfg0.N) (h0 : ¬t.val % 8 = 0) (h1 : t.val % 8 ≤ 3) :
    (outsAt0 m c t.val t.isLt).2
      = k0_pay2 (F := Ideal) (outsAt0 m c (t.val - 1) (Nat.lt_of_le_of_lt (Nat.sub_le _ _) t.isLt)).2 (iblk m c 0 t) (iblk m c 1 t) := by
  rw [outsAt0_B m c t h0 h1 (by omega) (by omega)]
  dsimp only
  unfold sout0_B_0
  refine (View.read_writes_full _ _ _ _ _).trans ?_
  exact congr (congr (congrArg (k0_pay2 (F := Ideal)) (Blocks.load _ _ _)) (Blocks.load _ _ _)) (Blocks.load _ _ _)
/-- The last four points add the product of the second pair. -/
theorem sC (t : Fin cfg0.N) (h1 : 4 ≤ t.val % 8) :
    (outsAt0 m c t.val t.isLt).2
      = k0_pay3 (F := Ideal) (outsAt0 m c (t.val - 1) (Nat.lt_of_le_of_lt (Nat.sub_le _ _) t.isLt)).2 (iblk m c 2 t) (iblk m c 3 t) := by
  by_cases h3 : t.val % 8 = 7
  · rw [outsAt0_D m c t (by omega) (by omega) h1 h3]
    dsimp only
    unfold sout0_D_0
    refine (View.read_writes_full _ _ _ _ _).trans ?_
    exact congr (congr (congrArg (k0_pay3 (F := Ideal)) (Blocks.load _ _ _)) (Blocks.load _ _ _)) (Blocks.load _ _ _)
  · rw [outsAt0_C m c t (by omega) (by omega) h1 h3]
    dsimp only
    unfold sout0_C_0
    refine (View.read_writes_full _ _ _ _ _).trans ?_
    exact congr (congr (congrArg (k0_pay3 (F := Ideal)) (Blocks.load _ _ _)) (Blocks.load _ _ _)) (Blocks.load _ _ _)
/-- The last point of a run writes the accumulator out. -/
theorem oD (t : Fin cfg0.N) (h1 : t.val % 8 = 7) : (outsAt0 m c t.val t.isLt).1 = (outsAt0 m c t.val t.isLt).2 := by
  rw [sC m c t (by omega), outsAt0_D m c t (by omega) (by omega) (by omega) h1]
  dsimp only
  unfold out0_D_4
  refine (View.read_writes_full _ _ _ _ _).trans ((View.readCov_full _ _ _ _ _).trans ?_)
  exact congr (congr (congrArg (k0_pay3 (F := Ideal)) (Blocks.load _ _ _)) (Blocks.load _ _ _)) (Blocks.load _ _ _)

/-- Which block of its array each window is at. -/
theorem idx : ∀ t : Fin cfg0.N, win0_0.index t = ![min (t.val % 8) 3, t.val / 8, 0] ∧ win0_1.index t = ![min (t.val % 8) 3, 0, 0]
    ∧ win0_2.index t = ![t.val % 8 - 4, t.val / 8, 0] ∧ win0_3.index t = ![t.val % 8 - 4, 0, 0] ∧ win0_4.index t = ![t.val / 8, 0] :=
  (by decide +kernel : ∀ t : Fin grid0.N, _)

/-- The gradients of the two hidden activations with the weights of their projections, as they are given. -/
abbrev A : Vec Ideal S4x4096x704 .bf16 := m ((c.tc : Thread nD τ).loc main_arg0)
abbrev U : Vec Ideal S4x1024x704 .bf16 := m ((c.tc : Thread nD τ).loc main_arg1)
abbrev B : Vec Ideal S4x4096x704 .bf16 := m ((c.tc : Thread nD τ).loc main_arg2)
abbrev W : Vec Ideal S4x1024x704 .bf16 := m ((c.tc : Thread nD τ).loc main_arg3)

/-- The slab a point of a run of eight is at. -/
abbrev slab (k : ℕ) : Fin 4 := ⟨k % 4, Nat.mod_lt _ (by decide)⟩

theorem b0 (t : Fin cfg0.N) (h1 : t.val % 8 ≤ 3) (j : Fin 1024) (f : Fin 704) (h : t.val / 8 * 1024 + j.val < 4096) :
    iblk m c 0 t (ix3 0 j f) = A m c (ix3 (slab (t.val % 8)) ⟨t.val / 8 * 1024 + j.val, h⟩ f) := by
  rw [show slab (t.val % 8) = ⟨min (t.val % 8) 3, by omega⟩ from Fin.ext (by show t.val % 8 % 4 = min (t.val % 8) 3; omega)]
  blk_point [iblk, V_main_arg0, idx t]
theorem b1 (t : Fin cfg0.N) (h1 : t.val % 8 ≤ 3) (e : Fin 1024) (f : Fin 704) :
    iblk m c 1 t (ix3 0 e f) = U m c (ix3 (slab (t.val % 8)) e f) := by
  rw [show slab (t.val % 8) = ⟨min (t.val % 8) 3, by omega⟩ from Fin.ext (by show t.val % 8 % 4 = min (t.val % 8) 3; omega)]
  blk_point [iblk, V_main_arg1, idx t]
theorem b2 (t : Fin cfg0.N) (h1 : 4 ≤ t.val % 8) (j : Fin 1024) (f : Fin 704) (h : t.val / 8 * 1024 + j.val < 4096) :
    iblk m c 2 t (ix3 0 j f) = B m c (ix3 (slab (t.val % 8)) ⟨t.val / 8 * 1024 + j.val, h⟩ f) := by
  rw [show slab (t.val % 8) = ⟨t.val % 8 - 4, by omega⟩ from Fin.ext (by show t.val % 8 % 4 = t.val % 8 - 4; omega)]
  blk_point [iblk, V_main_arg2, idx t]
theorem b3 (t : Fin cfg0.N) (h1 : 4 ≤ t.val % 8) (e : Fin 1024) (f : Fin 704) :
    iblk m c 3 t (ix3 0 e f) = W m c (ix3 (slab (t.val % 8)) e f) := by
  rw [show slab (t.val % 8) = ⟨t.val % 8 - 4, by omega⟩ from Fin.ext (by show t.val % 8 % 4 = t.val % 8 - 4; omega)]
  blk_point [iblk, V_main_arg3, idx t]

theorem pay1_at (j e : Fin 1024) : k0_pay1 (F := Ideal) (ix2 j e) = (0 : EReal) := by
  pointwise [k0_pay1]
theorem pay2_at (a : Vec Ideal S1024x1024 .f32) (u v : Vec Ideal S1x1024x704 .bf16) (j e : Fin 1024) :
    k0_pay2 (F := Ideal) a u v (ix2 j e) = a (ix2 j e) + ∑ f : Fin 704, u (ix3 0 j f) * v (ix3 0 e f) := by
  pointwise [k0_pay2]
theorem pay3_at (a : Vec Ideal S1024x1024 .f32) (u v : Vec Ideal S1x1024x704 .bf16) (j e : Fin 1024) :
    k0_pay3 (F := Ideal) a u v (ix2 j e) = a (ix2 j e) + ∑ f : Fin 704, u (ix3 0 j f) * v (ix3 0 e f) := by
  pointwise [k0_pay3]

/-- The sum of products the call stands for. -/
def G : Vec Ideal S4096x1024 .f32 := fun z => ∑ s : Fin 4, ∑ f : Fin 704, A m c (ix3 s (z 0) f) * U m c (ix3 s (z 1) f)
  + ∑ s : Fin 4, ∑ f : Fin 704, B m c (ix3 s (z 0) f) * W m c (ix3 s (z 1) f)

theorem acc_at (t : Fin cfg0.N) (h1 : t.val % 8 = 7) (j e : Fin 1024) (z : S4096x1024.Idx) (hj : (z 0).val = t.val / 8 * 1024 + j.val)
    (he : (z 1).val = e.val) : (outsAt0 m c t.val t.isLt).2 (ix2 j e) = G m c z := by
  have hr : t.val / 8 * 1024 + j.val < 4096 := hj ▸ (z 0).isLt
  have ej : z 0 = ⟨t.val / 8 * 1024 + j.val, hr⟩ := Fin.ext hj
  have ee : z 1 = e := Fin.ext he
  refine (Blocks.acc_eq_sum (P := 8) (by decide) (fun n hn => (outsAt0 m c n hn).2 (ix2 j e)) (t.val / 8)
    (fun k => if k < 4 then ∑ f : Fin 704, A m c (ix3 (slab k) (z 0) f) * U m c (ix3 (slab k) (z 1) f)
      else ∑ f : Fin 704, B m c (ix3 (slab k) (z 0) f) * W m c (ix3 (slab k) (z 1) f)) (fun n hn hq h0 => ?_) (fun n hn hq h0 => ?_)
    7 t.val t.isLt rfl h1).trans ?_
  · rw [sA m c ⟨n, hn⟩ h0, pay2_at, pay1_at, if_pos (by decide), ej, ee]
    have hr' : n / 8 * 1024 + j.val < 4096 := hq ▸ hr
    simp only [b0 m c ⟨n, hn⟩ (by dsimp only; omega) _ _ hr', b1 m c ⟨n, hn⟩ (by dsimp only; omega), hq, h0]
    rfl
  · have hr' : n / 8 * 1024 + j.val < 4096 := hq ▸ hr
    by_cases hk : n % 8 < 4
    · rw [sB m c ⟨n, hn⟩ h0 (by dsimp only; omega), pay2_at, if_pos hk, ej, ee]
      simp only [b0 m c ⟨n, hn⟩ (by dsimp only; omega) _ _ hr', b1 m c ⟨n, hn⟩ (by dsimp only; omega), hq]
      rfl
    · rw [sC m c ⟨n, hn⟩ (by dsimp only; omega), pay3_at, if_neg hk, ej, ee]
      simp only [b2 m c ⟨n, hn⟩ (by dsimp only; omega) _ _ hr', b3 m c ⟨n, hn⟩ (by dsimp only; omega), hq]
      rfl
  · rw [G, Fin.sum_univ_four, Fin.sum_univ_four]
    simp only [Finset.sum_range_succ, Finset.sum_range_zero, zero_add, ← add_assoc]
    rfl

theorem final : (dats m 0 c).arrAt 4 cfg0.N = G m c := by
  refine (dats m 0 c).arrAt_eq_of_covers 4 _ (by decide +kernel) fun t hf y => ?_
  have h1 := (flush0_4 t).mp hf
  blk_simp
  rw [after0_4, oD m c t h1]
  exact (congrArg (outsAt0 m c t.val t.isLt).2 (eq_ix2 (n0 := 1024) (n1 := 1024) y)).trans
    (acc_at m c t h1 (y 0) (y 1) _ (by blk_simp [idx t]) (by blk_simp [idx t]))

/-- The run, with the result named and the arguments kept. -/
theorem run (ρ : Dev nD → PrngReg) : θ_run defs (onTc (τ := τ) (main (F := Ideal))) ⟨m, fun _ => 0, ρ⟩ fun r => ∀ c : Dev nD,
      r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h c).1 4).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.Kernel5Ideal.Values

namespace Cert.Reference5Ideal.Values

open Idealize.ShloMosaic Idealize.ShloMosaic.TcCoe Idealize.ShloMosaic.Tactic Cert.Reference5Ideal.Gen

/-- One of the reference's two products. -/
theorem product (x : Vec Ideal S4x4096x704 .bf16) (y : Vec Ideal S4x1024x704 .bf16) (s : Fin 4096) (d : Fin 1024) :
    Host.dotGeneral (F := Ideal) dot_S4x704x4096_S4x1024x704_S4096x1024_01_02_2_1_n_n none
      (transpose S4x704x4096 [0, 2, 1] (extf .f32 x bitsLt_bf16_f32) transposes_S4x4096x704_S4x704x4096_0_2_1) (extf .f32 y bitsLt_bf16_f32) (ix2 s d)
      = ∑ a : Fin 4, ∑ f : Fin 704, x (ix3 a s f) * y (ix3 a d f) := by
  pointwise

end Cert.Reference5Ideal.Values

namespace Cert.Proof

open Idealize.ShloMosaic Idealize.SL.Sem

/-- The two programs end with equal results. -/
theorem algebraic5 : Cert.algebraic_Kernel5Ideal_Reference5Ideal (hKernel5Ideal := Cert.Kernel5Ideal.Gen.facts) (hReference5Ideal := Cert.Reference5Ideal.Gen.facts) := by
  intro m ρ m' ρ' _ hag
  refine ⟨fun c => Cert.Kernel5Ideal.Values.G m c, Cert.Kernel5Ideal.Values.run m ρ,
    (θ_run Cert.Reference5Ideal.defs _ _).mono (fun r h c => ?_) (Cert.Reference5Ideal.Value.run (F := Ideal) m' ρ')⟩
  refine ⟨(h c).1.trans (funext fun z => ?_), (h c).2⟩
  rw [(hag c).1, (hag c).2.1, (hag c).2.2.1, (hag c).2.2.2]
  refine (congrArg _ (eq_ix2 z)).trans ((addf_apply _ _ _).trans ?_)
  exact (congrArg₂ (· + ·) (Cert.Reference5Ideal.Values.product _ _ (z 0) (z 1)) (Cert.Reference5Ideal.Values.product _ _ (z 0) (z 1))).trans (add_comm _ _)

end Cert.Proof
-- ==== Proof.Narrow.lean ====
/- The weight gradients of the layer's four narrow projections: what the kernel writes is one product. -/
module

public import proofs.«01_k».proof.Defs
public import proofs.«01_k».proof.Proof.Blocks
public import proofs.«01_k».proof.Proof.Gen.Kernel6Ideal.Value
public import proofs.«01_k».proof.Proof.Gen.Reference6Ideal.Run
public import Idealize.ShloMosaic.Lib.Pipeline.ValueKit
public import Idealize.ShloMosaic.Lib.VecWindow

@[expose] public section

set_option maxRecDepth 16384

noncomputable section

namespace Cert.Kernel6Ideal.Values

open Idealize.ShloMosaic Idealize.ShloMosaic.TcCoe Idealize.ShloMosaic.Tactic
open Idealize.SL Idealize.SL.RA Idealize.SL.Sem
open Idealize.ShloMosaic.Pipeline (Dat Cfg Window)
open Idealize.ShloMosaic.VecWindow Cert.Kernel6Ideal.Gen

variable (m : (ℓ : Loc nD τ sig) → Buf (Elt Ideal) ℓ) (c : Dev nD)

/-- A run's first point leaves its own product in the accumulator. -/
theorem sA (t : Fin cfg0.N) (h0 : t.val % 4 = 0) (h1 : ¬t.val % 4 = 3) :
    (outsAt0 m c t.val t.isLt).2 = k0_pay2 (F := Ideal) (iblk m c 0 t) (k0_pay1 (F := Ideal)) (iblk m c 1 t) := by
  rw [outsAt0_A m c t h0 h1]
  dsimp only
  unfold sout0_A_0
  refine (View.read_writes_full _ _ _ _ _).trans ?_
  exact congr (congr (congrArg (k0_pay2 (F := Ideal)) (Blocks.load _ _ _)) (View.readCov_full _ _ _ _ _)) (Blocks.load _ _ _)
/-- A later point adds its product to what the point before left. -/
theorem sB (t : Fin cfg0.N) (h0 : ¬t.val % 4 = 0) :
    (outsAt0 m c t.val t.isLt).2
      = k0_pay2 (F := Ideal) (iblk m c 0 t) (outsAt0 m c (t.val - 1) (Nat.lt_of_le_of_lt (Nat.sub_le _ _) t.isLt)).2 (iblk m c 1 t) := by
  by_cases h1 : t.val % 4 = 3
  · rw [outsAt0_C m c t h0 h1]
    dsimp only
    unfold sout0_C_0
    exact (View.read_writes_full _ _ _ _ _).trans (congr (congr (congrArg (k0_pay2 (F := Ideal)) (Blocks.load _ _ _)) (Blocks.load _ _ _)) (Blocks.load _ _ _))
  · rw [outsAt0_B m c t h0 h1]
    dsimp only
    unfold sout0_B_0
    exact (View.read_writes_full _ _ _ _ _).trans (congr (congr (congrArg (k0_pay2 (F := Ideal)) (Blocks.load _ _ _)) (Blocks.load _ _ _)) (Blocks.load _ _ _))
/-- The last point of a run writes the accumulator out. -/
theorem oC (t : Fin cfg0.N) (h1 : t.val % 4 = 3) :
    (outsAt0 m c t.val t.isLt).1 = k0_pay3 (F := Ideal) (outsAt0 m c t.val t.isLt).2 := by
  rw [sB m c t (by omega), outsAt0_C m c t (by omega) h1]
  dsimp only
  unfold out0_C_2
  refine (View.read_writes_full _ _ _ _ _).trans ?_
  refine congrArg (k0_pay3 (F := Ideal)) ((View.readCov_full _ _ _ _ _).trans ?_)
  exact congr (congr (congrArg (k0_pay2 (F := Ideal)) (Blocks.load _ _ _)) (Blocks.load _ _ _)) (Blocks.load _ _ _)

/-- Which block of its array each window is at. -/
theorem idx : ∀ t : Fin cfg0.N, win0_0.index t = ![t.val % 4, 0] ∧ win0_1.index t = ![t.val % 4, 0]
    ∧ win0_2.index t = ![0, 0] :=
  (by decide +kernel : ∀ t : Fin grid0.N, _)

/-- The layer's input and the gradient of the projected piece, as they are given. -/
abbrev X : Vec Ideal S4096x1024 .bf16 := m ((c.tc : Thread nD τ).loc main_arg0)
abbrev Y : Vec Ideal S4096x512 .bf16 := m ((c.tc : Thread nD τ).loc main_arg1)

theorem b0 (t : Fin cfg0.N) (j : Fin 1024) (e : Fin 1024) : iblk m c 0 t (ix2 j e) = X m c (ix2 (Blocks.rowOf (by decide) (t.val % 4) j) e) := by
  rw [Blocks.rowOf_eq _ _ _ (by omega)]
  blk_point [iblk, V_main_arg0, idx t]
theorem b1 (t : Fin cfg0.N) (j : Fin 1024) (f : Fin 512) : iblk m c 1 t (ix2 j f) = Y m c (ix2 (Blocks.rowOf (by decide) (t.val % 4) j) f) := by
  rw [Blocks.rowOf_eq _ _ _ (by omega)]
  blk_point [iblk, V_main_arg1, idx t]

theorem pay2_at (u : Vec Ideal S1024x1024 .bf16) (a : Vec Ideal S1024x512 .f32) (v : Vec Ideal S1024x512 .bf16) (e : Fin 1024) (f : Fin 512) :
    k0_pay2 (F := Ideal) u a v (ix2 e f) = a (ix2 e f) + ∑ j : Fin 1024, u (ix2 j e) * v (ix2 j f) := by
  pointwise [k0_pay2]
theorem pay1_at (e : Fin 1024) (f : Fin 512) : k0_pay1 (F := Ideal) (ix2 e f) = (0 : EReal) := by
  pointwise [k0_pay1]
theorem pay3_at (a : Vec Ideal S1024x512 .f32) (e : Fin 1024) (f : Fin 512) : k0_pay3 (F := Ideal) a (ix2 e f) = a (ix2 e f) := by
  pointwise [k0_pay3]

/-- The product the call stands for. -/
def G : Vec Ideal S1024x512 .bf16 := fun z => ∑ i : Fin 4096, X m c (ix2 i (z 0)) * Y m c (ix2 i (z 1))

theorem acc_at (t : Fin cfg0.N) (h1 : t.val % 4 = 3) (e : Fin 1024) (f : Fin 512) :
    (outsAt0 m c t.val t.isLt).2 (ix2 e f) = ∑ i : Fin 4096, X m c (ix2 i e) * Y m c (ix2 i f) := by
  refine Blocks.run_sum (P := 4) (n := 1024) rfl (by decide) (fun n hn => (outsAt0 m c n hn).2 (ix2 e f)) (t.val / 4)
    (fun i => X m c (ix2 i e) * Y m c (ix2 i f)) (fun n hn hq h0 => ?_) (fun n hn hq h0 => ?_) t.val t.isLt rfl h1
  · rw [sA m c ⟨n, hn⟩ h0 (by dsimp only; omega), pay2_at, pay1_at]
    simp only [b0, b1]
  · rw [sB m c ⟨n, hn⟩ h0, pay2_at]
    simp only [b0, b1]

theorem out_block (t : Fin cfg0.N) (h1 : t.val % 4 = 3) (e : Fin 1024) (f : Fin 512) (z : S1024x512.Idx)
    (he : (z 0).val = e.val) (hf : (z 1).val = f.val) :
    k0_pay3 (F := Ideal) (outsAt0 m c t.val t.isLt).2 (ix2 e f) = G m c z := by
  rw [pay3_at, acc_at m c t h1]
  exact Finset.sum_congr rfl fun i _ => by
    rw [show e = z 0 from Fin.ext he.symm, show f = z 1 from Fin.ext hf.symm]

theorem final : (dats m 0 c).arrAt 2 cfg0.N = G m c := by
  refine (dats m 0 c).arrAt_eq_of_covers 2 _ (by decide +kernel) fun t hf y => ?_
  have h1 := (flush0_2 t).mp hf
  blk_simp
  rw [after0_2, oC m c t h1]
  exact (congrArg (k0_pay3 (F := Ideal) (outsAt0 m c t.val t.isLt).2) (eq_ix2 (n0 := 1024) (n1 := 512) y)).trans
    (out_block m c t h1 (y 0) (y 1) _ (by blk_simp [idx t]) (by blk_simp [idx t]))

end Cert.Kernel6Ideal.Values

namespace Cert.Reference6Ideal.Values

open Idealize.ShloMosaic Idealize.ShloMosaic.TcCoe Idealize.ShloMosaic.Tactic Cert.Reference6Ideal.Gen

/-- The reference's product is the same one. -/
theorem product (x : Vec Ideal S4096x1024 .bf16) (y : Vec Ideal S4096x512 .bf16) (e : Fin 1024) (f : Fin 512) :
    truncf (F := Ideal) .bf16 (transpose S1024x512 [1, 0] (Host.dotGeneral dot_S4096x512_S4096x1024_S512x1024_0_0_1_1_n_n none
      (extf .f32 y bitsLt_bf16_f32) (extf .f32 x bitsLt_bf16_f32)) transposes_S512x1024_S1024x512_1_0) bitsLt_bf16_f32 (ix2 e f)
      = ∑ i : Fin 4096, x (ix2 i e) * y (ix2 i f) := by
  pointwise
  exact Finset.sum_congr rfl fun i _ => mul_comm _ _

end Cert.Reference6Ideal.Values

namespace Cert.Proof

open Idealize.ShloMosaic Idealize.SL.Sem

/-- The two programs end with equal results. -/
theorem algebraic6 : Cert.algebraic_Kernel6Ideal_Reference6Ideal (hKernel6Ideal := Cert.Kernel6Ideal.Gen.facts) (hReference6Ideal := Cert.Reference6Ideal.Gen.facts) := by
  intro m ρ m' ρ' _ hag
  refine ⟨fun c => Cert.Kernel6Ideal.Values.G m c, (θ_run Cert.Kernel6Ideal.defs _ _).mono (fun r h c => ?_) (Cert.Kernel6Ideal.Value.run_blocks m ρ),
    (θ_run Cert.Reference6Ideal.defs _ _).mono (fun r h c => ?_) (Cert.Reference6Ideal.Value.run (F := Ideal) m' ρ')⟩
  · exact ⟨(h c).1.trans (Cert.Kernel6Ideal.Values.final m c), (h c).2⟩
  · refine ⟨(h c).1.trans (funext fun z => ?_), (h c).2⟩
    rw [(hag c).1, (hag c).2]
    exact (congrArg _ (eq_ix2 z)).trans (Cert.Reference6Ideal.Values.product _ _ (z 0) (z 1))

end Cert.Proof
-- ==== Proof.Gates.lean ====
/- The weight gradients of the layer's two gate projections: what the kernel writes is one product. -/
module

public import proofs.«01_k».proof.Defs
public import proofs.«01_k».proof.Proof.Blocks
public import proofs.«01_k».proof.Proof.Gen.Kernel7Ideal.Value
public import proofs.«01_k».proof.Proof.Gen.Reference7Ideal.Run
public import Idealize.ShloMosaic.Lib.Pipeline.ValueKit
public import Idealize.ShloMosaic.Lib.VecWindow

@[expose] public section

set_option maxRecDepth 16384

noncomputable section

namespace Cert.Kernel7Ideal.Values

open Idealize.ShloMosaic Idealize.ShloMosaic.TcCoe Idealize.ShloMosaic.Tactic
open Idealize.SL Idealize.SL.RA Idealize.SL.Sem
open Idealize.ShloMosaic.Pipeline (Dat Cfg Window)
open Idealize.ShloMosaic.VecWindow Cert.Kernel7Ideal.Gen

variable (m : (ℓ : Loc nD τ sig) → Buf (Elt Ideal) ℓ) (c : Dev nD)

/-- A run's first point leaves its own product in the accumulator. -/
theorem sA (t : Fin cfg0.N) (h0 : t.val % 4 = 0) (h1 : ¬t.val % 4 = 3) :
    (outsAt0 m c t.val t.isLt).2 = k0_pay2 (F := Ideal) (iblk m c 0 t) (k0_pay1 (F := Ideal)) (iblk m c 1 t) := by
  rw [outsAt0_A m c t h0 h1]
  dsimp only
  unfold sout0_A_0
  refine (View.read_writes_full _ _ _ _ _).trans ?_
  exact congr (congr (congrArg (k0_pay2 (F := Ideal)) (Blocks.load _ _ _)) (View.readCov_full _ _ _ _ _)) (Blocks.load _ _ _)
/-- A later point adds its product to what the point before left. -/
theorem sB (t : Fin cfg0.N) (h0 : ¬t.val % 4 = 0) :
    (outsAt0 m c t.val t.isLt).2
      = k0_pay2 (F := Ideal) (iblk m c 0 t) (outsAt0 m c (t.val - 1) (Nat.lt_of_le_of_lt (Nat.sub_le _ _) t.isLt)).2 (iblk m c 1 t) := by
  by_cases h1 : t.val % 4 = 3
  · rw [outsAt0_C m c t h0 h1]
    dsimp only
    unfold sout0_C_0
    exact (View.read_writes_full _ _ _ _ _).trans (congr (congr (congrArg (k0_pay2 (F := Ideal)) (Blocks.load _ _ _)) (Blocks.load _ _ _)) (Blocks.load _ _ _))
  · rw [outsAt0_B m c t h0 h1]
    dsimp only
    unfold sout0_B_0
    exact (View.read_writes_full _ _ _ _ _).trans (congr (congr (congrArg (k0_pay2 (F := Ideal)) (Blocks.load _ _ _)) (Blocks.load _ _ _)) (Blocks.load _ _ _))
/-- The last point of a run writes the accumulator out. -/
theorem oC (t : Fin cfg0.N) (h1 : t.val % 4 = 3) :
    (outsAt0 m c t.val t.isLt).1 = k0_pay3 (F := Ideal) (outsAt0 m c t.val t.isLt).2 := by
  rw [sB m c t (by omega), outsAt0_C m c t (by omega) h1]
  dsimp only
  unfold out0_C_2
  refine (View.read_writes_full _ _ _ _ _).trans ?_
  refine congrArg (k0_pay3 (F := Ideal)) ((View.readCov_full _ _ _ _ _).trans ?_)
  exact congr (congr (congrArg (k0_pay2 (F := Ideal)) (Blocks.load _ _ _)) (Blocks.load _ _ _)) (Blocks.load _ _ _)

/-- Which block of its array each window is at. -/
theorem idx : ∀ t : Fin cfg0.N, win0_0.index t = ![t.val % 4, 0] ∧ win0_1.index t = ![t.val % 4, 0]
    ∧ win0_2.index t = ![0, 0] :=
  (by decide +kernel : ∀ t : Fin grid0.N, _)

/-- The layer's input and the gradient of the projected piece, as they are given. -/
abbrev X : Vec Ideal S4096x1024 .bf16 := m ((c.tc : Thread nD τ).loc main_arg0)
abbrev Y : Vec Ideal S4096x1024 .bf16 := m ((c.tc : Thread nD τ).loc main_arg1)

theorem b0 (t : Fin cfg0.N) (j : Fin 1024) (e : Fin 1024) : iblk m c 0 t (ix2 j e) = X m c (ix2 (Blocks.rowOf (by decide) (t.val % 4) j) e) := by
  rw [Blocks.rowOf_eq _ _ _ (by omega)]
  blk_point [iblk, V_main_arg0, idx t]
theorem b1 (t : Fin cfg0.N) (j : Fin 1024) (f : Fin 1024) : iblk m c 1 t (ix2 j f) = Y m c (ix2 (Blocks.rowOf (by decide) (t.val % 4) j) f) := by
  rw [Blocks.rowOf_eq _ _ _ (by omega)]
  blk_point [iblk, V_main_arg1, idx t]

theorem pay2_at (u : Vec Ideal S1024x1024 .bf16) (a : Vec Ideal S1024x1024 .f32) (v : Vec Ideal S1024x1024 .bf16) (e : Fin 1024) (f : Fin 1024) :
    k0_pay2 (F := Ideal) u a v (ix2 e f) = a (ix2 e f) + ∑ j : Fin 1024, u (ix2 j e) * v (ix2 j f) := by
  pointwise [k0_pay2]
theorem pay1_at (e : Fin 1024) (f : Fin 1024) : k0_pay1 (F := Ideal) (ix2 e f) = (0 : EReal) := by
  pointwise [k0_pay1]
theorem pay3_at (a : Vec Ideal S1024x1024 .f32) (e : Fin 1024) (f : Fin 1024) : k0_pay3 (F := Ideal) a (ix2 e f) = a (ix2 e f) := by
  pointwise [k0_pay3]

/-- The product the call stands for. -/
def G : Vec Ideal S1024x1024 .bf16 := fun z => ∑ i : Fin 4096, X m c (ix2 i (z 0)) * Y m c (ix2 i (z 1))

theorem acc_at (t : Fin cfg0.N) (h1 : t.val % 4 = 3) (e : Fin 1024) (f : Fin 1024) :
    (outsAt0 m c t.val t.isLt).2 (ix2 e f) = ∑ i : Fin 4096, X m c (ix2 i e) * Y m c (ix2 i f) := by
  refine Blocks.run_sum (P := 4) (n := 1024) rfl (by decide) (fun n hn => (outsAt0 m c n hn).2 (ix2 e f)) (t.val / 4)
    (fun i => X m c (ix2 i e) * Y m c (ix2 i f)) (fun n hn hq h0 => ?_) (fun n hn hq h0 => ?_) t.val t.isLt rfl h1
  · rw [sA m c ⟨n, hn⟩ h0 (by dsimp only; omega), pay2_at, pay1_at]
    simp only [b0, b1]
  · rw [sB m c ⟨n, hn⟩ h0, pay2_at]
    simp only [b0, b1]

theorem out_block (t : Fin cfg0.N) (h1 : t.val % 4 = 3) (e : Fin 1024) (f : Fin 1024) (z : S1024x1024.Idx)
    (he : (z 0).val = e.val) (hf : (z 1).val = f.val) :
    k0_pay3 (F := Ideal) (outsAt0 m c t.val t.isLt).2 (ix2 e f) = G m c z := by
  rw [pay3_at, acc_at m c t h1]
  exact Finset.sum_congr rfl fun i _ => by
    rw [show e = z 0 from Fin.ext he.symm, show f = z 1 from Fin.ext hf.symm]

theorem final : (dats m 0 c).arrAt 2 cfg0.N = G m c := by
  refine (dats m 0 c).arrAt_eq_of_covers 2 _ (by decide +kernel) fun t hf y => ?_
  have h1 := (flush0_2 t).mp hf
  blk_simp
  rw [after0_2, oC m c t h1]
  exact (congrArg (k0_pay3 (F := Ideal) (outsAt0 m c t.val t.isLt).2) (eq_ix2 (n0 := 1024) (n1 := 1024) y)).trans
    (out_block m c t h1 (y 0) (y 1) _ (by blk_simp [idx t]) (by blk_simp [idx t]))

end Cert.Kernel7Ideal.Values

namespace Cert.Reference7Ideal.Values

open Idealize.ShloMosaic Idealize.ShloMosaic.TcCoe Idealize.ShloMosaic.Tactic Cert.Reference7Ideal.Gen

/-- The reference's product is the same one. -/
theorem product (x : Vec Ideal S4096x1024 .bf16) (y : Vec Ideal S4096x1024 .bf16) (e : Fin 1024) (f : Fin 1024) :
    truncf (F := Ideal) .bf16 (transpose S1024x1024 [1, 0] (Host.dotGeneral dot_S4096x1024_S4096x1024_S1024x1024_0_0_1_1_n_n none
      (extf .f32 y bitsLt_bf16_f32) (extf .f32 x bitsLt_bf16_f32)) transposes_S1024x1024_S1024x1024_1_0) bitsLt_bf16_f32 (ix2 e f)
      = ∑ i : Fin 4096, x (ix2 i e) * y (ix2 i f) := by
  pointwise
  exact Finset.sum_congr rfl fun i _ => mul_comm _ _

end Cert.Reference7Ideal.Values

namespace Cert.Proof

open Idealize.ShloMosaic Idealize.SL.Sem

/-- The two programs end with equal results. -/
theorem algebraic7 : Cert.algebraic_Kernel7Ideal_Reference7Ideal (hKernel7Ideal := Cert.Kernel7Ideal.Gen.facts) (hReference7Ideal := Cert.Reference7Ideal.Gen.facts) := by
  intro m ρ m' ρ' _ hag
  refine ⟨fun c => Cert.Kernel7Ideal.Values.G m c, (θ_run Cert.Kernel7Ideal.defs _ _).mono (fun r h c => ?_) (Cert.Kernel7Ideal.Value.run_blocks m ρ),
    (θ_run Cert.Reference7Ideal.defs _ _).mono (fun r h c => ?_) (Cert.Reference7Ideal.Value.run (F := Ideal) m' ρ')⟩
  · exact ⟨(h c).1.trans (Cert.Kernel7Ideal.Values.final m c), (h c).2⟩
  · refine ⟨(h c).1.trans (funext fun z => ?_), (h c).2⟩
    rw [(hag c).1, (hag c).2]
    exact (congrArg _ (eq_ix2 z)).trans (Cert.Reference7Ideal.Values.product _ _ (z 0) (z 1))

end Cert.Proof
-- ==== Proof.Mix.lean ====
/- The gradient of the normed input of the mixing layer: what the kernel writes is the sum of seven products, taken in nine steps. -/
module

public import proofs.«01_k».proof.Defs
public import proofs.«01_k».proof.Proof.Blocks
public import proofs.«01_k».proof.Proof.Gen.Kernel8Ideal.Frame
public import proofs.«01_k».proof.Proof.Gen.Reference8Ideal.Run

@[expose] public section

set_option maxRecDepth 16384

noncomputable section

namespace Cert.Kernel8Ideal.Values

open Idealize.ShloMosaic Idealize.ShloMosaic.TcCoe Idealize.ShloMosaic.Tactic
open Idealize.SL Idealize.SL.RA Idealize.SL.Sem
open Idealize.ShloMosaic.Pipeline (Dat Cfg Window)
open Idealize.ShloMosaic.VecWindow Cert.Kernel8Ideal.Gen

variable (m : (ℓ : Loc nD τ sig) → Buf (Elt Ideal) ℓ) (c : Dev nD)

/-- A run's first point leaves its own product in the accumulator. -/
theorem sA (t : Fin cfg0.N) (h : t.val % 9 = 0) :
    (outsAt0 m c t.val t.isLt).2 = k0_pay4 (F := Ideal) (k0_pay3 (F := Ideal)) (iblk m c 0 t) (iblk m c 1 t) := by
  rw [outsAt0_A m c t (by omega) (by omega) (by omega) (by omega) (by omega) (by omega) (by omega) (by omega) (by omega)]
  dsimp only
  unfold sout0_A_0
  refine (View.read_writes_full _ _ _ _ _).trans ?_
  exact congr (congr (congrArg (k0_pay4 (F := Ideal)) (View.readCov_full _ _ _ _ _)) (Blocks.load _ _ _)) (Blocks.load _ _ _)
/-- The points after it add the products of the other pairs, one kind of gradient after the other. -/
theorem sB (t : Fin cfg0.N) (h : t.val % 9 = 1) : (outsAt0 m c t.val t.isLt).2
    = k0_pay5 (F := Ideal) (outsAt0 m c (t.val - 1) (Nat.lt_of_le_of_lt (Nat.sub_le _ _) t.isLt)).2 (iblk m c 2 t) (iblk m c 3 t) := by
  rw [outsAt0_B m c t (by omega) (by omega) (by omega) (by omega) (by omega) (by omega) (by omega) (by omega) (by omega)]
  dsimp only
  unfold sout0_B_0
  refine (View.read_writes_full _ _ _ _ _).trans ?_
  exact congr (congr (congrArg (k0_pay5 (F := Ideal)) (Blocks.load _ _ _)) (Blocks.load _ _ _)) (Blocks.load _ _ _)
/-- The third pair. -/
theorem sC (t : Fin cfg0.N) (h : t.val % 9 = 2) : (outsAt0 m c t.val t.isLt).2
    = k0_pay6 (F := Ideal) (outsAt0 m c (t.val - 1) (Nat.lt_of_le_of_lt (Nat.sub_le _ _) t.isLt)).2 (iblk m c 4 t) (iblk m c 5 t) := by
  rw [outsAt0_C m c t (by omega) (by omega) (by omega) (by omega) (by omega) (by omega) (by omega) (by omega) (by omega)]
  dsimp only
  unfold sout0_C_0
  refine (View.read_writes_full _ _ _ _ _).trans ?_
  exact congr (congr (congrArg (k0_pay6 (F := Ideal)) (Blocks.load _ _ _)) (Blocks.load _ _ _)) (Blocks.load _ _ _)
/-- The fourth pair. -/
theorem sD (t : Fin cfg0.N) (h : t.val % 9 = 3) : (outsAt0 m c t.val t.isLt).2
    = k0_pay7 (F := Ideal) (outsAt0 m c (t.val - 1) (Nat.lt_of_le_of_lt (Nat.sub_le _ _) t.isLt)).2 (iblk m c 6 t) (iblk m c 7 t) := by
  rw [outsAt0_D m c t (by omega) (by omega) (by omega) (by omega) (by omega) (by omega) (by omega) (by omega) (by omega)]
  dsimp only
  unfold sout0_D_0
  refine (View.read_writes_full _ _ _ _ _).trans ?_
  exact congr (congr (congrArg (k0_pay7 (F := Ideal)) (Blocks.load _ _ _)) (Blocks.load _ _ _)) (Blocks.load _ _ _)
/-- The first gate's gradient, in two halves. -/
theorem sE (t : Fin cfg0.N) (h : 4 ≤ t.val % 9 ∧ t.val % 9 ≤ 5) : (outsAt0 m c t.val t.isLt).2
    = k0_pay8 (F := Ideal) (outsAt0 m c (t.val - 1) (Nat.lt_of_le_of_lt (Nat.sub_le _ _) t.isLt)).2 (iblk m c 8 t) (X0_9 m c t) := by
  rw [outsAt0_E m c t (by omega) (by omega) (by omega) (by omega) (by omega) (by omega) (by omega) (by omega) (by omega)]
  dsimp only
  unfold sout0_E_0
  refine (View.read_writes_full _ _ _ _ _).trans ?_
  exact congr (congr (congrArg (k0_pay8 (F := Ideal)) (Blocks.load _ _ _)) (Blocks.load _ _ _)) (Blocks.load _ _ _)
/-- The second gate's, in two halves. -/
theorem sF (t : Fin cfg0.N) (h : 6 ≤ t.val % 9 ∧ t.val % 9 ≤ 7) : (outsAt0 m c t.val t.isLt).2
    = k0_pay1 (F := Ideal) (outsAt0 m c (t.val - 1) (Nat.lt_of_le_of_lt (Nat.sub_le _ _) t.isLt)).2 (iblk m c 10 t) (X0_11 m c t) := by
  rw [outsAt0_F m c t (by omega) (by omega) (by omega) (by omega) (by omega) (by omega) (by omega) (by omega) (by omega)]
  dsimp only
  unfold sout0_F_0
  refine (View.read_writes_full _ _ _ _ _).trans ?_
  exact congr (congr (congrArg (k0_pay1 (F := Ideal)) (Blocks.load _ _ _)) (Blocks.load _ _ _)) (Blocks.load _ _ _)
/-- The narrow projection's gradient. -/
theorem sG (t : Fin cfg0.N) (h : t.val % 9 = 8) : (outsAt0 m c t.val t.isLt).2
    = k0_pay2 (F := Ideal) (outsAt0 m c (t.val - 1) (Nat.lt_of_le_of_lt (Nat.sub_le _ _) t.isLt)).2 (iblk m c 12 t) (iblk m c 13 t) := by
  rw [outsAt0_G m c t (by omega) (by omega) (by omega) (by omega) (by omega) (by omega) (by omega) (by omega) (by omega)]
  dsimp only
  unfold sout0_G_0
  refine (View.read_writes_full _ _ _ _ _).trans ?_
  exact congr (congr (congrArg (k0_pay2 (F := Ideal)) (Blocks.load _ _ _)) (Blocks.load _ _ _)) (Blocks.load _ _ _)
/-- The last point of a run writes the accumulator out. -/
theorem oG (t : Fin cfg0.N) (h : t.val % 9 = 8) : (outsAt0 m c t.val t.isLt).1 = (outsAt0 m c t.val t.isLt).2 := by
  rw [sG m c t h, outsAt0_G m c t (by omega) (by omega) (by omega) (by omega) (by omega) (by omega) (by omega) (by omega) (by omega)]
  dsimp only
  unfold out0_G_14
  refine (View.read_writes_full _ _ _ _ _).trans ((View.readCov_full _ _ _ _ _).trans ?_)
  exact congr (congr (congrArg (k0_pay2 (F := Ideal)) (Blocks.load _ _ _)) (Blocks.load _ _ _)) (Blocks.load _ _ _)

/-- Which block of its array each window is at. -/
theorem idx : ∀ t : Fin cfg0.N, win0_0.index t = ![t.val / 9, 0] ∧ win0_1.index t = ![0, 0] ∧ win0_2.index t = ![t.val / 9, 0]
    ∧ win0_3.index t = ![0, 1] ∧ win0_4.index t = ![t.val / 9, 0] ∧ win0_5.index t = ![0, 2] ∧ win0_6.index t = ![t.val / 9, 0]
    ∧ win0_7.index t = ![0, 3] ∧ win0_8.index t = ![t.val / 9, min (t.val % 9 - 4) 1] ∧ win0_9.index t = ![0, min (t.val % 9 - 4) 1]
    ∧ win0_10.index t = ![t.val / 9, min (t.val % 9 - 6) 1] ∧ win0_11.index t = ![0, 2 + min (t.val % 9 - 6) 1]
    ∧ win0_12.index t = ![t.val / 9, 0] ∧ win0_13.index t = ![0, 8] ∧ win0_14.index t = ![t.val / 9, 0] :=
  (by decide +kernel : ∀ t : Fin grid0.N, _)

/-- The gradients of the four wide projections, of the two gates and of the narrow projection, and the two weights, as they are given. -/
abbrev DU : Vec Ideal S4096x512 .bf16 := m ((c.tc : Thread nD τ).loc main_arg0)
abbrev DQ : Vec Ideal S4096x512 .bf16 := m ((c.tc : Thread nD τ).loc main_arg1)
abbrev DK : Vec Ideal S4096x512 .bf16 := m ((c.tc : Thread nD τ).loc main_arg2)
abbrev DV : Vec Ideal S4096x512 .bf16 := m ((c.tc : Thread nD τ).loc main_arg3)
abbrev DA : Vec Ideal S4096x1024 .bf16 := m ((c.tc : Thread nD τ).loc main_arg4)
abbrev DB : Vec Ideal S4096x1024 .bf16 := m ((c.tc : Thread nD τ).loc main_arg5)
abbrev DF : Vec Ideal S4096x256 .bf16 := m ((c.tc : Thread nD τ).loc main_arg6)
abbrev WM : Vec Ideal S1024x2048 .bf16 := m ((c.tc : Thread nD τ).loc main_arg7)
abbrev WG : Vec Ideal S1024x2304 .bf16 := m ((c.tc : Thread nD τ).loc main_arg8)

theorem b0 (t : Fin cfg0.N) (j : Fin 1024) (d : Fin 512) (s : Fin 4096) (hs : s.val = t.val / 9 * 1024 + j.val) :
    iblk m c 0 t (ix2 j d) = DU m c (ix2 s d) := by
  rw [show s = ⟨t.val / 9 * 1024 + j.val, hs ▸ s.isLt⟩ from Fin.ext hs]
  blk_point [iblk, V_main_arg0, idx t]
theorem b1 (t : Fin cfg0.N) (e : Fin 1024) (d : Fin 512) (q : Fin 2048) (hq : q.val = 0 * 512 + d.val) :
    iblk m c 1 t (ix2 e d) = WM m c (ix2 e q) := by
  rw [show q = ⟨0 * 512 + d.val, hq ▸ q.isLt⟩ from Fin.ext hq]
  blk_point [iblk, V_main_arg7, idx t]
theorem b2 (t : Fin cfg0.N) (j : Fin 1024) (d : Fin 512) (s : Fin 4096) (hs : s.val = t.val / 9 * 1024 + j.val) :
    iblk m c 2 t (ix2 j d) = DQ m c (ix2 s d) := by
  rw [show s = ⟨t.val / 9 * 1024 + j.val, hs ▸ s.isLt⟩ from Fin.ext hs]
  blk_point [iblk, V_main_arg1, idx t]
theorem b3 (t : Fin cfg0.N) (e : Fin 1024) (d : Fin 512) (q : Fin 2048) (hq : q.val = 1 * 512 + d.val) :
    iblk m c 3 t (ix2 e d) = WM m c (ix2 e q) := by
  rw [show q = ⟨1 * 512 + d.val, hq ▸ q.isLt⟩ from Fin.ext hq]
  blk_point [iblk, V_main_arg7, idx t]
theorem b4 (t : Fin cfg0.N) (j : Fin 1024) (d : Fin 512) (s : Fin 4096) (hs : s.val = t.val / 9 * 1024 + j.val) :
    iblk m c 4 t (ix2 j d) = DK m c (ix2 s d) := by
  rw [show s = ⟨t.val / 9 * 1024 + j.val, hs ▸ s.isLt⟩ from Fin.ext hs]
  blk_point [iblk, V_main_arg2, idx t]
theorem b5 (t : Fin cfg0.N) (e : Fin 1024) (d : Fin 512) (q : Fin 2048) (hq : q.val = 2 * 512 + d.val) :
    iblk m c 5 t (ix2 e d) = WM m c (ix2 e q) := by
  rw [show q = ⟨2 * 512 + d.val, hq ▸ q.isLt⟩ from Fin.ext hq]
  blk_point [iblk, V_main_arg7, idx t]
theorem b6 (t : Fin cfg0.N) (j : Fin 1024) (d : Fin 512) (s : Fin 4096) (hs : s.val = t.val / 9 * 1024 + j.val) :
    iblk m c 6 t (ix2 j d) = DV m c (ix2 s d) := by
  rw [show s = ⟨t.val / 9 * 1024 + j.val, hs ▸ s.isLt⟩ from Fin.ext hs]
  blk_point [iblk, V_main_arg3, idx t]
theorem b7 (t : Fin cfg0.N) (e : Fin 1024) (d : Fin 512) (q : Fin 2048) (hq : q.val = 3 * 512 + d.val) :
    iblk m c 7 t (ix2 e d) = WM m c (ix2 e q) := by
  rw [show q = ⟨3 * 512 + d.val, hq ▸ q.isLt⟩ from Fin.ext hq]
  blk_point [iblk, V_main_arg7, idx t]
theorem b8 (t : Fin cfg0.N) (j : Fin 1024) (d : Fin 512) (s : Fin 4096) (hs : s.val = t.val / 9 * 1024 + j.val) (q : Fin 1024) (hq : q.val = min (t.val % 9 - 4) 1 * 512 + d.val) :
    iblk m c 8 t (ix2 j d) = DA m c (ix2 s q) := by
  rw [show s = ⟨t.val / 9 * 1024 + j.val, hs ▸ s.isLt⟩ from Fin.ext hs, show q = ⟨min (t.val % 9 - 4) 1 * 512 + d.val, hq ▸ q.isLt⟩ from Fin.ext hq]
  blk_point [iblk, V_main_arg4, idx t]
theorem b9 (t : Fin cfg0.N) (e : Fin 1024) (d : Fin 512) (q : Fin 2304) (hq : q.val = min (t.val % 9 - 4) 1 * 512 + d.val) :
    X0_9 m c t (ix2 e d) = WG m c (ix2 e q) := by
  rw [show q = ⟨min (t.val % 9 - 4) 1 * 512 + d.val, hq ▸ q.isLt⟩ from Fin.ext hq]
  unfold X0_9 Pipeline.Window.fill
  rw [dif_pos (moved0_9 t _)]
  blk_point [iblk, V_main_arg8, idx t]
theorem b10 (t : Fin cfg0.N) (j : Fin 1024) (d : Fin 512) (s : Fin 4096) (hs : s.val = t.val / 9 * 1024 + j.val) (q : Fin 1024) (hq : q.val = min (t.val % 9 - 6) 1 * 512 + d.val) :
    iblk m c 10 t (ix2 j d) = DB m c (ix2 s q) := by
  rw [show s = ⟨t.val / 9 * 1024 + j.val, hs ▸ s.isLt⟩ from Fin.ext hs, show q = ⟨min (t.val % 9 - 6) 1 * 512 + d.val, hq ▸ q.isLt⟩ from Fin.ext hq]
  blk_point [iblk, V_main_arg5, idx t]
theorem b11 (t : Fin cfg0.N) (e : Fin 1024) (d : Fin 512) (q : Fin 2304) (hq : q.val = (2 + min (t.val % 9 - 6) 1) * 512 + d.val) :
    X0_11 m c t (ix2 e d) = WG m c (ix2 e q) := by
  rw [show q = ⟨(2 + min (t.val % 9 - 6) 1) * 512 + d.val, hq ▸ q.isLt⟩ from Fin.ext hq]
  unfold X0_11 Pipeline.Window.fill
  rw [dif_pos (moved0_11 t _)]
  blk_point [iblk, V_main_arg8, idx t]
theorem b12 (t : Fin cfg0.N) (j : Fin 1024) (d : Fin 256) (s : Fin 4096) (hs : s.val = t.val / 9 * 1024 + j.val) :
    iblk m c 12 t (ix2 j d) = DF m c (ix2 s d) := by
  rw [show s = ⟨t.val / 9 * 1024 + j.val, hs ▸ s.isLt⟩ from Fin.ext hs]
  blk_point [iblk, V_main_arg6, idx t]
theorem b13 (t : Fin cfg0.N) (e : Fin 1024) (d : Fin 256) (q : Fin 2304) (hq : q.val = 8 * 256 + d.val) :
    iblk m c 13 t (ix2 e d) = WG m c (ix2 e q) := by
  rw [show q = ⟨8 * 256 + d.val, hq ▸ q.isLt⟩ from Fin.ext hq]
  blk_point [iblk, V_main_arg8, idx t]

theorem pay3_at (j e : Fin 1024) : k0_pay3 (F := Ideal) (ix2 j e) = (0 : EReal) := by
  pointwise [k0_pay3]
theorem pay4_at (a : Vec Ideal S1024x1024 .f32) (u v : Vec Ideal S1024x512 .bf16) (j e : Fin 1024) :
    k0_pay4 (F := Ideal) a u v (ix2 j e) = a (ix2 j e) + ∑ d : Fin 512, u (ix2 j d) * v (ix2 e d) := by
  pointwise [k0_pay4]
theorem pay5_at (a : Vec Ideal S1024x1024 .f32) (u v : Vec Ideal S1024x512 .bf16) (j e : Fin 1024) :
    k0_pay5 (F := Ideal) a u v (ix2 j e) = a (ix2 j e) + ∑ d : Fin 512, u (ix2 j d) * v (ix2 e d) := by
  pointwise [k0_pay5]
theorem pay6_at (a : Vec Ideal S1024x1024 .f32) (u v : Vec Ideal S1024x512 .bf16) (j e : Fin 1024) :
    k0_pay6 (F := Ideal) a u v (ix2 j e) = a (ix2 j e) + ∑ d : Fin 512, u (ix2 j d) * v (ix2 e d) := by
  pointwise [k0_pay6]
theorem pay7_at (a : Vec Ideal S1024x1024 .f32) (u v : Vec Ideal S1024x512 .bf16) (j e : Fin 1024) :
    k0_pay7 (F := Ideal) a u v (ix2 j e) = a (ix2 j e) + ∑ d : Fin 512, u (ix2 j d) * v (ix2 e d) := by
  pointwise [k0_pay7]
theorem pay8_at (a : Vec Ideal S1024x1024 .f32) (u v : Vec Ideal S1024x512 .bf16) (j e : Fin 1024) :
    k0_pay8 (F := Ideal) a u v (ix2 j e) = a (ix2 j e) + ∑ d : Fin 512, u (ix2 j d) * v (ix2 e d) := by
  pointwise [k0_pay8]
theorem pay1_at (a : Vec Ideal S1024x1024 .f32) (u v : Vec Ideal S1024x512 .bf16) (j e : Fin 1024) :
    k0_pay1 (F := Ideal) a u v (ix2 j e) = a (ix2 j e) + ∑ d : Fin 512, u (ix2 j d) * v (ix2 e d) := by
  pointwise [k0_pay1]
theorem pay2_at (a : Vec Ideal S1024x1024 .f32) (u v : Vec Ideal S1024x256 .bf16) (j e : Fin 1024) :
    k0_pay2 (F := Ideal) a u v (ix2 j e) = a (ix2 j e) + ∑ d : Fin 256, u (ix2 j d) * v (ix2 e d) := by
  pointwise [k0_pay2]

/-- What the nine points of a run add, one after the other, at a row and a column. -/
def T (k : ℕ) (s : Fin 4096) (e : Fin 1024) : EReal :=
  match k with
  | 0 => Blocks.part (DU m c) (WM m c) 512 0 0 (by decide) (by decide) s e
  | 1 => Blocks.part (DQ m c) (WM m c) 512 0 512 (by decide) (by decide) s e
  | 2 => Blocks.part (DK m c) (WM m c) 512 0 1024 (by decide) (by decide) s e
  | 3 => Blocks.part (DV m c) (WM m c) 512 0 1536 (by decide) (by decide) s e
  | 4 => Blocks.part (DA m c) (WG m c) 512 0 0 (by decide) (by decide) s e
  | 5 => Blocks.part (DA m c) (WG m c) 512 512 512 (by decide) (by decide) s e
  | 6 => Blocks.part (DB m c) (WG m c) 512 0 1024 (by decide) (by decide) s e
  | 7 => Blocks.part (DB m c) (WG m c) 512 512 1536 (by decide) (by decide) s e
  | _ => Blocks.part (DF m c) (WG m c) 256 0 2048 (by decide) (by decide) s e

/-- A point's product is its own part of the sum. -/
theorem first (t : Fin cfg0.N) (h : t.val % 9 = 0) (j e : Fin 1024) (s : Fin 4096) (hs : s.val = t.val / 9 * 1024 + j.val) :
    (outsAt0 m c t.val t.isLt).2 (ix2 j e) = T m c 0 s e := by
  rw [sA m c t h, pay4_at, pay3_at, zero_add]
  exact Blocks.part_eq (iblk m c 0 t) (iblk m c 1 t) (DU m c) (WM m c) 0 0 (by decide) (by decide) j s e
      (fun d => (b0 m c t j d s hs).trans (congrArg (fun q => DU m c (ix2 s q)) (Fin.ext (by dsimp only <;> omega))))
      (fun d => b1 m c t e d _ (by dsimp only <;> omega))
theorem next (t : Fin cfg0.N) (h : ¬t.val % 9 = 0) (j e : Fin 1024) (s : Fin 4096) (hs : s.val = t.val / 9 * 1024 + j.val) :
    (outsAt0 m c t.val t.isLt).2 (ix2 j e)
      = (outsAt0 m c (t.val - 1) (Nat.lt_of_le_of_lt (Nat.sub_le _ _) t.isLt)).2 (ix2 j e) + T m c (t.val % 9) s e := by
  have hk : t.val % 9 = 1 ∨ t.val % 9 = 2 ∨ t.val % 9 = 3 ∨ t.val % 9 = 4 ∨ t.val % 9 = 5 ∨ t.val % 9 = 6 ∨ t.val % 9 = 7 ∨ t.val % 9 = 8 := by omega
  rcases hk with h | h | h | h | h | h | h | h
  · rw [sB m c t h, pay5_at, h]
    refine congrArg _ ?_
    exact Blocks.part_eq (iblk m c 2 t) (iblk m c 3 t) (DQ m c) (WM m c) 0 512 (by decide) (by decide) j s e
      (fun d => (b2 m c t j d s hs).trans (congrArg (fun q => DQ m c (ix2 s q)) (Fin.ext (by dsimp only <;> omega))))
      (fun d => b3 m c t e d _ (by dsimp only <;> omega))
  · rw [sC m c t h, pay6_at, h]
    refine congrArg _ ?_
    exact Blocks.part_eq (iblk m c 4 t) (iblk m c 5 t) (DK m c) (WM m c) 0 1024 (by decide) (by decide) j s e
      (fun d => (b4 m c t j d s hs).trans (congrArg (fun q => DK m c (ix2 s q)) (Fin.ext (by dsimp only <;> omega))))
      (fun d => b5 m c t e d _ (by dsimp only <;> omega))
  · rw [sD m c t h, pay7_at, h]
    refine congrArg _ ?_
    exact Blocks.part_eq (iblk m c 6 t) (iblk m c 7 t) (DV m c) (WM m c) 0 1536 (by decide) (by decide) j s e
      (fun d => (b6 m c t j d s hs).trans (congrArg (fun q => DV m c (ix2 s q)) (Fin.ext (by dsimp only <;> omega))))
      (fun d => b7 m c t e d _ (by dsimp only <;> omega))
  · rw [sE m c t (by omega), pay8_at, h]
    refine congrArg _ ?_
    exact Blocks.part_eq (iblk m c 8 t) (X0_9 m c t) (DA m c) (WG m c) 0 0 (by decide) (by decide) j s e
      (fun d => b8 m c t j d s hs _ (by dsimp only <;> omega))
      (fun d => b9 m c t e d _ (by dsimp only <;> omega))
  · rw [sE m c t (by omega), pay8_at, h]
    refine congrArg _ ?_
    exact Blocks.part_eq (iblk m c 8 t) (X0_9 m c t) (DA m c) (WG m c) 512 512 (by decide) (by decide) j s e
      (fun d => b8 m c t j d s hs _ (by dsimp only <;> omega))
      (fun d => b9 m c t e d _ (by dsimp only <;> omega))
  · rw [sF m c t (by omega), pay1_at, h]
    refine congrArg _ ?_
    exact Blocks.part_eq (iblk m c 10 t) (X0_11 m c t) (DB m c) (WG m c) 0 1024 (by decide) (by decide) j s e
      (fun d => b10 m c t j d s hs _ (by dsimp only <;> omega))
      (fun d => b11 m c t e d _ (by dsimp only <;> omega))
  · rw [sF m c t (by omega), pay1_at, h]
    refine congrArg _ ?_
    exact Blocks.part_eq (iblk m c 10 t) (X0_11 m c t) (DB m c) (WG m c) 512 1536 (by decide) (by decide) j s e
      (fun d => b10 m c t j d s hs _ (by dsimp only <;> omega))
      (fun d => b11 m c t e d _ (by dsimp only <;> omega))
  · rw [sG m c t h, pay2_at, h]
    refine congrArg _ ?_
    exact Blocks.part_eq (iblk m c 12 t) (iblk m c 13 t) (DF m c) (WG m c) 0 2048 (by decide) (by decide) j s e
      (fun d => (b12 m c t j d s hs).trans (congrArg (fun q => DF m c (ix2 s q)) (Fin.ext (by dsimp only <;> omega))))
      (fun d => b13 m c t e d _ (by dsimp only <;> omega))

/-- The sum of products the call stands for. -/
def G : Vec Ideal S4096x1024 .f32 := fun z => ∑ k ∈ Finset.range 9, T m c k (z 0) (z 1)

theorem acc_at (t : Fin cfg0.N) (h1 : t.val % 9 = 8) (j e : Fin 1024) (z : S4096x1024.Idx) (hj : (z 0).val = t.val / 9 * 1024 + j.val)
    (he : (z 1).val = e.val) : (outsAt0 m c t.val t.isLt).2 (ix2 j e) = G m c z := by
  have ee : z 1 = e := Fin.ext he
  unfold G
  rw [ee]
  exact Blocks.acc_eq_sum (P := 9) (by decide) (fun n hn => (outsAt0 m c n hn).2 (ix2 j e)) (t.val / 9) (fun k => T m c k (z 0) e)
    (fun n hn hq h0 => (first m c ⟨n, hn⟩ h0 j e (z 0) (by dsimp only <;> omega)).trans (zero_add _).symm)
    (fun n hn hq h0 => next m c ⟨n, hn⟩ h0 j e (z 0) (by dsimp only <;> omega)) 8 t.val t.isLt rfl h1

theorem final : (dats m 0 c).arrAt 14 cfg0.N = G m c := by
  refine (dats m 0 c).arrAt_eq_of_covers 14 _ (by decide +kernel) fun t hf y => ?_
  have h1 := (flush0_14 t).mp hf
  blk_simp
  rw [after0_14, oG m c t h1]
  exact (congrArg (outsAt0 m c t.val t.isLt).2 (eq_ix2 (n0 := 1024) (n1 := 1024) y)).trans
    (acc_at m c t h1 (y 0) (y 1) _ (by blk_simp [idx t]) (by blk_simp [idx t]))

/-- The run, with the result named and the arguments kept. -/
theorem run (ρ : Dev nD → PrngReg) : θ_run defs (onTc (τ := τ) (main (F := Ideal))) ⟨m, fun _ => 0, ρ⟩ fun r => ∀ c : Dev nD,
      r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨((h c).1 14).trans (final m c),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 4).trans (((dats m 0 c).arrAt_in 4 rfl _).trans ((A_eq m c 4).trans (V_main_arg2 m c))),
      ((h c).1 6).trans (((dats m 0 c).arrAt_in 6 rfl _).trans ((A_eq m c 6).trans (V_main_arg3 m c))),
      ((h c).1 8).trans (((dats m 0 c).arrAt_in 8 rfl _).trans ((A_eq m c 8).trans (V_main_arg4 m c))),
      ((h c).1 10).trans (((dats m 0 c).arrAt_in 10 rfl _).trans ((A_eq m c 10).trans (V_main_arg5 m c))),
      ((h c).1 12).trans (((dats m 0 c).arrAt_in 12 rfl _).trans ((A_eq m c 12).trans (V_main_arg6 m c))),
      ((h c).1 1).trans (((dats m 0 c).arrAt_in 1 rfl _).trans ((A_eq m c 1).trans (V_main_arg7 m c))),
      ((h c).1 9).trans (((dats m 0 c).arrAt_in 9 rfl _).trans ((A_eq m c 9).trans (V_main_arg8 m c)))⟩)
    (run_main m ρ)

end Cert.Kernel8Ideal.Values

namespace Cert.Reference8Ideal.Values

open Idealize.ShloMosaic Idealize.ShloMosaic.TcCoe Idealize.ShloMosaic.Tactic Cert.Reference8Ideal.Gen

/-- The four gradients next to one another, read in one of them. -/
abbrev wide (u q k v : Vec Ideal S4096x512 .bf16) : Vec Ideal S4096x2048 .bf16 :=
  concatenate S4096x2048 1 [⟨S4096x512, u⟩, ⟨S4096x512, q⟩, ⟨S4096x512, k⟩, ⟨S4096x512, v⟩]
    concatenates_S4096x512_S4096x512_S4096x512_S4096x512_S4096x2048_d1
abbrev gates (a b : Vec Ideal S4096x1024 .bf16) (f : Vec Ideal S4096x256 .bf16) : Vec Ideal S4096x2304 .bf16 :=
  concatenate S4096x2304 1 [⟨S4096x1024, a⟩, ⟨S4096x1024, b⟩, ⟨S4096x256, f⟩] concatenates_S4096x1024_S4096x1024_S4096x256_S4096x2304_d1
/-- A piece's entry and the whole's differ in the column alone. -/
theorem same_row {n N : ℕ} (s : Fin 4096) (d : Fin n) (i : Fin N) (b : Fin 2) (hb : b ≠ 1) :
    ((ix2 s d : Shape.Idx ⟨2, ![4096, n]⟩) b).val = ((ix2 s i : Shape.Idx ⟨2, ![4096, N]⟩) b).val := by
  rw [show b = 0 from Fin.ext (by have := fun h => hb (Fin.ext h); have := b.isLt; omega)]
  rfl
theorem wide_u (u q k v : Vec Ideal S4096x512 .bf16) (s : Fin 4096) (d : Fin 512) (i : Fin 2048) (h : 0 + d.val = i.val) :
    wide u q k v (ix2 s i) = u (ix2 s d) :=
  concatenate_apply_piece 1 _ _ (ix2 s i) 0 (by simp) S4096x512 u rfl rfl 0 rfl (ix2 s d) (fun b hb => same_row s d i b hb) h
theorem wide_q (u q k v : Vec Ideal S4096x512 .bf16) (s : Fin 4096) (d : Fin 512) (i : Fin 2048) (h : 512 + d.val = i.val) :
    wide u q k v (ix2 s i) = q (ix2 s d) :=
  concatenate_apply_piece 1 _ _ (ix2 s i) 1 (by simp) S4096x512 q rfl rfl 512 rfl (ix2 s d) (fun b hb => same_row s d i b hb) h
theorem wide_k (u q k v : Vec Ideal S4096x512 .bf16) (s : Fin 4096) (d : Fin 512) (i : Fin 2048) (h : 1024 + d.val = i.val) :
    wide u q k v (ix2 s i) = k (ix2 s d) :=
  concatenate_apply_piece 1 _ _ (ix2 s i) 2 (by simp) S4096x512 k rfl rfl 1024 rfl (ix2 s d) (fun b hb => same_row s d i b hb) h
theorem wide_v (u q k v : Vec Ideal S4096x512 .bf16) (s : Fin 4096) (d : Fin 512) (i : Fin 2048) (h : 1536 + d.val = i.val) :
    wide u q k v (ix2 s i) = v (ix2 s d) :=
  concatenate_apply_piece 1 _ _ (ix2 s i) 3 (by simp) S4096x512 v rfl rfl 1536 rfl (ix2 s d) (fun b hb => same_row s d i b hb) h
theorem gates_a (a b : Vec Ideal S4096x1024 .bf16) (f : Vec Ideal S4096x256 .bf16) (s : Fin 4096) (d : Fin 1024) (i : Fin 2304) (h : 0 + d.val = i.val) :
    gates a b f (ix2 s i) = a (ix2 s d) :=
  concatenate_apply_piece 1 _ _ (ix2 s i) 0 (by simp) S4096x1024 a rfl rfl 0 rfl (ix2 s d) (fun b hb => same_row s d i b hb) h
theorem gates_b (a b : Vec Ideal S4096x1024 .bf16) (f : Vec Ideal S4096x256 .bf16) (s : Fin 4096) (d : Fin 1024) (i : Fin 2304) (h : 1024 + d.val = i.val) :
    gates a b f (ix2 s i) = b (ix2 s d) :=
  concatenate_apply_piece 1 _ _ (ix2 s i) 1 (by simp) S4096x1024 b rfl rfl 1024 rfl (ix2 s d) (fun b hb => same_row s d i b hb) h
theorem gates_f (a b : Vec Ideal S4096x1024 .bf16) (f : Vec Ideal S4096x256 .bf16) (s : Fin 4096) (d : Fin 256) (i : Fin 2304) (h : 2048 + d.val = i.val) :
    gates a b f (ix2 s i) = f (ix2 s d) :=
  concatenate_apply_piece 1 _ _ (ix2 s i) 2 (by simp) S4096x256 f rfl rfl 2048 rfl (ix2 s d) (fun b hb => same_row s d i b hb) h

/-- The reference's two products, in the parts the pieces give. -/
theorem wide_product (u q k v : Vec Ideal S4096x512 .bf16) (w : Vec Ideal S1024x2048 .bf16) (s : Fin 4096) (e : Fin 1024) :
    Host.dotGeneral (F := Ideal) dot_S4096x2048_S1024x2048_S4096x1024_1_1_0_0_n_n none (extf .f32 (wide u q k v) bitsLt_bf16_f32) (extf .f32 w bitsLt_bf16_f32) (ix2 s e)
      = Blocks.part u w 512 0 0 (by decide) (by decide) s e + Blocks.part q w 512 0 512 (by decide) (by decide) s e
        + Blocks.part k w 512 0 1024 (by decide) (by decide) s e + Blocks.part v w 512 0 1536 (by decide) (by decide) s e := by
  have hu := wide_u u q k v s
  have hq := wide_q u q k v s
  have hk := wide_k u q k v s
  have hv := wide_v u q k v s
  generalize wide u q k v = Z at hu hq hk hv ⊢
  have hd : Host.dotGeneral (F := Ideal) dot_S4096x2048_S1024x2048_S4096x1024_1_1_0_0_n_n none (extf .f32 Z bitsLt_bf16_f32) (extf .f32 w bitsLt_bf16_f32) (ix2 s e)
      = ∑ d : Fin 2048, Z (ix2 s d) * w (ix2 e d) := by pointwise
  rw [hd, Blocks.sum_two (a := 1536) (b := 512) rfl, Blocks.sum_two (a := 1024) (b := 512) rfl, Blocks.sum_two (a := 512) (b := 512) rfl]
  refine congrArg₂ (· + ·) (congrArg₂ (· + ·) (congrArg₂ (· + ·) ?_ ?_) ?_) ?_ <;> refine Finset.sum_congr rfl fun d _ => ?_
  · rw [hu ⟨0 + d.val, by omega⟩ _ (by dsimp only <;> omega)]
    exact congrArg (fun i => _ * w (ix2 e i)) (Fin.ext (by dsimp only <;> omega))
  · rw [hq ⟨0 + d.val, by omega⟩ _ (by dsimp only <;> omega)]
  · rw [hk ⟨0 + d.val, by omega⟩ _ (by dsimp only <;> omega)]
  · rw [hv ⟨0 + d.val, by omega⟩ _ (by dsimp only <;> omega)]
theorem gate_product (a b : Vec Ideal S4096x1024 .bf16) (f : Vec Ideal S4096x256 .bf16) (w : Vec Ideal S1024x2304 .bf16) (s : Fin 4096) (e : Fin 1024) :
    Host.dotGeneral (F := Ideal) dot_S4096x2304_S1024x2304_S4096x1024_1_1_0_0_n_n none (extf .f32 (gates a b f) bitsLt_bf16_f32) (extf .f32 w bitsLt_bf16_f32) (ix2 s e)
      = Blocks.part a w 512 0 0 (by decide) (by decide) s e + Blocks.part a w 512 512 512 (by decide) (by decide) s e
        + Blocks.part b w 512 0 1024 (by decide) (by decide) s e + Blocks.part b w 512 512 1536 (by decide) (by decide) s e
        + Blocks.part f w 256 0 2048 (by decide) (by decide) s e := by
  have ha := gates_a a b f s
  have hb := gates_b a b f s
  have hf := gates_f a b f s
  generalize gates a b f = Z at ha hb hf ⊢
  have hd : Host.dotGeneral (F := Ideal) dot_S4096x2304_S1024x2304_S4096x1024_1_1_0_0_n_n none (extf .f32 Z bitsLt_bf16_f32) (extf .f32 w bitsLt_bf16_f32) (ix2 s e)
      = ∑ d : Fin 2304, Z (ix2 s d) * w (ix2 e d) := by pointwise
  rw [hd, Blocks.sum_two (a := 2048) (b := 256) rfl, Blocks.sum_two (a := 1536) (b := 512) rfl, Blocks.sum_two (a := 1024) (b := 512) rfl,
    Blocks.sum_two (a := 512) (b := 512) rfl]
  refine congrArg₂ (· + ·) (congrArg₂ (· + ·) (congrArg₂ (· + ·) (congrArg₂ (· + ·) ?_ ?_) ?_) ?_) ?_ <;> refine Finset.sum_congr rfl fun d _ => ?_
  · rw [ha ⟨0 + d.val, by omega⟩ _ (by dsimp only <;> omega)]
    exact congrArg (fun i => _ * w (ix2 e i)) (Fin.ext (by dsimp only <;> omega))
  · rw [ha ⟨512 + d.val, by omega⟩ _ (by dsimp only <;> omega)]
  · rw [hb ⟨0 + d.val, by omega⟩ _ (by dsimp only <;> omega)]
  · rw [hb ⟨512 + d.val, by omega⟩ _ (by dsimp only <;> omega)]
  · rw [hf ⟨0 + d.val, by omega⟩ _ (by dsimp only <;> omega)]

end Cert.Reference8Ideal.Values

namespace Cert.Proof

open Idealize.ShloMosaic Idealize.SL.Sem

/-- The two programs end with equal results. -/
theorem algebraic8 : Cert.algebraic_Kernel8Ideal_Reference8Ideal (hKernel8Ideal := Cert.Kernel8Ideal.Gen.facts) (hReference8Ideal := Cert.Reference8Ideal.Gen.facts) := by
  intro m ρ m' ρ' _ hag
  refine ⟨fun c => Cert.Kernel8Ideal.Values.G m c, Cert.Kernel8Ideal.Values.run m ρ,
    (θ_run Cert.Reference8Ideal.defs _ _).mono (fun r h c => ?_) (Cert.Reference8Ideal.Value.run (F := Ideal) m' ρ')⟩
  refine ⟨(h c).1.trans (funext fun z => ?_), (h c).2⟩
  obtain ⟨h0, h1, h2, h3, h4, h5, h6, h7, h8⟩ := hag c
  rw [h0, h1, h2, h3, h4, h5, h6, h7, h8]
  refine (congrArg _ (eq_ix2 z)).trans ((addf_apply _ _ _).trans ?_)
  refine (congrArg₂ (· + ·) (Cert.Reference8Ideal.Values.gate_product _ _ _ _ (z 0) (z 1))
    (Cert.Reference8Ideal.Values.wide_product _ _ _ _ _ (z 0) (z 1))).trans ?_
  show _ = ∑ k ∈ Finset.range 9, Cert.Kernel8Ideal.Values.T m c k (z 0) (z 1)
  simp only [Finset.sum_range_succ, Finset.sum_range_zero, zero_add]
  refine (add_comm _ _).trans ?_
  simp only [← add_assoc]
  rfl

end Cert.Proof
-- ==== Proof.FfnUp.lean ====
/- The two hidden projections of the feed-forward block and their gated product: what the kernel writes is the two products and the gated one. -/
module

public import proofs.«01_k».proof.Defs
public import proofs.«01_k».proof.Proof.Blocks
public import proofs.«01_k».proof.Proof.Gen.Kernel9Ideal.Value
public import proofs.«01_k».proof.Proof.Gen.Reference9Ideal.Run

@[expose] public section

set_option maxRecDepth 16384

noncomputable section

namespace Cert.Kernel9Ideal.Values

open Idealize.ShloMosaic Idealize.ShloMosaic.TcCoe Idealize.ShloMosaic.Tactic
open Idealize.SL Idealize.SL.RA Idealize.SL.Sem
open Idealize.ShloMosaic.Pipeline (Dat Cfg Window)
open Idealize.ShloMosaic.VecWindow Cert.Kernel9Ideal.Gen

variable (m : (ℓ : Loc nD τ sig) → Buf (Elt Ideal) ℓ) (c : Dev nD)

/-- Every point is the first and the last of its run: the two accumulators hold the products of its blocks. -/
theorem oA (t : Fin cfg0.N) : (outsAt0 m c t).1
    = k0_pay5 (F := Ideal) (k0_pay3 (F := Ideal) (iblk m c 0 t) (k0_pay1 (F := Ideal)) (iblk m c 1 t)) := by
  unfold outsAt0
  dsimp only
  unfold out0_A_3
  refine (View.read_writes_full _ _ _ _ _).trans (congrArg (k0_pay5 (F := Ideal)) ((View.readCov_full _ _ _ _ _).trans ?_))
  exact congr (congr (congrArg (k0_pay3 (F := Ideal)) (Blocks.load _ _ _)) (View.readCov_full _ _ _ _ _)) (Blocks.load _ _ _)
theorem oB (t : Fin cfg0.N) : (outsAt0 m c t).2.1
    = k0_pay6 (F := Ideal) (k0_pay4 (F := Ideal) (iblk m c 0 t) (k0_pay2 (F := Ideal)) (iblk m c 2 t)) := by
  unfold outsAt0
  dsimp only
  unfold out0_A_4
  refine (View.read_writes_full _ _ _ _ _).trans (congrArg (k0_pay6 (F := Ideal)) ((View.readCov_full _ _ _ _ _).trans ?_))
  exact congr (congr (congrArg (k0_pay4 (F := Ideal)) (Blocks.load _ _ _)) (View.readCov_full _ _ _ _ _)) (Blocks.load _ _ _)
theorem oH (t : Fin cfg0.N) : (outsAt0 m c t).2.2
    = k0_pay7 (F := Ideal) (k0_pay3 (F := Ideal) (iblk m c 0 t) (k0_pay1 (F := Ideal)) (iblk m c 1 t))
        (k0_pay4 (F := Ideal) (iblk m c 0 t) (k0_pay2 (F := Ideal)) (iblk m c 2 t)) := by
  unfold outsAt0
  dsimp only
  unfold out0_A_5
  refine (View.read_writes_full _ _ _ _ _).trans (congr (congrArg (k0_pay7 (F := Ideal)) ((View.readCov_full _ _ _ _ _).trans ?_))
    ((View.readCov_full _ _ _ _ _).trans ?_))
  · exact congr (congr (congrArg (k0_pay3 (F := Ideal)) (Blocks.load _ _ _)) (View.readCov_full _ _ _ _ _)) (Blocks.load _ _ _)
  · exact congr (congr (congrArg (k0_pay4 (F := Ideal)) (Blocks.load _ _ _)) (View.readCov_full _ _ _ _ _)) (Blocks.load _ _ _)

/-- Which block of its array each window is at. -/
theorem idx : ∀ t : Fin cfg0.N, win0_0.index t = ![t.val / 4, 0] ∧ win0_1.index t = ![t.val % 4, 0, 0] ∧ win0_2.index t = ![t.val % 4, 0, 0]
    ∧ win0_3.index t = ![t.val % 4, t.val / 4, 0] ∧ win0_4.index t = ![t.val % 4, t.val / 4, 0] ∧ win0_5.index t = ![t.val % 4, t.val / 4, 0] :=
  (by decide +kernel : ∀ t : Fin grid0.N, _)

/-- The normalised activations and the two projections' weights, as they are given. -/
abbrev H : Vec Ideal S4096x1024 .bf16 := m ((c.tc : Thread nD τ).loc main_arg0)
abbrev WG : Vec Ideal S4x1024x704 .bf16 := m ((c.tc : Thread nD τ).loc main_arg1)
abbrev WU : Vec Ideal S4x1024x704 .bf16 := m ((c.tc : Thread nD τ).loc main_arg2)

theorem b0 (t : Fin cfg0.N) (j : Fin 1024) (d : Fin 1024) (h : t.val / 4 * 1024 + j.val < 4096) :
    iblk m c 0 t (ix2 j d) = H m c (ix2 ⟨t.val / 4 * 1024 + j.val, h⟩ d) := by
  blk_point [iblk, V_main_arg0, idx t]
theorem b1 (t : Fin cfg0.N) (d : Fin 1024) (f : Fin 704) (h : t.val % 4 < 4) :
    iblk m c 1 t (ix3 0 d f) = WG m c (ix3 ⟨t.val % 4, h⟩ d f) := by
  blk_point [iblk, V_main_arg1, idx t]
theorem b2 (t : Fin cfg0.N) (d : Fin 1024) (f : Fin 704) (h : t.val % 4 < 4) :
    iblk m c 2 t (ix3 0 d f) = WU m c (ix3 ⟨t.val % 4, h⟩ d f) := by
  blk_point [iblk, V_main_arg2, idx t]

theorem gate_at (u : Vec Ideal S1024x1024 .bf16) (v : Vec Ideal S1x1024x704 .bf16) (j : Fin 1024) (f : Fin 704) :
    k0_pay3 (F := Ideal) u (k0_pay1 (F := Ideal)) v (ix2 j f) = ∑ d : Fin 1024, u (ix2 j d) * v (ix3 0 d f) := by
  pointwise [k0_pay3, k0_pay1]
theorem up_at (u : Vec Ideal S1024x1024 .bf16) (v : Vec Ideal S1x1024x704 .bf16) (j : Fin 1024) (f : Fin 704) :
    k0_pay4 (F := Ideal) u (k0_pay2 (F := Ideal)) v (ix2 j f) = ∑ d : Fin 1024, u (ix2 j d) * v (ix3 0 d f) := by
  pointwise [k0_pay4, k0_pay2]
theorem pay5_at (a : Vec Ideal S1024x704 .f32) (j : Fin 1024) (f : Fin 704) : k0_pay5 (F := Ideal) a (ix3 0 j f) = a (ix2 j f) := by
  pointwise [k0_pay5]
theorem pay6_at (a : Vec Ideal S1024x704 .f32) (j : Fin 1024) (f : Fin 704) : k0_pay6 (F := Ideal) a (ix3 0 j f) = a (ix2 j f) := by
  pointwise [k0_pay6]
theorem pay7_at (a b : Vec Ideal S1024x704 .f32) (j : Fin 1024) (f : Fin 704) :
    k0_pay7 (F := Ideal) a b (ix3 0 j f) = a (ix2 j f) * Blocks.sig (a (ix2 j f)) * b (ix2 j f) := by
  pointwise [k0_pay7]
  rw [Blocks.sig, zero_sub]

/-- The gate projection at a row and a column of a slab. -/
def P (a : Fin 4) (s : Fin 4096) (f : Fin 704) : EReal := ∑ d : Fin 1024, H m c (ix2 s d) * WG m c (ix3 a d f)
/-- The up projection at a row and a column of a slab. -/
def Q (a : Fin 4) (s : Fin 4096) (f : Fin 704) : EReal := ∑ d : Fin 1024, H m c (ix2 s d) * WU m c (ix3 a d f)
/-- The three results the call stands for. -/
def GA : Vec Ideal S4x4096x704 .bf16 := fun z => P m c (z 0) (z 1) (z 2)
def GB : Vec Ideal S4x4096x704 .bf16 := fun z => Q m c (z 0) (z 1) (z 2)
def GH : Vec Ideal S4x4096x704 .bf16 := fun z => P m c (z 0) (z 1) (z 2) * Blocks.sig (P m c (z 0) (z 1) (z 2)) * Q m c (z 0) (z 1) (z 2)

/-- The two accumulators at a point, read at the entry of the array they are written to. -/
theorem acc (t : Fin cfg0.N) (j : Fin 1024) (f : Fin 704) (z : S4x4096x704.Idx) (h0 : (z 0).val = t.val % 4)
    (h1 : (z 1).val = t.val / 4 * 1024 + j.val) (h2 : (z 2).val = f.val) :
    k0_pay3 (F := Ideal) (iblk m c 0 t) (k0_pay1 (F := Ideal)) (iblk m c 1 t) (ix2 j f) = P m c (z 0) (z 1) (z 2)
      ∧ k0_pay4 (F := Ideal) (iblk m c 0 t) (k0_pay2 (F := Ideal)) (iblk m c 2 t) (ix2 j f) = Q m c (z 0) (z 1) (z 2) := by
  have hr : t.val / 4 * 1024 + j.val < 4096 := h1 ▸ (z 1).isLt
  have hs : t.val % 4 < 4 := Nat.mod_lt _ (by decide)
  unfold P Q
  rw [gate_at, up_at, show z 0 = ⟨t.val % 4, hs⟩ from Fin.ext h0, show z 1 = ⟨t.val / 4 * 1024 + j.val, hr⟩ from Fin.ext h1, show z 2 = f from Fin.ext h2]
  simp only [b0 m c t _ _ hr, b1 m c t _ _ hs, b2 m c t _ _ hs]
  exact ⟨rfl, rfl⟩

theorem a_block (t : Fin cfg0.N) (j : Fin 1024) (f : Fin 704) (z : S4x4096x704.Idx) (h0 : (z 0).val = t.val % 4)
    (h1 : (z 1).val = t.val / 4 * 1024 + j.val) (h2 : (z 2).val = f.val) : (outsAt0 m c t).1 (ix3 0 j f) = GA m c z := by
  rw [oA, pay5_at]
  exact (acc m c t j f z h0 h1 h2).1
theorem b_block (t : Fin cfg0.N) (j : Fin 1024) (f : Fin 704) (z : S4x4096x704.Idx) (h0 : (z 0).val = t.val % 4)
    (h1 : (z 1).val = t.val / 4 * 1024 + j.val) (h2 : (z 2).val = f.val) : (outsAt0 m c t).2.1 (ix3 0 j f) = GB m c z := by
  rw [oB, pay6_at]
  exact (acc m c t j f z h0 h1 h2).2
theorem h_block (t : Fin cfg0.N) (j : Fin 1024) (f : Fin 704) (z : S4x4096x704.Idx) (h0 : (z 0).val = t.val % 4)
    (h1 : (z 1).val = t.val / 4 * 1024 + j.val) (h2 : (z 2).val = f.val) : (outsAt0 m c t).2.2 (ix3 0 j f) = GH m c z := by
  rw [oH, pay7_at, (acc m c t j f z h0 h1 h2).1, (acc m c t j f z h0 h1 h2).2]
  rfl

theorem final3 : (dats m 0 c).arrAt 3 cfg0.N = GA m c := by
  refine (dats m 0 c).arrAt_eq_of_covers 3 _ (by decide +kernel) fun t hf y => ?_
  blk_simp
  rw [after0_3]
  exact (congrArg (outsAt0 m c t).1 (Blocks.ix3_first (a := 1024) (b := 704) y)).trans
    (a_block m c t (y 1) (y 2) _ (by blk_simp [idx t]) (by blk_simp [idx t]) (by blk_simp [idx t]))
theorem final4 : (dats m 0 c).arrAt 4 cfg0.N = GB m c := by
  refine (dats m 0 c).arrAt_eq_of_covers 4 _ (by decide +kernel) fun t hf y => ?_
  blk_simp
  rw [after0_4]
  exact (congrArg (outsAt0 m c t).2.1 (Blocks.ix3_first (a := 1024) (b := 704) y)).trans
    (b_block m c t (y 1) (y 2) _ (by blk_simp [idx t]) (by blk_simp [idx t]) (by blk_simp [idx t]))
theorem final5 : (dats m 0 c).arrAt 5 cfg0.N = GH m c := by
  refine (dats m 0 c).arrAt_eq_of_covers 5 _ (by decide +kernel) fun t hf y => ?_
  blk_simp
  rw [after0_5]
  exact (congrArg (outsAt0 m c t).2.2 (Blocks.ix3_first (a := 1024) (b := 704) y)).trans
    (h_block m c t (y 1) (y 2) _ (by blk_simp [idx t]) (by blk_simp [idx t]) (by blk_simp [idx t]))

end Cert.Kernel9Ideal.Values

namespace Cert.Reference9Ideal.Values

open Idealize.ShloMosaic Idealize.ShloMosaic.TcCoe Idealize.ShloMosaic.Tactic Cert.Reference9Ideal.Gen

/-- One of the reference's two products, and what is written of it. -/
theorem product (x : Vec Ideal S4096x1024 .bf16) (y : Vec Ideal S4x1024x704 .bf16) (a : Fin 4) (s : Fin 4096) (f : Fin 704) :
    transpose S4x4096x704 [0, 2, 1] (Host.dotGeneral (F := Ideal) dot_S4x1024x704_S4096x1024_S4x704x4096_1_1_02_0_n_n none
      (extf .f32 y bitsLt_bf16_f32) (extf .f32 x bitsLt_bf16_f32)) transposes_S4x704x4096_S4x4096x704_0_2_1 (ix3 a s f)
      = ∑ d : Fin 1024, x (ix2 s d) * y (ix3 a d f) := by
  pointwise
  exact Finset.sum_congr rfl fun i _ => mul_comm _ _
theorem rounded (A : Vec Ideal S4x4096x704 .f32) (a : Fin 4) (s : Fin 4096) (f : Fin 704) :
    truncf (F := Ideal) .bf16 A bitsLt_bf16_f32 (ix3 a s f) = A (ix3 a s f) := by
  pointwise
/-- The reference's gated product. -/
theorem gated (A B : Vec Ideal S4x4096x704 .f32) (a : Fin 4) (s : Fin 4096) (f : Fin 704) :
    truncf .bf16 (mulf (mulf A (Host.divf (F := Ideal) (broadcastInDim S4x4096x704 ![] bcast_S_S4x4096x704 (constant S_ .f32 0x3F800000#32))
      (addf (broadcastInDim S4x4096x704 ![] bcast_S_S4x4096x704 (constant S_ .f32 0x3F800000#32)) (Host.exp (Host.negf A))))) B) bitsLt_bf16_f32 (ix3 a s f)
      = A (ix3 a s f) * Blocks.sig (A (ix3 a s f)) * B (ix3 a s f) := by
  pointwise
  rw [Blocks.sig]

end Cert.Reference9Ideal.Values

namespace Cert.Proof

open Idealize.ShloMosaic Idealize.SL.Sem Cert.Reference9Ideal.Values

/-- The two programs end with equal results. -/
theorem algebraic9 : Cert.algebraic_Kernel9Ideal_Reference9Ideal (hKernel9Ideal := Cert.Kernel9Ideal.Gen.facts) (hReference9Ideal := Cert.Reference9Ideal.Gen.facts) := by
  intro m ρ m' ρ' _ hag
  refine ⟨fun c => Cert.Kernel9Ideal.Values.GA m c, fun c => Cert.Kernel9Ideal.Values.GB m c, fun c => Cert.Kernel9Ideal.Values.GH m c,
    (θ_run Cert.Kernel9Ideal.defs _ _).mono (fun r h c => ?_) (Cert.Kernel9Ideal.Value.run_blocks m ρ),
    (θ_run Cert.Reference9Ideal.defs _ _).mono (fun r h c => ?_) (Cert.Reference9Ideal.Value.run (F := Ideal) m' ρ')⟩
  · exact ⟨(h c).1.trans (Cert.Kernel9Ideal.Values.final3 m c), (h c).2.1.trans (Cert.Kernel9Ideal.Values.final4 m c),
      (h c).2.2.1.trans (Cert.Kernel9Ideal.Values.final5 m c), (h c).2.2.2⟩
  · refine ⟨(h c).1.trans (funext fun z => ?_), (h c).2.1.trans (funext fun z => ?_), (h c).2.2.1.trans (funext fun z => ?_), (h c).2.2.2⟩
    · rw [(hag c).1, (hag c).2.1]
      exact (congrArg _ (eq_ix3 z)).trans ((rounded _ (z 0) (z 1) (z 2)).trans (product _ _ (z 0) (z 1) (z 2)))
    · rw [(hag c).1, (hag c).2.2]
      exact (congrArg _ (eq_ix3 z)).trans ((rounded _ (z 0) (z 1) (z 2)).trans (product _ _ (z 0) (z 1) (z 2)))
    · rw [(hag c).1, (hag c).2.1, (hag c).2.2]
      refine (congrArg _ (eq_ix3 z)).trans ((gated _ _ (z 0) (z 1) (z 2)).trans ?_)
      rw [product _ _ (z 0) (z 1) (z 2), product _ _ (z 0) (z 1) (z 2)]
      rfl

end Cert.Proof
-- ==== Proof.ProjMain.lean ====
/- The projection of the normalised activations to the two branches' inputs: what the kernel writes is one product. -/
module

public import proofs.«01_k».proof.Defs
public import proofs.«01_k».proof.Proof.Blocks
public import proofs.«01_k».proof.Proof.Gen.Kernel10Ideal.Value
public import proofs.«01_k».proof.Proof.Gen.Reference10Ideal.Run

@[expose] public section

set_option maxRecDepth 16384

noncomputable section

namespace Cert.Kernel10Ideal.Values

open Idealize.ShloMosaic Idealize.ShloMosaic.TcCoe Idealize.ShloMosaic.Tactic
open Idealize.SL Idealize.SL.RA Idealize.SL.Sem
open Idealize.ShloMosaic.Pipeline (Dat Cfg Window)
open Idealize.ShloMosaic.VecWindow Cert.Kernel10Ideal.Gen

variable (m : (ℓ : Loc nD τ sig) → Buf (Elt Ideal) ℓ) (c : Dev nD)

/-- Every point is the first and the last of its run: it writes out the product of its two blocks. -/
theorem o (t : Fin cfg0.N) : outsAt0 m c t
    = k0_pay3 (F := Ideal) (k0_pay2 (F := Ideal) (iblk m c 0 t) (k0_pay1 (F := Ideal)) (iblk m c 1 t)) := by
  unfold outsAt0 out0_A_2
  refine (View.read_writes_full _ _ _ _ _).trans ?_
  refine congrArg (k0_pay3 (F := Ideal)) ((View.readCov_full _ _ _ _ _).trans ?_)
  exact congr (congr (congrArg (k0_pay2 (F := Ideal)) (Blocks.load _ _ _)) (View.readCov_full _ _ _ _ _)) (Blocks.load _ _ _)

/-- Which block of its array each window is at. -/
theorem idx : ∀ t : Fin cfg0.N, win0_0.index t = ![t.val / 2, 0] ∧ win0_1.index t = ![0, t.val % 2]
    ∧ win0_2.index t = ![t.val / 2, t.val % 2] :=
  (by decide +kernel : ∀ t : Fin grid0.N, _)

/-- The normalised activations and the weights, as they are given. -/
abbrev H : Vec Ideal S4096x1024 .bf16 := m ((c.tc : Thread nD τ).loc main_arg0)
abbrev W : Vec Ideal S1024x2048 .bf16 := m ((c.tc : Thread nD τ).loc main_arg1)

theorem b0 (t : Fin cfg0.N) (j : Fin 1024) (d : Fin 1024) (h : t.val / 2 * 1024 + j.val < 4096) :
    iblk m c 0 t (ix2 j d) = H m c (ix2 ⟨t.val / 2 * 1024 + j.val, h⟩ d) := by
  blk_point [iblk, V_main_arg0, idx t]
theorem b1 (t : Fin cfg0.N) (d : Fin 1024) (e : Fin 1024) (h : t.val % 2 * 1024 + e.val < 2048) :
    iblk m c 1 t (ix2 d e) = W m c (ix2 d ⟨t.val % 2 * 1024 + e.val, h⟩) := by
  blk_point [iblk, V_main_arg1, idx t]

theorem pay_at (u : Vec Ideal S1024x1024 .bf16) (v : Vec Ideal S1024x1024 .bf16) (j : Fin 1024) (e : Fin 1024) :
    k0_pay3 (F := Ideal) (k0_pay2 (F := Ideal) u (k0_pay1 (F := Ideal)) v) (ix2 j e) = ∑ d : Fin 1024, u (ix2 j d) * v (ix2 d e) := by
  pointwise [k0_pay3, k0_pay2, k0_pay1]

/-- The product the call stands for. -/
def G : Vec Ideal S4096x2048 .bf16 := fun z => ∑ d : Fin 1024, H m c (ix2 (z 0) d) * W m c (ix2 d (z 1))

theorem out_block (t : Fin cfg0.N) (j : Fin 1024) (e : Fin 1024) (z : S4096x2048.Idx) (hj : (z 0).val = t.val / 2 * 1024 + j.val)
    (he : (z 1).val = t.val % 2 * 1024 + e.val) : outsAt0 m c t (ix2 j e) = G m c z := by
  have hr : t.val / 2 * 1024 + j.val < 4096 := hj ▸ (z 0).isLt
  have hc : t.val % 2 * 1024 + e.val < 2048 := he ▸ (z 1).isLt
  show outsAt0 m c t (ix2 j e) = ∑ d : Fin 1024, H m c (ix2 (z 0) d) * W m c (ix2 d (z 1))
  rw [o, pay_at, show z 0 = ⟨t.val / 2 * 1024 + j.val, hr⟩ from Fin.ext hj, show z 1 = ⟨t.val % 2 * 1024 + e.val, hc⟩ from Fin.ext he]
  simp only [b0 m c t _ _ hr, b1 m c t _ _ hc]
  rfl

theorem final : (dats m 0 c).arrAt 2 cfg0.N = G m c := by
  refine (dats m 0 c).arrAt_eq_of_covers 2 _ (by decide +kernel) fun t hf y => ?_
  blk_simp
  rw [after0_2]
  exact (congrArg (outsAt0 m c t) (eq_ix2 (n0 := 1024) (n1 := 1024) y)).trans
    (out_block m c t (y 0) (y 1) _ (by blk_simp [idx t]) (by blk_simp [idx t]))

end Cert.Kernel10Ideal.Values

namespace Cert.Reference10Ideal.Values

open Idealize.ShloMosaic Idealize.ShloMosaic.TcCoe Idealize.ShloMosaic.Tactic Cert.Reference10Ideal.Gen

/-- The reference's product is the same one. -/
theorem product (x : Vec Ideal S4096x1024 .bf16) (y : Vec Ideal S1024x2048 .bf16) (s : Fin 4096) (e : Fin 2048) :
    truncf (F := Ideal) .bf16 (Host.dotGeneral (F := Ideal) dot_S4096x1024_S1024x2048_S4096x2048_1_0_0_1_n_n none
      (extf .f32 x bitsLt_bf16_f32) (extf .f32 y bitsLt_bf16_f32)) bitsLt_bf16_f32 (ix2 s e) = ∑ d : Fin 1024, x (ix2 s d) * y (ix2 d e) := by
  pointwise

end Cert.Reference10Ideal.Values

namespace Cert.Proof

open Idealize.ShloMosaic Idealize.SL.Sem

/-- The two programs end with equal results. -/
theorem algebraic10 : Cert.algebraic_Kernel10Ideal_Reference10Ideal (hKernel10Ideal := Cert.Kernel10Ideal.Gen.facts) (hReference10Ideal := Cert.Reference10Ideal.Gen.facts) := by
  intro m ρ m' ρ' _ hag
  refine ⟨fun c => Cert.Kernel10Ideal.Values.G m c, (θ_run Cert.Kernel10Ideal.defs _ _).mono (fun r h c => ?_) (Cert.Kernel10Ideal.Value.run_blocks m ρ),
    (θ_run Cert.Reference10Ideal.defs _ _).mono (fun r h c => ?_) (Cert.Reference10Ideal.Value.run (F := Ideal) m' ρ')⟩
  · exact ⟨(h c).1.trans (Cert.Kernel10Ideal.Values.final m c), (h c).2⟩
  · refine ⟨(h c).1.trans (funext fun z => ?_), (h c).2⟩
    rw [(hag c).1, (hag c).2]
    exact (congrArg _ (eq_ix2 z)).trans (Cert.Reference10Ideal.Values.product _ _ (z 0) (z 1))

end Cert.Proof
-- ==== Proof.ProjGates.lean ====
/- The projection of the normalised activations to the gates: what the kernel writes is one product. -/
module

public import proofs.«01_k».proof.Defs
public import proofs.«01_k».proof.Proof.Blocks
public import proofs.«01_k».proof.Proof.Gen.Kernel11Ideal.Value
public import proofs.«01_k».proof.Proof.Gen.Reference11Ideal.Run

@[expose] public section

set_option maxRecDepth 16384

noncomputable section

namespace Cert.Kernel11Ideal.Values

open Idealize.ShloMosaic Idealize.ShloMosaic.TcCoe Idealize.ShloMosaic.Tactic
open Idealize.SL Idealize.SL.RA Idealize.SL.Sem
open Idealize.ShloMosaic.Pipeline (Dat Cfg Window)
open Idealize.ShloMosaic.VecWindow Cert.Kernel11Ideal.Gen

variable (m : (ℓ : Loc nD τ sig) → Buf (Elt Ideal) ℓ) (c : Dev nD)

/-- Every point is the first and the last of its run: it writes out the product of its two blocks. -/
theorem o (t : Fin cfg0.N) : outsAt0 m c t
    = k0_pay2 (F := Ideal) (iblk m c 0 t) (k0_pay1 (F := Ideal)) (iblk m c 1 t) := by
  unfold outsAt0 out0_A_2
  refine (View.read_writes_full _ _ _ _ _).trans ?_
  refine ((View.readCov_full _ _ _ _ _).trans ?_)
  exact congr (congr (congrArg (k0_pay2 (F := Ideal)) (Blocks.load _ _ _)) (View.readCov_full _ _ _ _ _)) (Blocks.load _ _ _)

/-- Which block of its array each window is at. -/
theorem idx : ∀ t : Fin cfg0.N, win0_0.index t = ![t.val / 3, 0] ∧ win0_1.index t = ![0, t.val % 3]
    ∧ win0_2.index t = ![t.val / 3, t.val % 3] :=
  (by decide +kernel : ∀ t : Fin grid0.N, _)

/-- The normalised activations and the weights, as they are given. -/
abbrev H : Vec Ideal S4096x1024 .bf16 := m ((c.tc : Thread nD τ).loc main_arg0)
abbrev W : Vec Ideal S1024x2304 .bf16 := m ((c.tc : Thread nD τ).loc main_arg1)

theorem b0 (t : Fin cfg0.N) (j : Fin 1024) (d : Fin 1024) (h : t.val / 3 * 1024 + j.val < 4096) :
    iblk m c 0 t (ix2 j d) = H m c (ix2 ⟨t.val / 3 * 1024 + j.val, h⟩ d) := by
  blk_point [iblk, V_main_arg0, idx t]
theorem b1 (t : Fin cfg0.N) (d : Fin 1024) (e : Fin 768) (h : t.val % 3 * 768 + e.val < 2304) :
    iblk m c 1 t (ix2 d e) = W m c (ix2 d ⟨t.val % 3 * 768 + e.val, h⟩) := by
  blk_point [iblk, V_main_arg1, idx t]

theorem pay_at (u : Vec Ideal S1024x1024 .bf16) (v : Vec Ideal S1024x768 .bf16) (j : Fin 1024) (e : Fin 768) :
    k0_pay2 (F := Ideal) u (k0_pay1 (F := Ideal)) v (ix2 j e) = ∑ d : Fin 1024, u (ix2 j d) * v (ix2 d e) := by
  pointwise [k0_pay2, k0_pay1]

/-- The product the call stands for. -/
def G : Vec Ideal S4096x2304 .f32 := fun z => ∑ d : Fin 1024, H m c (ix2 (z 0) d) * W m c (ix2 d (z 1))

theorem out_block (t : Fin cfg0.N) (j : Fin 1024) (e : Fin 768) (z : S4096x2304.Idx) (hj : (z 0).val = t.val / 3 * 1024 + j.val)
    (he : (z 1).val = t.val % 3 * 768 + e.val) : outsAt0 m c t (ix2 j e) = G m c z := by
  have hr : t.val / 3 * 1024 + j.val < 4096 := hj ▸ (z 0).isLt
  have hc : t.val % 3 * 768 + e.val < 2304 := he ▸ (z 1).isLt
  show outsAt0 m c t (ix2 j e) = ∑ d : Fin 1024, H m c (ix2 (z 0) d) * W m c (ix2 d (z 1))
  rw [o, pay_at, show z 0 = ⟨t.val / 3 * 1024 + j.val, hr⟩ from Fin.ext hj, show z 1 = ⟨t.val % 3 * 768 + e.val, hc⟩ from Fin.ext he]
  simp only [b0 m c t _ _ hr, b1 m c t _ _ hc]
  rfl

theorem final : (dats m 0 c).arrAt 2 cfg0.N = G m c := by
  refine (dats m 0 c).arrAt_eq_of_covers 2 _ (by decide +kernel) fun t hf y => ?_
  blk_simp
  rw [after0_2]
  exact (congrArg (outsAt0 m c t) (eq_ix2 (n0 := 1024) (n1 := 768) y)).trans
    (out_block m c t (y 0) (y 1) _ (by blk_simp [idx t]) (by blk_simp [idx t]))

end Cert.Kernel11Ideal.Values

namespace Cert.Reference11Ideal.Values

open Idealize.ShloMosaic Idealize.ShloMosaic.TcCoe Idealize.ShloMosaic.Tactic Cert.Reference11Ideal.Gen

/-- The reference's product is the same one. -/
theorem product (x : Vec Ideal S4096x1024 .bf16) (y : Vec Ideal S1024x2304 .bf16) (s : Fin 4096) (e : Fin 2304) :
    Host.dotGeneral (F := Ideal) dot_S4096x1024_S1024x2304_S4096x2304_1_0_0_1_n_n none
      (extf .f32 x bitsLt_bf16_f32) (extf .f32 y bitsLt_bf16_f32) (ix2 s e) = ∑ d : Fin 1024, x (ix2 s d) * y (ix2 d e) := by
  pointwise

end Cert.Reference11Ideal.Values

namespace Cert.Proof

open Idealize.ShloMosaic Idealize.SL.Sem

/-- The two programs end with equal results. -/
theorem algebraic11 : Cert.algebraic_Kernel11Ideal_Reference11Ideal (hKernel11Ideal := Cert.Kernel11Ideal.Gen.facts) (hReference11Ideal := Cert.Reference11Ideal.Gen.facts) := by
  intro m ρ m' ρ' _ hag
  refine ⟨fun c => Cert.Kernel11Ideal.Values.G m c, (θ_run Cert.Kernel11Ideal.defs _ _).mono (fun r h c => ?_) (Cert.Kernel11Ideal.Value.run_blocks m ρ),
    (θ_run Cert.Reference11Ideal.defs _ _).mono (fun r h c => ?_) (Cert.Reference11Ideal.Value.run (F := Ideal) m' ρ')⟩
  · exact ⟨(h c).1.trans (Cert.Kernel11Ideal.Values.final m c), (h c).2⟩
  · refine ⟨(h c).1.trans (funext fun z => ?_), (h c).2⟩
    rw [(hag c).1, (hag c).2]
    exact (congrArg _ (eq_ix2 z)).trans (Cert.Reference11Ideal.Values.product _ _ (z 0) (z 1))

end Cert.Proof
-- ==== Proof.FfnDown.lean ====
/- The feed-forward block's down projection with the norm after it: what the kernel writes is the sum of the four slabs' products, and the input plus that sum normalised. -/
module

public import proofs.«01_k».proof.Defs
public import proofs.«01_k».proof.Proof.Blocks
public import proofs.«01_k».proof.Proof.Gen.Kernel12Ideal.Value
public import proofs.«01_k».proof.Proof.Gen.Reference12Ideal.Run

@[expose] public section

set_option maxRecDepth 16384

noncomputable section

namespace Cert.Kernel12Ideal.Values

open Idealize.ShloMosaic Idealize.ShloMosaic.TcCoe Idealize.ShloMosaic.Tactic
open Idealize.SL Idealize.SL.RA Idealize.SL.Sem
open Idealize.ShloMosaic.Pipeline (Dat Cfg Window)
open Idealize.ShloMosaic.VecWindow Cert.Kernel12Ideal.Gen

variable (m : (ℓ : Loc nD τ sig) → Buf (Elt Ideal) ℓ) (c : Dev nD)

/-- A run's first point leaves its own product in the accumulator. -/
theorem sA (t : Fin cfg0.N) (h0 : t.val % 4 = 0) (h1 : ¬t.val % 4 = 3) :
    (outsAt0 m c t.val t.isLt).2.2 = k0_pay2 (F := Ideal) (iblk m c 0 t) (k0_pay1 (F := Ideal)) (iblk m c 1 t) := by
  rw [outsAt0_A m c t h0 h1]
  dsimp only
  unfold sout0_A_0
  refine (View.read_writes_full _ _ _ _ _).trans ?_
  exact congr (congr (congrArg (k0_pay2 (F := Ideal)) (Blocks.load _ _ _)) (View.readCov_full _ _ _ _ _)) (Blocks.load _ _ _)
/-- A later point adds its product to what the point before left. -/
theorem sB (t : Fin cfg0.N) (h0 : ¬t.val % 4 = 0) :
    (outsAt0 m c t.val t.isLt).2.2
      = k0_pay2 (F := Ideal) (iblk m c 0 t) (outsAt0 m c (t.val - 1) (Nat.lt_of_le_of_lt (Nat.sub_le _ _) t.isLt)).2.2 (iblk m c 1 t) := by
  by_cases h1 : t.val % 4 = 3
  · rw [outsAt0_C m c t h0 h1]
    dsimp only
    unfold sout0_C_0
    exact (View.read_writes_full _ _ _ _ _).trans (congr (congr (congrArg (k0_pay2 (F := Ideal)) (Blocks.load _ _ _)) (Blocks.load _ _ _)) (Blocks.load _ _ _))
  · rw [outsAt0_B m c t h0 h1]
    dsimp only
    unfold sout0_B_0
    exact (View.read_writes_full _ _ _ _ _).trans (congr (congr (congrArg (k0_pay2 (F := Ideal)) (Blocks.load _ _ _)) (Blocks.load _ _ _)) (Blocks.load _ _ _))
/-- The last point of a run writes the accumulator out, and the input plus the accumulator normalised and scaled. -/
theorem oC (t : Fin cfg0.N) (h1 : t.val % 4 = 3) :
    (outsAt0 m c t.val t.isLt).2.1 = (outsAt0 m c t.val t.isLt).2.2 := by
  rw [sB m c t (by omega), outsAt0_C m c t (by omega) h1]
  dsimp only
  unfold out0_C_6
  refine (View.read_writes_full _ _ _ _ _).trans ((View.readCov_full _ _ _ _ _).trans ?_)
  exact congr (congr (congrArg (k0_pay2 (F := Ideal)) (Blocks.load _ _ _)) (Blocks.load _ _ _)) (Blocks.load _ _ _)
theorem oN (t : Fin cfg0.N) (h1 : t.val % 4 = 3) :
    (outsAt0 m c t.val t.isLt).1 = k0_pay3 (F := Ideal) (outsAt0 m c t.val t.isLt).2.2 (iblk m c 2 t) (iblk m c 3 t) (iblk m c 4 t) := by
  rw [sB m c t (by omega), outsAt0_C m c t (by omega) h1]
  dsimp only
  unfold out0_C_5
  refine (View.read_writes_full _ _ _ _ _).trans ?_
  refine congr (congr (congr (congrArg (k0_pay3 (F := Ideal)) ((View.readCov_full _ _ _ _ _).trans ?_)) (Blocks.load _ _ _)) (Blocks.load _ _ _)) (Blocks.load _ _ _)
  exact congr (congr (congrArg (k0_pay2 (F := Ideal)) (Blocks.load _ _ _)) (Blocks.load _ _ _)) (Blocks.load _ _ _)

/-- Which block of its array each window is at. -/
theorem idx : ∀ t : Fin cfg0.N, win0_0.index t = ![t.val % 4, t.val / 4, 0] ∧ win0_1.index t = ![t.val % 4, 0, 0] ∧ win0_2.index t = ![t.val / 4, 0]
    ∧ win0_3.index t = ![0, 0] ∧ win0_4.index t = ![0, 0] ∧ win0_5.index t = ![t.val / 4, 0] ∧ win0_6.index t = ![t.val / 4, 0] :=
  (by decide +kernel : ∀ t : Fin grid0.N, _)

/-- The hidden activations, the weights, the block's input, the gate and the norm's gains, as they are given. -/
abbrev X : Vec Ideal S4x4096x704 .bf16 := m ((c.tc : Thread nD τ).loc main_arg0)
abbrev W : Vec Ideal S4x704x1024 .bf16 := m ((c.tc : Thread nD τ).loc main_arg1)
abbrev R : Vec Ideal S4096x1024 .f32 := m ((c.tc : Thread nD τ).loc main_arg2)
abbrev T : Vec Ideal S1x1024 .f32 := m ((c.tc : Thread nD τ).loc main_arg3)
abbrev N : Vec Ideal S1x1024 .f32 := m ((c.tc : Thread nD τ).loc main_arg4)

/-- The slab a point of a run is at, and a row of its block of rows. -/
abbrev slab (k : ℕ) : Fin 4 := ⟨k % 4, Nat.mod_lt _ (by decide)⟩
abbrev row (q : ℕ) (r : Fin 1024) : Fin 4096 := Blocks.rowOf (by decide) q r

theorem row_val (t : Fin cfg0.N) (r : Fin 1024) (h : t.val / 4 * 1024 + r.val < 4096) : row (t.val / 4) r = ⟨t.val / 4 * 1024 + r.val, h⟩ :=
  Blocks.rowOf_eq _ _ _ h
theorem row_lt (t : Fin cfg0.N) (r : Fin 1024) : t.val / 4 * 1024 + r.val < 4096 := by
  have hN : t.val < 16 := t.isLt
  omega
theorem slab_val (t : Fin cfg0.N) : slab (t.val % 4) = ⟨t.val % 4, by omega⟩ := Fin.ext (by show t.val % 4 % 4 = t.val % 4; omega)

theorem b0 (t : Fin cfg0.N) (r : Fin 1024) (f : Fin 704) : iblk m c 0 t (ix3 0 r f) = X m c (ix3 (slab (t.val % 4)) (row (t.val / 4) r) f) := by
  rw [row_val t r (row_lt t r), slab_val]
  blk_point [iblk, V_main_arg0, idx t]
theorem b1 (t : Fin cfg0.N) (f : Fin 704) (e : Fin 1024) : iblk m c 1 t (ix3 0 f e) = W m c (ix3 (slab (t.val % 4)) f e) := by
  rw [slab_val]
  blk_point [iblk, V_main_arg1, idx t]
theorem b2 (t : Fin cfg0.N) (r e : Fin 1024) : iblk m c 2 t (ix2 r e) = R m c (ix2 (row (t.val / 4) r) e) := by
  rw [row_val t r (row_lt t r)]
  blk_point [iblk, V_main_arg2, idx t]
theorem b3 (t : Fin cfg0.N) (e : Fin 1024) : iblk m c 3 t (ix2 0 e) = T m c (ix2 0 e) := by
  blk_point [iblk, V_main_arg3, idx t]
theorem b4 (t : Fin cfg0.N) (e : Fin 1024) : iblk m c 4 t (ix2 0 e) = N m c (ix2 0 e) := by
  blk_point [iblk, V_main_arg4, idx t]

theorem pay2_at (u : Vec Ideal S1x1024x704 .bf16) (a : Vec Ideal S1024x1024 .f32) (v : Vec Ideal S1x704x1024 .bf16) (r e : Fin 1024) :
    k0_pay2 (F := Ideal) u a v (ix2 r e) = a (ix2 r e) + ∑ f : Fin 704, u (ix3 0 r f) * v (ix3 0 f e) := by
  pointwise [k0_pay2]
theorem pay1_at (r e : Fin 1024) : k0_pay1 (F := Ideal) (ix2 r e) = (0 : EReal) := by
  pointwise [k0_pay1]
/-- An input plus a normalised and scaled row, at a column: what is written of an accumulator. -/
theorem pay3_at (a x : Vec Ideal S1024x1024 .f32) (t n : Vec Ideal S1x1024 .f32) (r e : Fin 1024) :
    k0_pay3 (F := Ideal) a x t n (ix2 r e)
      = Blocks.normed (fun k : Fin 1024 => a (ix2 r k)) (x (ix2 r e)) (t (ix2 0 e)) (n (ix2 0 e)) e := by
  unfold Blocks.normed
  pointwise [k0_pay3]

/-- The product the call stands for, at a row and a column. -/
def Y (s : Fin 4096) (e : Fin 1024) : EReal := ∑ a : Fin 4, ∑ f : Fin 704, X m c (ix3 a s f) * W m c (ix3 a f e)
/-- The two results: the input plus the normalised product, and the product. -/
def GX : Vec Ideal S4096x1024 .f32 := fun z =>
  Blocks.normed (Y m c (z 0)) (R m c (ix2 (z 0) (z 1))) (T m c (ix2 0 (z 1))) (N m c (ix2 0 (z 1))) (z 1)
def GY : Vec Ideal S4096x1024 .f32 := fun z => Y m c (z 0) (z 1)

theorem acc_at (t : Fin cfg0.N) (h1 : t.val % 4 = 3) (r e : Fin 1024) :
    (outsAt0 m c t.val t.isLt).2.2 (ix2 r e) = Y m c (row (t.val / 4) r) e := by
  refine (Blocks.run_total (P := 4) (by decide) (fun n hn => (outsAt0 m c n hn).2.2 (ix2 r e)) (t.val / 4)
    (fun k => ∑ f : Fin 704, X m c (ix3 (slab k) (row (t.val / 4) r) f) * W m c (ix3 (slab k) f e)) (fun n hn hq h0 => ?_) (fun n hn hq h0 => ?_) t.val t.isLt rfl h1).trans ?_
  · rw [sA m c ⟨n, hn⟩ h0 (by dsimp only; omega), pay2_at, pay1_at]
    simp only [b0, b1, hq]
  · rw [sB m c ⟨n, hn⟩ h0, pay2_at]
    simp only [b0, b1, hq]
  · exact Finset.sum_congr rfl fun a _ => by rw [show slab a.val = a from Fin.ext (Nat.mod_eq_of_lt a.isLt)]

/-- An entry of a block of rows is the entry of the array it is written to. -/
theorem at_row (t : Fin cfg0.N) (r e : Fin 1024) (z : S4096x1024.Idx) (h0 : (z 0).val = t.val / 4 * 1024 + r.val) (h1 : (z 1).val = e.val) :
    Y m c (row (t.val / 4) r) e = GY m c z := by
  show _ = Y m c (z 0) (z 1)
  rw [row_val t r (row_lt t r), show z 0 = ⟨t.val / 4 * 1024 + r.val, row_lt t r⟩ from Fin.ext h0, show z 1 = e from Fin.ext h1]
  rfl
theorem at_entry (t : Fin cfg0.N) (r e : Fin 1024) (z : S4096x1024.Idx) (h0 : (z 0).val = t.val / 4 * 1024 + r.val) (h1 : (z 1).val = e.val) :
    Blocks.normed (Y m c (row (t.val / 4) r)) (R m c (ix2 (row (t.val / 4) r) e)) (T m c (ix2 0 e)) (N m c (ix2 0 e)) e = GX m c z := by
  show _ = Blocks.normed (Y m c (z 0)) (R m c (ix2 (z 0) (z 1))) (T m c (ix2 0 (z 1))) (N m c (ix2 0 (z 1))) (z 1)
  rw [row_val t r (row_lt t r), show z 0 = ⟨t.val / 4 * 1024 + r.val, row_lt t r⟩ from Fin.ext h0, show z 1 = e from Fin.ext h1]
  rfl

theorem norm_block (t : Fin cfg0.N) (h1 : t.val % 4 = 3) (r e : Fin 1024) (z : S4096x1024.Idx) (h0 : (z 0).val = t.val / 4 * 1024 + r.val)
    (he : (z 1).val = e.val) :
    k0_pay3 (F := Ideal) (outsAt0 m c t.val t.isLt).2.2 (iblk m c 2 t) (iblk m c 3 t) (iblk m c 4 t) (ix2 r e) = GX m c z := by
  refine (pay3_at _ _ _ _ r e).trans ?_
  simp only [acc_at m c t h1, b2, b3, b4]
  exact at_entry m c t r e z h0 he

theorem final5 : (dats m 0 c).arrAt 5 cfg0.N = GX m c := by
  refine (dats m 0 c).arrAt_eq_of_covers 5 _ (by decide +kernel) fun t hf y => ?_
  have h1 := (flush0_5 t).mp hf
  blk_simp
  rw [after0_5, oN m c t h1]
  exact (congrArg (k0_pay3 (F := Ideal) (outsAt0 m c t.val t.isLt).2.2 (iblk m c 2 t) (iblk m c 3 t) (iblk m c 4 t)) (eq_ix2 (n0 := 1024) (n1 := 1024) y)).trans
    (norm_block m c t h1 (y 0) (y 1) _ (by blk_simp [idx t]) (by blk_simp [idx t]))
theorem final6 : (dats m 0 c).arrAt 6 cfg0.N = GY m c := by
  refine (dats m 0 c).arrAt_eq_of_covers 6 _ (by decide +kernel) fun t hf y => ?_
  have h1 := (flush0_6 t).mp hf
  blk_simp
  rw [after0_6, oC m c t h1]
  exact (congrArg (outsAt0 m c t.val t.isLt).2.2 (eq_ix2 (n0 := 1024) (n1 := 1024) y)).trans
    ((acc_at m c t h1 (y 0) (y 1)).trans (at_row m c t (y 0) (y 1) _ (by blk_simp [idx t]) (by blk_simp [idx t])))

end Cert.Kernel12Ideal.Values

namespace Cert.Reference12Ideal.Values

open Idealize.ShloMosaic Idealize.ShloMosaic.TcCoe Idealize.ShloMosaic.Tactic Cert.Reference12Ideal.Gen

/-- The reference's product is the same one. -/
theorem product (x : Vec Ideal S4x4096x704 .bf16) (y : Vec Ideal S4x704x1024 .bf16) (s : Fin 4096) (e : Fin 1024) :
    Host.dotGeneral (F := Ideal) dot_S4x4096x704_S4x704x1024_S4096x1024_02_01_1_2_n_n none (extf .f32 x bitsLt_bf16_f32) (extf .f32 y bitsLt_bf16_f32) (ix2 s e)
      = ∑ a : Fin 4, ∑ f : Fin 704, x (ix3 a s f) * y (ix3 a f e) := by
  pointwise

/-- The reference's input plus normalised and scaled rows. -/
theorem normed (A x : Vec Ideal S4096x1024 .f32) (t n : Vec Ideal S1x1024 .f32) (s : Fin 4096) (e : Fin 1024) :
    addf x (mulf (broadcastInDim S4096x1024 ![0, 1] bcast_S1x1024_S4096x1024_0_1 t) (mulf (mulf A
      (broadcastInDim S4096x1024 ![0, 1] bcast_S4096x1_S4096x1024_0_1 (Host.rsqrt (F := Ideal) (addf (Host.divf (broadcastInDim S4096x1 ![0] bcast_S4096_S4096x1_0
        (Host.reduceAdd (mulf A A) (constant S_ .f32 0x00000000#32) reducesTo_S4096x1024_S4096_d1 h_S_)) (broadcastInDim S4096x1 ![] bcast_S_S4096x1 (constant S_ .f32 0x44800000#32)))
        (broadcastInDim S4096x1 ![] bcast_S_S4096x1 (constant S_ .f32 0x358637BD#32)))))) (broadcastInDim S4096x1024 ![0, 1] bcast_S1x1024_S4096x1024_0_1 n))) (ix2 s e)
      = Blocks.normed (fun k : Fin 1024 => A (ix2 s k)) (x (ix2 s e)) (t (ix2 0 e)) (n (ix2 0 e)) e := by
  unfold Blocks.normed
  pointwise

end Cert.Reference12Ideal.Values

namespace Cert.Proof

open Idealize.ShloMosaic Idealize.SL.Sem Cert.Reference12Ideal.Values

/-- The two programs end with equal results. -/
theorem algebraic12 : Cert.algebraic_Kernel12Ideal_Reference12Ideal (hKernel12Ideal := Cert.Kernel12Ideal.Gen.facts) (hReference12Ideal := Cert.Reference12Ideal.Gen.facts) := by
  intro m ρ m' ρ' _ hag
  refine ⟨fun c => Cert.Kernel12Ideal.Values.GX m c, fun c => Cert.Kernel12Ideal.Values.GY m c,
    (θ_run Cert.Kernel12Ideal.defs _ _).mono (fun r h c => ?_) (Cert.Kernel12Ideal.Value.run_blocks m ρ),
    (θ_run Cert.Reference12Ideal.defs _ _).mono (fun r h c => ?_) (Cert.Reference12Ideal.Value.run (F := Ideal) m' ρ')⟩
  · exact ⟨(h c).1.trans (Cert.Kernel12Ideal.Values.final5 m c), (h c).2.1.trans (Cert.Kernel12Ideal.Values.final6 m c), (h c).2.2⟩
  · refine ⟨(h c).1.trans (funext fun z => ?_), (h c).2.1.trans (funext fun z => ?_), (h c).2.2⟩
    · rw [(hag c).1, (hag c).2.1, (hag c).2.2.1, (hag c).2.2.2.1, (hag c).2.2.2.2]
      exact (congrArg _ (eq_ix2 z)).trans ((normed _ _ _ _ (z 0) (z 1)).trans
        (congrArg (fun a => Blocks.normed a _ _ _ _) (funext fun k => product _ _ (z 0) k)))
    · rw [(hag c).1, (hag c).2.1]
      exact (congrArg _ (eq_ix2 z)).trans (product _ _ (z 0) (z 1))

end Cert.Proof
-- ==== Proof.Mixed.lean ====
/- The weight gradient of the layer's output projection: what the kernel writes is one product. -/
module

public import proofs.«01_k».proof.Defs
public import proofs.«01_k».proof.Proof.Blocks
public import proofs.«01_k».proof.Proof.Gen.Kernel13Ideal.Value
public import proofs.«01_k».proof.Proof.Gen.Reference13Ideal.Run

@[expose] public section

set_option maxRecDepth 16384

noncomputable section

namespace Cert.Kernel13Ideal.Values

open Idealize.ShloMosaic Idealize.ShloMosaic.TcCoe Idealize.ShloMosaic.Tactic
open Idealize.SL Idealize.SL.RA Idealize.SL.Sem
open Idealize.ShloMosaic.Pipeline (Dat Cfg Window)
open Idealize.ShloMosaic.VecWindow Cert.Kernel13Ideal.Gen

variable (m : (ℓ : Loc nD τ sig) → Buf (Elt Ideal) ℓ) (c : Dev nD)

/-- A run's first point leaves its own product in the accumulator. -/
theorem sA (t : Fin cfg0.N) (h0 : t.val % 4 = 0) (h1 : ¬t.val % 4 = 3) :
    (outsAt0 m c t.val t.isLt).2 = k0_pay2 (F := Ideal) (iblk m c 0 t) (k0_pay1 (F := Ideal)) (iblk m c 1 t) := by
  rw [outsAt0_A m c t h0 h1]
  dsimp only
  unfold sout0_A_0
  refine (View.read_writes_full _ _ _ _ _).trans ?_
  exact congr (congr (congrArg (k0_pay2 (F := Ideal)) (Blocks.load _ _ _)) (View.readCov_full _ _ _ _ _)) (Blocks.load _ _ _)
/-- A later point adds its product to what the point before left. -/
theorem sB (t : Fin cfg0.N) (h0 : ¬t.val % 4 = 0) :
    (outsAt0 m c t.val t.isLt).2
      = k0_pay2 (F := Ideal) (iblk m c 0 t) (outsAt0 m c (t.val - 1) (Nat.lt_of_le_of_lt (Nat.sub_le _ _) t.isLt)).2 (iblk m c 1 t) := by
  by_cases h1 : t.val % 4 = 3
  · rw [outsAt0_C m c t h0 h1]
    dsimp only
    unfold sout0_C_0
    exact (View.read_writes_full _ _ _ _ _).trans (congr (congr (congrArg (k0_pay2 (F := Ideal)) (Blocks.load _ _ _)) (Blocks.load _ _ _)) (Blocks.load _ _ _))
  · rw [outsAt0_B m c t h0 h1]
    dsimp only
    unfold sout0_B_0
    exact (View.read_writes_full _ _ _ _ _).trans (congr (congr (congrArg (k0_pay2 (F := Ideal)) (Blocks.load _ _ _)) (Blocks.load _ _ _)) (Blocks.load _ _ _))
/-- The last point of a run writes the accumulator out. -/
theorem oC (t : Fin cfg0.N) (h1 : t.val % 4 = 3) :
    (outsAt0 m c t.val t.isLt).1 = k0_pay3 (F := Ideal) (outsAt0 m c t.val t.isLt).2 := by
  rw [sB m c t (by omega), outsAt0_C m c t (by omega) h1]
  dsimp only
  unfold out0_C_2
  refine (View.read_writes_full _ _ _ _ _).trans ?_
  refine congrArg (k0_pay3 (F := Ideal)) ((View.readCov_full _ _ _ _ _).trans ?_)
  exact congr (congr (congrArg (k0_pay2 (F := Ideal)) (Blocks.load _ _ _)) (Blocks.load _ _ _)) (Blocks.load _ _ _)

/-- Which block of its array each window is at. -/
theorem idx : ∀ t : Fin cfg0.N, win0_0.index t = ![t.val % 4, t.val / 4] ∧ win0_1.index t = ![t.val % 4, 0]
    ∧ win0_2.index t = ![t.val / 4, 0, 0] :=
  (by decide +kernel : ∀ t : Fin grid0.N, _)

/-- The merged branches and the gradient of the projection's output, as they are given. -/
abbrev X : Vec Ideal S4096x1024 .bf16 := m ((c.tc : Thread nD τ).loc main_arg0)
abbrev Y : Vec Ideal S4096x1024 .bf16 := m ((c.tc : Thread nD τ).loc main_arg1)

theorem b0 (t : Fin cfg0.N) (j : Fin 1024) (f : Fin 256) : iblk m c 0 t (ix2 j f) = X m c (ix2 (Blocks.rowOf (by decide) (t.val % 4) j) (Blocks.rowOf (n := 256) (N := 1024) (by decide) (t.val / 4) f)) := by
  have hN : t.val < 16 := t.isLt
  rw [Blocks.rowOf_eq _ _ _ (by omega), Blocks.rowOf_eq _ _ _ (by omega)]
  blk_point [iblk, V_main_arg0, idx t]
theorem b1 (t : Fin cfg0.N) (j : Fin 1024) (e : Fin 1024) : iblk m c 1 t (ix2 j e) = Y m c (ix2 (Blocks.rowOf (by decide) (t.val % 4) j) e) := by
  rw [Blocks.rowOf_eq _ _ _ (by omega)]
  blk_point [iblk, V_main_arg1, idx t]

theorem pay2_at (u : Vec Ideal S1024x256 .bf16) (a : Vec Ideal S256x1024 .f32) (v : Vec Ideal S1024x1024 .bf16) (f : Fin 256) (e : Fin 1024) :
    k0_pay2 (F := Ideal) u a v (ix2 f e) = a (ix2 f e) + ∑ j : Fin 1024, u (ix2 j f) * v (ix2 j e) := by
  pointwise [k0_pay2]
theorem pay1_at (f : Fin 256) (e : Fin 1024) : k0_pay1 (F := Ideal) (ix2 f e) = (0 : EReal) := by
  pointwise [k0_pay1]
theorem pay3_at (a : Vec Ideal S256x1024 .f32) (f : Fin 256) (e : Fin 1024) : k0_pay3 (F := Ideal) a (ix3 0 f e) = a (ix2 f e) := by
  pointwise [k0_pay3]

/-- The product the call stands for. -/
def G : Vec Ideal S4x256x1024 .bf16 := fun z => ∑ i : Fin 4096, X m c (ix2 i (Blocks.rowOf (n := 256) (N := 1024) (by decide) (z 0).val (z 1))) * Y m c (ix2 i (z 2))

theorem acc_at (t : Fin cfg0.N) (h1 : t.val % 4 = 3) (f : Fin 256) (e : Fin 1024) :
    (outsAt0 m c t.val t.isLt).2 (ix2 f e) = ∑ i : Fin 4096, X m c (ix2 i (Blocks.rowOf (n := 256) (N := 1024) (by decide) (t.val / 4) f)) * Y m c (ix2 i e) := by
  refine Blocks.run_sum (P := 4) (n := 1024) rfl (by decide) (fun n hn => (outsAt0 m c n hn).2 (ix2 f e)) (t.val / 4)
    (fun i => X m c (ix2 i (Blocks.rowOf (n := 256) (N := 1024) (by decide) (t.val / 4) f)) * Y m c (ix2 i e)) (fun n hn hq h0 => ?_) (fun n hn hq h0 => ?_) t.val t.isLt rfl h1
  · rw [sA m c ⟨n, hn⟩ h0 (by dsimp only; omega), pay2_at, pay1_at]
    simp only [b0, b1, hq]
  · rw [sB m c ⟨n, hn⟩ h0, pay2_at]
    simp only [b0, b1, hq]

theorem out_block (t : Fin cfg0.N) (h1 : t.val % 4 = 3) (f : Fin 256) (e : Fin 1024) (z : S4x256x1024.Idx)
    (e0 : (z 0).val = t.val / 4) (e1 : (z 1).val = f.val) (e2 : (z 2).val = e.val) :
    k0_pay3 (F := Ideal) (outsAt0 m c t.val t.isLt).2 (ix3 0 f e) = G m c z := by
  rw [pay3_at, acc_at m c t h1]
  rw [show f = z 1 from Fin.ext e1.symm, show e = z 2 from Fin.ext e2.symm, ← e0]
  rfl

theorem final : (dats m 0 c).arrAt 2 cfg0.N = G m c := by
  refine (dats m 0 c).arrAt_eq_of_covers 2 _ (by decide +kernel) fun t hf y => ?_
  have h1 := (flush0_2 t).mp hf
  blk_simp
  rw [after0_2, oC m c t h1]
  exact (congrArg (k0_pay3 (F := Ideal) (outsAt0 m c t.val t.isLt).2) (Blocks.ix3_first (a := 256) (b := 1024) y)).trans
    (out_block m c t h1 (y 1) (y 2) _ (by blk_simp [idx t]) (by blk_simp [idx t]) (by blk_simp [idx t]))

end Cert.Kernel13Ideal.Values

namespace Cert.Reference13Ideal.Values

open Idealize.ShloMosaic Idealize.ShloMosaic.TcCoe Idealize.ShloMosaic.Tactic Cert.Reference13Ideal.Gen

/-- The reference's product is the same one. -/
theorem product (x : Vec Ideal S4096x1024 .bf16) (y : Vec Ideal S4096x1024 .bf16) (a : Fin 4) (f : Fin 256) (e : Fin 1024) :
    truncf (F := Ideal) .bf16 (shapeCast S4x256x1024 (transpose S1024x1024 [1, 0] (Host.dotGeneral dot_S4096x1024_S4096x1024_S1024x1024_0_0_1_1_n_n none
      (extf .f32 y bitsLt_bf16_f32) (extf .f32 x bitsLt_bf16_f32)) transposes_S1024x1024_S1024x1024_1_0) shapeCasts_S1024x1024_S4x256x1024) bitsLt_bf16_f32 (ix3 a f e)
      = ∑ i : Fin 4096, x (ix2 i (Blocks.rowOf (n := 256) (N := 1024) (by decide) a.val f)) * y (ix2 i e) := by
  have ht : ∀ Z : Vec Ideal S4x256x1024 .f32, truncf (F := Ideal) .bf16 Z bitsLt_bf16_f32 (ix3 a f e) = Z (ix3 a f e) := fun Z => by pointwise
  refine (ht _).trans ((Blocks.split_rows (n := 256) _ _ (by decide) rfl a f e).trans ?_)
  pointwise
  exact Finset.sum_congr rfl fun i _ => mul_comm _ _

end Cert.Reference13Ideal.Values

namespace Cert.Proof

open Idealize.ShloMosaic Idealize.SL.Sem

/-- The two programs end with equal results. -/
theorem algebraic13 : Cert.algebraic_Kernel13Ideal_Reference13Ideal (hKernel13Ideal := Cert.Kernel13Ideal.Gen.facts) (hReference13Ideal := Cert.Reference13Ideal.Gen.facts) := by
  intro m ρ m' ρ' _ hag
  refine ⟨fun c => Cert.Kernel13Ideal.Values.G m c, (θ_run Cert.Kernel13Ideal.defs _ _).mono (fun r h c => ?_) (Cert.Kernel13Ideal.Value.run_blocks m ρ),
    (θ_run Cert.Reference13Ideal.defs _ _).mono (fun r h c => ?_) (Cert.Reference13Ideal.Value.run (F := Ideal) m' ρ')⟩
  · exact ⟨(h c).1.trans (Cert.Kernel13Ideal.Values.final m c), (h c).2⟩
  · refine ⟨(h c).1.trans (funext fun z => ?_), (h c).2⟩
    rw [(hag c).1, (hag c).2]
    exact (congrArg _ (eq_ix3 z)).trans (Cert.Reference13Ideal.Values.product _ _ (z 0) (z 1) (z 2))

end Cert.Proof
-- ==== Proof.Branch.lean ====
/- The weight gradients of the two branches' projections: what the kernel writes is one product. -/
module

public import proofs.«01_k».proof.Defs
public import proofs.«01_k».proof.Proof.Blocks
public import proofs.«01_k».proof.Proof.Gen.Kernel14Ideal.Value
public import proofs.«01_k».proof.Proof.Gen.Reference14Ideal.Run

@[expose] public section

set_option maxRecDepth 16384

noncomputable section

namespace Cert.Kernel14Ideal.Values

open Idealize.ShloMosaic Idealize.ShloMosaic.TcCoe Idealize.ShloMosaic.Tactic
open Idealize.SL Idealize.SL.RA Idealize.SL.Sem
open Idealize.ShloMosaic.Pipeline (Dat Cfg Window)
open Idealize.ShloMosaic.VecWindow Cert.Kernel14Ideal.Gen

variable (m : (ℓ : Loc nD τ sig) → Buf (Elt Ideal) ℓ) (c : Dev nD)

/-- A run's first point leaves its own product in the accumulator. -/
theorem sA (t : Fin cfg0.N) (h0 : t.val % 4 = 0) (h1 : ¬t.val % 4 = 3) :
    (outsAt0 m c t.val t.isLt).2 = k0_pay2 (F := Ideal) (iblk m c 0 t) (k0_pay1 (F := Ideal)) (iblk m c 1 t) := by
  rw [outsAt0_A m c t h0 h1]
  dsimp only
  unfold sout0_A_0
  refine (View.read_writes_full _ _ _ _ _).trans ?_
  exact congr (congr (congrArg (k0_pay2 (F := Ideal)) (Blocks.load _ _ _)) (View.readCov_full _ _ _ _ _)) (Blocks.load _ _ _)
/-- A later point adds its product to what the point before left. -/
theorem sB (t : Fin cfg0.N) (h0 : ¬t.val % 4 = 0) :
    (outsAt0 m c t.val t.isLt).2
      = k0_pay2 (F := Ideal) (iblk m c 0 t) (outsAt0 m c (t.val - 1) (Nat.lt_of_le_of_lt (Nat.sub_le _ _) t.isLt)).2 (iblk m c 1 t) := by
  by_cases h1 : t.val % 4 = 3
  · rw [outsAt0_C m c t h0 h1]
    dsimp only
    unfold sout0_C_0
    exact (View.read_writes_full _ _ _ _ _).trans (congr (congr (congrArg (k0_pay2 (F := Ideal)) (Blocks.load _ _ _)) (Blocks.load _ _ _)) (Blocks.load _ _ _))
  · rw [outsAt0_B m c t h0 h1]
    dsimp only
    unfold sout0_B_0
    exact (View.read_writes_full _ _ _ _ _).trans (congr (congr (congrArg (k0_pay2 (F := Ideal)) (Blocks.load _ _ _)) (Blocks.load _ _ _)) (Blocks.load _ _ _))
/-- The last point of a run writes the accumulator out. -/
theorem oC (t : Fin cfg0.N) (h1 : t.val % 4 = 3) :
    (outsAt0 m c t.val t.isLt).1 = k0_pay3 (F := Ideal) (outsAt0 m c t.val t.isLt).2 := by
  rw [sB m c t (by omega), outsAt0_C m c t (by omega) h1]
  dsimp only
  unfold out0_C_2
  refine (View.read_writes_full _ _ _ _ _).trans ?_
  refine congrArg (k0_pay3 (F := Ideal)) ((View.readCov_full _ _ _ _ _).trans ?_)
  exact congr (congr (congrArg (k0_pay2 (F := Ideal)) (Blocks.load _ _ _)) (Blocks.load _ _ _)) (Blocks.load _ _ _)

/-- Which block of its array each window is at. -/
theorem idx : ∀ t : Fin cfg0.N, win0_0.index t = ![t.val % 4, 0] ∧ win0_1.index t = ![t.val % 4, t.val / 4]
    ∧ win0_2.index t = ![t.val / 4, 0, 0] :=
  (by decide +kernel : ∀ t : Fin grid0.N, _)

/-- The branch's activations and the gradient of its projection's output, as they are given. -/
abbrev X : Vec Ideal S4096x512 .bf16 := m ((c.tc : Thread nD τ).loc main_arg0)
abbrev Y : Vec Ideal S4096x1024 .bf16 := m ((c.tc : Thread nD τ).loc main_arg1)

theorem b0 (t : Fin cfg0.N) (j : Fin 1024) (f : Fin 512) : iblk m c 0 t (ix2 j f) = X m c (ix2 (Blocks.rowOf (by decide) (t.val % 4) j) f) := by
  rw [Blocks.rowOf_eq _ _ _ (by omega)]
  blk_point [iblk, V_main_arg0, idx t]
theorem b1 (t : Fin cfg0.N) (j : Fin 1024) (e : Fin 256) : iblk m c 1 t (ix2 j e) = Y m c (ix2 (Blocks.rowOf (by decide) (t.val % 4) j) (Blocks.rowOf (n := 256) (N := 1024) (by decide) (t.val / 4) e)) := by
  have hN : t.val < 16 := t.isLt
  rw [Blocks.rowOf_eq _ _ _ (by omega), Blocks.rowOf_eq _ _ _ (by omega)]
  blk_point [iblk, V_main_arg1, idx t]

theorem pay2_at (u : Vec Ideal S1024x512 .bf16) (a : Vec Ideal S512x256 .f32) (v : Vec Ideal S1024x256 .bf16) (f : Fin 512) (e : Fin 256) :
    k0_pay2 (F := Ideal) u a v (ix2 f e) = a (ix2 f e) + ∑ j : Fin 1024, u (ix2 j f) * v (ix2 j e) := by
  pointwise [k0_pay2]
theorem pay1_at (f : Fin 512) (e : Fin 256) : k0_pay1 (F := Ideal) (ix2 f e) = (0 : EReal) := by
  pointwise [k0_pay1]
theorem pay3_at (a : Vec Ideal S512x256 .f32) (f : Fin 512) (e : Fin 256) : k0_pay3 (F := Ideal) a (ix3 0 f e) = a (ix2 f e) := by
  pointwise [k0_pay3]

/-- The product the call stands for. -/
def G : Vec Ideal S4x512x256 .bf16 := fun z => ∑ i : Fin 4096, X m c (ix2 i (z 1)) * Y m c (ix2 i (Blocks.rowOf (n := 256) (N := 1024) (by decide) (z 0).val (z 2)))

theorem acc_at (t : Fin cfg0.N) (h1 : t.val % 4 = 3) (f : Fin 512) (e : Fin 256) :
    (outsAt0 m c t.val t.isLt).2 (ix2 f e) = ∑ i : Fin 4096, X m c (ix2 i f) * Y m c (ix2 i (Blocks.rowOf (n := 256) (N := 1024) (by decide) (t.val / 4) e)) := by
  refine Blocks.run_sum (P := 4) (n := 1024) rfl (by decide) (fun n hn => (outsAt0 m c n hn).2 (ix2 f e)) (t.val / 4)
    (fun i => X m c (ix2 i f) * Y m c (ix2 i (Blocks.rowOf (n := 256) (N := 1024) (by decide) (t.val / 4) e))) (fun n hn hq h0 => ?_) (fun n hn hq h0 => ?_) t.val t.isLt rfl h1
  · rw [sA m c ⟨n, hn⟩ h0 (by dsimp only; omega), pay2_at, pay1_at]
    simp only [b0, b1, hq]
  · rw [sB m c ⟨n, hn⟩ h0, pay2_at]
    simp only [b0, b1, hq]

theorem out_block (t : Fin cfg0.N) (h1 : t.val % 4 = 3) (f : Fin 512) (e : Fin 256) (z : S4x512x256.Idx)
    (e0 : (z 0).val = t.val / 4) (e1 : (z 1).val = f.val) (e2 : (z 2).val = e.val) :
    k0_pay3 (F := Ideal) (outsAt0 m c t.val t.isLt).2 (ix3 0 f e) = G m c z := by
  rw [pay3_at, acc_at m c t h1]
  rw [show f = z 1 from Fin.ext e1.symm, show e = z 2 from Fin.ext e2.symm, ← e0]
  rfl

theorem final : (dats m 0 c).arrAt 2 cfg0.N = G m c := by
  refine (dats m 0 c).arrAt_eq_of_covers 2 _ (by decide +kernel) fun t hf y => ?_
  have h1 := (flush0_2 t).mp hf
  blk_simp
  rw [after0_2, oC m c t h1]
  exact (congrArg (k0_pay3 (F := Ideal) (outsAt0 m c t.val t.isLt).2) (Blocks.ix3_first (a := 512) (b := 256) y)).trans
    (out_block m c t h1 (y 1) (y 2) _ (by blk_simp [idx t]) (by blk_simp [idx t]) (by blk_simp [idx t]))

end Cert.Kernel14Ideal.Values

namespace Cert.Reference14Ideal.Values

open Idealize.ShloMosaic Idealize.ShloMosaic.TcCoe Idealize.ShloMosaic.Tactic Cert.Reference14Ideal.Gen

/-- The reference's product is the same one. -/
theorem product (x : Vec Ideal S4096x512 .bf16) (y : Vec Ideal S4096x1024 .bf16) (a : Fin 4) (f : Fin 512) (e : Fin 256) :
    truncf (F := Ideal) .bf16 (transpose S4x512x256 [0, 2, 1] (Host.dotGeneral dot_S4096x4x256_S4096x512_S4x256x512_0_0_12_1_n_n none
      (shapeCast S4096x4x256 (extf .f32 y bitsLt_bf16_f32) shapeCasts_S4096x1024_S4096x4x256) (extf .f32 x bitsLt_bf16_f32))
      transposes_S4x256x512_S4x512x256_0_2_1) bitsLt_bf16_f32 (ix3 a f e)
      = ∑ i : Fin 4096, x (ix2 i f) * y (ix2 i (Blocks.rowOf (n := 256) (N := 1024) (by decide) a.val e)) := by
  have h : ∀ i : Fin 4096, shapeCast S4096x4x256 (extf (F := Ideal) .f32 y bitsLt_bf16_f32) shapeCasts_S4096x1024_S4096x4x256 (ix3 i a e) = y (ix2 i (Blocks.rowOf (n := 256) (N := 1024) (by decide) a.val e)) :=
    fun i => Blocks.split_cols (n := 256) _ _ (by decide) rfl i a e
  generalize shapeCast S4096x4x256 (extf (F := Ideal) .f32 y bitsLt_bf16_f32) shapeCasts_S4096x1024_S4096x4x256 = Z at h ⊢
  pointwise
  exact Finset.sum_congr rfl fun i _ => (congrArg (· * _) (h i)).trans (mul_comm _ _)

end Cert.Reference14Ideal.Values

namespace Cert.Proof

open Idealize.ShloMosaic Idealize.SL.Sem

/-- The two programs end with equal results. -/
theorem algebraic14 : Cert.algebraic_Kernel14Ideal_Reference14Ideal (hKernel14Ideal := Cert.Kernel14Ideal.Gen.facts) (hReference14Ideal := Cert.Reference14Ideal.Gen.facts) := by
  intro m ρ m' ρ' _ hag
  refine ⟨fun c => Cert.Kernel14Ideal.Values.G m c, (θ_run Cert.Kernel14Ideal.defs _ _).mono (fun r h c => ?_) (Cert.Kernel14Ideal.Value.run_blocks m ρ),
    (θ_run Cert.Reference14Ideal.defs _ _).mono (fun r h c => ?_) (Cert.Reference14Ideal.Value.run (F := Ideal) m' ρ')⟩
  · exact ⟨(h c).1.trans (Cert.Kernel14Ideal.Values.final m c), (h c).2⟩
  · refine ⟨(h c).1.trans (funext fun z => ?_), (h c).2⟩
    rw [(hag c).1, (hag c).2]
    exact (congrArg _ (eq_ix3 z)).trans (Cert.Reference14Ideal.Values.product _ _ (z 0) (z 1) (z 2))

end Cert.Proof
-- ==== Proof.Act.lean ====
/- The gradients of the two branches' activations: what the kernel writes is one product. -/
module

public import proofs.«01_k».proof.Defs
public import proofs.«01_k».proof.Proof.Blocks
public import proofs.«01_k».proof.Proof.Gen.Kernel15Ideal.Value
public import proofs.«01_k».proof.Proof.Gen.Reference15Ideal.Run

@[expose] public section

set_option maxRecDepth 16384

noncomputable section

namespace Cert.Kernel15Ideal.Values

open Idealize.ShloMosaic Idealize.ShloMosaic.TcCoe Idealize.ShloMosaic.Tactic
open Idealize.SL Idealize.SL.RA Idealize.SL.Sem
open Idealize.ShloMosaic.Pipeline (Dat Cfg Window)
open Idealize.ShloMosaic.VecWindow Cert.Kernel15Ideal.Gen

variable (m : (ℓ : Loc nD τ sig) → Buf (Elt Ideal) ℓ) (c : Dev nD)

/-- A run's first point leaves its own product in the accumulator. -/
theorem sA (t : Fin cfg0.N) (h0 : t.val % 4 = 0) (h1 : ¬t.val % 4 = 3) :
    (outsAt0 m c t.val t.isLt).2 = k0_pay2 (F := Ideal) (iblk m c 0 t) (k0_pay1 (F := Ideal)) (iblk m c 1 t) := by
  rw [outsAt0_A m c t h0 h1]
  dsimp only
  unfold sout0_A_0
  refine (View.read_writes_full _ _ _ _ _).trans ?_
  exact congr (congr (congrArg (k0_pay2 (F := Ideal)) (Blocks.load _ _ _)) (View.readCov_full _ _ _ _ _)) (Blocks.load _ _ _)
/-- A later point adds its product to what the point before left. -/
theorem sB (t : Fin cfg0.N) (h0 : ¬t.val % 4 = 0) :
    (outsAt0 m c t.val t.isLt).2
      = k0_pay2 (F := Ideal) (iblk m c 0 t) (outsAt0 m c (t.val - 1) (Nat.lt_of_le_of_lt (Nat.sub_le _ _) t.isLt)).2 (iblk m c 1 t) := by
  by_cases h1 : t.val % 4 = 3
  · rw [outsAt0_C m c t h0 h1]
    dsimp only
    unfold sout0_C_0
    exact (View.read_writes_full _ _ _ _ _).trans (congr (congr (congrArg (k0_pay2 (F := Ideal)) (Blocks.load _ _ _)) (Blocks.load _ _ _)) (Blocks.load _ _ _))
  · rw [outsAt0_B m c t h0 h1]
    dsimp only
    unfold sout0_B_0
    exact (View.read_writes_full _ _ _ _ _).trans (congr (congr (congrArg (k0_pay2 (F := Ideal)) (Blocks.load _ _ _)) (Blocks.load _ _ _)) (Blocks.load _ _ _))
/-- The last point of a run writes the accumulator out. -/
theorem oC (t : Fin cfg0.N) (h1 : t.val % 4 = 3) :
    (outsAt0 m c t.val t.isLt).1 = k0_pay3 (F := Ideal) (outsAt0 m c t.val t.isLt).2 := by
  rw [sB m c t (by omega), outsAt0_C m c t (by omega) h1]
  dsimp only
  unfold out0_C_2
  refine (View.read_writes_full _ _ _ _ _).trans ?_
  refine congrArg (k0_pay3 (F := Ideal)) ((View.readCov_full _ _ _ _ _).trans ?_)
  exact congr (congr (congrArg (k0_pay2 (F := Ideal)) (Blocks.load _ _ _)) (Blocks.load _ _ _)) (Blocks.load _ _ _)

/-- Which block of its array each window is at. -/
theorem idx : ∀ t : Fin cfg0.N, win0_0.index t = ![t.val / 4, t.val % 4] ∧ win0_1.index t = ![t.val % 4, 0, 0]
    ∧ win0_2.index t = ![t.val / 4, 0] :=
  (by decide +kernel : ∀ t : Fin grid0.N, _)

/-- The gradient of the projection's output and the weights, as they are given. -/
abbrev X : Vec Ideal S4096x1024 .bf16 := m ((c.tc : Thread nD τ).loc main_arg0)
abbrev Y : Vec Ideal S4x512x256 .bf16 := m ((c.tc : Thread nD τ).loc main_arg1)

/-- The slab a point of a run is at. -/
abbrev slab (k : ℕ) : Fin 4 := ⟨k % 4, Nat.mod_lt _ (by decide)⟩

theorem b0 (t : Fin cfg0.N) (r : Fin 1024) (j : Fin 256) : iblk m c 0 t (ix2 r j) = X m c (ix2 (Blocks.rowOf (n := 1024) (N := 4096) (by decide) (t.val / 4) r) (Blocks.rowOf (n := 256) (N := 1024) (by decide) (t.val % 4) j)) := by
  have hN : t.val < 16 := t.isLt
  rw [Blocks.rowOf_eq _ _ _ (by omega), Blocks.rowOf_eq _ _ _ (by omega)]
  blk_point [iblk, V_main_arg0, idx t]
theorem b1 (t : Fin cfg0.N) (f : Fin 512) (j : Fin 256) : iblk m c 1 t (ix3 0 f j) = Y m c (ix3 (slab (t.val % 4)) f j) := by
  rw [show slab (t.val % 4) = ⟨t.val % 4, by omega⟩ from Fin.ext (by show t.val % 4 % 4 = t.val % 4; omega)]
  blk_point [iblk, V_main_arg1, idx t]

theorem pay2_at (u : Vec Ideal S1024x256 .bf16) (a : Vec Ideal S1024x512 .f32) (v : Vec Ideal S1x512x256 .bf16) (r : Fin 1024) (f : Fin 512) :
    k0_pay2 (F := Ideal) u a v (ix2 r f) = a (ix2 r f) + ∑ j : Fin 256, u (ix2 r j) * v (ix3 0 f j) := by
  pointwise [k0_pay2]
theorem pay1_at (r : Fin 1024) (f : Fin 512) : k0_pay1 (F := Ideal) (ix2 r f) = (0 : EReal) := by
  pointwise [k0_pay1]
theorem pay3_at (a : Vec Ideal S1024x512 .f32) (r : Fin 1024) (f : Fin 512) : k0_pay3 (F := Ideal) a (ix2 r f) = a (ix2 r f) := by
  pointwise [k0_pay3]

/-- The product the call stands for. -/
def G : Vec Ideal S4096x512 .bf16 := fun z => ∑ a : Fin 4, ∑ j : Fin 256, X m c (ix2 (z 0) (Blocks.rowOf (n := 256) (N := 1024) (by decide) a.val j)) * Y m c (ix3 a (z 1) j)

theorem acc_at (t : Fin cfg0.N) (h1 : t.val % 4 = 3) (r : Fin 1024) (f : Fin 512) :
    (outsAt0 m c t.val t.isLt).2 (ix2 r f) = ∑ a : Fin 4, ∑ j : Fin 256, X m c (ix2 (Blocks.rowOf (n := 1024) (N := 4096) (by decide) (t.val / 4) r) (Blocks.rowOf (n := 256) (N := 1024) (by decide) a.val j)) * Y m c (ix3 (slab a.val) f j) := by
  refine Blocks.run_total (P := 4) (by decide) (fun n hn => (outsAt0 m c n hn).2 (ix2 r f)) (t.val / 4)
    (fun k => ∑ j : Fin 256, X m c (ix2 (Blocks.rowOf (n := 1024) (N := 4096) (by decide) (t.val / 4) r) (Blocks.rowOf (n := 256) (N := 1024) (by decide) k j)) * Y m c (ix3 (slab k) f j)) (fun n hn hq h0 => ?_) (fun n hn hq h0 => ?_) t.val t.isLt rfl h1
  · rw [sA m c ⟨n, hn⟩ h0 (by dsimp only; omega), pay2_at, pay1_at]
    simp only [b0, b1, hq]
  · rw [sB m c ⟨n, hn⟩ h0, pay2_at]
    simp only [b0, b1, hq]

theorem out_block (t : Fin cfg0.N) (h1 : t.val % 4 = 3) (r : Fin 1024) (f : Fin 512) (z : S4096x512.Idx)
    (e0 : (z 0).val = t.val / 4 * 1024 + r.val) (e1 : (z 1).val = f.val) :
    k0_pay3 (F := Ideal) (outsAt0 m c t.val t.isLt).2 (ix2 r f) = G m c z := by
  rw [pay3_at, acc_at m c t h1]
  have hN : t.val < 16 := t.isLt
  rw [show f = z 1 from Fin.ext e1.symm, show Blocks.rowOf (n := 1024) (N := 4096) (by decide) (t.val / 4) r = z 0 from
    (Blocks.rowOf_eq _ _ _ (by omega)).trans (Fin.ext e0.symm)]
  exact Finset.sum_congr rfl fun a _ => by rw [show slab a.val = a from Fin.ext (Nat.mod_eq_of_lt a.isLt)]

theorem final : (dats m 0 c).arrAt 2 cfg0.N = G m c := by
  refine (dats m 0 c).arrAt_eq_of_covers 2 _ (by decide +kernel) fun t hf y => ?_
  have h1 := (flush0_2 t).mp hf
  blk_simp
  rw [after0_2, oC m c t h1]
  exact (congrArg (k0_pay3 (F := Ideal) (outsAt0 m c t.val t.isLt).2) (eq_ix2 (n0 := 1024) (n1 := 512) y)).trans
    (out_block m c t h1 (y 0) (y 1) _ (by blk_simp [idx t]) (by blk_simp [idx t]))

end Cert.Kernel15Ideal.Values

namespace Cert.Reference15Ideal.Values

open Idealize.ShloMosaic Idealize.ShloMosaic.TcCoe Idealize.ShloMosaic.Tactic Cert.Reference15Ideal.Gen

/-- The reference's product is the same one. -/
theorem product (x : Vec Ideal S4096x1024 .bf16) (y : Vec Ideal S4x512x256 .bf16) (s : Fin 4096) (f : Fin 512) :
    truncf (F := Ideal) .bf16 (Host.dotGeneral dot_S4096x4x256_S4x512x256_S4096x512_12_02_0_1_n_n none
      (shapeCast S4096x4x256 (extf .f32 x bitsLt_bf16_f32) shapeCasts_S4096x1024_S4096x4x256) (extf .f32 y bitsLt_bf16_f32)) bitsLt_bf16_f32 (ix2 s f)
      = ∑ a : Fin 4, ∑ j : Fin 256, x (ix2 s (Blocks.rowOf (n := 256) (N := 1024) (by decide) a.val j)) * y (ix3 a f j) := by
  have h : ∀ a j, shapeCast S4096x4x256 (extf (F := Ideal) .f32 x bitsLt_bf16_f32) shapeCasts_S4096x1024_S4096x4x256 (ix3 s a j) = x (ix2 s (Blocks.rowOf (n := 256) (N := 1024) (by decide) a.val j)) :=
    fun a j => Blocks.split_cols (n := 256) _ _ (by decide) rfl s a j
  generalize shapeCast S4096x4x256 (extf (F := Ideal) .f32 x bitsLt_bf16_f32) shapeCasts_S4096x1024_S4096x4x256 = Z at h ⊢
  pointwise
  exact Finset.sum_congr rfl fun a _ => Finset.sum_congr rfl fun j _ => congrArg (· * _) (h a j)

end Cert.Reference15Ideal.Values

namespace Cert.Proof

open Idealize.ShloMosaic Idealize.SL.Sem

/-- The two programs end with equal results. -/
theorem algebraic15 : Cert.algebraic_Kernel15Ideal_Reference15Ideal (hKernel15Ideal := Cert.Kernel15Ideal.Gen.facts) (hReference15Ideal := Cert.Reference15Ideal.Gen.facts) := by
  intro m ρ m' ρ' _ hag
  refine ⟨fun c => Cert.Kernel15Ideal.Values.G m c, (θ_run Cert.Kernel15Ideal.defs _ _).mono (fun r h c => ?_) (Cert.Kernel15Ideal.Value.run_blocks m ρ),
    (θ_run Cert.Reference15Ideal.defs _ _).mono (fun r h c => ?_) (Cert.Reference15Ideal.Value.run (F := Ideal) m' ρ')⟩
  · exact ⟨(h c).1.trans (Cert.Kernel15Ideal.Values.final m c), (h c).2⟩
  · refine ⟨(h c).1.trans (funext fun z => ?_), (h c).2⟩
    rw [(hag c).1, (hag c).2]
    exact (congrArg _ (eq_ix2 z)).trans (Cert.Reference15Ideal.Values.product _ _ (z 0) (z 1))

end Cert.Proof
-- ==== Proof.MergeBack.lean ====
/- The gradient of the merge of the two branches through the output projection: what the kernel writes is one product, four times weighted. -/
module

public import proofs.«01_k».proof.Defs
public import proofs.«01_k».proof.Proof.Blocks
public import proofs.«01_k».proof.Proof.Gen.Kernel16Ideal.Value
public import proofs.«01_k».proof.Proof.Gen.Reference16Ideal.Run

@[expose] public section

set_option maxRecDepth 16384

noncomputable section

namespace Cert.Kernel16Ideal.Values

open Idealize.ShloMosaic Idealize.ShloMosaic.TcCoe Idealize.ShloMosaic.Tactic
open Idealize.SL Idealize.SL.RA Idealize.SL.Sem
open Idealize.ShloMosaic.Pipeline (Dat Cfg Window)
open Idealize.ShloMosaic.VecWindow Cert.Kernel16Ideal.Gen

variable (m : (ℓ : Loc nD τ sig) → Buf (Elt Ideal) ℓ) (c : Dev nD)

/-- Every point is the first and the last of its run: the accumulator holds the product of its two blocks, and the four outputs are weightings of it. -/
theorem oA (t : Fin cfg0.N) : (outsAt0 m c t).1 = k0_pay6 (F := Ideal) (k0_pay2 (F := Ideal) (iblk m c 0 t) (k0_pay1 (F := Ideal)) (iblk m c 1 t)) (iblk m c 4 t) := by
  unfold outsAt0
  dsimp only
  unfold out0_A_6
  refine (View.read_writes_full _ _ _ _ _).trans ?_
  exact congr (congrArg (k0_pay6 (F := Ideal)) ((View.readCov_full _ _ _ _ _).trans (congr (congr (congrArg (k0_pay2 (F := Ideal)) (Blocks.load _ _ _)) (View.readCov_full _ _ _ _ _)) (Blocks.load _ _ _)))) (Blocks.load _ _ _)
theorem oB (t : Fin cfg0.N) : (outsAt0 m c t).2.1 = k0_pay7 (F := Ideal) (k0_pay2 (F := Ideal) (iblk m c 0 t) (k0_pay1 (F := Ideal)) (iblk m c 1 t)) (iblk m c 5 t) := by
  unfold outsAt0
  dsimp only
  unfold out0_A_7
  refine (View.read_writes_full _ _ _ _ _).trans ?_
  exact congr (congrArg (k0_pay7 (F := Ideal)) ((View.readCov_full _ _ _ _ _).trans (congr (congr (congrArg (k0_pay2 (F := Ideal)) (Blocks.load _ _ _)) (View.readCov_full _ _ _ _ _)) (Blocks.load _ _ _)))) (Blocks.load _ _ _)
theorem oGA (t : Fin cfg0.N) : (outsAt0 m c t).2.2.1 = k0_pay8 (F := Ideal) (k0_pay2 (F := Ideal) (iblk m c 0 t) (k0_pay1 (F := Ideal)) (iblk m c 1 t)) (iblk m c 4 t) (iblk m c 2 t) := by
  unfold outsAt0
  dsimp only
  unfold out0_A_8
  refine (View.read_writes_full _ _ _ _ _).trans ?_
  exact congr (congr (congrArg (k0_pay8 (F := Ideal)) ((View.readCov_full _ _ _ _ _).trans (congr (congr (congrArg (k0_pay2 (F := Ideal)) (Blocks.load _ _ _)) (View.readCov_full _ _ _ _ _)) (Blocks.load _ _ _)))) (Blocks.load _ _ _)) (Blocks.load _ _ _)
theorem oGB (t : Fin cfg0.N) : (outsAt0 m c t).2.2.2 = k0_pay3 (F := Ideal) (k0_pay2 (F := Ideal) (iblk m c 0 t) (k0_pay1 (F := Ideal)) (iblk m c 1 t)) (k0_pay5 (F := Ideal) (iblk m c 5 t)) (k0_pay9 (F := Ideal) (iblk m c 3 t)) := by
  unfold outsAt0
  dsimp only
  unfold out0_A_9
  refine (View.read_writes_full _ _ _ _ _).trans ?_
  exact congr (congr (congrArg (k0_pay3 (F := Ideal)) ((View.readCov_full _ _ _ _ _).trans (congr (congr (congrArg (k0_pay2 (F := Ideal)) (Blocks.load _ _ _)) (View.readCov_full _ _ _ _ _)) (Blocks.load _ _ _)))) (congrArg (k0_pay5 (F := Ideal)) (Blocks.load _ _ _))) (congrArg (k0_pay9 (F := Ideal)) (Blocks.load _ _ _))

/-- Which block of its array each window is at. -/
theorem idx : ∀ t : Fin cfg0.N, win0_0.index t = ![t.val / 4, 0] ∧ win0_1.index t = ![t.val % 4, 0, 0] ∧ win0_2.index t = ![t.val / 4, t.val % 4]
    ∧ win0_3.index t = ![t.val / 4, t.val % 4] ∧ win0_4.index t = ![t.val / 4, t.val % 4] ∧ win0_5.index t = ![t.val / 4, t.val % 4 + 4]
    ∧ win0_6.index t = ![t.val / 4, t.val % 4] ∧ win0_7.index t = ![t.val / 4, t.val % 4] ∧ win0_8.index t = ![t.val / 4, t.val % 4] ∧ win0_9.index t = ![t.val / 4, t.val % 4] :=
  (by decide +kernel : ∀ t : Fin grid0.N, _)

/-- The gradient of the projection's output, the weights, the two branches and the gates, as they are given. -/
abbrev DY : Vec Ideal S4096x1024 .bf16 := m ((c.tc : Thread nD τ).loc main_arg0)
abbrev W : Vec Ideal S4x256x1024 .bf16 := m ((c.tc : Thread nD τ).loc main_arg1)
abbrev PA : Vec Ideal S4096x1024 .bf16 := m ((c.tc : Thread nD τ).loc main_arg2)
abbrev PB : Vec Ideal S4096x1024 .bf16 := m ((c.tc : Thread nD τ).loc main_arg3)
abbrev FG : Vec Ideal S4096x2304 .f32 := m ((c.tc : Thread nD τ).loc main_arg4)

/-- The row and the column of the arrays that a block's are, and the second gate's column. -/
theorem row_lt (t : Fin cfg0.N) (r : Fin 1024) : t.val / 4 * 1024 + r.val < 4096 := by
  have hN : t.val < 16 := t.isLt
  omega
theorem col_lt (t : Fin cfg0.N) (f : Fin 256) : t.val % 4 * 256 + f.val < 1024 := by omega
abbrev row (t : Fin cfg0.N) (r : Fin 1024) : Fin 4096 := ⟨t.val / 4 * 1024 + r.val, row_lt t r⟩
abbrev col (t : Fin cfg0.N) (f : Fin 256) : Fin 1024 := ⟨t.val % 4 * 256 + f.val, col_lt t f⟩
abbrev gateA (e : Fin 1024) : Fin 2304 := ⟨e.val, by omega⟩
abbrev gateB (e : Fin 1024) : Fin 2304 := ⟨1024 + e.val, by omega⟩

theorem b0 (t : Fin cfg0.N) (r : Fin 1024) (d : Fin 1024) : iblk m c 0 t (ix2 r d) = DY m c (ix2 (row t r) d) := by
  blk_point [iblk, V_main_arg0, idx t]
theorem b1 (t : Fin cfg0.N) (f : Fin 256) (d : Fin 1024) : iblk m c 1 t (ix3 0 f d) = W m c (ix3 ⟨t.val % 4, Nat.mod_lt _ (by decide)⟩ f d) := by
  blk_point [iblk, V_main_arg1, idx t]
theorem b2 (t : Fin cfg0.N) (r : Fin 1024) (f : Fin 256) : iblk m c 2 t (ix2 r f) = PA m c (ix2 (row t r) (col t f)) := by
  blk_point [iblk, V_main_arg2, idx t]
theorem b3 (t : Fin cfg0.N) (r : Fin 1024) (f : Fin 256) : iblk m c 3 t (ix2 r f) = PB m c (ix2 (row t r) (col t f)) := by
  blk_point [iblk, V_main_arg3, idx t]
theorem b4 (t : Fin cfg0.N) (r : Fin 1024) (f : Fin 256) : iblk m c 4 t (ix2 r f) = FG m c (ix2 (row t r) (gateA (col t f))) := by
  blk_point [iblk, V_main_arg4, idx t]
theorem b5 (t : Fin cfg0.N) (r : Fin 1024) (f : Fin 256) : iblk m c 5 t (ix2 r f) = FG m c (ix2 (row t r) (gateB (col t f))) := by
  rw [show gateB (col t f) = ⟨(t.val % 4 + 4) * 256 + f.val, by omega⟩ from Fin.ext (by show 1024 + (t.val % 4 * 256 + f.val) = (t.val % 4 + 4) * 256 + f.val; omega)]
  blk_point [iblk, V_main_arg4, idx t]

theorem pay2_at (u : Vec Ideal S1024x1024 .bf16) (v : Vec Ideal S1x256x1024 .bf16) (r : Fin 1024) (f : Fin 256) :
    k0_pay2 (F := Ideal) u (k0_pay1 (F := Ideal)) v (ix2 r f) = ∑ d : Fin 1024, u (ix2 r d) * v (ix3 0 f d) := by
  pointwise [k0_pay2, k0_pay1]
theorem pay6_at (a g : Vec Ideal S1024x256 .f32) (r : Fin 1024) (f : Fin 256) :
    k0_pay6 (F := Ideal) a g (ix2 r f) = a (ix2 r f) * Blocks.sig (g (ix2 r f)) := by
  pointwise [k0_pay6, k0_pay4]
  rw [Blocks.sig, zero_sub]
theorem pay7_at (a g : Vec Ideal S1024x256 .f32) (r : Fin 1024) (f : Fin 256) :
    k0_pay7 (F := Ideal) a g (ix2 r f) = a (ix2 r f) * Blocks.sig (g (ix2 r f)) := by
  pointwise [k0_pay7, k0_pay5]
  rw [Blocks.sig, zero_sub]
theorem pay8_at (a g : Vec Ideal S1024x256 .f32) (p : Vec Ideal S1024x256 .bf16) (r : Fin 1024) (f : Fin 256) :
    k0_pay8 (F := Ideal) a g p (ix2 r f) = a (ix2 r f) * p (ix2 r f) * Blocks.sig (g (ix2 r f)) * (1 - Blocks.sig (g (ix2 r f))) := by
  pointwise [k0_pay8, k0_pay4]
  rw [Blocks.sig, zero_sub]
theorem pay3_at (a g : Vec Ideal S1024x256 .f32) (p : Vec Ideal S1024x256 .bf16) (r : Fin 1024) (f : Fin 256) :
    k0_pay3 (F := Ideal) a (k0_pay5 (F := Ideal) g) (k0_pay9 (F := Ideal) p) (ix2 r f)
      = a (ix2 r f) * p (ix2 r f) * Blocks.sig (g (ix2 r f)) * (1 - Blocks.sig (g (ix2 r f))) := by
  pointwise [k0_pay3, k0_pay5, k0_pay9]
  rw [Blocks.sig, zero_sub]

/-- The gradient of the merged branches at a row and a column, and the gates' logistic functions there. -/
def A (s : Fin 4096) (e : Fin 1024) : EReal := ∑ d : Fin 1024, DY m c (ix2 s d) * W m c (ix3 (Blocks.slabOf e) (Blocks.inSlab e) d)
def SA (s : Fin 4096) (e : Fin 1024) : EReal := Blocks.sig (FG m c (ix2 s (gateA e)))
def SB (s : Fin 4096) (e : Fin 1024) : EReal := Blocks.sig (FG m c (ix2 s (gateB e)))
/-- The four results the call stands for. -/
def GA : Vec Ideal S4096x1024 .bf16 := fun z => A m c (z 0) (z 1) * SA m c (z 0) (z 1)
def GB : Vec Ideal S4096x1024 .bf16 := fun z => A m c (z 0) (z 1) * SB m c (z 0) (z 1)
def GGA : Vec Ideal S4096x1024 .bf16 := fun z =>
  A m c (z 0) (z 1) * PA m c (ix2 (z 0) (z 1)) * SA m c (z 0) (z 1) * (1 - SA m c (z 0) (z 1))
def GGB : Vec Ideal S4096x1024 .bf16 := fun z =>
  A m c (z 0) (z 1) * PB m c (ix2 (z 0) (z 1)) * SB m c (z 0) (z 1) * (1 - SB m c (z 0) (z 1))

/-- An entry of a tile is the entry of the array it is written to. -/
theorem entry (t : Fin cfg0.N) (r : Fin 1024) (f : Fin 256) (z : S4096x1024.Idx) (h0 : (z 0).val = t.val / 4 * 1024 + r.val)
    (h1 : (z 1).val = t.val % 4 * 256 + f.val) : z 0 = row t r ∧ z 1 = col t f := ⟨Fin.ext h0, Fin.ext h1⟩
theorem slab_col (t : Fin cfg0.N) (f : Fin 256) : Blocks.slabOf (col t f) = ⟨t.val % 4, Nat.mod_lt _ (by decide)⟩ := Blocks.slabOf_eq _ _ _ f rfl
theorem in_col (t : Fin cfg0.N) (f : Fin 256) : Blocks.inSlab (col t f) = f := Blocks.inSlab_eq _ _ f rfl

theorem acc (t : Fin cfg0.N) (r : Fin 1024) (f : Fin 256) :
    k0_pay2 (F := Ideal) (iblk m c 0 t) (k0_pay1 (F := Ideal)) (iblk m c 1 t) (ix2 r f) = A m c (row t r) (col t f) := by
  rw [pay2_at]
  unfold A
  rw [slab_col, in_col]
  simp only [b0, b1]

theorem oA_block (t : Fin cfg0.N) (r : Fin 1024) (f : Fin 256) (z : S4096x1024.Idx) (h0 : (z 0).val = t.val / 4 * 1024 + r.val)
    (h1 : (z 1).val = t.val % 4 * 256 + f.val) : (outsAt0 m c t).1 (ix2 r f) = GA m c z := by
  obtain ⟨e0, e1⟩ := entry t r f z h0 h1
  unfold GA
  rw [oA, pay6_at, acc, b4, e0, e1]
  rfl
theorem oB_block (t : Fin cfg0.N) (r : Fin 1024) (f : Fin 256) (z : S4096x1024.Idx) (h0 : (z 0).val = t.val / 4 * 1024 + r.val)
    (h1 : (z 1).val = t.val % 4 * 256 + f.val) : (outsAt0 m c t).2.1 (ix2 r f) = GB m c z := by
  obtain ⟨e0, e1⟩ := entry t r f z h0 h1
  unfold GB
  rw [oB, pay7_at, acc, b5, e0, e1]
  rfl
theorem oGA_block (t : Fin cfg0.N) (r : Fin 1024) (f : Fin 256) (z : S4096x1024.Idx) (h0 : (z 0).val = t.val / 4 * 1024 + r.val)
    (h1 : (z 1).val = t.val % 4 * 256 + f.val) : (outsAt0 m c t).2.2.1 (ix2 r f) = GGA m c z := by
  obtain ⟨e0, e1⟩ := entry t r f z h0 h1
  unfold GGA
  rw [oGA, pay8_at, acc, b4, b2, e0, e1]
  rfl
theorem oGB_block (t : Fin cfg0.N) (r : Fin 1024) (f : Fin 256) (z : S4096x1024.Idx) (h0 : (z 0).val = t.val / 4 * 1024 + r.val)
    (h1 : (z 1).val = t.val % 4 * 256 + f.val) : (outsAt0 m c t).2.2.2 (ix2 r f) = GGB m c z := by
  obtain ⟨e0, e1⟩ := entry t r f z h0 h1
  unfold GGB
  rw [oGB, pay3_at, acc, b5, b3, e0, e1]
  rfl

theorem final6 : (dats m 0 c).arrAt 6 cfg0.N = GA m c := by
  refine (dats m 0 c).arrAt_eq_of_covers 6 _ (by decide +kernel) fun t hf y => ?_
  blk_simp
  rw [after0_6]
  exact (congrArg (outsAt0 m c t).1 (eq_ix2 (n0 := 1024) (n1 := 256) y)).trans
    (oA_block m c t (y 0) (y 1) _ (by blk_simp [idx t]) (by blk_simp [idx t]))
theorem final7 : (dats m 0 c).arrAt 7 cfg0.N = GB m c := by
  refine (dats m 0 c).arrAt_eq_of_covers 7 _ (by decide +kernel) fun t hf y => ?_
  blk_simp
  rw [after0_7]
  exact (congrArg (outsAt0 m c t).2.1 (eq_ix2 (n0 := 1024) (n1 := 256) y)).trans
    (oB_block m c t (y 0) (y 1) _ (by blk_simp [idx t]) (by blk_simp [idx t]))
theorem final8 : (dats m 0 c).arrAt 8 cfg0.N = GGA m c := by
  refine (dats m 0 c).arrAt_eq_of_covers 8 _ (by decide +kernel) fun t hf y => ?_
  blk_simp
  rw [after0_8]
  exact (congrArg (outsAt0 m c t).2.2.1 (eq_ix2 (n0 := 1024) (n1 := 256) y)).trans
    (oGA_block m c t (y 0) (y 1) _ (by blk_simp [idx t]) (by blk_simp [idx t]))
theorem final9 : (dats m 0 c).arrAt 9 cfg0.N = GGB m c := by
  refine (dats m 0 c).arrAt_eq_of_covers 9 _ (by decide +kernel) fun t hf y => ?_
  blk_simp
  rw [after0_9]
  exact (congrArg (outsAt0 m c t).2.2.2 (eq_ix2 (n0 := 1024) (n1 := 256) y)).trans
    (oGB_block m c t (y 0) (y 1) _ (by blk_simp [idx t]) (by blk_simp [idx t]))

end Cert.Kernel16Ideal.Values

namespace Cert.Reference16Ideal.Values

open Idealize.ShloMosaic Idealize.ShloMosaic.TcCoe Idealize.ShloMosaic.Tactic Cert.Reference16Ideal.Gen

/-- The reference's product is the same one. -/
theorem product (x : Vec Ideal S4096x1024 .bf16) (y : Vec Ideal S4x256x1024 .bf16) (s : Fin 4096) (e : Fin 1024) :
    Host.dotGeneral (F := Ideal) dot_S4096x1024_S1024x1024_S4096x1024_1_1_0_0_n_n none (extf .f32 x bitsLt_bf16_f32)
      (shapeCast S1024x1024 (extf .f32 y bitsLt_bf16_f32) shapeCasts_S4x256x1024_S1024x1024) (ix2 s e)
      = ∑ d : Fin 1024, x (ix2 s d) * y (ix3 (Blocks.slabOf e) (Blocks.inSlab e) d) := by
  have h : ∀ d : Fin 1024, shapeCast S1024x1024 (extf (F := Ideal) .f32 y bitsLt_bf16_f32) shapeCasts_S4x256x1024_S1024x1024 (ix2 e d)
      = y (ix3 (Blocks.slabOf e) (Blocks.inSlab e) d) := fun d => Blocks.join_rows_at _ _ e d
  generalize shapeCast S1024x1024 (extf (F := Ideal) .f32 y bitsLt_bf16_f32) shapeCasts_S4x256x1024_S1024x1024 = Z at h ⊢
  pointwise
  exact Finset.sum_congr rfl fun d _ => congrArg _ (h d)
/-- The reference's logistic function of the gates, and a rounded product. -/
theorem sig_at (g : Vec Ideal S4096x1024 .f32) (s : Fin 4096) (e : Fin 1024) :
    Host.divf (F := Ideal) (broadcastInDim S4096x1024 ![] bcast_S_S4096x1024 (constant S_ .f32 0x3F800000#32))
      (addf (broadcastInDim S4096x1024 ![] bcast_S_S4096x1024 (constant S_ .f32 0x3F800000#32)) (Host.exp (Host.negf g))) (ix2 s e) = Blocks.sig (g (ix2 s e)) := by
  pointwise
  rw [Blocks.sig]
theorem gateA_at (g : Vec Ideal S4096x2304 .f32) (s : Fin 4096) (e : Fin 1024) :
    extractStridedSlice S4096x1024 ![0, 0] g slices_S4096x2304_S4096x1024_0_0 (ix2 s e) = g (ix2 s ⟨e.val, by omega⟩) := by
  pointwise
theorem gateB_at (g : Vec Ideal S4096x2304 .f32) (s : Fin 4096) (e : Fin 1024) :
    extractStridedSlice S4096x1024 ![0, 1024] g slices_S4096x2304_S4096x1024_0_1024 (ix2 s e) = g (ix2 s ⟨1024 + e.val, by omega⟩) := by
  pointwise
/-- The reference's gradients of a branch and of a gate. -/
theorem branch (g A : Vec Ideal S4096x1024 .f32) (s : Fin 4096) (e : Fin 1024) :
    truncf (F := Ideal) .bf16 (mulf (Host.divf (F := Ideal) (broadcastInDim S4096x1024 ![] bcast_S_S4096x1024 (constant S_ .f32 0x3F800000#32)) (addf (broadcastInDim S4096x1024 ![] bcast_S_S4096x1024 (constant S_ .f32 0x3F800000#32)) (Host.exp (Host.negf g)))) A) bitsLt_bf16_f32 (ix2 s e) = A (ix2 s e) * Blocks.sig (g (ix2 s e)) := by
  have h := sig_at g s e
  generalize (Host.divf (F := Ideal) (broadcastInDim S4096x1024 ![] bcast_S_S4096x1024 (constant S_ .f32 0x3F800000#32)) (addf (broadcastInDim S4096x1024 ![] bcast_S_S4096x1024 (constant S_ .f32 0x3F800000#32)) (Host.exp (Host.negf g)))) = Z at h ⊢
  pointwise
  rw [h, mul_comm]
theorem gate (g A : Vec Ideal S4096x1024 .f32) (p : Vec Ideal S4096x1024 .bf16) (s : Fin 4096) (e : Fin 1024) :
    truncf (F := Ideal) .bf16 (mulf (mulf A (extf .f32 p bitsLt_bf16_f32)) (mulf (Host.divf (F := Ideal) (broadcastInDim S4096x1024 ![] bcast_S_S4096x1024 (constant S_ .f32 0x3F800000#32)) (addf (broadcastInDim S4096x1024 ![] bcast_S_S4096x1024 (constant S_ .f32 0x3F800000#32)) (Host.exp (Host.negf g)))) (subf (broadcastInDim S4096x1024 ![] bcast_S_S4096x1024 (constant S_ .f32 0x3F800000#32)) (Host.divf (F := Ideal) (broadcastInDim S4096x1024 ![] bcast_S_S4096x1024 (constant S_ .f32 0x3F800000#32)) (addf (broadcastInDim S4096x1024 ![] bcast_S_S4096x1024 (constant S_ .f32 0x3F800000#32)) (Host.exp (Host.negf g))))))) bitsLt_bf16_f32 (ix2 s e)
      = A (ix2 s e) * p (ix2 s e) * Blocks.sig (g (ix2 s e)) * (1 - Blocks.sig (g (ix2 s e))) := by
  have h := sig_at g s e
  generalize (Host.divf (F := Ideal) (broadcastInDim S4096x1024 ![] bcast_S_S4096x1024 (constant S_ .f32 0x3F800000#32)) (addf (broadcastInDim S4096x1024 ![] bcast_S_S4096x1024 (constant S_ .f32 0x3F800000#32)) (Host.exp (Host.negf g)))) = Z at h ⊢
  pointwise
  rw [h, mul_assoc (_ * _)]

end Cert.Reference16Ideal.Values

namespace Cert.Proof

open Idealize.ShloMosaic Idealize.SL.Sem Cert.Reference16Ideal.Values

/-- The two programs end with equal results. -/
theorem algebraic16 : Cert.algebraic_Kernel16Ideal_Reference16Ideal (hKernel16Ideal := Cert.Kernel16Ideal.Gen.facts) (hReference16Ideal := Cert.Reference16Ideal.Gen.facts) := by
  intro m ρ m' ρ' _ hag
  refine ⟨fun c => Cert.Kernel16Ideal.Values.GA m c, fun c => Cert.Kernel16Ideal.Values.GB m c, fun c => Cert.Kernel16Ideal.Values.GGA m c, fun c => Cert.Kernel16Ideal.Values.GGB m c,
    (θ_run Cert.Kernel16Ideal.defs _ _).mono (fun r h c => ?_) (Cert.Kernel16Ideal.Value.run_blocks m ρ),
    (θ_run Cert.Reference16Ideal.defs _ _).mono (fun r h c => ?_) (Cert.Reference16Ideal.Value.run (F := Ideal) m' ρ')⟩
  · exact ⟨(h c).1.trans (Cert.Kernel16Ideal.Values.final6 m c), (h c).2.1.trans (Cert.Kernel16Ideal.Values.final7 m c), (h c).2.2.1.trans (Cert.Kernel16Ideal.Values.final8 m c), (h c).2.2.2.1.trans (Cert.Kernel16Ideal.Values.final9 m c), (h c).2.2.2.2⟩
  · refine ⟨(h c).1.trans (funext fun z => ?_), (h c).2.1.trans (funext fun z => ?_), (h c).2.2.1.trans (funext fun z => ?_), (h c).2.2.2.1.trans (funext fun z => ?_), (h c).2.2.2.2⟩
    · rw [(hag c).1, (hag c).2.1, (hag c).2.2.2.2]
      exact (congrArg _ (eq_ix2 z)).trans ((branch _ _ (z 0) (z 1)).trans (congrArg₂ (· * ·) (product _ _ (z 0) (z 1)) (congrArg Blocks.sig (gateA_at _ (z 0) (z 1)))))
    · rw [(hag c).1, (hag c).2.1, (hag c).2.2.2.2]
      exact (congrArg _ (eq_ix2 z)).trans ((branch _ _ (z 0) (z 1)).trans (congrArg₂ (· * ·) (product _ _ (z 0) (z 1)) (congrArg Blocks.sig (gateB_at _ (z 0) (z 1)))))
    · rw [(hag c).1, (hag c).2.1, (hag c).2.2.2.2, (hag c).2.2.1]
      exact (congrArg _ (eq_ix2 z)).trans ((gate _ _ _ (z 0) (z 1)).trans (congrArg₂ (fun a b => a * _ * Blocks.sig b * (1 - Blocks.sig b)) (product _ _ (z 0) (z 1)) (gateA_at _ (z 0) (z 1))))
    · rw [(hag c).1, (hag c).2.1, (hag c).2.2.2.2, (hag c).2.2.2.1]
      exact (congrArg _ (eq_ix2 z)).trans ((gate _ _ _ (z 0) (z 1)).trans (congrArg₂ (fun a b => a * _ * Blocks.sig b * (1 - Blocks.sig b)) (product _ _ (z 0) (z 1)) (gateB_at _ (z 0) (z 1))))

end Cert.Proof
-- ==== Proof.OutProj.lean ====
/- The layer's output projection with the norm after it: what the kernel writes is the product, and the input plus the product normalised. -/
module

public import proofs.«01_k».proof.Defs
public import proofs.«01_k».proof.Proof.Blocks
public import proofs.«01_k».proof.Proof.Gen.Kernel17Ideal.Value
public import proofs.«01_k».proof.Proof.Gen.Reference17Ideal.Run

@[expose] public section

set_option maxRecDepth 16384

noncomputable section

namespace Cert.Kernel17Ideal.Values

open Idealize.ShloMosaic Idealize.ShloMosaic.TcCoe Idealize.ShloMosaic.Tactic
open Idealize.SL Idealize.SL.RA Idealize.SL.Sem
open Idealize.ShloMosaic.Pipeline (Dat Cfg Window)
open Idealize.ShloMosaic.VecWindow Cert.Kernel17Ideal.Gen

variable (m : (ℓ : Loc nD τ sig) → Buf (Elt Ideal) ℓ) (c : Dev nD)

/-- A run's first point leaves its own product in the accumulator. -/
theorem sA (t : Fin cfg0.N) (h0 : t.val % 4 = 0) (h1 : ¬t.val % 4 = 3) :
    (outsAt0 m c t.val t.isLt).2.2 = k0_pay2 (F := Ideal) (iblk m c 0 t) (k0_pay1 (F := Ideal)) (iblk m c 1 t) := by
  rw [outsAt0_A m c t h0 h1]
  dsimp only
  unfold sout0_A_0
  refine (View.read_writes_full _ _ _ _ _).trans ?_
  exact congr (congr (congrArg (k0_pay2 (F := Ideal)) (Blocks.load _ _ _)) (View.readCov_full _ _ _ _ _)) (Blocks.load _ _ _)
/-- A later point adds its product to what the point before left. -/
theorem sB (t : Fin cfg0.N) (h0 : ¬t.val % 4 = 0) :
    (outsAt0 m c t.val t.isLt).2.2
      = k0_pay2 (F := Ideal) (iblk m c 0 t) (outsAt0 m c (t.val - 1) (Nat.lt_of_le_of_lt (Nat.sub_le _ _) t.isLt)).2.2 (iblk m c 1 t) := by
  by_cases h1 : t.val % 4 = 3
  · rw [outsAt0_C m c t h0 h1]
    dsimp only
    unfold sout0_C_0
    exact (View.read_writes_full _ _ _ _ _).trans (congr (congr (congrArg (k0_pay2 (F := Ideal)) (Blocks.load _ _ _)) (Blocks.load _ _ _)) (Blocks.load _ _ _))
  · rw [outsAt0_B m c t h0 h1]
    dsimp only
    unfold sout0_B_0
    exact (View.read_writes_full _ _ _ _ _).trans (congr (congr (congrArg (k0_pay2 (F := Ideal)) (Blocks.load _ _ _)) (Blocks.load _ _ _)) (Blocks.load _ _ _))
/-- The last point of a run writes the accumulator out, and the input plus the accumulator normalised and scaled. -/
theorem oC (t : Fin cfg0.N) (h1 : t.val % 4 = 3) :
    (outsAt0 m c t.val t.isLt).2.1 = (outsAt0 m c t.val t.isLt).2.2 := by
  rw [sB m c t (by omega), outsAt0_C m c t (by omega) h1]
  dsimp only
  unfold out0_C_6
  refine (View.read_writes_full _ _ _ _ _).trans ((View.readCov_full _ _ _ _ _).trans ?_)
  exact congr (congr (congrArg (k0_pay2 (F := Ideal)) (Blocks.load _ _ _)) (Blocks.load _ _ _)) (Blocks.load _ _ _)
theorem oN (t : Fin cfg0.N) (h1 : t.val % 4 = 3) :
    (outsAt0 m c t.val t.isLt).1 = k0_pay3 (F := Ideal) (outsAt0 m c t.val t.isLt).2.2 (iblk m c 2 t) (iblk m c 3 t) (iblk m c 4 t) := by
  rw [sB m c t (by omega), outsAt0_C m c t (by omega) h1]
  dsimp only
  unfold out0_C_5
  refine (View.read_writes_full _ _ _ _ _).trans ?_
  refine congr (congr (congr (congrArg (k0_pay3 (F := Ideal)) ((View.readCov_full _ _ _ _ _).trans ?_)) (Blocks.load _ _ _)) (Blocks.load _ _ _)) (Blocks.load _ _ _)
  exact congr (congr (congrArg (k0_pay2 (F := Ideal)) (Blocks.load _ _ _)) (Blocks.load _ _ _)) (Blocks.load _ _ _)

/-- Which block of its array each window is at. -/
theorem idx : ∀ t : Fin cfg0.N, win0_0.index t = ![t.val / 4, t.val % 4] ∧ win0_1.index t = ![t.val % 4, 0, 0] ∧ win0_2.index t = ![t.val / 4, 0]
    ∧ win0_3.index t = ![0, 0] ∧ win0_4.index t = ![0, 0] ∧ win0_5.index t = ![t.val / 4, 0] ∧ win0_6.index t = ![t.val / 4, 0] :=
  (by decide +kernel : ∀ t : Fin grid0.N, _)

/-- The merged branches, the weights, the layer's input, the gate and the norm's gains, as they are given. -/
abbrev X : Vec Ideal S4096x1024 .bf16 := m ((c.tc : Thread nD τ).loc main_arg0)
abbrev W : Vec Ideal S4x256x1024 .bf16 := m ((c.tc : Thread nD τ).loc main_arg1)
abbrev R : Vec Ideal S4096x1024 .f32 := m ((c.tc : Thread nD τ).loc main_arg2)
abbrev T : Vec Ideal S1x1024 .f32 := m ((c.tc : Thread nD τ).loc main_arg3)
abbrev N : Vec Ideal S1x1024 .f32 := m ((c.tc : Thread nD τ).loc main_arg4)

/-- The slab a point of a run is at, and a row of its block of rows. -/
abbrev slab (k : ℕ) : Fin 4 := ⟨k % 4, Nat.mod_lt _ (by decide)⟩
abbrev row (q : ℕ) (r : Fin 1024) : Fin 4096 := Blocks.rowOf (by decide) q r

theorem row_val (t : Fin cfg0.N) (r : Fin 1024) (h : t.val / 4 * 1024 + r.val < 4096) : row (t.val / 4) r = ⟨t.val / 4 * 1024 + r.val, h⟩ :=
  Blocks.rowOf_eq _ _ _ h
theorem row_lt (t : Fin cfg0.N) (r : Fin 1024) : t.val / 4 * 1024 + r.val < 4096 := by
  have hN : t.val < 16 := t.isLt
  omega
theorem slab_val (t : Fin cfg0.N) : slab (t.val % 4) = ⟨t.val % 4, by omega⟩ := Fin.ext (by show t.val % 4 % 4 = t.val % 4; omega)

theorem b0 (t : Fin cfg0.N) (r : Fin 1024) (f : Fin 256) : iblk m c 0 t (ix2 r f) = X m c (ix2 (row (t.val / 4) r) (Blocks.rowOf (n := 256) (N := 1024) (by decide) (t.val % 4) f)) := by
  rw [row_val t r (row_lt t r), Blocks.rowOf_eq _ _ _ (by omega)]
  blk_point [iblk, V_main_arg0, idx t]
theorem b1 (t : Fin cfg0.N) (f : Fin 256) (e : Fin 1024) : iblk m c 1 t (ix3 0 f e) = W m c (ix3 (slab (t.val % 4)) f e) := by
  rw [slab_val]
  blk_point [iblk, V_main_arg1, idx t]
theorem b2 (t : Fin cfg0.N) (r e : Fin 1024) : iblk m c 2 t (ix2 r e) = R m c (ix2 (row (t.val / 4) r) e) := by
  rw [row_val t r (row_lt t r)]
  blk_point [iblk, V_main_arg2, idx t]
theorem b3 (t : Fin cfg0.N) (e : Fin 1024) : iblk m c 3 t (ix2 0 e) = T m c (ix2 0 e) := by
  blk_point [iblk, V_main_arg3, idx t]
theorem b4 (t : Fin cfg0.N) (e : Fin 1024) : iblk m c 4 t (ix2 0 e) = N m c (ix2 0 e) := by
  blk_point [iblk, V_main_arg4, idx t]

theorem pay2_at (u : Vec Ideal S1024x256 .bf16) (a : Vec Ideal S1024x1024 .f32) (v : Vec Ideal S1x256x1024 .bf16) (r e : Fin 1024) :
    k0_pay2 (F := Ideal) u a v (ix2 r e) = a (ix2 r e) + ∑ f : Fin 256, u (ix2 r f) * v (ix3 0 f e) := by
  pointwise [k0_pay2]
theorem pay1_at (r e : Fin 1024) : k0_pay1 (F := Ideal) (ix2 r e) = (0 : EReal) := by
  pointwise [k0_pay1]
/-- An input plus a normalised and scaled row, at a column: what is written of an accumulator. -/
theorem pay3_at (a x : Vec Ideal S1024x1024 .f32) (t n : Vec Ideal S1x1024 .f32) (r e : Fin 1024) :
    k0_pay3 (F := Ideal) a x t n (ix2 r e)
      = Blocks.normed (fun k : Fin 1024 => a (ix2 r k)) (x (ix2 r e)) (t (ix2 0 e)) (n (ix2 0 e)) e := by
  unfold Blocks.normed
  pointwise [k0_pay3]

/-- The product the call stands for, at a row and a column. -/
def Y (s : Fin 4096) (e : Fin 1024) : EReal := ∑ a : Fin 4, ∑ f : Fin 256, X m c (ix2 s (Blocks.rowOf (n := 256) (N := 1024) (by decide) a.val f)) * W m c (ix3 a f e)
/-- The two results: the input plus the normalised product, and the product. -/
def GX : Vec Ideal S4096x1024 .f32 := fun z =>
  Blocks.normed (Y m c (z 0)) (R m c (ix2 (z 0) (z 1))) (T m c (ix2 0 (z 1))) (N m c (ix2 0 (z 1))) (z 1)
def GY : Vec Ideal S4096x1024 .f32 := fun z => Y m c (z 0) (z 1)

theorem acc_at (t : Fin cfg0.N) (h1 : t.val % 4 = 3) (r e : Fin 1024) :
    (outsAt0 m c t.val t.isLt).2.2 (ix2 r e) = Y m c (row (t.val / 4) r) e := by
  refine (Blocks.run_total (P := 4) (by decide) (fun n hn => (outsAt0 m c n hn).2.2 (ix2 r e)) (t.val / 4)
    (fun k => ∑ f : Fin 256, X m c (ix2 (row (t.val / 4) r) (Blocks.rowOf (n := 256) (N := 1024) (by decide) k f)) * W m c (ix3 (slab k) f e)) (fun n hn hq h0 => ?_) (fun n hn hq h0 => ?_) t.val t.isLt rfl h1).trans ?_
  · rw [sA m c ⟨n, hn⟩ h0 (by dsimp only; omega), pay2_at, pay1_at]
    simp only [b0, b1, hq]
  · rw [sB m c ⟨n, hn⟩ h0, pay2_at]
    simp only [b0, b1, hq]
  · exact Finset.sum_congr rfl fun a _ => by rw [show slab a.val = a from Fin.ext (Nat.mod_eq_of_lt a.isLt)]

/-- An entry of a block of rows is the entry of the array it is written to. -/
theorem at_row (t : Fin cfg0.N) (r e : Fin 1024) (z : S4096x1024.Idx) (h0 : (z 0).val = t.val / 4 * 1024 + r.val) (h1 : (z 1).val = e.val) :
    Y m c (row (t.val / 4) r) e = GY m c z := by
  show _ = Y m c (z 0) (z 1)
  rw [row_val t r (row_lt t r), show z 0 = ⟨t.val / 4 * 1024 + r.val, row_lt t r⟩ from Fin.ext h0, show z 1 = e from Fin.ext h1]
  rfl
theorem at_entry (t : Fin cfg0.N) (r e : Fin 1024) (z : S4096x1024.Idx) (h0 : (z 0).val = t.val / 4 * 1024 + r.val) (h1 : (z 1).val = e.val) :
    Blocks.normed (Y m c (row (t.val / 4) r)) (R m c (ix2 (row (t.val / 4) r) e)) (T m c (ix2 0 e)) (N m c (ix2 0 e)) e = GX m c z := by
  show _ = Blocks.normed (Y m c (z 0)) (R m c (ix2 (z 0) (z 1))) (T m c (ix2 0 (z 1))) (N m c (ix2 0 (z 1))) (z 1)
  rw [row_val t r (row_lt t r), show z 0 = ⟨t.val / 4 * 1024 + r.val, row_lt t r⟩ from Fin.ext h0, show z 1 = e from Fin.ext h1]
  rfl

theorem norm_block (t : Fin cfg0.N) (h1 : t.val % 4 = 3) (r e : Fin 1024) (z : S4096x1024.Idx) (h0 : (z 0).val = t.val / 4 * 1024 + r.val)
    (he : (z 1).val = e.val) :
    k0_pay3 (F := Ideal) (outsAt0 m c t.val t.isLt).2.2 (iblk m c 2 t) (iblk m c 3 t) (iblk m c 4 t) (ix2 r e) = GX m c z := by
  refine (pay3_at _ _ _ _ r e).trans ?_
  simp only [acc_at m c t h1, b2, b3, b4]
  exact at_entry m c t r e z h0 he

theorem final5 : (dats m 0 c).arrAt 5 cfg0.N = GX m c := by
  refine (dats m 0 c).arrAt_eq_of_covers 5 _ (by decide +kernel) fun t hf y => ?_
  have h1 := (flush0_5 t).mp hf
  blk_simp
  rw [after0_5, oN m c t h1]
  exact (congrArg (k0_pay3 (F := Ideal) (outsAt0 m c t.val t.isLt).2.2 (iblk m c 2 t) (iblk m c 3 t) (iblk m c 4 t)) (eq_ix2 (n0 := 1024) (n1 := 1024) y)).trans
    (norm_block m c t h1 (y 0) (y 1) _ (by blk_simp [idx t]) (by blk_simp [idx t]))
theorem final6 : (dats m 0 c).arrAt 6 cfg0.N = GY m c := by
  refine (dats m 0 c).arrAt_eq_of_covers 6 _ (by decide +kernel) fun t hf y => ?_
  have h1 := (flush0_6 t).mp hf
  blk_simp
  rw [after0_6, oC m c t h1]
  exact (congrArg (outsAt0 m c t.val t.isLt).2.2 (eq_ix2 (n0 := 1024) (n1 := 1024) y)).trans
    ((acc_at m c t h1 (y 0) (y 1)).trans (at_row m c t (y 0) (y 1) _ (by blk_simp [idx t]) (by blk_simp [idx t])))

end Cert.Kernel17Ideal.Values

namespace Cert.Reference17Ideal.Values

open Idealize.ShloMosaic Idealize.ShloMosaic.TcCoe Idealize.ShloMosaic.Tactic Cert.Reference17Ideal.Gen

/-- The reference's product is the same one, its rows of weights block by block. -/
theorem product (x : Vec Ideal S4096x1024 .bf16) (y : Vec Ideal S4x256x1024 .bf16) (s : Fin 4096) (e : Fin 1024) :
    Host.dotGeneral (F := Ideal) dot_S4096x1024_S1024x1024_S4096x1024_1_0_0_1_n_n none (extf .f32 x bitsLt_bf16_f32)
      (shapeCast S1024x1024 (extf .f32 y bitsLt_bf16_f32) shapeCasts_S4x256x1024_S1024x1024) (ix2 s e)
      = ∑ a : Fin 4, ∑ f : Fin 256, x (ix2 s (Blocks.rowOf (n := 256) (N := 1024) (by decide) a.val f)) * y (ix3 a f e) := by
  have h : ∀ (a : Fin 4) (f : Fin 256), shapeCast S1024x1024 (extf (F := Ideal) .f32 y bitsLt_bf16_f32) shapeCasts_S4x256x1024_S1024x1024
      (ix2 (Blocks.rowOf (n := 256) (N := 1024) (by decide) a.val f) e) = y (ix3 a f e) :=
    fun a f => Blocks.join_rows (n := 256) _ _ (by decide) rfl a f e
  generalize shapeCast S1024x1024 (extf (F := Ideal) .f32 y bitsLt_bf16_f32) shapeCasts_S4x256x1024_S1024x1024 = Z at h ⊢
  have hd : Host.dotGeneral (F := Ideal) dot_S4096x1024_S1024x1024_S4096x1024_1_0_0_1_n_n none (extf .f32 x bitsLt_bf16_f32) Z (ix2 s e)
      = ∑ k : Fin 1024, x (ix2 s k) * Z (ix2 k e) := by
    pointwise
  refine hd.trans ((Blocks.sum_split (P := 4) (n := 256) rfl (by decide) _).trans ?_)
  exact Finset.sum_congr rfl fun a _ => Finset.sum_congr rfl fun f _ => congrArg _ (h a f)

/-- The reference's input plus normalised and scaled rows. -/
theorem normed (A x : Vec Ideal S4096x1024 .f32) (t n : Vec Ideal S1x1024 .f32) (s : Fin 4096) (e : Fin 1024) :
    addf x (mulf (broadcastInDim S4096x1024 ![0, 1] bcast_S1x1024_S4096x1024_0_1 t) (mulf (mulf A
      (broadcastInDim S4096x1024 ![0, 1] bcast_S4096x1_S4096x1024_0_1 (Host.rsqrt (F := Ideal) (addf (Host.divf (broadcastInDim S4096x1 ![0] bcast_S4096_S4096x1_0
        (Host.reduceAdd (mulf A A) (constant S_ .f32 0x00000000#32) reducesTo_S4096x1024_S4096_d1 h_S_)) (broadcastInDim S4096x1 ![] bcast_S_S4096x1 (constant S_ .f32 0x44800000#32)))
        (broadcastInDim S4096x1 ![] bcast_S_S4096x1 (constant S_ .f32 0x358637BD#32)))))) (broadcastInDim S4096x1024 ![0, 1] bcast_S1x1024_S4096x1024_0_1 n))) (ix2 s e)
      = Blocks.normed (fun k : Fin 1024 => A (ix2 s k)) (x (ix2 s e)) (t (ix2 0 e)) (n (ix2 0 e)) e := by
  unfold Blocks.normed
  pointwise

end Cert.Reference17Ideal.Values

namespace Cert.Proof

open Idealize.ShloMosaic Idealize.SL.Sem Cert.Reference17Ideal.Values

/-- The two programs end with equal results. -/
theorem algebraic17 : Cert.algebraic_Kernel17Ideal_Reference17Ideal (hKernel17Ideal := Cert.Kernel17Ideal.Gen.facts) (hReference17Ideal := Cert.Reference17Ideal.Gen.facts) := by
  intro m ρ m' ρ' _ hag
  refine ⟨fun c => Cert.Kernel17Ideal.Values.GX m c, fun c => Cert.Kernel17Ideal.Values.GY m c,
    (θ_run Cert.Kernel17Ideal.defs _ _).mono (fun r h c => ?_) (Cert.Kernel17Ideal.Value.run_blocks m ρ),
    (θ_run Cert.Reference17Ideal.defs _ _).mono (fun r h c => ?_) (Cert.Reference17Ideal.Value.run (F := Ideal) m' ρ')⟩
  · exact ⟨(h c).1.trans (Cert.Kernel17Ideal.Values.final5 m c), (h c).2.1.trans (Cert.Kernel17Ideal.Values.final6 m c), (h c).2.2⟩
  · refine ⟨(h c).1.trans (funext fun z => ?_), (h c).2.1.trans (funext fun z => ?_), (h c).2.2⟩
    · rw [(hag c).1, (hag c).2.1, (hag c).2.2.1, (hag c).2.2.2.1, (hag c).2.2.2.2]
      exact (congrArg _ (eq_ix2 z)).trans ((normed _ _ _ _ (z 0) (z 1)).trans
        (congrArg (fun a => Blocks.normed a _ _ _ _) (funext fun k => product _ _ (z 0) k)))
    · rw [(hag c).1, (hag c).2.1]
      exact (congrArg _ (eq_ix2 z)).trans (product _ _ (z 0) (z 1))

end Cert.Proof
-- ==== Proof.Merge.lean ====
/- The merge of the two branches: what the kernel writes is the branches' two projections and their gated sum. -/
module

public import proofs.«01_k».proof.Defs
public import proofs.«01_k».proof.Proof.Blocks
public import proofs.«01_k».proof.Proof.Gen.Kernel18Ideal.Value
public import proofs.«01_k».proof.Proof.Gen.Reference18Ideal.Run

@[expose] public section

set_option maxRecDepth 16384

noncomputable section

namespace Cert.Kernel18Ideal.Values

open Idealize.ShloMosaic Idealize.ShloMosaic.TcCoe Idealize.ShloMosaic.Tactic
open Idealize.SL Idealize.SL.RA Idealize.SL.Sem
open Idealize.ShloMosaic.Pipeline (Dat Cfg Window)
open Idealize.ShloMosaic.VecWindow Cert.Kernel18Ideal.Gen

variable (m : (ℓ : Loc nD τ sig) → Buf (Elt Ideal) ℓ) (c : Dev nD)

/-- Every point is the first and the last of its run: the accumulator holds the first projection of its blocks. -/
theorem oA (t : Fin cfg0.N) : (outsAt0 m c t).1 = k0_pay4 (F := Ideal) (k0_pay2 (F := Ideal) (iblk m c 0 t) (k0_pay1 (F := Ideal)) (iblk m c 1 t)) := by
  unfold outsAt0
  dsimp only
  unfold out0_A_6
  refine (View.read_writes_full _ _ _ _ _).trans ?_
  exact congrArg (k0_pay4 (F := Ideal)) ((View.readCov_full _ _ _ _ _).trans (congr (congr (congrArg (k0_pay2 (F := Ideal)) (Blocks.load _ _ _)) (View.readCov_full _ _ _ _ _)) (Blocks.load _ _ _)))
theorem oB (t : Fin cfg0.N) : (outsAt0 m c t).2.1 = k0_pay5 (F := Ideal) (iblk m c 2 t) (iblk m c 3 t) := by
  unfold outsAt0
  dsimp only
  unfold out0_A_7
  refine (View.read_writes_full _ _ _ _ _).trans ?_
  exact congr (congrArg (k0_pay5 (F := Ideal)) (Blocks.load _ _ _)) (Blocks.load _ _ _)
theorem oM (t : Fin cfg0.N) : (outsAt0 m c t).2.2 = k0_pay6 (F := Ideal) (k0_pay2 (F := Ideal) (iblk m c 0 t) (k0_pay1 (F := Ideal)) (iblk m c 1 t)) (iblk m c 2 t) (iblk m c 3 t) (iblk m c 4 t) (iblk m c 5 t) := by
  unfold outsAt0
  dsimp only
  unfold out0_A_8
  refine (View.read_writes_full _ _ _ _ _).trans ?_
  exact congr (congr (congr (congr (congrArg (k0_pay6 (F := Ideal)) ((View.readCov_full _ _ _ _ _).trans (congr (congr (congrArg (k0_pay2 (F := Ideal)) (Blocks.load _ _ _)) (View.readCov_full _ _ _ _ _)) (Blocks.load _ _ _)))) (Blocks.load _ _ _)) (Blocks.load _ _ _)) (Blocks.load _ _ _)) (Blocks.load _ _ _)

/-- Which block of its array each window is at. -/
theorem idx : ∀ t : Fin cfg0.N, win0_0.index t = ![t.val / 4, 0] ∧ win0_1.index t = ![t.val % 4, 0, 0] ∧ win0_2.index t = ![t.val / 4, 0]
    ∧ win0_3.index t = ![t.val % 4, 0, 0] ∧ win0_4.index t = ![t.val / 4, t.val % 4] ∧ win0_5.index t = ![t.val / 4, t.val % 4 + 4]
    ∧ win0_6.index t = ![t.val / 4, t.val % 4] ∧ win0_7.index t = ![t.val / 4, t.val % 4] ∧ win0_8.index t = ![t.val / 4, t.val % 4] :=
  (by decide +kernel : ∀ t : Fin grid0.N, _)

/-- The two branches, their weights and the gates, as they are given. -/
abbrev U : Vec Ideal S4096x512 .bf16 := m ((c.tc : Thread nD τ).loc main_arg0)
abbrev WA : Vec Ideal S4x512x256 .bf16 := m ((c.tc : Thread nD τ).loc main_arg1)
abbrev O : Vec Ideal S4096x512 .bf16 := m ((c.tc : Thread nD τ).loc main_arg2)
abbrev WB : Vec Ideal S4x512x256 .bf16 := m ((c.tc : Thread nD τ).loc main_arg3)
abbrev FG : Vec Ideal S4096x2304 .f32 := m ((c.tc : Thread nD τ).loc main_arg4)

/-- The row and the column of the arrays that a block's are, and the second gate's column. -/
theorem row_lt (t : Fin cfg0.N) (r : Fin 1024) : t.val / 4 * 1024 + r.val < 4096 := by
  have hN : t.val < 16 := t.isLt
  omega
theorem col_lt (t : Fin cfg0.N) (f : Fin 256) : t.val % 4 * 256 + f.val < 1024 := by omega
abbrev row (t : Fin cfg0.N) (r : Fin 1024) : Fin 4096 := ⟨t.val / 4 * 1024 + r.val, row_lt t r⟩
abbrev col (t : Fin cfg0.N) (f : Fin 256) : Fin 1024 := ⟨t.val % 4 * 256 + f.val, col_lt t f⟩
abbrev gateA (e : Fin 1024) : Fin 2304 := ⟨e.val, by omega⟩
abbrev gateB (e : Fin 1024) : Fin 2304 := ⟨1024 + e.val, by omega⟩

theorem b0 (t : Fin cfg0.N) (r : Fin 1024) (d : Fin 512) : iblk m c 0 t (ix2 r d) = U m c (ix2 (row t r) d) := by
  blk_point [iblk, V_main_arg0, idx t]
theorem b1 (t : Fin cfg0.N) (d : Fin 512) (f : Fin 256) : iblk m c 1 t (ix3 0 d f) = WA m c (ix3 ⟨t.val % 4, Nat.mod_lt _ (by decide)⟩ d f) := by
  blk_point [iblk, V_main_arg1, idx t]
theorem b2 (t : Fin cfg0.N) (r : Fin 1024) (d : Fin 512) : iblk m c 2 t (ix2 r d) = O m c (ix2 (row t r) d) := by
  blk_point [iblk, V_main_arg2, idx t]
theorem b3 (t : Fin cfg0.N) (d : Fin 512) (f : Fin 256) : iblk m c 3 t (ix3 0 d f) = WB m c (ix3 ⟨t.val % 4, Nat.mod_lt _ (by decide)⟩ d f) := by
  blk_point [iblk, V_main_arg3, idx t]
theorem b4 (t : Fin cfg0.N) (r : Fin 1024) (f : Fin 256) : iblk m c 4 t (ix2 r f) = FG m c (ix2 (row t r) (gateA (col t f))) := by
  blk_point [iblk, V_main_arg4, idx t]
theorem b5 (t : Fin cfg0.N) (r : Fin 1024) (f : Fin 256) : iblk m c 5 t (ix2 r f) = FG m c (ix2 (row t r) (gateB (col t f))) := by
  rw [show gateB (col t f) = ⟨(t.val % 4 + 4) * 256 + f.val, by omega⟩ from Fin.ext (by show 1024 + (t.val % 4 * 256 + f.val) = (t.val % 4 + 4) * 256 + f.val; omega)]
  blk_point [iblk, V_main_arg4, idx t]

theorem pay2_at (u : Vec Ideal S1024x512 .bf16) (v : Vec Ideal S1x512x256 .bf16) (r : Fin 1024) (f : Fin 256) :
    k0_pay2 (F := Ideal) u (k0_pay1 (F := Ideal)) v (ix2 r f) = ∑ d : Fin 512, u (ix2 r d) * v (ix3 0 d f) := by
  pointwise [k0_pay2, k0_pay1]
theorem pay4_at (a : Vec Ideal S1024x256 .f32) (r : Fin 1024) (f : Fin 256) : k0_pay4 (F := Ideal) a (ix2 r f) = a (ix2 r f) := by
  pointwise [k0_pay4]
theorem pay5_at (u : Vec Ideal S1024x512 .bf16) (v : Vec Ideal S1x512x256 .bf16) (r : Fin 1024) (f : Fin 256) :
    k0_pay5 (F := Ideal) u v (ix2 r f) = ∑ d : Fin 512, u (ix2 r d) * v (ix3 0 d f) := by
  pointwise [k0_pay5, k0_pay3]
theorem pay6_at (a : Vec Ideal S1024x256 .f32) (u : Vec Ideal S1024x512 .bf16) (v : Vec Ideal S1x512x256 .bf16) (g h : Vec Ideal S1024x256 .f32)
    (r : Fin 1024) (f : Fin 256) : k0_pay6 (F := Ideal) a u v g h (ix2 r f)
      = Blocks.sig (g (ix2 r f)) * a (ix2 r f) + Blocks.sig (h (ix2 r f)) * k0_pay5 (F := Ideal) u v (ix2 r f) := by
  rw [pay5_at]
  pointwise [k0_pay6, k0_pay3]
  rw [Blocks.sig, Blocks.sig, zero_sub, zero_sub]

/-- The two projections at a row and a column, and the gates' logistic functions there. -/
def A (s : Fin 4096) (e : Fin 1024) : EReal := ∑ d : Fin 512, U m c (ix2 s d) * WA m c (ix3 (Blocks.slabOf e) d (Blocks.inSlab e))
def B (s : Fin 4096) (e : Fin 1024) : EReal := ∑ d : Fin 512, O m c (ix2 s d) * WB m c (ix3 (Blocks.slabOf e) d (Blocks.inSlab e))
/-- The three results the call stands for. -/
def GA : Vec Ideal S4096x1024 .bf16 := fun z => A m c (z 0) (z 1)
def GB : Vec Ideal S4096x1024 .bf16 := fun z => B m c (z 0) (z 1)
def GM : Vec Ideal S4096x1024 .bf16 := fun z => Blocks.sig (FG m c (ix2 (z 0) (gateA (z 1)))) * A m c (z 0) (z 1)
  + Blocks.sig (FG m c (ix2 (z 0) (gateB (z 1)))) * B m c (z 0) (z 1)

/-- An entry of a tile is the entry of the array it is written to. -/
theorem entry (t : Fin cfg0.N) (r : Fin 1024) (f : Fin 256) (z : S4096x1024.Idx) (h0 : (z 0).val = t.val / 4 * 1024 + r.val)
    (h1 : (z 1).val = t.val % 4 * 256 + f.val) : z 0 = row t r ∧ z 1 = col t f := ⟨Fin.ext h0, Fin.ext h1⟩
theorem slab_col (t : Fin cfg0.N) (f : Fin 256) : Blocks.slabOf (col t f) = ⟨t.val % 4, Nat.mod_lt _ (by decide)⟩ := Blocks.slabOf_eq _ _ _ f rfl
theorem in_col (t : Fin cfg0.N) (f : Fin 256) : Blocks.inSlab (col t f) = f := Blocks.inSlab_eq _ _ f rfl

theorem acc (t : Fin cfg0.N) (r : Fin 1024) (f : Fin 256) :
    k0_pay2 (F := Ideal) (iblk m c 0 t) (k0_pay1 (F := Ideal)) (iblk m c 1 t) (ix2 r f) = A m c (row t r) (col t f) := by
  rw [pay2_at]
  unfold A
  rw [slab_col, in_col]
  simp only [b0, b1]
theorem second (t : Fin cfg0.N) (r : Fin 1024) (f : Fin 256) :
    k0_pay5 (F := Ideal) (iblk m c 2 t) (iblk m c 3 t) (ix2 r f) = B m c (row t r) (col t f) := by
  rw [pay5_at]
  unfold B
  rw [slab_col, in_col]
  simp only [b2, b3]

theorem oA_block (t : Fin cfg0.N) (r : Fin 1024) (f : Fin 256) (z : S4096x1024.Idx) (h0 : (z 0).val = t.val / 4 * 1024 + r.val)
    (h1 : (z 1).val = t.val % 4 * 256 + f.val) : (outsAt0 m c t).1 (ix2 r f) = GA m c z := by
  obtain ⟨e0, e1⟩ := entry t r f z h0 h1
  unfold GA
  rw [oA, pay4_at, acc, e0, e1]
theorem oB_block (t : Fin cfg0.N) (r : Fin 1024) (f : Fin 256) (z : S4096x1024.Idx) (h0 : (z 0).val = t.val / 4 * 1024 + r.val)
    (h1 : (z 1).val = t.val % 4 * 256 + f.val) : (outsAt0 m c t).2.1 (ix2 r f) = GB m c z := by
  obtain ⟨e0, e1⟩ := entry t r f z h0 h1
  unfold GB
  rw [oB, second, e0, e1]
theorem oM_block (t : Fin cfg0.N) (r : Fin 1024) (f : Fin 256) (z : S4096x1024.Idx) (h0 : (z 0).val = t.val / 4 * 1024 + r.val)
    (h1 : (z 1).val = t.val % 4 * 256 + f.val) : (outsAt0 m c t).2.2 (ix2 r f) = GM m c z := by
  obtain ⟨e0, e1⟩ := entry t r f z h0 h1
  unfold GM
  rw [oM, pay6_at, acc, second, b4, b5, e0, e1]

theorem final6 : (dats m 0 c).arrAt 6 cfg0.N = GA m c := by
  refine (dats m 0 c).arrAt_eq_of_covers 6 _ (by decide +kernel) fun t hf y => ?_
  blk_simp
  rw [after0_6]
  exact (congrArg (outsAt0 m c t).1 (eq_ix2 (n0 := 1024) (n1 := 256) y)).trans
    (oA_block m c t (y 0) (y 1) _ (by blk_simp [idx t]) (by blk_simp [idx t]))
theorem final7 : (dats m 0 c).arrAt 7 cfg0.N = GB m c := by
  refine (dats m 0 c).arrAt_eq_of_covers 7 _ (by decide +kernel) fun t hf y => ?_
  blk_simp
  rw [after0_7]
  exact (congrArg (outsAt0 m c t).2.1 (eq_ix2 (n0 := 1024) (n1 := 256) y)).trans
    (oB_block m c t (y 0) (y 1) _ (by blk_simp [idx t]) (by blk_simp [idx t]))
theorem final8 : (dats m 0 c).arrAt 8 cfg0.N = GM m c := by
  refine (dats m 0 c).arrAt_eq_of_covers 8 _ (by decide +kernel) fun t hf y => ?_
  blk_simp
  rw [after0_8]
  exact (congrArg (outsAt0 m c t).2.2 (eq_ix2 (n0 := 1024) (n1 := 256) y)).trans
    (oM_block m c t (y 0) (y 1) _ (by blk_simp [idx t]) (by blk_simp [idx t]))

end Cert.Kernel18Ideal.Values

namespace Cert.Reference18Ideal.Values

open Idealize.ShloMosaic Idealize.ShloMosaic.TcCoe Idealize.ShloMosaic.Tactic Cert.Reference18Ideal.Gen

/-- One of the reference's two projections, and what is written of it. -/
theorem product (x : Vec Ideal S4096x512 .bf16) (y : Vec Ideal S4x512x256 .bf16) (s : Fin 4096) (e : Fin 1024) :
    shapeCast S4096x1024 (Host.dotGeneral (F := Ideal) dot_S4096x512_S4x512x256_S4096x4x256_1_1_0_02_n_n none (extf .f32 x bitsLt_bf16_f32)
      (extf .f32 y bitsLt_bf16_f32)) shapeCasts_S4096x4x256_S4096x1024 (ix2 s e)
      = ∑ d : Fin 512, x (ix2 s d) * y (ix3 (Blocks.slabOf e) d (Blocks.inSlab e)) := by
  refine (Blocks.join_cols_at _ _ s e).trans ?_
  pointwise
theorem rounded (A : Vec Ideal S4096x1024 .f32) (s : Fin 4096) (e : Fin 1024) : truncf (F := Ideal) .bf16 A bitsLt_bf16_f32 (ix2 s e) = A (ix2 s e) := by
  pointwise
/-- The reference's logistic function of the gates, and a rounded product. -/
theorem sig_at (g : Vec Ideal S4096x1024 .f32) (s : Fin 4096) (e : Fin 1024) :
    Host.divf (F := Ideal) (broadcastInDim S4096x1024 ![] bcast_S_S4096x1024 (constant S_ .f32 0x3F800000#32))
      (addf (broadcastInDim S4096x1024 ![] bcast_S_S4096x1024 (constant S_ .f32 0x3F800000#32)) (Host.exp (Host.negf g))) (ix2 s e) = Blocks.sig (g (ix2 s e)) := by
  pointwise
  rw [Blocks.sig]
theorem gateA_at (g : Vec Ideal S4096x2304 .f32) (s : Fin 4096) (e : Fin 1024) :
    extractStridedSlice S4096x1024 ![0, 0] g slices_S4096x2304_S4096x1024_0_0 (ix2 s e) = g (ix2 s ⟨e.val, by omega⟩) := by
  pointwise
theorem gateB_at (g : Vec Ideal S4096x2304 .f32) (s : Fin 4096) (e : Fin 1024) :
    extractStridedSlice S4096x1024 ![0, 1024] g slices_S4096x2304_S4096x1024_0_1024 (ix2 s e) = g (ix2 s ⟨1024 + e.val, by omega⟩) := by
  pointwise
/-- The reference's gated sum. -/
theorem merged (g h A B : Vec Ideal S4096x1024 .f32) (s : Fin 4096) (e : Fin 1024) :
    truncf (F := Ideal) .bf16 (addf (mulf (Host.divf (F := Ideal) (broadcastInDim S4096x1024 ![] bcast_S_S4096x1024 (constant S_ .f32 0x3F800000#32)) (addf (broadcastInDim S4096x1024 ![] bcast_S_S4096x1024 (constant S_ .f32 0x3F800000#32)) (Host.exp (Host.negf g)))) A) (mulf (Host.divf (F := Ideal) (broadcastInDim S4096x1024 ![] bcast_S_S4096x1024 (constant S_ .f32 0x3F800000#32)) (addf (broadcastInDim S4096x1024 ![] bcast_S_S4096x1024 (constant S_ .f32 0x3F800000#32)) (Host.exp (Host.negf h)))) B)) bitsLt_bf16_f32 (ix2 s e)
      = Blocks.sig (g (ix2 s e)) * A (ix2 s e) + Blocks.sig (h (ix2 s e)) * B (ix2 s e) := by
  have hg := sig_at g s e
  have hh := sig_at h s e
  generalize (Host.divf (F := Ideal) (broadcastInDim S4096x1024 ![] bcast_S_S4096x1024 (constant S_ .f32 0x3F800000#32)) (addf (broadcastInDim S4096x1024 ![] bcast_S_S4096x1024 (constant S_ .f32 0x3F800000#32)) (Host.exp (Host.negf g)))) = Y at hg ⊢
  generalize (Host.divf (F := Ideal) (broadcastInDim S4096x1024 ![] bcast_S_S4096x1024 (constant S_ .f32 0x3F800000#32)) (addf (broadcastInDim S4096x1024 ![] bcast_S_S4096x1024 (constant S_ .f32 0x3F800000#32)) (Host.exp (Host.negf h)))) = Z at hh ⊢
  pointwise
  rw [hg, hh]

end Cert.Reference18Ideal.Values

namespace Cert.Proof

open Idealize.ShloMosaic Idealize.SL.Sem Cert.Reference18Ideal.Values

/-- The two programs end with equal results. -/
theorem algebraic18 : Cert.algebraic_Kernel18Ideal_Reference18Ideal (hKernel18Ideal := Cert.Kernel18Ideal.Gen.facts) (hReference18Ideal := Cert.Reference18Ideal.Gen.facts) := by
  intro m ρ m' ρ' _ hag
  refine ⟨fun c => Cert.Kernel18Ideal.Values.GA m c, fun c => Cert.Kernel18Ideal.Values.GB m c, fun c => Cert.Kernel18Ideal.Values.GM m c,
    (θ_run Cert.Kernel18Ideal.defs _ _).mono (fun r h c => ?_) (Cert.Kernel18Ideal.Value.run_blocks m ρ),
    (θ_run Cert.Reference18Ideal.defs _ _).mono (fun r h c => ?_) (Cert.Reference18Ideal.Value.run (F := Ideal) m' ρ')⟩
  · exact ⟨(h c).1.trans (Cert.Kernel18Ideal.Values.final6 m c), (h c).2.1.trans (Cert.Kernel18Ideal.Values.final7 m c), (h c).2.2.1.trans (Cert.Kernel18Ideal.Values.final8 m c), (h c).2.2.2⟩
  · refine ⟨(h c).1.trans (funext fun z => ?_), (h c).2.1.trans (funext fun z => ?_), (h c).2.2.1.trans (funext fun z => ?_), (h c).2.2.2⟩
    · rw [(hag c).1, (hag c).2.1]
      exact (congrArg _ (eq_ix2 z)).trans ((rounded _ (z 0) (z 1)).trans (product _ _ (z 0) (z 1)))
    · rw [(hag c).2.2.1, (hag c).2.2.2.1]
      exact (congrArg _ (eq_ix2 z)).trans ((rounded _ (z 0) (z 1)).trans (product _ _ (z 0) (z 1)))
    · rw [(hag c).1, (hag c).2.1, (hag c).2.2.1, (hag c).2.2.2.1, (hag c).2.2.2.2]
      exact (congrArg _ (eq_ix2 z)).trans ((merged _ _ _ _ (z 0) (z 1)).trans (congrArg₂ (· + ·)
        (congrArg₂ (fun g a => Blocks.sig g * a) (gateA_at _ (z 0) (z 1)) (product _ _ (z 0) (z 1)))
        (congrArg₂ (fun g a => Blocks.sig g * a) (gateB_at _ (z 0) (z 1)) (product _ _ (z 0) (z 1)))))

end Cert.Proof
-- ==== Proof.Adam.lean ====
/- One step of the optimiser at one entry, and the two ways in which the programs reach it. -/
module

public import proofs.«01_k».proof.Proof.Blocks
public import Idealize.ShloMosaic.Lib.IdealHost
public import Idealize.ShloMosaic.Lib.Pointwise
public import Idealize.ShloMosaic.Lib.Pipeline.ValueKit
public import Idealize.ShloMosaic.Lib.VecWindow

@[expose] public section

noncomputable section

namespace Cert.Adam

open Idealize.ShloMosaic Idealize.ShloMosaic.TcCoe Idealize.ShloMosaic.Tactic

/-- The first moment after the step, from the gradient and the moment before it. -/
def first (g a : EReal) : EReal := Ideal.ofBits .f32 0x3F666666#32 * a + Ideal.ofBits .f32 0x3DCCCCCD#32 * g
/-- The second moment after the step. -/
def second (g b : EReal) : EReal := Ideal.ofBits .f32 0x3F7FBE77#32 * b + Ideal.ofBits .f32 0x3A83126F#32 * (g * g)
/-- The change of the weight: the corrected first moment over the root of the corrected second one, and the decay. -/
def change (w g a b : EReal) : EReal :=
  Ideal.ofBits .f32 0xBA83126F#32 *
    (Ideal.div (Ideal.div (first g a) (Ideal.ofBits .f32 0x3F26BD02#32))
      (Ideal.sqrt (Ideal.div (second g b) (Ideal.ofBits .f32 0x3C231ACC#32)) + Ideal.ofBits .f32 0x322BCC77#32)
      + Ideal.ofBits .f32 0x3C23D70A#32 * w)

/-- A rectangle that is a whole shape leaves every index where it is. -/
theorem whole_idx {s : Shape} {off : Fin s.rank → ℕ} (inb : ∀ a, off a + s.size a ≤ s.size a) (z : s.Idx) :
    (Rect.unit off s.size inb).idx z = z :=
  funext fun a => Fin.ext (by have := inb a; show off a + 1 * (z a).val = (z a).val; omega)

/-- A read of a whole block reads what it holds. -/
theorem read_whole {s : Shape} {e : EltTy} {Val : EltTy → Type} {off : Fin s.rank → ℕ} (inb : ∀ a, off a + s.size a ≤ s.size a)
    (x : s.Idx → Val e) : View.ld x (Rect.unit off s.size inb) = x :=
  funext fun z => congrArg x (whole_idx inb z)
/-- A write of a whole block leaves what is written. -/
theorem write_whole {s : Shape} {e : EltTy} {Val : EltTy → Type} [∀ e, Nonempty (Val e)] {off : Fin s.rank → ℕ}
    (inb : ∀ a, off a + s.size a ≤ s.size a) (p : s.Idx → Val e)
    (h : ∀ y, ∃ q ∈ ([⟨Rect.unit off s.size inb, p⟩] : List (View.Piece Val s e)), y ∈ q.1.set) :
    View.canon [⟨Rect.unit off s.size inb, p⟩] = p := by
  refine funext fun y => View.canon_apply_of_pieces p _ (fun q hq x => ?_) y (h y)
  obtain rfl := List.mem_singleton.mp hq
  exact congrArg p (whole_idx inb x).symm

section
variable {s t : Shape} (h : t.ShapeCasts s) (h' : s.ShapeCasts t)

/-- A block laid out in another shape and back is the block. -/
theorem back (x : Vec Ideal t .f32) : shapeCast t (shapeCast s x h) h' = x :=
  shapeCast_shapeCast x h h'

/-- A constant of the kernel, over a whole block. -/
abbrev fill (s : Shape) (k : BitVec 32) : FVec Ideal s .f32 := broadcast s (Scalar.ofBits (F := Ideal) .f32 k)

/-- The new first moment, as the kernel's body computes it of its blocks. -/
abbrev bodyFirst (g a : FVec Ideal s .f32) : FVec Ideal s .f32 := addf (mulf (fill s 0x3F666666#32) a) (mulf (fill s 0x3DCCCCCD#32) g)
/-- The new second moment. -/
abbrev bodySecond (g b : FVec Ideal s .f32) : FVec Ideal s .f32 := addf (mulf (fill s 0x3F7FBE77#32) b) (mulf (fill s 0x3A83126F#32) (mulf g g))
/-- The change of the weight. -/
abbrev bodyChange (w g a b : FVec Ideal s .f32) : FVec Ideal s .f32 :=
  mulf (fill s 0xBA83126F#32) (addf (divf (divf (bodyFirst g a) (fill s 0x3F26BD02#32))
    (addf (sqrt (divf (bodySecond g b) (fill s 0x3C231ACC#32))) (fill s 0x322BCC77#32))) (mulf (fill s 0x3C23D70A#32) w))

theorem first_body (g a : Vec Ideal t .f32) (y : t.Idx) :
    shapeCast t (bodyFirst (shapeCast s g h) (shapeCast s a h)) h' y = first (g y) (a y) := by
  show first (shapeCast t (shapeCast s g h) h' y) (shapeCast t (shapeCast s a h) h' y) = _
  rw [back, back]
theorem second_body (g b : Vec Ideal t .f32) (y : t.Idx) :
    shapeCast t (bodySecond (shapeCast s g h) (shapeCast s b h)) h' y = second (g y) (b y) := by
  show second (shapeCast t (shapeCast s g h) h' y) (shapeCast t (shapeCast s b h) h' y) = _
  rw [back, back]
theorem change_body (w g a b : Vec Ideal t .f32) (y : t.Idx) :
    shapeCast t (bodyChange (shapeCast s w h) (shapeCast s g h) (shapeCast s a h) (shapeCast s b h)) h' y = change (w y) (g y) (a y) (b y) := by
  show change (shapeCast t (shapeCast s w h) h' y) (shapeCast t (shapeCast s g h) h' y) (shapeCast t (shapeCast s a h) h' y)
    (shapeCast t (shapeCast s b h) h' y) = _
  rw [back, back, back, back]
end

variable {s : Shape} (h : Shape.BroadcastsInDim ⟨0, ![]⟩ s (![] : Fin 0 → Fin s.rank))

/-- A constant of the reference, over a whole array. -/
abbrev all (k : BitVec 32) : Vec Ideal s .f32 := broadcastInDim s ![] h (constant (F := Ideal) ⟨0, ![]⟩ .f32 k)

theorem first_ref (g a : Vec Ideal s .f32) :
    addf (F := Ideal) (φ := .f32) (mulf (all h 0x3F666666#32) a) (mulf (all h 0x3DCCCCCD#32) g) = (fun z => first (g z) (a z) : Vec Ideal s .f32) := rfl
theorem second_ref (g b : Vec Ideal s .f32) :
    addf (F := Ideal) (φ := .f32) (mulf (all h 0x3F7FBE77#32) b) (mulf (all h 0x3A83126F#32) (mulf g g)) = (fun z => second (g z) (b z) : Vec Ideal s .f32) := rfl
theorem change_ref (w g a b : Vec Ideal s .f32) :
    mulf (F := Ideal) (φ := .f32) (all h 0xBA83126F#32) (addf (Host.divf (Host.divf (addf (mulf (all h 0x3F666666#32) a) (mulf (all h 0x3DCCCCCD#32) g)) (all h 0x3F26BD02#32))
      (addf (Host.sqrt (Host.divf (addf (mulf (all h 0x3F7FBE77#32) b) (mulf (all h 0x3A83126F#32) (mulf g g))) (all h 0x3C231ACC#32)))
        (all h 0x322BCC77#32))) (mulf (all h 0x3C23D70A#32) w)) = (fun z => change (w z) (g z) (a z) (b z) : Vec Ideal s .f32) := rfl

end Cert.Adam
-- ==== Proof.AdamFfn.lean ====
/- The optimiser's step of the feed-forward weights: the three arrays that the kernel writes are the step's, entry by entry. -/
module

public import proofs.«01_k».proof.Defs
public import proofs.«01_k».proof.Proof.Adam
public import proofs.«01_k».proof.Proof.Gen.Kernel19Ideal.Value
public import proofs.«01_k».proof.Proof.Gen.Reference19Ideal.Run

@[expose] public section

set_option maxRecDepth 16384

noncomputable section

namespace Cert.Kernel19Ideal.Values

open Idealize.ShloMosaic Idealize.ShloMosaic.TcCoe Idealize.ShloMosaic.Tactic
open Idealize.SL Idealize.SL.RA Idealize.SL.Sem
open Idealize.ShloMosaic.Pipeline (Dat Cfg Window)
open Idealize.ShloMosaic.VecWindow Cert.Kernel19Ideal.Gen

variable (m : (ℓ : Loc nD τ sig) → Buf (Elt Ideal) ℓ) (c : Dev nD)

/-- The weight, its gradient and the two moments, as they are given. -/
abbrev W : Vec Ideal S2x704x1024 .f32 := m ((c.tc : Thread nD τ).loc main_arg0)
abbrev G : Vec Ideal S2x704x1024 .f32 := m ((c.tc : Thread nD τ).loc main_arg1)
abbrev A : Vec Ideal S2x704x1024 .f32 := m ((c.tc : Thread nD τ).loc main_arg2)
abbrev B : Vec Ideal S2x704x1024 .f32 := m ((c.tc : Thread nD τ).loc main_arg3)

/-- The three results the call stands for. -/
abbrev C : Vec Ideal S2x704x1024 .f32 := fun z => Adam.change (W m c z) (G m c z) (A m c z) (B m c z)
abbrev NA : Vec Ideal S2x704x1024 .f32 := fun z => Adam.first (G m c z) (A m c z)
abbrev NB : Vec Ideal S2x704x1024 .f32 := fun z => Adam.second (G m c z) (B m c z)

/- Every point writes the step of its blocks, and the seven windows are at the same block of their arrays. -/
theorem final4 : (dats m 0 c).arrAt 4 cfg0.N = C m c := by
  refine (dats m 0 c).arrAt_eq_of_covers 4 _ (by decide +kernel) fun t hf y => ?_
  blk_simp
  rw [after0_4, out0_4, Adam.write_whole _ _ (cover0_4 _), Adam.read_whole, Adam.read_whole, Adam.read_whole, Adam.read_whole]
  exact Adam.change_body _ _ (iblk m c 0 t) (iblk m c 1 t) (iblk m c 2 t) (iblk m c 3 t) y
theorem final5 : (dats m 0 c).arrAt 5 cfg0.N = NA m c := by
  refine (dats m 0 c).arrAt_eq_of_covers 5 _ (by decide +kernel) fun t hf y => ?_
  blk_simp
  rw [after0_5, out0_5, Adam.write_whole _ _ (cover0_5 _), Adam.read_whole, Adam.read_whole]
  exact Adam.first_body _ _ (iblk m c 1 t) (iblk m c 2 t) y
theorem final6 : (dats m 0 c).arrAt 6 cfg0.N = NB m c := by
  refine (dats m 0 c).arrAt_eq_of_covers 6 _ (by decide +kernel) fun t hf y => ?_
  blk_simp
  rw [after0_6, out0_6, Adam.write_whole _ _ (cover0_6 _), Adam.read_whole, Adam.read_whole]
  exact Adam.second_body _ _ (iblk m c 1 t) (iblk m c 3 t) y

end Cert.Kernel19Ideal.Values

namespace Cert.Proof

open Idealize.ShloMosaic Idealize.SL.Sem

/-- The two programs end with equal results. -/
theorem algebraic19 : Cert.algebraic_Kernel19Ideal_Reference19Ideal (hKernel19Ideal := Cert.Kernel19Ideal.Gen.facts) (hReference19Ideal := Cert.Reference19Ideal.Gen.facts) := by
  intro m ρ m' ρ' _ hag
  refine ⟨fun c => Cert.Kernel19Ideal.Values.C m c, fun c => Cert.Kernel19Ideal.Values.NA m c, fun c => Cert.Kernel19Ideal.Values.NB m c,
    (θ_run Cert.Kernel19Ideal.defs _ _).mono (fun r h c => ?_) (Cert.Kernel19Ideal.Value.run_blocks m ρ),
    (θ_run Cert.Reference19Ideal.defs _ _).mono (fun r h c => ?_) (Cert.Reference19Ideal.Value.run (F := Ideal) m' ρ')⟩
  · exact ⟨(h c).1.trans (Cert.Kernel19Ideal.Values.final4 m c), (h c).2.1.trans (Cert.Kernel19Ideal.Values.final5 m c),
      (h c).2.2.1.trans (Cert.Kernel19Ideal.Values.final6 m c), (h c).2.2.2⟩
  · obtain ⟨h0, h1, h2, h3⟩ := hag c
    refine ⟨(h c).1.trans ?_, (h c).2.1.trans ?_, (h c).2.2.1.trans ?_, (h c).2.2.2⟩
    · rw [h0, h1, h2, h3]
      exact Adam.change_ref _ _ _ _ _
    · rw [h1, h2]
      exact Adam.first_ref _ _ _
    · rw [h1, h3]
      exact Adam.second_ref _ _ _

end Cert.Proof
-- ==== Proof.AdamBranch.lean ====
/- The optimiser's step of the weights of the two branches' projections: the three arrays that the kernel writes are the step's, entry by entry. -/
module

public import proofs.«01_k».proof.Defs
public import proofs.«01_k».proof.Proof.Adam
public import proofs.«01_k».proof.Proof.Gen.Kernel20Ideal.Value
public import proofs.«01_k».proof.Proof.Gen.Reference20Ideal.Run

@[expose] public section

set_option maxRecDepth 16384

noncomputable section

namespace Cert.Kernel20Ideal.Values

open Idealize.ShloMosaic Idealize.ShloMosaic.TcCoe Idealize.ShloMosaic.Tactic
open Idealize.SL Idealize.SL.RA Idealize.SL.Sem
open Idealize.ShloMosaic.Pipeline (Dat Cfg Window)
open Idealize.ShloMosaic.VecWindow Cert.Kernel20Ideal.Gen

variable (m : (ℓ : Loc nD τ sig) → Buf (Elt Ideal) ℓ) (c : Dev nD)

/-- The weight, its gradient and the two moments, as they are given. -/
abbrev W : Vec Ideal S2x512x256 .f32 := m ((c.tc : Thread nD τ).loc main_arg0)
abbrev G : Vec Ideal S2x512x256 .f32 := m ((c.tc : Thread nD τ).loc main_arg1)
abbrev A : Vec Ideal S2x512x256 .f32 := m ((c.tc : Thread nD τ).loc main_arg2)
abbrev B : Vec Ideal S2x512x256 .f32 := m ((c.tc : Thread nD τ).loc main_arg3)

/-- The three results the call stands for. -/
abbrev C : Vec Ideal S2x512x256 .f32 := fun z => Adam.change (W m c z) (G m c z) (A m c z) (B m c z)
abbrev NA : Vec Ideal S2x512x256 .f32 := fun z => Adam.first (G m c z) (A m c z)
abbrev NB : Vec Ideal S2x512x256 .f32 := fun z => Adam.second (G m c z) (B m c z)

/- Every point writes the step of its blocks, and the seven windows are at the same block of their arrays. -/
theorem final4 : (dats m 0 c).arrAt 4 cfg0.N = C m c := by
  refine (dats m 0 c).arrAt_eq_of_covers 4 _ (by decide +kernel) fun t hf y => ?_
  blk_simp
  rw [after0_4, out0_4, Adam.write_whole _ _ (cover0_4 _), Adam.read_whole, Adam.read_whole, Adam.read_whole, Adam.read_whole]
  exact Adam.change_body _ _ (iblk m c 0 t) (iblk m c 1 t) (iblk m c 2 t) (iblk m c 3 t) y
theorem final5 : (dats m 0 c).arrAt 5 cfg0.N = NA m c := by
  refine (dats m 0 c).arrAt_eq_of_covers 5 _ (by decide +kernel) fun t hf y => ?_
  blk_simp
  rw [after0_5, out0_5, Adam.write_whole _ _ (cover0_5 _), Adam.read_whole, Adam.read_whole]
  exact Adam.first_body _ _ (iblk m c 1 t) (iblk m c 2 t) y
theorem final6 : (dats m 0 c).arrAt 6 cfg0.N = NB m c := by
  refine (dats m 0 c).arrAt_eq_of_covers 6 _ (by decide +kernel) fun t hf y => ?_
  blk_simp
  rw [after0_6, out0_6, Adam.write_whole _ _ (cover0_6 _), Adam.read_whole, Adam.read_whole]
  exact Adam.second_body _ _ (iblk m c 1 t) (iblk m c 3 t) y

end Cert.Kernel20Ideal.Values

namespace Cert.Proof

open Idealize.ShloMosaic Idealize.SL.Sem

/-- The two programs end with equal results. -/
theorem algebraic20 : Cert.algebraic_Kernel20Ideal_Reference20Ideal (hKernel20Ideal := Cert.Kernel20Ideal.Gen.facts) (hReference20Ideal := Cert.Reference20Ideal.Gen.facts) := by
  intro m ρ m' ρ' _ hag
  refine ⟨fun c => Cert.Kernel20Ideal.Values.C m c, fun c => Cert.Kernel20Ideal.Values.NA m c, fun c => Cert.Kernel20Ideal.Values.NB m c,
    (θ_run Cert.Kernel20Ideal.defs _ _).mono (fun r h c => ?_) (Cert.Kernel20Ideal.Value.run_blocks m ρ),
    (θ_run Cert.Reference20Ideal.defs _ _).mono (fun r h c => ?_) (Cert.Reference20Ideal.Value.run (F := Ideal) m' ρ')⟩
  · exact ⟨(h c).1.trans (Cert.Kernel20Ideal.Values.final4 m c), (h c).2.1.trans (Cert.Kernel20Ideal.Values.final5 m c),
      (h c).2.2.1.trans (Cert.Kernel20Ideal.Values.final6 m c), (h c).2.2.2⟩
  · obtain ⟨h0, h1, h2, h3⟩ := hag c
    refine ⟨(h c).1.trans ?_, (h c).2.1.trans ?_, (h c).2.2.1.trans ?_, (h c).2.2.2⟩
    · rw [h0, h1, h2, h3]
      exact Adam.change_ref _ _ _ _ _
    · rw [h1, h2]
      exact Adam.first_ref _ _ _
    · rw [h1, h3]
      exact Adam.second_ref _ _ _

end Cert.Proof
-- ==== Proof.AdamOut.lean ====
/- The optimiser's step of the output projection's weight: the three arrays that the kernel writes are the step's, entry by entry. -/
module

public import proofs.«01_k».proof.Defs
public import proofs.«01_k».proof.Proof.Adam
public import proofs.«01_k».proof.Proof.Gen.Kernel21Ideal.Value
public import proofs.«01_k».proof.Proof.Gen.Reference21Ideal.Run

@[expose] public section

set_option maxRecDepth 16384

noncomputable section

namespace Cert.Kernel21Ideal.Values

open Idealize.ShloMosaic Idealize.ShloMosaic.TcCoe Idealize.ShloMosaic.Tactic
open Idealize.SL Idealize.SL.RA Idealize.SL.Sem
open Idealize.ShloMosaic.Pipeline (Dat Cfg Window)
open Idealize.ShloMosaic.VecWindow Cert.Kernel21Ideal.Gen

variable (m : (ℓ : Loc nD τ sig) → Buf (Elt Ideal) ℓ) (c : Dev nD)

/-- The weight, its gradient and the two moments, as they are given. -/
abbrev W : Vec Ideal S2x256x1024 .f32 := m ((c.tc : Thread nD τ).loc main_arg0)
abbrev G : Vec Ideal S2x256x1024 .f32 := m ((c.tc : Thread nD τ).loc main_arg1)
abbrev A : Vec Ideal S2x256x1024 .f32 := m ((c.tc : Thread nD τ).loc main_arg2)
abbrev B : Vec Ideal S2x256x1024 .f32 := m ((c.tc : Thread nD τ).loc main_arg3)

/-- The three results the call stands for. -/
abbrev C : Vec Ideal S2x256x1024 .f32 := fun z => Adam.change (W m c z) (G m c z) (A m c z) (B m c z)
abbrev NA : Vec Ideal S2x256x1024 .f32 := fun z => Adam.first (G m c z) (A m c z)
abbrev NB : Vec Ideal S2x256x1024 .f32 := fun z => Adam.second (G m c z) (B m c z)

/- Every point writes the step of its blocks, and the seven windows are at the same block of their arrays. -/
theorem final4 : (dats m 0 c).arrAt 4 cfg0.N = C m c := by
  refine (dats m 0 c).arrAt_eq_of_covers 4 _ (by decide +kernel) fun t hf y => ?_
  blk_simp
  rw [after0_4, out0_4, Adam.write_whole _ _ (cover0_4 _), Adam.read_whole, Adam.read_whole, Adam.read_whole, Adam.read_whole]
  exact Adam.change_body _ _ (iblk m c 0 t) (iblk m c 1 t) (iblk m c 2 t) (iblk m c 3 t) y
theorem final5 : (dats m 0 c).arrAt 5 cfg0.N = NA m c := by
  refine (dats m 0 c).arrAt_eq_of_covers 5 _ (by decide +kernel) fun t hf y => ?_
  blk_simp
  rw [after0_5, out0_5, Adam.write_whole _ _ (cover0_5 _), Adam.read_whole, Adam.read_whole]
  exact Adam.first_body _ _ (iblk m c 1 t) (iblk m c 2 t) y
theorem final6 : (dats m 0 c).arrAt 6 cfg0.N = NB m c := by
  refine (dats m 0 c).arrAt_eq_of_covers 6 _ (by decide +kernel) fun t hf y => ?_
  blk_simp
  rw [after0_6, out0_6, Adam.write_whole _ _ (cover0_6 _), Adam.read_whole, Adam.read_whole]
  exact Adam.second_body _ _ (iblk m c 1 t) (iblk m c 3 t) y

end Cert.Kernel21Ideal.Values

namespace Cert.Proof

open Idealize.ShloMosaic Idealize.SL.Sem

/-- The two programs end with equal results. -/
theorem algebraic21 : Cert.algebraic_Kernel21Ideal_Reference21Ideal (hKernel21Ideal := Cert.Kernel21Ideal.Gen.facts) (hReference21Ideal := Cert.Reference21Ideal.Gen.facts) := by
  intro m ρ m' ρ' _ hag
  refine ⟨fun c => Cert.Kernel21Ideal.Values.C m c, fun c => Cert.Kernel21Ideal.Values.NA m c, fun c => Cert.Kernel21Ideal.Values.NB m c,
    (θ_run Cert.Kernel21Ideal.defs _ _).mono (fun r h c => ?_) (Cert.Kernel21Ideal.Value.run_blocks m ρ),
    (θ_run Cert.Reference21Ideal.defs _ _).mono (fun r h c => ?_) (Cert.Reference21Ideal.Value.run (F := Ideal) m' ρ')⟩
  · exact ⟨(h c).1.trans (Cert.Kernel21Ideal.Values.final4 m c), (h c).2.1.trans (Cert.Kernel21Ideal.Values.final5 m c),
      (h c).2.2.1.trans (Cert.Kernel21Ideal.Values.final6 m c), (h c).2.2.2⟩
  · obtain ⟨h0, h1, h2, h3⟩ := hag c
    refine ⟨(h c).1.trans ?_, (h c).2.1.trans ?_, (h c).2.2.1.trans ?_, (h c).2.2.2⟩
    · rw [h0, h1, h2, h3]
      exact Adam.change_ref _ _ _ _ _
    · rw [h1, h2]
      exact Adam.first_ref _ _ _
    · rw [h1, h3]
      exact Adam.second_ref _ _ _

end Cert.Proof
-- ==== Proof.AdamGlu.lean ====
/- The optimiser's step of the gated unit's weight: the three arrays that the kernel writes are the step's, entry by entry. -/
module

public import proofs.«01_k».proof.Defs
public import proofs.«01_k».proof.Proof.Adam
public import proofs.«01_k».proof.Proof.Gen.Kernel22Ideal.Value
public import proofs.«01_k».proof.Proof.Gen.Reference22Ideal.Run

@[expose] public section

set_option maxRecDepth 16384

noncomputable section

namespace Cert.Kernel22Ideal.Values

open Idealize.ShloMosaic Idealize.ShloMosaic.TcCoe Idealize.ShloMosaic.Tactic
open Idealize.SL Idealize.SL.RA Idealize.SL.Sem
open Idealize.ShloMosaic.Pipeline (Dat Cfg Window)
open Idealize.ShloMosaic.VecWindow Cert.Kernel22Ideal.Gen

variable (m : (ℓ : Loc nD τ sig) → Buf (Elt Ideal) ℓ) (c : Dev nD)

/-- The weight, its gradient and the two moments, as they are given. -/
abbrev W : Vec Ideal S2x128x512 .f32 := m ((c.tc : Thread nD τ).loc main_arg0)
abbrev G : Vec Ideal S2x128x512 .f32 := m ((c.tc : Thread nD τ).loc main_arg1)
abbrev A : Vec Ideal S2x128x512 .f32 := m ((c.tc : Thread nD τ).loc main_arg2)
abbrev B : Vec Ideal S2x128x512 .f32 := m ((c.tc : Thread nD τ).loc main_arg3)

/-- The three results the call stands for. -/
abbrev C : Vec Ideal S2x128x512 .f32 := fun z => Adam.change (W m c z) (G m c z) (A m c z) (B m c z)
abbrev NA : Vec Ideal S2x128x512 .f32 := fun z => Adam.first (G m c z) (A m c z)
abbrev NB : Vec Ideal S2x128x512 .f32 := fun z => Adam.second (G m c z) (B m c z)

/- Every point writes the step of its blocks, and the seven windows are at the same block of their arrays. -/
theorem final4 : (dats m 0 c).arrAt 4 cfg0.N = C m c := by
  refine (dats m 0 c).arrAt_eq_of_covers 4 _ (by decide +kernel) fun t hf y => ?_
  blk_simp
  rw [after0_4, out0_4, Adam.write_whole _ _ (cover0_4 _), Adam.read_whole, Adam.read_whole, Adam.read_whole, Adam.read_whole]
  exact Adam.change_body _ _ (iblk m c 0 t) (iblk m c 1 t) (iblk m c 2 t) (iblk m c 3 t) y
theorem final5 : (dats m 0 c).arrAt 5 cfg0.N = NA m c := by
  refine (dats m 0 c).arrAt_eq_of_covers 5 _ (by decide +kernel) fun t hf y => ?_
  blk_simp
  rw [after0_5, out0_5, Adam.write_whole _ _ (cover0_5 _), Adam.read_whole, Adam.read_whole]
  exact Adam.first_body _ _ (iblk m c 1 t) (iblk m c 2 t) y
theorem final6 : (dats m 0 c).arrAt 6 cfg0.N = NB m c := by
  refine (dats m 0 c).arrAt_eq_of_covers 6 _ (by decide +kernel) fun t hf y => ?_
  blk_simp
  rw [after0_6, out0_6, Adam.write_whole _ _ (cover0_6 _), Adam.read_whole, Adam.read_whole]
  exact Adam.second_body _ _ (iblk m c 1 t) (iblk m c 3 t) y

end Cert.Kernel22Ideal.Values

namespace Cert.Proof

open Idealize.ShloMosaic Idealize.SL.Sem

/-- The two programs end with equal results. -/
theorem algebraic22 : Cert.algebraic_Kernel22Ideal_Reference22Ideal (hKernel22Ideal := Cert.Kernel22Ideal.Gen.facts) (hReference22Ideal := Cert.Reference22Ideal.Gen.facts) := by
  intro m ρ m' ρ' _ hag
  refine ⟨fun c => Cert.Kernel22Ideal.Values.C m c, fun c => Cert.Kernel22Ideal.Values.NA m c, fun c => Cert.Kernel22Ideal.Values.NB m c,
    (θ_run Cert.Kernel22Ideal.defs _ _).mono (fun r h c => ?_) (Cert.Kernel22Ideal.Value.run_blocks m ρ),
    (θ_run Cert.Reference22Ideal.defs _ _).mono (fun r h c => ?_) (Cert.Reference22Ideal.Value.run (F := Ideal) m' ρ')⟩
  · exact ⟨(h c).1.trans (Cert.Kernel22Ideal.Values.final4 m c), (h c).2.1.trans (Cert.Kernel22Ideal.Values.final5 m c),
      (h c).2.2.1.trans (Cert.Kernel22Ideal.Values.final6 m c), (h c).2.2.2⟩
  · obtain ⟨h0, h1, h2, h3⟩ := hag c
    refine ⟨(h c).1.trans ?_, (h c).2.1.trans ?_, (h c).2.2.1.trans ?_, (h c).2.2.2⟩
    · rw [h0, h1, h2, h3]
      exact Adam.change_ref _ _ _ _ _
    · rw [h1, h2]
      exact Adam.first_ref _ _ _
    · rw [h1, h3]
      exact Adam.second_ref _ _ _

end Cert.Proof
-- ==== Proof.AdamAda.lean ====
/- The optimiser's step of the conditioning's weight: the three arrays that the kernel writes are the step's, entry by entry. -/
module

public import proofs.«01_k».proof.Defs
public import proofs.«01_k».proof.Proof.Adam
public import proofs.«01_k».proof.Proof.Gen.Kernel23Ideal.Value
public import proofs.«01_k».proof.Proof.Gen.Reference23Ideal.Run

@[expose] public section

set_option maxRecDepth 16384

noncomputable section

namespace Cert.Kernel23Ideal.Values

open Idealize.ShloMosaic Idealize.ShloMosaic.TcCoe Idealize.ShloMosaic.Tactic
open Idealize.SL Idealize.SL.RA Idealize.SL.Sem
open Idealize.ShloMosaic.Pipeline (Dat Cfg Window)
open Idealize.ShloMosaic.VecWindow Cert.Kernel23Ideal.Gen

variable (m : (ℓ : Loc nD τ sig) → Buf (Elt Ideal) ℓ) (c : Dev nD)

/-- The weight, its gradient and the two moments, as they are given. -/
abbrev W : Vec Ideal S2x1024x1536 .f32 := m ((c.tc : Thread nD τ).loc main_arg0)
abbrev G : Vec Ideal S2x1024x1536 .f32 := m ((c.tc : Thread nD τ).loc main_arg1)
abbrev A : Vec Ideal S2x1024x1536 .f32 := m ((c.tc : Thread nD τ).loc main_arg2)
abbrev B : Vec Ideal S2x1024x1536 .f32 := m ((c.tc : Thread nD τ).loc main_arg3)

/-- The three results the call stands for. -/
abbrev C : Vec Ideal S2x1024x1536 .f32 := fun z => Adam.change (W m c z) (G m c z) (A m c z) (B m c z)
abbrev NA : Vec Ideal S2x1024x1536 .f32 := fun z => Adam.first (G m c z) (A m c z)
abbrev NB : Vec Ideal S2x1024x1536 .f32 := fun z => Adam.second (G m c z) (B m c z)

/- Every point writes the step of its blocks, and the seven windows are at the same block of their arrays. -/
theorem final4 : (dats m 0 c).arrAt 4 cfg0.N = C m c := by
  refine (dats m 0 c).arrAt_eq_of_covers 4 _ (by decide +kernel) fun t hf y => ?_
  blk_simp
  rw [after0_4, out0_4, Adam.write_whole _ _ (cover0_4 _), Adam.read_whole, Adam.read_whole, Adam.read_whole, Adam.read_whole]
  exact Adam.change_body _ _ (iblk m c 0 t) (iblk m c 1 t) (iblk m c 2 t) (iblk m c 3 t) y
theorem final5 : (dats m 0 c).arrAt 5 cfg0.N = NA m c := by
  refine (dats m 0 c).arrAt_eq_of_covers 5 _ (by decide +kernel) fun t hf y => ?_
  blk_simp
  rw [after0_5, out0_5, Adam.write_whole _ _ (cover0_5 _), Adam.read_whole, Adam.read_whole]
  exact Adam.first_body _ _ (iblk m c 1 t) (iblk m c 2 t) y
theorem final6 : (dats m 0 c).arrAt 6 cfg0.N = NB m c := by
  refine (dats m 0 c).arrAt_eq_of_covers 6 _ (by decide +kernel) fun t hf y => ?_
  blk_simp
  rw [after0_6, out0_6, Adam.write_whole _ _ (cover0_6 _), Adam.read_whole, Adam.read_whole]
  exact Adam.second_body _ _ (iblk m c 1 t) (iblk m c 3 t) y

end Cert.Kernel23Ideal.Values

namespace Cert.Proof

open Idealize.ShloMosaic Idealize.SL.Sem

/-- The two programs end with equal results. -/
theorem algebraic23 : Cert.algebraic_Kernel23Ideal_Reference23Ideal (hKernel23Ideal := Cert.Kernel23Ideal.Gen.facts) (hReference23Ideal := Cert.Reference23Ideal.Gen.facts) := by
  intro m ρ m' ρ' _ hag
  refine ⟨fun c => Cert.Kernel23Ideal.Values.C m c, fun c => Cert.Kernel23Ideal.Values.NA m c, fun c => Cert.Kernel23Ideal.Values.NB m c,
    (θ_run Cert.Kernel23Ideal.defs _ _).mono (fun r h c => ?_) (Cert.Kernel23Ideal.Value.run_blocks m ρ),
    (θ_run Cert.Reference23Ideal.defs _ _).mono (fun r h c => ?_) (Cert.Reference23Ideal.Value.run (F := Ideal) m' ρ')⟩
  · exact ⟨(h c).1.trans (Cert.Kernel23Ideal.Values.final4 m c), (h c).2.1.trans (Cert.Kernel23Ideal.Values.final5 m c),
      (h c).2.2.1.trans (Cert.Kernel23Ideal.Values.final6 m c), (h c).2.2.2⟩
  · obtain ⟨h0, h1, h2, h3⟩ := hag c
    refine ⟨(h c).1.trans ?_, (h c).2.1.trans ?_, (h c).2.2.1.trans ?_, (h c).2.2.2⟩
    · rw [h0, h1, h2, h3]
      exact Adam.change_ref _ _ _ _ _
    · rw [h1, h2]
      exact Adam.first_ref _ _ _
    · rw [h1, h3]
      exact Adam.second_ref _ _ _

end Cert.Proof
-- ==== Proof.AdamIn.lean ====
/- The optimiser's step of the input projection's weight: the three arrays that the kernel writes are the step's, entry by entry. -/
module

public import proofs.«01_k».proof.Defs
public import proofs.«01_k».proof.Proof.Adam
public import proofs.«01_k».proof.Proof.Gen.Kernel24Ideal.Value
public import proofs.«01_k».proof.Proof.Gen.Reference24Ideal.Run

@[expose] public section

set_option maxRecDepth 16384

noncomputable section

namespace Cert.Proof

open Idealize.ShloMosaic Idealize.SL.Sem

/-- The two programs end with equal results. -/
theorem algebraic24 : Cert.algebraic_Kernel24Ideal_Reference24Ideal (hKernel24Ideal := Cert.Kernel24Ideal.Gen.facts) (hReference24Ideal := Cert.Reference24Ideal.Gen.facts) := by
  intro m ρ m' ρ' _ hag
  refine ⟨_, _, _,
    (θ_run Cert.Kernel24Ideal.defs _ _).mono (fun r h c => h c) (Cert.Kernel24Ideal.Value.run (F := Ideal) m ρ),
    (θ_run Cert.Reference24Ideal.defs _ _).mono (fun r h c => ?_) (Cert.Reference24Ideal.Value.run (F := Ideal) m' ρ')⟩
  · obtain ⟨h0, h1, h2, h3⟩ := hag c
    refine ⟨(h c).1.trans ?_, (h c).2.1.trans ?_, (h c).2.2.1.trans ?_, (h c).2.2.2⟩
    · rw [h0, h1, h2, h3]
      exact Adam.change_ref _ _ _ _ _
    · rw [h1, h2]
      exact Adam.first_ref _ _ _
    · rw [h1, h3]
      exact Adam.second_ref _ _ _

end Cert.Proof
-- ==== Proof.AdamSmall.lean ====
/- The optimiser's step of the small parameters, packed in one array: the three arrays that the kernel writes are the step's, entry by entry. -/
module

public import proofs.«01_k».proof.Defs
public import proofs.«01_k».proof.Proof.Adam
public import proofs.«01_k».proof.Proof.Gen.Kernel25Ideal.Value
public import proofs.«01_k».proof.Proof.Gen.Reference25Ideal.Run

@[expose] public section

set_option maxRecDepth 16384

noncomputable section

namespace Cert.Kernel25Ideal.Values

open Idealize.ShloMosaic Idealize.ShloMosaic.TcCoe Idealize.ShloMosaic.Tactic
open Idealize.SL Idealize.SL.RA Idealize.SL.Sem
open Idealize.ShloMosaic.Pipeline (Dat Cfg Window)
open Idealize.ShloMosaic.VecWindow Cert.Kernel25Ideal.Gen

variable (m : (ℓ : Loc nD τ sig) → Buf (Elt Ideal) ℓ) (c : Dev nD)

/-- The weight, its gradient and the two moments, as they are given. -/
abbrev W : Vec Ideal S1x2296x128 .f32 := m ((c.tc : Thread nD τ).loc main_arg0)
abbrev G : Vec Ideal S1x2296x128 .f32 := m ((c.tc : Thread nD τ).loc main_arg1)
abbrev A : Vec Ideal S1x2296x128 .f32 := m ((c.tc : Thread nD τ).loc main_arg2)
abbrev B : Vec Ideal S1x2296x128 .f32 := m ((c.tc : Thread nD τ).loc main_arg3)

/-- The three results the call stands for. -/
abbrev C : Vec Ideal S1x2296x128 .f32 := fun z => Adam.change (W m c z) (G m c z) (A m c z) (B m c z)
abbrev NA : Vec Ideal S1x2296x128 .f32 := fun z => Adam.first (G m c z) (A m c z)
abbrev NB : Vec Ideal S1x2296x128 .f32 := fun z => Adam.second (G m c z) (B m c z)

/- Every point writes the step of its blocks, and the seven windows are at the same block of their arrays. -/
theorem final4 : (dats m 0 c).arrAt 4 cfg0.N = C m c := by
  refine (dats m 0 c).arrAt_eq_of_covers 4 _ (by decide +kernel) fun t hf y => ?_
  blk_simp
  rw [after0_4, out0_4, Adam.write_whole _ _ (cover0_4 _), Adam.read_whole, Adam.read_whole, Adam.read_whole, Adam.read_whole]
  exact Adam.change_body _ _ (iblk m c 0 t) (iblk m c 1 t) (iblk m c 2 t) (iblk m c 3 t) y
theorem final5 : (dats m 0 c).arrAt 5 cfg0.N = NA m c := by
  refine (dats m 0 c).arrAt_eq_of_covers 5 _ (by decide +kernel) fun t hf y => ?_
  blk_simp
  rw [after0_5, out0_5, Adam.write_whole _ _ (cover0_5 _), Adam.read_whole, Adam.read_whole]
  exact Adam.first_body _ _ (iblk m c 1 t) (iblk m c 2 t) y
theorem final6 : (dats m 0 c).arrAt 6 cfg0.N = NB m c := by
  refine (dats m 0 c).arrAt_eq_of_covers 6 _ (by decide +kernel) fun t hf y => ?_
  blk_simp
  rw [after0_6, out0_6, Adam.write_whole _ _ (cover0_6 _), Adam.read_whole, Adam.read_whole]
  exact Adam.second_body _ _ (iblk m c 1 t) (iblk m c 3 t) y

end Cert.Kernel25Ideal.Values

namespace Cert.Proof

open Idealize.ShloMosaic Idealize.SL.Sem

/-- The two programs end with equal results. -/
theorem algebraic25 : Cert.algebraic_Kernel25Ideal_Reference25Ideal (hKernel25Ideal := Cert.Kernel25Ideal.Gen.facts) (hReference25Ideal := Cert.Reference25Ideal.Gen.facts) := by
  intro m ρ m' ρ' _ hag
  refine ⟨fun c => Cert.Kernel25Ideal.Values.C m c, fun c => Cert.Kernel25Ideal.Values.NA m c, fun c => Cert.Kernel25Ideal.Values.NB m c,
    (θ_run Cert.Kernel25Ideal.defs _ _).mono (fun r h c => ?_) (Cert.Kernel25Ideal.Value.run_blocks m ρ),
    (θ_run Cert.Reference25Ideal.defs _ _).mono (fun r h c => ?_) (Cert.Reference25Ideal.Value.run (F := Ideal) m' ρ')⟩
  · exact ⟨(h c).1.trans (Cert.Kernel25Ideal.Values.final4 m c), (h c).2.1.trans (Cert.Kernel25Ideal.Values.final5 m c),
      (h c).2.2.1.trans (Cert.Kernel25Ideal.Values.final6 m c), (h c).2.2.2⟩
  · obtain ⟨h0, h1, h2, h3⟩ := hag c
    refine ⟨(h c).1.trans ?_, (h c).2.1.trans ?_, (h c).2.2.1.trans ?_, (h c).2.2.2⟩
    · rw [h0, h1, h2, h3]
      exact Adam.change_ref _ _ _ _ _
    · rw [h1, h2]
      exact Adam.first_ref _ _ _
    · rw [h1, h3]
      exact Adam.second_ref _ _ _

end Cert.Proof
-- ==== Proof.lean ====
/- The claims about the step's kernels and their references: the gradient of the forgetting attention, and the products. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launched
public import proofs.«01_k».proof.Proof.Algebraic
public import proofs.«01_k».proof.Proof.Gen.Kernel2.Frame
public import proofs.«01_k».proof.Proof.Gen.Kernel2Ideal.Value
public import proofs.«01_k».proof.Proof.Gen.Reference2Ideal.Run
public import proofs.«01_k».proof.Proof.DownBack
public import proofs.«01_k».proof.Proof.Gen.Kernel3.Frame
public import proofs.«01_k».proof.Proof.Gen.Kernel3Ideal.Value
public import proofs.«01_k».proof.Proof.Gen.Reference3Ideal.Run
public import proofs.«01_k».proof.Proof.Down
public import proofs.«01_k».proof.Proof.Gen.Kernel4.Frame
public import proofs.«01_k».proof.Proof.Gen.Kernel4Ideal.Value
public import proofs.«01_k».proof.Proof.Gen.Reference4Ideal.Run
public import proofs.«01_k».proof.Proof.Up
public import proofs.«01_k».proof.Proof.Gen.Kernel5.Frame
public import proofs.«01_k».proof.Proof.Gen.Kernel5Ideal.Frame
public import proofs.«01_k».proof.Proof.Gen.Reference5Ideal.Run
public import proofs.«01_k».proof.Proof.Hidden
public import proofs.«01_k».proof.Proof.Gen.Kernel6.Frame
public import proofs.«01_k».proof.Proof.Gen.Kernel6Ideal.Value
public import proofs.«01_k».proof.Proof.Gen.Reference6Ideal.Run
public import proofs.«01_k».proof.Proof.Narrow
public import proofs.«01_k».proof.Proof.Gen.Kernel7.Frame
public import proofs.«01_k».proof.Proof.Gen.Kernel7Ideal.Value
public import proofs.«01_k».proof.Proof.Gen.Reference7Ideal.Run
public import proofs.«01_k».proof.Proof.Gates
public import proofs.«01_k».proof.Proof.Gen.Kernel8.Frame
public import proofs.«01_k».proof.Proof.Gen.Kernel8Ideal.Frame
public import proofs.«01_k».proof.Proof.Gen.Reference8Ideal.Run
public import proofs.«01_k».proof.Proof.Mix
public import proofs.«01_k».proof.Proof.Gen.Kernel9.Frame
public import proofs.«01_k».proof.Proof.Gen.Kernel9Ideal.Value
public import proofs.«01_k».proof.Proof.Gen.Reference9Ideal.Run
public import proofs.«01_k».proof.Proof.FfnUp
public import proofs.«01_k».proof.Proof.Gen.Kernel10.Frame
public import proofs.«01_k».proof.Proof.Gen.Kernel10Ideal.Value
public import proofs.«01_k».proof.Proof.Gen.Reference10Ideal.Run
public import proofs.«01_k».proof.Proof.ProjMain
public import proofs.«01_k».proof.Proof.Gen.Kernel11.Frame
public import proofs.«01_k».proof.Proof.Gen.Kernel11Ideal.Value
public import proofs.«01_k».proof.Proof.Gen.Reference11Ideal.Run
public import proofs.«01_k».proof.Proof.ProjGates
public import proofs.«01_k».proof.Proof.Gen.Kernel12.Frame
public import proofs.«01_k».proof.Proof.Gen.Kernel12Ideal.Value
public import proofs.«01_k».proof.Proof.Gen.Reference12Ideal.Run
public import proofs.«01_k».proof.Proof.FfnDown
public import proofs.«01_k».proof.Proof.Gen.Kernel13.Frame
public import proofs.«01_k».proof.Proof.Gen.Kernel13Ideal.Value
public import proofs.«01_k».proof.Proof.Gen.Reference13Ideal.Run
public import proofs.«01_k».proof.Proof.Mixed
public import proofs.«01_k».proof.Proof.Gen.Kernel14.Frame
public import proofs.«01_k».proof.Proof.Gen.Kernel14Ideal.Value
public import proofs.«01_k».proof.Proof.Gen.Reference14Ideal.Run
public import proofs.«01_k».proof.Proof.Branch
public import proofs.«01_k».proof.Proof.Gen.Kernel15.Frame
public import proofs.«01_k».proof.Proof.Gen.Kernel15Ideal.Value
public import proofs.«01_k».proof.Proof.Gen.Reference15Ideal.Run
public import proofs.«01_k».proof.Proof.Act
public import proofs.«01_k».proof.Proof.Gen.Kernel16.Frame
public import proofs.«01_k».proof.Proof.Gen.Kernel16Ideal.Value
public import proofs.«01_k».proof.Proof.Gen.Reference16Ideal.Run
public import proofs.«01_k».proof.Proof.MergeBack
public import proofs.«01_k».proof.Proof.Gen.Kernel17.Frame
public import proofs.«01_k».proof.Proof.Gen.Kernel17Ideal.Value
public import proofs.«01_k».proof.Proof.Gen.Reference17Ideal.Run
public import proofs.«01_k».proof.Proof.OutProj
public import proofs.«01_k».proof.Proof.Gen.Kernel18.Frame
public import proofs.«01_k».proof.Proof.Gen.Kernel18Ideal.Value
public import proofs.«01_k».proof.Proof.Gen.Reference18Ideal.Run
public import proofs.«01_k».proof.Proof.Merge
public import proofs.«01_k».proof.Proof.Gen.Kernel19.Frame
public import proofs.«01_k».proof.Proof.Gen.Kernel19Ideal.Value
public import proofs.«01_k».proof.Proof.Gen.Reference19Ideal.Run
public import proofs.«01_k».proof.Proof.AdamFfn
public import proofs.«01_k».proof.Proof.Gen.Kernel20.Frame
public import proofs.«01_k».proof.Proof.Gen.Kernel20Ideal.Value
public import proofs.«01_k».proof.Proof.Gen.Reference20Ideal.Run
public import proofs.«01_k».proof.Proof.AdamBranch
public import proofs.«01_k».proof.Proof.Gen.Kernel21.Frame
public import proofs.«01_k».proof.Proof.Gen.Kernel21Ideal.Value
public import proofs.«01_k».proof.Proof.Gen.Reference21Ideal.Run
public import proofs.«01_k».proof.Proof.AdamOut
public import proofs.«01_k».proof.Proof.Gen.Kernel22.Frame
public import proofs.«01_k».proof.Proof.Gen.Kernel22Ideal.Value
public import proofs.«01_k».proof.Proof.Gen.Reference22Ideal.Run
public import proofs.«01_k».proof.Proof.AdamGlu
public import proofs.«01_k».proof.Proof.Gen.Kernel23.Frame
public import proofs.«01_k».proof.Proof.Gen.Kernel23Ideal.Value
public import proofs.«01_k».proof.Proof.Gen.Reference23Ideal.Run
public import proofs.«01_k».proof.Proof.AdamAda
public import proofs.«01_k».proof.Proof.Gen.Kernel24.Frame
public import proofs.«01_k».proof.Proof.Gen.Kernel24Ideal.Value
public import proofs.«01_k».proof.Proof.Gen.Reference24Ideal.Run
public import proofs.«01_k».proof.Proof.AdamIn
public import proofs.«01_k».proof.Proof.Gen.Kernel25.Frame
public import proofs.«01_k».proof.Proof.Gen.Kernel25Ideal.Value
public import proofs.«01_k».proof.Proof.Gen.Reference25Ideal.Run
public import proofs.«01_k».proof.Proof.AdamSmall
public import Idealize.ShloMosaic.Adequacy
public import Idealize.ShloMosaic.Init

@[expose] public section

noncomputable section

namespace Cert.Proof

open Idealize.ShloMosaic Idealize.SL.Sem

set_option maxRecDepth 100000 in
set_option maxHeartbeats 4000000 in
/-- The two printed programs have the same text: their kernels are equal, -/
theorem defs₀_eq : Cert.Kernel.defs₀ (F := Bits) = Cert.KernelIdeal.defs₀ (F := Bits) :=
  congrArg Defs.onTc (funext fun l => by
    match l with
    | 0 => exact funext fun ⟨t, s⟩ => rfl)

set_option maxRecDepth 100000 in
set_option maxHeartbeats 4000000 in
theorem defs_eq : Cert.Kernel.defs (F := Bits) = Cert.KernelIdeal.defs (F := Bits) := by
  unfold Cert.Kernel.defs Cert.KernelIdeal.defs
  rw [defs₀_eq]
  rfl

set_option maxRecDepth 100000 in
set_option maxHeartbeats 4000000 in
/-- and so are their main functions. -/
theorem main_eq : Cert.Kernel.main (F := Bits) = Cert.KernelIdeal.main (F := Bits) := rfl

set_option maxRecDepth 100000 in
set_option maxHeartbeats 4000000 in
/-- The kernel's frame, from its run at any float semantics. -/
theorem frame_kernel : Cert.quiescent_Kernel := fun m ρ _ => by
  rw [defs_eq, main_eq]
  exact Cert.KernelIdeal.Attn.frame_run (F := Bits) m ρ

/-- The same run at extended reals. -/
theorem frame_ideal : Cert.quiescent_KernelIdeal := fun m ρ _ => Cert.KernelIdeal.Attn.frame_run (F := Ideal) m ρ

/-- The reference's frame: it writes no argument and declares no semaphore. -/
theorem frame_reference : Cert.quiescent_ReferenceIdeal := fun m ρ _ =>
  (θ_run Cert.ReferenceIdeal.defs _ _).mono
    (fun r h => ⟨fun c => (h c).2.2.2.2.2, sem_eq_zero_of_no_sems (by decide) r.2⟩)
    (Cert.ReferenceIdeal.Value.run (F := Ideal) m ρ)

/- The frames of the other references: they too write no argument and declare no semaphore. -/
theorem frame_reference2 : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)
theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)
theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)
theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)
theorem frame_reference6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)
theorem frame_reference7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)
theorem frame_reference8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)
theorem frame_reference9 : Cert.quiescent_Reference9Ideal := fun m ρ _ =>
  (θ_run Cert.Reference9Ideal.defs _ _).mono (fun r h => ⟨fun c => (h c).2.2.2, sem_eq_zero_of_no_sems (by decide) r.2⟩)
    (Cert.Reference9Ideal.Value.run (F := Ideal) m ρ)
theorem frame_reference10 : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)
theorem frame_reference11 : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)
theorem frame_reference12 : Cert.quiescent_Reference12Ideal := fun m ρ _ =>
  (θ_run Cert.Reference12Ideal.defs _ _).mono (fun r h => ⟨fun c => (h c).2.2, sem_eq_zero_of_no_sems (by decide) r.2⟩)
    (Cert.Reference12Ideal.Value.run (F := Ideal) m ρ)
theorem frame_reference13 : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)
theorem frame_reference14 : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)
theorem frame_reference15 : Cert.quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)
theorem frame_reference16 : Cert.quiescent_Reference16Ideal := fun m ρ _ =>
  (θ_run Cert.Reference16Ideal.defs _ _).mono (fun r h => ⟨fun c => (h c).2.2.2.2, sem_eq_zero_of_no_sems (by decide) r.2⟩)
    (Cert.Reference16Ideal.Value.run (F := Ideal) m ρ)
theorem frame_reference17 : Cert.quiescent_Reference17Ideal := fun m ρ _ =>
  (θ_run Cert.Reference17Ideal.defs _ _).mono (fun r h => ⟨fun c => (h c).2.2, sem_eq_zero_of_no_sems (by decide) r.2⟩)
    (Cert.Reference17Ideal.Value.run (F := Ideal) m ρ)
theorem frame_reference18 : Cert.quiescent_Reference18Ideal := fun m ρ _ =>
  (θ_run Cert.Reference18Ideal.defs _ _).mono (fun r h => ⟨fun c => (h c).2.2.2, sem_eq_zero_of_no_sems (by decide) r.2⟩)
    (Cert.Reference18Ideal.Value.run (F := Ideal) m ρ)
theorem frame_reference19 : Cert.quiescent_Reference19Ideal := fun m ρ _ =>
  (θ_run Cert.Reference19Ideal.defs _ _).mono (fun r h => ⟨fun c => (h c).2.2.2, sem_eq_zero_of_no_sems (by decide) r.2⟩)
    (Cert.Reference19Ideal.Value.run (F := Ideal) m ρ)
theorem frame_reference20 : Cert.quiescent_Reference20Ideal := fun m ρ _ =>
  (θ_run Cert.Reference20Ideal.defs _ _).mono (fun r h => ⟨fun c => (h c).2.2.2, sem_eq_zero_of_no_sems (by decide) r.2⟩)
    (Cert.Reference20Ideal.Value.run (F := Ideal) m ρ)
theorem frame_reference21 : Cert.quiescent_Reference21Ideal := fun m ρ _ =>
  (θ_run Cert.Reference21Ideal.defs _ _).mono (fun r h => ⟨fun c => (h c).2.2.2, sem_eq_zero_of_no_sems (by decide) r.2⟩)
    (Cert.Reference21Ideal.Value.run (F := Ideal) m ρ)
theorem frame_reference22 : Cert.quiescent_Reference22Ideal := fun m ρ _ =>
  (θ_run Cert.Reference22Ideal.defs _ _).mono (fun r h => ⟨fun c => (h c).2.2.2, sem_eq_zero_of_no_sems (by decide) r.2⟩)
    (Cert.Reference22Ideal.Value.run (F := Ideal) m ρ)
theorem frame_reference23 : Cert.quiescent_Reference23Ideal := fun m ρ _ =>
  (θ_run Cert.Reference23Ideal.defs _ _).mono (fun r h => ⟨fun c => (h c).2.2.2, sem_eq_zero_of_no_sems (by decide) r.2⟩)
    (Cert.Reference23Ideal.Value.run (F := Ideal) m ρ)
theorem frame_reference24 : Cert.quiescent_Reference24Ideal := fun m ρ _ =>
  (θ_run Cert.Reference24Ideal.defs _ _).mono (fun r h => ⟨fun c => (h c).2.2.2, sem_eq_zero_of_no_sems (by decide) r.2⟩)
    (Cert.Reference24Ideal.Value.run (F := Ideal) m ρ)
theorem frame_reference25 : Cert.quiescent_Reference25Ideal := fun m ρ _ =>
  (θ_run Cert.Reference25Ideal.defs _ _).mono (fun r h => ⟨fun c => (h c).2.2.2, sem_eq_zero_of_no_sems (by decide) r.2⟩)
    (Cert.Reference25Ideal.Value.run (F := Ideal) m ρ)

/-- For each kernel and its reference: the frames, the idealization that rewrites nothing, and the equality of the results. The frames hold of
    every input, so in particular of the finite ones. -/
theorem claim : Cert.Claim :=
  ⟨Cert.Kernel.Gen.facts, Cert.KernelIdeal.Gen.facts, Cert.ReferenceIdeal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel2.Gen.facts, Cert.Kernel2Ideal.Gen.facts, Cert.Reference2Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Forget.preFacts, Cert.Swiglu.preFacts,
    frame_kernel, frame_ideal, fun m ρ _ => frame_ideal m ρ trivial, frame_reference, fun m ρ _ => frame_reference m ρ trivial,
    fun m ρ _ => Cert.Kernel3.Gen.frame m ρ, fun m ρ _ => Cert.Kernel3Ideal.Gen.frame m ρ, frame_reference3, fun m ρ _ => Cert.Kernel4.Gen.frame m ρ,
    fun m ρ _ => Cert.Kernel4Ideal.Gen.frame m ρ, frame_reference4, fun m ρ _ => Cert.Kernel5.Gen.frame m ρ,
    fun m ρ _ => Cert.Kernel5Ideal.Gen.frame m ρ, frame_reference5, fun m ρ _ => Cert.Kernel6.Gen.frame m ρ,
    fun m ρ _ => Cert.Kernel6Ideal.Gen.frame m ρ, frame_reference6, fun m ρ _ => Cert.Kernel7.Gen.frame m ρ,
    fun m ρ _ => Cert.Kernel7Ideal.Gen.frame m ρ, frame_reference7, fun m ρ _ => Cert.Kernel8.Gen.frame m ρ,
    fun m ρ _ => Cert.Kernel8Ideal.Gen.frame m ρ, frame_reference8, fun m ρ _ => Cert.Kernel9.Gen.frame m ρ,
    fun m ρ _ => Cert.Kernel9Ideal.Gen.frame m ρ, frame_reference9, fun m ρ _ => Cert.Kernel10.Gen.frame m ρ,
    fun m ρ _ => Cert.Kernel10Ideal.Gen.frame m ρ, frame_reference10, fun m ρ _ => Cert.Kernel11.Gen.frame m ρ,
    fun m ρ _ => Cert.Kernel11Ideal.Gen.frame m ρ, frame_reference11, fun m ρ _ => Cert.Kernel12.Gen.frame m ρ,
    fun m ρ _ => Cert.Kernel12Ideal.Gen.frame m ρ, frame_reference12, fun m ρ _ => Cert.Kernel13.Gen.frame m ρ,
    fun m ρ _ => Cert.Kernel13Ideal.Gen.frame m ρ, frame_reference13, fun m ρ _ => Cert.Kernel14.Gen.frame m ρ,
    fun m ρ _ => Cert.Kernel14Ideal.Gen.frame m ρ, frame_reference14, fun m ρ _ => Cert.Kernel15.Gen.frame m ρ,
    fun m ρ _ => Cert.Kernel15Ideal.Gen.frame m ρ, frame_reference15, fun m ρ _ => Cert.Kernel16.Gen.frame m ρ,
    fun m ρ _ => Cert.Kernel16Ideal.Gen.frame m ρ, frame_reference16, fun m ρ _ => Cert.Kernel17.Gen.frame m ρ,
    fun m ρ _ => Cert.Kernel17Ideal.Gen.frame m ρ, frame_reference17, fun m ρ _ => Cert.Kernel18.Gen.frame m ρ,
    fun m ρ _ => Cert.Kernel18Ideal.Gen.frame m ρ, frame_reference18, fun m ρ _ => Cert.Kernel2.Gen.frame m ρ,
    fun m ρ _ => Cert.Kernel2Ideal.Gen.frame m ρ, fun m ρ _ => Cert.Kernel2Ideal.Gen.frame m ρ, frame_reference2,
    fun m ρ _ => frame_reference2 m ρ trivial, fun m ρ _ => Cert.Kernel19.Gen.frame m ρ, fun m ρ _ => Cert.Kernel19Ideal.Gen.frame m ρ,
    frame_reference19, fun m ρ _ => Cert.Kernel20.Gen.frame m ρ, fun m ρ _ => Cert.Kernel20Ideal.Gen.frame m ρ, frame_reference20,
    fun m ρ _ => Cert.Kernel21.Gen.frame m ρ, fun m ρ _ => Cert.Kernel21Ideal.Gen.frame m ρ, frame_reference21,
    fun m ρ _ => Cert.Kernel22.Gen.frame m ρ, fun m ρ _ => Cert.Kernel22Ideal.Gen.frame m ρ, frame_reference22,
    fun m ρ _ => Cert.Kernel23.Gen.frame m ρ, fun m ρ _ => Cert.Kernel23Ideal.Gen.frame m ρ, frame_reference23,
    fun m ρ _ => Cert.Kernel24.Gen.frame m ρ, fun m ρ _ => Cert.Kernel24Ideal.Gen.frame m ρ, frame_reference24,
    fun m ρ _ => Cert.Kernel25.Gen.frame m ρ, fun m ρ _ => Cert.Kernel25Ideal.Gen.frame m ρ, frame_reference25, trivial, algebraic, trivial,
    algebraic3, trivial, algebraic4, trivial, algebraic5, trivial, algebraic6, trivial, algebraic7, trivial, algebraic8, trivial, algebraic9, trivial,
    algebraic10, trivial, algebraic11, trivial, algebraic12, trivial, algebraic13, trivial, algebraic14, trivial, algebraic15, trivial, algebraic16,
    trivial, algebraic17, trivial, algebraic18, trivial, algebraic2, trivial, algebraic19, trivial, algebraic20, trivial, algebraic21, trivial,
    algebraic22, trivial, algebraic23, trivial, algebraic24, trivial, algebraic25⟩

end Cert.Proof

end
